-- ==== Defs.lean ====
def Pre_WgradUp (m : (ℓ : Loc Cert.WgradUp.nD Cert.WgradUp.τ Cert.WgradUp.sig) → Buf (Elt Bits) ℓ) : Prop :=
  True

def Pre_WgradUpIdeal (m : (ℓ : Loc Cert.WgradUpIdeal.nD Cert.WgradUpIdeal.τ Cert.WgradUpIdeal.sig) → Buf (Elt Ideal) ℓ) : Prop :=
  True

def Pre_WgradUpRefIdeal (m : (ℓ : Loc Cert.WgradUpRefIdeal.nD Cert.WgradUpRefIdeal.τ Cert.WgradUpRefIdeal.sig) → Buf (Elt Ideal) ℓ) : Prop :=
  True

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_WgradInRefIdeal (m : (ℓ : Loc Cert.WgradInRefIdeal.nD Cert.WgradInRefIdeal.τ Cert.WgradInRefIdeal.sig) → Buf (Elt Ideal) ℓ) : Prop :=
  True

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_WgradDownRefIdeal (m : (ℓ : Loc Cert.WgradDownRefIdeal.nD Cert.WgradDownRefIdeal.τ Cert.WgradDownRefIdeal.sig) → Buf (Elt Ideal) ℓ) : Prop :=
  True

def Pre_WgradO (m : (ℓ : Loc Cert.WgradO.nD Cert.WgradO.τ Cert.WgradO.sig) → Buf (Elt Bits) ℓ) : Prop :=
  True

def Pre_WgradOIdeal (m : (ℓ : Loc Cert.WgradOIdeal.nD Cert.WgradOIdeal.τ Cert.WgradOIdeal.sig) → Buf (Elt Ideal) ℓ) : Prop :=
  True

def Pre_WgradORefIdeal (m : (ℓ : Loc Cert.WgradORefIdeal.nD Cert.WgradORefIdeal.τ Cert.WgradORefIdeal.sig) → Buf (Elt Ideal) ℓ) : Prop :=
  True

def Pre_DxUp (m : (ℓ : Loc Cert.DxUp.nD Cert.DxUp.τ Cert.DxUp.sig) → Buf (Elt Bits) ℓ) : Prop :=
  True

def Pre_DxUpIdeal (m : (ℓ : Loc Cert.DxUpIdeal.nD Cert.DxUpIdeal.τ Cert.DxUpIdeal.sig) → Buf (Elt Ideal) ℓ) : Prop :=
  True

def Pre_DxUpRefIdeal (m : (ℓ : Loc Cert.DxUpRefIdeal.nD Cert.DxUpRefIdeal.τ Cert.DxUpRefIdeal.sig) → Buf (Elt Ideal) ℓ) : Prop :=
  True

def Pre_DxIn (m : (ℓ : Loc Cert.DxIn.nD Cert.DxIn.τ Cert.DxIn.sig) → Buf (Elt Bits) ℓ) : Prop :=
  True

def Pre_DxInIdeal (m : (ℓ : Loc Cert.DxInIdeal.nD Cert.DxInIdeal.τ Cert.DxInIdeal.sig) → Buf (Elt Ideal) ℓ) : Prop :=
  True

def Pre_DxInRefIdeal (m : (ℓ : Loc Cert.DxInRefIdeal.nD Cert.DxInRefIdeal.τ Cert.DxInRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_MmUpRefIdeal (m : (ℓ : Loc Cert.MmUpRefIdeal.nD Cert.MmUpRefIdeal.τ Cert.MmUpRefIdeal.sig) → Buf (Elt Ideal) ℓ) : Prop :=
  True

def Pre_MmO (m : (ℓ : Loc Cert.MmO.nD Cert.MmO.τ Cert.MmO.sig) → Buf (Elt Bits) ℓ) : Prop :=
  True

def Pre_MmOIdeal (m : (ℓ : Loc Cert.MmOIdeal.nD Cert.MmOIdeal.τ Cert.MmOIdeal.sig) → Buf (Elt Ideal) ℓ) : Prop :=
  True

def Pre_MmORefIdeal (m : (ℓ : Loc Cert.MmORefIdeal.nD Cert.MmORefIdeal.τ Cert.MmORefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_LnO (m : (ℓ : Loc Cert.LnO.nD Cert.LnO.τ Cert.LnO.sig) → Buf (Elt Bits) ℓ) : Prop :=
  True

def Pre_LnOIdeal (m : (ℓ : Loc Cert.LnOIdeal.nD Cert.LnOIdeal.τ Cert.LnOIdeal.sig) → Buf (Elt Ideal) ℓ) : Prop :=
  True

def Pre_LnOIdeal_finite_o [hPre_finite_o : Cert.Pre_finite_o.Facts] (m : (ℓ : Loc Cert.LnOIdeal.nD Cert.LnOIdeal.τ Cert.LnOIdeal.sig) → Buf (Elt Ideal) ℓ) : Prop :=
  ∀ c : Dev Cert.LnOIdeal.nD,
    (Cert.Pre_finite_o.fn (F := Ideal) (m ((c.tc : Thread Cert.LnOIdeal.nD Cert.LnOIdeal.τ).loc Cert.LnOIdeal.main_arg0)) (m ((c.tc : Thread Cert.LnOIdeal.nD Cert.LnOIdeal.τ).loc Cert.LnOIdeal.main_arg1)) (m ((c.tc : Thread Cert.LnOIdeal.nD Cert.LnOIdeal.τ).loc Cert.LnOIdeal.main_arg2)) (m ((c.tc : Thread Cert.LnOIdeal.nD Cert.LnOIdeal.τ).loc Cert.LnOIdeal.main_arg3)) (m ((c.tc : Thread Cert.LnOIdeal.nD Cert.LnOIdeal.τ).loc Cert.LnOIdeal.main_arg4)) (m ((c.tc : Thread Cert.LnOIdeal.nD Cert.LnOIdeal.τ).loc Cert.LnOIdeal.main_arg5))).1 = (fun _ => 1#1)
    ∧ (Cert.Pre_finite_o.fn (F := Ideal) (m ((c.tc : Thread Cert.LnOIdeal.nD Cert.LnOIdeal.τ).loc Cert.LnOIdeal.main_arg0)) (m ((c.tc : Thread Cert.LnOIdeal.nD Cert.LnOIdeal.τ).loc Cert.LnOIdeal.main_arg1)) (m ((c.tc : Thread Cert.LnOIdeal.nD Cert.LnOIdeal.τ).loc Cert.LnOIdeal.main_arg2)) (m ((c.tc : Thread Cert.LnOIdeal.nD Cert.LnOIdeal.τ).loc Cert.LnOIdeal.main_arg3)) (m ((c.tc : Thread Cert.LnOIdeal.nD Cert.LnOIdeal.τ).loc Cert.LnOIdeal.main_arg4)) (m ((c.tc : Thread Cert.LnOIdeal.nD Cert.LnOIdeal.τ).loc Cert.LnOIdeal.main_arg5))).2.1 = (fun _ => 1#1)
    ∧ (Cert.Pre_finite_o.fn (F := Ideal) (m ((c.tc : Thread Cert.LnOIdeal.nD Cert.LnOIdeal.τ).loc Cert.LnOIdeal.main_arg0)) (m ((c.tc : Thread Cert.LnOIdeal.nD Cert.LnOIdeal.τ).loc Cert.LnOIdeal.main_arg1)) (m ((c.tc : Thread Cert.LnOIdeal.nD Cert.LnOIdeal.τ).loc Cert.LnOIdeal.main_arg2)) (m ((c.tc : Thread Cert.LnOIdeal.nD Cert.LnOIdeal.τ).loc Cert.LnOIdeal.main_arg3)) (m ((c.tc : Thread Cert.LnOIdeal.nD Cert.LnOIdeal.τ).loc Cert.LnOIdeal.main_arg4)) (m ((c.tc : Thread Cert.LnOIdeal.nD Cert.LnOIdeal.τ).loc Cert.LnOIdeal.main_arg5))).2.2 = (fun _ => 1#1)

def Pre_LnORefIdeal (m : (ℓ : Loc Cert.LnORefIdeal.nD Cert.LnORefIdeal.τ Cert.LnORefIdeal.sig) → Buf (Elt Ideal) ℓ) : Prop :=
  True

def Pre_LnORefIdeal_finite_o [hPre_finite_o : Cert.Pre_finite_o.Facts] (m : (ℓ : Loc Cert.LnORefIdeal.nD Cert.LnORefIdeal.τ Cert.LnORefIdeal.sig) → Buf (Elt Ideal) ℓ) : Prop :=
  ∀ c : Dev Cert.LnORefIdeal.nD,
    (Cert.Pre_finite_o.fn (F := Ideal) (m ((c.tc : Thread Cert.LnORefIdeal.nD Cert.LnORefIdeal.τ).loc Cert.LnORefIdeal.main_arg0)) (m ((c.tc : Thread Cert.LnORefIdeal.nD Cert.LnORefIdeal.τ).loc Cert.LnORefIdeal.main_arg1)) (m ((c.tc : Thread Cert.LnORefIdeal.nD Cert.LnORefIdeal.τ).loc Cert.LnORefIdeal.main_arg2)) (m ((c.tc : Thread Cert.LnORefIdeal.nD Cert.LnORefIdeal.τ).loc Cert.LnORefIdeal.main_arg3)) (m ((c.tc : Thread Cert.LnORefIdeal.nD Cert.LnORefIdeal.τ).loc Cert.LnORefIdeal.main_arg4)) (m ((c.tc : Thread Cert.LnORefIdeal.nD Cert.LnORefIdeal.τ).loc Cert.LnORefIdeal.main_arg5))).1 = (fun _ => 1#1)
    ∧ (Cert.Pre_finite_o.fn (F := Ideal) (m ((c.tc : Thread Cert.LnORefIdeal.nD Cert.LnORefIdeal.τ).loc Cert.LnORefIdeal.main_arg0)) (m ((c.tc : Thread Cert.LnORefIdeal.nD Cert.LnORefIdeal.τ).loc Cert.LnORefIdeal.main_arg1)) (m ((c.tc : Thread Cert.LnORefIdeal.nD Cert.LnORefIdeal.τ).loc Cert.LnORefIdeal.main_arg2)) (m ((c.tc : Thread Cert.LnORefIdeal.nD Cert.LnORefIdeal.τ).loc Cert.LnORefIdeal.main_arg3)) (m ((c.tc : Thread Cert.LnORefIdeal.nD Cert.LnORefIdeal.τ).loc Cert.LnORefIdeal.main_arg4)) (m ((c.tc : Thread Cert.LnORefIdeal.nD Cert.LnORefIdeal.τ).loc Cert.LnORefIdeal.main_arg5))).2.1 = (fun _ => 1#1)
    ∧ (Cert.Pre_finite_o.fn (F := Ideal) (m ((c.tc : Thread Cert.LnORefIdeal.nD Cert.LnORefIdeal.τ).loc Cert.LnORefIdeal.main_arg0)) (m ((c.tc : Thread Cert.LnORefIdeal.nD Cert.LnORefIdeal.τ).loc Cert.LnORefIdeal.main_arg1)) (m ((c.tc : Thread Cert.LnORefIdeal.nD Cert.LnORefIdeal.τ).loc Cert.LnORefIdeal.main_arg2)) (m ((c.tc : Thread Cert.LnORefIdeal.nD Cert.LnORefIdeal.τ).loc Cert.LnORefIdeal.main_arg3)) (m ((c.tc : Thread Cert.LnORefIdeal.nD Cert.LnORefIdeal.τ).loc Cert.LnORefIdeal.main_arg4)) (m ((c.tc : Thread Cert.LnORefIdeal.nD Cert.LnORefIdeal.τ).loc Cert.LnORefIdeal.main_arg5))).2.2 = (fun _ => 1#1)

def Pre_LnDown (m : (ℓ : Loc Cert.LnDown.nD Cert.LnDown.τ Cert.LnDown.sig) → Buf (Elt Bits) ℓ) : Prop :=
  True

def Pre_LnDownIdeal (m : (ℓ : Loc Cert.LnDownIdeal.nD Cert.LnDownIdeal.τ Cert.LnDownIdeal.sig) → Buf (Elt Ideal) ℓ) : Prop :=
  True

def Pre_LnDownIdeal_finite_down [hPre_finite_down : Cert.Pre_finite_down.Facts] (m : (ℓ : Loc Cert.LnDownIdeal.nD Cert.LnDownIdeal.τ Cert.LnDownIdeal.sig) → Buf (Elt Ideal) ℓ) : Prop :=
  ∀ c : Dev Cert.LnDownIdeal.nD,
    (Cert.Pre_finite_down.fn (F := Ideal) (m ((c.tc : Thread Cert.LnDownIdeal.nD Cert.LnDownIdeal.τ).loc Cert.LnDownIdeal.main_arg0)) (m ((c.tc : Thread Cert.LnDownIdeal.nD Cert.LnDownIdeal.τ).loc Cert.LnDownIdeal.main_arg1)) (m ((c.tc : Thread Cert.LnDownIdeal.nD Cert.LnDownIdeal.τ).loc Cert.LnDownIdeal.main_arg2)) (m ((c.tc : Thread Cert.LnDownIdeal.nD Cert.LnDownIdeal.τ).loc Cert.LnDownIdeal.main_arg3)) (m ((c.tc : Thread Cert.LnDownIdeal.nD Cert.LnDownIdeal.τ).loc Cert.LnDownIdeal.main_arg4)) (m ((c.tc : Thread Cert.LnDownIdeal.nD Cert.LnDownIdeal.τ).loc Cert.LnDownIdeal.main_arg5))).1 = (fun _ => 1#1)
    ∧ (Cert.Pre_finite_down.fn (F := Ideal) (m ((c.tc : Thread Cert.LnDownIdeal.nD Cert.LnDownIdeal.τ).loc Cert.LnDownIdeal.main_arg0)) (m ((c.tc : Thread Cert.LnDownIdeal.nD Cert.LnDownIdeal.τ).loc Cert.LnDownIdeal.main_arg1)) (m ((c.tc : Thread Cert.LnDownIdeal.nD Cert.LnDownIdeal.τ).loc Cert.LnDownIdeal.main_arg2)) (m ((c.tc : Thread Cert.LnDownIdeal.nD Cert.LnDownIdeal.τ).loc Cert.LnDownIdeal.main_arg3)) (m ((c.tc : Thread Cert.LnDownIdeal.nD Cert.LnDownIdeal.τ).loc Cert.LnDownIdeal.main_arg4)) (m ((c.tc : Thread Cert.LnDownIdeal.nD Cert.LnDownIdeal.τ).loc Cert.LnDownIdeal.main_arg5))).2.1 = (fun _ => 1#1)
    ∧ (Cert.Pre_finite_down.fn (F := Ideal) (m ((c.tc : Thread Cert.LnDownIdeal.nD Cert.LnDownIdeal.τ).loc Cert.LnDownIdeal.main_arg0)) (m ((c.tc : Thread Cert.LnDownIdeal.nD Cert.LnDownIdeal.τ).loc Cert.LnDownIdeal.main_arg1)) (m ((c.tc : Thread Cert.LnDownIdeal.nD Cert.LnDownIdeal.τ).loc Cert.LnDownIdeal.main_arg2)) (m ((c.tc : Thread Cert.LnDownIdeal.nD Cert.LnDownIdeal.τ).loc Cert.LnDownIdeal.main_arg3)) (m ((c.tc : Thread Cert.LnDownIdeal.nD Cert.LnDownIdeal.τ).loc Cert.LnDownIdeal.main_arg4)) (m ((c.tc : Thread Cert.LnDownIdeal.nD Cert.LnDownIdeal.τ).loc Cert.LnDownIdeal.main_arg5))).2.2 = (fun _ => 1#1)

def Pre_LnDownRefIdeal (m : (ℓ : Loc Cert.LnDownRefIdeal.nD Cert.LnDownRefIdeal.τ Cert.LnDownRefIdeal.sig) → Buf (Elt Ideal) ℓ) : Prop :=
  True

def Pre_LnDownRefIdeal_finite_down [hPre_finite_down : Cert.Pre_finite_down.Facts] (m : (ℓ : Loc Cert.LnDownRefIdeal.nD Cert.LnDownRefIdeal.τ Cert.LnDownRefIdeal.sig) → Buf (Elt Ideal) ℓ) : Prop :=
  ∀ c : Dev Cert.LnDownRefIdeal.nD,
    (Cert.Pre_finite_down.fn (F := Ideal) (m ((c.tc : Thread Cert.LnDownRefIdeal.nD Cert.LnDownRefIdeal.τ).loc Cert.LnDownRefIdeal.main_arg0)) (m ((c.tc : Thread Cert.LnDownRefIdeal.nD Cert.LnDownRefIdeal.τ).loc Cert.LnDownRefIdeal.main_arg1)) (m ((c.tc : Thread Cert.LnDownRefIdeal.nD Cert.LnDownRefIdeal.τ).loc Cert.LnDownRefIdeal.main_arg2)) (m ((c.tc : Thread Cert.LnDownRefIdeal.nD Cert.LnDownRefIdeal.τ).loc Cert.LnDownRefIdeal.main_arg3)) (m ((c.tc : Thread Cert.LnDownRefIdeal.nD Cert.LnDownRefIdeal.τ).loc Cert.LnDownRefIdeal.main_arg4)) (m ((c.tc : Thread Cert.LnDownRefIdeal.nD Cert.LnDownRefIdeal.τ).loc Cert.LnDownRefIdeal.main_arg5))).1 = (fun _ => 1#1)
    ∧ (Cert.Pre_finite_down.fn (F := Ideal) (m ((c.tc : Thread Cert.LnDownRefIdeal.nD Cert.LnDownRefIdeal.τ).loc Cert.LnDownRefIdeal.main_arg0)) (m ((c.tc : Thread Cert.LnDownRefIdeal.nD Cert.LnDownRefIdeal.τ).loc Cert.LnDownRefIdeal.main_arg1)) (m ((c.tc : Thread Cert.LnDownRefIdeal.nD Cert.LnDownRefIdeal.τ).loc Cert.LnDownRefIdeal.main_arg2)) (m ((c.tc : Thread Cert.LnDownRefIdeal.nD Cert.LnDownRefIdeal.τ).loc Cert.LnDownRefIdeal.main_arg3)) (m ((c.tc : Thread Cert.LnDownRefIdeal.nD Cert.LnDownRefIdeal.τ).loc Cert.LnDownRefIdeal.main_arg4)) (m ((c.tc : Thread Cert.LnDownRefIdeal.nD Cert.LnDownRefIdeal.τ).loc Cert.LnDownRefIdeal.main_arg5))).2.1 = (fun _ => 1#1)
    ∧ (Cert.Pre_finite_down.fn (F := Ideal) (m ((c.tc : Thread Cert.LnDownRefIdeal.nD Cert.LnDownRefIdeal.τ).loc Cert.LnDownRefIdeal.main_arg0)) (m ((c.tc : Thread Cert.LnDownRefIdeal.nD Cert.LnDownRefIdeal.τ).loc Cert.LnDownRefIdeal.main_arg1)) (m ((c.tc : Thread Cert.LnDownRefIdeal.nD Cert.LnDownRefIdeal.τ).loc Cert.LnDownRefIdeal.main_arg2)) (m ((c.tc : Thread Cert.LnDownRefIdeal.nD Cert.LnDownRefIdeal.τ).loc Cert.LnDownRefIdeal.main_arg3)) (m ((c.tc : Thread Cert.LnDownRefIdeal.nD Cert.LnDownRefIdeal.τ).loc Cert.LnDownRefIdeal.main_arg4)) (m ((c.tc : Thread Cert.LnDownRefIdeal.nD Cert.LnDownRefIdeal.τ).loc Cert.LnDownRefIdeal.main_arg5))).2.2 = (fun _ => 1#1)

def Pre_LnLoss (m : (ℓ : Loc Cert.LnLoss.nD Cert.LnLoss.τ Cert.LnLoss.sig) → Buf (Elt Bits) ℓ) : Prop :=
  True

def Pre_LnLossIdeal (m : (ℓ : Loc Cert.LnLossIdeal.nD Cert.LnLossIdeal.τ Cert.LnLossIdeal.sig) → Buf (Elt Ideal) ℓ) : Prop :=
  True

def Pre_LnLossIdeal_finite_loss [hPre_finite_loss : Cert.Pre_finite_loss.Facts] (m : (ℓ : Loc Cert.LnLossIdeal.nD Cert.LnLossIdeal.τ Cert.LnLossIdeal.sig) → Buf (Elt Ideal) ℓ) : Prop :=
  ∀ c : Dev Cert.LnLossIdeal.nD,
    (Cert.Pre_finite_loss.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3)) (m ((c.tc : Thread Cert.LnLossIdeal.nD Cert.LnLossIdeal.τ).loc Cert.LnLossIdeal.main_arg4)) (m ((c.tc : Thread Cert.LnLossIdeal.nD Cert.LnLossIdeal.τ).loc Cert.LnLossIdeal.main_arg5))).1 = (fun _ => 1#1)
    ∧ (Cert.Pre_finite_loss.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3)) (m ((c.tc : Thread Cert.LnLossIdeal.nD Cert.LnLossIdeal.τ).loc Cert.LnLossIdeal.main_arg4)) (m ((c.tc : Thread Cert.LnLossIdeal.nD Cert.LnLossIdeal.τ).loc Cert.LnLossIdeal.main_arg5))).2.1 = (fun _ => 1#1)
    ∧ (Cert.Pre_finite_loss.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3)) (m ((c.tc : Thread Cert.LnLossIdeal.nD Cert.LnLossIdeal.τ).loc Cert.LnLossIdeal.main_arg4)) (m ((c.tc : Thread Cert.LnLossIdeal.nD Cert.LnLossIdeal.τ).loc Cert.LnLossIdeal.main_arg5))).2.2.1 = (fun _ => 1#1)
    ∧ (Cert.Pre_finite_loss.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3)) (m ((c.tc : Thread Cert.LnLossIdeal.nD Cert.LnLossIdeal.τ).loc Cert.LnLossIdeal.main_arg4)) (m ((c.tc : Thread Cert.LnLossIdeal.nD Cert.LnLossIdeal.τ).loc Cert.LnLossIdeal.main_arg5))).2.2.2 = (fun _ => 1#1)

def Pre_LnLossRefIdeal (m : (ℓ : Loc Cert.LnLossRefIdeal.nD Cert.LnLossRefIdeal.τ Cert.LnLossRefIdeal.sig) → Buf (Elt Ideal) ℓ) : Prop :=
  True

def Pre_LnLossRefIdeal_finite_loss [hPre_finite_loss : Cert.Pre_finite_loss.Facts] (m : (ℓ : Loc Cert.LnLossRefIdeal.nD Cert.LnLossRefIdeal.τ Cert.LnLossRefIdeal.sig) → Buf (Elt Ideal) ℓ) : Prop :=
  ∀ c : Dev Cert.LnLossRefIdeal.nD,
    (Cert.Pre_finite_loss.fn (F := Ideal) (m ((c.tc : Thread Cert.LnLossRefIdeal.nD Cert.LnLossRefIdeal.τ).loc Cert.LnLossRefIdeal.main_arg0)) (m ((c.tc : Thread Cert.LnLossRefIdeal.nD Cert.LnLossRefIdeal.τ).loc Cert.LnLossRefIdeal.main_arg1)) (m ((c.tc : Thread Cert.LnLossRefIdeal.nD Cert.LnLossRefIdeal.τ).loc Cert.LnLossRefIdeal.main_arg2)) (m ((c.tc : Thread Cert.LnLossRefIdeal.nD Cert.LnLossRefIdeal.τ).loc Cert.LnLossRefIdeal.main_arg3)) (m ((c.tc : Thread Cert.LnLossRefIdeal.nD Cert.LnLossRefIdeal.τ).loc Cert.LnLossRefIdeal.main_arg4)) (m ((c.tc : Thread Cert.LnLossRefIdeal.nD Cert.LnLossRefIdeal.τ).loc Cert.LnLossRefIdeal.main_arg5))).1 = (fun _ => 1#1)
    ∧ (Cert.Pre_finite_loss.fn (F := Ideal) (m ((c.tc : Thread Cert.LnLossRefIdeal.nD Cert.LnLossRefIdeal.τ).loc Cert.LnLossRefIdeal.main_arg0)) (m ((c.tc : Thread Cert.LnLossRefIdeal.nD Cert.LnLossRefIdeal.τ).loc Cert.LnLossRefIdeal.main_arg1)) (m ((c.tc : Thread Cert.LnLossRefIdeal.nD Cert.LnLossRefIdeal.τ).loc Cert.LnLossRefIdeal.main_arg2)) (m ((c.tc : Thread Cert.LnLossRefIdeal.nD Cert.LnLossRefIdeal.τ).loc Cert.LnLossRefIdeal.main_arg3)) (m ((c.tc : Thread Cert.LnLossRefIdeal.nD Cert.LnLossRefIdeal.τ).loc Cert.LnLossRefIdeal.main_arg4)) (m ((c.tc : Thread Cert.LnLossRefIdeal.nD Cert.LnLossRefIdeal.τ).loc Cert.LnLossRefIdeal.main_arg5))).2.1 = (fun _ => 1#1)
    ∧ (Cert.Pre_finite_loss.fn (F := Ideal) (m ((c.tc : Thread Cert.LnLossRefIdeal.nD Cert.LnLossRefIdeal.τ).loc Cert.LnLossRefIdeal.main_arg0)) (m ((c.tc : Thread Cert.LnLossRefIdeal.nD Cert.LnLossRefIdeal.τ).loc Cert.LnLossRefIdeal.main_arg1)) (m ((c.tc : Thread Cert.LnLossRefIdeal.nD Cert.LnLossRefIdeal.τ).loc Cert.LnLossRefIdeal.main_arg2)) (m ((c.tc : Thread Cert.LnLossRefIdeal.nD Cert.LnLossRefIdeal.τ).loc Cert.LnLossRefIdeal.main_arg3)) (m ((c.tc : Thread Cert.LnLossRefIdeal.nD Cert.LnLossRefIdeal.τ).loc Cert.LnLossRefIdeal.main_arg4)) (m ((c.tc : Thread Cert.LnLossRefIdeal.nD Cert.LnLossRefIdeal.τ).loc Cert.LnLossRefIdeal.main_arg5))).2.2.1 = (fun _ => 1#1)
    ∧ (Cert.Pre_finite_loss.fn (F := Ideal) (m ((c.tc : Thread Cert.LnLossRefIdeal.nD Cert.LnLossRefIdeal.τ).loc Cert.LnLossRefIdeal.main_arg0)) (m ((c.tc : Thread Cert.LnLossRefIdeal.nD Cert.LnLossRefIdeal.τ).loc Cert.LnLossRefIdeal.main_arg1)) (m ((c.tc : Thread Cert.LnLossRefIdeal.nD Cert.LnLossRefIdeal.τ).loc Cert.LnLossRefIdeal.main_arg2)) (m ((c.tc : Thread Cert.LnLossRefIdeal.nD Cert.LnLossRefIdeal.τ).loc Cert.LnLossRefIdeal.main_arg3)) (m ((c.tc : Thread Cert.LnLossRefIdeal.nD Cert.LnLossRefIdeal.τ).loc Cert.LnLossRefIdeal.main_arg4)) (m ((c.tc : Thread Cert.LnLossRefIdeal.nD Cert.LnLossRefIdeal.τ).loc Cert.LnLossRefIdeal.main_arg5))).2.2.2 = (fun _ => 1#1)

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_WgradUp [hWgradUp : Cert.WgradUp.Facts] : Prop :=
  ∀ (m : (ℓ : Loc Cert.WgradUp.nD Cert.WgradUp.τ Cert.WgradUp.sig) → Buf (Elt Bits) ℓ) (g : Dev Cert.WgradUp.nD → PrngReg), Pre_WgradUp m →
    θ_run (Cert.WgradUp.defs (F := Bits)) (onTc (τ := Cert.WgradUp.τ) (Cert.WgradUp.main (F := Bits))) ⟨m, fun _ => 0, g⟩ (fun r => (∀ c : Dev Cert.WgradUp.nD,
      r.2.mem ((c.tc : Thread Cert.WgradUp.nD Cert.WgradUp.τ).loc Cert.WgradUp.main_arg0) = m ((c.tc : Thread Cert.WgradUp.nD Cert.WgradUp.τ).loc Cert.WgradUp.main_arg0)
      ∧ r.2.mem ((c.tc : Thread Cert.WgradUp.nD Cert.WgradUp.τ).loc Cert.WgradUp.main_arg1) = m ((c.tc : Thread Cert.WgradUp.nD Cert.WgradUp.τ).loc Cert.WgradUp.main_arg1)
      ∧ r.2.mem ((c.tc : Thread Cert.WgradUp.nD Cert.WgradUp.τ).loc Cert.WgradUp.main_arg2) = m ((c.tc : Thread Cert.WgradUp.nD Cert.WgradUp.τ).loc Cert.WgradUp.main_arg2))
      ∧ r.2.sem = fun _ => 0)

def quiescent_WgradUpIdeal [hWgradUpIdeal : Cert.WgradUpIdeal.Facts] : Prop :=
  ∀ (m : (ℓ : Loc Cert.WgradUpIdeal.nD Cert.WgradUpIdeal.τ Cert.WgradUpIdeal.sig) → Buf (Elt Ideal) ℓ) (g : Dev Cert.WgradUpIdeal.nD → PrngReg), Pre_WgradUpIdeal m →
    θ_run (Cert.WgradUpIdeal.defs (F := Ideal)) (onTc (τ := Cert.WgradUpIdeal.τ) (Cert.WgradUpIdeal.main (F := Ideal))) ⟨m, fun _ => 0, g⟩ (fun r => (∀ c : Dev Cert.WgradUpIdeal.nD,
      r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
      ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1)
      ∧ r.2.mem ((c.tc : Thread Cert.WgradUpIdeal.nD Cert.WgradUpIdeal.τ).loc Cert.WgradUpIdeal.main_arg2) = m ((c.tc : Thread Cert.WgradUpIdeal.nD Cert.WgradUpIdeal.τ).loc Cert.WgradUpIdeal.main_arg2))
      ∧ r.2.sem = fun _ => 0)

def quiescent_WgradUpRefIdeal [hWgradUpRefIdeal : Cert.WgradUpRefIdeal.Facts] : Prop :=
  ∀ (m : (ℓ : Loc Cert.WgradUpRefIdeal.nD Cert.WgradUpRefIdeal.τ Cert.WgradUpRefIdeal.sig) → Buf (Elt Ideal) ℓ) (g : Dev Cert.WgradUpRefIdeal.nD → PrngReg), Pre_WgradUpRefIdeal m →
    θ_run (Cert.WgradUpRefIdeal.defs (F := Ideal)) (onTc (τ := Cert.WgradUpRefIdeal.τ) (Cert.WgradUpRefIdeal.main (F := Ideal))) ⟨m, fun _ => 0, g⟩ (fun r => (∀ c : Dev Cert.WgradUpRefIdeal.nD,
      r.2.mem ((c.tc : Thread Cert.WgradUpRefIdeal.nD Cert.WgradUpRefIdeal.τ).loc Cert.WgradUpRefIdeal.main_arg0) = m ((c.tc : Thread Cert.WgradUpRefIdeal.nD Cert.WgradUpRefIdeal.τ).loc Cert.WgradUpRefIdeal.main_arg0)
      ∧ r.2.mem ((c.tc : Thread Cert.WgradUpRefIdeal.nD Cert.WgradUpRefIdeal.τ).loc Cert.WgradUpRefIdeal.main_arg1) = m ((c.tc : Thread Cert.WgradUpRefIdeal.nD Cert.WgradUpRefIdeal.τ).loc Cert.WgradUpRefIdeal.main_arg1)
      ∧ r.2.mem ((c.tc : Thread Cert.WgradUpRefIdeal.nD Cert.WgradUpRefIdeal.τ).loc Cert.WgradUpRefIdeal.main_arg2) = m ((c.tc : Thread Cert.WgradUpRefIdeal.nD Cert.WgradUpRefIdeal.τ).loc Cert.WgradUpRefIdeal.main_arg2))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1)
      ∧ r.2.mem ((c.tc : Thread Cert.WgradIn.nD Cert.WgradIn.τ).loc Cert.WgradIn.main_arg2) = m ((c.tc : Thread Cert.WgradIn.nD Cert.WgradIn.τ).loc Cert.WgradIn.main_arg2))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
      ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2))
      ∧ r.2.sem = fun _ => 0)

def quiescent_WgradInRefIdeal [hWgradInRefIdeal : Cert.WgradInRefIdeal.Facts] : Prop :=
  ∀ (m : (ℓ : Loc Cert.WgradInRefIdeal.nD Cert.WgradInRefIdeal.τ Cert.WgradInRefIdeal.sig) → Buf (Elt Ideal) ℓ) (g : Dev Cert.WgradInRefIdeal.nD → PrngReg), Pre_WgradInRefIdeal m →
    θ_run (Cert.WgradInRefIdeal.defs (F := Ideal)) (onTc (τ := Cert.WgradInRefIdeal.τ) (Cert.WgradInRefIdeal.main (F := Ideal))) ⟨m, fun _ => 0, g⟩ (fun r => (∀ c : Dev Cert.WgradInRefIdeal.nD,
      r.2.mem ((c.tc : Thread Cert.WgradInRefIdeal.nD Cert.WgradInRefIdeal.τ).loc Cert.WgradInRefIdeal.main_arg0) = m ((c.tc : Thread Cert.WgradInRefIdeal.nD Cert.WgradInRefIdeal.τ).loc Cert.WgradInRefIdeal.main_arg0)
      ∧ r.2.mem ((c.tc : Thread Cert.WgradInRefIdeal.nD Cert.WgradInRefIdeal.τ).loc Cert.WgradInRefIdeal.main_arg1) = m ((c.tc : Thread Cert.WgradInRefIdeal.nD Cert.WgradInRefIdeal.τ).loc Cert.WgradInRefIdeal.main_arg1)
      ∧ r.2.mem ((c.tc : Thread Cert.WgradInRefIdeal.nD Cert.WgradInRefIdeal.τ).loc Cert.WgradInRefIdeal.main_arg2) = m ((c.tc : Thread Cert.WgradInRefIdeal.nD Cert.WgradInRefIdeal.τ).loc Cert.WgradInRefIdeal.main_arg2))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1)
      ∧ r.2.mem ((c.tc : Thread Cert.WgradDown.nD Cert.WgradDown.τ).loc Cert.WgradDown.main_arg2) = m ((c.tc : Thread Cert.WgradDown.nD Cert.WgradDown.τ).loc Cert.WgradDown.main_arg2))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1)
      ∧ r.2.mem ((c.tc : Thread Cert.WgradDownIdeal.nD Cert.WgradDownIdeal.τ).loc Cert.WgradDownIdeal.main_arg2) = m ((c.tc : Thread Cert.WgradDownIdeal.nD Cert.WgradDownIdeal.τ).loc Cert.WgradDownIdeal.main_arg2))
      ∧ r.2.sem = fun _ => 0)

def quiescent_WgradDownRefIdeal [hWgradDownRefIdeal : Cert.WgradDownRefIdeal.Facts] : Prop :=
  ∀ (m : (ℓ : Loc Cert.WgradDownRefIdeal.nD Cert.WgradDownRefIdeal.τ Cert.WgradDownRefIdeal.sig) → Buf (Elt Ideal) ℓ) (g : Dev Cert.WgradDownRefIdeal.nD → PrngReg), Pre_WgradDownRefIdeal m →
    θ_run (Cert.WgradDownRefIdeal.defs (F := Ideal)) (onTc (τ := Cert.WgradDownRefIdeal.τ) (Cert.WgradDownRefIdeal.main (F := Ideal))) ⟨m, fun _ => 0, g⟩ (fun r => (∀ c : Dev Cert.WgradDownRefIdeal.nD,
      r.2.mem ((c.tc : Thread Cert.WgradDownRefIdeal.nD Cert.WgradDownRefIdeal.τ).loc Cert.WgradDownRefIdeal.main_arg0) = m ((c.tc : Thread Cert.WgradDownRefIdeal.nD Cert.WgradDownRefIdeal.τ).loc Cert.WgradDownRefIdeal.main_arg0)
      ∧ r.2.mem ((c.tc : Thread Cert.WgradDownRefIdeal.nD Cert.WgradDownRefIdeal.τ).loc Cert.WgradDownRefIdeal.main_arg1) = m ((c.tc : Thread Cert.WgradDownRefIdeal.nD Cert.WgradDownRefIdeal.τ).loc Cert.WgradDownRefIdeal.main_arg1)
      ∧ r.2.mem ((c.tc : Thread Cert.WgradDownRefIdeal.nD Cert.WgradDownRefIdeal.τ).loc Cert.WgradDownRefIdeal.main_arg2) = m ((c.tc : Thread Cert.WgradDownRefIdeal.nD Cert.WgradDownRefIdeal.τ).loc Cert.WgradDownRefIdeal.main_arg2))
      ∧ r.2.sem = fun _ => 0)

def quiescent_WgradO [hWgradO : Cert.WgradO.Facts] : Prop :=
  ∀ (m : (ℓ : Loc Cert.WgradO.nD Cert.WgradO.τ Cert.WgradO.sig) → Buf (Elt Bits) ℓ) (g : Dev Cert.WgradO.nD → PrngReg), Pre_WgradO m →
    θ_run (Cert.WgradO.defs (F := Bits)) (onTc (τ := Cert.WgradO.τ) (Cert.WgradO.main (F := Bits))) ⟨m, fun _ => 0, g⟩ (fun r => (∀ c : Dev Cert.WgradO.nD,
      r.2.mem ((c.tc : Thread Cert.WgradO.nD Cert.WgradO.τ).loc Cert.WgradO.main_arg0) = m ((c.tc : Thread Cert.WgradO.nD Cert.WgradO.τ).loc Cert.WgradO.main_arg0)
      ∧ r.2.mem ((c.tc : Thread Cert.WgradO.nD Cert.WgradO.τ).loc Cert.WgradO.main_arg1) = m ((c.tc : Thread Cert.WgradO.nD Cert.WgradO.τ).loc Cert.WgradO.main_arg1)
      ∧ r.2.mem ((c.tc : Thread Cert.WgradO.nD Cert.WgradO.τ).loc Cert.WgradO.main_arg2) = m ((c.tc : Thread Cert.WgradO.nD Cert.WgradO.τ).loc Cert.WgradO.main_arg2))
      ∧ r.2.sem = fun _ => 0)

def quiescent_WgradOIdeal [hWgradOIdeal : Cert.WgradOIdeal.Facts] : Prop :=
  ∀ (m : (ℓ : Loc Cert.WgradOIdeal.nD Cert.WgradOIdeal.τ Cert.WgradOIdeal.sig) → Buf (Elt Ideal) ℓ) (g : Dev Cert.WgradOIdeal.nD → PrngReg), Pre_WgradOIdeal m →
    θ_run (Cert.WgradOIdeal.defs (F := Ideal)) (onTc (τ := Cert.WgradOIdeal.τ) (Cert.WgradOIdeal.main (F := Ideal))) ⟨m, fun _ => 0, g⟩ (fun r => (∀ c : Dev Cert.WgradOIdeal.nD,
      r.2.mem ((c.tc : Thread Cert.WgradOIdeal.nD Cert.WgradOIdeal.τ).loc Cert.WgradOIdeal.main_arg0) = m ((c.tc : Thread Cert.WgradOIdeal.nD Cert.WgradOIdeal.τ).loc Cert.WgradOIdeal.main_arg0)
      ∧ r.2.mem ((c.tc : Thread Cert.WgradOIdeal.nD Cert.WgradOIdeal.τ).loc Cert.WgradOIdeal.main_arg1) = m ((c.tc : Thread Cert.WgradOIdeal.nD Cert.WgradOIdeal.τ).loc Cert.WgradOIdeal.main_arg1)
      ∧ r.2.mem ((c.tc : Thread Cert.WgradOIdeal.nD Cert.WgradOIdeal.τ).loc Cert.WgradOIdeal.main_arg2) = m ((c.tc : Thread Cert.WgradOIdeal.nD Cert.WgradOIdeal.τ).loc Cert.WgradOIdeal.main_arg2))
      ∧ r.2.sem = fun _ => 0)

def quiescent_WgradORefIdeal [hWgradORefIdeal : Cert.WgradORefIdeal.Facts] : Prop :=
  ∀ (m : (ℓ : Loc Cert.WgradORefIdeal.nD Cert.WgradORefIdeal.τ Cert.WgradORefIdeal.sig) → Buf (Elt Ideal) ℓ) (g : Dev Cert.WgradORefIdeal.nD → PrngReg), Pre_WgradORefIdeal m →
    θ_run (Cert.WgradORefIdeal.defs (F := Ideal)) (onTc (τ := Cert.WgradORefIdeal.τ) (Cert.WgradORefIdeal.main (F := Ideal))) ⟨m, fun _ => 0, g⟩ (fun r => (∀ c : Dev Cert.WgradORefIdeal.nD,
      r.2.mem ((c.tc : Thread Cert.WgradORefIdeal.nD Cert.WgradORefIdeal.τ).loc Cert.WgradORefIdeal.main_arg0) = m ((c.tc : Thread Cert.WgradORefIdeal.nD Cert.WgradORefIdeal.τ).loc Cert.WgradORefIdeal.main_arg0)
      ∧ r.2.mem ((c.tc : Thread Cert.WgradORefIdeal.nD Cert.WgradORefIdeal.τ).loc Cert.WgradORefIdeal.main_arg1) = m ((c.tc : Thread Cert.WgradORefIdeal.nD Cert.WgradORefIdeal.τ).loc Cert.WgradORefIdeal.main_arg1)
      ∧ r.2.mem ((c.tc : Thread Cert.WgradORefIdeal.nD Cert.WgradORefIdeal.τ).loc Cert.WgradORefIdeal.main_arg2) = m ((c.tc : Thread Cert.WgradORefIdeal.nD Cert.WgradORefIdeal.τ).loc Cert.WgradORefIdeal.main_arg2))
      ∧ r.2.sem = fun _ => 0)

def quiescent_DxUp [hDxUp : Cert.DxUp.Facts] : Prop :=
  ∀ (m : (ℓ : Loc Cert.DxUp.nD Cert.DxUp.τ Cert.DxUp.sig) → Buf (Elt Bits) ℓ) (g : Dev Cert.DxUp.nD → PrngReg), Pre_DxUp m →
    θ_run (Cert.DxUp.defs (F := Bits)) (onTc (τ := Cert.DxUp.τ) (Cert.DxUp.main (F := Bits))) ⟨m, fun _ => 0, g⟩ (fun r => (∀ c : Dev Cert.DxUp.nD,
      r.2.mem ((c.tc : Thread Cert.DxUp.nD Cert.DxUp.τ).loc Cert.DxUp.main_arg0) = m ((c.tc : Thread Cert.DxUp.nD Cert.DxUp.τ).loc Cert.DxUp.main_arg0)
      ∧ r.2.mem ((c.tc : Thread Cert.DxUp.nD Cert.DxUp.τ).loc Cert.DxUp.main_arg1) = m ((c.tc : Thread Cert.DxUp.nD Cert.DxUp.τ).loc Cert.DxUp.main_arg1)
      ∧ r.2.mem ((c.tc : Thread Cert.DxUp.nD Cert.DxUp.τ).loc Cert.DxUp.main_arg2) = m ((c.tc : Thread Cert.DxUp.nD Cert.DxUp.τ).loc Cert.DxUp.main_arg2)
      ∧ r.2.mem ((c.tc : Thread Cert.DxUp.nD Cert.DxUp.τ).loc Cert.DxUp.main_arg3) = m ((c.tc : Thread Cert.DxUp.nD Cert.DxUp.τ).loc Cert.DxUp.main_arg3))
      ∧ r.2.sem = fun _ => 0)

def quiescent_DxUpIdeal [hDxUpIdeal : Cert.DxUpIdeal.Facts] : Prop :=
  ∀ (m : (ℓ : Loc Cert.DxUpIdeal.nD Cert.DxUpIdeal.τ Cert.DxUpIdeal.sig) → Buf (Elt Ideal) ℓ) (g : Dev Cert.DxUpIdeal.nD → PrngReg), Pre_DxUpIdeal m →
    θ_run (Cert.DxUpIdeal.defs (F := Ideal)) (onTc (τ := Cert.DxUpIdeal.τ) (Cert.DxUpIdeal.main (F := Ideal))) ⟨m, fun _ => 0, g⟩ (fun r => (∀ c : Dev Cert.DxUpIdeal.nD,
      r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
      ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
      ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2)
      ∧ r.2.mem ((c.tc : Thread Cert.DxUpIdeal.nD Cert.DxUpIdeal.τ).loc Cert.DxUpIdeal.main_arg3) = m ((c.tc : Thread Cert.DxUpIdeal.nD Cert.DxUpIdeal.τ).loc Cert.DxUpIdeal.main_arg3))
      ∧ r.2.sem = fun _ => 0)

def quiescent_DxUpRefIdeal [hDxUpRefIdeal : Cert.DxUpRefIdeal.Facts] : Prop :=
  ∀ (m : (ℓ : Loc Cert.DxUpRefIdeal.nD Cert.DxUpRefIdeal.τ Cert.DxUpRefIdeal.sig) → Buf (Elt Ideal) ℓ) (g : Dev Cert.DxUpRefIdeal.nD → PrngReg), Pre_DxUpRefIdeal m →
    θ_run (Cert.DxUpRefIdeal.defs (F := Ideal)) (onTc (τ := Cert.DxUpRefIdeal.τ) (Cert.DxUpRefIdeal.main (F := Ideal))) ⟨m, fun _ => 0, g⟩ (fun r => (∀ c : Dev Cert.DxUpRefIdeal.nD,
      r.2.mem ((c.tc : Thread Cert.DxUpRefIdeal.nD Cert.DxUpRefIdeal.τ).loc Cert.DxUpRefIdeal.main_arg0) = m ((c.tc : Thread Cert.DxUpRefIdeal.nD Cert.DxUpRefIdeal.τ).loc Cert.DxUpRefIdeal.main_arg0)
      ∧ r.2.mem ((c.tc : Thread Cert.DxUpRefIdeal.nD Cert.DxUpRefIdeal.τ).loc Cert.DxUpRefIdeal.main_arg1) = m ((c.tc : Thread Cert.DxUpRefIdeal.nD Cert.DxUpRefIdeal.τ).loc Cert.DxUpRefIdeal.main_arg1)
      ∧ r.2.mem ((c.tc : Thread Cert.DxUpRefIdeal.nD Cert.DxUpRefIdeal.τ).loc Cert.DxUpRefIdeal.main_arg2) = m ((c.tc : Thread Cert.DxUpRefIdeal.nD Cert.DxUpRefIdeal.τ).loc Cert.DxUpRefIdeal.main_arg2)
      ∧ r.2.mem ((c.tc : Thread Cert.DxUpRefIdeal.nD Cert.DxUpRefIdeal.τ).loc Cert.DxUpRefIdeal.main_arg3) = m ((c.tc : Thread Cert.DxUpRefIdeal.nD Cert.DxUpRefIdeal.τ).loc Cert.DxUpRefIdeal.main_arg3))
      ∧ r.2.sem = fun _ => 0)

def quiescent_DxIn [hDxIn : Cert.DxIn.Facts] : Prop :=
  ∀ (m : (ℓ : Loc Cert.DxIn.nD Cert.DxIn.τ Cert.DxIn.sig) → Buf (Elt Bits) ℓ) (g : Dev Cert.DxIn.nD → PrngReg), Pre_DxIn m →
    θ_run (Cert.DxIn.defs (F := Bits)) (onTc (τ := Cert.DxIn.τ) (Cert.DxIn.main (F := Bits))) ⟨m, fun _ => 0, g⟩ (fun r => (∀ c : Dev Cert.DxIn.nD,
      r.2.mem ((c.tc : Thread Cert.DxIn.nD Cert.DxIn.τ).loc Cert.DxIn.main_arg0) = m ((c.tc : Thread Cert.DxIn.nD Cert.DxIn.τ).loc Cert.DxIn.main_arg0)
      ∧ r.2.mem ((c.tc : Thread Cert.DxIn.nD Cert.DxIn.τ).loc Cert.DxIn.main_arg1) = m ((c.tc : Thread Cert.DxIn.nD Cert.DxIn.τ).loc Cert.DxIn.main_arg1)
      ∧ r.2.mem ((c.tc : Thread Cert.DxIn.nD Cert.DxIn.τ).loc Cert.DxIn.main_arg2) = m ((c.tc : Thread Cert.DxIn.nD Cert.DxIn.τ).loc Cert.DxIn.main_arg2)
      ∧ r.2.mem ((c.tc : Thread Cert.DxIn.nD Cert.DxIn.τ).loc Cert.DxIn.main_arg3) = m ((c.tc : Thread Cert.DxIn.nD Cert.DxIn.τ).loc Cert.DxIn.main_arg3))
      ∧ r.2.sem = fun _ => 0)

def quiescent_DxInIdeal [hDxInIdeal : Cert.DxInIdeal.Facts] : Prop :=
  ∀ (m : (ℓ : Loc Cert.DxInIdeal.nD Cert.DxInIdeal.τ Cert.DxInIdeal.sig) → Buf (Elt Ideal) ℓ) (g : Dev Cert.DxInIdeal.nD → PrngReg), Pre_DxInIdeal m →
    θ_run (Cert.DxInIdeal.defs (F := Ideal)) (onTc (τ := Cert.DxInIdeal.τ) (Cert.DxInIdeal.main (F := Ideal))) ⟨m, fun _ => 0, g⟩ (fun r => (∀ c : Dev Cert.DxInIdeal.nD,
      r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
      ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
      ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2)
      ∧ r.2.mem ((c.tc : Thread Cert.DxInIdeal.nD Cert.DxInIdeal.τ).loc Cert.DxInIdeal.main_arg3) = m ((c.tc : Thread Cert.DxInIdeal.nD Cert.DxInIdeal.τ).loc Cert.DxInIdeal.main_arg3))
      ∧ r.2.sem = fun _ => 0)

def quiescent_DxInRefIdeal [hDxInRefIdeal : Cert.DxInRefIdeal.Facts] : Prop :=
  ∀ (m : (ℓ : Loc Cert.DxInRefIdeal.nD Cert.DxInRefIdeal.τ Cert.DxInRefIdeal.sig) → Buf (Elt Ideal) ℓ) (g : Dev Cert.DxInRefIdeal.nD → PrngReg), Pre_DxInRefIdeal m →
    θ_run (Cert.DxInRefIdeal.defs (F := Ideal)) (onTc (τ := Cert.DxInRefIdeal.τ) (Cert.DxInRefIdeal.main (F := Ideal))) ⟨m, fun _ => 0, g⟩ (fun r => (∀ c : Dev Cert.DxInRefIdeal.nD,
      r.2.mem ((c.tc : Thread Cert.DxInRefIdeal.nD Cert.DxInRefIdeal.τ).loc Cert.DxInRefIdeal.main_arg0) = m ((c.tc : Thread Cert.DxInRefIdeal.nD Cert.DxInRefIdeal.τ).loc Cert.DxInRefIdeal.main_arg0)
      ∧ r.2.mem ((c.tc : Thread Cert.DxInRefIdeal.nD Cert.DxInRefIdeal.τ).loc Cert.DxInRefIdeal.main_arg1) = m ((c.tc : Thread Cert.DxInRefIdeal.nD Cert.DxInRefIdeal.τ).loc Cert.DxInRefIdeal.main_arg1)
      ∧ r.2.mem ((c.tc : Thread Cert.DxInRefIdeal.nD Cert.DxInRefIdeal.τ).loc Cert.DxInRefIdeal.main_arg2) = m ((c.tc : Thread Cert.DxInRefIdeal.nD Cert.DxInRefIdeal.τ).loc Cert.DxInRefIdeal.main_arg2)
      ∧ r.2.mem ((c.tc : Thread Cert.DxInRefIdeal.nD Cert.DxInRefIdeal.τ).loc Cert.DxInRefIdeal.main_arg3) = m ((c.tc : Thread Cert.DxInRefIdeal.nD Cert.DxInRefIdeal.τ).loc Cert.DxInRefIdeal.main_arg3))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1)
      ∧ r.2.mem ((c.tc : Thread Cert.MmUp.nD Cert.MmUp.τ).loc Cert.MmUp.main_arg2) = m ((c.tc : Thread Cert.MmUp.nD Cert.MmUp.τ).loc Cert.MmUp.main_arg2)
      ∧ r.2.mem ((c.tc : Thread Cert.MmUp.nD Cert.MmUp.τ).loc Cert.MmUp.main_arg3) = m ((c.tc : Thread Cert.MmUp.nD Cert.MmUp.τ).loc Cert.MmUp.main_arg3))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1)
      ∧ r.2.mem ((c.tc : Thread Cert.MmUpIdeal.nD Cert.MmUpIdeal.τ).loc Cert.MmUpIdeal.main_arg2) = m ((c.tc : Thread Cert.MmUpIdeal.nD Cert.MmUpIdeal.τ).loc Cert.MmUpIdeal.main_arg2)
      ∧ r.2.mem ((c.tc : Thread Cert.MmUpIdeal.nD Cert.MmUpIdeal.τ).loc Cert.MmUpIdeal.main_arg3) = m ((c.tc : Thread Cert.MmUpIdeal.nD Cert.MmUpIdeal.τ).loc Cert.MmUpIdeal.main_arg3))
      ∧ r.2.sem = fun _ => 0)

def quiescent_MmUpRefIdeal [hMmUpRefIdeal : Cert.MmUpRefIdeal.Facts] : Prop :=
  ∀ (m : (ℓ : Loc Cert.MmUpRefIdeal.nD Cert.MmUpRefIdeal.τ Cert.MmUpRefIdeal.sig) → Buf (Elt Ideal) ℓ) (g : Dev Cert.MmUpRefIdeal.nD → PrngReg), Pre_MmUpRefIdeal m →
    θ_run (Cert.MmUpRefIdeal.defs (F := Ideal)) (onTc (τ := Cert.MmUpRefIdeal.τ) (Cert.MmUpRefIdeal.main (F := Ideal))) ⟨m, fun _ => 0, g⟩ (fun r => (∀ c : Dev Cert.MmUpRefIdeal.nD,
      r.2.mem ((c.tc : Thread Cert.MmUpRefIdeal.nD Cert.MmUpRefIdeal.τ).loc Cert.MmUpRefIdeal.main_arg0) = m ((c.tc : Thread Cert.MmUpRefIdeal.nD Cert.MmUpRefIdeal.τ).loc Cert.MmUpRefIdeal.main_arg0)
      ∧ r.2.mem ((c.tc : Thread Cert.MmUpRefIdeal.nD Cert.MmUpRefIdeal.τ).loc Cert.MmUpRefIdeal.main_arg1) = m ((c.tc : Thread Cert.MmUpRefIdeal.nD Cert.MmUpRefIdeal.τ).loc Cert.MmUpRefIdeal.main_arg1)
      ∧ r.2.mem ((c.tc : Thread Cert.MmUpRefIdeal.nD Cert.MmUpRefIdeal.τ).loc Cert.MmUpRefIdeal.main_arg2) = m ((c.tc : Thread Cert.MmUpRefIdeal.nD Cert.MmUpRefIdeal.τ).loc Cert.MmUpRefIdeal.main_arg2)
      ∧ r.2.mem ((c.tc : Thread Cert.MmUpRefIdeal.nD Cert.MmUpRefIdeal.τ).loc Cert.MmUpRefIdeal.main_arg3) = m ((c.tc : Thread Cert.MmUpRefIdeal.nD Cert.MmUpRefIdeal.τ).loc Cert.MmUpRefIdeal.main_arg3))
      ∧ r.2.sem = fun _ => 0)

def quiescent_MmO [hMmO : Cert.MmO.Facts] : Prop :=
  ∀ (m : (ℓ : Loc Cert.MmO.nD Cert.MmO.τ Cert.MmO.sig) → Buf (Elt Bits) ℓ) (g : Dev Cert.MmO.nD → PrngReg), Pre_MmO m →
    θ_run (Cert.MmO.defs (F := Bits)) (onTc (τ := Cert.MmO.τ) (Cert.MmO.main (F := Bits))) ⟨m, fun _ => 0, g⟩ (fun r => (∀ c : Dev Cert.MmO.nD,
      r.2.mem ((c.tc : Thread Cert.MmO.nD Cert.MmO.τ).loc Cert.MmO.main_arg0) = m ((c.tc : Thread Cert.MmO.nD Cert.MmO.τ).loc Cert.MmO.main_arg0)
      ∧ r.2.mem ((c.tc : Thread Cert.MmO.nD Cert.MmO.τ).loc Cert.MmO.main_arg1) = m ((c.tc : Thread Cert.MmO.nD Cert.MmO.τ).loc Cert.MmO.main_arg1)
      ∧ r.2.mem ((c.tc : Thread Cert.MmO.nD Cert.MmO.τ).loc Cert.MmO.main_arg2) = m ((c.tc : Thread Cert.MmO.nD Cert.MmO.τ).loc Cert.MmO.main_arg2)
      ∧ r.2.mem ((c.tc : Thread Cert.MmO.nD Cert.MmO.τ).loc Cert.MmO.main_arg3) = m ((c.tc : Thread Cert.MmO.nD Cert.MmO.τ).loc Cert.MmO.main_arg3)
      ∧ r.2.mem ((c.tc : Thread Cert.MmO.nD Cert.MmO.τ).loc Cert.MmO.main_arg4) = m ((c.tc : Thread Cert.MmO.nD Cert.MmO.τ).loc Cert.MmO.main_arg4))
      ∧ r.2.sem = fun _ => 0)

def quiescent_MmOIdeal [hMmOIdeal : Cert.MmOIdeal.Facts] : Prop :=
  ∀ (m : (ℓ : Loc Cert.MmOIdeal.nD Cert.MmOIdeal.τ Cert.MmOIdeal.sig) → Buf (Elt Ideal) ℓ) (g : Dev Cert.MmOIdeal.nD → PrngReg), Pre_MmOIdeal m →
    θ_run (Cert.MmOIdeal.defs (F := Ideal)) (onTc (τ := Cert.MmOIdeal.τ) (Cert.MmOIdeal.main (F := Ideal))) ⟨m, fun _ => 0, g⟩ (fun r => (∀ c : Dev Cert.MmOIdeal.nD,
      r.2.mem ((c.tc : Thread Cert.MmOIdeal.nD Cert.MmOIdeal.τ).loc Cert.MmOIdeal.main_arg0) = m ((c.tc : Thread Cert.MmOIdeal.nD Cert.MmOIdeal.τ).loc Cert.MmOIdeal.main_arg0)
      ∧ r.2.mem ((c.tc : Thread Cert.MmOIdeal.nD Cert.MmOIdeal.τ).loc Cert.MmOIdeal.main_arg1) = m ((c.tc : Thread Cert.MmOIdeal.nD Cert.MmOIdeal.τ).loc Cert.MmOIdeal.main_arg1)
      ∧ r.2.mem ((c.tc : Thread Cert.MmOIdeal.nD Cert.MmOIdeal.τ).loc Cert.MmOIdeal.main_arg2) = m ((c.tc : Thread Cert.MmOIdeal.nD Cert.MmOIdeal.τ).loc Cert.MmOIdeal.main_arg2)
      ∧ r.2.mem ((c.tc : Thread Cert.MmOIdeal.nD Cert.MmOIdeal.τ).loc Cert.MmOIdeal.main_arg3) = m ((c.tc : Thread Cert.MmOIdeal.nD Cert.MmOIdeal.τ).loc Cert.MmOIdeal.main_arg3)
      ∧ r.2.mem ((c.tc : Thread Cert.MmOIdeal.nD Cert.MmOIdeal.τ).loc Cert.MmOIdeal.main_arg4) = m ((c.tc : Thread Cert.MmOIdeal.nD Cert.MmOIdeal.τ).loc Cert.MmOIdeal.main_arg4))
      ∧ r.2.sem = fun _ => 0)

def quiescent_MmORefIdeal [hMmORefIdeal : Cert.MmORefIdeal.Facts] : Prop :=
  ∀ (m : (ℓ : Loc Cert.MmORefIdeal.nD Cert.MmORefIdeal.τ Cert.MmORefIdeal.sig) → Buf (Elt Ideal) ℓ) (g : Dev Cert.MmORefIdeal.nD → PrngReg), Pre_MmORefIdeal m →
    θ_run (Cert.MmORefIdeal.defs (F := Ideal)) (onTc (τ := Cert.MmORefIdeal.τ) (Cert.MmORefIdeal.main (F := Ideal))) ⟨m, fun _ => 0, g⟩ (fun r => (∀ c : Dev Cert.MmORefIdeal.nD,
      r.2.mem ((c.tc : Thread Cert.MmORefIdeal.nD Cert.MmORefIdeal.τ).loc Cert.MmORefIdeal.main_arg0) = m ((c.tc : Thread Cert.MmORefIdeal.nD Cert.MmORefIdeal.τ).loc Cert.MmORefIdeal.main_arg0)
      ∧ r.2.mem ((c.tc : Thread Cert.MmORefIdeal.nD Cert.MmORefIdeal.τ).loc Cert.MmORefIdeal.main_arg1) = m ((c.tc : Thread Cert.MmORefIdeal.nD Cert.MmORefIdeal.τ).loc Cert.MmORefIdeal.main_arg1)
      ∧ r.2.mem ((c.tc : Thread Cert.MmORefIdeal.nD Cert.MmORefIdeal.τ).loc Cert.MmORefIdeal.main_arg2) = m ((c.tc : Thread Cert.MmORefIdeal.nD Cert.MmORefIdeal.τ).loc Cert.MmORefIdeal.main_arg2)
      ∧ r.2.mem ((c.tc : Thread Cert.MmORefIdeal.nD Cert.MmORefIdeal.τ).loc Cert.MmORefIdeal.main_arg3) = m ((c.tc : Thread Cert.MmORefIdeal.nD Cert.MmORefIdeal.τ).loc Cert.MmORefIdeal.main_arg3)
      ∧ r.2.mem ((c.tc : Thread Cert.MmORefIdeal.nD Cert.MmORefIdeal.τ).loc Cert.MmORefIdeal.main_arg4) = m ((c.tc : Thread Cert.MmORefIdeal.nD Cert.MmORefIdeal.τ).loc Cert.MmORefIdeal.main_arg4))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1)
      ∧ r.2.mem ((c.tc : Thread Cert.MmDown.nD Cert.MmDown.τ).loc Cert.MmDown.main_arg2) = m ((c.tc : Thread Cert.MmDown.nD Cert.MmDown.τ).loc Cert.MmDown.main_arg2)
      ∧ r.2.mem ((c.tc : Thread Cert.MmDown.nD Cert.MmDown.τ).loc Cert.MmDown.main_arg3) = m ((c.tc : Thread Cert.MmDown.nD Cert.MmDown.τ).loc Cert.MmDown.main_arg3)
      ∧ r.2.mem ((c.tc : Thread Cert.MmDown.nD Cert.MmDown.τ).loc Cert.MmDown.main_arg4) = m ((c.tc : Thread Cert.MmDown.nD Cert.MmDown.τ).loc Cert.MmDown.main_arg4))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
      ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2)
      ∧ r.2.mem ((c.tc : Thread Cert.MmDownIdeal.nD Cert.MmDownIdeal.τ).loc Cert.MmDownIdeal.main_arg3) = m ((c.tc : Thread Cert.MmDownIdeal.nD Cert.MmDownIdeal.τ).loc Cert.MmDownIdeal.main_arg3)
      ∧ r.2.mem ((c.tc : Thread Cert.MmDownIdeal.nD Cert.MmDownIdeal.τ).loc Cert.MmDownIdeal.main_arg4) = m ((c.tc : Thread Cert.MmDownIdeal.nD Cert.MmDownIdeal.τ).loc Cert.MmDownIdeal.main_arg4))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1)
      ∧ r.2.mem ((c.tc : Thread Cert.MmDownRefIdeal.nD Cert.MmDownRefIdeal.τ).loc Cert.MmDownRefIdeal.main_arg2) = m ((c.tc : Thread Cert.MmDownRefIdeal.nD Cert.MmDownRefIdeal.τ).loc Cert.MmDownRefIdeal.main_arg2)
      ∧ r.2.mem ((c.tc : Thread Cert.MmDownRefIdeal.nD Cert.MmDownRefIdeal.τ).loc Cert.MmDownRefIdeal.main_arg3) = m ((c.tc : Thread Cert.MmDownRefIdeal.nD Cert.MmDownRefIdeal.τ).loc Cert.MmDownRefIdeal.main_arg3)
      ∧ r.2.mem ((c.tc : Thread Cert.MmDownRefIdeal.nD Cert.MmDownRefIdeal.τ).loc Cert.MmDownRefIdeal.main_arg4) = m ((c.tc : Thread Cert.MmDownRefIdeal.nD Cert.MmDownRefIdeal.τ).loc Cert.MmDownRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3)
      ∧ r.2.mem ((c.tc : Thread Cert.AdamO.nD Cert.AdamO.τ).loc Cert.AdamO.main_arg4) = m ((c.tc : Thread Cert.AdamO.nD Cert.AdamO.τ).loc Cert.AdamO.main_arg4)
      ∧ r.2.mem ((c.tc : Thread Cert.AdamO.nD Cert.AdamO.τ).loc Cert.AdamO.main_arg5) = m ((c.tc : Thread Cert.AdamO.nD Cert.AdamO.τ).loc Cert.AdamO.main_arg5)
      ∧ r.2.mem ((c.tc : Thread Cert.AdamO.nD Cert.AdamO.τ).loc Cert.AdamO.main_arg6) = m ((c.tc : Thread Cert.AdamO.nD Cert.AdamO.τ).loc Cert.AdamO.main_arg6))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
      ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4)
      ∧ r.2.mem ((c.tc : Thread Cert.AdamOIdeal.nD Cert.AdamOIdeal.τ).loc Cert.AdamOIdeal.main_arg5) = m ((c.tc : Thread Cert.AdamOIdeal.nD Cert.AdamOIdeal.τ).loc Cert.AdamOIdeal.main_arg5)
      ∧ r.2.mem ((c.tc : Thread Cert.AdamOIdeal.nD Cert.AdamOIdeal.τ).loc Cert.AdamOIdeal.main_arg6) = m ((c.tc : Thread Cert.AdamOIdeal.nD Cert.AdamOIdeal.τ).loc Cert.AdamOIdeal.main_arg6))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3)
      ∧ r.2.mem ((c.tc : Thread Cert.AdamORefIdeal.nD Cert.AdamORefIdeal.τ).loc Cert.AdamORefIdeal.main_arg4) = m ((c.tc : Thread Cert.AdamORefIdeal.nD Cert.AdamORefIdeal.τ).loc Cert.AdamORefIdeal.main_arg4)
      ∧ r.2.mem ((c.tc : Thread Cert.AdamORefIdeal.nD Cert.AdamORefIdeal.τ).loc Cert.AdamORefIdeal.main_arg5) = m ((c.tc : Thread Cert.AdamORefIdeal.nD Cert.AdamORefIdeal.τ).loc Cert.AdamORefIdeal.main_arg5)
      ∧ r.2.mem ((c.tc : Thread Cert.AdamORefIdeal.nD Cert.AdamORefIdeal.τ).loc Cert.AdamORefIdeal.main_arg6) = m ((c.tc : Thread Cert.AdamORefIdeal.nD Cert.AdamORefIdeal.τ).loc Cert.AdamORefIdeal.main_arg6))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5)
      ∧ r.2.mem ((c.tc : Thread Cert.AdamUpRefIdeal.nD Cert.AdamUpRefIdeal.τ).loc Cert.AdamUpRefIdeal.main_arg6) = m ((c.tc : Thread Cert.AdamUpRefIdeal.nD Cert.AdamUpRefIdeal.τ).loc Cert.AdamUpRefIdeal.main_arg6))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5)
      ∧ r.2.mem ((c.tc : Thread Cert.AdamDown.nD Cert.AdamDown.τ).loc Cert.AdamDown.main_arg6) = m ((c.tc : Thread Cert.AdamDown.nD Cert.AdamDown.τ).loc Cert.AdamDown.main_arg6))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
      ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5)
      ∧ r.2.mem ((c.tc : Thread Cert.AdamDownRefIdeal.nD Cert.AdamDownRefIdeal.τ).loc Cert.AdamDownRefIdeal.main_arg6) = m ((c.tc : Thread Cert.AdamDownRefIdeal.nD Cert.AdamDownRefIdeal.τ).loc Cert.AdamDownRefIdeal.main_arg6))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47))
      ∧ r.2.sem = fun _ => 0)

def quiescent_LnO [hLnO : Cert.LnO.Facts] : Prop :=
  ∀ (m : (ℓ : Loc Cert.LnO.nD Cert.LnO.τ Cert.LnO.sig) → Buf (Elt Bits) ℓ) (g : Dev Cert.LnO.nD → PrngReg), Pre_LnO m →
    θ_run (Cert.LnO.defs (F := Bits)) (onTc (τ := Cert.LnO.τ) (Cert.LnO.main (F := Bits))) ⟨m, fun _ => 0, g⟩ (fun r => (∀ c : Dev Cert.LnO.nD,
      r.2.mem ((c.tc : Thread Cert.LnO.nD Cert.LnO.τ).loc Cert.LnO.main_arg0) = m ((c.tc : Thread Cert.LnO.nD Cert.LnO.τ).loc Cert.LnO.main_arg0)
      ∧ r.2.mem ((c.tc : Thread Cert.LnO.nD Cert.LnO.τ).loc Cert.LnO.main_arg1) = m ((c.tc : Thread Cert.LnO.nD Cert.LnO.τ).loc Cert.LnO.main_arg1)
      ∧ r.2.mem ((c.tc : Thread Cert.LnO.nD Cert.LnO.τ).loc Cert.LnO.main_arg2) = m ((c.tc : Thread Cert.LnO.nD Cert.LnO.τ).loc Cert.LnO.main_arg2)
      ∧ r.2.mem ((c.tc : Thread Cert.LnO.nD Cert.LnO.τ).loc Cert.LnO.main_arg3) = m ((c.tc : Thread Cert.LnO.nD Cert.LnO.τ).loc Cert.LnO.main_arg3)
      ∧ r.2.mem ((c.tc : Thread Cert.LnO.nD Cert.LnO.τ).loc Cert.LnO.main_arg4) = m ((c.tc : Thread Cert.LnO.nD Cert.LnO.τ).loc Cert.LnO.main_arg4)
      ∧ r.2.mem ((c.tc : Thread Cert.LnO.nD Cert.LnO.τ).loc Cert.LnO.main_arg5) = m ((c.tc : Thread Cert.LnO.nD Cert.LnO.τ).loc Cert.LnO.main_arg5))
      ∧ r.2.sem = fun _ => 0)

def quiescent_LnOIdeal [hLnOIdeal : Cert.LnOIdeal.Facts] : Prop :=
  ∀ (m : (ℓ : Loc Cert.LnOIdeal.nD Cert.LnOIdeal.τ Cert.LnOIdeal.sig) → Buf (Elt Ideal) ℓ) (g : Dev Cert.LnOIdeal.nD → PrngReg), Pre_LnOIdeal m →
    θ_run (Cert.LnOIdeal.defs (F := Ideal)) (onTc (τ := Cert.LnOIdeal.τ) (Cert.LnOIdeal.main (F := Ideal))) ⟨m, fun _ => 0, g⟩ (fun r => (∀ c : Dev Cert.LnOIdeal.nD,
      r.2.mem ((c.tc : Thread Cert.LnOIdeal.nD Cert.LnOIdeal.τ).loc Cert.LnOIdeal.main_arg0) = m ((c.tc : Thread Cert.LnOIdeal.nD Cert.LnOIdeal.τ).loc Cert.LnOIdeal.main_arg0)
      ∧ r.2.mem ((c.tc : Thread Cert.LnOIdeal.nD Cert.LnOIdeal.τ).loc Cert.LnOIdeal.main_arg1) = m ((c.tc : Thread Cert.LnOIdeal.nD Cert.LnOIdeal.τ).loc Cert.LnOIdeal.main_arg1)
      ∧ r.2.mem ((c.tc : Thread Cert.LnOIdeal.nD Cert.LnOIdeal.τ).loc Cert.LnOIdeal.main_arg2) = m ((c.tc : Thread Cert.LnOIdeal.nD Cert.LnOIdeal.τ).loc Cert.LnOIdeal.main_arg2)
      ∧ r.2.mem ((c.tc : Thread Cert.LnOIdeal.nD Cert.LnOIdeal.τ).loc Cert.LnOIdeal.main_arg3) = m ((c.tc : Thread Cert.LnOIdeal.nD Cert.LnOIdeal.τ).loc Cert.LnOIdeal.main_arg3)
      ∧ r.2.mem ((c.tc : Thread Cert.LnOIdeal.nD Cert.LnOIdeal.τ).loc Cert.LnOIdeal.main_arg4) = m ((c.tc : Thread Cert.LnOIdeal.nD Cert.LnOIdeal.τ).loc Cert.LnOIdeal.main_arg4)
      ∧ r.2.mem ((c.tc : Thread Cert.LnOIdeal.nD Cert.LnOIdeal.τ).loc Cert.LnOIdeal.main_arg5) = m ((c.tc : Thread Cert.LnOIdeal.nD Cert.LnOIdeal.τ).loc Cert.LnOIdeal.main_arg5))
      ∧ r.2.sem = fun _ => 0)

def quiescent_LnOIdeal_pre_finite_o [hLnOIdeal : Cert.LnOIdeal.Facts] [hPre_finite_o : Cert.Pre_finite_o.Facts] : Prop :=
  ∀ (m : (ℓ : Loc Cert.LnOIdeal.nD Cert.LnOIdeal.τ Cert.LnOIdeal.sig) → Buf (Elt Ideal) ℓ) (g : Dev Cert.LnOIdeal.nD → PrngReg), Pre_LnOIdeal_finite_o m →
    θ_run (Cert.LnOIdeal.defs (F := Ideal)) (onTc (τ := Cert.LnOIdeal.τ) (Cert.LnOIdeal.main (F := Ideal))) ⟨m, fun _ => 0, g⟩ (fun r => (∀ c : Dev Cert.LnOIdeal.nD,
      r.2.mem ((c.tc : Thread Cert.LnOIdeal.nD Cert.LnOIdeal.τ).loc Cert.LnOIdeal.main_arg0) = m ((c.tc : Thread Cert.LnOIdeal.nD Cert.LnOIdeal.τ).loc Cert.LnOIdeal.main_arg0)
      ∧ r.2.mem ((c.tc : Thread Cert.LnOIdeal.nD Cert.LnOIdeal.τ).loc Cert.LnOIdeal.main_arg1) = m ((c.tc : Thread Cert.LnOIdeal.nD Cert.LnOIdeal.τ).loc Cert.LnOIdeal.main_arg1)
      ∧ r.2.mem ((c.tc : Thread Cert.LnOIdeal.nD Cert.LnOIdeal.τ).loc Cert.LnOIdeal.main_arg2) = m ((c.tc : Thread Cert.LnOIdeal.nD Cert.LnOIdeal.τ).loc Cert.LnOIdeal.main_arg2)
      ∧ r.2.mem ((c.tc : Thread Cert.LnOIdeal.nD Cert.LnOIdeal.τ).loc Cert.LnOIdeal.main_arg3) = m ((c.tc : Thread Cert.LnOIdeal.nD Cert.LnOIdeal.τ).loc Cert.LnOIdeal.main_arg3)
      ∧ r.2.mem ((c.tc : Thread Cert.LnOIdeal.nD Cert.LnOIdeal.τ).loc Cert.LnOIdeal.main_arg4) = m ((c.tc : Thread Cert.LnOIdeal.nD Cert.LnOIdeal.τ).loc Cert.LnOIdeal.main_arg4)
      ∧ r.2.mem ((c.tc : Thread Cert.LnOIdeal.nD Cert.LnOIdeal.τ).loc Cert.LnOIdeal.main_arg5) = m ((c.tc : Thread Cert.LnOIdeal.nD Cert.LnOIdeal.τ).loc Cert.LnOIdeal.main_arg5))
      ∧ r.2.sem = fun _ => 0)

def quiescent_LnORefIdeal [hLnORefIdeal : Cert.LnORefIdeal.Facts] : Prop :=
  ∀ (m : (ℓ : Loc Cert.LnORefIdeal.nD Cert.LnORefIdeal.τ Cert.LnORefIdeal.sig) → Buf (Elt Ideal) ℓ) (g : Dev Cert.LnORefIdeal.nD → PrngReg), Pre_LnORefIdeal m →
    θ_run (Cert.LnORefIdeal.defs (F := Ideal)) (onTc (τ := Cert.LnORefIdeal.τ) (Cert.LnORefIdeal.main (F := Ideal))) ⟨m, fun _ => 0, g⟩ (fun r => (∀ c : Dev Cert.LnORefIdeal.nD,
      r.2.mem ((c.tc : Thread Cert.LnORefIdeal.nD Cert.LnORefIdeal.τ).loc Cert.LnORefIdeal.main_arg0) = m ((c.tc : Thread Cert.LnORefIdeal.nD Cert.LnORefIdeal.τ).loc Cert.LnORefIdeal.main_arg0)
      ∧ r.2.mem ((c.tc : Thread Cert.LnORefIdeal.nD Cert.LnORefIdeal.τ).loc Cert.LnORefIdeal.main_arg1) = m ((c.tc : Thread Cert.LnORefIdeal.nD Cert.LnORefIdeal.τ).loc Cert.LnORefIdeal.main_arg1)
      ∧ r.2.mem ((c.tc : Thread Cert.LnORefIdeal.nD Cert.LnORefIdeal.τ).loc Cert.LnORefIdeal.main_arg2) = m ((c.tc : Thread Cert.LnORefIdeal.nD Cert.LnORefIdeal.τ).loc Cert.LnORefIdeal.main_arg2)
      ∧ r.2.mem ((c.tc : Thread Cert.LnORefIdeal.nD Cert.LnORefIdeal.τ).loc Cert.LnORefIdeal.main_arg3) = m ((c.tc : Thread Cert.LnORefIdeal.nD Cert.LnORefIdeal.τ).loc Cert.LnORefIdeal.main_arg3)
      ∧ r.2.mem ((c.tc : Thread Cert.LnORefIdeal.nD Cert.LnORefIdeal.τ).loc Cert.LnORefIdeal.main_arg4) = m ((c.tc : Thread Cert.LnORefIdeal.nD Cert.LnORefIdeal.τ).loc Cert.LnORefIdeal.main_arg4)
      ∧ r.2.mem ((c.tc : Thread Cert.LnORefIdeal.nD Cert.LnORefIdeal.τ).loc Cert.LnORefIdeal.main_arg5) = m ((c.tc : Thread Cert.LnORefIdeal.nD Cert.LnORefIdeal.τ).loc Cert.LnORefIdeal.main_arg5))
      ∧ r.2.sem = fun _ => 0)

def quiescent_LnORefIdeal_pre_finite_o [hLnORefIdeal : Cert.LnORefIdeal.Facts] [hPre_finite_o : Cert.Pre_finite_o.Facts] : Prop :=
  ∀ (m : (ℓ : Loc Cert.LnORefIdeal.nD Cert.LnORefIdeal.τ Cert.LnORefIdeal.sig) → Buf (Elt Ideal) ℓ) (g : Dev Cert.LnORefIdeal.nD → PrngReg), Pre_LnORefIdeal_finite_o m →
    θ_run (Cert.LnORefIdeal.defs (F := Ideal)) (onTc (τ := Cert.LnORefIdeal.τ) (Cert.LnORefIdeal.main (F := Ideal))) ⟨m, fun _ => 0, g⟩ (fun r => (∀ c : Dev Cert.LnORefIdeal.nD,
      r.2.mem ((c.tc : Thread Cert.LnORefIdeal.nD Cert.LnORefIdeal.τ).loc Cert.LnORefIdeal.main_arg0) = m ((c.tc : Thread Cert.LnORefIdeal.nD Cert.LnORefIdeal.τ).loc Cert.LnORefIdeal.main_arg0)
      ∧ r.2.mem ((c.tc : Thread Cert.LnORefIdeal.nD Cert.LnORefIdeal.τ).loc Cert.LnORefIdeal.main_arg1) = m ((c.tc : Thread Cert.LnORefIdeal.nD Cert.LnORefIdeal.τ).loc Cert.LnORefIdeal.main_arg1)
      ∧ r.2.mem ((c.tc : Thread Cert.LnORefIdeal.nD Cert.LnORefIdeal.τ).loc Cert.LnORefIdeal.main_arg2) = m ((c.tc : Thread Cert.LnORefIdeal.nD Cert.LnORefIdeal.τ).loc Cert.LnORefIdeal.main_arg2)
      ∧ r.2.mem ((c.tc : Thread Cert.LnORefIdeal.nD Cert.LnORefIdeal.τ).loc Cert.LnORefIdeal.main_arg3) = m ((c.tc : Thread Cert.LnORefIdeal.nD Cert.LnORefIdeal.τ).loc Cert.LnORefIdeal.main_arg3)
      ∧ r.2.mem ((c.tc : Thread Cert.LnORefIdeal.nD Cert.LnORefIdeal.τ).loc Cert.LnORefIdeal.main_arg4) = m ((c.tc : Thread Cert.LnORefIdeal.nD Cert.LnORefIdeal.τ).loc Cert.LnORefIdeal.main_arg4)
      ∧ r.2.mem ((c.tc : Thread Cert.LnORefIdeal.nD Cert.LnORefIdeal.τ).loc Cert.LnORefIdeal.main_arg5) = m ((c.tc : Thread Cert.LnORefIdeal.nD Cert.LnORefIdeal.τ).loc Cert.LnORefIdeal.main_arg5))
      ∧ r.2.sem = fun _ => 0)

def quiescent_LnDown [hLnDown : Cert.LnDown.Facts] : Prop :=
  ∀ (m : (ℓ : Loc Cert.LnDown.nD Cert.LnDown.τ Cert.LnDown.sig) → Buf (Elt Bits) ℓ) (g : Dev Cert.LnDown.nD → PrngReg), Pre_LnDown m →
    θ_run (Cert.LnDown.defs (F := Bits)) (onTc (τ := Cert.LnDown.τ) (Cert.LnDown.main (F := Bits))) ⟨m, fun _ => 0, g⟩ (fun r => (∀ c : Dev Cert.LnDown.nD,
      r.2.mem ((c.tc : Thread Cert.LnDown.nD Cert.LnDown.τ).loc Cert.LnDown.main_arg0) = m ((c.tc : Thread Cert.LnDown.nD Cert.LnDown.τ).loc Cert.LnDown.main_arg0)
      ∧ r.2.mem ((c.tc : Thread Cert.LnDown.nD Cert.LnDown.τ).loc Cert.LnDown.main_arg1) = m ((c.tc : Thread Cert.LnDown.nD Cert.LnDown.τ).loc Cert.LnDown.main_arg1)
      ∧ r.2.mem ((c.tc : Thread Cert.LnDown.nD Cert.LnDown.τ).loc Cert.LnDown.main_arg2) = m ((c.tc : Thread Cert.LnDown.nD Cert.LnDown.τ).loc Cert.LnDown.main_arg2)
      ∧ r.2.mem ((c.tc : Thread Cert.LnDown.nD Cert.LnDown.τ).loc Cert.LnDown.main_arg3) = m ((c.tc : Thread Cert.LnDown.nD Cert.LnDown.τ).loc Cert.LnDown.main_arg3)
      ∧ r.2.mem ((c.tc : Thread Cert.LnDown.nD Cert.LnDown.τ).loc Cert.LnDown.main_arg4) = m ((c.tc : Thread Cert.LnDown.nD Cert.LnDown.τ).loc Cert.LnDown.main_arg4)
      ∧ r.2.mem ((c.tc : Thread Cert.LnDown.nD Cert.LnDown.τ).loc Cert.LnDown.main_arg5) = m ((c.tc : Thread Cert.LnDown.nD Cert.LnDown.τ).loc Cert.LnDown.main_arg5))
      ∧ r.2.sem = fun _ => 0)

def quiescent_LnDownIdeal [hLnDownIdeal : Cert.LnDownIdeal.Facts] : Prop :=
  ∀ (m : (ℓ : Loc Cert.LnDownIdeal.nD Cert.LnDownIdeal.τ Cert.LnDownIdeal.sig) → Buf (Elt Ideal) ℓ) (g : Dev Cert.LnDownIdeal.nD → PrngReg), Pre_LnDownIdeal m →
    θ_run (Cert.LnDownIdeal.defs (F := Ideal)) (onTc (τ := Cert.LnDownIdeal.τ) (Cert.LnDownIdeal.main (F := Ideal))) ⟨m, fun _ => 0, g⟩ (fun r => (∀ c : Dev Cert.LnDownIdeal.nD,
      r.2.mem ((c.tc : Thread Cert.LnDownIdeal.nD Cert.LnDownIdeal.τ).loc Cert.LnDownIdeal.main_arg0) = m ((c.tc : Thread Cert.LnDownIdeal.nD Cert.LnDownIdeal.τ).loc Cert.LnDownIdeal.main_arg0)
      ∧ r.2.mem ((c.tc : Thread Cert.LnDownIdeal.nD Cert.LnDownIdeal.τ).loc Cert.LnDownIdeal.main_arg1) = m ((c.tc : Thread Cert.LnDownIdeal.nD Cert.LnDownIdeal.τ).loc Cert.LnDownIdeal.main_arg1)
      ∧ r.2.mem ((c.tc : Thread Cert.LnDownIdeal.nD Cert.LnDownIdeal.τ).loc Cert.LnDownIdeal.main_arg2) = m ((c.tc : Thread Cert.LnDownIdeal.nD Cert.LnDownIdeal.τ).loc Cert.LnDownIdeal.main_arg2)
      ∧ r.2.mem ((c.tc : Thread Cert.LnDownIdeal.nD Cert.LnDownIdeal.τ).loc Cert.LnDownIdeal.main_arg3) = m ((c.tc : Thread Cert.LnDownIdeal.nD Cert.LnDownIdeal.τ).loc Cert.LnDownIdeal.main_arg3)
      ∧ r.2.mem ((c.tc : Thread Cert.LnDownIdeal.nD Cert.LnDownIdeal.τ).loc Cert.LnDownIdeal.main_arg4) = m ((c.tc : Thread Cert.LnDownIdeal.nD Cert.LnDownIdeal.τ).loc Cert.LnDownIdeal.main_arg4)
      ∧ r.2.mem ((c.tc : Thread Cert.LnDownIdeal.nD Cert.LnDownIdeal.τ).loc Cert.LnDownIdeal.main_arg5) = m ((c.tc : Thread Cert.LnDownIdeal.nD Cert.LnDownIdeal.τ).loc Cert.LnDownIdeal.main_arg5))
      ∧ r.2.sem = fun _ => 0)

def quiescent_LnDownIdeal_pre_finite_down [hLnDownIdeal : Cert.LnDownIdeal.Facts] [hPre_finite_down : Cert.Pre_finite_down.Facts] : Prop :=
  ∀ (m : (ℓ : Loc Cert.LnDownIdeal.nD Cert.LnDownIdeal.τ Cert.LnDownIdeal.sig) → Buf (Elt Ideal) ℓ) (g : Dev Cert.LnDownIdeal.nD → PrngReg), Pre_LnDownIdeal_finite_down m →
    θ_run (Cert.LnDownIdeal.defs (F := Ideal)) (onTc (τ := Cert.LnDownIdeal.τ) (Cert.LnDownIdeal.main (F := Ideal))) ⟨m, fun _ => 0, g⟩ (fun r => (∀ c : Dev Cert.LnDownIdeal.nD,
      r.2.mem ((c.tc : Thread Cert.LnDownIdeal.nD Cert.LnDownIdeal.τ).loc Cert.LnDownIdeal.main_arg0) = m ((c.tc : Thread Cert.LnDownIdeal.nD Cert.LnDownIdeal.τ).loc Cert.LnDownIdeal.main_arg0)
      ∧ r.2.mem ((c.tc : Thread Cert.LnDownIdeal.nD Cert.LnDownIdeal.τ).loc Cert.LnDownIdeal.main_arg1) = m ((c.tc : Thread Cert.LnDownIdeal.nD Cert.LnDownIdeal.τ).loc Cert.LnDownIdeal.main_arg1)
      ∧ r.2.mem ((c.tc : Thread Cert.LnDownIdeal.nD Cert.LnDownIdeal.τ).loc Cert.LnDownIdeal.main_arg2) = m ((c.tc : Thread Cert.LnDownIdeal.nD Cert.LnDownIdeal.τ).loc Cert.LnDownIdeal.main_arg2)
      ∧ r.2.mem ((c.tc : Thread Cert.LnDownIdeal.nD Cert.LnDownIdeal.τ).loc Cert.LnDownIdeal.main_arg3) = m ((c.tc : Thread Cert.LnDownIdeal.nD Cert.LnDownIdeal.τ).loc Cert.LnDownIdeal.main_arg3)
      ∧ r.2.mem ((c.tc : Thread Cert.LnDownIdeal.nD Cert.LnDownIdeal.τ).loc Cert.LnDownIdeal.main_arg4) = m ((c.tc : Thread Cert.LnDownIdeal.nD Cert.LnDownIdeal.τ).loc Cert.LnDownIdeal.main_arg4)
      ∧ r.2.mem ((c.tc : Thread Cert.LnDownIdeal.nD Cert.LnDownIdeal.τ).loc Cert.LnDownIdeal.main_arg5) = m ((c.tc : Thread Cert.LnDownIdeal.nD Cert.LnDownIdeal.τ).loc Cert.LnDownIdeal.main_arg5))
      ∧ r.2.sem = fun _ => 0)

def quiescent_LnDownRefIdeal [hLnDownRefIdeal : Cert.LnDownRefIdeal.Facts] : Prop :=
  ∀ (m : (ℓ : Loc Cert.LnDownRefIdeal.nD Cert.LnDownRefIdeal.τ Cert.LnDownRefIdeal.sig) → Buf (Elt Ideal) ℓ) (g : Dev Cert.LnDownRefIdeal.nD → PrngReg), Pre_LnDownRefIdeal m →
    θ_run (Cert.LnDownRefIdeal.defs (F := Ideal)) (onTc (τ := Cert.LnDownRefIdeal.τ) (Cert.LnDownRefIdeal.main (F := Ideal))) ⟨m, fun _ => 0, g⟩ (fun r => (∀ c : Dev Cert.LnDownRefIdeal.nD,
      r.2.mem ((c.tc : Thread Cert.LnDownRefIdeal.nD Cert.LnDownRefIdeal.τ).loc Cert.LnDownRefIdeal.main_arg0) = m ((c.tc : Thread Cert.LnDownRefIdeal.nD Cert.LnDownRefIdeal.τ).loc Cert.LnDownRefIdeal.main_arg0)
      ∧ r.2.mem ((c.tc : Thread Cert.LnDownRefIdeal.nD Cert.LnDownRefIdeal.τ).loc Cert.LnDownRefIdeal.main_arg1) = m ((c.tc : Thread Cert.LnDownRefIdeal.nD Cert.LnDownRefIdeal.τ).loc Cert.LnDownRefIdeal.main_arg1)
      ∧ r.2.mem ((c.tc : Thread Cert.LnDownRefIdeal.nD Cert.LnDownRefIdeal.τ).loc Cert.LnDownRefIdeal.main_arg2) = m ((c.tc : Thread Cert.LnDownRefIdeal.nD Cert.LnDownRefIdeal.τ).loc Cert.LnDownRefIdeal.main_arg2)
      ∧ r.2.mem ((c.tc : Thread Cert.LnDownRefIdeal.nD Cert.LnDownRefIdeal.τ).loc Cert.LnDownRefIdeal.main_arg3) = m ((c.tc : Thread Cert.LnDownRefIdeal.nD Cert.LnDownRefIdeal.τ).loc Cert.LnDownRefIdeal.main_arg3)
      ∧ r.2.mem ((c.tc : Thread Cert.LnDownRefIdeal.nD Cert.LnDownRefIdeal.τ).loc Cert.LnDownRefIdeal.main_arg4) = m ((c.tc : Thread Cert.LnDownRefIdeal.nD Cert.LnDownRefIdeal.τ).loc Cert.LnDownRefIdeal.main_arg4)
      ∧ r.2.mem ((c.tc : Thread Cert.LnDownRefIdeal.nD Cert.LnDownRefIdeal.τ).loc Cert.LnDownRefIdeal.main_arg5) = m ((c.tc : Thread Cert.LnDownRefIdeal.nD Cert.LnDownRefIdeal.τ).loc Cert.LnDownRefIdeal.main_arg5))
      ∧ r.2.sem = fun _ => 0)

def quiescent_LnDownRefIdeal_pre_finite_down [hLnDownRefIdeal : Cert.LnDownRefIdeal.Facts] [hPre_finite_down : Cert.Pre_finite_down.Facts] : Prop :=
  ∀ (m : (ℓ : Loc Cert.LnDownRefIdeal.nD Cert.LnDownRefIdeal.τ Cert.LnDownRefIdeal.sig) → Buf (Elt Ideal) ℓ) (g : Dev Cert.LnDownRefIdeal.nD → PrngReg), Pre_LnDownRefIdeal_finite_down m →
    θ_run (Cert.LnDownRefIdeal.defs (F := Ideal)) (onTc (τ := Cert.LnDownRefIdeal.τ) (Cert.LnDownRefIdeal.main (F := Ideal))) ⟨m, fun _ => 0, g⟩ (fun r => (∀ c : Dev Cert.LnDownRefIdeal.nD,
      r.2.mem ((c.tc : Thread Cert.LnDownRefIdeal.nD Cert.LnDownRefIdeal.τ).loc Cert.LnDownRefIdeal.main_arg0) = m ((c.tc : Thread Cert.LnDownRefIdeal.nD Cert.LnDownRefIdeal.τ).loc Cert.LnDownRefIdeal.main_arg0)
      ∧ r.2.mem ((c.tc : Thread Cert.LnDownRefIdeal.nD Cert.LnDownRefIdeal.τ).loc Cert.LnDownRefIdeal.main_arg1) = m ((c.tc : Thread Cert.LnDownRefIdeal.nD Cert.LnDownRefIdeal.τ).loc Cert.LnDownRefIdeal.main_arg1)
      ∧ r.2.mem ((c.tc : Thread Cert.LnDownRefIdeal.nD Cert.LnDownRefIdeal.τ).loc Cert.LnDownRefIdeal.main_arg2) = m ((c.tc : Thread Cert.LnDownRefIdeal.nD Cert.LnDownRefIdeal.τ).loc Cert.LnDownRefIdeal.main_arg2)
      ∧ r.2.mem ((c.tc : Thread Cert.LnDownRefIdeal.nD Cert.LnDownRefIdeal.τ).loc Cert.LnDownRefIdeal.main_arg3) = m ((c.tc : Thread Cert.LnDownRefIdeal.nD Cert.LnDownRefIdeal.τ).loc Cert.LnDownRefIdeal.main_arg3)
      ∧ r.2.mem ((c.tc : Thread Cert.LnDownRefIdeal.nD Cert.LnDownRefIdeal.τ).loc Cert.LnDownRefIdeal.main_arg4) = m ((c.tc : Thread Cert.LnDownRefIdeal.nD Cert.LnDownRefIdeal.τ).loc Cert.LnDownRefIdeal.main_arg4)
      ∧ r.2.mem ((c.tc : Thread Cert.LnDownRefIdeal.nD Cert.LnDownRefIdeal.τ).loc Cert.LnDownRefIdeal.main_arg5) = m ((c.tc : Thread Cert.LnDownRefIdeal.nD Cert.LnDownRefIdeal.τ).loc Cert.LnDownRefIdeal.main_arg5))
      ∧ r.2.sem = fun _ => 0)

def quiescent_LnLoss [hLnLoss : Cert.LnLoss.Facts] : Prop :=
  ∀ (m : (ℓ : Loc Cert.LnLoss.nD Cert.LnLoss.τ Cert.LnLoss.sig) → Buf (Elt Bits) ℓ) (g : Dev Cert.LnLoss.nD → PrngReg), Pre_LnLoss m →
    θ_run (Cert.LnLoss.defs (F := Bits)) (onTc (τ := Cert.LnLoss.τ) (Cert.LnLoss.main (F := Bits))) ⟨m, fun _ => 0, g⟩ (fun r => (∀ c : Dev Cert.LnLoss.nD,
      r.2.mem ((c.tc : Thread Cert.LnLoss.nD Cert.LnLoss.τ).loc Cert.LnLoss.main_arg0) = m ((c.tc : Thread Cert.LnLoss.nD Cert.LnLoss.τ).loc Cert.LnLoss.main_arg0)
      ∧ r.2.mem ((c.tc : Thread Cert.LnLoss.nD Cert.LnLoss.τ).loc Cert.LnLoss.main_arg1) = m ((c.tc : Thread Cert.LnLoss.nD Cert.LnLoss.τ).loc Cert.LnLoss.main_arg1)
      ∧ r.2.mem ((c.tc : Thread Cert.LnLoss.nD Cert.LnLoss.τ).loc Cert.LnLoss.main_arg2) = m ((c.tc : Thread Cert.LnLoss.nD Cert.LnLoss.τ).loc Cert.LnLoss.main_arg2)
      ∧ r.2.mem ((c.tc : Thread Cert.LnLoss.nD Cert.LnLoss.τ).loc Cert.LnLoss.main_arg3) = m ((c.tc : Thread Cert.LnLoss.nD Cert.LnLoss.τ).loc Cert.LnLoss.main_arg3)
      ∧ r.2.mem ((c.tc : Thread Cert.LnLoss.nD Cert.LnLoss.τ).loc Cert.LnLoss.main_arg4) = m ((c.tc : Thread Cert.LnLoss.nD Cert.LnLoss.τ).loc Cert.LnLoss.main_arg4)
      ∧ r.2.mem ((c.tc : Thread Cert.LnLoss.nD Cert.LnLoss.τ).loc Cert.LnLoss.main_arg5) = m ((c.tc : Thread Cert.LnLoss.nD Cert.LnLoss.τ).loc Cert.LnLoss.main_arg5))
      ∧ r.2.sem = fun _ => 0)

def quiescent_LnLossIdeal [hLnLossIdeal : Cert.LnLossIdeal.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
      ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4)
      ∧ r.2.mem ((c.tc : Thread Cert.LnLossIdeal.nD Cert.LnLossIdeal.τ).loc Cert.LnLossIdeal.main_arg5) = m ((c.tc : Thread Cert.LnLossIdeal.nD Cert.LnLossIdeal.τ).loc Cert.LnLossIdeal.main_arg5))
      ∧ r.2.sem = fun _ => 0)

def quiescent_LnLossIdeal_pre_finite_loss [hLnLossIdeal : Cert.LnLossIdeal.Facts] [hPre_finite_loss : Cert.Pre_finite_loss.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal_finite_loss m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
      ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4)
      ∧ r.2.mem ((c.tc : Thread Cert.LnLossIdeal.nD Cert.LnLossIdeal.τ).loc Cert.LnLossIdeal.main_arg5) = m ((c.tc : Thread Cert.LnLossIdeal.nD Cert.LnLossIdeal.τ).loc Cert.LnLossIdeal.main_arg5))
      ∧ r.2.sem = fun _ => 0)

def quiescent_LnLossRefIdeal [hLnLossRefIdeal : Cert.LnLossRefIdeal.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3)
      ∧ r.2.mem ((c.tc : Thread Cert.LnLossRefIdeal.nD Cert.LnLossRefIdeal.τ).loc Cert.LnLossRefIdeal.main_arg4) = m ((c.tc : Thread Cert.LnLossRefIdeal.nD Cert.LnLossRefIdeal.τ).loc Cert.LnLossRefIdeal.main_arg4)
      ∧ r.2.mem ((c.tc : Thread Cert.LnLossRefIdeal.nD Cert.LnLossRefIdeal.τ).loc Cert.LnLossRefIdeal.main_arg5) = m ((c.tc : Thread Cert.LnLossRefIdeal.nD Cert.LnLossRefIdeal.τ).loc Cert.LnLossRefIdeal.main_arg5))
      ∧ r.2.sem = fun _ => 0)

def quiescent_LnLossRefIdeal_pre_finite_loss [hLnLossRefIdeal : Cert.LnLossRefIdeal.Facts] [hPre_finite_loss : Cert.Pre_finite_loss.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal_finite_loss m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3)
      ∧ r.2.mem ((c.tc : Thread Cert.LnLossRefIdeal.nD Cert.LnLossRefIdeal.τ).loc Cert.LnLossRefIdeal.main_arg4) = m ((c.tc : Thread Cert.LnLossRefIdeal.nD Cert.LnLossRefIdeal.τ).loc Cert.LnLossRefIdeal.main_arg4)
      ∧ r.2.mem ((c.tc : Thread Cert.LnLossRefIdeal.nD Cert.LnLossRefIdeal.τ).loc Cert.LnLossRefIdeal.main_arg5) = m ((c.tc : Thread Cert.LnLossRefIdeal.nD Cert.LnLossRefIdeal.τ).loc Cert.LnLossRefIdeal.main_arg5))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2)
      ∧ r.2.mem ((c.tc : Thread Cert.SumSmall.nD Cert.SumSmall.τ).loc Cert.SumSmall.main_arg3) = m ((c.tc : Thread Cert.SumSmall.nD Cert.SumSmall.τ).loc Cert.SumSmall.main_arg3)
      ∧ r.2.mem ((c.tc : Thread Cert.SumSmall.nD Cert.SumSmall.τ).loc Cert.SumSmall.main_arg4) = m ((c.tc : Thread Cert.SumSmall.nD Cert.SumSmall.τ).loc Cert.SumSmall.main_arg4)
      ∧ r.2.mem ((c.tc : Thread Cert.SumSmall.nD Cert.SumSmall.τ).loc Cert.SumSmall.main_arg5) = m ((c.tc : Thread Cert.SumSmall.nD Cert.SumSmall.τ).loc Cert.SumSmall.main_arg5)
      ∧ r.2.mem ((c.tc : Thread Cert.SumSmall.nD Cert.SumSmall.τ).loc Cert.SumSmall.main_arg6) = m ((c.tc : Thread Cert.SumSmall.nD Cert.SumSmall.τ).loc Cert.SumSmall.main_arg6)
      ∧ r.2.mem ((c.tc : Thread Cert.SumSmall.nD Cert.SumSmall.τ).loc Cert.SumSmall.main_arg7) = m ((c.tc : Thread Cert.SumSmall.nD Cert.SumSmall.τ).loc Cert.SumSmall.main_arg7)
      ∧ r.2.mem ((c.tc : Thread Cert.SumSmall.nD Cert.SumSmall.τ).loc Cert.SumSmall.main_arg8) = m ((c.tc : Thread Cert.SumSmall.nD Cert.SumSmall.τ).loc Cert.SumSmall.main_arg8)
      ∧ r.2.mem ((c.tc : Thread Cert.SumSmall.nD Cert.SumSmall.τ).loc Cert.SumSmall.main_arg9) = m ((c.tc : Thread Cert.SumSmall.nD Cert.SumSmall.τ).loc Cert.SumSmall.main_arg9)
      ∧ r.2.mem ((c.tc : Thread Cert.SumSmall.nD Cert.SumSmall.τ).loc Cert.SumSmall.main_arg10) = m ((c.tc : Thread Cert.SumSmall.nD Cert.SumSmall.τ).loc Cert.SumSmall.main_arg10)
      ∧ r.2.mem ((c.tc : Thread Cert.SumSmall.nD Cert.SumSmall.τ).loc Cert.SumSmall.main_arg11) = m ((c.tc : Thread Cert.SumSmall.nD Cert.SumSmall.τ).loc Cert.SumSmall.main_arg11)
      ∧ r.2.mem ((c.tc : Thread Cert.SumSmall.nD Cert.SumSmall.τ).loc Cert.SumSmall.main_arg12) = m ((c.tc : Thread Cert.SumSmall.nD Cert.SumSmall.τ).loc Cert.SumSmall.main_arg12))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
      ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
      ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
      ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
      ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
      ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
      ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8)
      ∧ r.2.mem ((c.tc : Thread Cert.SumSmallIdeal.nD Cert.SumSmallIdeal.τ).loc Cert.SumSmallIdeal.main_arg9) = m ((c.tc : Thread Cert.SumSmallIdeal.nD Cert.SumSmallIdeal.τ).loc Cert.SumSmallIdeal.main_arg9)
      ∧ r.2.mem ((c.tc : Thread Cert.SumSmallIdeal.nD Cert.SumSmallIdeal.τ).loc Cert.SumSmallIdeal.main_arg10) = m ((c.tc : Thread Cert.SumSmallIdeal.nD Cert.SumSmallIdeal.τ).loc Cert.SumSmallIdeal.main_arg10)
      ∧ r.2.mem ((c.tc : Thread Cert.SumSmallIdeal.nD Cert.SumSmallIdeal.τ).loc Cert.SumSmallIdeal.main_arg11) = m ((c.tc : Thread Cert.SumSmallIdeal.nD Cert.SumSmallIdeal.τ).loc Cert.SumSmallIdeal.main_arg11)
      ∧ r.2.mem ((c.tc : Thread Cert.SumSmallIdeal.nD Cert.SumSmallIdeal.τ).loc Cert.SumSmallIdeal.main_arg12) = m ((c.tc : Thread Cert.SumSmallIdeal.nD Cert.SumSmallIdeal.τ).loc Cert.SumSmallIdeal.main_arg12))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1)
      ∧ r.2.mem ((c.tc : Thread Cert.SumSmallRefIdeal.nD Cert.SumSmallRefIdeal.τ).loc Cert.SumSmallRefIdeal.main_arg2) = m ((c.tc : Thread Cert.SumSmallRefIdeal.nD Cert.SumSmallRefIdeal.τ).loc Cert.SumSmallRefIdeal.main_arg2)
      ∧ r.2.mem ((c.tc : Thread Cert.SumSmallRefIdeal.nD Cert.SumSmallRefIdeal.τ).loc Cert.SumSmallRefIdeal.main_arg3) = m ((c.tc : Thread Cert.SumSmallRefIdeal.nD Cert.SumSmallRefIdeal.τ).loc Cert.SumSmallRefIdeal.main_arg3)
      ∧ r.2.mem ((c.tc : Thread Cert.SumSmallRefIdeal.nD Cert.SumSmallRefIdeal.τ).loc Cert.SumSmallRefIdeal.main_arg4) = m ((c.tc : Thread Cert.SumSmallRefIdeal.nD Cert.SumSmallRefIdeal.τ).loc Cert.SumSmallRefIdeal.main_arg4)
      ∧ r.2.mem ((c.tc : Thread Cert.SumSmallRefIdeal.nD Cert.SumSmallRefIdeal.τ).loc Cert.SumSmallRefIdeal.main_arg5) = m ((c.tc : Thread Cert.SumSmallRefIdeal.nD Cert.SumSmallRefIdeal.τ).loc Cert.SumSmallRefIdeal.main_arg5)
      ∧ r.2.mem ((c.tc : Thread Cert.SumSmallRefIdeal.nD Cert.SumSmallRefIdeal.τ).loc Cert.SumSmallRefIdeal.main_arg6) = m ((c.tc : Thread Cert.SumSmallRefIdeal.nD Cert.SumSmallRefIdeal.τ).loc Cert.SumSmallRefIdeal.main_arg6)
      ∧ r.2.mem ((c.tc : Thread Cert.SumSmallRefIdeal.nD Cert.SumSmallRefIdeal.τ).loc Cert.SumSmallRefIdeal.main_arg7) = m ((c.tc : Thread Cert.SumSmallRefIdeal.nD Cert.SumSmallRefIdeal.τ).loc Cert.SumSmallRefIdeal.main_arg7)
      ∧ r.2.mem ((c.tc : Thread Cert.SumSmallRefIdeal.nD Cert.SumSmallRefIdeal.τ).loc Cert.SumSmallRefIdeal.main_arg8) = m ((c.tc : Thread Cert.SumSmallRefIdeal.nD Cert.SumSmallRefIdeal.τ).loc Cert.SumSmallRefIdeal.main_arg8)
      ∧ r.2.mem ((c.tc : Thread Cert.SumSmallRefIdeal.nD Cert.SumSmallRefIdeal.τ).loc Cert.SumSmallRefIdeal.main_arg9) = m ((c.tc : Thread Cert.SumSmallRefIdeal.nD Cert.SumSmallRefIdeal.τ).loc Cert.SumSmallRefIdeal.main_arg9)
      ∧ r.2.mem ((c.tc : Thread Cert.SumSmallRefIdeal.nD Cert.SumSmallRefIdeal.τ).loc Cert.SumSmallRefIdeal.main_arg10) = m ((c.tc : Thread Cert.SumSmallRefIdeal.nD Cert.SumSmallRefIdeal.τ).loc Cert.SumSmallRefIdeal.main_arg10)
      ∧ r.2.mem ((c.tc : Thread Cert.SumSmallRefIdeal.nD Cert.SumSmallRefIdeal.τ).loc Cert.SumSmallRefIdeal.main_arg11) = m ((c.tc : Thread Cert.SumSmallRefIdeal.nD Cert.SumSmallRefIdeal.τ).loc Cert.SumSmallRefIdeal.main_arg11)
      ∧ r.2.mem ((c.tc : Thread Cert.SumSmallRefIdeal.nD Cert.SumSmallRefIdeal.τ).loc Cert.SumSmallRefIdeal.main_arg12) = m ((c.tc : Thread Cert.SumSmallRefIdeal.nD Cert.SumSmallRefIdeal.τ).loc Cert.SumSmallRefIdeal.main_arg12))
      ∧ r.2.sem = fun _ => 0)

def preserves_WgradUp_WgradUpIdeal : Prop :=
  True

def algebraic_WgradUpIdeal_WgradUpRefIdeal [hWgradUpIdeal : Cert.WgradUpIdeal.Facts] [hWgradUpRefIdeal : Cert.WgradUpRefIdeal.Facts] : Prop :=
  ∀ (m : (ℓ : Loc Cert.WgradUpIdeal.nD Cert.WgradUpIdeal.τ Cert.WgradUpIdeal.sig) → Buf (Elt Ideal) ℓ) (g : Dev Cert.WgradUpIdeal.nD → PrngReg)
    (m' : (ℓ : Loc Cert.WgradUpRefIdeal.nD Cert.WgradUpRefIdeal.τ Cert.WgradUpRefIdeal.sig) → Buf (Elt Ideal) ℓ) (g' : Dev Cert.WgradUpRefIdeal.nD → PrngReg), Pre_WgradUpIdeal m →
    (∀ c : Dev Cert.WgradUpIdeal.nD,
      m' ((c.tc : Thread Cert.WgradUpRefIdeal.nD Cert.WgradUpRefIdeal.τ).loc Cert.WgradUpRefIdeal.main_arg0) = m ((c.tc : Thread Cert.WgradUpIdeal.nD Cert.WgradUpIdeal.τ).loc Cert.WgradUpIdeal.main_arg0)
      ∧ m' ((c.tc : Thread Cert.WgradUpRefIdeal.nD Cert.WgradUpRefIdeal.τ).loc Cert.WgradUpRefIdeal.main_arg1) = m ((c.tc : Thread Cert.WgradUpIdeal.nD Cert.WgradUpIdeal.τ).loc Cert.WgradUpIdeal.main_arg1)
      ∧ m' ((c.tc : Thread Cert.WgradUpRefIdeal.nD Cert.WgradUpRefIdeal.τ).loc Cert.WgradUpRefIdeal.main_arg2) = m ((c.tc : Thread Cert.WgradUpIdeal.nD Cert.WgradUpIdeal.τ).loc Cert.WgradUpIdeal.main_arg2)) →
    ∃ (v0 : (c : Dev Cert.WgradUpIdeal.nD) → Buf (Elt Ideal) ((c.tc : Thread Cert.WgradUpIdeal.nD Cert.WgradUpIdeal.τ).loc Cert.WgradUpIdeal.main_v0)),
      θ_run (Cert.WgradUpIdeal.defs (F := Ideal)) (onTc (τ := Cert.WgradUpIdeal.τ) (Cert.WgradUpIdeal.main (F := Ideal))) ⟨m, fun _ => 0, g⟩ (fun r => ∀ c : Dev Cert.WgradUpIdeal.nD,
          r.2.mem ((c.tc : Thread Cert.WgradUpIdeal.nD Cert.WgradUpIdeal.τ).loc Cert.WgradUpIdeal.main_v0) = v0 c
          ∧ r.2.mem ((c.tc : Thread Cert.WgradUpIdeal.nD Cert.WgradUpIdeal.τ).loc Cert.WgradUpIdeal.main_arg0) = m ((c.tc : Thread Cert.WgradUpIdeal.nD Cert.WgradUpIdeal.τ).loc Cert.WgradUpIdeal.main_arg0)
          ∧ r.2.mem ((c.tc : Thread Cert.WgradUpIdeal.nD Cert.WgradUpIdeal.τ).loc Cert.WgradUpIdeal.main_arg1) = m ((c.tc : Thread Cert.WgradUpIdeal.nD Cert.WgradUpIdeal.τ).loc Cert.WgradUpIdeal.main_arg1)
          ∧ r.2.mem ((c.tc : Thread Cert.WgradUpIdeal.nD Cert.WgradUpIdeal.τ).loc Cert.WgradUpIdeal.main_arg2) = m ((c.tc : Thread Cert.WgradUpIdeal.nD Cert.WgradUpIdeal.τ).loc Cert.WgradUpIdeal.main_arg2))
      ∧ θ_run (Cert.WgradUpRefIdeal.defs (F := Ideal)) (onTc (τ := Cert.WgradUpRefIdeal.τ) (Cert.WgradUpRefIdeal.main (F := Ideal))) ⟨m', fun _ => 0, g'⟩ (fun r => ∀ c : Dev Cert.WgradUpRefIdeal.nD,
          r.2.mem ((c.tc : Thread Cert.WgradUpRefIdeal.nD Cert.WgradUpRefIdeal.τ).loc Cert.WgradUpRefIdeal.main_v7) = v0 c
          ∧ r.2.mem ((c.tc : Thread Cert.WgradUpRefIdeal.nD Cert.WgradUpRefIdeal.τ).loc Cert.WgradUpRefIdeal.main_arg0) = m' ((c.tc : Thread Cert.WgradUpRefIdeal.nD Cert.WgradUpRefIdeal.τ).loc Cert.WgradUpRefIdeal.main_arg0)
          ∧ r.2.mem ((c.tc : Thread Cert.WgradUpRefIdeal.nD Cert.WgradUpRefIdeal.τ).loc Cert.WgradUpRefIdeal.main_arg1) = m' ((c.tc : Thread Cert.WgradUpRefIdeal.nD Cert.WgradUpRefIdeal.τ).loc Cert.WgradUpRefIdeal.main_arg1)
          ∧ r.2.mem ((c.tc : Thread Cert.WgradUpRefIdeal.nD Cert.WgradUpRefIdeal.τ).loc Cert.WgradUpRefIdeal.main_arg2) = m' ((c.tc : Thread Cert.WgradUpRefIdeal.nD Cert.WgradUpRefIdeal.τ).loc Cert.WgradUpRefIdeal.main_arg2))

def preserves_WgradIn_WgradInIdeal : Prop :=
  True

def algebraic_WgradInIdeal_WgradInRefIdeal [hWgradInIdeal : Cert.WgradInIdeal.Facts] [hWgradInRefIdeal : Cert.WgradInRefIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.WgradInRefIdeal.nD Cert.WgradInRefIdeal.τ Cert.WgradInRefIdeal.sig) → Buf (Elt Ideal) ℓ) (g' : Dev Cert.WgradInRefIdeal.nD → PrngReg), Pre_WgradInIdeal m →
    (∀ c : Dev Cert.WgradInIdeal.nD,
      m' ((c.tc : Thread Cert.WgradInRefIdeal.nD Cert.WgradInRefIdeal.τ).loc Cert.WgradInRefIdeal.main_arg0) = m ((c.tc : Thread Cert.WgradInIdeal.nD Cert.WgradInIdeal.τ).loc Cert.WgradInIdeal.main_arg0)
      ∧ m' ((c.tc : Thread Cert.WgradInRefIdeal.nD Cert.WgradInRefIdeal.τ).loc Cert.WgradInRefIdeal.main_arg1) = m ((c.tc : Thread Cert.WgradInIdeal.nD Cert.WgradInIdeal.τ).loc Cert.WgradInIdeal.main_arg1)
      ∧ m' ((c.tc : Thread Cert.WgradInRefIdeal.nD Cert.WgradInRefIdeal.τ).loc Cert.WgradInRefIdeal.main_arg2) = m ((c.tc : Thread Cert.WgradInIdeal.nD Cert.WgradInIdeal.τ).loc Cert.WgradInIdeal.main_arg2)) →
    ∃ (v0 : (c : Dev Cert.WgradInIdeal.nD) → Buf (Elt Ideal) ((c.tc : Thread Cert.WgradInIdeal.nD Cert.WgradInIdeal.τ).loc Cert.WgradInIdeal.main_v0)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v0) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1)
          ∧ r.2.mem ((c.tc : Thread Cert.WgradInIdeal.nD Cert.WgradInIdeal.τ).loc Cert.WgradInIdeal.main_arg2) = m ((c.tc : Thread Cert.WgradInIdeal.nD Cert.WgradInIdeal.τ).loc Cert.WgradInIdeal.main_arg2))
      ∧ θ_run (Cert.WgradInRefIdeal.defs (F := Ideal)) (onTc (τ := Cert.WgradInRefIdeal.τ) (Cert.WgradInRefIdeal.main (F := Ideal))) ⟨m', fun _ => 0, g'⟩ (fun r => ∀ c : Dev Cert.WgradInRefIdeal.nD,
          r.2.mem ((c.tc : Thread Cert.WgradInRefIdeal.nD Cert.WgradInRefIdeal.τ).loc Cert.WgradInRefIdeal.main_v7) = v0 c
          ∧ r.2.mem ((c.tc : Thread Cert.WgradInRefIdeal.nD Cert.WgradInRefIdeal.τ).loc Cert.WgradInRefIdeal.main_arg0) = m' ((c.tc : Thread Cert.WgradInRefIdeal.nD Cert.WgradInRefIdeal.τ).loc Cert.WgradInRefIdeal.main_arg0)
          ∧ r.2.mem ((c.tc : Thread Cert.WgradInRefIdeal.nD Cert.WgradInRefIdeal.τ).loc Cert.WgradInRefIdeal.main_arg1) = m' ((c.tc : Thread Cert.WgradInRefIdeal.nD Cert.WgradInRefIdeal.τ).loc Cert.WgradInRefIdeal.main_arg1)
          ∧ r.2.mem ((c.tc : Thread Cert.WgradInRefIdeal.nD Cert.WgradInRefIdeal.τ).loc Cert.WgradInRefIdeal.main_arg2) = m' ((c.tc : Thread Cert.WgradInRefIdeal.nD Cert.WgradInRefIdeal.τ).loc Cert.WgradInRefIdeal.main_arg2))

def preserves_WgradDown_WgradDownIdeal : Prop :=
  True

def algebraic_WgradDownIdeal_WgradDownRefIdeal [hWgradDownIdeal : Cert.WgradDownIdeal.Facts] [hWgradDownRefIdeal : Cert.WgradDownRefIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.WgradDownRefIdeal.nD Cert.WgradDownRefIdeal.τ Cert.WgradDownRefIdeal.sig) → Buf (Elt Ideal) ℓ) (g' : Dev Cert.WgradDownRefIdeal.nD → PrngReg), Pre_WgradDownIdeal m →
    (∀ c : Dev Cert.WgradDownIdeal.nD,
      m' ((c.tc : Thread Cert.WgradDownRefIdeal.nD Cert.WgradDownRefIdeal.τ).loc Cert.WgradDownRefIdeal.main_arg0) = m ((c.tc : Thread Cert.WgradDownIdeal.nD Cert.WgradDownIdeal.τ).loc Cert.WgradDownIdeal.main_arg0)
      ∧ m' ((c.tc : Thread Cert.WgradDownRefIdeal.nD Cert.WgradDownRefIdeal.τ).loc Cert.WgradDownRefIdeal.main_arg1) = m ((c.tc : Thread Cert.WgradDownIdeal.nD Cert.WgradDownIdeal.τ).loc Cert.WgradDownIdeal.main_arg1)
      ∧ m' ((c.tc : Thread Cert.WgradDownRefIdeal.nD Cert.WgradDownRefIdeal.τ).loc Cert.WgradDownRefIdeal.main_arg2) = m ((c.tc : Thread Cert.WgradDownIdeal.nD Cert.WgradDownIdeal.τ).loc Cert.WgradDownIdeal.main_arg2)) →
    ∃ (v0 : (c : Dev Cert.WgradDownIdeal.nD) → Buf (Elt Ideal) ((c.tc : Thread Cert.WgradDownIdeal.nD Cert.WgradDownIdeal.τ).loc Cert.WgradDownIdeal.main_v0)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v0) = v0 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1)
          ∧ r.2.mem ((c.tc : Thread Cert.WgradDownIdeal.nD Cert.WgradDownIdeal.τ).loc Cert.WgradDownIdeal.main_arg2) = m ((c.tc : Thread Cert.WgradDownIdeal.nD Cert.WgradDownIdeal.τ).loc Cert.WgradDownIdeal.main_arg2))
      ∧ θ_run (Cert.WgradDownRefIdeal.defs (F := Ideal)) (onTc (τ := Cert.WgradDownRefIdeal.τ) (Cert.WgradDownRefIdeal.main (F := Ideal))) ⟨m', fun _ => 0, g'⟩ (fun r => ∀ c : Dev Cert.WgradDownRefIdeal.nD,
          r.2.mem ((c.tc : Thread Cert.WgradDownRefIdeal.nD Cert.WgradDownRefIdeal.τ).loc Cert.WgradDownRefIdeal.main_v5) = v0 c
          ∧ r.2.mem ((c.tc : Thread Cert.WgradDownRefIdeal.nD Cert.WgradDownRefIdeal.τ).loc Cert.WgradDownRefIdeal.main_arg0) = m' ((c.tc : Thread Cert.WgradDownRefIdeal.nD Cert.WgradDownRefIdeal.τ).loc Cert.WgradDownRefIdeal.main_arg0)
          ∧ r.2.mem ((c.tc : Thread Cert.WgradDownRefIdeal.nD Cert.WgradDownRefIdeal.τ).loc Cert.WgradDownRefIdeal.main_arg1) = m' ((c.tc : Thread Cert.WgradDownRefIdeal.nD Cert.WgradDownRefIdeal.τ).loc Cert.WgradDownRefIdeal.main_arg1)
          ∧ r.2.mem ((c.tc : Thread Cert.WgradDownRefIdeal.nD Cert.WgradDownRefIdeal.τ).loc Cert.WgradDownRefIdeal.main_arg2) = m' ((c.tc : Thread Cert.WgradDownRefIdeal.nD Cert.WgradDownRefIdeal.τ).loc Cert.WgradDownRefIdeal.main_arg2))

def preserves_WgradO_WgradOIdeal : Prop :=
  True

def algebraic_WgradOIdeal_WgradORefIdeal [hWgradOIdeal : Cert.WgradOIdeal.Facts] [hWgradORefIdeal : Cert.WgradORefIdeal.Facts] : Prop :=
  ∀ (m : (ℓ : Loc Cert.WgradOIdeal.nD Cert.WgradOIdeal.τ Cert.WgradOIdeal.sig) → Buf (Elt Ideal) ℓ) (g : Dev Cert.WgradOIdeal.nD → PrngReg)
    (m' : (ℓ : Loc Cert.WgradORefIdeal.nD Cert.WgradORefIdeal.τ Cert.WgradORefIdeal.sig) → Buf (Elt Ideal) ℓ) (g' : Dev Cert.WgradORefIdeal.nD → PrngReg), Pre_WgradOIdeal m →
    (∀ c : Dev Cert.WgradOIdeal.nD,
      m' ((c.tc : Thread Cert.WgradORefIdeal.nD Cert.WgradORefIdeal.τ).loc Cert.WgradORefIdeal.main_arg0) = m ((c.tc : Thread Cert.WgradOIdeal.nD Cert.WgradOIdeal.τ).loc Cert.WgradOIdeal.main_arg0)
      ∧ m' ((c.tc : Thread Cert.WgradORefIdeal.nD Cert.WgradORefIdeal.τ).loc Cert.WgradORefIdeal.main_arg1) = m ((c.tc : Thread Cert.WgradOIdeal.nD Cert.WgradOIdeal.τ).loc Cert.WgradOIdeal.main_arg1)
      ∧ m' ((c.tc : Thread Cert.WgradORefIdeal.nD Cert.WgradORefIdeal.τ).loc Cert.WgradORefIdeal.main_arg2) = m ((c.tc : Thread Cert.WgradOIdeal.nD Cert.WgradOIdeal.τ).loc Cert.WgradOIdeal.main_arg2)) →
    ∃ (v0 : (c : Dev Cert.WgradOIdeal.nD) → Buf (Elt Ideal) ((c.tc : Thread Cert.WgradOIdeal.nD Cert.WgradOIdeal.τ).loc Cert.WgradOIdeal.main_v0)),
      θ_run (Cert.WgradOIdeal.defs (F := Ideal)) (onTc (τ := Cert.WgradOIdeal.τ) (Cert.WgradOIdeal.main (F := Ideal))) ⟨m, fun _ => 0, g⟩ (fun r => ∀ c : Dev Cert.WgradOIdeal.nD,
          r.2.mem ((c.tc : Thread Cert.WgradOIdeal.nD Cert.WgradOIdeal.τ).loc Cert.WgradOIdeal.main_v0) = v0 c
          ∧ r.2.mem ((c.tc : Thread Cert.WgradOIdeal.nD Cert.WgradOIdeal.τ).loc Cert.WgradOIdeal.main_arg0) = m ((c.tc : Thread Cert.WgradOIdeal.nD Cert.WgradOIdeal.τ).loc Cert.WgradOIdeal.main_arg0)
          ∧ r.2.mem ((c.tc : Thread Cert.WgradOIdeal.nD Cert.WgradOIdeal.τ).loc Cert.WgradOIdeal.main_arg1) = m ((c.tc : Thread Cert.WgradOIdeal.nD Cert.WgradOIdeal.τ).loc Cert.WgradOIdeal.main_arg1)
          ∧ r.2.mem ((c.tc : Thread Cert.WgradOIdeal.nD Cert.WgradOIdeal.τ).loc Cert.WgradOIdeal.main_arg2) = m ((c.tc : Thread Cert.WgradOIdeal.nD Cert.WgradOIdeal.τ).loc Cert.WgradOIdeal.main_arg2))
      ∧ θ_run (Cert.WgradORefIdeal.defs (F := Ideal)) (onTc (τ := Cert.WgradORefIdeal.τ) (Cert.WgradORefIdeal.main (F := Ideal))) ⟨m', fun _ => 0, g'⟩ (fun r => ∀ c : Dev Cert.WgradORefIdeal.nD,
          r.2.mem ((c.tc : Thread Cert.WgradORefIdeal.nD Cert.WgradORefIdeal.τ).loc Cert.WgradORefIdeal.main_v5) = v0 c
          ∧ r.2.mem ((c.tc : Thread Cert.WgradORefIdeal.nD Cert.WgradORefIdeal.τ).loc Cert.WgradORefIdeal.main_arg0) = m' ((c.tc : Thread Cert.WgradORefIdeal.nD Cert.WgradORefIdeal.τ).loc Cert.WgradORefIdeal.main_arg0)
          ∧ r.2.mem ((c.tc : Thread Cert.WgradORefIdeal.nD Cert.WgradORefIdeal.τ).loc Cert.WgradORefIdeal.main_arg1) = m' ((c.tc : Thread Cert.WgradORefIdeal.nD Cert.WgradORefIdeal.τ).loc Cert.WgradORefIdeal.main_arg1)
          ∧ r.2.mem ((c.tc : Thread Cert.WgradORefIdeal.nD Cert.WgradORefIdeal.τ).loc Cert.WgradORefIdeal.main_arg2) = m' ((c.tc : Thread Cert.WgradORefIdeal.nD Cert.WgradORefIdeal.τ).loc Cert.WgradORefIdeal.main_arg2))

def preserves_DxUp_DxUpIdeal : Prop :=
  True

def algebraic_DxUpIdeal_DxUpRefIdeal [hDxUpIdeal : Cert.DxUpIdeal.Facts] [hDxUpRefIdeal : Cert.DxUpRefIdeal.Facts] : Prop :=
  ∀ (m : (ℓ : Loc Cert.DxUpIdeal.nD Cert.DxUpIdeal.τ Cert.DxUpIdeal.sig) → Buf (Elt Ideal) ℓ) (g : Dev Cert.DxUpIdeal.nD → PrngReg)
    (m' : (ℓ : Loc Cert.DxUpRefIdeal.nD Cert.DxUpRefIdeal.τ Cert.DxUpRefIdeal.sig) → Buf (Elt Ideal) ℓ) (g' : Dev Cert.DxUpRefIdeal.nD → PrngReg), Pre_DxUpIdeal m →
    (∀ c : Dev Cert.DxUpIdeal.nD,
      m' ((c.tc : Thread Cert.DxUpRefIdeal.nD Cert.DxUpRefIdeal.τ).loc Cert.DxUpRefIdeal.main_arg0) = m ((c.tc : Thread Cert.DxUpIdeal.nD Cert.DxUpIdeal.τ).loc Cert.DxUpIdeal.main_arg0)
      ∧ m' ((c.tc : Thread Cert.DxUpRefIdeal.nD Cert.DxUpRefIdeal.τ).loc Cert.DxUpRefIdeal.main_arg1) = m ((c.tc : Thread Cert.DxUpIdeal.nD Cert.DxUpIdeal.τ).loc Cert.DxUpIdeal.main_arg1)
      ∧ m' ((c.tc : Thread Cert.DxUpRefIdeal.nD Cert.DxUpRefIdeal.τ).loc Cert.DxUpRefIdeal.main_arg2) = m ((c.tc : Thread Cert.DxUpIdeal.nD Cert.DxUpIdeal.τ).loc Cert.DxUpIdeal.main_arg2)
      ∧ m' ((c.tc : Thread Cert.DxUpRefIdeal.nD Cert.DxUpRefIdeal.τ).loc Cert.DxUpRefIdeal.main_arg3) = m ((c.tc : Thread Cert.DxUpIdeal.nD Cert.DxUpIdeal.τ).loc Cert.DxUpIdeal.main_arg3)) →
    ∃ (v0 : (c : Dev Cert.DxUpIdeal.nD) → Buf (Elt Ideal) ((c.tc : Thread Cert.DxUpIdeal.nD Cert.DxUpIdeal.τ).loc Cert.DxUpIdeal.main_v1)),
      θ_run (Cert.DxUpIdeal.defs (F := Ideal)) (onTc (τ := Cert.DxUpIdeal.τ) (Cert.DxUpIdeal.main (F := Ideal))) ⟨m, fun _ => 0, g⟩ (fun r => ∀ c : Dev Cert.DxUpIdeal.nD,
          r.2.mem ((c.tc : Thread Cert.DxUpIdeal.nD Cert.DxUpIdeal.τ).loc Cert.DxUpIdeal.main_v1) = v0 c
          ∧ r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
          ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
          ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2)
          ∧ r.2.mem ((c.tc : Thread Cert.DxUpIdeal.nD Cert.DxUpIdeal.τ).loc Cert.DxUpIdeal.main_arg3) = m ((c.tc : Thread Cert.DxUpIdeal.nD Cert.DxUpIdeal.τ).loc Cert.DxUpIdeal.main_arg3))
      ∧ θ_run (Cert.DxUpRefIdeal.defs (F := Ideal)) (onTc (τ := Cert.DxUpRefIdeal.τ) (Cert.DxUpRefIdeal.main (F := Ideal))) ⟨m', fun _ => 0, g'⟩ (fun r => ∀ c : Dev Cert.DxUpRefIdeal.nD,
          r.2.mem ((c.tc : Thread Cert.DxUpRefIdeal.nD Cert.DxUpRefIdeal.τ).loc Cert.DxUpRefIdeal.main_v7) = v0 c
          ∧ r.2.mem ((c.tc : Thread Cert.DxUpRefIdeal.nD Cert.DxUpRefIdeal.τ).loc Cert.DxUpRefIdeal.main_arg0) = m' ((c.tc : Thread Cert.DxUpRefIdeal.nD Cert.DxUpRefIdeal.τ).loc Cert.DxUpRefIdeal.main_arg0)
          ∧ r.2.mem ((c.tc : Thread Cert.DxUpRefIdeal.nD Cert.DxUpRefIdeal.τ).loc Cert.DxUpRefIdeal.main_arg1) = m' ((c.tc : Thread Cert.DxUpRefIdeal.nD Cert.DxUpRefIdeal.τ).loc Cert.DxUpRefIdeal.main_arg1)
          ∧ r.2.mem ((c.tc : Thread Cert.DxUpRefIdeal.nD Cert.DxUpRefIdeal.τ).loc Cert.DxUpRefIdeal.main_arg2) = m' ((c.tc : Thread Cert.DxUpRefIdeal.nD Cert.DxUpRefIdeal.τ).loc Cert.DxUpRefIdeal.main_arg2)
          ∧ r.2.mem ((c.tc : Thread Cert.DxUpRefIdeal.nD Cert.DxUpRefIdeal.τ).loc Cert.DxUpRefIdeal.main_arg3) = m' ((c.tc : Thread Cert.DxUpRefIdeal.nD Cert.DxUpRefIdeal.τ).loc Cert.DxUpRefIdeal.main_arg3))

def preserves_DxIn_DxInIdeal : Prop :=
  True

def algebraic_DxInIdeal_DxInRefIdeal [hDxInIdeal : Cert.DxInIdeal.Facts] [hDxInRefIdeal : Cert.DxInRefIdeal.Facts] : Prop :=
  ∀ (m : (ℓ : Loc Cert.DxInIdeal.nD Cert.DxInIdeal.τ Cert.DxInIdeal.sig) → Buf (Elt Ideal) ℓ) (g : Dev Cert.DxInIdeal.nD → PrngReg)
    (m' : (ℓ : Loc Cert.DxInRefIdeal.nD Cert.DxInRefIdeal.τ Cert.DxInRefIdeal.sig) → Buf (Elt Ideal) ℓ) (g' : Dev Cert.DxInRefIdeal.nD → PrngReg), Pre_DxInIdeal m →
    (∀ c : Dev Cert.DxInIdeal.nD,
      m' ((c.tc : Thread Cert.DxInRefIdeal.nD Cert.DxInRefIdeal.τ).loc Cert.DxInRefIdeal.main_arg0) = m ((c.tc : Thread Cert.DxInIdeal.nD Cert.DxInIdeal.τ).loc Cert.DxInIdeal.main_arg0)
      ∧ m' ((c.tc : Thread Cert.DxInRefIdeal.nD Cert.DxInRefIdeal.τ).loc Cert.DxInRefIdeal.main_arg1) = m ((c.tc : Thread Cert.DxInIdeal.nD Cert.DxInIdeal.τ).loc Cert.DxInIdeal.main_arg1)
      ∧ m' ((c.tc : Thread Cert.DxInRefIdeal.nD Cert.DxInRefIdeal.τ).loc Cert.DxInRefIdeal.main_arg2) = m ((c.tc : Thread Cert.DxInIdeal.nD Cert.DxInIdeal.τ).loc Cert.DxInIdeal.main_arg2)
      ∧ m' ((c.tc : Thread Cert.DxInRefIdeal.nD Cert.DxInRefIdeal.τ).loc Cert.DxInRefIdeal.main_arg3) = m ((c.tc : Thread Cert.DxInIdeal.nD Cert.DxInIdeal.τ).loc Cert.DxInIdeal.main_arg3)) →
    ∃ (v0 : (c : Dev Cert.DxInIdeal.nD) → Buf (Elt Ideal) ((c.tc : Thread Cert.DxInIdeal.nD Cert.DxInIdeal.τ).loc Cert.DxInIdeal.main_v1)),
      θ_run (Cert.DxInIdeal.defs (F := Ideal)) (onTc (τ := Cert.DxInIdeal.τ) (Cert.DxInIdeal.main (F := Ideal))) ⟨m, fun _ => 0, g⟩ (fun r => ∀ c : Dev Cert.DxInIdeal.nD,
          r.2.mem ((c.tc : Thread Cert.DxInIdeal.nD Cert.DxInIdeal.τ).loc Cert.DxInIdeal.main_v1) = v0 c
          ∧ r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
          ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
          ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2)
          ∧ r.2.mem ((c.tc : Thread Cert.DxInIdeal.nD Cert.DxInIdeal.τ).loc Cert.DxInIdeal.main_arg3) = m ((c.tc : Thread Cert.DxInIdeal.nD Cert.DxInIdeal.τ).loc Cert.DxInIdeal.main_arg3))
      ∧ θ_run (Cert.DxInRefIdeal.defs (F := Ideal)) (onTc (τ := Cert.DxInRefIdeal.τ) (Cert.DxInRefIdeal.main (F := Ideal))) ⟨m', fun _ => 0, g'⟩ (fun r => ∀ c : Dev Cert.DxInRefIdeal.nD,
          r.2.mem ((c.tc : Thread Cert.DxInRefIdeal.nD Cert.DxInRefIdeal.τ).loc Cert.DxInRefIdeal.main_v7) = v0 c
          ∧ r.2.mem ((c.tc : Thread Cert.DxInRefIdeal.nD Cert.DxInRefIdeal.τ).loc Cert.DxInRefIdeal.main_arg0) = m' ((c.tc : Thread Cert.DxInRefIdeal.nD Cert.DxInRefIdeal.τ).loc Cert.DxInRefIdeal.main_arg0)
          ∧ r.2.mem ((c.tc : Thread Cert.DxInRefIdeal.nD Cert.DxInRefIdeal.τ).loc Cert.DxInRefIdeal.main_arg1) = m' ((c.tc : Thread Cert.DxInRefIdeal.nD Cert.DxInRefIdeal.τ).loc Cert.DxInRefIdeal.main_arg1)
          ∧ r.2.mem ((c.tc : Thread Cert.DxInRefIdeal.nD Cert.DxInRefIdeal.τ).loc Cert.DxInRefIdeal.main_arg2) = m' ((c.tc : Thread Cert.DxInRefIdeal.nD Cert.DxInRefIdeal.τ).loc Cert.DxInRefIdeal.main_arg2)
          ∧ r.2.mem ((c.tc : Thread Cert.DxInRefIdeal.nD Cert.DxInRefIdeal.τ).loc Cert.DxInRefIdeal.main_arg3) = m' ((c.tc : Thread Cert.DxInRefIdeal.nD Cert.DxInRefIdeal.τ).loc Cert.DxInRefIdeal.main_arg3))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v1)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v1) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v0) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_MmUp_MmUpIdeal : Prop :=
  True

def algebraic_MmUpIdeal_MmUpRefIdeal_on_ffn_up_positions [hMmUpIdeal : Cert.MmUpIdeal.Facts] [hMmUpRefIdeal : Cert.MmUpRefIdeal.Facts] [hOn_ffn_up_positions : Cert.On_ffn_up_positions.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.MmUpRefIdeal.nD Cert.MmUpRefIdeal.τ Cert.MmUpRefIdeal.sig) → Buf (Elt Ideal) ℓ) (g' : Dev Cert.MmUpRefIdeal.nD → PrngReg), Pre_MmUpIdeal m →
    (∀ c : Dev Cert.MmUpIdeal.nD,
      m' ((c.tc : Thread Cert.MmUpRefIdeal.nD Cert.MmUpRefIdeal.τ).loc Cert.MmUpRefIdeal.main_arg0) = m ((c.tc : Thread Cert.MmUpIdeal.nD Cert.MmUpIdeal.τ).loc Cert.MmUpIdeal.main_arg0)
      ∧ m' ((c.tc : Thread Cert.MmUpRefIdeal.nD Cert.MmUpRefIdeal.τ).loc Cert.MmUpRefIdeal.main_arg1) = m ((c.tc : Thread Cert.MmUpIdeal.nD Cert.MmUpIdeal.τ).loc Cert.MmUpIdeal.main_arg1)
      ∧ m' ((c.tc : Thread Cert.MmUpRefIdeal.nD Cert.MmUpRefIdeal.τ).loc Cert.MmUpRefIdeal.main_arg2) = m ((c.tc : Thread Cert.MmUpIdeal.nD Cert.MmUpIdeal.τ).loc Cert.MmUpIdeal.main_arg2)
      ∧ m' ((c.tc : Thread Cert.MmUpRefIdeal.nD Cert.MmUpRefIdeal.τ).loc Cert.MmUpRefIdeal.main_arg3) = m ((c.tc : Thread Cert.MmUpIdeal.nD Cert.MmUpIdeal.τ).loc Cert.MmUpIdeal.main_arg3)) →
    ∃ (v0 : (c : Dev Cert.MmUpIdeal.nD) → Buf (Elt Ideal) ((c.tc : Thread Cert.MmUpIdeal.nD Cert.MmUpIdeal.τ).loc Cert.MmUpIdeal.main_v4_0)) (v1 : (c : Dev Cert.MmUpIdeal.nD) → Buf (Elt Ideal) ((c.tc : Thread Cert.MmUpIdeal.nD Cert.MmUpIdeal.τ).loc Cert.MmUpIdeal.main_v4_1)) (v2 : (c : Dev Cert.MmUpIdeal.nD) → Buf (Elt Ideal) ((c.tc : Thread Cert.MmUpIdeal.nD Cert.MmUpIdeal.τ).loc Cert.MmUpIdeal.main_v4_2)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          (∀ i : (⟨2, ![8448, 5632]⟩ : Shape).Idx, (Cert.On_ffn_up_positions.fn (F := Ideal) (m ((c.tc : Thread Cert.MmUpIdeal.nD Cert.MmUpIdeal.τ).loc Cert.MmUpIdeal.main_arg0)) (m ((c.tc : Thread Cert.MmUpIdeal.nD Cert.MmUpIdeal.τ).loc Cert.MmUpIdeal.main_arg1)) (m ((c.tc : Thread Cert.MmUpIdeal.nD Cert.MmUpIdeal.τ).loc Cert.MmUpIdeal.main_arg2)) (m ((c.tc : Thread Cert.MmUpIdeal.nD Cert.MmUpIdeal.τ).loc Cert.MmUpIdeal.main_arg3))).1 i = 1#1 → r.2.mem ((c.tc : Thread Cert.MmUpIdeal.nD Cert.MmUpIdeal.τ).loc Cert.MmUpIdeal.main_v4_0) i = v0 c i)
          ∧ (∀ i : (⟨2, ![8448, 5632]⟩ : Shape).Idx, (Cert.On_ffn_up_positions.fn (F := Ideal) (m ((c.tc : Thread Cert.MmUpIdeal.nD Cert.MmUpIdeal.τ).loc Cert.MmUpIdeal.main_arg0)) (m ((c.tc : Thread Cert.MmUpIdeal.nD Cert.MmUpIdeal.τ).loc Cert.MmUpIdeal.main_arg1)) (m ((c.tc : Thread Cert.MmUpIdeal.nD Cert.MmUpIdeal.τ).loc Cert.MmUpIdeal.main_arg2)) (m ((c.tc : Thread Cert.MmUpIdeal.nD Cert.MmUpIdeal.τ).loc Cert.MmUpIdeal.main_arg3))).2.1 i = 1#1 → r.2.mem ((c.tc : Thread Cert.MmUpIdeal.nD Cert.MmUpIdeal.τ).loc Cert.MmUpIdeal.main_v4_1) i = v1 c i)
          ∧ (∀ i : (⟨2, ![8448, 2816]⟩ : Shape).Idx, (Cert.On_ffn_up_positions.fn (F := Ideal) (m ((c.tc : Thread Cert.MmUpIdeal.nD Cert.MmUpIdeal.τ).loc Cert.MmUpIdeal.main_arg0)) (m ((c.tc : Thread Cert.MmUpIdeal.nD Cert.MmUpIdeal.τ).loc Cert.MmUpIdeal.main_arg1)) (m ((c.tc : Thread Cert.MmUpIdeal.nD Cert.MmUpIdeal.τ).loc Cert.MmUpIdeal.main_arg2)) (m ((c.tc : Thread Cert.MmUpIdeal.nD Cert.MmUpIdeal.τ).loc Cert.MmUpIdeal.main_arg3))).2.2 i = 1#1 → r.2.mem ((c.tc : Thread Cert.MmUpIdeal.nD Cert.MmUpIdeal.τ).loc Cert.MmUpIdeal.main_v4_2) i = v2 c i)
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1)
          ∧ r.2.mem ((c.tc : Thread Cert.MmUpIdeal.nD Cert.MmUpIdeal.τ).loc Cert.MmUpIdeal.main_arg2) = m ((c.tc : Thread Cert.MmUpIdeal.nD Cert.MmUpIdeal.τ).loc Cert.MmUpIdeal.main_arg2)
          ∧ r.2.mem ((c.tc : Thread Cert.MmUpIdeal.nD Cert.MmUpIdeal.τ).loc Cert.MmUpIdeal.main_arg3) = m ((c.tc : Thread Cert.MmUpIdeal.nD Cert.MmUpIdeal.τ).loc Cert.MmUpIdeal.main_arg3))
      ∧ θ_run (Cert.MmUpRefIdeal.defs (F := Ideal)) (onTc (τ := Cert.MmUpRefIdeal.τ) (Cert.MmUpRefIdeal.main (F := Ideal))) ⟨m', fun _ => 0, g'⟩ (fun r => ∀ c : Dev Cert.MmUpRefIdeal.nD,
          (∀ i : (⟨2, ![8448, 5632]⟩ : Shape).Idx, (Cert.On_ffn_up_positions.fn (F := Ideal) (m ((c.tc : Thread Cert.MmUpIdeal.nD Cert.MmUpIdeal.τ).loc Cert.MmUpIdeal.main_arg0)) (m ((c.tc : Thread Cert.MmUpIdeal.nD Cert.MmUpIdeal.τ).loc Cert.MmUpIdeal.main_arg1)) (m ((c.tc : Thread Cert.MmUpIdeal.nD Cert.MmUpIdeal.τ).loc Cert.MmUpIdeal.main_arg2)) (m ((c.tc : Thread Cert.MmUpIdeal.nD Cert.MmUpIdeal.τ).loc Cert.MmUpIdeal.main_arg3))).1 i = 1#1 → r.2.mem ((c.tc : Thread Cert.MmUpRefIdeal.nD Cert.MmUpRefIdeal.τ).loc Cert.MmUpRefIdeal.main_v31) i = v0 c i)
          ∧ (∀ i : (⟨2, ![8448, 5632]⟩ : Shape).Idx, (Cert.On_ffn_up_positions.fn (F := Ideal) (m ((c.tc : Thread Cert.MmUpIdeal.nD Cert.MmUpIdeal.τ).loc Cert.MmUpIdeal.main_arg0)) (m ((c.tc : Thread Cert.MmUpIdeal.nD Cert.MmUpIdeal.τ).loc Cert.MmUpIdeal.main_arg1)) (m ((c.tc : Thread Cert.MmUpIdeal.nD Cert.MmUpIdeal.τ).loc Cert.MmUpIdeal.main_arg2)) (m ((c.tc : Thread Cert.MmUpIdeal.nD Cert.MmUpIdeal.τ).loc Cert.MmUpIdeal.main_arg3))).2.1 i = 1#1 → r.2.mem ((c.tc : Thread Cert.MmUpRefIdeal.nD Cert.MmUpRefIdeal.τ).loc Cert.MmUpRefIdeal.main_v32) i = v1 c i)
          ∧ (∀ i : (⟨2, ![8448, 2816]⟩ : Shape).Idx, (Cert.On_ffn_up_positions.fn (F := Ideal) (m ((c.tc : Thread Cert.MmUpIdeal.nD Cert.MmUpIdeal.τ).loc Cert.MmUpIdeal.main_arg0)) (m ((c.tc : Thread Cert.MmUpIdeal.nD Cert.MmUpIdeal.τ).loc Cert.MmUpIdeal.main_arg1)) (m ((c.tc : Thread Cert.MmUpIdeal.nD Cert.MmUpIdeal.τ).loc Cert.MmUpIdeal.main_arg2)) (m ((c.tc : Thread Cert.MmUpIdeal.nD Cert.MmUpIdeal.τ).loc Cert.MmUpIdeal.main_arg3))).2.2 i = 1#1 → r.2.mem ((c.tc : Thread Cert.MmUpRefIdeal.nD Cert.MmUpRefIdeal.τ).loc Cert.MmUpRefIdeal.main_v34) i = v2 c i)
          ∧ r.2.mem ((c.tc : Thread Cert.MmUpRefIdeal.nD Cert.MmUpRefIdeal.τ).loc Cert.MmUpRefIdeal.main_arg0) = m' ((c.tc : Thread Cert.MmUpRefIdeal.nD Cert.MmUpRefIdeal.τ).loc Cert.MmUpRefIdeal.main_arg0)
          ∧ r.2.mem ((c.tc : Thread Cert.MmUpRefIdeal.nD Cert.MmUpRefIdeal.τ).loc Cert.MmUpRefIdeal.main_arg1) = m' ((c.tc : Thread Cert.MmUpRefIdeal.nD Cert.MmUpRefIdeal.τ).loc Cert.MmUpRefIdeal.main_arg1)
          ∧ r.2.mem ((c.tc : Thread Cert.MmUpRefIdeal.nD Cert.MmUpRefIdeal.τ).loc Cert.MmUpRefIdeal.main_arg2) = m' ((c.tc : Thread Cert.MmUpRefIdeal.nD Cert.MmUpRefIdeal.τ).loc Cert.MmUpRefIdeal.main_arg2)
          ∧ r.2.mem ((c.tc : Thread Cert.MmUpRefIdeal.nD Cert.MmUpRefIdeal.τ).loc Cert.MmUpRefIdeal.main_arg3) = m' ((c.tc : Thread Cert.MmUpRefIdeal.nD Cert.MmUpRefIdeal.τ).loc Cert.MmUpRefIdeal.main_arg3))

def preserves_MmO_MmOIdeal : Prop :=
  True

def algebraic_MmOIdeal_MmORefIdeal [hMmOIdeal : Cert.MmOIdeal.Facts] [hMmORefIdeal : Cert.MmORefIdeal.Facts] : Prop :=
  ∀ (m : (ℓ : Loc Cert.MmOIdeal.nD Cert.MmOIdeal.τ Cert.MmOIdeal.sig) → Buf (Elt Ideal) ℓ) (g : Dev Cert.MmOIdeal.nD → PrngReg)
    (m' : (ℓ : Loc Cert.MmORefIdeal.nD Cert.MmORefIdeal.τ Cert.MmORefIdeal.sig) → Buf (Elt Ideal) ℓ) (g' : Dev Cert.MmORefIdeal.nD → PrngReg), Pre_MmOIdeal m →
    (∀ c : Dev Cert.MmOIdeal.nD,
      m' ((c.tc : Thread Cert.MmORefIdeal.nD Cert.MmORefIdeal.τ).loc Cert.MmORefIdeal.main_arg0) = m ((c.tc : Thread Cert.MmOIdeal.nD Cert.MmOIdeal.τ).loc Cert.MmOIdeal.main_arg0)
      ∧ m' ((c.tc : Thread Cert.MmORefIdeal.nD Cert.MmORefIdeal.τ).loc Cert.MmORefIdeal.main_arg1) = m ((c.tc : Thread Cert.MmOIdeal.nD Cert.MmOIdeal.τ).loc Cert.MmOIdeal.main_arg1)
      ∧ m' ((c.tc : Thread Cert.MmORefIdeal.nD Cert.MmORefIdeal.τ).loc Cert.MmORefIdeal.main_arg2) = m ((c.tc : Thread Cert.MmOIdeal.nD Cert.MmOIdeal.τ).loc Cert.MmOIdeal.main_arg2)
      ∧ m' ((c.tc : Thread Cert.MmORefIdeal.nD Cert.MmORefIdeal.τ).loc Cert.MmORefIdeal.main_arg3) = m ((c.tc : Thread Cert.MmOIdeal.nD Cert.MmOIdeal.τ).loc Cert.MmOIdeal.main_arg3)
      ∧ m' ((c.tc : Thread Cert.MmORefIdeal.nD Cert.MmORefIdeal.τ).loc Cert.MmORefIdeal.main_arg4) = m ((c.tc : Thread Cert.MmOIdeal.nD Cert.MmOIdeal.τ).loc Cert.MmOIdeal.main_arg4)) →
    ∃ (v0 : (c : Dev Cert.MmOIdeal.nD) → Buf (Elt Ideal) ((c.tc : Thread Cert.MmOIdeal.nD Cert.MmOIdeal.τ).loc Cert.MmOIdeal.main_v3_0)) (v1 : (c : Dev Cert.MmOIdeal.nD) → Buf (Elt Ideal) ((c.tc : Thread Cert.MmOIdeal.nD Cert.MmOIdeal.τ).loc Cert.MmOIdeal.main_v3_1)) (v2 : (c : Dev Cert.MmOIdeal.nD) → Buf (Elt Ideal) ((c.tc : Thread Cert.MmOIdeal.nD Cert.MmOIdeal.τ).loc Cert.MmOIdeal.main_v3_2)),
      θ_run (Cert.MmOIdeal.defs (F := Ideal)) (onTc (τ := Cert.MmOIdeal.τ) (Cert.MmOIdeal.main (F := Ideal))) ⟨m, fun _ => 0, g⟩ (fun r => ∀ c : Dev Cert.MmOIdeal.nD,
          r.2.mem ((c.tc : Thread Cert.MmOIdeal.nD Cert.MmOIdeal.τ).loc Cert.MmOIdeal.main_v3_0) = v0 c
          ∧ r.2.mem ((c.tc : Thread Cert.MmOIdeal.nD Cert.MmOIdeal.τ).loc Cert.MmOIdeal.main_v3_1) = v1 c
          ∧ r.2.mem ((c.tc : Thread Cert.MmOIdeal.nD Cert.MmOIdeal.τ).loc Cert.MmOIdeal.main_v3_2) = v2 c
          ∧ r.2.mem ((c.tc : Thread Cert.MmOIdeal.nD Cert.MmOIdeal.τ).loc Cert.MmOIdeal.main_arg0) = m ((c.tc : Thread Cert.MmOIdeal.nD Cert.MmOIdeal.τ).loc Cert.MmOIdeal.main_arg0)
          ∧ r.2.mem ((c.tc : Thread Cert.MmOIdeal.nD Cert.MmOIdeal.τ).loc Cert.MmOIdeal.main_arg1) = m ((c.tc : Thread Cert.MmOIdeal.nD Cert.MmOIdeal.τ).loc Cert.MmOIdeal.main_arg1)
          ∧ r.2.mem ((c.tc : Thread Cert.MmOIdeal.nD Cert.MmOIdeal.τ).loc Cert.MmOIdeal.main_arg2) = m ((c.tc : Thread Cert.MmOIdeal.nD Cert.MmOIdeal.τ).loc Cert.MmOIdeal.main_arg2)
          ∧ r.2.mem ((c.tc : Thread Cert.MmOIdeal.nD Cert.MmOIdeal.τ).loc Cert.MmOIdeal.main_arg3) = m ((c.tc : Thread Cert.MmOIdeal.nD Cert.MmOIdeal.τ).loc Cert.MmOIdeal.main_arg3)
          ∧ r.2.mem ((c.tc : Thread Cert.MmOIdeal.nD Cert.MmOIdeal.τ).loc Cert.MmOIdeal.main_arg4) = m ((c.tc : Thread Cert.MmOIdeal.nD Cert.MmOIdeal.τ).loc Cert.MmOIdeal.main_arg4))
      ∧ θ_run (Cert.MmORefIdeal.defs (F := Ideal)) (onTc (τ := Cert.MmORefIdeal.τ) (Cert.MmORefIdeal.main (F := Ideal))) ⟨m', fun _ => 0, g'⟩ (fun r => ∀ c : Dev Cert.MmORefIdeal.nD,
          r.2.mem ((c.tc : Thread Cert.MmORefIdeal.nD Cert.MmORefIdeal.τ).loc Cert.MmORefIdeal.main_v42) = v0 c
          ∧ r.2.mem ((c.tc : Thread Cert.MmORefIdeal.nD Cert.MmORefIdeal.τ).loc Cert.MmORefIdeal.main_v46) = v1 c
          ∧ r.2.mem ((c.tc : Thread Cert.MmORefIdeal.nD Cert.MmORefIdeal.τ).loc Cert.MmORefIdeal.main_v18) = v2 c
          ∧ r.2.mem ((c.tc : Thread Cert.MmORefIdeal.nD Cert.MmORefIdeal.τ).loc Cert.MmORefIdeal.main_arg0) = m' ((c.tc : Thread Cert.MmORefIdeal.nD Cert.MmORefIdeal.τ).loc Cert.MmORefIdeal.main_arg0)
          ∧ r.2.mem ((c.tc : Thread Cert.MmORefIdeal.nD Cert.MmORefIdeal.τ).loc Cert.MmORefIdeal.main_arg1) = m' ((c.tc : Thread Cert.MmORefIdeal.nD Cert.MmORefIdeal.τ).loc Cert.MmORefIdeal.main_arg1)
          ∧ r.2.mem ((c.tc : Thread Cert.MmORefIdeal.nD Cert.MmORefIdeal.τ).loc Cert.MmORefIdeal.main_arg2) = m' ((c.tc : Thread Cert.MmORefIdeal.nD Cert.MmORefIdeal.τ).loc Cert.MmORefIdeal.main_arg2)
          ∧ r.2.mem ((c.tc : Thread Cert.MmORefIdeal.nD Cert.MmORefIdeal.τ).loc Cert.MmORefIdeal.main_arg3) = m' ((c.tc : Thread Cert.MmORefIdeal.nD Cert.MmORefIdeal.τ).loc Cert.MmORefIdeal.main_arg3)
          ∧ r.2.mem ((c.tc : Thread Cert.MmORefIdeal.nD Cert.MmORefIdeal.τ).loc Cert.MmORefIdeal.main_arg4) = m' ((c.tc : Thread Cert.MmORefIdeal.nD Cert.MmORefIdeal.τ).loc Cert.MmORefIdeal.main_arg4))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)
      ∧ m' ((c.tc : Thread Cert.MmDownRefIdeal.nD Cert.MmDownRefIdeal.τ).loc Cert.MmDownRefIdeal.main_arg2) = m ((c.tc : Thread Cert.MmDownIdeal.nD Cert.MmDownIdeal.τ).loc Cert.MmDownIdeal.main_arg2)
      ∧ m' ((c.tc : Thread Cert.MmDownRefIdeal.nD Cert.MmDownRefIdeal.τ).loc Cert.MmDownRefIdeal.main_arg3) = m ((c.tc : Thread Cert.MmDownIdeal.nD Cert.MmDownIdeal.τ).loc Cert.MmDownIdeal.main_arg3)
      ∧ m' ((c.tc : Thread Cert.MmDownRefIdeal.nD Cert.MmDownRefIdeal.τ).loc Cert.MmDownRefIdeal.main_arg4) = m ((c.tc : Thread Cert.MmDownIdeal.nD Cert.MmDownIdeal.τ).loc Cert.MmDownIdeal.main_arg4)) →
    ∃ (v0 : (c : Dev Cert.MmDownIdeal.nD) → Buf (Elt Ideal) ((c.tc : Thread Cert.MmDownIdeal.nD Cert.MmDownIdeal.τ).loc Cert.MmDownIdeal.main_v3_0)) (v1 : (c : Dev Cert.MmDownIdeal.nD) → Buf (Elt Ideal) ((c.tc : Thread Cert.MmDownIdeal.nD Cert.MmDownIdeal.τ).loc Cert.MmDownIdeal.main_v3_1)) (v2 : (c : Dev Cert.MmDownIdeal.nD) → Buf (Elt Ideal) ((c.tc : Thread Cert.MmDownIdeal.nD Cert.MmDownIdeal.τ).loc Cert.MmDownIdeal.main_v3_2)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v3_0) = v0 c
          ∧ r.2.mem ((c.tc : Thread Cert.MmDownIdeal.nD Cert.MmDownIdeal.τ).loc Cert.MmDownIdeal.main_v3_1) = v1 c
          ∧ r.2.mem ((c.tc : Thread Cert.MmDownIdeal.nD Cert.MmDownIdeal.τ).loc Cert.MmDownIdeal.main_v3_2) = v2 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
          ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2)
          ∧ r.2.mem ((c.tc : Thread Cert.MmDownIdeal.nD Cert.MmDownIdeal.τ).loc Cert.MmDownIdeal.main_arg3) = m ((c.tc : Thread Cert.MmDownIdeal.nD Cert.MmDownIdeal.τ).loc Cert.MmDownIdeal.main_arg3)
          ∧ r.2.mem ((c.tc : Thread Cert.MmDownIdeal.nD Cert.MmDownIdeal.τ).loc Cert.MmDownIdeal.main_arg4) = m ((c.tc : Thread Cert.MmDownIdeal.nD Cert.MmDownIdeal.τ).loc Cert.MmDownIdeal.main_arg4))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v42) = v0 c
          ∧ r.2.mem ((c.tc : Thread Cert.MmDownRefIdeal.nD Cert.MmDownRefIdeal.τ).loc Cert.MmDownRefIdeal.main_v46) = v1 c
          ∧ r.2.mem ((c.tc : Thread Cert.MmDownRefIdeal.nD Cert.MmDownRefIdeal.τ).loc Cert.MmDownRefIdeal.main_v18) = v2 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1)
          ∧ r.2.mem ((c.tc : Thread Cert.MmDownRefIdeal.nD Cert.MmDownRefIdeal.τ).loc Cert.MmDownRefIdeal.main_arg2) = m' ((c.tc : Thread Cert.MmDownRefIdeal.nD Cert.MmDownRefIdeal.τ).loc Cert.MmDownRefIdeal.main_arg2)
          ∧ r.2.mem ((c.tc : Thread Cert.MmDownRefIdeal.nD Cert.MmDownRefIdeal.τ).loc Cert.MmDownRefIdeal.main_arg3) = m' ((c.tc : Thread Cert.MmDownRefIdeal.nD Cert.MmDownRefIdeal.τ).loc Cert.MmDownRefIdeal.main_arg3)
          ∧ r.2.mem ((c.tc : Thread Cert.MmDownRefIdeal.nD Cert.MmDownRefIdeal.τ).loc Cert.MmDownRefIdeal.main_arg4) = m' ((c.tc : Thread Cert.MmDownRefIdeal.nD Cert.MmDownRefIdeal.τ).loc Cert.MmDownRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v4) = v0 c
          ∧ r.2.mem ((c.tc : Thread Cert.AdamInRefIdeal.nD Cert.AdamInRefIdeal.τ).loc Cert.AdamInRefIdeal.main_v28) = v1 c
          ∧ r.2.mem ((c.tc : Thread Cert.AdamInRefIdeal.nD Cert.AdamInRefIdeal.τ).loc Cert.AdamInRefIdeal.main_v9) = v2 c
          ∧ r.2.mem ((c.tc : Thread Cert.AdamInRefIdeal.nD Cert.AdamInRefIdeal.τ).loc Cert.AdamInRefIdeal.main_v15) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)
      ∧ m' ((c.tc : Thread Cert.AdamORefIdeal.nD Cert.AdamORefIdeal.τ).loc Cert.AdamORefIdeal.main_arg4) = m ((c.tc : Thread Cert.AdamOIdeal.nD Cert.AdamOIdeal.τ).loc Cert.AdamOIdeal.main_arg4)
      ∧ m' ((c.tc : Thread Cert.AdamORefIdeal.nD Cert.AdamORefIdeal.τ).loc Cert.AdamORefIdeal.main_arg5) = m ((c.tc : Thread Cert.AdamOIdeal.nD Cert.AdamOIdeal.τ).loc Cert.AdamOIdeal.main_arg5)
      ∧ m' ((c.tc : Thread Cert.AdamORefIdeal.nD Cert.AdamORefIdeal.τ).loc Cert.AdamORefIdeal.main_arg6) = m ((c.tc : Thread Cert.AdamOIdeal.nD Cert.AdamOIdeal.τ).loc Cert.AdamOIdeal.main_arg6)) →
    ∃ (v0 : (c : Dev Cert.AdamOIdeal.nD) → Buf (Elt Ideal) ((c.tc : Thread Cert.AdamOIdeal.nD Cert.AdamOIdeal.τ).loc Cert.AdamOIdeal.main_v1_0)) (v1 : (c : Dev Cert.AdamOIdeal.nD) → Buf (Elt Ideal) ((c.tc : Thread Cert.AdamOIdeal.nD Cert.AdamOIdeal.τ).loc Cert.AdamOIdeal.main_v1_1)) (v2 : (c : Dev Cert.AdamOIdeal.nD) → Buf (Elt Ideal) ((c.tc : Thread Cert.AdamOIdeal.nD Cert.AdamOIdeal.τ).loc Cert.AdamOIdeal.main_v1_2)) (v3 : (c : Dev Cert.AdamOIdeal.nD) → Buf (Elt Ideal) ((c.tc : Thread Cert.AdamOIdeal.nD Cert.AdamOIdeal.τ).loc Cert.AdamOIdeal.main_v1_3)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v1_0) = v0 c
          ∧ r.2.mem ((c.tc : Thread Cert.AdamOIdeal.nD Cert.AdamOIdeal.τ).loc Cert.AdamOIdeal.main_v1_1) = v1 c
          ∧ r.2.mem ((c.tc : Thread Cert.AdamOIdeal.nD Cert.AdamOIdeal.τ).loc Cert.AdamOIdeal.main_v1_2) = v2 c
          ∧ r.2.mem ((c.tc : Thread Cert.AdamOIdeal.nD Cert.AdamOIdeal.τ).loc Cert.AdamOIdeal.main_v1_3) = v3 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
          ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4)
          ∧ r.2.mem ((c.tc : Thread Cert.AdamOIdeal.nD Cert.AdamOIdeal.τ).loc Cert.AdamOIdeal.main_arg5) = m ((c.tc : Thread Cert.AdamOIdeal.nD Cert.AdamOIdeal.τ).loc Cert.AdamOIdeal.main_arg5)
          ∧ r.2.mem ((c.tc : Thread Cert.AdamOIdeal.nD Cert.AdamOIdeal.τ).loc Cert.AdamOIdeal.main_arg6) = m ((c.tc : Thread Cert.AdamOIdeal.nD Cert.AdamOIdeal.τ).loc Cert.AdamOIdeal.main_arg6))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v4) = v0 c
          ∧ r.2.mem ((c.tc : Thread Cert.AdamORefIdeal.nD Cert.AdamORefIdeal.τ).loc Cert.AdamORefIdeal.main_v28) = v1 c
          ∧ r.2.mem ((c.tc : Thread Cert.AdamORefIdeal.nD Cert.AdamORefIdeal.τ).loc Cert.AdamORefIdeal.main_v9) = v2 c
          ∧ r.2.mem ((c.tc : Thread Cert.AdamORefIdeal.nD Cert.AdamORefIdeal.τ).loc Cert.AdamORefIdeal.main_v15) = v3 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3)
          ∧ r.2.mem ((c.tc : Thread Cert.AdamORefIdeal.nD Cert.AdamORefIdeal.τ).loc Cert.AdamORefIdeal.main_arg4) = m' ((c.tc : Thread Cert.AdamORefIdeal.nD Cert.AdamORefIdeal.τ).loc Cert.AdamORefIdeal.main_arg4)
          ∧ r.2.mem ((c.tc : Thread Cert.AdamORefIdeal.nD Cert.AdamORefIdeal.τ).loc Cert.AdamORefIdeal.main_arg5) = m' ((c.tc : Thread Cert.AdamORefIdeal.nD Cert.AdamORefIdeal.τ).loc Cert.AdamORefIdeal.main_arg5)
          ∧ r.2.mem ((c.tc : Thread Cert.AdamORefIdeal.nD Cert.AdamORefIdeal.τ).loc Cert.AdamORefIdeal.main_arg6) = m' ((c.tc : Thread Cert.AdamORefIdeal.nD Cert.AdamORefIdeal.τ).loc Cert.AdamORefIdeal.main_arg6))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)
      ∧ m' ((c.tc : Thread Cert.AdamUpRefIdeal.nD Cert.AdamUpRefIdeal.τ).loc Cert.AdamUpRefIdeal.main_arg6) = m ((c.tc : Thread Cert.AdamUpIdeal.nD Cert.AdamUpIdeal.τ).loc Cert.AdamUpIdeal.main_arg6)) →
    ∃ (v0 : (c : Dev Cert.AdamUpIdeal.nD) → Buf (Elt Ideal) ((c.tc : Thread Cert.AdamUpIdeal.nD Cert.AdamUpIdeal.τ).loc Cert.AdamUpIdeal.main_v1_0)) (v1 : (c : Dev Cert.AdamUpIdeal.nD) → Buf (Elt Ideal) ((c.tc : Thread Cert.AdamUpIdeal.nD Cert.AdamUpIdeal.τ).loc Cert.AdamUpIdeal.main_v1_1)) (v2 : (c : Dev Cert.AdamUpIdeal.nD) → Buf (Elt Ideal) ((c.tc : Thread Cert.AdamUpIdeal.nD Cert.AdamUpIdeal.τ).loc Cert.AdamUpIdeal.main_v1_2)) (v3 : (c : Dev Cert.AdamUpIdeal.nD) → Buf (Elt Ideal) ((c.tc : Thread Cert.AdamUpIdeal.nD Cert.AdamUpIdeal.τ).loc Cert.AdamUpIdeal.main_v1_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v1_0) = v0 c
          ∧ r.2.mem ((c.tc : Thread Cert.AdamUpIdeal.nD Cert.AdamUpIdeal.τ).loc Cert.AdamUpIdeal.main_v1_1) = v1 c
          ∧ r.2.mem ((c.tc : Thread Cert.AdamUpIdeal.nD Cert.AdamUpIdeal.τ).loc Cert.AdamUpIdeal.main_v1_2) = v2 c
          ∧ r.2.mem ((c.tc : Thread Cert.AdamUpIdeal.nD Cert.AdamUpIdeal.τ).loc Cert.AdamUpIdeal.main_v1_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v4) = v0 c
          ∧ r.2.mem ((c.tc : Thread Cert.AdamUpRefIdeal.nD Cert.AdamUpRefIdeal.τ).loc Cert.AdamUpRefIdeal.main_v28) = v1 c
          ∧ r.2.mem ((c.tc : Thread Cert.AdamUpRefIdeal.nD Cert.AdamUpRefIdeal.τ).loc Cert.AdamUpRefIdeal.main_v9) = v2 c
          ∧ r.2.mem ((c.tc : Thread Cert.AdamUpRefIdeal.nD Cert.AdamUpRefIdeal.τ).loc Cert.AdamUpRefIdeal.main_v15) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5)
          ∧ r.2.mem ((c.tc : Thread Cert.AdamUpRefIdeal.nD Cert.AdamUpRefIdeal.τ).loc Cert.AdamUpRefIdeal.main_arg6) = m' ((c.tc : Thread Cert.AdamUpRefIdeal.nD Cert.AdamUpRefIdeal.τ).loc Cert.AdamUpRefIdeal.main_arg6))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)
      ∧ m' ((c.tc : Thread Cert.AdamDownRefIdeal.nD Cert.AdamDownRefIdeal.τ).loc Cert.AdamDownRefIdeal.main_arg6) = m ((c.tc : Thread Cert.AdamDownIdeal.nD Cert.AdamDownIdeal.τ).loc Cert.AdamDownIdeal.main_arg6)) →
    ∃ (v0 : (c : Dev Cert.AdamDownIdeal.nD) → Buf (Elt Ideal) ((c.tc : Thread Cert.AdamDownIdeal.nD Cert.AdamDownIdeal.τ).loc Cert.AdamDownIdeal.main_v1_0)) (v1 : (c : Dev Cert.AdamDownIdeal.nD) → Buf (Elt Ideal) ((c.tc : Thread Cert.AdamDownIdeal.nD Cert.AdamDownIdeal.τ).loc Cert.AdamDownIdeal.main_v1_1)) (v2 : (c : Dev Cert.AdamDownIdeal.nD) → Buf (Elt Ideal) ((c.tc : Thread Cert.AdamDownIdeal.nD Cert.AdamDownIdeal.τ).loc Cert.AdamDownIdeal.main_v1_2)) (v3 : (c : Dev Cert.AdamDownIdeal.nD) → Buf (Elt Ideal) ((c.tc : Thread Cert.AdamDownIdeal.nD Cert.AdamDownIdeal.τ).loc Cert.AdamDownIdeal.main_v1_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v1_0) = v0 c
          ∧ r.2.mem ((c.tc : Thread Cert.AdamDownIdeal.nD Cert.AdamDownIdeal.τ).loc Cert.AdamDownIdeal.main_v1_1) = v1 c
          ∧ r.2.mem ((c.tc : Thread Cert.AdamDownIdeal.nD Cert.AdamDownIdeal.τ).loc Cert.AdamDownIdeal.main_v1_2) = v2 c
          ∧ r.2.mem ((c.tc : Thread Cert.AdamDownIdeal.nD Cert.AdamDownIdeal.τ).loc Cert.AdamDownIdeal.main_v1_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
          ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v4) = v0 c
          ∧ r.2.mem ((c.tc : Thread Cert.AdamDownRefIdeal.nD Cert.AdamDownRefIdeal.τ).loc Cert.AdamDownRefIdeal.main_v28) = v1 c
          ∧ r.2.mem ((c.tc : Thread Cert.AdamDownRefIdeal.nD Cert.AdamDownRefIdeal.τ).loc Cert.AdamDownRefIdeal.main_v9) = v2 c
          ∧ r.2.mem ((c.tc : Thread Cert.AdamDownRefIdeal.nD Cert.AdamDownRefIdeal.τ).loc Cert.AdamDownRefIdeal.main_v15) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5)
          ∧ r.2.mem ((c.tc : Thread Cert.AdamDownRefIdeal.nD Cert.AdamDownRefIdeal.τ).loc Cert.AdamDownRefIdeal.main_arg6) = m' ((c.tc : Thread Cert.AdamDownRefIdeal.nD Cert.AdamDownRefIdeal.τ).loc Cert.AdamDownRefIdeal.main_arg6))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)) →
    ∃ (v0 : (c : Dev Cert.AdamSmallIdeal.nD) → Buf (Elt Ideal) ((c.tc : Thread Cert.AdamSmallIdeal.nD Cert.AdamSmallIdeal.τ).loc Cert.AdamSmallIdeal.main_v69)) (v1 : (c : Dev Cert.AdamSmallIdeal.nD) → Buf (Elt Ideal) ((c.tc : Thread Cert.AdamSmallIdeal.nD Cert.AdamSmallIdeal.τ).loc Cert.AdamSmallIdeal.main_v71)) (v2 : (c : Dev Cert.AdamSmallIdeal.nD) → Buf (Elt Ideal) ((c.tc : Thread Cert.AdamSmallIdeal.nD Cert.AdamSmallIdeal.τ).loc Cert.AdamSmallIdeal.main_v73)) (v3 : (c : Dev Cert.AdamSmallIdeal.nD) → Buf (Elt Ideal) ((c.tc : Thread Cert.AdamSmallIdeal.nD Cert.AdamSmallIdeal.τ).loc Cert.AdamSmallIdeal.main_v75)) (v4 : (c : Dev Cert.AdamSmallIdeal.nD) → Buf (Elt Ideal) ((c.tc : Thread Cert.AdamSmallIdeal.nD Cert.AdamSmallIdeal.τ).loc Cert.AdamSmallIdeal.main_v77)) (v5 : (c : Dev Cert.AdamSmallIdeal.nD) → Buf (Elt Ideal) ((c.tc : Thread Cert.AdamSmallIdeal.nD Cert.AdamSmallIdeal.τ).loc Cert.AdamSmallIdeal.main_v79)) (v6 : (c : Dev Cert.AdamSmallIdeal.nD) → Buf (Elt Ideal) ((c.tc : Thread Cert.AdamSmallIdeal.nD Cert.AdamSmallIdeal.τ).loc Cert.AdamSmallIdeal.main_v81)) (v7 : (c : Dev Cert.AdamSmallIdeal.nD) → Buf (Elt Ideal) ((c.tc : Thread Cert.AdamSmallIdeal.nD Cert.AdamSmallIdeal.τ).loc Cert.AdamSmallIdeal.main_v83)) (v8 : (c : Dev Cert.AdamSmallIdeal.nD) → Buf (Elt Ideal) ((c.tc : Thread Cert.AdamSmallIdeal.nD Cert.AdamSmallIdeal.τ).loc Cert.AdamSmallIdeal.main_v85)) (v9 : (c : Dev Cert.AdamSmallIdeal.nD) → Buf (Elt Ideal) ((c.tc : Thread Cert.AdamSmallIdeal.nD Cert.AdamSmallIdeal.τ).loc Cert.AdamSmallIdeal.main_v87)) (v10 : (c : Dev Cert.AdamSmallIdeal.nD) → Buf (Elt Ideal) ((c.tc : Thread Cert.AdamSmallIdeal.nD Cert.AdamSmallIdeal.τ).loc Cert.AdamSmallIdeal.main_v89)) (v11 : (c : Dev Cert.AdamSmallIdeal.nD) → Buf (Elt Ideal) ((c.tc : Thread Cert.AdamSmallIdeal.nD Cert.AdamSmallIdeal.τ).loc Cert.AdamSmallIdeal.main_v91)) (v12 : (c : Dev Cert.AdamSmallIdeal.nD) → Buf (Elt Ideal) ((c.tc : Thread Cert.AdamSmallIdeal.nD Cert.AdamSmallIdeal.τ).loc Cert.AdamSmallIdeal.main_v95)) (v13 : (c : Dev Cert.AdamSmallIdeal.nD) → Buf (Elt Ideal) ((c.tc : Thread Cert.AdamSmallIdeal.nD Cert.AdamSmallIdeal.τ).loc Cert.AdamSmallIdeal.main_v97)) (v14 : (c : Dev Cert.AdamSmallIdeal.nD) → Buf (Elt Ideal) ((c.tc : Thread Cert.AdamSmallIdeal.nD Cert.AdamSmallIdeal.τ).loc Cert.AdamSmallIdeal.main_v99)) (v15 : (c : Dev Cert.AdamSmallIdeal.nD) → Buf (Elt Ideal) ((c.tc : Thread Cert.AdamSmallIdeal.nD Cert.AdamSmallIdeal.τ).loc Cert.AdamSmallIdeal.main_v101)) (v16 : (c : Dev Cert.AdamSmallIdeal.nD) → Buf (Elt Ideal) ((c.tc : Thread Cert.AdamSmallIdeal.nD Cert.AdamSmallIdeal.τ).loc Cert.AdamSmallIdeal.main_v103)) (v17 : (c : Dev Cert.AdamSmallIdeal.nD) → Buf (Elt Ideal) ((c.tc : Thread Cert.AdamSmallIdeal.nD Cert.AdamSmallIdeal.τ).loc Cert.AdamSmallIdeal.main_v105)) (v18 : (c : Dev Cert.AdamSmallIdeal.nD) → Buf (Elt Ideal) ((c.tc : Thread Cert.AdamSmallIdeal.nD Cert.AdamSmallIdeal.τ).loc Cert.AdamSmallIdeal.main_v107)) (v19 : (c : Dev Cert.AdamSmallIdeal.nD) → Buf (Elt Ideal) ((c.tc : Thread Cert.AdamSmallIdeal.nD Cert.AdamSmallIdeal.τ).loc Cert.AdamSmallIdeal.main_v109)) (v20 : (c : Dev Cert.AdamSmallIdeal.nD) → Buf (Elt Ideal) ((c.tc : Thread Cert.AdamSmallIdeal.nD Cert.AdamSmallIdeal.τ).loc Cert.AdamSmallIdeal.main_v111)) (v21 : (c : Dev Cert.AdamSmallIdeal.nD) → Buf (Elt Ideal) ((c.tc : Thread Cert.AdamSmallIdeal.nD Cert.AdamSmallIdeal.τ).loc Cert.AdamSmallIdeal.main_v113)) (v22 : (c : Dev Cert.AdamSmallIdeal.nD) → Buf (Elt Ideal) ((c.tc : Thread Cert.AdamSmallIdeal.nD Cert.AdamSmallIdeal.τ).loc Cert.AdamSmallIdeal.main_v115)) (v23 : (c : Dev Cert.AdamSmallIdeal.nD) → Buf (Elt Ideal) ((c.tc : Thread Cert.AdamSmallIdeal.nD Cert.AdamSmallIdeal.τ).loc Cert.AdamSmallIdeal.main_v117)) (v24 : (c : Dev Cert.AdamSmallIdeal.nD) → Buf (Elt Ideal) ((c.tc : Thread Cert.AdamSmallIdeal.nD Cert.AdamSmallIdeal.τ).loc Cert.AdamSmallIdeal.main_v121)) (v25 : (c : Dev Cert.AdamSmallIdeal.nD) → Buf (Elt Ideal) ((c.tc : Thread Cert.AdamSmallIdeal.nD Cert.AdamSmallIdeal.τ).loc Cert.AdamSmallIdeal.main_v123)) (v26 : (c : Dev Cert.AdamSmallIdeal.nD) → Buf (Elt Ideal) ((c.tc : Thread Cert.AdamSmallIdeal.nD Cert.AdamSmallIdeal.τ).loc Cert.AdamSmallIdeal.main_v125)) (v27 : (c : Dev Cert.AdamSmallIdeal.nD) → Buf (Elt Ideal) ((c.tc : Thread Cert.AdamSmallIdeal.nD Cert.AdamSmallIdeal.τ).loc Cert.AdamSmallIdeal.main_v127)) (v28 : (c : Dev Cert.AdamSmallIdeal.nD) → Buf (Elt Ideal) ((c.tc : Thread Cert.AdamSmallIdeal.nD Cert.AdamSmallIdeal.τ).loc Cert.AdamSmallIdeal.main_v129)) (v29 : (c : Dev Cert.AdamSmallIdeal.nD) → Buf (Elt Ideal) ((c.tc : Thread Cert.AdamSmallIdeal.nD Cert.AdamSmallIdeal.τ).loc Cert.AdamSmallIdeal.main_v131)) (v30 : (c : Dev Cert.AdamSmallIdeal.nD) → Buf (Elt Ideal) ((c.tc : Thread Cert.AdamSmallIdeal.nD Cert.AdamSmallIdeal.τ).loc Cert.AdamSmallIdeal.main_v133)) (v31 : (c : Dev Cert.AdamSmallIdeal.nD) → Buf (Elt Ideal) ((c.tc : Thread Cert.AdamSmallIdeal.nD Cert.AdamSmallIdeal.τ).loc Cert.AdamSmallIdeal.main_v135)) (v32 : (c : Dev Cert.AdamSmallIdeal.nD) → Buf (Elt Ideal) ((c.tc : Thread Cert.AdamSmallIdeal.nD Cert.AdamSmallIdeal.τ).loc Cert.AdamSmallIdeal.main_v137)) (v33 : (c : Dev Cert.AdamSmallIdeal.nD) → Buf (Elt Ideal) ((c.tc : Thread Cert.AdamSmallIdeal.nD Cert.AdamSmallIdeal.τ).loc Cert.AdamSmallIdeal.main_v139)) (v34 : (c : Dev Cert.AdamSmallIdeal.nD) → Buf (Elt Ideal) ((c.tc : Thread Cert.AdamSmallIdeal.nD Cert.AdamSmallIdeal.τ).loc Cert.AdamSmallIdeal.main_v141)) (v35 : (c : Dev Cert.AdamSmallIdeal.nD) → Buf (Elt Ideal) ((c.tc : Thread Cert.AdamSmallIdeal.nD Cert.AdamSmallIdeal.τ).loc Cert.AdamSmallIdeal.main_v143)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v69) = v0 c
          ∧ r.2.mem ((c.tc : Thread Cert.AdamSmallIdeal.nD Cert.AdamSmallIdeal.τ).loc Cert.AdamSmallIdeal.main_v71) = v1 c
          ∧ r.2.mem ((c.tc : Thread Cert.AdamSmallIdeal.nD Cert.AdamSmallIdeal.τ).loc Cert.AdamSmallIdeal.main_v73) = v2 c
          ∧ r.2.mem ((c.tc : Thread Cert.AdamSmallIdeal.nD Cert.AdamSmallIdeal.τ).loc Cert.AdamSmallIdeal.main_v75) = v3 c
          ∧ r.2.mem ((c.tc : Thread Cert.AdamSmallIdeal.nD Cert.AdamSmallIdeal.τ).loc Cert.AdamSmallIdeal.main_v77) = v4 c
          ∧ r.2.mem ((c.tc : Thread Cert.AdamSmallIdeal.nD Cert.AdamSmallIdeal.τ).loc Cert.AdamSmallIdeal.main_v79) = v5 c
          ∧ r.2.mem ((c.tc : Thread Cert.AdamSmallIdeal.nD Cert.AdamSmallIdeal.τ).loc Cert.AdamSmallIdeal.main_v81) = v6 c
          ∧ r.2.mem ((c.tc : Thread Cert.AdamSmallIdeal.nD Cert.AdamSmallIdeal.τ).loc Cert.AdamSmallIdeal.main_v83) = v7 c
          ∧ r.2.mem ((c.tc : Thread Cert.AdamSmallIdeal.nD Cert.AdamSmallIdeal.τ).loc Cert.AdamSmallIdeal.main_v85) = v8 c
          ∧ r.2.mem ((c.tc : Thread Cert.AdamSmallIdeal.nD Cert.AdamSmallIdeal.τ).loc Cert.AdamSmallIdeal.main_v87) = v9 c
          ∧ r.2.mem ((c.tc : Thread Cert.AdamSmallIdeal.nD Cert.AdamSmallIdeal.τ).loc Cert.AdamSmallIdeal.main_v89) = v10 c
          ∧ r.2.mem ((c.tc : Thread Cert.AdamSmallIdeal.nD Cert.AdamSmallIdeal.τ).loc Cert.AdamSmallIdeal.main_v91) = v11 c
          ∧ r.2.mem ((c.tc : Thread Cert.AdamSmallIdeal.nD Cert.AdamSmallIdeal.τ).loc Cert.AdamSmallIdeal.main_v95) = v12 c
          ∧ r.2.mem ((c.tc : Thread Cert.AdamSmallIdeal.nD Cert.AdamSmallIdeal.τ).loc Cert.AdamSmallIdeal.main_v97) = v13 c
          ∧ r.2.mem ((c.tc : Thread Cert.AdamSmallIdeal.nD Cert.AdamSmallIdeal.τ).loc Cert.AdamSmallIdeal.main_v99) = v14 c
          ∧ r.2.mem ((c.tc : Thread Cert.AdamSmallIdeal.nD Cert.AdamSmallIdeal.τ).loc Cert.AdamSmallIdeal.main_v101) = v15 c
          ∧ r.2.mem ((c.tc : Thread Cert.AdamSmallIdeal.nD Cert.AdamSmallIdeal.τ).loc Cert.AdamSmallIdeal.main_v103) = v16 c
          ∧ r.2.mem ((c.tc : Thread Cert.AdamSmallIdeal.nD Cert.AdamSmallIdeal.τ).loc Cert.AdamSmallIdeal.main_v105) = v17 c
          ∧ r.2.mem ((c.tc : Thread Cert.AdamSmallIdeal.nD Cert.AdamSmallIdeal.τ).loc Cert.AdamSmallIdeal.main_v107) = v18 c
          ∧ r.2.mem ((c.tc : Thread Cert.AdamSmallIdeal.nD Cert.AdamSmallIdeal.τ).loc Cert.AdamSmallIdeal.main_v109) = v19 c
          ∧ r.2.mem ((c.tc : Thread Cert.AdamSmallIdeal.nD Cert.AdamSmallIdeal.τ).loc Cert.AdamSmallIdeal.main_v111) = v20 c
          ∧ r.2.mem ((c.tc : Thread Cert.AdamSmallIdeal.nD Cert.AdamSmallIdeal.τ).loc Cert.AdamSmallIdeal.main_v113) = v21 c
          ∧ r.2.mem ((c.tc : Thread Cert.AdamSmallIdeal.nD Cert.AdamSmallIdeal.τ).loc Cert.AdamSmallIdeal.main_v115) = v22 c
          ∧ r.2.mem ((c.tc : Thread Cert.AdamSmallIdeal.nD Cert.AdamSmallIdeal.τ).loc Cert.AdamSmallIdeal.main_v117) = v23 c
          ∧ r.2.mem ((c.tc : Thread Cert.AdamSmallIdeal.nD Cert.AdamSmallIdeal.τ).loc Cert.AdamSmallIdeal.main_v121) = v24 c
          ∧ r.2.mem ((c.tc : Thread Cert.AdamSmallIdeal.nD Cert.AdamSmallIdeal.τ).loc Cert.AdamSmallIdeal.main_v123) = v25 c
          ∧ r.2.mem ((c.tc : Thread Cert.AdamSmallIdeal.nD Cert.AdamSmallIdeal.τ).loc Cert.AdamSmallIdeal.main_v125) = v26 c
          ∧ r.2.mem ((c.tc : Thread Cert.AdamSmallIdeal.nD Cert.AdamSmallIdeal.τ).loc Cert.AdamSmallIdeal.main_v127) = v27 c
          ∧ r.2.mem ((c.tc : Thread Cert.AdamSmallIdeal.nD Cert.AdamSmallIdeal.τ).loc Cert.AdamSmallIdeal.main_v129) = v28 c
          ∧ r.2.mem ((c.tc : Thread Cert.AdamSmallIdeal.nD Cert.AdamSmallIdeal.τ).loc Cert.AdamSmallIdeal.main_v131) = v29 c
          ∧ r.2.mem ((c.tc : Thread Cert.AdamSmallIdeal.nD Cert.AdamSmallIdeal.τ).loc Cert.AdamSmallIdeal.main_v133) = v30 c
          ∧ r.2.mem ((c.tc : Thread Cert.AdamSmallIdeal.nD Cert.AdamSmallIdeal.τ).loc Cert.AdamSmallIdeal.main_v135) = v31 c
          ∧ r.2.mem ((c.tc : Thread Cert.AdamSmallIdeal.nD Cert.AdamSmallIdeal.τ).loc Cert.AdamSmallIdeal.main_v137) = v32 c
          ∧ r.2.mem ((c.tc : Thread Cert.AdamSmallIdeal.nD Cert.AdamSmallIdeal.τ).loc Cert.AdamSmallIdeal.main_v139) = v33 c
          ∧ r.2.mem ((c.tc : Thread Cert.AdamSmallIdeal.nD Cert.AdamSmallIdeal.τ).loc Cert.AdamSmallIdeal.main_v141) = v34 c
          ∧ r.2.mem ((c.tc : Thread Cert.AdamSmallIdeal.nD Cert.AdamSmallIdeal.τ).loc Cert.AdamSmallIdeal.main_v143) = v35 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v167) = v6 c
          ∧ r.2.mem ((c.tc : Thread Cert.AdamSmallRefIdeal.nD Cert.AdamSmallRefIdeal.τ).loc Cert.AdamSmallRefIdeal.main_v191) = v7 c
          ∧ r.2.mem ((c.tc : Thread Cert.AdamSmallRefIdeal.nD Cert.AdamSmallRefIdeal.τ).loc Cert.AdamSmallRefIdeal.main_v215) = v8 c
          ∧ r.2.mem ((c.tc : Thread Cert.AdamSmallRefIdeal.nD Cert.AdamSmallRefIdeal.τ).loc Cert.AdamSmallRefIdeal.main_v239) = v9 c
          ∧ r.2.mem ((c.tc : Thread Cert.AdamSmallRefIdeal.nD Cert.AdamSmallRefIdeal.τ).loc Cert.AdamSmallRefIdeal.main_v263) = v10 c
          ∧ r.2.mem ((c.tc : Thread Cert.AdamSmallRefIdeal.nD Cert.AdamSmallRefIdeal.τ).loc Cert.AdamSmallRefIdeal.main_v287) = v11 c
          ∧ r.2.mem ((c.tc : Thread Cert.AdamSmallRefIdeal.nD Cert.AdamSmallRefIdeal.τ).loc Cert.AdamSmallRefIdeal.main_v4) = v12 c
          ∧ r.2.mem ((c.tc : Thread Cert.AdamSmallRefIdeal.nD Cert.AdamSmallRefIdeal.τ).loc Cert.AdamSmallRefIdeal.main_v28) = v13 c
          ∧ r.2.mem ((c.tc : Thread Cert.AdamSmallRefIdeal.nD Cert.AdamSmallRefIdeal.τ).loc Cert.AdamSmallRefIdeal.main_v52) = v14 c
          ∧ r.2.mem ((c.tc : Thread Cert.AdamSmallRefIdeal.nD Cert.AdamSmallRefIdeal.τ).loc Cert.AdamSmallRefIdeal.main_v76) = v15 c
          ∧ r.2.mem ((c.tc : Thread Cert.AdamSmallRefIdeal.nD Cert.AdamSmallRefIdeal.τ).loc Cert.AdamSmallRefIdeal.main_v100) = v16 c
          ∧ r.2.mem ((c.tc : Thread Cert.AdamSmallRefIdeal.nD Cert.AdamSmallRefIdeal.τ).loc Cert.AdamSmallRefIdeal.main_v124) = v17 c
          ∧ r.2.mem ((c.tc : Thread Cert.AdamSmallRefIdeal.nD Cert.AdamSmallRefIdeal.τ).loc Cert.AdamSmallRefIdeal.main_v148) = v18 c
          ∧ r.2.mem ((c.tc : Thread Cert.AdamSmallRefIdeal.nD Cert.AdamSmallRefIdeal.τ).loc Cert.AdamSmallRefIdeal.main_v172) = v19 c
          ∧ r.2.mem ((c.tc : Thread Cert.AdamSmallRefIdeal.nD Cert.AdamSmallRefIdeal.τ).loc Cert.AdamSmallRefIdeal.main_v196) = v20 c
          ∧ r.2.mem ((c.tc : Thread Cert.AdamSmallRefIdeal.nD Cert.AdamSmallRefIdeal.τ).loc Cert.AdamSmallRefIdeal.main_v220) = v21 c
          ∧ r.2.mem ((c.tc : Thread Cert.AdamSmallRefIdeal.nD Cert.AdamSmallRefIdeal.τ).loc Cert.AdamSmallRefIdeal.main_v244) = v22 c
          ∧ r.2.mem ((c.tc : Thread Cert.AdamSmallRefIdeal.nD Cert.AdamSmallRefIdeal.τ).loc Cert.AdamSmallRefIdeal.main_v268) = v23 c
          ∧ r.2.mem ((c.tc : Thread Cert.AdamSmallRefIdeal.nD Cert.AdamSmallRefIdeal.τ).loc Cert.AdamSmallRefIdeal.main_v10) = v24 c
          ∧ r.2.mem ((c.tc : Thread Cert.AdamSmallRefIdeal.nD Cert.AdamSmallRefIdeal.τ).loc Cert.AdamSmallRefIdeal.main_v34) = v25 c
          ∧ r.2.mem ((c.tc : Thread Cert.AdamSmallRefIdeal.nD Cert.AdamSmallRefIdeal.τ).loc Cert.AdamSmallRefIdeal.main_v58) = v26 c
          ∧ r.2.mem ((c.tc : Thread Cert.AdamSmallRefIdeal.nD Cert.AdamSmallRefIdeal.τ).loc Cert.AdamSmallRefIdeal.main_v82) = v27 c
          ∧ r.2.mem ((c.tc : Thread Cert.AdamSmallRefIdeal.nD Cert.AdamSmallRefIdeal.τ).loc Cert.AdamSmallRefIdeal.main_v106) = v28 c
          ∧ r.2.mem ((c.tc : Thread Cert.AdamSmallRefIdeal.nD Cert.AdamSmallRefIdeal.τ).loc Cert.AdamSmallRefIdeal.main_v130) = v29 c
          ∧ r.2.mem ((c.tc : Thread Cert.AdamSmallRefIdeal.nD Cert.AdamSmallRefIdeal.τ).loc Cert.AdamSmallRefIdeal.main_v154) = v30 c
          ∧ r.2.mem ((c.tc : Thread Cert.AdamSmallRefIdeal.nD Cert.AdamSmallRefIdeal.τ).loc Cert.AdamSmallRefIdeal.main_v178) = v31 c
          ∧ r.2.mem ((c.tc : Thread Cert.AdamSmallRefIdeal.nD Cert.AdamSmallRefIdeal.τ).loc Cert.AdamSmallRefIdeal.main_v202) = v32 c
          ∧ r.2.mem ((c.tc : Thread Cert.AdamSmallRefIdeal.nD Cert.AdamSmallRefIdeal.τ).loc Cert.AdamSmallRefIdeal.main_v226) = v33 c
          ∧ r.2.mem ((c.tc : Thread Cert.AdamSmallRefIdeal.nD Cert.AdamSmallRefIdeal.τ).loc Cert.AdamSmallRefIdeal.main_v250) = v34 c
          ∧ r.2.mem ((c.tc : Thread Cert.AdamSmallRefIdeal.nD Cert.AdamSmallRefIdeal.τ).loc Cert.AdamSmallRefIdeal.main_v274) = v35 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47))

def preserves_LnO_LnOIdeal : Prop :=
  True

def algebraic_LnOIdeal_LnORefIdeal_pre_finite_o [hLnOIdeal : Cert.LnOIdeal.Facts] [hLnORefIdeal : Cert.LnORefIdeal.Facts] [hPre_finite_o : Cert.Pre_finite_o.Facts] : Prop :=
  ∀ (m : (ℓ : Loc Cert.LnOIdeal.nD Cert.LnOIdeal.τ Cert.LnOIdeal.sig) → Buf (Elt Ideal) ℓ) (g : Dev Cert.LnOIdeal.nD → PrngReg)
    (m' : (ℓ : Loc Cert.LnORefIdeal.nD Cert.LnORefIdeal.τ Cert.LnORefIdeal.sig) → Buf (Elt Ideal) ℓ) (g' : Dev Cert.LnORefIdeal.nD → PrngReg), Pre_LnOIdeal_finite_o m →
    (∀ c : Dev Cert.LnOIdeal.nD,
      m' ((c.tc : Thread Cert.LnORefIdeal.nD Cert.LnORefIdeal.τ).loc Cert.LnORefIdeal.main_arg0) = m ((c.tc : Thread Cert.LnOIdeal.nD Cert.LnOIdeal.τ).loc Cert.LnOIdeal.main_arg0)
      ∧ m' ((c.tc : Thread Cert.LnORefIdeal.nD Cert.LnORefIdeal.τ).loc Cert.LnORefIdeal.main_arg1) = m ((c.tc : Thread Cert.LnOIdeal.nD Cert.LnOIdeal.τ).loc Cert.LnOIdeal.main_arg1)
      ∧ m' ((c.tc : Thread Cert.LnORefIdeal.nD Cert.LnORefIdeal.τ).loc Cert.LnORefIdeal.main_arg2) = m ((c.tc : Thread Cert.LnOIdeal.nD Cert.LnOIdeal.τ).loc Cert.LnOIdeal.main_arg2)
      ∧ m' ((c.tc : Thread Cert.LnORefIdeal.nD Cert.LnORefIdeal.τ).loc Cert.LnORefIdeal.main_arg3) = m ((c.tc : Thread Cert.LnOIdeal.nD Cert.LnOIdeal.τ).loc Cert.LnOIdeal.main_arg3)
      ∧ m' ((c.tc : Thread Cert.LnORefIdeal.nD Cert.LnORefIdeal.τ).loc Cert.LnORefIdeal.main_arg4) = m ((c.tc : Thread Cert.LnOIdeal.nD Cert.LnOIdeal.τ).loc Cert.LnOIdeal.main_arg4)
      ∧ m' ((c.tc : Thread Cert.LnORefIdeal.nD Cert.LnORefIdeal.τ).loc Cert.LnORefIdeal.main_arg5) = m ((c.tc : Thread Cert.LnOIdeal.nD Cert.LnOIdeal.τ).loc Cert.LnOIdeal.main_arg5)) →
    ∃ (v0 : (c : Dev Cert.LnOIdeal.nD) → Buf (Elt Ideal) ((c.tc : Thread Cert.LnOIdeal.nD Cert.LnOIdeal.τ).loc Cert.LnOIdeal.main_v20_0)) (v1 : (c : Dev Cert.LnOIdeal.nD) → Buf (Elt Ideal) ((c.tc : Thread Cert.LnOIdeal.nD Cert.LnOIdeal.τ).loc Cert.LnOIdeal.main_v20_1)) (v2 : (c : Dev Cert.LnOIdeal.nD) → Buf (Elt Ideal) ((c.tc : Thread Cert.LnOIdeal.nD Cert.LnOIdeal.τ).loc Cert.LnOIdeal.main_v20_2)),
      θ_run (Cert.LnOIdeal.defs (F := Ideal)) (onTc (τ := Cert.LnOIdeal.τ) (Cert.LnOIdeal.main (F := Ideal))) ⟨m, fun _ => 0, g⟩ (fun r => ∀ c : Dev Cert.LnOIdeal.nD,
          r.2.mem ((c.tc : Thread Cert.LnOIdeal.nD Cert.LnOIdeal.τ).loc Cert.LnOIdeal.main_v20_0) = v0 c
          ∧ r.2.mem ((c.tc : Thread Cert.LnOIdeal.nD Cert.LnOIdeal.τ).loc Cert.LnOIdeal.main_v20_1) = v1 c
          ∧ r.2.mem ((c.tc : Thread Cert.LnOIdeal.nD Cert.LnOIdeal.τ).loc Cert.LnOIdeal.main_v20_2) = v2 c
          ∧ r.2.mem ((c.tc : Thread Cert.LnOIdeal.nD Cert.LnOIdeal.τ).loc Cert.LnOIdeal.main_arg0) = m ((c.tc : Thread Cert.LnOIdeal.nD Cert.LnOIdeal.τ).loc Cert.LnOIdeal.main_arg0)
          ∧ r.2.mem ((c.tc : Thread Cert.LnOIdeal.nD Cert.LnOIdeal.τ).loc Cert.LnOIdeal.main_arg1) = m ((c.tc : Thread Cert.LnOIdeal.nD Cert.LnOIdeal.τ).loc Cert.LnOIdeal.main_arg1)
          ∧ r.2.mem ((c.tc : Thread Cert.LnOIdeal.nD Cert.LnOIdeal.τ).loc Cert.LnOIdeal.main_arg2) = m ((c.tc : Thread Cert.LnOIdeal.nD Cert.LnOIdeal.τ).loc Cert.LnOIdeal.main_arg2)
          ∧ r.2.mem ((c.tc : Thread Cert.LnOIdeal.nD Cert.LnOIdeal.τ).loc Cert.LnOIdeal.main_arg3) = m ((c.tc : Thread Cert.LnOIdeal.nD Cert.LnOIdeal.τ).loc Cert.LnOIdeal.main_arg3)
          ∧ r.2.mem ((c.tc : Thread Cert.LnOIdeal.nD Cert.LnOIdeal.τ).loc Cert.LnOIdeal.main_arg4) = m ((c.tc : Thread Cert.LnOIdeal.nD Cert.LnOIdeal.τ).loc Cert.LnOIdeal.main_arg4)
          ∧ r.2.mem ((c.tc : Thread Cert.LnOIdeal.nD Cert.LnOIdeal.τ).loc Cert.LnOIdeal.main_arg5) = m ((c.tc : Thread Cert.LnOIdeal.nD Cert.LnOIdeal.τ).loc Cert.LnOIdeal.main_arg5))
      ∧ θ_run (Cert.LnORefIdeal.defs (F := Ideal)) (onTc (τ := Cert.LnORefIdeal.τ) (Cert.LnORefIdeal.main (F := Ideal))) ⟨m', fun _ => 0, g'⟩ (fun r => ∀ c : Dev Cert.LnORefIdeal.nD,
          r.2.mem ((c.tc : Thread Cert.LnORefIdeal.nD Cert.LnORefIdeal.τ).loc Cert.LnORefIdeal.main_v62) = v0 c
          ∧ r.2.mem ((c.tc : Thread Cert.LnORefIdeal.nD Cert.LnORefIdeal.τ).loc Cert.LnORefIdeal.main_v68) = v1 c
          ∧ r.2.mem ((c.tc : Thread Cert.LnORefIdeal.nD Cert.LnORefIdeal.τ).loc Cert.LnORefIdeal.main_v64) = v2 c
          ∧ r.2.mem ((c.tc : Thread Cert.LnORefIdeal.nD Cert.LnORefIdeal.τ).loc Cert.LnORefIdeal.main_arg0) = m' ((c.tc : Thread Cert.LnORefIdeal.nD Cert.LnORefIdeal.τ).loc Cert.LnORefIdeal.main_arg0)
          ∧ r.2.mem ((c.tc : Thread Cert.LnORefIdeal.nD Cert.LnORefIdeal.τ).loc Cert.LnORefIdeal.main_arg1) = m' ((c.tc : Thread Cert.LnORefIdeal.nD Cert.LnORefIdeal.τ).loc Cert.LnORefIdeal.main_arg1)
          ∧ r.2.mem ((c.tc : Thread Cert.LnORefIdeal.nD Cert.LnORefIdeal.τ).loc Cert.LnORefIdeal.main_arg2) = m' ((c.tc : Thread Cert.LnORefIdeal.nD Cert.LnORefIdeal.τ).loc Cert.LnORefIdeal.main_arg2)
          ∧ r.2.mem ((c.tc : Thread Cert.LnORefIdeal.nD Cert.LnORefIdeal.τ).loc Cert.LnORefIdeal.main_arg3) = m' ((c.tc : Thread Cert.LnORefIdeal.nD Cert.LnORefIdeal.τ).loc Cert.LnORefIdeal.main_arg3)
          ∧ r.2.mem ((c.tc : Thread Cert.LnORefIdeal.nD Cert.LnORefIdeal.τ).loc Cert.LnORefIdeal.main_arg4) = m' ((c.tc : Thread Cert.LnORefIdeal.nD Cert.LnORefIdeal.τ).loc Cert.LnORefIdeal.main_arg4)
          ∧ r.2.mem ((c.tc : Thread Cert.LnORefIdeal.nD Cert.LnORefIdeal.τ).loc Cert.LnORefIdeal.main_arg5) = m' ((c.tc : Thread Cert.LnORefIdeal.nD Cert.LnORefIdeal.τ).loc Cert.LnORefIdeal.main_arg5))

def preserves_LnDown_LnDownIdeal : Prop :=
  True

def algebraic_LnDownIdeal_LnDownRefIdeal_pre_finite_down [hLnDownIdeal : Cert.LnDownIdeal.Facts] [hLnDownRefIdeal : Cert.LnDownRefIdeal.Facts] [hPre_finite_down : Cert.Pre_finite_down.Facts] : Prop :=
  ∀ (m : (ℓ : Loc Cert.LnDownIdeal.nD Cert.LnDownIdeal.τ Cert.LnDownIdeal.sig) → Buf (Elt Ideal) ℓ) (g : Dev Cert.LnDownIdeal.nD → PrngReg)
    (m' : (ℓ : Loc Cert.LnDownRefIdeal.nD Cert.LnDownRefIdeal.τ Cert.LnDownRefIdeal.sig) → Buf (Elt Ideal) ℓ) (g' : Dev Cert.LnDownRefIdeal.nD → PrngReg), Pre_LnDownIdeal_finite_down m →
    (∀ c : Dev Cert.LnDownIdeal.nD,
      m' ((c.tc : Thread Cert.LnDownRefIdeal.nD Cert.LnDownRefIdeal.τ).loc Cert.LnDownRefIdeal.main_arg0) = m ((c.tc : Thread Cert.LnDownIdeal.nD Cert.LnDownIdeal.τ).loc Cert.LnDownIdeal.main_arg0)
      ∧ m' ((c.tc : Thread Cert.LnDownRefIdeal.nD Cert.LnDownRefIdeal.τ).loc Cert.LnDownRefIdeal.main_arg1) = m ((c.tc : Thread Cert.LnDownIdeal.nD Cert.LnDownIdeal.τ).loc Cert.LnDownIdeal.main_arg1)
      ∧ m' ((c.tc : Thread Cert.LnDownRefIdeal.nD Cert.LnDownRefIdeal.τ).loc Cert.LnDownRefIdeal.main_arg2) = m ((c.tc : Thread Cert.LnDownIdeal.nD Cert.LnDownIdeal.τ).loc Cert.LnDownIdeal.main_arg2)
      ∧ m' ((c.tc : Thread Cert.LnDownRefIdeal.nD Cert.LnDownRefIdeal.τ).loc Cert.LnDownRefIdeal.main_arg3) = m ((c.tc : Thread Cert.LnDownIdeal.nD Cert.LnDownIdeal.τ).loc Cert.LnDownIdeal.main_arg3)
      ∧ m' ((c.tc : Thread Cert.LnDownRefIdeal.nD Cert.LnDownRefIdeal.τ).loc Cert.LnDownRefIdeal.main_arg4) = m ((c.tc : Thread Cert.LnDownIdeal.nD Cert.LnDownIdeal.τ).loc Cert.LnDownIdeal.main_arg4)
      ∧ m' ((c.tc : Thread Cert.LnDownRefIdeal.nD Cert.LnDownRefIdeal.τ).loc Cert.LnDownRefIdeal.main_arg5) = m ((c.tc : Thread Cert.LnDownIdeal.nD Cert.LnDownIdeal.τ).loc Cert.LnDownIdeal.main_arg5)) →
    ∃ (v0 : (c : Dev Cert.LnDownIdeal.nD) → Buf (Elt Ideal) ((c.tc : Thread Cert.LnDownIdeal.nD Cert.LnDownIdeal.τ).loc Cert.LnDownIdeal.main_v20_0)) (v1 : (c : Dev Cert.LnDownIdeal.nD) → Buf (Elt Ideal) ((c.tc : Thread Cert.LnDownIdeal.nD Cert.LnDownIdeal.τ).loc Cert.LnDownIdeal.main_v20_1)) (v2 : (c : Dev Cert.LnDownIdeal.nD) → Buf (Elt Ideal) ((c.tc : Thread Cert.LnDownIdeal.nD Cert.LnDownIdeal.τ).loc Cert.LnDownIdeal.main_v20_2)),
      θ_run (Cert.LnDownIdeal.defs (F := Ideal)) (onTc (τ := Cert.LnDownIdeal.τ) (Cert.LnDownIdeal.main (F := Ideal))) ⟨m, fun _ => 0, g⟩ (fun r => ∀ c : Dev Cert.LnDownIdeal.nD,
          r.2.mem ((c.tc : Thread Cert.LnDownIdeal.nD Cert.LnDownIdeal.τ).loc Cert.LnDownIdeal.main_v20_0) = v0 c
          ∧ r.2.mem ((c.tc : Thread Cert.LnDownIdeal.nD Cert.LnDownIdeal.τ).loc Cert.LnDownIdeal.main_v20_1) = v1 c
          ∧ r.2.mem ((c.tc : Thread Cert.LnDownIdeal.nD Cert.LnDownIdeal.τ).loc Cert.LnDownIdeal.main_v20_2) = v2 c
          ∧ r.2.mem ((c.tc : Thread Cert.LnDownIdeal.nD Cert.LnDownIdeal.τ).loc Cert.LnDownIdeal.main_arg0) = m ((c.tc : Thread Cert.LnDownIdeal.nD Cert.LnDownIdeal.τ).loc Cert.LnDownIdeal.main_arg0)
          ∧ r.2.mem ((c.tc : Thread Cert.LnDownIdeal.nD Cert.LnDownIdeal.τ).loc Cert.LnDownIdeal.main_arg1) = m ((c.tc : Thread Cert.LnDownIdeal.nD Cert.LnDownIdeal.τ).loc Cert.LnDownIdeal.main_arg1)
          ∧ r.2.mem ((c.tc : Thread Cert.LnDownIdeal.nD Cert.LnDownIdeal.τ).loc Cert.LnDownIdeal.main_arg2) = m ((c.tc : Thread Cert.LnDownIdeal.nD Cert.LnDownIdeal.τ).loc Cert.LnDownIdeal.main_arg2)
          ∧ r.2.mem ((c.tc : Thread Cert.LnDownIdeal.nD Cert.LnDownIdeal.τ).loc Cert.LnDownIdeal.main_arg3) = m ((c.tc : Thread Cert.LnDownIdeal.nD Cert.LnDownIdeal.τ).loc Cert.LnDownIdeal.main_arg3)
          ∧ r.2.mem ((c.tc : Thread Cert.LnDownIdeal.nD Cert.LnDownIdeal.τ).loc Cert.LnDownIdeal.main_arg4) = m ((c.tc : Thread Cert.LnDownIdeal.nD Cert.LnDownIdeal.τ).loc Cert.LnDownIdeal.main_arg4)
          ∧ r.2.mem ((c.tc : Thread Cert.LnDownIdeal.nD Cert.LnDownIdeal.τ).loc Cert.LnDownIdeal.main_arg5) = m ((c.tc : Thread Cert.LnDownIdeal.nD Cert.LnDownIdeal.τ).loc Cert.LnDownIdeal.main_arg5))
      ∧ θ_run (Cert.LnDownRefIdeal.defs (F := Ideal)) (onTc (τ := Cert.LnDownRefIdeal.τ) (Cert.LnDownRefIdeal.main (F := Ideal))) ⟨m', fun _ => 0, g'⟩ (fun r => ∀ c : Dev Cert.LnDownRefIdeal.nD,
          r.2.mem ((c.tc : Thread Cert.LnDownRefIdeal.nD Cert.LnDownRefIdeal.τ).loc Cert.LnDownRefIdeal.main_v62) = v0 c
          ∧ r.2.mem ((c.tc : Thread Cert.LnDownRefIdeal.nD Cert.LnDownRefIdeal.τ).loc Cert.LnDownRefIdeal.main_v68) = v1 c
          ∧ r.2.mem ((c.tc : Thread Cert.LnDownRefIdeal.nD Cert.LnDownRefIdeal.τ).loc Cert.LnDownRefIdeal.main_v64) = v2 c
          ∧ r.2.mem ((c.tc : Thread Cert.LnDownRefIdeal.nD Cert.LnDownRefIdeal.τ).loc Cert.LnDownRefIdeal.main_arg0) = m' ((c.tc : Thread Cert.LnDownRefIdeal.nD Cert.LnDownRefIdeal.τ).loc Cert.LnDownRefIdeal.main_arg0)
          ∧ r.2.mem ((c.tc : Thread Cert.LnDownRefIdeal.nD Cert.LnDownRefIdeal.τ).loc Cert.LnDownRefIdeal.main_arg1) = m' ((c.tc : Thread Cert.LnDownRefIdeal.nD Cert.LnDownRefIdeal.τ).loc Cert.LnDownRefIdeal.main_arg1)
          ∧ r.2.mem ((c.tc : Thread Cert.LnDownRefIdeal.nD Cert.LnDownRefIdeal.τ).loc Cert.LnDownRefIdeal.main_arg2) = m' ((c.tc : Thread Cert.LnDownRefIdeal.nD Cert.LnDownRefIdeal.τ).loc Cert.LnDownRefIdeal.main_arg2)
          ∧ r.2.mem ((c.tc : Thread Cert.LnDownRefIdeal.nD Cert.LnDownRefIdeal.τ).loc Cert.LnDownRefIdeal.main_arg3) = m' ((c.tc : Thread Cert.LnDownRefIdeal.nD Cert.LnDownRefIdeal.τ).loc Cert.LnDownRefIdeal.main_arg3)
          ∧ r.2.mem ((c.tc : Thread Cert.LnDownRefIdeal.nD Cert.LnDownRefIdeal.τ).loc Cert.LnDownRefIdeal.main_arg4) = m' ((c.tc : Thread Cert.LnDownRefIdeal.nD Cert.LnDownRefIdeal.τ).loc Cert.LnDownRefIdeal.main_arg4)
          ∧ r.2.mem ((c.tc : Thread Cert.LnDownRefIdeal.nD Cert.LnDownRefIdeal.τ).loc Cert.LnDownRefIdeal.main_arg5) = m' ((c.tc : Thread Cert.LnDownRefIdeal.nD Cert.LnDownRefIdeal.τ).loc Cert.LnDownRefIdeal.main_arg5))

def preserves_LnLoss_LnLossIdeal : Prop :=
  True

def algebraic_LnLossIdeal_LnLossRefIdeal_pre_finite_loss [hLnLossIdeal : Cert.LnLossIdeal.Facts] [hLnLossRefIdeal : Cert.LnLossRefIdeal.Facts] [hPre_finite_loss : Cert.Pre_finite_loss.Facts] : Prop :=
  ∀ (m : (ℓ : Loc Cert.LnLossIdeal.nD Cert.LnLossIdeal.τ Cert.LnLossIdeal.sig) → Buf (Elt Ideal) ℓ) (g : Dev Cert.LnLossIdeal.nD → PrngReg)
    (m' : (ℓ : Loc Cert.LnLossRefIdeal.nD Cert.LnLossRefIdeal.τ Cert.LnLossRefIdeal.sig) → Buf (Elt Ideal) ℓ) (g' : Dev Cert.LnLossRefIdeal.nD → PrngReg), Pre_LnLossIdeal_finite_loss m →
    (∀ c : Dev Cert.LnLossIdeal.nD,
      m' ((c.tc : Thread Cert.LnLossRefIdeal.nD Cert.LnLossRefIdeal.τ).loc Cert.LnLossRefIdeal.main_arg0) = m ((c.tc : Thread Cert.LnLossIdeal.nD Cert.LnLossIdeal.τ).loc Cert.LnLossIdeal.main_arg0)
      ∧ m' ((c.tc : Thread Cert.LnLossRefIdeal.nD Cert.LnLossRefIdeal.τ).loc Cert.LnLossRefIdeal.main_arg1) = m ((c.tc : Thread Cert.LnLossIdeal.nD Cert.LnLossIdeal.τ).loc Cert.LnLossIdeal.main_arg1)
      ∧ m' ((c.tc : Thread Cert.LnLossRefIdeal.nD Cert.LnLossRefIdeal.τ).loc Cert.LnLossRefIdeal.main_arg2) = m ((c.tc : Thread Cert.LnLossIdeal.nD Cert.LnLossIdeal.τ).loc Cert.LnLossIdeal.main_arg2)
      ∧ m' ((c.tc : Thread Cert.LnLossRefIdeal.nD Cert.LnLossRefIdeal.τ).loc Cert.LnLossRefIdeal.main_arg3) = m ((c.tc : Thread Cert.LnLossIdeal.nD Cert.LnLossIdeal.τ).loc Cert.LnLossIdeal.main_arg3)
      ∧ m' ((c.tc : Thread Cert.LnLossRefIdeal.nD Cert.LnLossRefIdeal.τ).loc Cert.LnLossRefIdeal.main_arg4) = m ((c.tc : Thread Cert.LnLossIdeal.nD Cert.LnLossIdeal.τ).loc Cert.LnLossIdeal.main_arg4)
      ∧ m' ((c.tc : Thread Cert.LnLossRefIdeal.nD Cert.LnLossRefIdeal.τ).loc Cert.LnLossRefIdeal.main_arg5) = m ((c.tc : Thread Cert.LnLossIdeal.nD Cert.LnLossIdeal.τ).loc Cert.LnLossIdeal.main_arg5)) →
    ∃ (v0 : (c : Dev Cert.LnLossIdeal.nD) → Buf (Elt Ideal) ((c.tc : Thread Cert.LnLossIdeal.nD Cert.LnLossIdeal.τ).loc Cert.LnLossIdeal.main_v31)) (v1 : (c : Dev Cert.LnLossIdeal.nD) → Buf (Elt Ideal) ((c.tc : Thread Cert.LnLossIdeal.nD Cert.LnLossIdeal.τ).loc Cert.LnLossIdeal.main_v26_0)) (v2 : (c : Dev Cert.LnLossIdeal.nD) → Buf (Elt Ideal) ((c.tc : Thread Cert.LnLossIdeal.nD Cert.LnLossIdeal.τ).loc Cert.LnLossIdeal.main_v26_1)) (v3 : (c : Dev Cert.LnLossIdeal.nD) → Buf (Elt Ideal) ((c.tc : Thread Cert.LnLossIdeal.nD Cert.LnLossIdeal.τ).loc Cert.LnLossIdeal.main_v26_2)),
      θ_run (Cert.LnLossIdeal.defs (F := Ideal)) (onTc (τ := Cert.LnLossIdeal.τ) (Cert.LnLossIdeal.main (F := Ideal))) ⟨m, fun _ => 0, g⟩ (fun r => ∀ c : Dev Cert.LnLossIdeal.nD,
          r.2.mem ((c.tc : Thread Cert.LnLossIdeal.nD Cert.LnLossIdeal.τ).loc Cert.LnLossIdeal.main_v31) = v0 c
          ∧ r.2.mem ((c.tc : Thread Cert.LnLossIdeal.nD Cert.LnLossIdeal.τ).loc Cert.LnLossIdeal.main_v26_0) = v1 c
          ∧ r.2.mem ((c.tc : Thread Cert.LnLossIdeal.nD Cert.LnLossIdeal.τ).loc Cert.LnLossIdeal.main_v26_1) = v2 c
          ∧ r.2.mem ((c.tc : Thread Cert.LnLossIdeal.nD Cert.LnLossIdeal.τ).loc Cert.LnLossIdeal.main_v26_2) = v3 c
          ∧ r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
          ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
          ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
          ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
          ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4)
          ∧ r.2.mem ((c.tc : Thread Cert.LnLossIdeal.nD Cert.LnLossIdeal.τ).loc Cert.LnLossIdeal.main_arg5) = m ((c.tc : Thread Cert.LnLossIdeal.nD Cert.LnLossIdeal.τ).loc Cert.LnLossIdeal.main_arg5))
      ∧ θ_run (Cert.LnLossRefIdeal.defs (F := Ideal)) (onTc (τ := Cert.LnLossRefIdeal.τ) (Cert.LnLossRefIdeal.main (F := Ideal))) ⟨m', fun _ => 0, g'⟩ (fun r => ∀ c : Dev Cert.LnLossRefIdeal.nD,
          r.2.mem ((c.tc : Thread Cert.LnLossRefIdeal.nD Cert.LnLossRefIdeal.τ).loc Cert.LnLossRefIdeal.main_v38) = v0 c
          ∧ r.2.mem ((c.tc : Thread Cert.LnLossRefIdeal.nD Cert.LnLossRefIdeal.τ).loc Cert.LnLossRefIdeal.main_v78) = v1 c
          ∧ r.2.mem ((c.tc : Thread Cert.LnLossRefIdeal.nD Cert.LnLossRefIdeal.τ).loc Cert.LnLossRefIdeal.main_v84) = v2 c
          ∧ r.2.mem ((c.tc : Thread Cert.LnLossRefIdeal.nD Cert.LnLossRefIdeal.τ).loc Cert.LnLossRefIdeal.main_v80) = v3 c
          ∧ r.2.mem ((c.tc : Thread Cert.LnLossRefIdeal.nD Cert.LnLossRefIdeal.τ).loc Cert.LnLossRefIdeal.main_arg0) = m' ((c.tc : Thread Cert.LnLossRefIdeal.nD Cert.LnLossRefIdeal.τ).loc Cert.LnLossRefIdeal.main_arg0)
          ∧ r.2.mem ((c.tc : Thread Cert.LnLossRefIdeal.nD Cert.LnLossRefIdeal.τ).loc Cert.LnLossRefIdeal.main_arg1) = m' ((c.tc : Thread Cert.LnLossRefIdeal.nD Cert.LnLossRefIdeal.τ).loc Cert.LnLossRefIdeal.main_arg1)
          ∧ r.2.mem ((c.tc : Thread Cert.LnLossRefIdeal.nD Cert.LnLossRefIdeal.τ).loc Cert.LnLossRefIdeal.main_arg2) = m' ((c.tc : Thread Cert.LnLossRefIdeal.nD Cert.LnLossRefIdeal.τ).loc Cert.LnLossRefIdeal.main_arg2)
          ∧ r.2.mem ((c.tc : Thread Cert.LnLossRefIdeal.nD Cert.LnLossRefIdeal.τ).loc Cert.LnLossRefIdeal.main_arg3) = m' ((c.tc : Thread Cert.LnLossRefIdeal.nD Cert.LnLossRefIdeal.τ).loc Cert.LnLossRefIdeal.main_arg3)
          ∧ r.2.mem ((c.tc : Thread Cert.LnLossRefIdeal.nD Cert.LnLossRefIdeal.τ).loc Cert.LnLossRefIdeal.main_arg4) = m' ((c.tc : Thread Cert.LnLossRefIdeal.nD Cert.LnLossRefIdeal.τ).loc Cert.LnLossRefIdeal.main_arg4)
          ∧ r.2.mem ((c.tc : Thread Cert.LnLossRefIdeal.nD Cert.LnLossRefIdeal.τ).loc Cert.LnLossRefIdeal.main_arg5) = m' ((c.tc : Thread Cert.LnLossRefIdeal.nD Cert.LnLossRefIdeal.τ).loc Cert.LnLossRefIdeal.main_arg5))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)
      ∧ m' ((c.tc : Thread Cert.SumSmallRefIdeal.nD Cert.SumSmallRefIdeal.τ).loc Cert.SumSmallRefIdeal.main_arg1) = m ((c.tc : Thread Cert.SumSmallIdeal.nD Cert.SumSmallIdeal.τ).loc Cert.SumSmallIdeal.main_arg1)
      ∧ m' ((c.tc : Thread Cert.SumSmallRefIdeal.nD Cert.SumSmallRefIdeal.τ).loc Cert.SumSmallRefIdeal.main_arg2) = m ((c.tc : Thread Cert.SumSmallIdeal.nD Cert.SumSmallIdeal.τ).loc Cert.SumSmallIdeal.main_arg2)
      ∧ m' ((c.tc : Thread Cert.SumSmallRefIdeal.nD Cert.SumSmallRefIdeal.τ).loc Cert.SumSmallRefIdeal.main_arg3) = m ((c.tc : Thread Cert.SumSmallIdeal.nD Cert.SumSmallIdeal.τ).loc Cert.SumSmallIdeal.main_arg3)
      ∧ m' ((c.tc : Thread Cert.SumSmallRefIdeal.nD Cert.SumSmallRefIdeal.τ).loc Cert.SumSmallRefIdeal.main_arg4) = m ((c.tc : Thread Cert.SumSmallIdeal.nD Cert.SumSmallIdeal.τ).loc Cert.SumSmallIdeal.main_arg4)
      ∧ m' ((c.tc : Thread Cert.SumSmallRefIdeal.nD Cert.SumSmallRefIdeal.τ).loc Cert.SumSmallRefIdeal.main_arg5) = m ((c.tc : Thread Cert.SumSmallIdeal.nD Cert.SumSmallIdeal.τ).loc Cert.SumSmallIdeal.main_arg5)
      ∧ m' ((c.tc : Thread Cert.SumSmallRefIdeal.nD Cert.SumSmallRefIdeal.τ).loc Cert.SumSmallRefIdeal.main_arg6) = m ((c.tc : Thread Cert.SumSmallIdeal.nD Cert.SumSmallIdeal.τ).loc Cert.SumSmallIdeal.main_arg6)
      ∧ m' ((c.tc : Thread Cert.SumSmallRefIdeal.nD Cert.SumSmallRefIdeal.τ).loc Cert.SumSmallRefIdeal.main_arg7) = m ((c.tc : Thread Cert.SumSmallIdeal.nD Cert.SumSmallIdeal.τ).loc Cert.SumSmallIdeal.main_arg7)
      ∧ m' ((c.tc : Thread Cert.SumSmallRefIdeal.nD Cert.SumSmallRefIdeal.τ).loc Cert.SumSmallRefIdeal.main_arg8) = m ((c.tc : Thread Cert.SumSmallIdeal.nD Cert.SumSmallIdeal.τ).loc Cert.SumSmallIdeal.main_arg8)
      ∧ m' ((c.tc : Thread Cert.SumSmallRefIdeal.nD Cert.SumSmallRefIdeal.τ).loc Cert.SumSmallRefIdeal.main_arg9) = m ((c.tc : Thread Cert.SumSmallIdeal.nD Cert.SumSmallIdeal.τ).loc Cert.SumSmallIdeal.main_arg9)
      ∧ m' ((c.tc : Thread Cert.SumSmallRefIdeal.nD Cert.SumSmallRefIdeal.τ).loc Cert.SumSmallRefIdeal.main_arg10) = m ((c.tc : Thread Cert.SumSmallIdeal.nD Cert.SumSmallIdeal.τ).loc Cert.SumSmallIdeal.main_arg10)
      ∧ m' ((c.tc : Thread Cert.SumSmallRefIdeal.nD Cert.SumSmallRefIdeal.τ).loc Cert.SumSmallRefIdeal.main_arg11) = m ((c.tc : Thread Cert.SumSmallIdeal.nD Cert.SumSmallIdeal.τ).loc Cert.SumSmallIdeal.main_arg11)
      ∧ m' ((c.tc : Thread Cert.SumSmallRefIdeal.nD Cert.SumSmallRefIdeal.τ).loc Cert.SumSmallRefIdeal.main_arg12) = m ((c.tc : Thread Cert.SumSmallIdeal.nD Cert.SumSmallIdeal.τ).loc Cert.SumSmallIdeal.main_arg12)) →
    ∃ (v0 : (c : Dev Cert.SumSmallIdeal.nD) → Buf (Elt Ideal) ((c.tc : Thread Cert.SumSmallIdeal.nD Cert.SumSmallIdeal.τ).loc Cert.SumSmallIdeal.main_v47)) (v1 : (c : Dev Cert.SumSmallIdeal.nD) → Buf (Elt Ideal) ((c.tc : Thread Cert.SumSmallIdeal.nD Cert.SumSmallIdeal.τ).loc Cert.SumSmallIdeal.main_v22)) (v2 : (c : Dev Cert.SumSmallIdeal.nD) → Buf (Elt Ideal) ((c.tc : Thread Cert.SumSmallIdeal.nD Cert.SumSmallIdeal.τ).loc Cert.SumSmallIdeal.main_v52)) (v3 : (c : Dev Cert.SumSmallIdeal.nD) → Buf (Elt Ideal) ((c.tc : Thread Cert.SumSmallIdeal.nD Cert.SumSmallIdeal.τ).loc Cert.SumSmallIdeal.main_v26)) (v4 : (c : Dev Cert.SumSmallIdeal.nD) → Buf (Elt Ideal) ((c.tc : Thread Cert.SumSmallIdeal.nD Cert.SumSmallIdeal.τ).loc Cert.SumSmallIdeal.main_v28)) (v5 : (c : Dev Cert.SumSmallIdeal.nD) → Buf (Elt Ideal) ((c.tc : Thread Cert.SumSmallIdeal.nD Cert.SumSmallIdeal.τ).loc Cert.SumSmallIdeal.main_v30)) (v6 : (c : Dev Cert.SumSmallIdeal.nD) → Buf (Elt Ideal) ((c.tc : Thread Cert.SumSmallIdeal.nD Cert.SumSmallIdeal.τ).loc Cert.SumSmallIdeal.main_v32)) (v7 : (c : Dev Cert.SumSmallIdeal.nD) → Buf (Elt Ideal) ((c.tc : Thread Cert.SumSmallIdeal.nD Cert.SumSmallIdeal.τ).loc Cert.SumSmallIdeal.main_v34)) (v8 : (c : Dev Cert.SumSmallIdeal.nD) → Buf (Elt Ideal) ((c.tc : Thread Cert.SumSmallIdeal.nD Cert.SumSmallIdeal.τ).loc Cert.SumSmallIdeal.main_v57)) (v9 : (c : Dev Cert.SumSmallIdeal.nD) → Buf (Elt Ideal) ((c.tc : Thread Cert.SumSmallIdeal.nD Cert.SumSmallIdeal.τ).loc Cert.SumSmallIdeal.main_v38)) (v10 : (c : Dev Cert.SumSmallIdeal.nD) → Buf (Elt Ideal) ((c.tc : Thread Cert.SumSmallIdeal.nD Cert.SumSmallIdeal.τ).loc Cert.SumSmallIdeal.main_v40)) (v11 : (c : Dev Cert.SumSmallIdeal.nD) → Buf (Elt Ideal) ((c.tc : Thread Cert.SumSmallIdeal.nD Cert.SumSmallIdeal.τ).loc Cert.SumSmallIdeal.main_v42)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v47) = v0 c
          ∧ r.2.mem ((c.tc : Thread Cert.SumSmallIdeal.nD Cert.SumSmallIdeal.τ).loc Cert.SumSmallIdeal.main_v22) = v1 c
          ∧ r.2.mem ((c.tc : Thread Cert.SumSmallIdeal.nD Cert.SumSmallIdeal.τ).loc Cert.SumSmallIdeal.main_v52) = v2 c
          ∧ r.2.mem ((c.tc : Thread Cert.SumSmallIdeal.nD Cert.SumSmallIdeal.τ).loc Cert.SumSmallIdeal.main_v26) = v3 c
          ∧ r.2.mem ((c.tc : Thread Cert.SumSmallIdeal.nD Cert.SumSmallIdeal.τ).loc Cert.SumSmallIdeal.main_v28) = v4 c
          ∧ r.2.mem ((c.tc : Thread Cert.SumSmallIdeal.nD Cert.SumSmallIdeal.τ).loc Cert.SumSmallIdeal.main_v30) = v5 c
          ∧ r.2.mem ((c.tc : Thread Cert.SumSmallIdeal.nD Cert.SumSmallIdeal.τ).loc Cert.SumSmallIdeal.main_v32) = v6 c
          ∧ r.2.mem ((c.tc : Thread Cert.SumSmallIdeal.nD Cert.SumSmallIdeal.τ).loc Cert.SumSmallIdeal.main_v34) = v7 c
          ∧ r.2.mem ((c.tc : Thread Cert.SumSmallIdeal.nD Cert.SumSmallIdeal.τ).loc Cert.SumSmallIdeal.main_v57) = v8 c
          ∧ r.2.mem ((c.tc : Thread Cert.SumSmallIdeal.nD Cert.SumSmallIdeal.τ).loc Cert.SumSmallIdeal.main_v38) = v9 c
          ∧ r.2.mem ((c.tc : Thread Cert.SumSmallIdeal.nD Cert.SumSmallIdeal.τ).loc Cert.SumSmallIdeal.main_v40) = v10 c
          ∧ r.2.mem ((c.tc : Thread Cert.SumSmallIdeal.nD Cert.SumSmallIdeal.τ).loc Cert.SumSmallIdeal.main_v42) = v11 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
          ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
          ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
          ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
          ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
          ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
          ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8)
          ∧ r.2.mem ((c.tc : Thread Cert.SumSmallIdeal.nD Cert.SumSmallIdeal.τ).loc Cert.SumSmallIdeal.main_arg9) = m ((c.tc : Thread Cert.SumSmallIdeal.nD Cert.SumSmallIdeal.τ).loc Cert.SumSmallIdeal.main_arg9)
          ∧ r.2.mem ((c.tc : Thread Cert.SumSmallIdeal.nD Cert.SumSmallIdeal.τ).loc Cert.SumSmallIdeal.main_arg10) = m ((c.tc : Thread Cert.SumSmallIdeal.nD Cert.SumSmallIdeal.τ).loc Cert.SumSmallIdeal.main_arg10)
          ∧ r.2.mem ((c.tc : Thread Cert.SumSmallIdeal.nD Cert.SumSmallIdeal.τ).loc Cert.SumSmallIdeal.main_arg11) = m ((c.tc : Thread Cert.SumSmallIdeal.nD Cert.SumSmallIdeal.τ).loc Cert.SumSmallIdeal.main_arg11)
          ∧ r.2.mem ((c.tc : Thread Cert.SumSmallIdeal.nD Cert.SumSmallIdeal.τ).loc Cert.SumSmallIdeal.main_arg12) = m ((c.tc : Thread Cert.SumSmallIdeal.nD Cert.SumSmallIdeal.τ).loc Cert.SumSmallIdeal.main_arg12))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v16) = v0 c
          ∧ r.2.mem ((c.tc : Thread Cert.SumSmallRefIdeal.nD Cert.SumSmallRefIdeal.τ).loc Cert.SumSmallRefIdeal.main_v1) = v1 c
          ∧ r.2.mem ((c.tc : Thread Cert.SumSmallRefIdeal.nD Cert.SumSmallRefIdeal.τ).loc Cert.SumSmallRefIdeal.main_v21) = v2 c
          ∧ r.2.mem ((c.tc : Thread Cert.SumSmallRefIdeal.nD Cert.SumSmallRefIdeal.τ).loc Cert.SumSmallRefIdeal.main_v3) = v3 c
          ∧ r.2.mem ((c.tc : Thread Cert.SumSmallRefIdeal.nD Cert.SumSmallRefIdeal.τ).loc Cert.SumSmallRefIdeal.main_v4) = v4 c
          ∧ r.2.mem ((c.tc : Thread Cert.SumSmallRefIdeal.nD Cert.SumSmallRefIdeal.τ).loc Cert.SumSmallRefIdeal.main_v5) = v5 c
          ∧ r.2.mem ((c.tc : Thread Cert.SumSmallRefIdeal.nD Cert.SumSmallRefIdeal.τ).loc Cert.SumSmallRefIdeal.main_v6) = v6 c
          ∧ r.2.mem ((c.tc : Thread Cert.SumSmallRefIdeal.nD Cert.SumSmallRefIdeal.τ).loc Cert.SumSmallRefIdeal.main_v7) = v7 c
          ∧ r.2.mem ((c.tc : Thread Cert.SumSmallRefIdeal.nD Cert.SumSmallRefIdeal.τ).loc Cert.SumSmallRefIdeal.main_v26) = v8 c
          ∧ r.2.mem ((c.tc : Thread Cert.SumSmallRefIdeal.nD Cert.SumSmallRefIdeal.τ).loc Cert.SumSmallRefIdeal.main_v9) = v9 c
          ∧ r.2.mem ((c.tc : Thread Cert.SumSmallRefIdeal.nD Cert.SumSmallRefIdeal.τ).loc Cert.SumSmallRefIdeal.main_v10) = v10 c
          ∧ r.2.mem ((c.tc : Thread Cert.SumSmallRefIdeal.nD Cert.SumSmallRefIdeal.τ).loc Cert.SumSmallRefIdeal.main_v11) = v11 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)
          ∧ r.2.mem ((c.tc : Thread Cert.SumSmallRefIdeal.nD Cert.SumSmallRefIdeal.τ).loc Cert.SumSmallRefIdeal.main_arg1) = m' ((c.tc : Thread Cert.SumSmallRefIdeal.nD Cert.SumSmallRefIdeal.τ).loc Cert.SumSmallRefIdeal.main_arg1)
          ∧ r.2.mem ((c.tc : Thread Cert.SumSmallRefIdeal.nD Cert.SumSmallRefIdeal.τ).loc Cert.SumSmallRefIdeal.main_arg2) = m' ((c.tc : Thread Cert.SumSmallRefIdeal.nD Cert.SumSmallRefIdeal.τ).loc Cert.SumSmallRefIdeal.main_arg2)
          ∧ r.2.mem ((c.tc : Thread Cert.SumSmallRefIdeal.nD Cert.SumSmallRefIdeal.τ).loc Cert.SumSmallRefIdeal.main_arg3) = m' ((c.tc : Thread Cert.SumSmallRefIdeal.nD Cert.SumSmallRefIdeal.τ).loc Cert.SumSmallRefIdeal.main_arg3)
          ∧ r.2.mem ((c.tc : Thread Cert.SumSmallRefIdeal.nD Cert.SumSmallRefIdeal.τ).loc Cert.SumSmallRefIdeal.main_arg4) = m' ((c.tc : Thread Cert.SumSmallRefIdeal.nD Cert.SumSmallRefIdeal.τ).loc Cert.SumSmallRefIdeal.main_arg4)
          ∧ r.2.mem ((c.tc : Thread Cert.SumSmallRefIdeal.nD Cert.SumSmallRefIdeal.τ).loc Cert.SumSmallRefIdeal.main_arg5) = m' ((c.tc : Thread Cert.SumSmallRefIdeal.nD Cert.SumSmallRefIdeal.τ).loc Cert.SumSmallRefIdeal.main_arg5)
          ∧ r.2.mem ((c.tc : Thread Cert.SumSmallRefIdeal.nD Cert.SumSmallRefIdeal.τ).loc Cert.SumSmallRefIdeal.main_arg6) = m' ((c.tc : Thread Cert.SumSmallRefIdeal.nD Cert.SumSmallRefIdeal.τ).loc Cert.SumSmallRefIdeal.main_arg6)
          ∧ r.2.mem ((c.tc : Thread Cert.SumSmallRefIdeal.nD Cert.SumSmallRefIdeal.τ).loc Cert.SumSmallRefIdeal.main_arg7) = m' ((c.tc : Thread Cert.SumSmallRefIdeal.nD Cert.SumSmallRefIdeal.τ).loc Cert.SumSmallRefIdeal.main_arg7)
          ∧ r.2.mem ((c.tc : Thread Cert.SumSmallRefIdeal.nD Cert.SumSmallRefIdeal.τ).loc Cert.SumSmallRefIdeal.main_arg8) = m' ((c.tc : Thread Cert.SumSmallRefIdeal.nD Cert.SumSmallRefIdeal.τ).loc Cert.SumSmallRefIdeal.main_arg8)
          ∧ r.2.mem ((c.tc : Thread Cert.SumSmallRefIdeal.nD Cert.SumSmallRefIdeal.τ).loc Cert.SumSmallRefIdeal.main_arg9) = m' ((c.tc : Thread Cert.SumSmallRefIdeal.nD Cert.SumSmallRefIdeal.τ).loc Cert.SumSmallRefIdeal.main_arg9)
          ∧ r.2.mem ((c.tc : Thread Cert.SumSmallRefIdeal.nD Cert.SumSmallRefIdeal.τ).loc Cert.SumSmallRefIdeal.main_arg10) = m' ((c.tc : Thread Cert.SumSmallRefIdeal.nD Cert.SumSmallRefIdeal.τ).loc Cert.SumSmallRefIdeal.main_arg10)
          ∧ r.2.mem ((c.tc : Thread Cert.SumSmallRefIdeal.nD Cert.SumSmallRefIdeal.τ).loc Cert.SumSmallRefIdeal.main_arg11) = m' ((c.tc : Thread Cert.SumSmallRefIdeal.nD Cert.SumSmallRefIdeal.τ).loc Cert.SumSmallRefIdeal.main_arg11)
          ∧ r.2.mem ((c.tc : Thread Cert.SumSmallRefIdeal.nD Cert.SumSmallRefIdeal.τ).loc Cert.SumSmallRefIdeal.main_arg12) = m' ((c.tc : Thread Cert.SumSmallRefIdeal.nD Cert.SumSmallRefIdeal.τ).loc Cert.SumSmallRefIdeal.main_arg12))

def Claim : Prop :=
  ∃ (hWgradUp : Cert.WgradUp.Facts) (hWgradUpIdeal : Cert.WgradUpIdeal.Facts) (hWgradUpRefIdeal : Cert.WgradUpRefIdeal.Facts) (hWgradIn : Cert.WgradIn.Facts) (hWgradInIdeal : Cert.WgradInIdeal.Facts) (hWgradInRefIdeal : Cert.WgradInRefIdeal.Facts) (hWgradDown : Cert.WgradDown.Facts) (hWgradDownIdeal : Cert.WgradDownIdeal.Facts) (hWgradDownRefIdeal : Cert.WgradDownRefIdeal.Facts) (hWgradO : Cert.WgradO.Facts) (hWgradOIdeal : Cert.WgradOIdeal.Facts) (hWgradORefIdeal : Cert.WgradORefIdeal.Facts) (hDxUp : Cert.DxUp.Facts) (hDxUpIdeal : Cert.DxUpIdeal.Facts) (hDxUpRefIdeal : Cert.DxUpRefIdeal.Facts) (hDxIn : Cert.DxIn.Facts) (hDxInIdeal : Cert.DxInIdeal.Facts) (hDxInRefIdeal : Cert.DxInRefIdeal.Facts) (hMmIn : Cert.MmIn.Facts) (hMmInIdeal : Cert.MmInIdeal.Facts) (hMmInRefIdeal : Cert.MmInRefIdeal.Facts) (hMmUp : Cert.MmUp.Facts) (hMmUpIdeal : Cert.MmUpIdeal.Facts) (hMmUpRefIdeal : Cert.MmUpRefIdeal.Facts) (hMmO : Cert.MmO.Facts) (hMmOIdeal : Cert.MmOIdeal.Facts) (hMmORefIdeal : Cert.MmORefIdeal.Facts) (hMmDown : Cert.MmDown.Facts) (hMmDownIdeal : Cert.MmDownIdeal.Facts) (hMmDownRefIdeal : Cert.MmDownRefIdeal.Facts) (hAdamIn : Cert.AdamIn.Facts) (hAdamInIdeal : Cert.AdamInIdeal.Facts) (hAdamInRefIdeal : Cert.AdamInRefIdeal.Facts) (hAdamO : Cert.AdamO.Facts) (hAdamOIdeal : Cert.AdamOIdeal.Facts) (hAdamORefIdeal : Cert.AdamORefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hLnO : Cert.LnO.Facts) (hLnOIdeal : Cert.LnOIdeal.Facts) (hLnORefIdeal : Cert.LnORefIdeal.Facts) (hLnDown : Cert.LnDown.Facts) (hLnDownIdeal : Cert.LnDownIdeal.Facts) (hLnDownRefIdeal : Cert.LnDownRefIdeal.Facts) (hLnLoss : Cert.LnLoss.Facts) (hLnLossIdeal : Cert.LnLossIdeal.Facts) (hLnLossRefIdeal : Cert.LnLossRefIdeal.Facts) (hSumSmall : Cert.SumSmall.Facts) (hSumSmallIdeal : Cert.SumSmallIdeal.Facts) (hSumSmallRefIdeal : Cert.SumSmallRefIdeal.Facts) (hPre_finite_o : Cert.Pre_finite_o.Facts) (hPre_finite_down : Cert.Pre_finite_down.Facts) (hPre_finite_loss : Cert.Pre_finite_loss.Facts) (hOn_ffn_up_positions : Cert.On_ffn_up_positions.Facts),
    quiescent_WgradUp (hWgradUp := hWgradUp)
    ∧ quiescent_WgradUpIdeal (hWgradUpIdeal := hWgradUpIdeal)
    ∧ quiescent_WgradUpRefIdeal (hWgradUpRefIdeal := hWgradUpRefIdeal)
    ∧ quiescent_WgradIn (hWgradIn := hWgradIn)
    ∧ quiescent_WgradInIdeal (hWgradInIdeal := hWgradInIdeal)
    ∧ quiescent_WgradInRefIdeal (hWgradInRefIdeal := hWgradInRefIdeal)
    ∧ quiescent_WgradDown (hWgradDown := hWgradDown)
    ∧ quiescent_WgradDownIdeal (hWgradDownIdeal := hWgradDownIdeal)
    ∧ quiescent_WgradDownRefIdeal (hWgradDownRefIdeal := hWgradDownRefIdeal)
    ∧ quiescent_WgradO (hWgradO := hWgradO)
    ∧ quiescent_WgradOIdeal (hWgradOIdeal := hWgradOIdeal)
    ∧ quiescent_WgradORefIdeal (hWgradORefIdeal := hWgradORefIdeal)
    ∧ quiescent_DxUp (hDxUp := hDxUp)
    ∧ quiescent_DxUpIdeal (hDxUpIdeal := hDxUpIdeal)
    ∧ quiescent_DxUpRefIdeal (hDxUpRefIdeal := hDxUpRefIdeal)
    ∧ quiescent_DxIn (hDxIn := hDxIn)
    ∧ quiescent_DxInIdeal (hDxInIdeal := hDxInIdeal)
    ∧ quiescent_DxInRefIdeal (hDxInRefIdeal := hDxInRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MmUp (hMmUp := hMmUp)
    ∧ quiescent_MmUpIdeal (hMmUpIdeal := hMmUpIdeal)
    ∧ quiescent_MmUpRefIdeal (hMmUpRefIdeal := hMmUpRefIdeal)
    ∧ quiescent_MmO (hMmO := hMmO)
    ∧ quiescent_MmOIdeal (hMmOIdeal := hMmOIdeal)
    ∧ quiescent_MmORefIdeal (hMmORefIdeal := hMmORefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_LnO (hLnO := hLnO)
    ∧ quiescent_LnOIdeal (hLnOIdeal := hLnOIdeal)
    ∧ quiescent_LnOIdeal_pre_finite_o (hLnOIdeal := hLnOIdeal) (hPre_finite_o := hPre_finite_o)
    ∧ quiescent_LnORefIdeal (hLnORefIdeal := hLnORefIdeal)
    ∧ quiescent_LnORefIdeal_pre_finite_o (hLnORefIdeal := hLnORefIdeal) (hPre_finite_o := hPre_finite_o)
    ∧ quiescent_LnDown (hLnDown := hLnDown)
    ∧ quiescent_LnDownIdeal (hLnDownIdeal := hLnDownIdeal)
    ∧ quiescent_LnDownIdeal_pre_finite_down (hLnDownIdeal := hLnDownIdeal) (hPre_finite_down := hPre_finite_down)
    ∧ quiescent_LnDownRefIdeal (hLnDownRefIdeal := hLnDownRefIdeal)
    ∧ quiescent_LnDownRefIdeal_pre_finite_down (hLnDownRefIdeal := hLnDownRefIdeal) (hPre_finite_down := hPre_finite_down)
    ∧ quiescent_LnLoss (hLnLoss := hLnLoss)
    ∧ quiescent_LnLossIdeal (hLnLossIdeal := hLnLossIdeal)
    ∧ quiescent_LnLossIdeal_pre_finite_loss (hLnLossIdeal := hLnLossIdeal) (hPre_finite_loss := hPre_finite_loss)
    ∧ quiescent_LnLossRefIdeal (hLnLossRefIdeal := hLnLossRefIdeal)
    ∧ quiescent_LnLossRefIdeal_pre_finite_loss (hLnLossRefIdeal := hLnLossRefIdeal) (hPre_finite_loss := hPre_finite_loss)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_WgradUp_WgradUpIdeal
    ∧ algebraic_WgradUpIdeal_WgradUpRefIdeal (hWgradUpIdeal := hWgradUpIdeal) (hWgradUpRefIdeal := hWgradUpRefIdeal)
    ∧ preserves_WgradIn_WgradInIdeal
    ∧ algebraic_WgradInIdeal_WgradInRefIdeal (hWgradInIdeal := hWgradInIdeal) (hWgradInRefIdeal := hWgradInRefIdeal)
    ∧ preserves_WgradDown_WgradDownIdeal
    ∧ algebraic_WgradDownIdeal_WgradDownRefIdeal (hWgradDownIdeal := hWgradDownIdeal) (hWgradDownRefIdeal := hWgradDownRefIdeal)
    ∧ preserves_WgradO_WgradOIdeal
    ∧ algebraic_WgradOIdeal_WgradORefIdeal (hWgradOIdeal := hWgradOIdeal) (hWgradORefIdeal := hWgradORefIdeal)
    ∧ preserves_DxUp_DxUpIdeal
    ∧ algebraic_DxUpIdeal_DxUpRefIdeal (hDxUpIdeal := hDxUpIdeal) (hDxUpRefIdeal := hDxUpRefIdeal)
    ∧ preserves_DxIn_DxInIdeal
    ∧ algebraic_DxInIdeal_DxInRefIdeal (hDxInIdeal := hDxInIdeal) (hDxInRefIdeal := hDxInRefIdeal)
    ∧ preserves_MmIn_MmInIdeal
    ∧ algebraic_MmInIdeal_MmInRefIdeal (hMmInIdeal := hMmInIdeal) (hMmInRefIdeal := hMmInRefIdeal)
    ∧ preserves_MmUp_MmUpIdeal
    ∧ algebraic_MmUpIdeal_MmUpRefIdeal_on_ffn_up_positions (hMmUpIdeal := hMmUpIdeal) (hMmUpRefIdeal := hMmUpRefIdeal) (hOn_ffn_up_positions := hOn_ffn_up_positions)
    ∧ preserves_MmO_MmOIdeal
    ∧ algebraic_MmOIdeal_MmORefIdeal (hMmOIdeal := hMmOIdeal) (hMmORefIdeal := hMmORefIdeal)
    ∧ preserves_MmDown_MmDownIdeal
    ∧ algebraic_MmDownIdeal_MmDownRefIdeal (hMmDownIdeal := hMmDownIdeal) (hMmDownRefIdeal := hMmDownRefIdeal)
    ∧ preserves_AdamIn_AdamInIdeal
    ∧ algebraic_AdamInIdeal_AdamInRefIdeal (hAdamInIdeal := hAdamInIdeal) (hAdamInRefIdeal := hAdamInRefIdeal)
    ∧ preserves_AdamO_AdamOIdeal
    ∧ algebraic_AdamOIdeal_AdamORefIdeal (hAdamOIdeal := hAdamOIdeal) (hAdamORefIdeal := hAdamORefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_LnO_LnOIdeal
    ∧ algebraic_LnOIdeal_LnORefIdeal_pre_finite_o (hLnOIdeal := hLnOIdeal) (hLnORefIdeal := hLnORefIdeal) (hPre_finite_o := hPre_finite_o)
    ∧ preserves_LnDown_LnDownIdeal
    ∧ algebraic_LnDownIdeal_LnDownRefIdeal_pre_finite_down (hLnDownIdeal := hLnDownIdeal) (hLnDownRefIdeal := hLnDownRefIdeal) (hPre_finite_down := hPre_finite_down)
    ∧ preserves_LnLoss_LnLossIdeal
    ∧ algebraic_LnLossIdeal_LnLossRefIdeal_pre_finite_loss (hLnLossIdeal := hLnLossIdeal) (hLnLossRefIdeal := hLnLossRefIdeal) (hPre_finite_loss := hPre_finite_loss)
    ∧ preserves_SumSmall_SumSmallIdeal
    ∧ algebraic_SumSmallIdeal_SumSmallRefIdeal (hSumSmallIdeal := hSumSmallIdeal) (hSumSmallRefIdeal := hSumSmallRefIdeal)
-- ==== On_ffn_up_positions.lean ====
abbrev S8448x1024 : Shape := ⟨2, ![8448, 1024]⟩
abbrev S1024x5632 : Shape := ⟨2, ![1024, 5632]⟩
abbrev S5632x3 : Shape := ⟨2, ![5632, 3]⟩
abbrev S5632 : Shape := ⟨1, ![5632]⟩
abbrev S8448x5632 : Shape := ⟨2, ![8448, 5632]⟩
abbrev S_ : Shape := ⟨0, ![]⟩
abbrev S8448x2816 : Shape := ⟨2, ![8448, 2816]⟩

class Facts : Prop where
  bcast_S_S8448x5632 : S_.BroadcastsInDim S8448x5632 (![] : Fin 0 → Fin S8448x5632.rank)
  bcast_S_S8448x2816 : S_.BroadcastsInDim S8448x2816 (![] : Fin 0 → Fin S8448x2816.rank)

variable [Facts]

def fn {F : FTy → Type} [FloatOps F] (main_arg0 : FVec F S8448x1024 .f32) (main_arg1 : FVec F S1024x5632 .f32) (main_arg2 : FVec F S5632x3 .f32) (main_arg3 : FVec F S5632 .f32) : IVec S8448x5632 1 × IVec S8448x5632 1 × IVec S8448x2816 1 :=
  let main_v0 : IVec S8448x5632 32 := iotaInDim S8448x5632 32 0
  let main_c : IVec S_ 32 := constantI S_ 32 0#32
  let main_v1 : IVec S8448x5632 32 := broadcastInDim S8448x5632 ![] bcast_S_S8448x5632 main_c
  let main_v2 : IVec S8448x5632 1 := cmpi .sge main_v0 main_v1
  let main_v3 : IVec S8448x5632 32 := iotaInDim S8448x5632 32 0
  let main_c_0 : IVec S_ 32 := constantI S_ 32 240#32
  let main_v4 : IVec S8448x5632 32 := broadcastInDim S8448x5632 ![] bcast_S_S8448x5632 main_c_0
  let main_v5 : IVec S8448x5632 1 := cmpi .sge main_v3 main_v4
  let main_v6 : IVec S8448x2816 32 := iotaInDim S8448x2816 32 0
  let main_c_1 : IVec S_ 32 := constantI S_ 32 240#32
  let main_v7 : IVec S8448x2816 32 := broadcastInDim S8448x2816 ![] bcast_S_S8448x2816 main_c_1
  let main_v8 : IVec S8448x2816 1 := cmpi .sge main_v6 main_v7
  (main_v2, main_v5, main_v8)
-- ==== Pre_finite_down.lean ====
abbrev S8448x1024 : Shape := ⟨2, ![8448, 1024]⟩
abbrev S1024 : Shape := ⟨1, ![1024]⟩
abbrev S8448x2816 : Shape := ⟨2, ![8448, 2816]⟩
abbrev S2816x1024 : Shape := ⟨2, ![2816, 1024]⟩
abbrev S_ : Shape := ⟨0, ![]⟩

class Facts : Prop where
  bcast_S_S8448x1024 : S_.BroadcastsInDim S8448x1024 (![] : Fin 0 → Fin S8448x1024.rank)
  bcast_S_S1024 : S_.BroadcastsInDim S1024 (![] : Fin 0 → Fin S1024.rank)

variable [Facts]

def fn {F : FTy → Type} [FloatOps F] (main_arg0 : FVec F S8448x1024 .f32) (main_arg1 : FVec F S1024 .f32) (main_arg2 : FVec F S1024 .f32) (main_arg3 : FVec F S8448x2816 .f32) (main_arg4 : FVec F S2816x1024 .f32) (main_arg5 : FVec F S8448x1024 .f32) : IVec S8448x1024 1 × IVec S1024 1 × IVec S8448x1024 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8448x1024 .f32 := Host.absf main_arg5
  let main_cst_1 : FVec F S_ .f32 := constant S_ .f32 0x7F800000#32
  let main_v7 : FVec F S8448x1024 .f32 := broadcastInDim S8448x1024 ![] bcast_S_S8448x1024 main_cst_1
  let main_v8 : IVec S8448x1024 1 := cmpf .olt main_v6 main_v7
  (main_v2, main_v5, main_v8)
-- ==== Pre_finite_loss.lean ====
abbrev S8448x1024 : Shape := ⟨2, ![8448, 1024]⟩
abbrev S1024 : Shape := ⟨1, ![1024]⟩
abbrev S8448x2816 : Shape := ⟨2, ![8448, 2816]⟩
abbrev S2816x1024 : Shape := ⟨2, ![2816, 1024]⟩
abbrev S8192x1024 : Shape := ⟨2, ![8192, 1024]⟩
abbrev S_ : Shape := ⟨0, ![]⟩

class Facts : Prop where
  bcast_S_S8448x1024 : S_.BroadcastsInDim S8448x1024 (![] : Fin 0 → Fin S8448x1024.rank)
  bcast_S_S1024 : S_.BroadcastsInDim S1024 (![] : Fin 0 → Fin S1024.rank)
  bcast_S_S8192x1024 : S_.BroadcastsInDim S8192x1024 (![] : Fin 0 → Fin S8192x1024.rank)

variable [Facts]

def fn {F : FTy → Type} [FloatOps F] (main_arg0 : FVec F S8448x1024 .f32) (main_arg1 : FVec F S1024 .f32) (main_arg2 : FVec F S1024 .f32) (main_arg3 : FVec F S8448x2816 .f32) (main_arg4 : FVec F S2816x1024 .f32) (main_arg5 : FVec F S8192x1024 .f32) : IVec S8448x1024 1 × IVec S1024 1 × IVec S1024 1 × IVec S8192x1024 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8192x1024 .f32 := Host.absf main_arg5
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_o.lean ====
abbrev S8448x1024 : Shape := ⟨2, ![8448, 1024]⟩
abbrev S1024 : Shape := ⟨1, ![1024]⟩
abbrev S1024x1024 : Shape := ⟨2, ![1024, 1024]⟩
abbrev S_ : Shape := ⟨0, ![]⟩

class Facts : Prop where
  bcast_S_S8448x1024 : S_.BroadcastsInDim S8448x1024 (![] : Fin 0 → Fin S8448x1024.rank)
  bcast_S_S1024 : S_.BroadcastsInDim S1024 (![] : Fin 0 → Fin S1024.rank)

variable [Facts]

def fn {F : FTy → Type} [FloatOps F] (main_arg0 : FVec F S8448x1024 .f32) (main_arg1 : FVec F S1024 .f32) (main_arg2 : FVec F S1024 .f32) (main_arg3 : FVec F S8448x1024 .f32) (main_arg4 : FVec F S1024x1024 .f32) (main_arg5 : FVec F S8448x1024 .f32) : IVec S8448x1024 1 × IVec S1024 1 × IVec S8448x1024 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8448x1024 .f32 := Host.absf main_arg5
  let main_cst_1 : FVec F S_ .f32 := constant S_ .f32 0x7F800000#32
  let main_v7 : FVec F S8448x1024 .f32 := broadcastInDim S8448x1024 ![] bcast_S_S8448x1024 main_cst_1
  let main_v8 : IVec S8448x1024 1 := cmpf .olt main_v6 main_v7
  (main_v2, main_v5, main_v8)
-- ==== WgradUp.lean ====
abbrev S8448x1024 : Shape := ⟨2, ![8448, 1024]⟩
abbrev S8448x5632 : Shape := ⟨2, ![8448, 5632]⟩
abbrev S4x1024x1408 : Shape := ⟨3, ![4, 1024, 1408]⟩
abbrev S2112x1024 : Shape := ⟨2, ![2112, 1024]⟩
abbrev S2112x1408 : Shape := ⟨2, ![2112, 1408]⟩
abbrev S1x1024x1408 : Shape := ⟨3, ![1, 1024, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x5632, .bf16⟩
  | .hbm, ⟨2, _⟩ => ⟨S4x1024x1408, .f32⟩
  | .hbm, ⟨3, _⟩ => ⟨S4x1024x1408, .f32⟩
  | .local _ .vmem, ⟨0, _⟩ => ⟨S2112x1024, .f32⟩
  | .local _ .vmem, ⟨1, _⟩ => ⟨S2112x1024, .f32⟩
  | .local _ .vmem, ⟨2, _⟩ => ⟨S2112x1408, .bf16⟩
  | .local _ .vmem, ⟨3, _⟩ => ⟨S2112x1408, .bf16⟩
  | .local _ .vmem, ⟨4, _⟩ => ⟨S1x1024x1408, .f32⟩
  | .local _ .vmem, ⟨5, _⟩ => ⟨S1x1024x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2112x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradUpRefIdeal.lean ====
abbrev S8448x1024 : Shape := ⟨2, ![8448, 1024]⟩
abbrev S8448x5632 : Shape := ⟨2, ![8448, 5632]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x5632, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S8448x5632, .f32⟩
  | .hbm, ⟨6, _⟩ => ⟨S8448x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgradIn.lean ====
abbrev S8448x1024 : Shape := ⟨2, ![8448, 1024]⟩
abbrev S8448x3072 : Shape := ⟨2, ![8448, 3072]⟩
abbrev S4x1024x768 : Shape := ⟨3, ![4, 1024, 768]⟩
abbrev S2112x1024 : Shape := ⟨2, ![2112, 1024]⟩
abbrev S2112x768 : Shape := ⟨2, ![2112, 768]⟩
abbrev S1x1024x768 : Shape := ⟨3, ![1, 1024, 768]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x3072, .bf16⟩
  | .hbm, ⟨2, _⟩ => ⟨S4x1024x768, .f32⟩
  | .hbm, ⟨3, _⟩ => ⟨S4x1024x768, .f32⟩
  | .local _ .vmem, ⟨0, _⟩ => ⟨S2112x1024, .f32⟩
  | .local _ .vmem, ⟨1, _⟩ => ⟨S2112x1024, .f32⟩
  | .local _ .vmem, ⟨2, _⟩ => ⟨S2112x768, .bf16⟩
  | .local _ .vmem, ⟨3, _⟩ => ⟨S2112x768, .bf16⟩
  | .local _ .vmem, ⟨4, _⟩ => ⟨S1x1024x768, .f32⟩
  | .local _ .vmem, ⟨5, _⟩ => ⟨S1x1024x768, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2112x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradInRefIdeal.lean ====
abbrev S8448x1024 : Shape := ⟨2, ![8448, 1024]⟩
abbrev S8448x3072 : Shape := ⟨2, ![8448, 3072]⟩
abbrev S4x1024x768 : Shape := ⟨3, ![4, 1024, 768]⟩
abbrev S1024x4x768 : Shape := ⟨3, ![1024, 4, 768]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x3072, .bf16⟩
  | .hbm, ⟨2, _⟩ => ⟨S4x1024x768, .f32⟩
  | .hbm, ⟨3, _⟩ => ⟨S1024x4x768, .f32⟩
  | .hbm, ⟨4, _⟩ => ⟨S1024x3072, .f32⟩
  | .hbm, ⟨5, _⟩ => ⟨S8448x3072, .f32⟩
  | .hbm, ⟨6, _⟩ => ⟨S8448x3072, .f32⟩
  | .hbm, ⟨7, _⟩ => ⟨S3072x1024, .f32⟩
  | .hbm, ⟨8, _⟩ => ⟨S1024x3072, .f32⟩
  | .hbm, ⟨9, _⟩ => ⟨S1024x4x768, .f32⟩
  | .hbm, ⟨10, _⟩ => ⟨S4x1024x768, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgradDown.lean ====
abbrev S8448x2816 : Shape := ⟨2, ![8448, 2816]⟩
abbrev S8448x1024 : Shape := ⟨2, ![8448, 1024]⟩
abbrev S4x704x1024 : Shape := ⟨3, ![4, 704, 1024]⟩
abbrev S2112x2816 : Shape := ⟨2, ![2112, 2816]⟩
abbrev S2112x512 : Shape := ⟨2, ![2112, 512]⟩
abbrev S4x704x512 : Shape := ⟨3, ![4, 704, 512]⟩
abbrev S2816x512 : Shape := ⟨2, ![2816, 512]⟩

abbrev nBuf : Space → Nat
  | .hbm => 4
  | .vmem => 6
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S4x704x1024, .f32⟩
  | .hbm, ⟨3, _⟩ => ⟨S4x704x1024, .f32⟩
  | .local _ .vmem, ⟨0, _⟩ => ⟨S2112x2816, .bf16⟩
  | .local _ .vmem, ⟨1, _⟩ => ⟨S2112x2816, .bf16⟩
  | .local _ .vmem, ⟨2, _⟩ => ⟨S2112x512, .f32⟩
  | .local _ .vmem, ⟨3, _⟩ => ⟨S2112x512, .f32⟩
  | .local _ .vmem, ⟨4, _⟩ => ⟨S4x704x512, .f32⟩
  | .local _ .vmem, ⟨5, _⟩ => ⟨S4x704x512, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2112x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradDownRefIdeal.lean ====
abbrev S8448x2816 : Shape := ⟨2, ![8448, 2816]⟩
abbrev S8448x1024 : Shape := ⟨2, ![8448, 1024]⟩
abbrev S4x704x1024 : Shape := ⟨3, ![4, 704, 1024]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S4x704x1024, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradO.lean ====
abbrev S8448x1024 : Shape := ⟨2, ![8448, 1024]⟩
abbrev S4x256x1024 : Shape := ⟨3, ![4, 256, 1024]⟩
abbrev S2112x1024 : Shape := ⟨2, ![2112, 1024]⟩
abbrev S2112x512 : Shape := ⟨2, ![2112, 512]⟩
abbrev S4x256x512 : Shape := ⟨3, ![4, 256, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S4x256x1024, .f32⟩
  | .hbm, ⟨3, _⟩ => ⟨S4x256x1024, .f32⟩
  | .local _ .vmem, ⟨0, _⟩ => ⟨S2112x1024, .bf16⟩
  | .local _ .vmem, ⟨1, _⟩ => ⟨S2112x1024, .bf16⟩
  | .local _ .vmem, ⟨2, _⟩ => ⟨S2112x512, .f32⟩
  | .local _ .vmem, ⟨3, _⟩ => ⟨S2112x512, .f32⟩
  | .local _ .vmem, ⟨4, _⟩ => ⟨S4x256x512, .f32⟩
  | .local _ .vmem, ⟨5, _⟩ => ⟨S4x256x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2112x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradORefIdeal.lean ====
abbrev S8448x1024 : Shape := ⟨2, ![8448, 1024]⟩
abbrev S4x256x1024 : Shape := ⟨3, ![4, 256, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S4x256x1024, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxUp.lean ====
abbrev S8448x1024 : Shape := ⟨2, ![8448, 1024]⟩
abbrev S1024x5632 : Shape := ⟨2, ![1024, 5632]⟩
abbrev S8448x5632 : Shape := ⟨2, ![8448, 5632]⟩
abbrev S384x5632 : Shape := ⟨2, ![384, 5632]⟩
abbrev S384x1024 : Shape := ⟨2, ![384, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .bf16⟩
  | .hbm, ⟨3, _⟩ => ⟨S8448x1024, .f32⟩
  | .hbm, ⟨4, _⟩ => ⟨S1024x5632, .bf16⟩
  | .hbm, ⟨5, _⟩ => ⟨S8448x1024, .f32⟩
  | .local _ .vmem, ⟨0, _⟩ => ⟨S384x5632, .bf16⟩
  | .local _ .vmem, ⟨1, _⟩ => ⟨S384x5632, .bf16⟩
  | .local _ .vmem, ⟨2, _⟩ => ⟨S1024x5632, .bf16⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DxUpRefIdeal.lean ====
abbrev S8448x1024 : Shape := ⟨2, ![8448, 1024]⟩
abbrev S1024x5632 : Shape := ⟨2, ![1024, 5632]⟩
abbrev S8448x5632 : Shape := ⟨2, ![8448, 5632]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .bf16⟩
  | .hbm, ⟨3, _⟩ => ⟨S8448x1024, .f32⟩
  | .hbm, ⟨4, _⟩ => ⟨S8448x5632, .f32⟩
  | .hbm, ⟨5, _⟩ => ⟨S_, .f32⟩
  | .hbm, ⟨6, _⟩ => ⟨S8448x1024, .f32⟩
  | .hbm, ⟨7, _⟩ => ⟨S8448x1024, .f32⟩
  | .hbm, ⟨8, _⟩ => ⟨S8448x5632, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== DxIn.lean ====
abbrev S8448x1024 : Shape := ⟨2, ![8448, 1024]⟩
abbrev S1024x3072 : Shape := ⟨2, ![1024, 3072]⟩
abbrev S8448x3072 : Shape := ⟨2, ![8448, 3072]⟩
abbrev S384x3072 : Shape := ⟨2, ![384, 3072]⟩
abbrev S384x1024 : Shape := ⟨2, ![384, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x3072, .f32⟩
  | .hbm, ⟨2, _⟩ => ⟨S8448x3072, .bf16⟩
  | .hbm, ⟨3, _⟩ => ⟨S8448x1024, .f32⟩
  | .hbm, ⟨4, _⟩ => ⟨S1024x3072, .bf16⟩
  | .hbm, ⟨5, _⟩ => ⟨S8448x1024, .f32⟩
  | .local _ .vmem, ⟨0, _⟩ => ⟨S384x3072, .bf16⟩
  | .local _ .vmem, ⟨1, _⟩ => ⟨S384x3072, .bf16⟩
  | .local _ .vmem, ⟨2, _⟩ => ⟨S1024x3072, .bf16⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DxInRefIdeal.lean ====
abbrev S8448x1024 : Shape := ⟨2, ![8448, 1024]⟩
abbrev S1024x3072 : Shape := ⟨2, ![1024, 3072]⟩
abbrev S8448x3072 : Shape := ⟨2, ![8448, 3072]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x3072, .f32⟩
  | .hbm, ⟨2, _⟩ => ⟨S8448x3072, .bf16⟩
  | .hbm, ⟨3, _⟩ => ⟨S8448x1024, .f32⟩
  | .hbm, ⟨4, _⟩ => ⟨S8448x3072, .f32⟩
  | .hbm, ⟨5, _⟩ => ⟨S_, .f32⟩
  | .hbm, ⟨6, _⟩ => ⟨S8448x1024, .f32⟩
  | .hbm, ⟨7, _⟩ => ⟨S8448x1024, .f32⟩
  | .hbm, ⟨8, _⟩ => ⟨S8448x3072, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== MmIn.lean ====
abbrev S8448x1024 : Shape := ⟨2, ![8448, 1024]⟩
abbrev S1024x3072 : Shape := ⟨2, ![1024, 3072]⟩
abbrev S8448x3072 : Shape := ⟨2, ![8448, 3072]⟩
abbrev S384x1024 : Shape := ⟨2, ![384, 1024]⟩
abbrev S384x3072 : Shape := ⟨2, ![384, 3072]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x3072, .f32⟩
  | .hbm, ⟨2, _⟩ => ⟨S1024x3072, .bf16⟩
  | .hbm, ⟨3, _⟩ => ⟨S8448x3072, .f32⟩
  | .local _ .vmem, ⟨0, _⟩ => ⟨S384x1024, .f32⟩
  | .local _ .vmem, ⟨1, _⟩ => ⟨S384x1024, .f32⟩
  | .local _ .vmem, ⟨2, _⟩ => ⟨S1024x3072, .bf16⟩
  | .local _ .vmem, ⟨3, _⟩ => ⟨S384x3072, .f32⟩
  | .local _ .vmem, ⟨4, _⟩ => ⟨S384x3072, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MmInRefIdeal.lean ====
abbrev S8448x1024 : Shape := ⟨2, ![8448, 1024]⟩
abbrev S1024x3072 : Shape := ⟨2, ![1024, 3072]⟩
abbrev S8448x3072 : Shape := ⟨2, ![8448, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x3072, .f32⟩
  | .hbm, ⟨2, _⟩ => ⟨S8448x3072, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmUp.lean ====
abbrev S8448x1024 : Shape := ⟨2, ![8448, 1024]⟩
abbrev S1024x5632 : Shape := ⟨2, ![1024, 5632]⟩
abbrev S5632x3 : Shape := ⟨2, ![5632, 3]⟩
abbrev S5632 : Shape := ⟨1, ![5632]⟩
abbrev S3x5632 : Shape := ⟨2, ![3, 5632]⟩
abbrev S_ : Shape := ⟨0, ![]⟩
abbrev S8x5632 : Shape := ⟨2, ![8, 5632]⟩
abbrev S1x5632 : Shape := ⟨2, ![1, 5632]⟩
abbrev S8448x5632 : Shape := ⟨2, ![8448, 5632]⟩
abbrev S8448x2816 : Shape := ⟨2, ![8448, 2816]⟩
abbrev S192x1024 : Shape := ⟨2, ![192, 1024]⟩
abbrev S192x5632 : Shape := ⟨2, ![192, 5632]⟩
abbrev S192x2816 : Shape := ⟨2, ![192, 2816]⟩
abbrev S192x1 : Shape := ⟨2, ![192, 1]⟩
abbrev S200x5632 : Shape := ⟨2, ![200, 5632]⟩

abbrev nBuf : Space → Nat
  | .hbm => 13
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S5632x3, .f32⟩
  | .hbm, ⟨3, _⟩ => ⟨S5632, .f32⟩
  | .hbm, ⟨4, _⟩ => ⟨S3x5632, .f32⟩
  | .hbm, ⟨5, _⟩ => ⟨S_, .i32⟩
  | .hbm, ⟨6, _⟩ => ⟨S_, .f32⟩
  | .hbm, ⟨7, _⟩ => ⟨S8x5632, .f32⟩
  | .hbm, ⟨8, _⟩ => ⟨S1024x5632, .bf16⟩
  | .hbm, ⟨9, _⟩ => ⟨S1x5632, .f32⟩
  | .hbm, ⟨10, _⟩ => ⟨S8448x5632, .bf16⟩
  | .hbm, ⟨11, _⟩ => ⟨S8448x5632, .f32⟩
  | .hbm, ⟨12, _⟩ => ⟨S8448x2816, .bf16⟩
  | .local _ .vmem, ⟨0, _⟩ => ⟨S192x1024, .f32⟩
  | .local _ .vmem, ⟨1, _⟩ => ⟨S192x1024, .f32⟩
  | .local _ .vmem, ⟨2, _⟩ => ⟨S1024x5632, .bf16⟩
  | .local _ .vmem, ⟨3, _⟩ => ⟨S8x5632, .f32⟩
  | .local _ .vmem, ⟨4, _⟩ => ⟨S1x5632, .f32⟩
  | .local _ .vmem, ⟨5, _⟩ => ⟨S192x5632, .bf16⟩
  | .local _ .vmem, ⟨6, _⟩ => ⟨S192x5632, .bf16⟩
  | .local _ .vmem, ⟨7, _⟩ => ⟨S192x5632, .f32⟩
  | .local _ .vmem, ⟨8, _⟩ => ⟨S192x5632, .f32⟩
  | .local _ .vmem, ⟨9, _⟩ => ⟨S192x2816, .bf16⟩
  | .local _ .vmem, ⟨10, _⟩ => ⟨S192x2816, .bf16⟩
  | .local _ .vmem, ⟨11, _⟩ => ⟨S8x5632, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MmUpRefIdeal.lean ====
abbrev S8448x1024 : Shape := ⟨2, ![8448, 1024]⟩
abbrev S1024x5632 : Shape := ⟨2, ![1024, 5632]⟩
abbrev S5632x3 : Shape := ⟨2, ![5632, 3]⟩
abbrev S5632 : Shape := ⟨1, ![5632]⟩
abbrev S8208x1024 : Shape := ⟨2, ![8208, 1024]⟩
abbrev S8208x5632 : Shape := ⟨2, ![8208, 5632]⟩
abbrev S_ : Shape := ⟨0, ![]⟩
abbrev S8210x5632 : Shape := ⟨2, ![8210, 5632]⟩
abbrev S5632x1 : Shape := ⟨2, ![5632, 1]⟩
abbrev S1x5632 : Shape := ⟨2, ![1, 5632]⟩
abbrev S8208x2816 : Shape := ⟨2, ![8208, 2816]⟩
abbrev S8448x5632 : Shape := ⟨2, ![8448, 5632]⟩
abbrev S8448x2816 : Shape := ⟨2, ![8448, 2816]⟩

abbrev nBuf : Space → Nat
  | .hbm => 55
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S5632x3, .f32⟩
  | .hbm, ⟨3, _⟩ => ⟨S5632, .f32⟩
  | .hbm, ⟨4, _⟩ => ⟨S8208x1024, .f32⟩
  | .hbm, ⟨5, _⟩ => ⟨S8208x5632, .f32⟩
  | .hbm, ⟨6, _⟩ => ⟨S_, .i32⟩
  | .hbm, ⟨7, _⟩ => ⟨S_, .f32⟩
  | .hbm, ⟨8, _⟩ => ⟨S8210x5632, .f32⟩
  | .hbm, ⟨9, _⟩ => ⟨S8208x5632, .f32⟩
  | .hbm, ⟨10, _⟩ => ⟨S5632x1, .f32⟩
  | .hbm, ⟨11, _⟩ => ⟨S5632, .f32⟩
  | .hbm, ⟨12, _⟩ => ⟨S1x5632, .f32⟩
  | .hbm, ⟨13, _⟩ => ⟨S8208x5632, .f32⟩
  | .hbm, ⟨14, _⟩ => ⟨S8208x5632, .f32⟩
  | .hbm, ⟨15, _⟩ => ⟨S8208x5632, .f32⟩
  | .hbm, ⟨16, _⟩ => ⟨S5632x1, .f32⟩
  | .hbm, ⟨17, _⟩ => ⟨S5632, .f32⟩
  | .hbm, ⟨18, _⟩ => ⟨S1x5632, .f32⟩
  | .hbm, ⟨19, _⟩ => ⟨S8208x5632, .f32⟩
  | .hbm, ⟨20, _⟩ => ⟨S8208x5632, .f32⟩
  | .hbm, ⟨21, _⟩ => ⟨S8208x5632, .f32⟩
  | .hbm, ⟨22, _⟩ => ⟨S8208x5632, .f32⟩
  | .hbm, ⟨23, _⟩ => ⟨S5632x1, .f32⟩
  | .hbm, ⟨24, _⟩ => ⟨S5632, .f32⟩
  | .hbm, ⟨25, _⟩ => ⟨S1x5632, .f32⟩
  | .hbm, ⟨26, _⟩ => ⟨S8208x5632, .f32⟩
  | .hbm, ⟨27, _⟩ => ⟨S8208x5632, .f32⟩
  | .hbm, ⟨28, _⟩ => ⟨S8208x5632, .f32⟩
  | .hbm, ⟨29, _⟩ => ⟨S1x5632, .f32⟩
  | .hbm, ⟨30, _⟩ => ⟨S8208x5632, .f32⟩
  | .hbm, ⟨31, _⟩ => ⟨S8208x5632, .f32⟩
  | .hbm, ⟨32, _⟩ => ⟨S8208x2816, .f32⟩
  | .hbm, ⟨33, _⟩ => ⟨S8208x2816, .f32⟩
  | .hbm, ⟨34, _⟩ => ⟨S8208x2816, .f32⟩
  | .hbm, ⟨35, _⟩ => ⟨S8208x2816, .f32⟩
  | .hbm, ⟨36, _⟩ => ⟨S_, .f32⟩
  | .hbm, ⟨37, _⟩ => ⟨S8208x2816, .f32⟩
  | .hbm, ⟨38, _⟩ => ⟨S8208x2816, .f32⟩
  | .hbm, ⟨39, _⟩ => ⟨S_, .f32⟩
  | .hbm, ⟨40, _⟩ => ⟨S8208x2816, .f32⟩
  | .hbm, ⟨41, _⟩ => ⟨S8208x2816, .f32⟩
  | .hbm, ⟨42, _⟩ => ⟨S8208x2816, .f32⟩
  | .hbm, ⟨43, _⟩ => ⟨S8208x2816, .f32⟩
  | .hbm, ⟨44, _⟩ => ⟨S_, .i32⟩
  | .hbm, ⟨45, _⟩ => ⟨S_, .f32⟩
  | .hbm, ⟨46, _⟩ => ⟨S8448x5632, .f32⟩
  | .hbm, ⟨47, _⟩ => ⟨S8448x5632, .bf16⟩
  | .hbm, ⟨48, _⟩ => ⟨S_, .i32⟩
  | .hbm, ⟨49, _⟩ => ⟨S_, .f32⟩
  | .hbm, ⟨50, _⟩ => ⟨S8448x5632, .f32⟩
  | .hbm, ⟨51, _⟩ => ⟨S_, .i32⟩
  | .hbm, ⟨52, _⟩ => ⟨S_, .f32⟩
  | .hbm, ⟨53, _⟩ => ⟨S8448x2816, .f32⟩
  | .hbm, ⟨54, _⟩ => ⟨S8448x2816, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v28 : Ref sig .tc := ⟨.hbm, 42, rfl⟩
abbrev main_v29 : Ref sig .tc := ⟨.hbm, 43, rfl⟩
abbrev main_c_0 : Ref sig .tc := ⟨.hbm, 44, rfl⟩
abbrev main_call2_v0 : Ref sig .tc := ⟨.hbm, 45, rfl⟩
abbrev main_v30 : Ref sig .tc := ⟨.hbm, 46, rfl⟩
abbrev main_v31 : Ref sig .tc := ⟨.hbm, 47, rfl⟩
abbrev main_c_1 : Ref sig .tc := ⟨.hbm, 48, rfl⟩
abbrev main_call3_v0 : Ref sig .tc := ⟨.hbm, 49, rfl⟩
abbrev main_v32 : Ref sig .tc := ⟨.hbm, 50, rfl⟩
abbrev main_c_2 : Ref sig .tc := ⟨.hbm, 51, rfl⟩
abbrev main_call4_v0 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== MmO.lean ====
abbrev S8448x1024 : Shape := ⟨2, ![8448, 1024]⟩
abbrev S1024x1024 : Shape := ⟨2, ![1024, 1024]⟩
abbrev S1024 : Shape := ⟨1, ![1024]⟩
abbrev S1x1024 : Shape := ⟨2, ![1, 1024]⟩
abbrev S8448x1 : Shape := ⟨2, ![8448, 1]⟩
abbrev S384x1024 : Shape := ⟨2, ![384, 1024]⟩
abbrev S384x1 : Shape := ⟨2, ![384, 1]⟩
abbrev S384 : Shape := ⟨1, ![384]⟩

abbrev nBuf : Space → Nat
  | .hbm => 11
  | .vmem => 13
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .f32⟩
  | .hbm, ⟨2, _⟩ => ⟨S8448x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8448x1024, .f32⟩
  | .hbm, ⟨9, _⟩ => ⟨S8448x1024, .f32⟩
  | .hbm, ⟨10, _⟩ => ⟨S8448x1, .f32⟩
  | .local _ .vmem, ⟨0, _⟩ => ⟨S384x1024, .bf16⟩
  | .local _ .vmem, ⟨1, _⟩ => ⟨S384x1024, .bf16⟩
  | .local _ .vmem, ⟨2, _⟩ => ⟨S1024x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1, .f32⟩
  | .local _ .vmem, ⟨12, _⟩ => ⟨S384x1, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MmOIdeal.lean ====
abbrev S8448x1024 : Shape := ⟨2, ![8448, 1024]⟩
abbrev S1024x1024 : Shape := ⟨2, ![1024, 1024]⟩
abbrev S1024 : Shape := ⟨1, ![1024]⟩
abbrev S1x1024 : Shape := ⟨2, ![1, 1024]⟩
abbrev S8448x1 : Shape := ⟨2, ![8448, 1]⟩
abbrev S384x1024 : Shape := ⟨2, ![384, 1024]⟩
abbrev S384x1 : Shape := ⟨2, ![384, 1]⟩
abbrev S384 : Shape := ⟨1, ![384]⟩

abbrev nBuf : Space → Nat
  | .hbm => 11
  | .vmem => 13
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .f32⟩
  | .hbm, ⟨2, _⟩ => ⟨S8448x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8448x1024, .f32⟩
  | .hbm, ⟨9, _⟩ => ⟨S8448x1024, .f32⟩
  | .hbm, ⟨10, _⟩ => ⟨S8448x1, .f32⟩
  | .local _ .vmem, ⟨0, _⟩ => ⟨S384x1024, .bf16⟩
  | .local _ .vmem, ⟨1, _⟩ => ⟨S384x1024, .bf16⟩
  | .local _ .vmem, ⟨2, _⟩ => ⟨S1024x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1, .f32⟩
  | .local _ .vmem, ⟨12, _⟩ => ⟨S384x1, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MmORefIdeal.lean ====
abbrev S8448x1024 : Shape := ⟨2, ![8448, 1024]⟩
abbrev S1024x1024 : Shape := ⟨2, ![1024, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .f32⟩
  | .hbm, ⟨2, _⟩ => ⟨S8448x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S_, .f32⟩
  | .hbm, ⟨31, _⟩ => ⟨S8448, .f32⟩
  | .hbm, ⟨32, _⟩ => ⟨S8448x1, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S_, .f32⟩
  | .hbm, ⟨40, _⟩ => ⟨S8448, .f32⟩
  | .hbm, ⟨41, _⟩ => ⟨S8448x1, .f32⟩
  | .hbm, ⟨42, _⟩ => ⟨S_, .f32⟩
  | .hbm, ⟨43, _⟩ => ⟨S8448x1, .f32⟩
  | .hbm, ⟨44, _⟩ => ⟨S8448x1, .f32⟩
  | .hbm, ⟨45, _⟩ => ⟨S8448x1024, .f32⟩
  | .hbm, ⟨46, _⟩ => ⟨S8448x1024, .f32⟩
  | .hbm, ⟨47, _⟩ => ⟨S_, .f32⟩
  | .hbm, ⟨48, _⟩ => ⟨S8448x1, .f32⟩
  | .hbm, ⟨49, _⟩ => ⟨S8448x1, .f32⟩
  | .hbm, ⟨50, _⟩ => ⟨S8448x1, .f32⟩
  | .hbm, ⟨51, _⟩ => ⟨S8448x1024, .f32⟩
  | .hbm, ⟨52, _⟩ => ⟨S8448x1024, .f32⟩
  | .hbm, ⟨53, _⟩ => ⟨S1x1024, .f32⟩
  | .hbm, ⟨54, _⟩ => ⟨S8448x1024, .f32⟩
  | .hbm, ⟨55, _⟩ => ⟨S8448x1024, .f32⟩
  | .hbm, ⟨56, _⟩ => ⟨S1x1024, .f32⟩
  | .hbm, ⟨57, _⟩ => ⟨S8448x1024, .f32⟩
  | .hbm, ⟨58, _⟩ => ⟨S8448x1024, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== MmDown.lean ====
abbrev S8448x2816 : Shape := ⟨2, ![8448, 2816]⟩
abbrev S2816x1024 : Shape := ⟨2, ![2816, 1024]⟩
abbrev S8448x1024 : Shape := ⟨2, ![8448, 1024]⟩
abbrev S1024 : Shape := ⟨1, ![1024]⟩
abbrev S1x1024 : Shape := ⟨2, ![1, 1024]⟩
abbrev S8448x1 : Shape := ⟨2, ![8448, 1]⟩
abbrev S384x2816 : Shape := ⟨2, ![384, 2816]⟩
abbrev S384x1024 : Shape := ⟨2, ![384, 1024]⟩
abbrev S384x1 : Shape := ⟨2, ![384, 1]⟩
abbrev S384 : Shape := ⟨1, ![384]⟩

abbrev nBuf : Space → Nat
  | .hbm => 11
  | .vmem => 13
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .f32⟩
  | .hbm, ⟨2, _⟩ => ⟨S8448x1024, .f32⟩
  | .hbm, ⟨3, _⟩ => ⟨S1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S8448x1024, .f32⟩
  | .hbm, ⟨9, _⟩ => ⟨S8448x1024, .f32⟩
  | .hbm, ⟨10, _⟩ => ⟨S8448x1, .f32⟩
  | .local _ .vmem, ⟨0, _⟩ => ⟨S384x2816, .bf16⟩
  | .local _ .vmem, ⟨1, _⟩ => ⟨S384x2816, .bf16⟩
  | .local _ .vmem, ⟨2, _⟩ => ⟨S2816x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1, .f32⟩
  | .local _ .vmem, ⟨12, _⟩ => ⟨S384x1, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MmDownRefIdeal.lean ====
abbrev S8448x2816 : Shape := ⟨2, ![8448, 2816]⟩
abbrev S2816x1024 : Shape := ⟨2, ![2816, 1024]⟩
abbrev S8448x1024 : Shape := ⟨2, ![8448, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .f32⟩
  | .hbm, ⟨2, _⟩ => ⟨S8448x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8448x1024, .f32⟩
  | .hbm, ⟨7, _⟩ => ⟨S8448x1024, .f32⟩
  | .hbm, ⟨8, _⟩ => ⟨S8448x2816, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S_, .f32⟩
  | .hbm, ⟨31, _⟩ => ⟨S8448, .f32⟩
  | .hbm, ⟨32, _⟩ => ⟨S8448x1, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S_, .f32⟩
  | .hbm, ⟨40, _⟩ => ⟨S8448, .f32⟩
  | .hbm, ⟨41, _⟩ => ⟨S8448x1, .f32⟩
  | .hbm, ⟨42, _⟩ => ⟨S_, .f32⟩
  | .hbm, ⟨43, _⟩ => ⟨S8448x1, .f32⟩
  | .hbm, ⟨44, _⟩ => ⟨S8448x1, .f32⟩
  | .hbm, ⟨45, _⟩ => ⟨S8448x1024, .f32⟩
  | .hbm, ⟨46, _⟩ => ⟨S8448x1024, .f32⟩
  | .hbm, ⟨47, _⟩ => ⟨S_, .f32⟩
  | .hbm, ⟨48, _⟩ => ⟨S8448x1, .f32⟩
  | .hbm, ⟨49, _⟩ => ⟨S8448x1, .f32⟩
  | .hbm, ⟨50, _⟩ => ⟨S8448x1, .f32⟩
  | .hbm, ⟨51, _⟩ => ⟨S8448x1024, .f32⟩
  | .hbm, ⟨52, _⟩ => ⟨S8448x1024, .f32⟩
  | .hbm, ⟨53, _⟩ => ⟨S1x1024, .f32⟩
  | .hbm, ⟨54, _⟩ => ⟨S8448x1024, .f32⟩
  | .hbm, ⟨55, _⟩ => ⟨S8448x1024, .f32⟩
  | .hbm, ⟨56, _⟩ => ⟨S1x1024, .f32⟩
  | .hbm, ⟨57, _⟩ => ⟨S8448x1024, .f32⟩
  | .hbm, ⟨58, _⟩ => ⟨S8448x1024, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== AdamIn.lean ====
abbrev S2x1024x768 : Shape := ⟨3, ![2, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 15
  | .vmem => 36
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S2x1024x768, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S2x1024x768, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .vmem, ⟨18, _⟩ => ⟨S1x256x768, .f32⟩
  | .local _ .vmem, ⟨19, _⟩ => ⟨S1x256x768, .f32⟩
  | .local _ .vmem, ⟨20, _⟩ => ⟨S1x256x768, .f32⟩
  | .local _ .vmem, ⟨21, _⟩ => ⟨S1x256x768, .f32⟩
  | .local _ .vmem, ⟨22, _⟩ => ⟨S1x256x768, .f32⟩
  | .local _ .vmem, ⟨23, _⟩ => ⟨S1x256x768, .f32⟩
  | .local _ .vmem, ⟨24, _⟩ => ⟨S256x768, .f32⟩
  | .local _ .vmem, ⟨25, _⟩ => ⟨S256x768, .f32⟩
  | .local _ .vmem, ⟨26, _⟩ => ⟨S256x768, .f32⟩
  | .local _ .vmem, ⟨27, _⟩ => ⟨S256x768, .f32⟩
  | .local _ .vmem, ⟨28, _⟩ => ⟨S1x256x768, .f32⟩
  | .local _ .vmem, ⟨29, _⟩ => ⟨S1x256x768, .f32⟩
  | .local _ .vmem, ⟨30, _⟩ => ⟨S1x256x768, .f32⟩
  | .local _ .vmem, ⟨31, _⟩ => ⟨S1x256x768, .f32⟩
  | .local _ .vmem, ⟨32, _⟩ => ⟨S1x256x768, .f32⟩
  | .local _ .vmem, ⟨33, _⟩ => ⟨S1x256x768, .f32⟩
  | .local _ .vmem, ⟨34, _⟩ => ⟨S1x256x768, .f32⟩
  | .local _ .vmem, ⟨35, _⟩ => ⟨S1x256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== AdamInIdeal.lean ====
abbrev S2x1024x768 : Shape := ⟨3, ![2, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 15
  | .vmem => 36
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S2x1024x768, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S2x1024x768, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | .local _ .vmem, ⟨18, _⟩ => ⟨S1x256x768, .f32⟩
  | .local _ .vmem, ⟨19, _⟩ => ⟨S1x256x768, .f32⟩
  | .local _ .vmem, ⟨20, _⟩ => ⟨S1x256x768, .f32⟩
  | .local _ .vmem, ⟨21, _⟩ => ⟨S1x256x768, .f32⟩
  | .local _ .vmem, ⟨22, _⟩ => ⟨S1x256x768, .f32⟩
  | .local _ .vmem, ⟨23, _⟩ => ⟨S1x256x768, .f32⟩
  | .local _ .vmem, ⟨24, _⟩ => ⟨S256x768, .f32⟩
  | .local _ .vmem, ⟨25, _⟩ => ⟨S256x768, .f32⟩
  | .local _ .vmem, ⟨26, _⟩ => ⟨S256x768, .f32⟩
  | .local _ .vmem, ⟨27, _⟩ => ⟨S256x768, .f32⟩
  | .local _ .vmem, ⟨28, _⟩ => ⟨S1x256x768, .f32⟩
  | .local _ .vmem, ⟨29, _⟩ => ⟨S1x256x768, .f32⟩
  | .local _ .vmem, ⟨30, _⟩ => ⟨S1x256x768, .f32⟩
  | .local _ .vmem, ⟨31, _⟩ => ⟨S1x256x768, .f32⟩
  | .local _ .vmem, ⟨32, _⟩ => ⟨S1x256x768, .f32⟩
  | .local _ .vmem, ⟨33, _⟩ => ⟨S1x256x768, .f32⟩
  | .local _ .vmem, ⟨34, _⟩ => ⟨S1x256x768, .f32⟩
  | .local _ .vmem, ⟨35, _⟩ => ⟨S1x256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== AdamInRefIdeal.lean ====
abbrev S2x1024x768 : Shape := ⟨3, ![2, 1024, 768]⟩
abbrev S1024x768 : Shape := ⟨2, ![1024, 768]⟩
abbrev S1x1024x768 : Shape := ⟨3, ![1, 1024, 768]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1x1024x768, .f32⟩
  | .hbm, ⟨10, _⟩ => ⟨S1x1024x768, .f32⟩
  | .hbm, ⟨11, _⟩ => ⟨S2x1024x768, .f32⟩
  | .hbm, ⟨12, _⟩ => ⟨S_, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S2x1024x768, .f32⟩
  | .hbm, ⟨23, _⟩ => ⟨S_, .f32⟩
  | .hbm, ⟨24, _⟩ => ⟨S2x1024x768, .f32⟩
  | .hbm, ⟨25, _⟩ => ⟨S2x1024x768, .f32⟩
  | .hbm, ⟨26, _⟩ => ⟨S2x1024x768, .f32⟩
  | .hbm, ⟨27, _⟩ => ⟨S_, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2x1024x768, .f32⟩
  | .hbm, ⟨38, _⟩ => ⟨S_, .f32⟩
  | .hbm, ⟨39, _⟩ => ⟨S2x1024x768, .f32⟩
  | .hbm, ⟨40, _⟩ => ⟨S2x1024x768, .f32⟩
  | .hbm, ⟨41, _⟩ => ⟨S2x1024x768, .f32⟩
  | .hbm, ⟨42, _⟩ => ⟨S_, .f32⟩
  | .hbm, ⟨43, _⟩ => ⟨S2x1024x768, .f32⟩
  | .hbm, ⟨44, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamO.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 15
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S256x1024, .f32⟩
  | .local _ .vmem, ⟨4, _⟩ => ⟨S256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S1x256x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]
-- ==== AdamOIdeal.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 15
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S256x1024, .f32⟩
  | .local _ .vmem, ⟨4, _⟩ => ⟨S256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1x256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S1x256x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]
-- ==== AdamORefIdeal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1x256x1024, .f32⟩
  | .hbm, ⟨10, _⟩ => ⟨S1x256x1024, .f32⟩
  | .hbm, ⟨11, _⟩ => ⟨S2x256x1024, .f32⟩
  | .hbm, ⟨12, _⟩ => ⟨S_, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S_, .f32⟩
  | .hbm, ⟨43, _⟩ => ⟨S2x256x1024, .f32⟩
  | .hbm, ⟨44, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamUp.lean ====
abbrev S2x1024x1408 : Shape := ⟨3, ![2, 1024, 1408]⟩
abbrev S1024x1408 : Shape := ⟨2, ![1024, 1408]⟩
abbrev S1x128x1408 : Shape := ⟨3, ![1, 128, 1408]⟩
abbrev S128x1408 : Shape := ⟨2, ![128, 1408]⟩

abbrev nBuf : Space → Nat
  | .hbm => 15
  | .vmem => 36
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S2x1024x1408, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .vmem, ⟨18, _⟩ => ⟨S1x128x1408, .f32⟩
  | .local _ .vmem, ⟨19, _⟩ => ⟨S1x128x1408, .f32⟩
  | .local _ .vmem, ⟨20, _⟩ => ⟨S1x128x1408, .f32⟩
  | .local _ .vmem, ⟨21, _⟩ => ⟨S1x128x1408, .f32⟩
  | .local _ .vmem, ⟨22, _⟩ => ⟨S1x128x1408, .f32⟩
  | .local _ .vmem, ⟨23, _⟩ => ⟨S1x128x1408, .f32⟩
  | .local _ .vmem, ⟨24, _⟩ => ⟨S128x1408, .f32⟩
  | .local _ .vmem, ⟨25, _⟩ => ⟨S128x1408, .f32⟩
  | .local _ .vmem, ⟨26, _⟩ => ⟨S128x1408, .f32⟩
  | .local _ .vmem, ⟨27, _⟩ => ⟨S128x1408, .f32⟩
  | .local _ .vmem, ⟨28, _⟩ => ⟨S1x128x1408, .f32⟩
  | .local _ .vmem, ⟨29, _⟩ => ⟨S1x128x1408, .f32⟩
  | .local _ .vmem, ⟨30, _⟩ => ⟨S1x128x1408, .f32⟩
  | .local _ .vmem, ⟨31, _⟩ => ⟨S1x128x1408, .f32⟩
  | .local _ .vmem, ⟨32, _⟩ => ⟨S1x128x1408, .f32⟩
  | .local _ .vmem, ⟨33, _⟩ => ⟨S1x128x1408, .f32⟩
  | .local _ .vmem, ⟨34, _⟩ => ⟨S1x128x1408, .f32⟩
  | .local _ .vmem, ⟨35, _⟩ => ⟨S1x128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x128x1408 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x1408 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128x1408 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== AdamUpIdeal.lean ====
abbrev S2x1024x1408 : Shape := ⟨3, ![2, 1024, 1408]⟩
abbrev S1024x1408 : Shape := ⟨2, ![1024, 1408]⟩
abbrev S1x128x1408 : Shape := ⟨3, ![1, 128, 1408]⟩
abbrev S128x1408 : Shape := ⟨2, ![128, 1408]⟩

abbrev nBuf : Space → Nat
  | .hbm => 15
  | .vmem => 36
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S2x1024x1408, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .vmem, ⟨18, _⟩ => ⟨S1x128x1408, .f32⟩
  | .local _ .vmem, ⟨19, _⟩ => ⟨S1x128x1408, .f32⟩
  | .local _ .vmem, ⟨20, _⟩ => ⟨S1x128x1408, .f32⟩
  | .local _ .vmem, ⟨21, _⟩ => ⟨S1x128x1408, .f32⟩
  | .local _ .vmem, ⟨22, _⟩ => ⟨S1x128x1408, .f32⟩
  | .local _ .vmem, ⟨23, _⟩ => ⟨S1x128x1408, .f32⟩
  | .local _ .vmem, ⟨24, _⟩ => ⟨S128x1408, .f32⟩
  | .local _ .vmem, ⟨25, _⟩ => ⟨S128x1408, .f32⟩
  | .local _ .vmem, ⟨26, _⟩ => ⟨S128x1408, .f32⟩
  | .local _ .vmem, ⟨27, _⟩ => ⟨S128x1408, .f32⟩
  | .local _ .vmem, ⟨28, _⟩ => ⟨S1x128x1408, .f32⟩
  | .local _ .vmem, ⟨29, _⟩ => ⟨S1x128x1408, .f32⟩
  | .local _ .vmem, ⟨30, _⟩ => ⟨S1x128x1408, .f32⟩
  | .local _ .vmem, ⟨31, _⟩ => ⟨S1x128x1408, .f32⟩
  | .local _ .vmem, ⟨32, _⟩ => ⟨S1x128x1408, .f32⟩
  | .local _ .vmem, ⟨33, _⟩ => ⟨S1x128x1408, .f32⟩
  | .local _ .vmem, ⟨34, _⟩ => ⟨S1x128x1408, .f32⟩
  | .local _ .vmem, ⟨35, _⟩ => ⟨S1x128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x128x1408 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1408 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1408 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x1408 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x1408 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x1408 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128x1408 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== AdamUpRefIdeal.lean ====
abbrev S2x1024x1408 : Shape := ⟨3, ![2, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1x1024x1408, .f32⟩
  | .hbm, ⟨10, _⟩ => ⟨S1x1024x1408, .f32⟩
  | .hbm, ⟨11, _⟩ => ⟨S2x1024x1408, .f32⟩
  | .hbm, ⟨12, _⟩ => ⟨S_, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S2x1024x1408, .f32⟩
  | .hbm, ⟨27, _⟩ => ⟨S_, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | .hbm, ⟨41, _⟩ => ⟨S2x1024x1408, .f32⟩
  | .hbm, ⟨42, _⟩ => ⟨S_, .f32⟩
  | .hbm, ⟨43, _⟩ => ⟨S2x1024x1408, .f32⟩
  | .hbm, ⟨44, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamDown.lean ====
abbrev S2x704x1024 : Shape := ⟨3, ![2, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 15
  | .vmem => 36
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S1x176x1024, .f32⟩
  | .local _ .vmem, ⟨29, _⟩ => ⟨S1x176x1024, .f32⟩
  | .local _ .vmem, ⟨30, _⟩ => ⟨S1x176x1024, .f32⟩
  | .local _ .vmem, ⟨31, _⟩ => ⟨S1x176x1024, .f32⟩
  | .local _ .vmem, ⟨32, _⟩ => ⟨S1x176x1024, .f32⟩
  | .local _ .vmem, ⟨33, _⟩ => ⟨S1x176x1024, .f32⟩
  | .local _ .vmem, ⟨34, _⟩ => ⟨S1x176x1024, .f32⟩
  | .local _ .vmem, ⟨35, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x176x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x176x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x176x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== AdamDownRefIdeal.lean ====
abbrev S2x704x1024 : Shape := ⟨3, ![2, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S1x704x1024, .f32⟩
  | .hbm, ⟨10, _⟩ => ⟨S1x704x1024, .f32⟩
  | .hbm, ⟨11, _⟩ => ⟨S2x704x1024, .f32⟩
  | .hbm, ⟨12, _⟩ => ⟨S_, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S2x704x1024, .f32⟩
  | .hbm, ⟨27, _⟩ => ⟨S_, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | .hbm, ⟨41, _⟩ => ⟨S2x704x1024, .f32⟩
  | .hbm, ⟨42, _⟩ => ⟨S_, .f32⟩
  | .hbm, ⟨43, _⟩ => ⟨S2x704x1024, .f32⟩
  | .hbm, ⟨44, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamSmall.lean ====
abbrev S16x256 : Shape := ⟨2, ![16, 256]⟩
abbrev S2x512 : Shape := ⟨2, ![2, 512]⟩
abbrev S2x64x3 : Shape := ⟨3, ![2, 64, 3]⟩
abbrev S2x4x64x64 : Shape := ⟨4, ![2, 4, 64, 64]⟩
abbrev S2x256 : Shape := ⟨2, ![2, 256]⟩
abbrev S2x128 : Shape := ⟨2, ![2, 128]⟩
abbrev S2x1024 : Shape := ⟨2, ![2, 1024]⟩
abbrev S2x1408x3 : Shape := ⟨3, ![2, 1408, 3]⟩
abbrev S2x5632 : Shape := ⟨2, ![2, 5632]⟩
abbrev S4096 : Shape := ⟨1, ![4096]⟩
abbrev S1024 : Shape := ⟨1, ![1024]⟩
abbrev S384 : Shape := ⟨1, ![384]⟩
abbrev S32768 : Shape := ⟨1, ![32768]⟩
abbrev S512 : Shape := ⟨1, ![512]⟩
abbrev S256 : Shape := ⟨1, ![256]⟩
abbrev S2048 : Shape := ⟨1, ![2048]⟩
abbrev S8448 : Shape := ⟨1, ![8448]⟩
abbrev S11264 : Shape := ⟨1, ![11264]⟩
abbrev S66944 : Shape := ⟨1, ![66944]⟩
abbrev S_ : Shape := ⟨0, ![]⟩
abbrev S67584 : Shape := ⟨1, ![67584]⟩
abbrev S528x128 : Shape := ⟨2, ![528, 128]⟩
abbrev S1x528x128 : Shape := ⟨3, ![1, 528, 128]⟩

abbrev nBuf : Space → Nat
  | .hbm => 203
  | .vmem => 8
  | .smem => 0
  | _ => 0

abbrev hbmTy0_0 (i : Nat) : BufTy := match i % 128 with
  | 0 => ⟨S16x256, .f32⟩
  | 1 => ⟨S2x512, .f32⟩
  | 2 => ⟨S2x64x3, .f32⟩
  | 3 => ⟨S2x4x64x64, .f32⟩
  | 4 => ⟨S2x256, .f32⟩
  | 5 => ⟨S2x128, .f32⟩
  | 6 => ⟨S2x1024, .f32⟩
  | 7 => ⟨S2x1024, .f32⟩
  | 8 => ⟨S2x1408x3, .f32⟩
  | 9 => ⟨S2x5632, .f32⟩
  | 10 => ⟨S2x1024, .f32⟩
  | 11 => ⟨S2x1024, .f32⟩
  | 12 => ⟨S16x256, .f32⟩
  | 13 => ⟨S2x512, .f32⟩
  | 14 => ⟨S2x64x3, .f32⟩
  | 15 => ⟨S2x4x64x64, .f32⟩
  | 16 => ⟨S2x256, .f32⟩
  | 17 => ⟨S2x128, .f32⟩
  | 18 => ⟨S2x1024, .f32⟩
  | 19 => ⟨S2x1024, .f32⟩
  | 20 => ⟨S2x1408x3, .f32⟩
  | 21 => ⟨S2x5632, .f32⟩
  | 22 => ⟨S2x1024, .f32⟩
  | 23 => ⟨S2x1024, .f32⟩
  | 24 => ⟨S16x256, .f32⟩
  | 25 => ⟨S2x512, .f32⟩
  | 26 => ⟨S2x64x3, .f32⟩
  | 27 => ⟨S2x4x64x64, .f32⟩
  | 28 => ⟨S2x256, .f32⟩
  | 29 => ⟨S2x128, .f32⟩
  | 30 => ⟨S2x1024, .f32⟩
  | 31 => ⟨S2x1024, .f32⟩
  | 32 => ⟨S2x1408x3, .f32⟩
  | 33 => ⟨S2x5632, .f32⟩
  | 34 => ⟨S2x1024, .f32⟩
  | 35 => ⟨S2x1024, .f32⟩
  | 36 => ⟨S16x256, .f32⟩
  | 37 => ⟨S2x512, .f32⟩
  | 38 => ⟨S2x64x3, .f32⟩
  | 39 => ⟨S2x4x64x64, .f32⟩
  | 40 => ⟨S2x256, .f32⟩
  | 41 => ⟨S2x128, .f32⟩
  | 42 => ⟨S2x1024, .f32⟩
  | 43 => ⟨S2x1024, .f32⟩
  | 44 => ⟨S2x1408x3, .f32⟩
  | 45 => ⟨S2x5632, .f32⟩
  | 46 => ⟨S2x1024, .f32⟩
  | 47 => ⟨S2x1024, .f32⟩
  | 48 => ⟨S4096, .f32⟩
  | 49 => ⟨S1024, .f32⟩
  | 50 => ⟨S384, .f32⟩
  | 51 => ⟨S32768, .f32⟩
  | 52 => ⟨S512, .f32⟩
  | 53 => ⟨S256, .f32⟩
  | 54 => ⟨S2048, .f32⟩
  | 55 => ⟨S2048, .f32⟩
  | 56 => ⟨S8448, .f32⟩
  | 57 => ⟨S11264, .f32⟩
  | 58 => ⟨S2048, .f32⟩
  | 59 => ⟨S2048, .f32⟩
  | 60 => ⟨S66944, .f32⟩
  | 61 => ⟨S_, .i32⟩
  | 62 => ⟨S_, .f32⟩
  | 63 => ⟨S67584, .f32⟩
  | 64 => ⟨S528x128, .f32⟩
  | 65 => ⟨S1x528x128, .f32⟩
  | 66 => ⟨S4096, .f32⟩
  | 67 => ⟨S1024, .f32⟩
  | 68 => ⟨S384, .f32⟩
  | 69 => ⟨S32768, .f32⟩
  | 70 => ⟨S512, .f32⟩
  | 71 => ⟨S256, .f32⟩
  | 72 => ⟨S2048, .f32⟩
  | 73 => ⟨S2048, .f32⟩
  | 74 => ⟨S8448, .f32⟩
  | 75 => ⟨S11264, .f32⟩
  | 76 => ⟨S2048, .f32⟩
  | 77 => ⟨S2048, .f32⟩
  | 78 => ⟨S66944, .f32⟩
  | 79 => ⟨S_, .i32⟩
  | 80 => ⟨S_, .f32⟩
  | 81 => ⟨S67584, .f32⟩
  | 82 => ⟨S528x128, .f32⟩
  | 83 => ⟨S1x528x128, .f32⟩
  | 84 => ⟨S4096, .f32⟩
  | 85 => ⟨S1024, .f32⟩
  | 86 => ⟨S384, .f32⟩
  | 87 => ⟨S32768, .f32⟩
  | 88 => ⟨S512, .f32⟩
  | 89 => ⟨S256, .f32⟩
  | 90 => ⟨S2048, .f32⟩
  | 91 => ⟨S2048, .f32⟩
  | 92 => ⟨S8448, .f32⟩
  | 93 => ⟨S11264, .f32⟩
  | 94 => ⟨S2048, .f32⟩
  | 95 => ⟨S2048, .f32⟩
  | 96 => ⟨S66944, .f32⟩
  | 97 => ⟨S_, .i32⟩
  | 98 => ⟨S_, .f32⟩
  | 99 => ⟨S67584, .f32⟩
  | 100 => ⟨S528x128, .f32⟩
  | 101 => ⟨S1x528x128, .f32⟩
  | 102 => ⟨S4096, .f32⟩
  | 103 => ⟨S1024, .f32⟩
  | 104 => ⟨S384, .f32⟩
  | 105 => ⟨S32768, .f32⟩
  | 106 => ⟨S512, .f32⟩
  | 107 => ⟨S256, .f32⟩
  | 108 => ⟨S2048, .f32⟩
  | 109 => ⟨S2048, .f32⟩
  | 110 => ⟨S8448, .f32⟩
  | 111 => ⟨S11264, .f32⟩
  | 112 => ⟨S2048, .f32⟩
  | 113 => ⟨S2048, .f32⟩
  | 114 => ⟨S66944, .f32⟩
  | 115 => ⟨S_, .i32⟩
  | 116 => ⟨S_, .f32⟩
  | 117 => ⟨S67584, .f32⟩
  | 118 => ⟨S528x128, .f32⟩
  | 119 => ⟨S1x528x128, .f32⟩
  | 120 => ⟨S528x128, .f32⟩
  | 121 => ⟨S1x528x128, .f32⟩
  | 122 => ⟨S1x528x128, .f32⟩
  | 123 => ⟨S1x528x128, .f32⟩
  | 124 => ⟨S1x528x128, .f32⟩
  | 125 => ⟨S528x128, .f32⟩
  | 126 => ⟨S67584, .f32⟩
  | 127 => ⟨S4096, .f32⟩
  | _ => ⟨S16x256, .f32⟩

abbrev hbmTy0_1 (i : Nat) : BufTy := match i % 128 with
  | 0 => ⟨S16x256, .f32⟩
  | 1 => ⟨S1024, .f32⟩
  | 2 => ⟨S2x512, .f32⟩
  | 3 => ⟨S384, .f32⟩
  | 4 => ⟨S2x64x3, .f32⟩
  | 5 => ⟨S32768, .f32⟩
  | 6 => ⟨S2x4x64x64, .f32⟩
  | 7 => ⟨S512, .f32⟩
  | 8 => ⟨S2x256, .f32⟩
  | 9 => ⟨S256, .f32⟩
  | 10 => ⟨S2x128, .f32⟩
  | 11 => ⟨S2048, .f32⟩
  | 12 => ⟨S2x1024, .f32⟩
  | 13 => ⟨S2048, .f32⟩
  | 14 => ⟨S2x1024, .f32⟩
  | 15 => ⟨S8448, .f32⟩
  | 16 => ⟨S2x1408x3, .f32⟩
  | 17 => ⟨S11264, .f32⟩
  | 18 => ⟨S2x5632, .f32⟩
  | 19 => ⟨S2048, .f32⟩
  | 20 => ⟨S2x1024, .f32⟩
  | 21 => ⟨S2048, .f32⟩
  | 22 => ⟨S2x1024, .f32⟩
  | 23 => ⟨S528x128, .f32⟩
  | 24 => ⟨S67584, .f32⟩
  | 25 => ⟨S4096, .f32⟩
  | 26 => ⟨S16x256, .f32⟩
  | 27 => ⟨S1024, .f32⟩
  | 28 => ⟨S2x512, .f32⟩
  | 29 => ⟨S384, .f32⟩
  | 30 => ⟨S2x64x3, .f32⟩
  | 31 => ⟨S32768, .f32⟩
  | 32 => ⟨S2x4x64x64, .f32⟩
  | 33 => ⟨S512, .f32⟩
  | 34 => ⟨S2x256, .f32⟩
  | 35 => ⟨S256, .f32⟩
  | 36 => ⟨S2x128, .f32⟩
  | 37 => ⟨S2048, .f32⟩
  | 38 => ⟨S2x1024, .f32⟩
  | 39 => ⟨S2048, .f32⟩
  | 40 => ⟨S2x1024, .f32⟩
  | 41 => ⟨S8448, .f32⟩
  | 42 => ⟨S2x1408x3, .f32⟩
  | 43 => ⟨S11264, .f32⟩
  | 44 => ⟨S2x5632, .f32⟩
  | 45 => ⟨S2048, .f32⟩
  | 46 => ⟨S2x1024, .f32⟩
  | 47 => ⟨S2048, .f32⟩
  | 48 => ⟨S2x1024, .f32⟩
  | 49 => ⟨S528x128, .f32⟩
  | 50 => ⟨S67584, .f32⟩
  | 51 => ⟨S4096, .f32⟩
  | 52 => ⟨S16x256, .f32⟩
  | 53 => ⟨S1024, .f32⟩
  | 54 => ⟨S2x512, .f32⟩
  | 55 => ⟨S384, .f32⟩
  | 56 => ⟨S2x64x3, .f32⟩
  | 57 => ⟨S32768, .f32⟩
  | 58 => ⟨S2x4x64x64, .f32⟩
  | 59 => ⟨S512, .f32⟩
  | 60 => ⟨S2x256, .f32⟩
  | 61 => ⟨S256, .f32⟩
  | 62 => ⟨S2x128, .f32⟩
  | 63 => ⟨S2048, .f32⟩
  | 64 => ⟨S2x1024, .f32⟩
  | 65 => ⟨S2048, .f32⟩
  | 66 => ⟨S2x1024, .f32⟩
  | 67 => ⟨S8448, .f32⟩
  | 68 => ⟨S2x1408x3, .f32⟩
  | 69 => ⟨S11264, .f32⟩
  | 70 => ⟨S2x5632, .f32⟩
  | 71 => ⟨S2048, .f32⟩
  | 72 => ⟨S2x1024, .f32⟩
  | 73 => ⟨S2048, .f32⟩
  | 74 => ⟨S2x1024, .f32⟩
  | _ => ⟨S16x256, .f32⟩

abbrev hbmTy (i : Nat) : BufTy := match i / 128 with
  | 0 => hbmTy0_0 i
  | 1 => hbmTy0_1 i
  | _ => ⟨S16x256, .f32⟩

abbrev bufTy : (tb : Table) → Fin (tcTables nBuf tb) → BufTy
  | .hbm, ⟨i, _⟩ => hbmTy i
  | .local _ .vmem, ⟨0, _⟩ => ⟨S1x528x128, .f32⟩
  | .local _ .vmem, ⟨1, _⟩ => ⟨S1x528x128, .f32⟩
  | .local _ .vmem, ⟨2, _⟩ => ⟨S1x528x128, .f32⟩
  | .local _ .vmem, ⟨3, _⟩ => ⟨S528x128, .f32⟩
  | .local _ .vmem, ⟨4, _⟩ => ⟨S1x528x128, .f32⟩
  | .local _ .vmem, ⟨5, _⟩ => ⟨S1x528x128, .f32⟩
  | .local _ .vmem, ⟨6, _⟩ => ⟨S1x528x128, .f32⟩
  | .local _ .vmem, ⟨7, _⟩ => ⟨S1x528x128, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_c : Ref sig .tc := ⟨.hbm, 61, rfl⟩
abbrev main_call0_v0 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_c_0 : Ref sig .tc := ⟨.hbm, 79, rfl⟩
abbrev main_call1_v0 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_c_1 : Ref sig .tc := ⟨.hbm, 97, rfl⟩
abbrev main_call2_v0 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_c_2 : Ref sig .tc := ⟨.hbm, 115, rfl⟩
abbrev main_call3_v0 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65_0 : Ref sig .tc := ⟨.hbm, 121, rfl⟩
abbrev main_v65_1 : Ref sig .tc := ⟨.hbm, 122, rfl⟩
abbrev main_v65_2 : Ref sig .tc := ⟨.hbm, 123, rfl⟩
abbrev main_v65_3 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x528x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x528x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x528x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S528x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x528x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x528x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x528x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x528x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S16x256 : Shape := ⟨2, ![16, 256]⟩
abbrev S2x512 : Shape := ⟨2, ![2, 512]⟩
abbrev S2x64x3 : Shape := ⟨3, ![2, 64, 3]⟩
abbrev S2x4x64x64 : Shape := ⟨4, ![2, 4, 64, 64]⟩
abbrev S2x256 : Shape := ⟨2, ![2, 256]⟩
abbrev S2x128 : Shape := ⟨2, ![2, 128]⟩
abbrev S2x1024 : Shape := ⟨2, ![2, 1024]⟩
abbrev S2x1408x3 : Shape := ⟨3, ![2, 1408, 3]⟩
abbrev S2x5632 : Shape := ⟨2, ![2, 5632]⟩
abbrev S_ : Shape := ⟨0, ![]⟩

abbrev nBuf : Space → Nat
  | .hbm => 444
  | .vmem => 0
  | .smem => 0
  | _ => 0

abbrev hbmTy0_0 (i : Nat) : BufTy := match i % 128 with
  | 0 => ⟨S16x256, .f32⟩
  | 1 => ⟨S2x512, .f32⟩
  | 2 => ⟨S2x64x3, .f32⟩
  | 3 => ⟨S2x4x64x64, .f32⟩
  | 4 => ⟨S2x256, .f32⟩
  | 5 => ⟨S2x128, .f32⟩
  | 6 => ⟨S2x1024, .f32⟩
  | 7 => ⟨S2x1024, .f32⟩
  | 8 => ⟨S2x1408x3, .f32⟩
  | 9 => ⟨S2x5632, .f32⟩
  | 10 => ⟨S2x1024, .f32⟩
  | 11 => ⟨S2x1024, .f32⟩
  | 12 => ⟨S16x256, .f32⟩
  | 13 => ⟨S2x512, .f32⟩
  | 14 => ⟨S2x64x3, .f32⟩
  | 15 => ⟨S2x4x64x64, .f32⟩
  | 16 => ⟨S2x256, .f32⟩
  | 17 => ⟨S2x128, .f32⟩
  | 18 => ⟨S2x1024, .f32⟩
  | 19 => ⟨S2x1024, .f32⟩
  | 20 => ⟨S2x1408x3, .f32⟩
  | 21 => ⟨S2x5632, .f32⟩
  | 22 => ⟨S2x1024, .f32⟩
  | 23 => ⟨S2x1024, .f32⟩
  | 24 => ⟨S16x256, .f32⟩
  | 25 => ⟨S2x512, .f32⟩
  | 26 => ⟨S2x64x3, .f32⟩
  | 27 => ⟨S2x4x64x64, .f32⟩
  | 28 => ⟨S2x256, .f32⟩
  | 29 => ⟨S2x128, .f32⟩
  | 30 => ⟨S2x1024, .f32⟩
  | 31 => ⟨S2x1024, .f32⟩
  | 32 => ⟨S2x1408x3, .f32⟩
  | 33 => ⟨S2x5632, .f32⟩
  | 34 => ⟨S2x1024, .f32⟩
  | 35 => ⟨S2x1024, .f32⟩
  | 36 => ⟨S16x256, .f32⟩
  | 37 => ⟨S2x512, .f32⟩
  | 38 => ⟨S2x64x3, .f32⟩
  | 39 => ⟨S2x4x64x64, .f32⟩
  | 40 => ⟨S2x256, .f32⟩
  | 41 => ⟨S2x128, .f32⟩
  | 42 => ⟨S2x1024, .f32⟩
  | 43 => ⟨S2x1024, .f32⟩
  | 44 => ⟨S2x1408x3, .f32⟩
  | 45 => ⟨S2x5632, .f32⟩
  | 46 => ⟨S2x1024, .f32⟩
  | 47 => ⟨S2x1024, .f32⟩
  | 48 => ⟨S_, .f32⟩
  | 49 => ⟨S16x256, .f32⟩
  | 50 => ⟨S16x256, .f32⟩
  | 51 => ⟨S_, .f32⟩
  | 52 => ⟨S16x256, .f32⟩
  | 53 => ⟨S16x256, .f32⟩
  | 54 => ⟨S16x256, .f32⟩
  | 55 => ⟨S_, .f32⟩
  | 56 => ⟨S16x256, .f32⟩
  | 57 => ⟨S16x256, .f32⟩
  | 58 => ⟨S16x256, .f32⟩
  | 59 => ⟨S_, .f32⟩
  | 60 => ⟨S16x256, .f32⟩
  | 61 => ⟨S16x256, .f32⟩
  | 62 => ⟨S16x256, .f32⟩
  | 63 => ⟨S_, .f32⟩
  | 64 => ⟨S16x256, .f32⟩
  | 65 => ⟨S16x256, .f32⟩
  | 66 => ⟨S_, .f32⟩
  | 67 => ⟨S16x256, .f32⟩
  | 68 => ⟨S16x256, .f32⟩
  | 69 => ⟨S16x256, .f32⟩
  | 70 => ⟨S_, .f32⟩
  | 71 => ⟨S16x256, .f32⟩
  | 72 => ⟨S16x256, .f32⟩
  | 73 => ⟨S16x256, .f32⟩
  | 74 => ⟨S_, .f32⟩
  | 75 => ⟨S16x256, .f32⟩
  | 76 => ⟨S16x256, .f32⟩
  | 77 => ⟨S16x256, .f32⟩
  | 78 => ⟨S_, .f32⟩
  | 79 => ⟨S16x256, .f32⟩
  | 80 => ⟨S16x256, .f32⟩
  | 81 => ⟨S_, .f32⟩
  | 82 => ⟨S2x512, .f32⟩
  | 83 => ⟨S2x512, .f32⟩
  | 84 => ⟨S_, .f32⟩
  | 85 => ⟨S2x512, .f32⟩
  | 86 => ⟨S2x512, .f32⟩
  | 87 => ⟨S2x512, .f32⟩
  | 88 => ⟨S_, .f32⟩
  | 89 => ⟨S2x512, .f32⟩
  | 90 => ⟨S2x512, .f32⟩
  | 91 => ⟨S2x512, .f32⟩
  | 92 => ⟨S_, .f32⟩
  | 93 => ⟨S2x512, .f32⟩
  | 94 => ⟨S2x512, .f32⟩
  | 95 => ⟨S2x512, .f32⟩
  | 96 => ⟨S_, .f32⟩
  | 97 => ⟨S2x512, .f32⟩
  | 98 => ⟨S2x512, .f32⟩
  | 99 => ⟨S_, .f32⟩
  | 100 => ⟨S2x512, .f32⟩
  | 101 => ⟨S2x512, .f32⟩
  | 102 => ⟨S2x512, .f32⟩
  | 103 => ⟨S_, .f32⟩
  | 104 => ⟨S2x512, .f32⟩
  | 105 => ⟨S2x512, .f32⟩
  | 106 => ⟨S2x512, .f32⟩
  | 107 => ⟨S_, .f32⟩
  | 108 => ⟨S2x512, .f32⟩
  | 109 => ⟨S2x512, .f32⟩
  | 110 => ⟨S2x512, .f32⟩
  | 111 => ⟨S_, .f32⟩
  | 112 => ⟨S2x512, .f32⟩
  | 113 => ⟨S2x512, .f32⟩
  | 114 => ⟨S_, .f32⟩
  | 115 => ⟨S2x64x3, .f32⟩
  | 116 => ⟨S2x64x3, .f32⟩
  | 117 => ⟨S_, .f32⟩
  | 118 => ⟨S2x64x3, .f32⟩
  | 119 => ⟨S2x64x3, .f32⟩
  | 120 => ⟨S2x64x3, .f32⟩
  | 121 => ⟨S_, .f32⟩
  | 122 => ⟨S2x64x3, .f32⟩
  | 123 => ⟨S2x64x3, .f32⟩
  | 124 => ⟨S2x64x3, .f32⟩
  | 125 => ⟨S_, .f32⟩
  | 126 => ⟨S2x64x3, .f32⟩
  | 127 => ⟨S2x64x3, .f32⟩
  | _ => ⟨S16x256, .f32⟩

abbrev hbmTy0_1 (i : Nat) : BufTy := match i % 128 with
  | 0 => ⟨S2x64x3, .f32⟩
  | 1 => ⟨S_, .f32⟩
  | 2 => ⟨S2x64x3, .f32⟩
  | 3 => ⟨S2x64x3, .f32⟩
  | 4 => ⟨S_, .f32⟩
  | 5 => ⟨S2x64x3, .f32⟩
  | 6 => ⟨S2x64x3, .f32⟩
  | 7 => ⟨S2x64x3, .f32⟩
  | 8 => ⟨S_, .f32⟩
  | 9 => ⟨S2x64x3, .f32⟩
  | 10 => ⟨S2x64x3, .f32⟩
  | 11 => ⟨S2x64x3, .f32⟩
  | 12 => ⟨S_, .f32⟩
  | 13 => ⟨S2x64x3, .f32⟩
  | 14 => ⟨S2x64x3, .f32⟩
  | 15 => ⟨S2x64x3, .f32⟩
  | 16 => ⟨S_, .f32⟩
  | 17 => ⟨S2x64x3, .f32⟩
  | 18 => ⟨S2x64x3, .f32⟩
  | 19 => ⟨S_, .f32⟩
  | 20 => ⟨S2x4x64x64, .f32⟩
  | 21 => ⟨S2x4x64x64, .f32⟩
  | 22 => ⟨S_, .f32⟩
  | 23 => ⟨S2x4x64x64, .f32⟩
  | 24 => ⟨S2x4x64x64, .f32⟩
  | 25 => ⟨S2x4x64x64, .f32⟩
  | 26 => ⟨S_, .f32⟩
  | 27 => ⟨S2x4x64x64, .f32⟩
  | 28 => ⟨S2x4x64x64, .f32⟩
  | 29 => ⟨S2x4x64x64, .f32⟩
  | 30 => ⟨S_, .f32⟩
  | 31 => ⟨S2x4x64x64, .f32⟩
  | 32 => ⟨S2x4x64x64, .f32⟩
  | 33 => ⟨S2x4x64x64, .f32⟩
  | 34 => ⟨S_, .f32⟩
  | 35 => ⟨S2x4x64x64, .f32⟩
  | 36 => ⟨S2x4x64x64, .f32⟩
  | 37 => ⟨S_, .f32⟩
  | 38 => ⟨S2x4x64x64, .f32⟩
  | 39 => ⟨S2x4x64x64, .f32⟩
  | 40 => ⟨S2x4x64x64, .f32⟩
  | 41 => ⟨S_, .f32⟩
  | 42 => ⟨S2x4x64x64, .f32⟩
  | 43 => ⟨S2x4x64x64, .f32⟩
  | 44 => ⟨S2x4x64x64, .f32⟩
  | 45 => ⟨S_, .f32⟩
  | 46 => ⟨S2x4x64x64, .f32⟩
  | 47 => ⟨S2x4x64x64, .f32⟩
  | 48 => ⟨S2x4x64x64, .f32⟩
  | 49 => ⟨S_, .f32⟩
  | 50 => ⟨S2x4x64x64, .f32⟩
  | 51 => ⟨S2x4x64x64, .f32⟩
  | 52 => ⟨S_, .f32⟩
  | 53 => ⟨S2x256, .f32⟩
  | 54 => ⟨S2x256, .f32⟩
  | 55 => ⟨S_, .f32⟩
  | 56 => ⟨S2x256, .f32⟩
  | 57 => ⟨S2x256, .f32⟩
  | 58 => ⟨S2x256, .f32⟩
  | 59 => ⟨S_, .f32⟩
  | 60 => ⟨S2x256, .f32⟩
  | 61 => ⟨S2x256, .f32⟩
  | 62 => ⟨S2x256, .f32⟩
  | 63 => ⟨S_, .f32⟩
  | 64 => ⟨S2x256, .f32⟩
  | 65 => ⟨S2x256, .f32⟩
  | 66 => ⟨S2x256, .f32⟩
  | 67 => ⟨S_, .f32⟩
  | 68 => ⟨S2x256, .f32⟩
  | 69 => ⟨S2x256, .f32⟩
  | 70 => ⟨S_, .f32⟩
  | 71 => ⟨S2x256, .f32⟩
  | 72 => ⟨S2x256, .f32⟩
  | 73 => ⟨S2x256, .f32⟩
  | 74 => ⟨S_, .f32⟩
  | 75 => ⟨S2x256, .f32⟩
  | 76 => ⟨S2x256, .f32⟩
  | 77 => ⟨S2x256, .f32⟩
  | 78 => ⟨S_, .f32⟩
  | 79 => ⟨S2x256, .f32⟩
  | 80 => ⟨S2x256, .f32⟩
  | 81 => ⟨S2x256, .f32⟩
  | 82 => ⟨S_, .f32⟩
  | 83 => ⟨S2x256, .f32⟩
  | 84 => ⟨S2x256, .f32⟩
  | 85 => ⟨S_, .f32⟩
  | 86 => ⟨S2x128, .f32⟩
  | 87 => ⟨S2x128, .f32⟩
  | 88 => ⟨S_, .f32⟩
  | 89 => ⟨S2x128, .f32⟩
  | 90 => ⟨S2x128, .f32⟩
  | 91 => ⟨S2x128, .f32⟩
  | 92 => ⟨S_, .f32⟩
  | 93 => ⟨S2x128, .f32⟩
  | 94 => ⟨S2x128, .f32⟩
  | 95 => ⟨S2x128, .f32⟩
  | 96 => ⟨S_, .f32⟩
  | 97 => ⟨S2x128, .f32⟩
  | 98 => ⟨S2x128, .f32⟩
  | 99 => ⟨S2x128, .f32⟩
  | 100 => ⟨S_, .f32⟩
  | 101 => ⟨S2x128, .f32⟩
  | 102 => ⟨S2x128, .f32⟩
  | 103 => ⟨S_, .f32⟩
  | 104 => ⟨S2x128, .f32⟩
  | 105 => ⟨S2x128, .f32⟩
  | 106 => ⟨S2x128, .f32⟩
  | 107 => ⟨S_, .f32⟩
  | 108 => ⟨S2x128, .f32⟩
  | 109 => ⟨S2x128, .f32⟩
  | 110 => ⟨S2x128, .f32⟩
  | 111 => ⟨S_, .f32⟩
  | 112 => ⟨S2x128, .f32⟩
  | 113 => ⟨S2x128, .f32⟩
  | 114 => ⟨S2x128, .f32⟩
  | 115 => ⟨S_, .f32⟩
  | 116 => ⟨S2x128, .f32⟩
  | 117 => ⟨S2x128, .f32⟩
  | 118 => ⟨S_, .f32⟩
  | 119 => ⟨S2x1024, .f32⟩
  | 120 => ⟨S2x1024, .f32⟩
  | 121 => ⟨S_, .f32⟩
  | 122 => ⟨S2x1024, .f32⟩
  | 123 => ⟨S2x1024, .f32⟩
  | 124 => ⟨S2x1024, .f32⟩
  | 125 => ⟨S_, .f32⟩
  | 126 => ⟨S2x1024, .f32⟩
  | 127 => ⟨S2x1024, .f32⟩
  | _ => ⟨S16x256, .f32⟩

abbrev hbmTy0_2 (i : Nat) : BufTy := match i % 128 with
  | 0 => ⟨S2x1024, .f32⟩
  | 1 => ⟨S_, .f32⟩
  | 2 => ⟨S2x1024, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S_, .f32⟩
  | 9 => ⟨S2x1024, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S_, .f32⟩
  | 24 => ⟨S2x1024, .f32⟩
  | 25 => ⟨S2x1024, .f32⟩
  | 26 => ⟨S_, .f32⟩
  | 27 => ⟨S2x1024, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S_, .f32⟩
  | 42 => ⟨S2x1024, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S_, .f32⟩
  | 57 => ⟨S2x1408x3, .f32⟩
  | 58 => ⟨S2x1408x3, .f32⟩
  | 59 => ⟨S_, .f32⟩
  | 60 => ⟨S2x1408x3, .f32⟩
  | 61 => ⟨S2x1408x3, .f32⟩
  | 62 => ⟨S2x1408x3, .f32⟩
  | 63 => ⟨S_, .f32⟩
  | 64 => ⟨S2x1408x3, .f32⟩
  | 65 => ⟨S2x1408x3, .f32⟩
  | 66 => ⟨S2x1408x3, .f32⟩
  | 67 => ⟨S_, .f32⟩
  | 68 => ⟨S2x1408x3, .f32⟩
  | 69 => ⟨S2x1408x3, .f32⟩
  | 70 => ⟨S2x1408x3, .f32⟩
  | 71 => ⟨S_, .f32⟩
  | 72 => ⟨S2x1408x3, .f32⟩
  | 73 => ⟨S2x1408x3, .f32⟩
  | 74 => ⟨S_, .f32⟩
  | 75 => ⟨S2x1408x3, .f32⟩
  | 76 => ⟨S2x1408x3, .f32⟩
  | 77 => ⟨S2x1408x3, .f32⟩
  | 78 => ⟨S_, .f32⟩
  | 79 => ⟨S2x1408x3, .f32⟩
  | 80 => ⟨S2x1408x3, .f32⟩
  | 81 => ⟨S2x1408x3, .f32⟩
  | 82 => ⟨S_, .f32⟩
  | 83 => ⟨S2x1408x3, .f32⟩
  | 84 => ⟨S2x1408x3, .f32⟩
  | 85 => ⟨S2x1408x3, .f32⟩
  | 86 => ⟨S_, .f32⟩
  | 87 => ⟨S2x1408x3, .f32⟩
  | 88 => ⟨S2x1408x3, .f32⟩
  | 89 => ⟨S_, .f32⟩
  | 90 => ⟨S2x5632, .f32⟩
  | 91 => ⟨S2x5632, .f32⟩
  | 92 => ⟨S_, .f32⟩
  | 93 => ⟨S2x5632, .f32⟩
  | 94 => ⟨S2x5632, .f32⟩
  | 95 => ⟨S2x5632, .f32⟩
  | 96 => ⟨S_, .f32⟩
  | 97 => ⟨S2x5632, .f32⟩
  | 98 => ⟨S2x5632, .f32⟩
  | 99 => ⟨S2x5632, .f32⟩
  | 100 => ⟨S_, .f32⟩
  | 101 => ⟨S2x5632, .f32⟩
  | 102 => ⟨S2x5632, .f32⟩
  | 103 => ⟨S2x5632, .f32⟩
  | 104 => ⟨S_, .f32⟩
  | 105 => ⟨S2x5632, .f32⟩
  | 106 => ⟨S2x5632, .f32⟩
  | 107 => ⟨S_, .f32⟩
  | 108 => ⟨S2x5632, .f32⟩
  | 109 => ⟨S2x5632, .f32⟩
  | 110 => ⟨S2x5632, .f32⟩
  | 111 => ⟨S_, .f32⟩
  | 112 => ⟨S2x5632, .f32⟩
  | 113 => ⟨S2x5632, .f32⟩
  | 114 => ⟨S2x5632, .f32⟩
  | 115 => ⟨S_, .f32⟩
  | 116 => ⟨S2x5632, .f32⟩
  | 117 => ⟨S2x5632, .f32⟩
  | 118 => ⟨S2x5632, .f32⟩
  | 119 => ⟨S_, .f32⟩
  | 120 => ⟨S2x5632, .f32⟩
  | 121 => ⟨S2x5632, .f32⟩
  | 122 => ⟨S_, .f32⟩
  | 123 => ⟨S2x1024, .f32⟩
  | 124 => ⟨S2x1024, .f32⟩
  | 125 => ⟨S_, .f32⟩
  | 126 => ⟨S2x1024, .f32⟩
  | 127 => ⟨S2x1024, .f32⟩
  | _ => ⟨S16x256, .f32⟩

abbrev hbmTy0_3 (i : Nat) : BufTy := match i % 128 with
  | 0 => ⟨S2x1024, .f32⟩
  | 1 => ⟨S_, .f32⟩
  | 2 => ⟨S2x1024, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S2x1024, .f32⟩
  | 24 => ⟨S_, .f32⟩
  | 25 => ⟨S2x1024, .f32⟩
  | 26 => ⟨S2x1024, .f32⟩
  | 27 => ⟨S_, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S2x1024, .f32⟩
  | 57 => ⟨S_, .f32⟩
  | 58 => ⟨S2x1024, .f32⟩
  | 59 => ⟨S2x1024, .f32⟩
  | _ => ⟨S16x256, .f32⟩

abbrev hbmTy (i : Nat) : BufTy := match i / 128 with
  | 0 => hbmTy0_0 i
  | 1 => hbmTy0_1 i
  | 2 => hbmTy0_2 i
  | 3 => hbmTy0_3 i
  | _ => ⟨S16x256, .f32⟩

abbrev bufTy : (tb : Table) → Fin (tcTables nBuf tb) → BufTy
  | .hbm, ⟨i, _⟩ => hbmTy i
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_v1 : Ref sig .tc := ⟨.hbm, 50, rfl⟩
abbrev main_cst_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_3 : Ref sig .tc := ⟨.hbm, 63, rfl⟩
abbrev main_v11 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_5 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_7 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_cst_9 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_10 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_11 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_14 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_16 : Ref sig .tc := ⟨.hbm, 111, rfl⟩
abbrev main_v46 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_v49 : Ref sig .tc := ⟨.hbm, 116, rfl⟩
abbrev main_cst_18 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_19 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_20 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_21 : Ref sig .tc := ⟨.hbm, 129, rfl⟩
abbrev main_v59 : Ref sig .tc := ⟨.hbm, 130, rfl⟩
abbrev main_v60 : Ref sig .tc := ⟨.hbm, 131, rfl⟩
abbrev main_cst_22 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_23 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_24 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_v71 : Ref sig .tc := ⟨.hbm, 146, rfl⟩
abbrev main_cst_26 : Ref sig .tc := ⟨.hbm, 147, rfl⟩
abbrev main_v72 : Ref sig .tc := ⟨.hbm, 148, rfl⟩
abbrev main_v73 : Ref sig .tc := ⟨.hbm, 149, rfl⟩
abbrev main_cst_27 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_28 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_29 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_30 : Ref sig .tc := ⟨.hbm, 162, rfl⟩
abbrev main_v83 : Ref sig .tc := ⟨.hbm, 163, rfl⟩
abbrev main_v84 : Ref sig .tc := ⟨.hbm, 164, rfl⟩
abbrev main_cst_31 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_32 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_33 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_34 : Ref sig .tc := ⟨.hbm, 177, rfl⟩
abbrev main_v94 : Ref sig .tc := ⟨.hbm, 178, rfl⟩
abbrev main_v95 : Ref sig .tc := ⟨.hbm, 179, rfl⟩
abbrev main_cst_35 : Ref sig .tc := ⟨.hbm, 180, rfl⟩
abbrev main_v96 : Ref sig .tc := ⟨.hbm, 181, rfl⟩
abbrev main_v97 : Ref sig .tc := ⟨.hbm, 182, rfl⟩
abbrev main_cst_36 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_37 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_38 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_39 : Ref sig .tc := ⟨.hbm, 195, rfl⟩
abbrev main_v107 : Ref sig .tc := ⟨.hbm, 196, rfl⟩
abbrev main_v108 : Ref sig .tc := ⟨.hbm, 197, rfl⟩
abbrev main_cst_40 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_41 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_42 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_43 : Ref sig .tc := ⟨.hbm, 210, rfl⟩
abbrev main_v118 : Ref sig .tc := ⟨.hbm, 211, rfl⟩
abbrev main_v119 : Ref sig .tc := ⟨.hbm, 212, rfl⟩
abbrev main_cst_44 : Ref sig .tc := ⟨.hbm, 213, rfl⟩
abbrev main_v120 : Ref sig .tc := ⟨.hbm, 214, rfl⟩
abbrev main_v121 : Ref sig .tc := ⟨.hbm, 215, rfl⟩
abbrev main_cst_45 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_46 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_47 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_48 : Ref sig .tc := ⟨.hbm, 228, rfl⟩
abbrev main_v131 : Ref sig .tc := ⟨.hbm, 229, rfl⟩
abbrev main_v132 : Ref sig .tc := ⟨.hbm, 230, rfl⟩
abbrev main_cst_49 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_50 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_52 : Ref sig .tc := ⟨.hbm, 243, rfl⟩
abbrev main_v142 : Ref sig .tc := ⟨.hbm, 244, rfl⟩
abbrev main_v143 : Ref sig .tc := ⟨.hbm, 245, rfl⟩
abbrev main_cst_53 : Ref sig .tc := ⟨.hbm, 246, rfl⟩
abbrev main_v144 : Ref sig .tc := ⟨.hbm, 247, rfl⟩
abbrev main_v145 : Ref sig .tc := ⟨.hbm, 248, rfl⟩
abbrev main_cst_54 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_55 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_56 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_57 : Ref sig .tc := ⟨.hbm, 261, rfl⟩
abbrev main_v155 : Ref sig .tc := ⟨.hbm, 262, rfl⟩
abbrev main_v156 : Ref sig .tc := ⟨.hbm, 263, rfl⟩
abbrev main_cst_58 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_59 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_cst_60 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_61 : Ref sig .tc := ⟨.hbm, 276, rfl⟩
abbrev main_v166 : Ref sig .tc := ⟨.hbm, 277, rfl⟩
abbrev main_v167 : Ref sig .tc := ⟨.hbm, 278, rfl⟩
abbrev main_cst_62 : Ref sig .tc := ⟨.hbm, 279, rfl⟩
abbrev main_v168 : Ref sig .tc := ⟨.hbm, 280, rfl⟩
abbrev main_v169 : Ref sig .tc := ⟨.hbm, 281, rfl⟩
abbrev main_cst_63 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_64 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_65 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_66 : Ref sig .tc := ⟨.hbm, 294, rfl⟩
abbrev main_v179 : Ref sig .tc := ⟨.hbm, 295, rfl⟩
abbrev main_v180 : Ref sig .tc := ⟨.hbm, 296, rfl⟩
abbrev main_cst_67 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_68 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_cst_69 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_cst_70 : Ref sig .tc := ⟨.hbm, 309, rfl⟩
abbrev main_v190 : Ref sig .tc := ⟨.hbm, 310, rfl⟩
abbrev main_v191 : Ref sig .tc := ⟨.hbm, 311, rfl⟩
abbrev main_cst_71 : Ref sig .tc := ⟨.hbm, 312, rfl⟩
abbrev main_v192 : Ref sig .tc := ⟨.hbm, 313, rfl⟩
abbrev main_v193 : Ref sig .tc := ⟨.hbm, 314, rfl⟩
abbrev main_cst_72 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_73 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_cst_74 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_cst_75 : Ref sig .tc := ⟨.hbm, 327, rfl⟩
abbrev main_v203 : Ref sig .tc := ⟨.hbm, 328, rfl⟩
abbrev main_v204 : Ref sig .tc := ⟨.hbm, 329, rfl⟩
abbrev main_cst_76 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_cst_77 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_cst_78 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_cst_79 : Ref sig .tc := ⟨.hbm, 342, rfl⟩
abbrev main_v214 : Ref sig .tc := ⟨.hbm, 343, rfl⟩
abbrev main_v215 : Ref sig .tc := ⟨.hbm, 344, rfl⟩
abbrev main_cst_80 : Ref sig .tc := ⟨.hbm, 345, rfl⟩
abbrev main_v216 : Ref sig .tc := ⟨.hbm, 346, rfl⟩
abbrev main_v217 : Ref sig .tc := ⟨.hbm, 347, rfl⟩
abbrev main_cst_81 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_cst_82 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_cst_83 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_84 : Ref sig .tc := ⟨.hbm, 360, rfl⟩
abbrev main_v227 : Ref sig .tc := ⟨.hbm, 361, rfl⟩
abbrev main_v228 : Ref sig .tc := ⟨.hbm, 362, rfl⟩
abbrev main_cst_85 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_cst_86 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_87 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_cst_88 : Ref sig .tc := ⟨.hbm, 375, rfl⟩
abbrev main_v238 : Ref sig .tc := ⟨.hbm, 376, rfl⟩
abbrev main_v239 : Ref sig .tc := ⟨.hbm, 377, rfl⟩
abbrev main_cst_89 : Ref sig .tc := ⟨.hbm, 378, rfl⟩
abbrev main_v240 : Ref sig .tc := ⟨.hbm, 379, rfl⟩
abbrev main_v241 : Ref sig .tc := ⟨.hbm, 380, rfl⟩
abbrev main_cst_90 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_91 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_cst_92 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_93 : Ref sig .tc := ⟨.hbm, 393, rfl⟩
abbrev main_v251 : Ref sig .tc := ⟨.hbm, 394, rfl⟩
abbrev main_v252 : Ref sig .tc := ⟨.hbm, 395, rfl⟩
abbrev main_cst_94 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_95 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_96 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_97 : Ref sig .tc := ⟨.hbm, 408, rfl⟩
abbrev main_v262 : Ref sig .tc := ⟨.hbm, 409, rfl⟩
abbrev main_v263 : Ref sig .tc := ⟨.hbm, 410, rfl⟩
abbrev main_cst_98 : Ref sig .tc := ⟨.hbm, 411, rfl⟩
abbrev main_v264 : Ref sig .tc := ⟨.hbm, 412, rfl⟩
abbrev main_v265 : Ref sig .tc := ⟨.hbm, 413, rfl⟩
abbrev main_cst_99 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_100 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_cst_101 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_cst_102 : Ref sig .tc := ⟨.hbm, 426, rfl⟩
abbrev main_v275 : Ref sig .tc := ⟨.hbm, 427, rfl⟩
abbrev main_v276 : Ref sig .tc := ⟨.hbm, 428, rfl⟩
abbrev main_cst_103 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_104 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_cst_105 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_cst_106 : Ref sig .tc := ⟨.hbm, 441, rfl⟩
abbrev main_v286 : Ref sig .tc := ⟨.hbm, 442, rfl⟩
abbrev main_v287 : Ref sig .tc := ⟨.hbm, 443, rfl⟩

abbrev nD : Nat := 1
abbrev τ : Topo := Topo.v7x

variable {F : FTy → Type} [FloatOps F]
-- ==== LnO.lean ====
abbrev S8448x1024 : Shape := ⟨2, ![8448, 1024]⟩
abbrev S1024 : Shape := ⟨1, ![1024]⟩
abbrev S1024x1024 : Shape := ⟨2, ![1024, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8x1024 : Shape := ⟨2, ![8, 1024]⟩
abbrev S384x1024 : Shape := ⟨2, ![384, 1024]⟩
abbrev S384x1 : Shape := ⟨2, ![384, 1]⟩
abbrev S384 : Shape := ⟨1, ![384]⟩

abbrev nBuf : Space → Nat
  | .hbm => 34
  | .vmem => 13
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S1024x1024, .bf16⟩
  | .hbm, ⟨30, _⟩ => ⟨S1x1024, .f32⟩
  | .hbm, ⟨31, _⟩ => ⟨S8448x1024, .f32⟩
  | .hbm, ⟨32, _⟩ => ⟨S8x1024, .f32⟩
  | .hbm, ⟨33, _⟩ => ⟨S8448x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1, .f32⟩
  | .local _ .vmem, ⟨5, _⟩ => ⟨S384x1, .f32⟩
  | .local _ .vmem, ⟨6, _⟩ => ⟨S1x1024, .f32⟩
  | .local _ .vmem, ⟨7, _⟩ => ⟨S1024x1024, .bf16⟩
  | .local _ .vmem, ⟨8, _⟩ => ⟨S384x1024, .f32⟩
  | .local _ .vmem, ⟨9, _⟩ => ⟨S384x1024, .f32⟩
  | .local _ .vmem, ⟨10, _⟩ => ⟨S8x1024, .f32⟩
  | .local _ .vmem, ⟨11, _⟩ => ⟨S384x1024, .f32⟩
  | .local _ .vmem, ⟨12, _⟩ => ⟨S384x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LnOIdeal.lean ====
abbrev S8448x1024 : Shape := ⟨2, ![8448, 1024]⟩
abbrev S1024 : Shape := ⟨1, ![1024]⟩
abbrev S1024x1024 : Shape := ⟨2, ![1024, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8x1024 : Shape := ⟨2, ![8, 1024]⟩
abbrev S384x1024 : Shape := ⟨2, ![384, 1024]⟩
abbrev S384x1 : Shape := ⟨2, ![384, 1]⟩
abbrev S384 : Shape := ⟨1, ![384]⟩

abbrev nBuf : Space → Nat
  | .hbm => 34
  | .vmem => 13
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S1024x1024, .bf16⟩
  | .hbm, ⟨30, _⟩ => ⟨S1x1024, .f32⟩
  | .hbm, ⟨31, _⟩ => ⟨S8448x1024, .f32⟩
  | .hbm, ⟨32, _⟩ => ⟨S8x1024, .f32⟩
  | .hbm, ⟨33, _⟩ => ⟨S8448x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1, .f32⟩
  | .local _ .vmem, ⟨5, _⟩ => ⟨S384x1, .f32⟩
  | .local _ .vmem, ⟨6, _⟩ => ⟨S1x1024, .f32⟩
  | .local _ .vmem, ⟨7, _⟩ => ⟨S1024x1024, .bf16⟩
  | .local _ .vmem, ⟨8, _⟩ => ⟨S384x1024, .f32⟩
  | .local _ .vmem, ⟨9, _⟩ => ⟨S384x1024, .f32⟩
  | .local _ .vmem, ⟨10, _⟩ => ⟨S8x1024, .f32⟩
  | .local _ .vmem, ⟨11, _⟩ => ⟨S384x1024, .f32⟩
  | .local _ .vmem, ⟨12, _⟩ => ⟨S384x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LnORefIdeal.lean ====
abbrev S8448x1024 : Shape := ⟨2, ![8448, 1024]⟩
abbrev S1024 : Shape := ⟨1, ![1024]⟩
abbrev S1024x1024 : Shape := ⟨2, ![1024, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S2x1024 : Shape := ⟨2, ![2, 1024]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1024, .f32⟩
  | .hbm, ⟨35, _⟩ => ⟨S8448x1024, .f32⟩
  | .hbm, ⟨36, _⟩ => ⟨S1x1024, .f32⟩
  | .hbm, ⟨37, _⟩ => ⟨S8448x1024, .f32⟩
  | .hbm, ⟨38, _⟩ => ⟨S8448x1024, .f32⟩
  | .hbm, ⟨39, _⟩ => ⟨S1x1024, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S8448x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8448x1024, .f32⟩
  | .hbm, ⟨53, _⟩ => ⟨S8448x1024, .f32⟩
  | .hbm, ⟨54, _⟩ => ⟨S_, .f32⟩
  | .hbm, ⟨55, _⟩ => ⟨S1024, .f32⟩
  | .hbm, ⟨56, _⟩ => ⟨S8448x1024, .f32⟩
  | .hbm, ⟨57, _⟩ => ⟨S_, .f32⟩
  | .hbm, ⟨58, _⟩ => ⟨S8448, .f32⟩
  | .hbm, ⟨59, _⟩ => ⟨S8448x1, .f32⟩
  | .hbm, ⟨60, _⟩ => ⟨S8448x1024, .f32⟩
  | .hbm, ⟨61, _⟩ => ⟨S8448x1024, .f32⟩
  | .hbm, ⟨62, _⟩ => ⟨S8448x1, .f32⟩
  | .hbm, ⟨63, _⟩ => ⟨S8448x1024, .f32⟩
  | .hbm, ⟨64, _⟩ => ⟨S_, .f32⟩
  | .hbm, ⟨65, _⟩ => ⟨S8448, .f32⟩
  | .hbm, ⟨66, _⟩ => ⟨S8448x1, .f32⟩
  | .hbm, ⟨67, _⟩ => ⟨S_, .f32⟩
  | .hbm, ⟨68, _⟩ => ⟨S8448x1, .f32⟩
  | .hbm, ⟨69, _⟩ => ⟨S8448x1, .f32⟩
  | .hbm, ⟨70, _⟩ => ⟨S_, .f32⟩
  | .hbm, ⟨71, _⟩ => ⟨S8448, .f32⟩
  | .hbm, ⟨72, _⟩ => ⟨S8448x1024, .f32⟩
  | .hbm, ⟨73, _⟩ => ⟨S8448x1024, .f32⟩
  | .hbm, ⟨74, _⟩ => ⟨S8448x1024, .f32⟩
  | .hbm, ⟨75, _⟩ => ⟨S_, .f32⟩
  | .hbm, ⟨76, _⟩ => ⟨S8448, .f32⟩
  | .hbm, ⟨77, _⟩ => ⟨S8448x1, .f32⟩
  | .hbm, ⟨78, _⟩ => ⟨S8448x1024, .f32⟩
  | .hbm, ⟨79, _⟩ => ⟨S8448x1, .f32⟩
  | .hbm, ⟨80, _⟩ => ⟨S_, .f32⟩
  | .hbm, ⟨81, _⟩ => ⟨S8448x1, .f32⟩
  | .hbm, ⟨82, _⟩ => ⟨S8448x1, .f32⟩
  | .hbm, ⟨83, _⟩ => ⟨S_, .f32⟩
  | .hbm, ⟨84, _⟩ => ⟨S8448, .f32⟩
  | .hbm, ⟨85, _⟩ => ⟨S8448x1024, .f32⟩
  | .hbm, ⟨86, _⟩ => ⟨S8448x1024, .f32⟩
  | .hbm, ⟨87, _⟩ => ⟨S8448x1024, .f32⟩
  | .hbm, ⟨88, _⟩ => ⟨S8448x1024, .f32⟩
  | .hbm, ⟨89, _⟩ => ⟨S1x1024, .f32⟩
  | .hbm, ⟨90, _⟩ => ⟨S1x1024, .f32⟩
  | .hbm, ⟨91, _⟩ => ⟨S2x1024, .f32⟩
  | .hbm, ⟨92, _⟩ => ⟨S_, .i32⟩
  | .hbm, ⟨93, _⟩ => ⟨S_, .f32⟩
  | .hbm, ⟨94, _⟩ => ⟨S8x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c : Ref sig .tc := ⟨.hbm, 92, rfl⟩
abbrev main_call0_v0 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== LnDown.lean ====
abbrev S8448x1024 : Shape := ⟨2, ![8448, 1024]⟩
abbrev S1024 : Shape := ⟨1, ![1024]⟩
abbrev S8448x2816 : Shape := ⟨2, ![8448, 2816]⟩
abbrev S2816x1024 : Shape := ⟨2, ![2816, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8x1024 : Shape := ⟨2, ![8, 1024]⟩
abbrev S384x1024 : Shape := ⟨2, ![384, 1024]⟩
abbrev S384x1 : Shape := ⟨2, ![384, 1]⟩
abbrev S384x2816 : Shape := ⟨2, ![384, 2816]⟩
abbrev S384 : Shape := ⟨1, ![384]⟩

abbrev nBuf : Space → Nat
  | .hbm => 34
  | .vmem => 13
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S2816x1024, .bf16⟩
  | .hbm, ⟨30, _⟩ => ⟨S1x1024, .f32⟩
  | .hbm, ⟨31, _⟩ => ⟨S8448x1024, .f32⟩
  | .hbm, ⟨32, _⟩ => ⟨S8x1024, .f32⟩
  | .hbm, ⟨33, _⟩ => ⟨S8448x2816, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1, .f32⟩
  | .local _ .vmem, ⟨5, _⟩ => ⟨S384x1, .f32⟩
  | .local _ .vmem, ⟨6, _⟩ => ⟨S1x1024, .f32⟩
  | .local _ .vmem, ⟨7, _⟩ => ⟨S2816x1024, .bf16⟩
  | .local _ .vmem, ⟨8, _⟩ => ⟨S384x1024, .f32⟩
  | .local _ .vmem, ⟨9, _⟩ => ⟨S384x1024, .f32⟩
  | .local _ .vmem, ⟨10, _⟩ => ⟨S8x1024, .f32⟩
  | .local _ .vmem, ⟨11, _⟩ => ⟨S384x2816, .f32⟩
  | .local _ .vmem, ⟨12, _⟩ => ⟨S384x2816, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LnDownRefIdeal.lean ====
abbrev S8448x1024 : Shape := ⟨2, ![8448, 1024]⟩
abbrev S1024 : Shape := ⟨1, ![1024]⟩
abbrev S8448x2816 : Shape := ⟨2, ![8448, 2816]⟩
abbrev S2816x1024 : Shape := ⟨2, ![2816, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S2x1024 : Shape := ⟨2, ![2, 1024]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1024, .f32⟩
  | .hbm, ⟨35, _⟩ => ⟨S8448x1024, .f32⟩
  | .hbm, ⟨36, _⟩ => ⟨S1x1024, .f32⟩
  | .hbm, ⟨37, _⟩ => ⟨S8448x1024, .f32⟩
  | .hbm, ⟨38, _⟩ => ⟨S8448x1024, .f32⟩
  | .hbm, ⟨39, _⟩ => ⟨S1x1024, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S8448x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8448x1024, .f32⟩
  | .hbm, ⟨53, _⟩ => ⟨S8448x1024, .f32⟩
  | .hbm, ⟨54, _⟩ => ⟨S_, .f32⟩
  | .hbm, ⟨55, _⟩ => ⟨S1024, .f32⟩
  | .hbm, ⟨56, _⟩ => ⟨S8448x1024, .f32⟩
  | .hbm, ⟨57, _⟩ => ⟨S_, .f32⟩
  | .hbm, ⟨58, _⟩ => ⟨S8448, .f32⟩
  | .hbm, ⟨59, _⟩ => ⟨S8448x1, .f32⟩
  | .hbm, ⟨60, _⟩ => ⟨S8448x1024, .f32⟩
  | .hbm, ⟨61, _⟩ => ⟨S8448x1024, .f32⟩
  | .hbm, ⟨62, _⟩ => ⟨S8448x1, .f32⟩
  | .hbm, ⟨63, _⟩ => ⟨S8448x1024, .f32⟩
  | .hbm, ⟨64, _⟩ => ⟨S_, .f32⟩
  | .hbm, ⟨65, _⟩ => ⟨S8448, .f32⟩
  | .hbm, ⟨66, _⟩ => ⟨S8448x1, .f32⟩
  | .hbm, ⟨67, _⟩ => ⟨S_, .f32⟩
  | .hbm, ⟨68, _⟩ => ⟨S8448x1, .f32⟩
  | .hbm, ⟨69, _⟩ => ⟨S8448x1, .f32⟩
  | .hbm, ⟨70, _⟩ => ⟨S_, .f32⟩
  | .hbm, ⟨71, _⟩ => ⟨S8448, .f32⟩
  | .hbm, ⟨72, _⟩ => ⟨S8448x1024, .f32⟩
  | .hbm, ⟨73, _⟩ => ⟨S8448x1024, .f32⟩
  | .hbm, ⟨74, _⟩ => ⟨S8448x1024, .f32⟩
  | .hbm, ⟨75, _⟩ => ⟨S_, .f32⟩
  | .hbm, ⟨76, _⟩ => ⟨S8448, .f32⟩
  | .hbm, ⟨77, _⟩ => ⟨S8448x1, .f32⟩
  | .hbm, ⟨78, _⟩ => ⟨S8448x1024, .f32⟩
  | .hbm, ⟨79, _⟩ => ⟨S8448x1, .f32⟩
  | .hbm, ⟨80, _⟩ => ⟨S_, .f32⟩
  | .hbm, ⟨81, _⟩ => ⟨S8448x1, .f32⟩
  | .hbm, ⟨82, _⟩ => ⟨S8448x1, .f32⟩
  | .hbm, ⟨83, _⟩ => ⟨S_, .f32⟩
  | .hbm, ⟨84, _⟩ => ⟨S8448, .f32⟩
  | .hbm, ⟨85, _⟩ => ⟨S8448x1024, .f32⟩
  | .hbm, ⟨86, _⟩ => ⟨S8448x1024, .f32⟩
  | .hbm, ⟨87, _⟩ => ⟨S8448x1024, .f32⟩
  | .hbm, ⟨88, _⟩ => ⟨S8448x2816, .f32⟩
  | .hbm, ⟨89, _⟩ => ⟨S1x1024, .f32⟩
  | .hbm, ⟨90, _⟩ => ⟨S1x1024, .f32⟩
  | .hbm, ⟨91, _⟩ => ⟨S2x1024, .f32⟩
  | .hbm, ⟨92, _⟩ => ⟨S_, .i32⟩
  | .hbm, ⟨93, _⟩ => ⟨S_, .f32⟩
  | .hbm, ⟨94, _⟩ => ⟨S8x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c : Ref sig .tc := ⟨.hbm, 92, rfl⟩
abbrev main_call0_v0 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== LnLoss.lean ====
abbrev S8448x1024 : Shape := ⟨2, ![8448, 1024]⟩
abbrev S1024 : Shape := ⟨1, ![1024]⟩
abbrev S8448x2816 : Shape := ⟨2, ![8448, 2816]⟩
abbrev S2816x1024 : Shape := ⟨2, ![2816, 1024]⟩
abbrev S8192x1024 : Shape := ⟨2, ![8192, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8x1024 : Shape := ⟨2, ![8, 1024]⟩
abbrev S256x1024 : Shape := ⟨2, ![256, 1024]⟩
abbrev S256x1 : Shape := ⟨2, ![256, 1]⟩
abbrev S256x2816 : Shape := ⟨2, ![256, 2816]⟩
abbrev S256 : Shape := ⟨1, ![256]⟩

abbrev nBuf : Space → Nat
  | .hbm => 49
  | .vmem => 16
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024, .f32⟩
  | .hbm, ⟨3, _⟩ => ⟨S8448x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S1x1024, .f32⟩
  | .hbm, ⟨30, _⟩ => ⟨S8448x1024, .f32⟩
  | .hbm, ⟨31, _⟩ => ⟨S8448x1024, .f32⟩
  | .hbm, ⟨32, _⟩ => ⟨S1x1024, .f32⟩
  | .hbm, ⟨33, _⟩ => ⟨S8448x1024, .f32⟩
  | .hbm, ⟨34, _⟩ => ⟨S8448x1024, .f32⟩
  | .hbm, ⟨35, _⟩ => ⟨S2816x1024, .bf16⟩
  | .hbm, ⟨36, _⟩ => ⟨S1x1024, .f32⟩
  | .hbm, ⟨37, _⟩ => ⟨S8448x1024, .f32⟩
  | .hbm, ⟨38, _⟩ => ⟨S8x1024, .f32⟩
  | .hbm, ⟨39, _⟩ => ⟨S8448x2816, .f32⟩
  | .hbm, ⟨40, _⟩ => ⟨S8x1024, .f32⟩
  | .hbm, ⟨41, _⟩ => ⟨S1x1024, .f32⟩
  | .hbm, ⟨42, _⟩ => ⟨S1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1, .f32⟩
  | .local _ .vmem, ⟨7, _⟩ => ⟨S256x1, .f32⟩
  | .local _ .vmem, ⟨8, _⟩ => ⟨S1x1024, .f32⟩
  | .local _ .vmem, ⟨9, _⟩ => ⟨S2816x1024, .bf16⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S256x2816, .f32⟩
  | .local _ .vmem, ⟨14, _⟩ => ⟨S256x2816, .f32⟩
  | .local _ .vmem, ⟨15, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_v26_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LnLossRefIdeal.lean ====
abbrev S8448x1024 : Shape := ⟨2, ![8448, 1024]⟩
abbrev S1024 : Shape := ⟨1, ![1024]⟩
abbrev S8448x2816 : Shape := ⟨2, ![8448, 2816]⟩
abbrev S2816x1024 : Shape := ⟨2, ![2816, 1024]⟩
abbrev S8192x1024 : Shape := ⟨2, ![8192, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8192 : Shape := ⟨1, ![8192]⟩
abbrev S2x1024 : Shape := ⟨2, ![2, 1024]⟩
abbrev S8x1024 : Shape := ⟨2, ![8, 1024]⟩

abbrev nBuf : Space → Nat
  | .hbm => 120
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024, .f32⟩
  | .hbm, ⟨3, _⟩ => ⟨S8448x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1024, .f32⟩
  | .hbm, ⟨35, _⟩ => ⟨S8448x1024, .f32⟩
  | .hbm, ⟨36, _⟩ => ⟨S1x1024, .f32⟩
  | .hbm, ⟨37, _⟩ => ⟨S8448x1024, .f32⟩
  | .hbm, ⟨38, _⟩ => ⟨S8448x1024, .f32⟩
  | .hbm, ⟨39, _⟩ => ⟨S1x1024, .f32⟩
  | .hbm, ⟨40, _⟩ => ⟨S8448x1024, .f32⟩
  | .hbm, ⟨41, _⟩ => ⟨S8448x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8448x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S8448x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8448x1024, .f32⟩
  | .hbm, ⟨78, _⟩ => ⟨S8448x1024, .f32⟩
  | .hbm, ⟨79, _⟩ => ⟨S_, .f32⟩
  | .hbm, ⟨80, _⟩ => ⟨S1024, .f32⟩
  | .hbm, ⟨81, _⟩ => ⟨S8448x1024, .f32⟩
  | .hbm, ⟨82, _⟩ => ⟨S_, .f32⟩
  | .hbm, ⟨83, _⟩ => ⟨S8448, .f32⟩
  | .hbm, ⟨84, _⟩ => ⟨S8448x1, .f32⟩
  | .hbm, ⟨85, _⟩ => ⟨S8448x1024, .f32⟩
  | .hbm, ⟨86, _⟩ => ⟨S8448x1024, .f32⟩
  | .hbm, ⟨87, _⟩ => ⟨S8448x1, .f32⟩
  | .hbm, ⟨88, _⟩ => ⟨S8448x1024, .f32⟩
  | .hbm, ⟨89, _⟩ => ⟨S_, .f32⟩
  | .hbm, ⟨90, _⟩ => ⟨S8448, .f32⟩
  | .hbm, ⟨91, _⟩ => ⟨S8448x1, .f32⟩
  | .hbm, ⟨92, _⟩ => ⟨S_, .f32⟩
  | .hbm, ⟨93, _⟩ => ⟨S8448x1, .f32⟩
  | .hbm, ⟨94, _⟩ => ⟨S8448x1, .f32⟩
  | .hbm, ⟨95, _⟩ => ⟨S_, .f32⟩
  | .hbm, ⟨96, _⟩ => ⟨S8448, .f32⟩
  | .hbm, ⟨97, _⟩ => ⟨S8448x1024, .f32⟩
  | .hbm, ⟨98, _⟩ => ⟨S8448x1024, .f32⟩
  | .hbm, ⟨99, _⟩ => ⟨S8448x1024, .f32⟩
  | .hbm, ⟨100, _⟩ => ⟨S_, .f32⟩
  | .hbm, ⟨101, _⟩ => ⟨S8448, .f32⟩
  | .hbm, ⟨102, _⟩ => ⟨S8448x1, .f32⟩
  | .hbm, ⟨103, _⟩ => ⟨S8448x1024, .f32⟩
  | .hbm, ⟨104, _⟩ => ⟨S8448x1, .f32⟩
  | .hbm, ⟨105, _⟩ => ⟨S_, .f32⟩
  | .hbm, ⟨106, _⟩ => ⟨S8448x1, .f32⟩
  | .hbm, ⟨107, _⟩ => ⟨S8448x1, .f32⟩
  | .hbm, ⟨108, _⟩ => ⟨S_, .f32⟩
  | .hbm, ⟨109, _⟩ => ⟨S8448, .f32⟩
  | .hbm, ⟨110, _⟩ => ⟨S8448x1024, .f32⟩
  | .hbm, ⟨111, _⟩ => ⟨S8448x1024, .f32⟩
  | .hbm, ⟨112, _⟩ => ⟨S8448x1024, .f32⟩
  | .hbm, ⟨113, _⟩ => ⟨S8448x2816, .f32⟩
  | .hbm, ⟨114, _⟩ => ⟨S1x1024, .f32⟩
  | .hbm, ⟨115, _⟩ => ⟨S1x1024, .f32⟩
  | .hbm, ⟨116, _⟩ => ⟨S2x1024, .f32⟩
  | .hbm, ⟨117, _⟩ => ⟨S_, .i32⟩
  | .hbm, ⟨118, _⟩ => ⟨S_, .f32⟩
  | .hbm, ⟨119, _⟩ => ⟨S8x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_cst_15 : Ref sig .tc := ⟨.hbm, 68, rfl⟩
abbrev main_v46 : Ref sig .tc := ⟨.hbm, 69, rfl⟩
abbrev main_v47 : Ref sig .tc := ⟨.hbm, 70, rfl⟩
abbrev main_cst_16 : Ref sig .tc := ⟨.hbm, 71, rfl⟩
abbrev main_v48 : Ref sig .tc := ⟨.hbm, 72, rfl⟩
abbrev main_v49 : Ref sig .tc := ⟨.hbm, 73, rfl⟩
abbrev main_cst_17 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_18 : Ref sig .tc := ⟨.hbm, 79, rfl⟩
abbrev main_v54 : Ref sig .tc := ⟨.hbm, 80, rfl⟩
abbrev main_v55 : Ref sig .tc := ⟨.hbm, 81, rfl⟩
abbrev main_cst_19 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_20 : Ref sig .tc := ⟨.hbm, 89, rfl⟩
abbrev main_v62 : Ref sig .tc := ⟨.hbm, 90, rfl⟩
abbrev main_v63 : Ref sig .tc := ⟨.hbm, 91, rfl⟩
abbrev main_cst_21 : Ref sig .tc := ⟨.hbm, 92, rfl⟩
abbrev main_v64 : Ref sig .tc := ⟨.hbm, 93, rfl⟩
abbrev main_v65 : Ref sig .tc := ⟨.hbm, 94, rfl⟩
abbrev main_cst_22 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_23 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_24 : Ref sig .tc := ⟨.hbm, 105, rfl⟩
abbrev main_v74 : Ref sig .tc := ⟨.hbm, 106, rfl⟩
abbrev main_v75 : Ref sig .tc := ⟨.hbm, 107, rfl⟩
abbrev main_cst_25 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c : Ref sig .tc := ⟨.hbm, 117, rfl⟩
abbrev main_call0_v0 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== SumSmall.lean ====
abbrev S_ : Shape := ⟨0, ![]⟩
abbrev S8x16x1024 : Shape := ⟨3, ![8, 16, 1024]⟩
abbrev S8x2x512 : Shape := ⟨3, ![8, 2, 512]⟩
abbrev S8x2x256x3 : Shape := ⟨4, ![8, 2, 256, 3]⟩
abbrev S8x2x4x64x64 : Shape := ⟨5, ![8, 2, 4, 64, 64]⟩
abbrev S8x2x256 : Shape := ⟨3, ![8, 2, 256]⟩
abbrev S8x2x128 : Shape := ⟨3, ![8, 2, 128]⟩
abbrev S8x2x1024 : Shape := ⟨3, ![8, 2, 1024]⟩
abbrev S8x2x5632x3 : Shape := ⟨4, ![8, 2, 5632, 3]⟩
abbrev S8x2x5632 : Shape := ⟨3, ![8, 2, 5632]⟩
abbrev S8x16384 : Shape := ⟨2, ![8, 16384]⟩
abbrev S8x1024 : Shape := ⟨2, ![8, 1024]⟩
abbrev S8x1536 : Shape := ⟨2, ![8, 1536]⟩
abbrev S8x32768 : Shape := ⟨2, ![8, 32768]⟩
abbrev S8x512 : Shape := ⟨2, ![8, 512]⟩
abbrev S8x256 : Shape := ⟨2, ![8, 256]⟩
abbrev S8x2048 : Shape := ⟨2, ![8, 2048]⟩
abbrev S8x33792 : Shape := ⟨2, ![8, 33792]⟩
abbrev S8x11264 : Shape := ⟨2, ![8, 11264]⟩
abbrev S8x105728 : Shape := ⟨2, ![8, 105728]⟩
abbrev S8x106496 : Shape := ⟨2, ![8, 106496]⟩
abbrev S8x832x128 : Shape := ⟨3, ![8, 832, 128]⟩
abbrev S8x1x832x128 : Shape := ⟨4, ![8, 1, 832, 128]⟩
abbrev S1x832x128 : Shape := ⟨3, ![1, 832, 128]⟩
abbrev S1x1x832x128 : Shape := ⟨4, ![1, 1, 832, 128]⟩
abbrev S832x128 : Shape := ⟨2, ![832, 128]⟩
abbrev S106496 : Shape := ⟨1, ![106496]⟩
abbrev S16384 : Shape := ⟨1, ![16384]⟩
abbrev S16x1024 : Shape := ⟨2, ![16, 1024]⟩
abbrev S1024 : Shape := ⟨1, ![1024]⟩
abbrev S2x512 : Shape := ⟨2, ![2, 512]⟩
abbrev S1536 : Shape := ⟨1, ![1536]⟩
abbrev S2x256x3 : Shape := ⟨3, ![2, 256, 3]⟩
abbrev S32768 : Shape := ⟨1, ![32768]⟩
abbrev S2x4x64x64 : Shape := ⟨4, ![2, 4, 64, 64]⟩
abbrev S512 : Shape := ⟨1, ![512]⟩
abbrev S2x256 : Shape := ⟨2, ![2, 256]⟩
abbrev S256 : Shape := ⟨1, ![256]⟩
abbrev S2x128 : Shape := ⟨2, ![2, 128]⟩
abbrev S2048 : Shape := ⟨1, ![2048]⟩
abbrev S2x1024 : Shape := ⟨2, ![2, 1024]⟩
abbrev S33792 : Shape := ⟨1, ![33792]⟩
abbrev S2x5632x3 : Shape := ⟨3, ![2, 5632, 3]⟩
abbrev S11264 : Shape := ⟨1, ![11264]⟩
abbrev S2x5632 : Shape := ⟨2, ![2, 5632]⟩
abbrev S16x256 : Shape := ⟨2, ![16, 256]⟩
abbrev S2x64x3 : Shape := ⟨3, ![2, 64, 3]⟩
abbrev S2x1408x3 : Shape := ⟨3, ![2, 1408, 3]⟩

abbrev nBuf : Space → Nat
  | .hbm => 87
  | .vmem => 2
  | .smem => 0
  | _ => 0

abbrev bufTy : (tb : Table) → Fin (tcTables nBuf tb) → BufTy
  | .hbm, ⟨0, _⟩ => ⟨S_, .i32⟩
  | .hbm, ⟨1, _⟩ => ⟨S8x16x1024, .f32⟩
  | .hbm, ⟨2, _⟩ => ⟨S8x2x512, .f32⟩
  | .hbm, ⟨3, _⟩ => ⟨S8x2x256x3, .f32⟩
  | .hbm, ⟨4, _⟩ => ⟨S8x2x4x64x64, .f32⟩
  | .hbm, ⟨5, _⟩ => ⟨S8x2x256, .f32⟩
  | .hbm, ⟨6, _⟩ => ⟨S8x2x128, .f32⟩
  | .hbm, ⟨7, _⟩ => ⟨S8x2x1024, .f32⟩
  | .hbm, ⟨8, _⟩ => ⟨S8x2x1024, .f32⟩
  | .hbm, ⟨9, _⟩ => ⟨S8x2x5632x3, .f32⟩
  | .hbm, ⟨10, _⟩ => ⟨S8x2x5632, .f32⟩
  | .hbm, ⟨11, _⟩ => ⟨S8x2x1024, .f32⟩
  | .hbm, ⟨12, _⟩ => ⟨S8x2x1024, .f32⟩
  | .hbm, ⟨13, _⟩ => ⟨S8x16384, .f32⟩
  | .hbm, ⟨14, _⟩ => ⟨S8x1024, .f32⟩
  | .hbm, ⟨15, _⟩ => ⟨S8x1536, .f32⟩
  | .hbm, ⟨16, _⟩ => ⟨S8x32768, .f32⟩
  | .hbm, ⟨17, _⟩ => ⟨S8x512, .f32⟩
  | .hbm, ⟨18, _⟩ => ⟨S8x256, .f32⟩
  | .hbm, ⟨19, _⟩ => ⟨S8x2048, .f32⟩
  | .hbm, ⟨20, _⟩ => ⟨S8x2048, .f32⟩
  | .hbm, ⟨21, _⟩ => ⟨S8x33792, .f32⟩
  | .hbm, ⟨22, _⟩ => ⟨S8x11264, .f32⟩
  | .hbm, ⟨23, _⟩ => ⟨S8x2048, .f32⟩
  | .hbm, ⟨24, _⟩ => ⟨S8x2048, .f32⟩
  | .hbm, ⟨25, _⟩ => ⟨S8x105728, .f32⟩
  | .hbm, ⟨26, _⟩ => ⟨S_, .i32⟩
  | .hbm, ⟨27, _⟩ => ⟨S_, .f32⟩
  | .hbm, ⟨28, _⟩ => ⟨S8x106496, .f32⟩
  | .hbm, ⟨29, _⟩ => ⟨S8x832x128, .f32⟩
  | .hbm, ⟨30, _⟩ => ⟨S8x1x832x128, .f32⟩
  | .hbm, ⟨31, _⟩ => ⟨S1x832x128, .f32⟩
  | .hbm, ⟨32, _⟩ => ⟨S832x128, .f32⟩
  | .hbm, ⟨33, _⟩ => ⟨S106496, .f32⟩
  | .hbm, ⟨34, _⟩ => ⟨S16384, .f32⟩
  | .hbm, ⟨35, _⟩ => ⟨S16x1024, .f32⟩
  | .hbm, ⟨36, _⟩ => ⟨S1024, .f32⟩
  | .hbm, ⟨37, _⟩ => ⟨S2x512, .f32⟩
  | .hbm, ⟨38, _⟩ => ⟨S1536, .f32⟩
  | .hbm, ⟨39, _⟩ => ⟨S2x256x3, .f32⟩
  | .hbm, ⟨40, _⟩ => ⟨S32768, .f32⟩
  | .hbm, ⟨41, _⟩ => ⟨S2x4x64x64, .f32⟩
  | .hbm, ⟨42, _⟩ => ⟨S512, .f32⟩
  | .hbm, ⟨43, _⟩ => ⟨S2x256, .f32⟩
  | .hbm, ⟨44, _⟩ => ⟨S256, .f32⟩
  | .hbm, ⟨45, _⟩ => ⟨S2x128, .f32⟩
  | .hbm, ⟨46, _⟩ => ⟨S2048, .f32⟩
  | .hbm, ⟨47, _⟩ => ⟨S2x1024, .f32⟩
  | .hbm, ⟨48, _⟩ => ⟨S2048, .f32⟩
  | .hbm, ⟨49, _⟩ => ⟨S2x1024, .f32⟩
  | .hbm, ⟨50, _⟩ => ⟨S33792, .f32⟩
  | .hbm, ⟨51, _⟩ => ⟨S2x5632x3, .f32⟩
  | .hbm, ⟨52, _⟩ => ⟨S11264, .f32⟩
  | .hbm, ⟨53, _⟩ => ⟨S2x5632, .f32⟩
  | .hbm, ⟨54, _⟩ => ⟨S2048, .f32⟩
  | .hbm, ⟨55, _⟩ => ⟨S2x1024, .f32⟩
  | .hbm, ⟨56, _⟩ => ⟨S2048, .f32⟩
  | .hbm, ⟨57, _⟩ => ⟨S2x1024, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S16x256, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S2x64x3, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S2x1408x3, .f32⟩
  | .local _ .vmem, ⟨0, _⟩ => ⟨S8x1x832x128, .f32⟩
  | .local _ .vmem, ⟨1, _⟩ => ⟨S1x832x128, .f32⟩
  | _, _ => ⟨S_, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_call0_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_0 : Ref sig .tc := ⟨.hbm, 58, rfl⟩
abbrev main_v43 : Ref sig .tc := ⟨.hbm, 59, rfl⟩
abbrev main_c_1 : Ref sig .tc := ⟨.hbm, 60, rfl⟩
abbrev main_v44 : Ref sig .tc := ⟨.hbm, 61, rfl⟩
abbrev main_c_2 : Ref sig .tc := ⟨.hbm, 62, rfl⟩
abbrev main_v45 : Ref sig .tc := ⟨.hbm, 63, rfl⟩
abbrev main_v46 : Ref sig .tc := ⟨.hbm, 64, rfl⟩
abbrev main_c_3 : Ref sig .tc := ⟨.hbm, 65, rfl⟩
abbrev main_v47 : Ref sig .tc := ⟨.hbm, 66, rfl⟩
abbrev main_c_4 : Ref sig .tc := ⟨.hbm, 67, rfl⟩
abbrev main_v48 : Ref sig .tc := ⟨.hbm, 68, rfl⟩
abbrev main_c_5 : Ref sig .tc := ⟨.hbm, 69, rfl⟩
abbrev main_v49 : Ref sig .tc := ⟨.hbm, 70, rfl⟩
abbrev main_c_6 : Ref sig .tc := ⟨.hbm, 71, rfl⟩
abbrev main_v50 : Ref sig .tc := ⟨.hbm, 72, rfl⟩
abbrev main_v51 : Ref sig .tc := ⟨.hbm, 73, rfl⟩
abbrev main_c_7 : Ref sig .tc := ⟨.hbm, 74, rfl⟩
abbrev main_c_8 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_c_13 : Ref sig .tc := ⟨.hbm, 85, rfl⟩
abbrev main_v57 : Ref sig .tc := ⟨.hbm, 86, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x832x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x832x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]
-- ==== SumSmallRefIdeal.lean ====
abbrev S_ : Shape := ⟨0, ![]⟩
abbrev S8x16x1024 : Shape := ⟨3, ![8, 16, 1024]⟩
abbrev S8x2x512 : Shape := ⟨3, ![8, 2, 512]⟩
abbrev S8x2x256x3 : Shape := ⟨4, ![8, 2, 256, 3]⟩
abbrev S8x2x4x64x64 : Shape := ⟨5, ![8, 2, 4, 64, 64]⟩
abbrev S8x2x256 : Shape := ⟨3, ![8, 2, 256]⟩
abbrev S8x2x128 : Shape := ⟨3, ![8, 2, 128]⟩
abbrev S8x2x1024 : Shape := ⟨3, ![8, 2, 1024]⟩
abbrev S8x2x5632x3 : Shape := ⟨4, ![8, 2, 5632, 3]⟩
abbrev S8x2x5632 : Shape := ⟨3, ![8, 2, 5632]⟩
abbrev S16x1024 : Shape := ⟨2, ![16, 1024]⟩
abbrev S2x512 : Shape := ⟨2, ![2, 512]⟩
abbrev S2x256x3 : Shape := ⟨3, ![2, 256, 3]⟩
abbrev S2x4x64x64 : Shape := ⟨4, ![2, 4, 64, 64]⟩
abbrev S2x256 : Shape := ⟨2, ![2, 256]⟩
abbrev S2x128 : Shape := ⟨2, ![2, 128]⟩
abbrev S2x1024 : Shape := ⟨2, ![2, 1024]⟩
abbrev S2x5632x3 : Shape := ⟨3, ![2, 5632, 3]⟩
abbrev S2x5632 : Shape := ⟨2, ![2, 5632]⟩
abbrev S16x256 : Shape := ⟨2, ![16, 256]⟩
abbrev S2x64x3 : Shape := ⟨3, ![2, 64, 3]⟩
abbrev S2x1408x3 : Shape := ⟨3, ![2, 1408, 3]⟩

abbrev nBuf : Space → Nat
  | .hbm => 66
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x16x1024, .f32⟩
  | .hbm, ⟨2, _⟩ => ⟨S8x2x512, .f32⟩
  | .hbm, ⟨3, _⟩ => ⟨S8x2x256x3, .f32⟩
  | .hbm, ⟨4, _⟩ => ⟨S8x2x4x64x64, .f32⟩
  | .hbm, ⟨5, _⟩ => ⟨S8x2x256, .f32⟩
  | .hbm, ⟨6, _⟩ => ⟨S8x2x128, .f32⟩
  | .hbm, ⟨7, _⟩ => ⟨S8x2x1024, .f32⟩
  | .hbm, ⟨8, _⟩ => ⟨S8x2x1024, .f32⟩
  | .hbm, ⟨9, _⟩ => ⟨S8x2x5632x3, .f32⟩
  | .hbm, ⟨10, _⟩ => ⟨S8x2x5632, .f32⟩
  | .hbm, ⟨11, _⟩ => ⟨S8x2x1024, .f32⟩
  | .hbm, ⟨12, _⟩ => ⟨S8x2x1024, .f32⟩
  | .hbm, ⟨13, _⟩ => ⟨S_, .f32⟩
  | .hbm, ⟨14, _⟩ => ⟨S16x1024, .f32⟩
  | .hbm, ⟨15, _⟩ => ⟨S_, .f32⟩
  | .hbm, ⟨16, _⟩ => ⟨S2x512, .f32⟩
  | .hbm, ⟨17, _⟩ => ⟨S_, .f32⟩
  | .hbm, ⟨18, _⟩ => ⟨S2x256x3, .f32⟩
  | .hbm, ⟨19, _⟩ => ⟨S_, .f32⟩
  | .hbm, ⟨20, _⟩ => ⟨S2x4x64x64, .f32⟩
  | .hbm, ⟨21, _⟩ => ⟨S_, .f32⟩
  | .hbm, ⟨22, _⟩ => ⟨S2x256, .f32⟩
  | .hbm, ⟨23, _⟩ => ⟨S_, .f32⟩
  | .hbm, ⟨24, _⟩ => ⟨S2x128, .f32⟩
  | .hbm, ⟨25, _⟩ => ⟨S_, .f32⟩
  | .hbm, ⟨26, _⟩ => ⟨S2x1024, .f32⟩
  | .hbm, ⟨27, _⟩ => ⟨S_, .f32⟩
  | .hbm, ⟨28, _⟩ => ⟨S2x1024, .f32⟩
  | .hbm, ⟨29, _⟩ => ⟨S_, .f32⟩
  | .hbm, ⟨30, _⟩ => ⟨S2x5632x3, .f32⟩
  | .hbm, ⟨31, _⟩ => ⟨S_, .f32⟩
  | .hbm, ⟨32, _⟩ => ⟨S2x5632, .f32⟩
  | .hbm, ⟨33, _⟩ => ⟨S_, .f32⟩
  | .hbm, ⟨34, _⟩ => ⟨S2x1024, .f32⟩
  | .hbm, ⟨35, _⟩ => ⟨S_, .f32⟩
  | .hbm, ⟨36, _⟩ => ⟨S2x1024, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S16x256, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S2x64x3, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S2x1408x3, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_cst_2 : Ref sig .tc := ⟨.hbm, 19, rfl⟩
abbrev main_v3 : Ref sig .tc := ⟨.hbm, 20, rfl⟩
abbrev main_cst_3 : Ref sig .tc := ⟨.hbm, 21, rfl⟩
abbrev main_v4 : Ref sig .tc := ⟨.hbm, 22, rfl⟩
abbrev main_cst_4 : Ref sig .tc := ⟨.hbm, 23, rfl⟩
abbrev main_v5 : Ref sig .tc := ⟨.hbm, 24, rfl⟩
abbrev main_cst_5 : Ref sig .tc := ⟨.hbm, 25, rfl⟩
abbrev main_v6 : Ref sig .tc := ⟨.hbm, 26, rfl⟩
abbrev main_cst_6 : Ref sig .tc := ⟨.hbm, 27, rfl⟩
abbrev main_v7 : Ref sig .tc := ⟨.hbm, 28, rfl⟩
abbrev main_cst_7 : Ref sig .tc := ⟨.hbm, 29, rfl⟩
abbrev main_v8 : Ref sig .tc := ⟨.hbm, 30, rfl⟩
abbrev main_cst_8 : Ref sig .tc := ⟨.hbm, 31, rfl⟩
abbrev main_v9 : Ref sig .tc := ⟨.hbm, 32, rfl⟩
abbrev main_cst_9 : Ref sig .tc := ⟨.hbm, 33, rfl⟩
abbrev main_v10 : Ref sig .tc := ⟨.hbm, 34, rfl⟩
abbrev main_cst_10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_c_11 : Ref sig .tc := ⟨.hbm, 39, rfl⟩
abbrev main_v13 : Ref sig .tc := ⟨.hbm, 40, rfl⟩
abbrev main_c_12 : Ref sig .tc := ⟨.hbm, 41, rfl⟩
abbrev main_v14 : Ref sig .tc := ⟨.hbm, 42, rfl⟩
abbrev main_v15 : Ref sig .tc := ⟨.hbm, 43, rfl⟩
abbrev main_c_13 : Ref sig .tc := ⟨.hbm, 44, rfl⟩
abbrev main_v16 : Ref sig .tc := ⟨.hbm, 45, rfl⟩
abbrev main_c_14 : Ref sig .tc := ⟨.hbm, 46, rfl⟩
abbrev main_v17 : Ref sig .tc := ⟨.hbm, 47, rfl⟩
abbrev main_c_15 : Ref sig .tc := ⟨.hbm, 48, rfl⟩
abbrev main_v18 : Ref sig .tc := ⟨.hbm, 49, rfl⟩
abbrev main_c_16 : Ref sig .tc := ⟨.hbm, 50, rfl⟩
abbrev main_v19 : Ref sig .tc := ⟨.hbm, 51, rfl⟩
abbrev main_v20 : Ref sig .tc := ⟨.hbm, 52, rfl⟩
abbrev main_c_17 : Ref sig .tc := ⟨.hbm, 53, rfl⟩
abbrev main_c_18 : Ref sig .tc := ⟨.hbm, 54, rfl⟩
abbrev main_v21 : Ref sig .tc := ⟨.hbm, 55, rfl⟩
abbrev main_c_19 : Ref sig .tc := ⟨.hbm, 56, rfl⟩
abbrev main_v22 : Ref sig .tc := ⟨.hbm, 57, rfl⟩
abbrev main_c_20 : Ref sig .tc := ⟨.hbm, 58, rfl⟩
abbrev main_v23 : Ref sig .tc := ⟨.hbm, 59, rfl⟩
abbrev main_c_21 : Ref sig .tc := ⟨.hbm, 60, rfl⟩
abbrev main_v24 : Ref sig .tc := ⟨.hbm, 61, rfl⟩
abbrev main_v25 : Ref sig .tc := ⟨.hbm, 62, rfl⟩
abbrev main_c_22 : Ref sig .tc := ⟨.hbm, 63, rfl⟩
abbrev main_c_23 : Ref sig .tc := ⟨.hbm, 64, rfl⟩
abbrev main_v26 : Ref sig .tc := ⟨.hbm, 65, rfl⟩

abbrev nD : Nat := 1
abbrev τ : Topo := Topo.v7x

variable {F : FTy → Type} [FloatOps F]
-- ==== Proof.WgradUp.lean ====
/-
  The gradient of the up weights of the feed-forward half, `x1ᵀ dup` in four column slabs. The kernel accumulates four
  row tiles of 2112 rows in each slab; the reference differentiates the whole product and cuts its gradient in slabs.
-/
module

public import proofs.«01_k».proof.Defs
public import proofs.«01_k».proof.Proof.Gen.WgradUpIdeal.Value
public import proofs.«01_k».proof.Proof.Gen.WgradUpRefIdeal.Run
public import Idealize.ShloMosaic.Lib.Pointwise

@[expose] public section

set_option maxRecDepth 16384

noncomputable section

namespace Cert.WgradUpIdeal.Value

open Cert.WgradUpIdeal Cert.WgradUpIdeal.Gen Idealize.ShloMosaic Idealize.ShloMosaic.TcCoe Idealize.SL.Sem

/-! ## One point's contribution -/

/-- A point adds its row tile's product to its block. -/
theorem pay2_apply (x0 : Vec Ideal S2112x1024 .f32) (x1 : Vec Ideal S2112x1408 .bf16) (acc : Vec Ideal S1x1024x1408 .f32)
    (p : Fin 1) (q : Fin 1024) (r : Fin 1408) :
    k0_pay2 x0 x1 acc (ix3 p q r) = acc (ix3 p q r) + ∑ k : Fin 2112, x0 (ix2 k q) * x1 (ix2 k r) := by
  obtain rfl : p = 0 := Subsingleton.elim _ _
  pointwise [k0_pay2]

/-- The reset block is zero. -/
theorem pay1_apply (j : S1x1024x1408.Idx) : (k0_pay1 (F := Ideal)) j = 0 := by
  pointwise [k0_pay1]

variable (m : (ℓ : Loc nD τ sig) → Buf (Elt Ideal) ℓ)

/-- Point `t` reads row tile `t % 4` of the left operand. -/
theorem idx0 : ∀ t : Fin cfg0.N, win0_0.index t (0 : Fin 2) = t.val % 4 ∧ win0_0.index t (1 : Fin 2) = 0 :=
  (by decide +kernel : ∀ t : Fin grid0.N, _)

/-- Point `t` reads row tile `t % 4` of the right operand, column slab `t / 4`. -/
theorem idx1 : ∀ t : Fin cfg0.N, win0_1.index t (0 : Fin 2) = t.val % 4 ∧ win0_1.index t (1 : Fin 2) = t.val / 4 :=
  (by decide +kernel : ∀ t : Fin grid0.N, _)

theorem iblk0_apply (c : Dev nD) (n s : ℕ) (h : n < cfg0.N) (hs : n % 4 = s) (k : Fin 2112) (q : Fin 1024) (k' : Fin 8448) (q' : Fin 1024)
    (hk : k'.val = s * 2112 + k.val) (hq : q'.val = q.val) :
    iblk m c 0 ⟨n, h⟩ (ix2 k q) = m ((c : Thread nD τ).loc main_arg0) (ix2 k' q') := by
  obtain ⟨e0, e1⟩ := idx0 ⟨n, h⟩
  show V m c main_arg0 (((cfg0.win 0).blk ⟨n, h⟩).view.emb (ix2 k q)) = _
  rw [V_main_arg0]
  refine congrArg _ (funext fun a => Fin.ext ?_)
  match a with
  | ⟨0, _⟩ => show win0_0.index ⟨n, h⟩ (0 : Fin 2) * 2112 + 1 * k.val = k'.val; rw [e0, hk]; dsimp only; omega
  | ⟨1, _⟩ => show win0_0.index ⟨n, h⟩ (1 : Fin 2) * 1024 + 1 * q.val = q'.val; rw [e1, hq]; omega

theorem iblk1_apply (c : Dev nD) (n s : ℕ) (h : n < cfg0.N) (hs : n % 4 = s) (k : Fin 2112) (r : Fin 1408) (k' : Fin 8448) (r' : Fin 5632)
    (hk : k'.val = s * 2112 + k.val) (hr : r'.val = (n / 4) * 1408 + r.val) :
    iblk m c 1 ⟨n, h⟩ (ix2 k r) = m ((c : Thread nD τ).loc main_arg1) (ix2 k' r') := by
  obtain ⟨e0, e1⟩ := idx1 ⟨n, h⟩
  show V m c main_arg1 (((cfg0.win 1).blk ⟨n, h⟩).view.emb (ix2 k r)) = _
  rw [V_main_arg1]
  refine congrArg _ (funext fun a => Fin.ext ?_)
  match a with
  | ⟨0, _⟩ => show win0_1.index ⟨n, h⟩ (0 : Fin 2) * 2112 + 1 * k.val = k'.val; rw [e0, hk]; dsimp only; omega
  | ⟨1, _⟩ => show win0_1.index ⟨n, h⟩ (1 : Fin 2) * 1408 + 1 * r.val = r'.val; rw [e1, hr]; dsimp only; omega

/-! ## The whole sum -/

/-- The entry of the gradient at `(p, q, r)`: the sum over all rows. -/
def entry (x : FVec Ideal S8448x1024 .f32) (dy : FVec Ideal S8448x5632 .bf16) (p : Fin 4) (q : Fin 1024) (r : Fin 1408) : EReal :=
  ∑ k : Fin 8448, x (ix2 k ⟨q.val, by omega⟩) * dy (ix2 k ⟨p.val * 1408 + r.val, by omega⟩)

/-- What the result ends holding is the sum over all rows. -/
theorem G2_apply (c : Dev nD) (p : Fin 4) (q : Fin 1024) (r : Fin 1408) :
    G2 m c (ix3 p q r) = entry (m ((c : Thread nD τ).loc main_arg0)) (m ((c : Thread nD τ).loc main_arg1)) p q r := by
  have hN : cfg0.N = 16 := N_0
  have hp := p.isLt
  have hq := q.isLt
  have hr := r.isLt
  obtain ⟨u, hu, hu'⟩ : ∃ u : ℕ, run2Of (ix3 p q r) = u ∧ u = p.val := ⟨_, rfl, by
    show 1 * (p.val / 1 - 0) + 1 * (q.val / 1024 - 0) + 1 * (r.val / 1408 - 0) = _; omega⟩
  have hl : loc2Of (ix3 p q r) = ix3 (0 : Fin 1) (⟨q.val % 1024, by omega⟩ : Fin 1024) (⟨r.val % 1408, by omega⟩ : Fin 1408) := by
    funext a
    match a with
    | ⟨0, _⟩ => exact Fin.ext (by show p.val % 1 = 0; omega)
    | ⟨1, _⟩ => rfl
    | ⟨2, _⟩ => rfl
  unfold G2
  rw [hu, dif_pos (by rw [hN]; omega), hl]
  simp only [Pipeline.accAt_succ, Pipeline.accAt_zero]
  unfold step2 reset2
  rw [pay2_apply, pay2_apply, pay2_apply, pay2_apply, pay1_apply, zero_add]
  unfold entry
  refine Eq.trans (α := EReal) ?_ (Fin.sum_univ_tiles (M := EReal) 4 2112 (by decide : 4 * 2112 = 8448) _).symm
  rw [Fin.sum_univ_four (M := EReal)]
  refine congrArg₂ _ (congrArg₂ _ (congrArg₂ _ ?_ ?_) ?_) ?_
  all_goals refine Finset.sum_congr rfl fun k _ => ?_
  · exact congrArg₂ _ (iblk0_apply m c (4 * u + 0) 0 _ (by omega) _ _ _ _ rfl (by dsimp only; omega)) (iblk1_apply m c (4 * u + 0) 0 _ (by omega) _ _ _ _ rfl (by dsimp only; omega))
  · exact congrArg₂ _ (iblk0_apply m c (4 * u + 1) 1 _ (by omega) _ _ _ _ rfl (by dsimp only; omega)) (iblk1_apply m c (4 * u + 1) 1 _ (by omega) _ _ _ _ rfl (by dsimp only; omega))
  · exact congrArg₂ _ (iblk0_apply m c (4 * u + 2) 2 _ (by omega) _ _ _ _ rfl (by dsimp only; omega)) (iblk1_apply m c (4 * u + 2) 2 _ (by omega) _ _ _ _ rfl (by dsimp only; omega))
  · exact congrArg₂ _ (iblk0_apply m c (4 * u + 3) 3 _ (by omega) _ _ _ _ rfl (by dsimp only; omega)) (iblk1_apply m c (4 * u + 3) 3 _ (by omega) _ _ _ _ rfl (by dsimp only; omega))

open Cert.WgradUpRefIdeal.Gen in
/-- The reference's gradient at an index is the same sum. -/
theorem ref_apply (x : FVec Ideal S8448x1024 .f32) (dy : FVec Ideal S8448x5632 .bf16) (p : Fin 4) (q : Fin 1024) (r : Fin 1408) :
    transpose Cert.WgradUpRefIdeal.S4x1024x1408 [1, 0, 2] (shapeCast _ (transpose Cert.WgradUpRefIdeal.S1024x5632 [1, 0] (Host.dotGeneral Cert.WgradUpRefIdeal.dot_S8448x5632_S8448x1024_S5632x1024_0_0_1_1_n_n none (extf .f32 dy (by decide)) x) transposes_S5632x1024_S1024x5632_1_0) shapeCasts_S1024x5632_S1024x4x1408) transposes_S1024x4x1408_S4x1024x1408_1_0_2 (ix3 p q r) = entry x dy p q r := by
  pointwise
  unfold entry
  refine Finset.sum_congr rfl fun k _ => ?_
  exact mul_comm _ _

/-- The two programs compute the same gradient. -/
theorem algebraic : Cert.algebraic_WgradUpIdeal_WgradUpRefIdeal := by
  intro m g m' g' _ hargs
  refine ⟨fun c => G2 m c, (θ_run defs _ _).mono (fun r h c => h c) (run (F := Ideal) m g),
    (θ_run Cert.WgradUpRefIdeal.defs _ _).mono (fun r h c => ?_) (Cert.WgradUpRefIdeal.Value.run (F := Ideal) m' g')⟩
  obtain ⟨h0, h1, h2, h3⟩ := h c
  obtain ⟨a0, a1, a2⟩ := hargs c
  refine ⟨h0.trans ?_, h1, h2, h3⟩
  rw [a0, a1]
  funext j
  rw [eq_ix3 j]
  exact (ref_apply _ _ _ _ _).trans (G2_apply m c _ _ _).symm

end Cert.WgradUpIdeal.Value

end
-- ==== Proof.WgradIn.lean ====
/-
  The gradient of the mixer's input projection, `xᵀ dh` in four column slabs. The kernel accumulates four row tiles of
  2112 rows in each slab; the reference differentiates the whole product and cuts its gradient in slabs.
-/
module

public import proofs.«01_k».proof.Defs
public import proofs.«01_k».proof.Proof.Gen.WgradInIdeal.Value
public import proofs.«01_k».proof.Proof.Gen.WgradInRefIdeal.Run
public import Idealize.ShloMosaic.Lib.Pointwise

@[expose] public section

set_option maxRecDepth 16384

noncomputable section

namespace Cert.WgradInIdeal.Value

open Cert.WgradInIdeal Cert.WgradInIdeal.Gen Idealize.ShloMosaic Idealize.ShloMosaic.TcCoe Idealize.SL.Sem

/-! ## One point's contribution -/

/-- A point adds its row tile's product to its block. -/
theorem pay2_apply (x0 : Vec Ideal S2112x1024 .f32) (x1 : Vec Ideal S2112x768 .bf16) (acc : Vec Ideal S1x1024x768 .f32)
    (p : Fin 1) (q : Fin 1024) (r : Fin 768) :
    k0_pay2 x0 x1 acc (ix3 p q r) = acc (ix3 p q r) + ∑ k : Fin 2112, x0 (ix2 k q) * x1 (ix2 k r) := by
  obtain rfl : p = 0 := Subsingleton.elim _ _
  pointwise [k0_pay2]

/-- The reset block is zero. -/
theorem pay1_apply (j : S1x1024x768.Idx) : (k0_pay1 (F := Ideal)) j = 0 := by
  pointwise [k0_pay1]

variable (m : (ℓ : Loc nD τ sig) → Buf (Elt Ideal) ℓ)

/-- Point `t` reads row tile `t % 4` of the left operand. -/
theorem idx0 : ∀ t : Fin cfg0.N, win0_0.index t (0 : Fin 2) = t.val % 4 ∧ win0_0.index t (1 : Fin 2) = 0 :=
  (by decide +kernel : ∀ t : Fin grid0.N, _)

/-- Point `t` reads row tile `t % 4` of the right operand, column slab `t / 4`. -/
theorem idx1 : ∀ t : Fin cfg0.N, win0_1.index t (0 : Fin 2) = t.val % 4 ∧ win0_1.index t (1 : Fin 2) = t.val / 4 :=
  (by decide +kernel : ∀ t : Fin grid0.N, _)

theorem iblk0_apply (c : Dev nD) (n s : ℕ) (h : n < cfg0.N) (hs : n % 4 = s) (k : Fin 2112) (q : Fin 1024) (k' : Fin 8448) (q' : Fin 1024)
    (hk : k'.val = s * 2112 + k.val) (hq : q'.val = q.val) :
    iblk m c 0 ⟨n, h⟩ (ix2 k q) = m ((c : Thread nD τ).loc main_arg0) (ix2 k' q') := by
  obtain ⟨e0, e1⟩ := idx0 ⟨n, h⟩
  show V m c main_arg0 (((cfg0.win 0).blk ⟨n, h⟩).view.emb (ix2 k q)) = _
  rw [V_main_arg0]
  refine congrArg _ (funext fun a => Fin.ext ?_)
  match a with
  | ⟨0, _⟩ => show win0_0.index ⟨n, h⟩ (0 : Fin 2) * 2112 + 1 * k.val = k'.val; rw [e0, hk]; dsimp only; omega
  | ⟨1, _⟩ => show win0_0.index ⟨n, h⟩ (1 : Fin 2) * 1024 + 1 * q.val = q'.val; rw [e1, hq]; omega

theorem iblk1_apply (c : Dev nD) (n s : ℕ) (h : n < cfg0.N) (hs : n % 4 = s) (k : Fin 2112) (r : Fin 768) (k' : Fin 8448) (r' : Fin 3072)
    (hk : k'.val = s * 2112 + k.val) (hr : r'.val = (n / 4) * 768 + r.val) :
    iblk m c 1 ⟨n, h⟩ (ix2 k r) = m ((c : Thread nD τ).loc main_arg1) (ix2 k' r') := by
  obtain ⟨e0, e1⟩ := idx1 ⟨n, h⟩
  show V m c main_arg1 (((cfg0.win 1).blk ⟨n, h⟩).view.emb (ix2 k r)) = _
  rw [V_main_arg1]
  refine congrArg _ (funext fun a => Fin.ext ?_)
  match a with
  | ⟨0, _⟩ => show win0_1.index ⟨n, h⟩ (0 : Fin 2) * 2112 + 1 * k.val = k'.val; rw [e0, hk]; dsimp only; omega
  | ⟨1, _⟩ => show win0_1.index ⟨n, h⟩ (1 : Fin 2) * 768 + 1 * r.val = r'.val; rw [e1, hr]; dsimp only; omega

/-! ## The whole sum -/

/-- The entry of the gradient at `(p, q, r)`: the sum over all rows. -/
def entry (x : FVec Ideal S8448x1024 .f32) (dy : FVec Ideal S8448x3072 .bf16) (p : Fin 4) (q : Fin 1024) (r : Fin 768) : EReal :=
  ∑ k : Fin 8448, x (ix2 k ⟨q.val, by omega⟩) * dy (ix2 k ⟨p.val * 768 + r.val, by omega⟩)

/-- What the result ends holding is the sum over all rows. -/
theorem G2_apply (c : Dev nD) (p : Fin 4) (q : Fin 1024) (r : Fin 768) :
    G2 m c (ix3 p q r) = entry (m ((c : Thread nD τ).loc main_arg0)) (m ((c : Thread nD τ).loc main_arg1)) p q r := by
  have hN : cfg0.N = 16 := N_0
  have hp := p.isLt
  have hq := q.isLt
  have hr := r.isLt
  obtain ⟨u, hu, hu'⟩ : ∃ u : ℕ, run2Of (ix3 p q r) = u ∧ u = p.val := ⟨_, rfl, by
    show 1 * (p.val / 1 - 0) + 1 * (q.val / 1024 - 0) + 1 * (r.val / 768 - 0) = _; omega⟩
  have hl : loc2Of (ix3 p q r) = ix3 (0 : Fin 1) (⟨q.val % 1024, by omega⟩ : Fin 1024) (⟨r.val % 768, by omega⟩ : Fin 768) := by
    funext a
    match a with
    | ⟨0, _⟩ => exact Fin.ext (by show p.val % 1 = 0; omega)
    | ⟨1, _⟩ => rfl
    | ⟨2, _⟩ => rfl
  unfold G2
  rw [hu, dif_pos (by rw [hN]; omega), hl]
  simp only [Pipeline.accAt_succ, Pipeline.accAt_zero]
  unfold step2 reset2
  rw [pay2_apply, pay2_apply, pay2_apply, pay2_apply, pay1_apply, zero_add]
  unfold entry
  refine Eq.trans (α := EReal) ?_ (Fin.sum_univ_tiles (M := EReal) 4 2112 (by decide : 4 * 2112 = 8448) _).symm
  rw [Fin.sum_univ_four (M := EReal)]
  refine congrArg₂ _ (congrArg₂ _ (congrArg₂ _ ?_ ?_) ?_) ?_
  all_goals refine Finset.sum_congr rfl fun k _ => ?_
  · exact congrArg₂ _ (iblk0_apply m c (4 * u + 0) 0 _ (by omega) _ _ _ _ rfl (by dsimp only; omega)) (iblk1_apply m c (4 * u + 0) 0 _ (by omega) _ _ _ _ rfl (by dsimp only; omega))
  · exact congrArg₂ _ (iblk0_apply m c (4 * u + 1) 1 _ (by omega) _ _ _ _ rfl (by dsimp only; omega)) (iblk1_apply m c (4 * u + 1) 1 _ (by omega) _ _ _ _ rfl (by dsimp only; omega))
  · exact congrArg₂ _ (iblk0_apply m c (4 * u + 2) 2 _ (by omega) _ _ _ _ rfl (by dsimp only; omega)) (iblk1_apply m c (4 * u + 2) 2 _ (by omega) _ _ _ _ rfl (by dsimp only; omega))
  · exact congrArg₂ _ (iblk0_apply m c (4 * u + 3) 3 _ (by omega) _ _ _ _ rfl (by dsimp only; omega)) (iblk1_apply m c (4 * u + 3) 3 _ (by omega) _ _ _ _ rfl (by dsimp only; omega))

open Cert.WgradInRefIdeal.Gen in
/-- The reference's gradient at an index is the same sum. -/
theorem ref_apply (x : FVec Ideal S8448x1024 .f32) (dy : FVec Ideal S8448x3072 .bf16) (p : Fin 4) (q : Fin 1024) (r : Fin 768) :
    transpose Cert.WgradInRefIdeal.S4x1024x768 [1, 0, 2] (shapeCast _ (transpose Cert.WgradInRefIdeal.S1024x3072 [1, 0] (Host.dotGeneral Cert.WgradInRefIdeal.dot_S8448x3072_S8448x1024_S3072x1024_0_0_1_1_n_n none (extf .f32 dy (by decide)) x) transposes_S3072x1024_S1024x3072_1_0) shapeCasts_S1024x3072_S1024x4x768) transposes_S1024x4x768_S4x1024x768_1_0_2 (ix3 p q r) = entry x dy p q r := by
  pointwise
  unfold entry
  refine Finset.sum_congr rfl fun k _ => ?_
  exact mul_comm _ _

/-- The two programs compute the same gradient. -/
theorem algebraic : Cert.algebraic_WgradInIdeal_WgradInRefIdeal := by
  intro m g m' g' _ hargs
  refine ⟨fun c => G2 m c, (θ_run defs _ _).mono (fun r h c => h c) (run (F := Ideal) m g),
    (θ_run Cert.WgradInRefIdeal.defs _ _).mono (fun r h c => ?_) (Cert.WgradInRefIdeal.Value.run (F := Ideal) m' g')⟩
  obtain ⟨h0, h1, h2, h3⟩ := h c
  obtain ⟨a0, a1, a2⟩ := hargs c
  refine ⟨h0.trans ?_, h1, h2, h3⟩
  rw [a0, a1]
  funext j
  rw [eq_ix3 j]
  exact (ref_apply _ _ _ _ _).trans (G2_apply m c _ _ _).symm

end Cert.WgradInIdeal.Value

end
-- ==== Proof.WgradDown.lean ====
/-
  The gradient of the down weights of the feed-forward half, `aᵀ dz` in four row slabs. The kernel accumulates four row
  tiles of 2112 rows; the reference differentiates the whole product and cuts its gradient in slabs.
-/
module

public import proofs.«01_k».proof.Defs
public import proofs.«01_k».proof.Proof.Gen.WgradDownIdeal.Value
public import proofs.«01_k».proof.Proof.Gen.WgradDownRefIdeal.Run
public import Idealize.ShloMosaic.Lib.Pointwise

@[expose] public section

set_option maxRecDepth 16384

noncomputable section

namespace Cert.WgradDownIdeal.Value

open Cert.WgradDownIdeal Cert.WgradDownIdeal.Gen Idealize.ShloMosaic Idealize.ShloMosaic.TcCoe Idealize.SL.Sem

/-! ## One point's contribution -/

/-- A point adds its row tile's product to its block. -/
theorem pay2_apply (x0 : Vec Ideal S2112x2816 .bf16) (x1 : Vec Ideal S2112x512 .f32) (acc : Vec Ideal S4x704x512 .f32)
    (p : Fin 4) (q : Fin 704) (r : Fin 512) :
    k0_pay2 x0 x1 acc (ix3 p q r) = acc (ix3 p q r) + ∑ k : Fin 2112, x0 (ix2 k ⟨p.val * 704 + q.val, by omega⟩) * x1 (ix2 k r) := by
  pointwise [k0_pay2]

/-- The reset block is zero. -/
theorem pay1_apply (j : S4x704x512.Idx) : (k0_pay1 (F := Ideal)) j = 0 := by
  pointwise [k0_pay1]

variable (m : (ℓ : Loc nD τ sig) → Buf (Elt Ideal) ℓ)

/-- Point `t` reads row tile `t % 4` of the left operand. -/
theorem idx0 : ∀ t : Fin cfg0.N, win0_0.index t (0 : Fin 2) = t.val % 4 ∧ win0_0.index t (1 : Fin 2) = 0 :=
  (by decide +kernel : ∀ t : Fin grid0.N, _)

/-- Point `t` reads row tile `t % 4` of the right operand, column tile `t / 4`. -/
theorem idx1 : ∀ t : Fin cfg0.N, win0_1.index t (0 : Fin 2) = t.val % 4 ∧ win0_1.index t (1 : Fin 2) = t.val / 4 :=
  (by decide +kernel : ∀ t : Fin grid0.N, _)

theorem iblk0_apply (c : Dev nD) (n s : ℕ) (h : n < cfg0.N) (hs : n % 4 = s) (k : Fin 2112) (q : Fin 2816) (k' : Fin 8448) (q' : Fin 2816)
    (hk : k'.val = s * 2112 + k.val) (hq : q'.val = q.val) :
    iblk m c 0 ⟨n, h⟩ (ix2 k q) = m ((c : Thread nD τ).loc main_arg0) (ix2 k' q') := by
  obtain ⟨e0, e1⟩ := idx0 ⟨n, h⟩
  show V m c main_arg0 (((cfg0.win 0).blk ⟨n, h⟩).view.emb (ix2 k q)) = _
  rw [V_main_arg0]
  refine congrArg _ (funext fun a => Fin.ext ?_)
  match a with
  | ⟨0, _⟩ => show win0_0.index ⟨n, h⟩ (0 : Fin 2) * 2112 + 1 * k.val = k'.val; rw [e0, hk]; dsimp only; omega
  | ⟨1, _⟩ => show win0_0.index ⟨n, h⟩ (1 : Fin 2) * 2816 + 1 * q.val = q'.val; rw [e1, hq]; omega

theorem iblk1_apply (c : Dev nD) (n s : ℕ) (h : n < cfg0.N) (hs : n % 4 = s) (k : Fin 2112) (r : Fin 512) (k' : Fin 8448) (r' : Fin 1024)
    (hk : k'.val = s * 2112 + k.val) (hr : r'.val = (n / 4) * 512 + r.val) :
    iblk m c 1 ⟨n, h⟩ (ix2 k r) = m ((c : Thread nD τ).loc main_arg1) (ix2 k' r') := by
  obtain ⟨e0, e1⟩ := idx1 ⟨n, h⟩
  show V m c main_arg1 (((cfg0.win 1).blk ⟨n, h⟩).view.emb (ix2 k r)) = _
  rw [V_main_arg1]
  refine congrArg _ (funext fun a => Fin.ext ?_)
  match a with
  | ⟨0, _⟩ => show win0_1.index ⟨n, h⟩ (0 : Fin 2) * 2112 + 1 * k.val = k'.val; rw [e0, hk]; dsimp only; omega
  | ⟨1, _⟩ => show win0_1.index ⟨n, h⟩ (1 : Fin 2) * 512 + 1 * r.val = r'.val; rw [e1, hr]; dsimp only; omega

/-! ## The whole sum -/

/-- The entry of the gradient at `(p, q, r)`: the sum over all rows. -/
def entry (x : FVec Ideal S8448x2816 .bf16) (dy : FVec Ideal S8448x1024 .f32) (p : Fin 4) (q : Fin 704) (r : Fin 1024) : EReal :=
  ∑ k : Fin 8448, x (ix2 k ⟨p.val * 704 + q.val, by omega⟩) * dy (ix2 k ⟨r.val, by omega⟩)

/-- What the result ends holding is the sum over all rows. -/
theorem G2_apply (c : Dev nD) (p : Fin 4) (q : Fin 704) (r : Fin 1024) :
    G2 m c (ix3 p q r) = entry (m ((c : Thread nD τ).loc main_arg0)) (m ((c : Thread nD τ).loc main_arg1)) p q r := by
  have hN : cfg0.N = 8 := N_0
  have hp := p.isLt
  have hq := q.isLt
  have hr := r.isLt
  obtain ⟨u, hu, hu'⟩ : ∃ u : ℕ, run2Of (ix3 p q r) = u ∧ u = r.val / 512 := ⟨_, rfl, by
    show 2 * (p.val / 4 - 0) + 2 * (q.val / 704 - 0) + 1 * (r.val / 512 - 0) = _; omega⟩
  have hl : loc2Of (ix3 p q r) = ix3 (⟨p.val % 4, by omega⟩ : Fin 4) (⟨q.val % 704, by omega⟩ : Fin 704) (⟨r.val % 512, by omega⟩ : Fin 512) := by
    funext a
    match a with
    | ⟨0, _⟩ => rfl
    | ⟨1, _⟩ => rfl
    | ⟨2, _⟩ => rfl
  unfold G2
  rw [hu, dif_pos (by rw [hN]; omega), hl]
  simp only [Pipeline.accAt_succ, Pipeline.accAt_zero]
  unfold step2 reset2
  rw [pay2_apply, pay2_apply, pay2_apply, pay2_apply, pay1_apply, zero_add]
  unfold entry
  refine Eq.trans (α := EReal) ?_ (Fin.sum_univ_tiles (M := EReal) 4 2112 (by decide : 4 * 2112 = 8448) _).symm
  rw [Fin.sum_univ_four (M := EReal)]
  refine congrArg₂ _ (congrArg₂ _ (congrArg₂ _ ?_ ?_) ?_) ?_
  all_goals refine Finset.sum_congr rfl fun k _ => ?_
  · exact congrArg₂ _ (iblk0_apply m c (4 * u + 0) 0 _ (by omega) _ _ _ _ rfl (by dsimp only; omega)) (iblk1_apply m c (4 * u + 0) 0 _ (by omega) _ _ _ _ rfl (by dsimp only; omega))
  · exact congrArg₂ _ (iblk0_apply m c (4 * u + 1) 1 _ (by omega) _ _ _ _ rfl (by dsimp only; omega)) (iblk1_apply m c (4 * u + 1) 1 _ (by omega) _ _ _ _ rfl (by dsimp only; omega))
  · exact congrArg₂ _ (iblk0_apply m c (4 * u + 2) 2 _ (by omega) _ _ _ _ rfl (by dsimp only; omega)) (iblk1_apply m c (4 * u + 2) 2 _ (by omega) _ _ _ _ rfl (by dsimp only; omega))
  · exact congrArg₂ _ (iblk0_apply m c (4 * u + 3) 3 _ (by omega) _ _ _ _ rfl (by dsimp only; omega)) (iblk1_apply m c (4 * u + 3) 3 _ (by omega) _ _ _ _ rfl (by dsimp only; omega))

open Cert.WgradDownRefIdeal.Gen in
/-- The reference's gradient at an index is the same sum. -/
theorem ref_apply (x : FVec Ideal S8448x2816 .bf16) (dy : FVec Ideal S8448x1024 .f32) (p : Fin 4) (q : Fin 704) (r : Fin 1024) :
    shapeCast Cert.WgradDownRefIdeal.S4x704x1024 (transpose Cert.WgradDownRefIdeal.S2816x1024 [1, 0] (Host.dotGeneral Cert.WgradDownRefIdeal.dot_S8448x1024_S8448x2816_S1024x2816_0_0_1_1_n_n none dy (extf .f32 x (by decide))) transposes_S1024x2816_S2816x1024_1_0) shapeCasts_S2816x1024_S4x704x1024 (ix3 p q r) = entry x dy p q r := by
  pointwise
  unfold entry
  refine Finset.sum_congr rfl fun k _ => ?_
  exact mul_comm _ _

/-- The two programs compute the same gradient. -/
theorem algebraic : Cert.algebraic_WgradDownIdeal_WgradDownRefIdeal := by
  intro m g m' g' _ hargs
  refine ⟨fun c => G2 m c, (θ_run defs _ _).mono (fun r h c => h c) (run (F := Ideal) m g),
    (θ_run Cert.WgradDownRefIdeal.defs _ _).mono (fun r h c => ?_) (Cert.WgradDownRefIdeal.Value.run (F := Ideal) m' g')⟩
  obtain ⟨h0, h1, h2, h3⟩ := h c
  obtain ⟨a0, a1, a2⟩ := hargs c
  refine ⟨h0.trans ?_, h1, h2, h3⟩
  rw [a0, a1]
  funext j
  rw [eq_ix3 j]
  exact (ref_apply _ _ _ _ _).trans (G2_apply m c _ _ _).symm

end Cert.WgradDownIdeal.Value

end
-- ==== Proof.WgradO.lean ====
/-
  The gradient of the mixer's output projection, `ymᵀ dz` in four row slabs. The kernel accumulates four row tiles of
  2112 rows; the reference differentiates the whole product and cuts its gradient in slabs.
-/
module

public import proofs.«01_k».proof.Defs
public import proofs.«01_k».proof.Proof.Gen.WgradOIdeal.Value
public import proofs.«01_k».proof.Proof.Gen.WgradORefIdeal.Run
public import Idealize.ShloMosaic.Lib.Pointwise

@[expose] public section

set_option maxRecDepth 16384

noncomputable section

namespace Cert.WgradOIdeal.Value

open Cert.WgradOIdeal Cert.WgradOIdeal.Gen Idealize.ShloMosaic Idealize.ShloMosaic.TcCoe Idealize.SL.Sem

/-! ## One point's contribution -/

/-- A point adds its row tile's product to its block. -/
theorem pay2_apply (x0 : Vec Ideal S2112x1024 .bf16) (x1 : Vec Ideal S2112x512 .f32) (acc : Vec Ideal S4x256x512 .f32)
    (p : Fin 4) (q : Fin 256) (r : Fin 512) :
    k0_pay2 x0 x1 acc (ix3 p q r) = acc (ix3 p q r) + ∑ k : Fin 2112, x0 (ix2 k ⟨p.val * 256 + q.val, by omega⟩) * x1 (ix2 k r) := by
  pointwise [k0_pay2]

/-- The reset block is zero. -/
theorem pay1_apply (j : S4x256x512.Idx) : (k0_pay1 (F := Ideal)) j = 0 := by
  pointwise [k0_pay1]

variable (m : (ℓ : Loc nD τ sig) → Buf (Elt Ideal) ℓ)

/-- Point `t` reads row tile `t % 4` of the left operand. -/
theorem idx0 : ∀ t : Fin cfg0.N, win0_0.index t (0 : Fin 2) = t.val % 4 ∧ win0_0.index t (1 : Fin 2) = 0 :=
  (by decide +kernel : ∀ t : Fin grid0.N, _)

/-- Point `t` reads row tile `t % 4` of the right operand, column tile `t / 4`. -/
theorem idx1 : ∀ t : Fin cfg0.N, win0_1.index t (0 : Fin 2) = t.val % 4 ∧ win0_1.index t (1 : Fin 2) = t.val / 4 :=
  (by decide +kernel : ∀ t : Fin grid0.N, _)

theorem iblk0_apply (c : Dev nD) (n s : ℕ) (h : n < cfg0.N) (hs : n % 4 = s) (k : Fin 2112) (q : Fin 1024) (k' : Fin 8448) (q' : Fin 1024)
    (hk : k'.val = s * 2112 + k.val) (hq : q'.val = q.val) :
    iblk m c 0 ⟨n, h⟩ (ix2 k q) = m ((c : Thread nD τ).loc main_arg0) (ix2 k' q') := by
  obtain ⟨e0, e1⟩ := idx0 ⟨n, h⟩
  show V m c main_arg0 (((cfg0.win 0).blk ⟨n, h⟩).view.emb (ix2 k q)) = _
  rw [V_main_arg0]
  refine congrArg _ (funext fun a => Fin.ext ?_)
  match a with
  | ⟨0, _⟩ => show win0_0.index ⟨n, h⟩ (0 : Fin 2) * 2112 + 1 * k.val = k'.val; rw [e0, hk]; dsimp only; omega
  | ⟨1, _⟩ => show win0_0.index ⟨n, h⟩ (1 : Fin 2) * 1024 + 1 * q.val = q'.val; rw [e1, hq]; omega

theorem iblk1_apply (c : Dev nD) (n s : ℕ) (h : n < cfg0.N) (hs : n % 4 = s) (k : Fin 2112) (r : Fin 512) (k' : Fin 8448) (r' : Fin 1024)
    (hk : k'.val = s * 2112 + k.val) (hr : r'.val = (n / 4) * 512 + r.val) :
    iblk m c 1 ⟨n, h⟩ (ix2 k r) = m ((c : Thread nD τ).loc main_arg1) (ix2 k' r') := by
  obtain ⟨e0, e1⟩ := idx1 ⟨n, h⟩
  show V m c main_arg1 (((cfg0.win 1).blk ⟨n, h⟩).view.emb (ix2 k r)) = _
  rw [V_main_arg1]
  refine congrArg _ (funext fun a => Fin.ext ?_)
  match a with
  | ⟨0, _⟩ => show win0_1.index ⟨n, h⟩ (0 : Fin 2) * 2112 + 1 * k.val = k'.val; rw [e0, hk]; dsimp only; omega
  | ⟨1, _⟩ => show win0_1.index ⟨n, h⟩ (1 : Fin 2) * 512 + 1 * r.val = r'.val; rw [e1, hr]; dsimp only; omega

/-! ## The whole sum -/

/-- The entry of the gradient at `(p, q, r)`: the sum over all rows. -/
def entry (x : FVec Ideal S8448x1024 .bf16) (dy : FVec Ideal S8448x1024 .f32) (p : Fin 4) (q : Fin 256) (r : Fin 1024) : EReal :=
  ∑ k : Fin 8448, x (ix2 k ⟨p.val * 256 + q.val, by omega⟩) * dy (ix2 k ⟨r.val, by omega⟩)

/-- What the result ends holding is the sum over all rows. -/
theorem G2_apply (c : Dev nD) (p : Fin 4) (q : Fin 256) (r : Fin 1024) :
    G2 m c (ix3 p q r) = entry (m ((c : Thread nD τ).loc main_arg0)) (m ((c : Thread nD τ).loc main_arg1)) p q r := by
  have hN : cfg0.N = 8 := N_0
  have hp := p.isLt
  have hq := q.isLt
  have hr := r.isLt
  obtain ⟨u, hu, hu'⟩ : ∃ u : ℕ, run2Of (ix3 p q r) = u ∧ u = r.val / 512 := ⟨_, rfl, by
    show 2 * (p.val / 4 - 0) + 2 * (q.val / 256 - 0) + 1 * (r.val / 512 - 0) = _; omega⟩
  have hl : loc2Of (ix3 p q r) = ix3 (⟨p.val % 4, by omega⟩ : Fin 4) (⟨q.val % 256, by omega⟩ : Fin 256) (⟨r.val % 512, by omega⟩ : Fin 512) := by
    funext a
    match a with
    | ⟨0, _⟩ => rfl
    | ⟨1, _⟩ => rfl
    | ⟨2, _⟩ => rfl
  unfold G2
  rw [hu, dif_pos (by rw [hN]; omega), hl]
  simp only [Pipeline.accAt_succ, Pipeline.accAt_zero]
  unfold step2 reset2
  rw [pay2_apply, pay2_apply, pay2_apply, pay2_apply, pay1_apply, zero_add]
  unfold entry
  refine Eq.trans (α := EReal) ?_ (Fin.sum_univ_tiles (M := EReal) 4 2112 (by decide : 4 * 2112 = 8448) _).symm
  rw [Fin.sum_univ_four (M := EReal)]
  refine congrArg₂ _ (congrArg₂ _ (congrArg₂ _ ?_ ?_) ?_) ?_
  all_goals refine Finset.sum_congr rfl fun k _ => ?_
  · exact congrArg₂ _ (iblk0_apply m c (4 * u + 0) 0 _ (by omega) _ _ _ _ rfl (by dsimp only; omega)) (iblk1_apply m c (4 * u + 0) 0 _ (by omega) _ _ _ _ rfl (by dsimp only; omega))
  · exact congrArg₂ _ (iblk0_apply m c (4 * u + 1) 1 _ (by omega) _ _ _ _ rfl (by dsimp only; omega)) (iblk1_apply m c (4 * u + 1) 1 _ (by omega) _ _ _ _ rfl (by dsimp only; omega))
  · exact congrArg₂ _ (iblk0_apply m c (4 * u + 2) 2 _ (by omega) _ _ _ _ rfl (by dsimp only; omega)) (iblk1_apply m c (4 * u + 2) 2 _ (by omega) _ _ _ _ rfl (by dsimp only; omega))
  · exact congrArg₂ _ (iblk0_apply m c (4 * u + 3) 3 _ (by omega) _ _ _ _ rfl (by dsimp only; omega)) (iblk1_apply m c (4 * u + 3) 3 _ (by omega) _ _ _ _ rfl (by dsimp only; omega))

open Cert.WgradORefIdeal.Gen in
/-- The reference's gradient at an index is the same sum. -/
theorem ref_apply (x : FVec Ideal S8448x1024 .bf16) (dy : FVec Ideal S8448x1024 .f32) (p : Fin 4) (q : Fin 256) (r : Fin 1024) :
    shapeCast Cert.WgradORefIdeal.S4x256x1024 (transpose Cert.WgradORefIdeal.S1024x1024 [1, 0] (Host.dotGeneral Cert.WgradORefIdeal.dot_S8448x1024_S8448x1024_S1024x1024_0_0_1_1_n_n none dy (extf .f32 x (by decide))) transposes_S1024x1024_S1024x1024_1_0) shapeCasts_S1024x1024_S4x256x1024 (ix3 p q r) = entry x dy p q r := by
  pointwise
  unfold entry
  refine Finset.sum_congr rfl fun k _ => ?_
  exact mul_comm _ _

/-- The two programs compute the same gradient. -/
theorem algebraic : Cert.algebraic_WgradOIdeal_WgradORefIdeal := by
  intro m g m' g' _ hargs
  refine ⟨fun c => G2 m c, (θ_run defs _ _).mono (fun r h c => h c) (run (F := Ideal) m g),
    (θ_run Cert.WgradORefIdeal.defs _ _).mono (fun r h c => ?_) (Cert.WgradORefIdeal.Value.run (F := Ideal) m' g')⟩
  obtain ⟨h0, h1, h2, h3⟩ := h c
  obtain ⟨a0, a1, a2⟩ := hargs c
  refine ⟨h0.trans ?_, h1, h2, h3⟩
  rw [a0, a1]
  funext j
  rw [eq_ix3 j]
  exact (ref_apply _ _ _ _ _).trans (G2_apply m c _ _ _).symm

end Cert.WgradOIdeal.Value

end
-- ==== Proof.DxUp.lean ====
/-
  The gradient that leaves the up projection, `dup wᵀ`, with the residual gradient `√2 dz` added. The kernel takes row
  tiles of 384 rows; the reference differentiates the projection beside the residual path.
-/
module

public import proofs.«01_k».proof.Defs
public import proofs.«01_k».proof.Proof.Gen.DxUpIdeal.Value
public import proofs.«01_k».proof.Proof.Gen.DxUpRefIdeal.Run
public import Idealize.ShloMosaic.Lib.Pointwise

@[expose] public section

set_option maxRecDepth 16384

noncomputable section

namespace Cert.DxUpIdeal.Value

open Cert.DxUpIdeal Cert.DxUpIdeal.Gen Idealize.ShloMosaic Idealize.ShloMosaic.TcCoe Idealize.SL.Sem

/-! ## One point's block -/

theorem hz : (![0, 0] : Fin 2 → Nat) = fun _ => 0 := funext fun a => by fin_cases a <;> rfl

/-- What the body stores at an index of its block. -/
theorem pay1_apply (a : Vec Ideal S384x5632 .bf16) (b : Vec Ideal S1024x5632 .bf16) (d : Vec Ideal S384x1024 .f32) (r : Fin 384) (j : Fin 1024) :
    k0_pay1 a b d (ix2 r j) = (∑ k : Fin 5632, a (ix2 r k) * b (ix2 j k)) + Ideal.ofBits .f32 0x3FB504F3#32 * d (ix2 r j) := by
  pointwise [k0_pay1]

variable (m : (ℓ : Loc nD τ sig) → Buf (Elt Ideal) ℓ)

/-- Point `t` reads row tile `t` of the left operand, the whole right operand and its row tile of the residual. -/
theorem idx : ∀ t : Fin cfg0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

theorem row_lt (t : Fin cfg0.N) (r : Fin 384) : t.val * 384 + r.val < 8448 := by
  have := lt_of_lt_of_eq t.isLt (N_0 : cfg0.N = 22)
  omega

theorem iblk0_apply (c : Dev nD) (t : Fin cfg0.N) (r : Fin 384) (k : Fin 5632) :
    iblk m c 0 t (ix2 r k) = m ((c : Thread nD τ).loc main_arg2) (ix2 ⟨t.val * 384 + r.val, row_lt t r⟩ k) := by
  obtain ⟨⟨e0, e1⟩, -⟩ := idx t
  show V m c main_arg2 (((cfg0.win 0).blk t).view.emb (ix2 r k)) = _
  rw [V_main_arg2]
  refine congrArg _ (funext fun a => Fin.ext ?_)
  match a with
  | ⟨0, _⟩ => show win0_0.index t (0 : Fin 2) * 384 + 1 * r.val = t.val * 384 + r.val; rw [e0]; omega
  | ⟨1, _⟩ => show win0_0.index t (1 : Fin 2) * 5632 + 1 * k.val = k.val; rw [e1]; omega

/-- The weights are cast before the call, which over the reals changes nothing. -/
theorem V_main_v0 (c : Dev nD) : V m c main_v0 = m ((c : Thread nD τ).loc main_arg1) := by
  show StableHlo.after hostOps0 _ _ = _
  after_results <;> rfl

theorem iblk1_apply (c : Dev nD) (t : Fin cfg0.N) (j : Fin 1024) (k : Fin 5632) :
    iblk m c 1 t (ix2 j k) = m ((c : Thread nD τ).loc main_arg1) (ix2 j k) := by
  obtain ⟨-, ⟨e0, e1⟩, -⟩ := idx t
  show V m c main_v0 (((cfg0.win 1).blk t).view.emb (ix2 j k)) = _
  rw [V_main_v0]
  refine congrArg _ (funext fun a => Fin.ext ?_)
  match a with
  | ⟨0, _⟩ => show win0_1.index t (0 : Fin 2) * 1024 + 1 * j.val = j.val; rw [e0]; omega
  | ⟨1, _⟩ => show win0_1.index t (1 : Fin 2) * 5632 + 1 * k.val = k.val; rw [e1]; omega

theorem iblk2_apply (c : Dev nD) (t : Fin cfg0.N) (r : Fin 384) (k : Fin 1024) :
    iblk m c 2 t (ix2 r k) = m ((c : Thread nD τ).loc main_arg3) (ix2 ⟨t.val * 384 + r.val, row_lt t r⟩ k) := by
  obtain ⟨-, -, ⟨e0, e1⟩, -⟩ := idx t
  show V m c main_arg3 (((cfg0.win 2).blk t).view.emb (ix2 r k)) = _
  rw [V_main_arg3]
  refine congrArg _ (funext fun a => Fin.ext ?_)
  match a with
  | ⟨0, _⟩ => show win0_2.index t (0 : Fin 2) * 384 + 1 * r.val = t.val * 384 + r.val; rw [e0]; omega
  | ⟨1, _⟩ => show win0_2.index t (1 : Fin 2) * 1024 + 1 * k.val = k.val; rw [e1]; omega

/-! ## The whole array -/

/-- The entry of the result at row `i` and column `j`. -/
def entry (dy : FVec Ideal S8448x5632 .bf16) (w : FVec Ideal S1024x5632 .f32) (dz : FVec Ideal S8448x1024 .f32) (i : Fin 8448) (j : Fin 1024) : EReal :=
  (∑ k : Fin 5632, dy (ix2 i k) * w (ix2 j k)) + Ideal.ofBits .f32 0x3FB504F3#32 * dz (ix2 i j)

/-- The result as one array. -/
def G (c : Dev nD) : Buf (Elt Ideal) ((c : Thread nD τ).loc main_v1) := fun i =>
  entry (m ((c : Thread nD τ).loc main_arg2)) (m ((c : Thread nD τ).loc main_arg1)) (m ((c : Thread nD τ).loc main_arg3)) (i 0) (i 1)

/-- The body's one store leaves its payload of the blocks that it reads. -/
theorem out_eq (a : Vec Ideal S384x5632 .bf16) (b : Vec Ideal S1024x5632 .bf16) (d : Vec Ideal S384x1024 .f32) : out0_3 a b d = k0_pay1 a b d := by
  unfold out0_3
  rw [View.canon_unit_zero hz, View.ld_unit_zero (S := S384x5632) hz, View.ld_unit_zero (S := S1024x5632) hz, View.ld_unit_zero (S := S384x1024) hz]

/-- What point `t` writes back, at an index of its block. -/
theorem flushed_apply (c : Dev nD) (t : Fin cfg0.N) (r : Fin 384) (j : Fin 1024) :
    out0_3 (iblk m c 0 t) (iblk m c 1 t) (iblk m c 2 t) (ix2 r j) = entry (m ((c : Thread nD τ).loc main_arg2)) (m ((c : Thread nD τ).loc main_arg1)) (m ((c : Thread nD τ).loc main_arg3)) ⟨t.val * 384 + r.val, row_lt t r⟩ j := by
  rw [out_eq, pay1_apply]
  unfold entry
  exact congrArg₂ _ (Finset.sum_congr rfl fun k _ => congrArg₂ _ (iblk0_apply m c t _ k) (iblk1_apply m c t _ k)) (congrArg _ (iblk2_apply m c t _ _))

/-- What point `t` writes back is its block of that array. -/
theorem flushed_eq (c : Dev nD) (t : Fin cfg0.N) :
    (dats m 0 c).flushed 3 t = ((cfg0.win 3).blk t).view.read (Elt Ideal) (G m c) := by
  rw [flushed3]
  have hb := flushed_apply m c t
  generalize out0_3 (iblk m c 0 t) (iblk m c 1 t) (iblk m c 2 t) = b at hb ⊢
  funext y
  obtain ⟨e0, e1⟩ := (idx t).2.2.2
  have hi : ((cfg0.win 3).blk t).view.emb y = (ix2 ⟨t.val * 384 + (y 0).val, row_lt t (y 0)⟩ (y 1) : S8448x1024.Idx) := by
    refine funext fun a => Fin.ext ?_
    match a with
    | ⟨0, _⟩ => show win0_3.index t (0 : Fin 2) * 384 + 1 * (y 0).val = t.val * 384 + (y 0).val; rw [e0]; omega
    | ⟨1, _⟩ => show win0_3.index t (1 : Fin 2) * 1024 + 1 * (y 1).val = (y 1).val; rw [e1]; omega
  show b y = G m c (((cfg0.win 3).blk t).view.emb y)
  rw [hi]
  exact (congrArg b (eq_ix2 y)).trans (hb (y 0) (y 1))

/-- The blocks cover the array. -/
theorem cover (i : S8448x1024.Idx) : ∃ t : Fin cfg0.N, (cfg0.win 3).flush t = true ∧ i ∈ ((cfg0.win 3).blk t).view.set := by
  have h0 : (i 0).val < 8448 := (i 0).isLt
  have h1 : (i 1).val < 1024 := (i 1).isLt
  have hN : cfg0.N = 22 := N_0
  obtain ⟨t, ht⟩ : ∃ t : Fin cfg0.N, t.val = (i 0).val / 384 := ⟨⟨(i 0).val / 384, by omega⟩, rfl⟩
  obtain ⟨e0, e1⟩ := (idx t).2.2.2
  refine ⟨t, (flush0_3 t), ?_⟩
  show i ∈ ((View.whole main_v1).slice (win0_3.rect t)).set
  rw [View.set_slice_whole, Rect.mem_set_unit]
  intro a
  match a with
  | ⟨0, _⟩ => show win0_3.index t (0 : Fin 2) * 384 ≤ (i 0).val ∧ (i 0).val < win0_3.index t (0 : Fin 2) * 384 + 384; rw [e0]; omega
  | ⟨1, _⟩ => show win0_3.index t (1 : Fin 2) * 1024 ≤ (i 1).val ∧ (i 1).val < win0_3.index t (1 : Fin 2) * 1024 + 1024; rw [e1]; omega

theorem final (c : Dev nD) : (dats m 0 c).arrAt 3 cfg0.N = G m c :=
  (dats m 0 c).arrAt_eq_of_cover 3 (G m c) (fun t _ => flushed_eq m c t) cover

/-! ## The reference -/

open Cert.DxUpRefIdeal Cert.DxUpRefIdeal.Gen in
/-- The reference at an index is the same entry. -/
theorem ref_apply (dy : FVec Ideal S8448x5632 .bf16) (w : FVec Ideal S1024x5632 .f32) (dz : FVec Ideal S8448x1024 .f32) (i : Fin 8448) (j : Fin 1024) :
    addf (mulf (broadcastInDim Cert.DxUpRefIdeal.S8448x1024 ![] bcast_S_S8448x1024 (constant Cert.DxUpRefIdeal.S_ .f32 0x3FB504F3#32)) dz) (Host.dotGeneral Cert.DxUpRefIdeal.dot_S8448x5632_S1024x5632_S8448x1024_1_1_0_0_n_n none (extf .f32 dy (by decide)) w) (ix2 i j) = entry dy w dz i j := by
  pointwise
  unfold entry
  exact add_comm _ _

/-- The two programs compute the same array. -/
theorem algebraic : Cert.algebraic_DxUpIdeal_DxUpRefIdeal := by
  intro m g m' g' _ hargs
  refine ⟨fun c => G m c, (θ_run defs _ _).mono (fun r h c => ⟨(h c).1.trans (final m c), (h c).2⟩) (run_blocks (F := Ideal) m g),
    (θ_run Cert.DxUpRefIdeal.defs _ _).mono (fun r h c => ?_) (Cert.DxUpRefIdeal.Value.run (F := Ideal) m' g')⟩
  refine ⟨(h c).1.trans ?_, (h c).2⟩
  obtain ⟨a0, a1, a2, a3⟩ := hargs c
  rw [a1, a2, a3]
  funext j
  rw [eq_ix2 j]
  exact ref_apply _ _ _ _ _

end Cert.DxUpIdeal.Value

end
-- ==== Proof.DxIn.lean ====
/-
  The gradient that leaves the mixer's input projection, `dh wᵀ`, with the residual gradient `√2 dz` added. The kernel
  takes row tiles of 384 rows; the reference differentiates the projection beside the residual path.
-/
module

public import proofs.«01_k».proof.Defs
public import proofs.«01_k».proof.Proof.Gen.DxInIdeal.Value
public import proofs.«01_k».proof.Proof.Gen.DxInRefIdeal.Run
public import Idealize.ShloMosaic.Lib.Pointwise

@[expose] public section

set_option maxRecDepth 16384

noncomputable section

namespace Cert.DxInIdeal.Value

open Cert.DxInIdeal Cert.DxInIdeal.Gen Idealize.ShloMosaic Idealize.ShloMosaic.TcCoe Idealize.SL.Sem

/-! ## One point's block -/

theorem hz : (![0, 0] : Fin 2 → Nat) = fun _ => 0 := funext fun a => by fin_cases a <;> rfl

/-- What the body stores at an index of its block. -/
theorem pay1_apply (a : Vec Ideal S384x3072 .bf16) (b : Vec Ideal S1024x3072 .bf16) (d : Vec Ideal S384x1024 .f32) (r : Fin 384) (j : Fin 1024) :
    k0_pay1 a b d (ix2 r j) = (∑ k : Fin 3072, a (ix2 r k) * b (ix2 j k)) + Ideal.ofBits .f32 0x3FB504F3#32 * d (ix2 r j) := by
  pointwise [k0_pay1]

variable (m : (ℓ : Loc nD τ sig) → Buf (Elt Ideal) ℓ)

/-- Point `t` reads row tile `t` of the left operand, the whole right operand and its row tile of the residual. -/
theorem idx : ∀ t : Fin cfg0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

theorem row_lt (t : Fin cfg0.N) (r : Fin 384) : t.val * 384 + r.val < 8448 := by
  have := lt_of_lt_of_eq t.isLt (N_0 : cfg0.N = 22)
  omega

theorem iblk0_apply (c : Dev nD) (t : Fin cfg0.N) (r : Fin 384) (k : Fin 3072) :
    iblk m c 0 t (ix2 r k) = m ((c : Thread nD τ).loc main_arg2) (ix2 ⟨t.val * 384 + r.val, row_lt t r⟩ k) := by
  obtain ⟨⟨e0, e1⟩, -⟩ := idx t
  show V m c main_arg2 (((cfg0.win 0).blk t).view.emb (ix2 r k)) = _
  rw [V_main_arg2]
  refine congrArg _ (funext fun a => Fin.ext ?_)
  match a with
  | ⟨0, _⟩ => show win0_0.index t (0 : Fin 2) * 384 + 1 * r.val = t.val * 384 + r.val; rw [e0]; omega
  | ⟨1, _⟩ => show win0_0.index t (1 : Fin 2) * 3072 + 1 * k.val = k.val; rw [e1]; omega

/-- The weights are cast before the call, which over the reals changes nothing. -/
theorem V_main_v0 (c : Dev nD) : V m c main_v0 = m ((c : Thread nD τ).loc main_arg1) := by
  show StableHlo.after hostOps0 _ _ = _
  after_results <;> rfl

theorem iblk1_apply (c : Dev nD) (t : Fin cfg0.N) (j : Fin 1024) (k : Fin 3072) :
    iblk m c 1 t (ix2 j k) = m ((c : Thread nD τ).loc main_arg1) (ix2 j k) := by
  obtain ⟨-, ⟨e0, e1⟩, -⟩ := idx t
  show V m c main_v0 (((cfg0.win 1).blk t).view.emb (ix2 j k)) = _
  rw [V_main_v0]
  refine congrArg _ (funext fun a => Fin.ext ?_)
  match a with
  | ⟨0, _⟩ => show win0_1.index t (0 : Fin 2) * 1024 + 1 * j.val = j.val; rw [e0]; omega
  | ⟨1, _⟩ => show win0_1.index t (1 : Fin 2) * 3072 + 1 * k.val = k.val; rw [e1]; omega

theorem iblk2_apply (c : Dev nD) (t : Fin cfg0.N) (r : Fin 384) (k : Fin 1024) :
    iblk m c 2 t (ix2 r k) = m ((c : Thread nD τ).loc main_arg3) (ix2 ⟨t.val * 384 + r.val, row_lt t r⟩ k) := by
  obtain ⟨-, -, ⟨e0, e1⟩, -⟩ := idx t
  show V m c main_arg3 (((cfg0.win 2).blk t).view.emb (ix2 r k)) = _
  rw [V_main_arg3]
  refine congrArg _ (funext fun a => Fin.ext ?_)
  match a with
  | ⟨0, _⟩ => show win0_2.index t (0 : Fin 2) * 384 + 1 * r.val = t.val * 384 + r.val; rw [e0]; omega
  | ⟨1, _⟩ => show win0_2.index t (1 : Fin 2) * 1024 + 1 * k.val = k.val; rw [e1]; omega

/-! ## The whole array -/

/-- The entry of the result at row `i` and column `j`. -/
def entry (dy : FVec Ideal S8448x3072 .bf16) (w : FVec Ideal S1024x3072 .f32) (dz : FVec Ideal S8448x1024 .f32) (i : Fin 8448) (j : Fin 1024) : EReal :=
  (∑ k : Fin 3072, dy (ix2 i k) * w (ix2 j k)) + Ideal.ofBits .f32 0x3FB504F3#32 * dz (ix2 i j)

/-- The result as one array. -/
def G (c : Dev nD) : Buf (Elt Ideal) ((c : Thread nD τ).loc main_v1) := fun i =>
  entry (m ((c : Thread nD τ).loc main_arg2)) (m ((c : Thread nD τ).loc main_arg1)) (m ((c : Thread nD τ).loc main_arg3)) (i 0) (i 1)

/-- The body's one store leaves its payload of the blocks that it reads. -/
theorem out_eq (a : Vec Ideal S384x3072 .bf16) (b : Vec Ideal S1024x3072 .bf16) (d : Vec Ideal S384x1024 .f32) : out0_3 a b d = k0_pay1 a b d := by
  unfold out0_3
  rw [View.canon_unit_zero hz, View.ld_unit_zero (S := S384x3072) hz, View.ld_unit_zero (S := S1024x3072) hz, View.ld_unit_zero (S := S384x1024) hz]

/-- What point `t` writes back, at an index of its block. -/
theorem flushed_apply (c : Dev nD) (t : Fin cfg0.N) (r : Fin 384) (j : Fin 1024) :
    out0_3 (iblk m c 0 t) (iblk m c 1 t) (iblk m c 2 t) (ix2 r j) = entry (m ((c : Thread nD τ).loc main_arg2)) (m ((c : Thread nD τ).loc main_arg1)) (m ((c : Thread nD τ).loc main_arg3)) ⟨t.val * 384 + r.val, row_lt t r⟩ j := by
  rw [out_eq, pay1_apply]
  unfold entry
  exact congrArg₂ _ (Finset.sum_congr rfl fun k _ => congrArg₂ _ (iblk0_apply m c t _ k) (iblk1_apply m c t _ k)) (congrArg _ (iblk2_apply m c t _ _))

/-- What point `t` writes back is its block of that array. -/
theorem flushed_eq (c : Dev nD) (t : Fin cfg0.N) :
    (dats m 0 c).flushed 3 t = ((cfg0.win 3).blk t).view.read (Elt Ideal) (G m c) := by
  rw [flushed3]
  have hb := flushed_apply m c t
  generalize out0_3 (iblk m c 0 t) (iblk m c 1 t) (iblk m c 2 t) = b at hb ⊢
  funext y
  obtain ⟨e0, e1⟩ := (idx t).2.2.2
  have hi : ((cfg0.win 3).blk t).view.emb y = (ix2 ⟨t.val * 384 + (y 0).val, row_lt t (y 0)⟩ (y 1) : S8448x1024.Idx) := by
    refine funext fun a => Fin.ext ?_
    match a with
    | ⟨0, _⟩ => show win0_3.index t (0 : Fin 2) * 384 + 1 * (y 0).val = t.val * 384 + (y 0).val; rw [e0]; omega
    | ⟨1, _⟩ => show win0_3.index t (1 : Fin 2) * 1024 + 1 * (y 1).val = (y 1).val; rw [e1]; omega
  show b y = G m c (((cfg0.win 3).blk t).view.emb y)
  rw [hi]
  exact (congrArg b (eq_ix2 y)).trans (hb (y 0) (y 1))

/-- The blocks cover the array. -/
theorem cover (i : S8448x1024.Idx) : ∃ t : Fin cfg0.N, (cfg0.win 3).flush t = true ∧ i ∈ ((cfg0.win 3).blk t).view.set := by
  have h0 : (i 0).val < 8448 := (i 0).isLt
  have h1 : (i 1).val < 1024 := (i 1).isLt
  have hN : cfg0.N = 22 := N_0
  obtain ⟨t, ht⟩ : ∃ t : Fin cfg0.N, t.val = (i 0).val / 384 := ⟨⟨(i 0).val / 384, by omega⟩, rfl⟩
  obtain ⟨e0, e1⟩ := (idx t).2.2.2
  refine ⟨t, (flush0_3 t), ?_⟩
  show i ∈ ((View.whole main_v1).slice (win0_3.rect t)).set
  rw [View.set_slice_whole, Rect.mem_set_unit]
  intro a
  match a with
  | ⟨0, _⟩ => show win0_3.index t (0 : Fin 2) * 384 ≤ (i 0).val ∧ (i 0).val < win0_3.index t (0 : Fin 2) * 384 + 384; rw [e0]; omega
  | ⟨1, _⟩ => show win0_3.index t (1 : Fin 2) * 1024 ≤ (i 1).val ∧ (i 1).val < win0_3.index t (1 : Fin 2) * 1024 + 1024; rw [e1]; omega

theorem final (c : Dev nD) : (dats m 0 c).arrAt 3 cfg0.N = G m c :=
  (dats m 0 c).arrAt_eq_of_cover 3 (G m c) (fun t _ => flushed_eq m c t) cover

/-! ## The reference -/

open Cert.DxInRefIdeal Cert.DxInRefIdeal.Gen in
/-- The reference at an index is the same entry. -/
theorem ref_apply (dy : FVec Ideal S8448x3072 .bf16) (w : FVec Ideal S1024x3072 .f32) (dz : FVec Ideal S8448x1024 .f32) (i : Fin 8448) (j : Fin 1024) :
    addf (mulf (broadcastInDim Cert.DxInRefIdeal.S8448x1024 ![] bcast_S_S8448x1024 (constant Cert.DxInRefIdeal.S_ .f32 0x3FB504F3#32)) dz) (Host.dotGeneral Cert.DxInRefIdeal.dot_S8448x3072_S1024x3072_S8448x1024_1_1_0_0_n_n none (extf .f32 dy (by decide)) w) (ix2 i j) = entry dy w dz i j := by
  pointwise
  unfold entry
  exact add_comm _ _

/-- The two programs compute the same array. -/
theorem algebraic : Cert.algebraic_DxInIdeal_DxInRefIdeal := by
  intro m g m' g' _ hargs
  refine ⟨fun c => G m c, (θ_run defs _ _).mono (fun r h c => ⟨(h c).1.trans (final m c), (h c).2⟩) (run_blocks (F := Ideal) m g),
    (θ_run Cert.DxInRefIdeal.defs _ _).mono (fun r h c => ?_) (Cert.DxInRefIdeal.Value.run (F := Ideal) m' g')⟩
  refine ⟨(h c).1.trans ?_, (h c).2⟩
  obtain ⟨a0, a1, a2, a3⟩ := hargs c
  rw [a1, a2, a3]
  funext j
  rw [eq_ix2 j]
  exact ref_apply _ _ _ _ _

end Cert.DxInIdeal.Value

end
-- ==== Proof.MmIn.lean ====
/-
  The mixer's input projection `x w`, in row tiles of 384 rows.
-/
module

public import proofs.«01_k».proof.Defs
public import proofs.«01_k».proof.Proof.Gen.MmInIdeal.Value
public import proofs.«01_k».proof.Proof.Gen.MmInRefIdeal.Run
public import Idealize.ShloMosaic.Lib.Pointwise

@[expose] public section

set_option maxRecDepth 16384

noncomputable section

namespace Cert.MmInIdeal.Value

open Cert.MmInIdeal Cert.MmInIdeal.Gen Idealize.ShloMosaic Idealize.ShloMosaic.TcCoe Idealize.SL.Sem

/-! ## One point's block -/

theorem hz : (![0, 0] : Fin 2 → Nat) = fun _ => 0 := funext fun a => by fin_cases a <;> rfl

/-- What the body stores at an index of its block. -/
theorem pay1_apply (a : Vec Ideal S384x1024 .f32) (b : Vec Ideal S1024x3072 .bf16) (r : Fin 384) (j : Fin 3072) :
    k0_pay1 a b (ix2 r j) = ∑ k : Fin 1024, a (ix2 r k) * b (ix2 k j) := by
  pointwise [k0_pay1]

variable (m : (ℓ : Loc nD τ sig) → Buf (Elt Ideal) ℓ)

/-- Point `t` reads row tile `t` of the left operand, the whole right operand. -/
theorem idx : ∀ t : Fin cfg0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

theorem row_lt (t : Fin cfg0.N) (r : Fin 384) : t.val * 384 + r.val < 8448 := by
  have := lt_of_lt_of_eq t.isLt (N_0 : cfg0.N = 22)
  omega

theorem iblk0_apply (c : Dev nD) (t : Fin cfg0.N) (r : Fin 384) (k : Fin 1024) :
    iblk m c 0 t (ix2 r k) = m ((c : Thread nD τ).loc main_arg0) (ix2 ⟨t.val * 384 + r.val, row_lt t r⟩ k) := by
  obtain ⟨⟨e0, e1⟩, -⟩ := idx t
  show V m c main_arg0 (((cfg0.win 0).blk t).view.emb (ix2 r k)) = _
  rw [V_main_arg0]
  refine congrArg _ (funext fun a => Fin.ext ?_)
  match a with
  | ⟨0, _⟩ => show win0_0.index t (0 : Fin 2) * 384 + 1 * r.val = t.val * 384 + r.val; rw [e0]; omega
  | ⟨1, _⟩ => show win0_0.index t (1 : Fin 2) * 1024 + 1 * k.val = k.val; rw [e1]; omega

/-- The weights are cast before the call, which over the reals changes nothing. -/
theorem V_main_v0 (c : Dev nD) : V m c main_v0 = m ((c : Thread nD τ).loc main_arg1) := by
  show StableHlo.after hostOps0 _ _ = _
  after_results <;> rfl

theorem iblk1_apply (c : Dev nD) (t : Fin cfg0.N) (j : Fin 1024) (k : Fin 3072) :
    iblk m c 1 t (ix2 j k) = m ((c : Thread nD τ).loc main_arg1) (ix2 j k) := by
  obtain ⟨-, ⟨e0, e1⟩, -⟩ := idx t
  show V m c main_v0 (((cfg0.win 1).blk t).view.emb (ix2 j k)) = _
  rw [V_main_v0]
  refine congrArg _ (funext fun a => Fin.ext ?_)
  match a with
  | ⟨0, _⟩ => show win0_1.index t (0 : Fin 2) * 1024 + 1 * j.val = j.val; rw [e0]; omega
  | ⟨1, _⟩ => show win0_1.index t (1 : Fin 2) * 3072 + 1 * k.val = k.val; rw [e1]; omega

/-! ## The whole array -/

/-- The entry of the result at row `i` and column `j`. -/
def entry (x : FVec Ideal S8448x1024 .f32) (w : FVec Ideal S1024x3072 .f32) (i : Fin 8448) (j : Fin 3072) : EReal :=
  ∑ k : Fin 1024, x (ix2 i k) * w (ix2 k j)

/-- The result as one array. -/
def G (c : Dev nD) : Buf (Elt Ideal) ((c : Thread nD τ).loc main_v1) := fun i =>
  entry (m ((c : Thread nD τ).loc main_arg0)) (m ((c : Thread nD τ).loc main_arg1)) (i 0) (i 1)

/-- The body's one store leaves its payload of the blocks that it reads. -/
theorem out_eq (a : Vec Ideal S384x1024 .f32) (b : Vec Ideal S1024x3072 .bf16) : out0_2 a b = k0_pay1 a b := by
  unfold out0_2
  rw [View.canon_unit_zero hz, View.ld_unit_zero (S := S384x1024) hz, View.ld_unit_zero (S := S1024x3072) hz]

/-- What point `t` writes back, at an index of its block. -/
theorem flushed_apply (c : Dev nD) (t : Fin cfg0.N) (r : Fin 384) (j : Fin 3072) :
    out0_2 (iblk m c 0 t) (iblk m c 1 t) (ix2 r j) = entry (m ((c : Thread nD τ).loc main_arg0)) (m ((c : Thread nD τ).loc main_arg1)) ⟨t.val * 384 + r.val, row_lt t r⟩ j := by
  rw [out_eq, pay1_apply]
  unfold entry
  exact Finset.sum_congr rfl fun k _ => congrArg₂ _ (iblk0_apply m c t _ k) (iblk1_apply m c t k _)

/-- What point `t` writes back is its block of that array. -/
theorem flushed_eq (c : Dev nD) (t : Fin cfg0.N) :
    (dats m 0 c).flushed 2 t = ((cfg0.win 2).blk t).view.read (Elt Ideal) (G m c) := by
  rw [flushed2]
  have hb := flushed_apply m c t
  generalize out0_2 (iblk m c 0 t) (iblk m c 1 t) = b at hb ⊢
  funext y
  obtain ⟨e0, e1⟩ := (idx t).2.2
  have hi : ((cfg0.win 2).blk t).view.emb y = (ix2 ⟨t.val * 384 + (y 0).val, row_lt t (y 0)⟩ (y 1) : S8448x3072.Idx) := by
    refine funext fun a => Fin.ext ?_
    match a with
    | ⟨0, _⟩ => show win0_2.index t (0 : Fin 2) * 384 + 1 * (y 0).val = t.val * 384 + (y 0).val; rw [e0]; omega
    | ⟨1, _⟩ => show win0_2.index t (1 : Fin 2) * 3072 + 1 * (y 1).val = (y 1).val; rw [e1]; omega
  show b y = G m c (((cfg0.win 2).blk t).view.emb y)
  rw [hi]
  exact (congrArg b (eq_ix2 y)).trans (hb (y 0) (y 1))

/-- The blocks cover the array. -/
theorem cover (i : S8448x3072.Idx) : ∃ t : Fin cfg0.N, (cfg0.win 2).flush t = true ∧ i ∈ ((cfg0.win 2).blk t).view.set := by
  have h0 : (i 0).val < 8448 := (i 0).isLt
  have h1 : (i 1).val < 3072 := (i 1).isLt
  have hN : cfg0.N = 22 := N_0
  obtain ⟨t, ht⟩ : ∃ t : Fin cfg0.N, t.val = (i 0).val / 384 := ⟨⟨(i 0).val / 384, by omega⟩, rfl⟩
  obtain ⟨e0, e1⟩ := (idx t).2.2
  refine ⟨t, (flush0_2 t), ?_⟩
  show i ∈ ((View.whole main_v1).slice (win0_2.rect t)).set
  rw [View.set_slice_whole, Rect.mem_set_unit]
  intro a
  match a with
  | ⟨0, _⟩ => show win0_2.index t (0 : Fin 2) * 384 ≤ (i 0).val ∧ (i 0).val < win0_2.index t (0 : Fin 2) * 384 + 384; rw [e0]; omega
  | ⟨1, _⟩ => show win0_2.index t (1 : Fin 2) * 3072 ≤ (i 1).val ∧ (i 1).val < win0_2.index t (1 : Fin 2) * 3072 + 3072; rw [e1]; omega

theorem final (c : Dev nD) : (dats m 0 c).arrAt 2 cfg0.N = G m c :=
  (dats m 0 c).arrAt_eq_of_cover 2 (G m c) (fun t _ => flushed_eq m c t) cover

/-! ## The reference -/

open Cert.MmInRefIdeal Cert.MmInRefIdeal.Gen in
/-- The reference at an index is the same entry. -/
theorem ref_apply (x : FVec Ideal S8448x1024 .f32) (w : FVec Ideal S1024x3072 .f32) (i : Fin 8448) (j : Fin 3072) :
    Host.dotGeneral Cert.MmInRefIdeal.dot_S8448x1024_S1024x3072_S8448x3072_1_0_0_1_n_n none x w (ix2 i j) = entry x w i j := by
  unfold entry
  pointwise

/-- The two programs compute the same array. -/
theorem algebraic : Cert.algebraic_MmInIdeal_MmInRefIdeal := by
  intro m g m' g' _ hargs
  refine ⟨fun c => G m c, (θ_run defs _ _).mono (fun r h c => ⟨(h c).1.trans (final m c), (h c).2⟩) (run_blocks (F := Ideal) m g),
    (θ_run Cert.MmInRefIdeal.defs _ _).mono (fun r h c => ?_) (Cert.MmInRefIdeal.Value.run (F := Ideal) m' g')⟩
  refine ⟨(h c).1.trans ?_, (h c).2⟩
  obtain ⟨a0, a1⟩ := hargs c
  rw [a0, a1]
  funext j
  rw [eq_ix2 j]
  exact ref_apply _ _ _ _

end Cert.MmInIdeal.Value

end
-- ==== Proof.MmUp.lean ====
/-
  The channel mixer's input projection with its causal three-tap convolution and its gate, in row tiles of 192 rows: the last
  rows of a tile are kept for the tile after it.
-/
module

public import proofs.«01_k».proof.Defs
public import proofs.«01_k».proof.Proof.Gen.MmUpIdeal.Value
public import proofs.«01_k».proof.Proof.Gen.MmUpRefIdeal.Run
public import proofs.«01_k».proof.Proof.Gen.On_ffn_up_positions
public import Idealize.ShloMosaic.Lib.Pointwise
public import Idealize.ShloMosaic.Lib.Pipeline.ReadBack
public import Idealize.ShloMosaic.Lib.Pipeline.ValueKit
public import Idealize.ShloMosaic.Lib.WordCmp
public import Idealize.ShloMosaic.Lib.KernelVsHost
public import Idealize.ShloMosaic.Lib.ValueLayout

@[expose] public section

set_option maxRecDepth 16384

noncomputable section

namespace Cert.MmUpIdeal.Value

open Cert.MmUpIdeal Cert.MmUpIdeal.Gen Idealize.ShloMosaic Idealize.ShloMosaic.TcCoe Idealize.SL.Sem

/-! ## The arrays -/

/-- The product's entry, zero in the rows that are no positions. -/
def up (x : FVec Ideal S8448x1024 .f32) (w : FVec Ideal S1024x5632 .f32) (i : Fin 8448) (j : Fin 5632) : EReal :=
  if 240 ≤ i.val then ∑ k : Fin 1024, x (ix2 i k) * w (ix2 k j) else 0

/-- The convolution's entry at a row that is a position. -/
def conv (x : FVec Ideal S8448x1024 .f32) (w : FVec Ideal S1024x5632 .f32) (cw : FVec Ideal S5632x3 .f32) (b : FVec Ideal S5632 .f32)
    (i : Fin 8448) (j : Fin 5632) : EReal :=
  cw (ix2 j 0) * up x w ⟨i.val - 2, by omega⟩ j + cw (ix2 j 1) * up x w ⟨i.val - 1, by omega⟩ j + cw (ix2 j 2) * up x w i j + b (ix1 j)

/-- The convolution with its rows before named by their numbers. -/
theorem conv_of (x : FVec Ideal S8448x1024 .f32) (w : FVec Ideal S1024x5632 .f32) (cw : FVec Ideal S5632x3 .f32) (b : FVec Ideal S5632 .f32)
    (i p q : Fin 8448) (j : Fin 5632) (hp : p.val = i.val - 2) (hq : q.val = i.val - 1) :
    cw (ix2 j 0) * up x w p j + cw (ix2 j 1) * up x w q j + cw (ix2 j 2) * up x w i j + b (ix1 j) = conv x w cw b i j := by
  have ep : p = ⟨i.val - 2, by omega⟩ := Fin.ext hp
  have eq : q = ⟨i.val - 1, by omega⟩ := Fin.ext hq
  rw [ep, eq]
  rfl

/-- The gated activation. -/
def act (x : FVec Ideal S8448x1024 .f32) (w : FVec Ideal S1024x5632 .f32) (cw : FVec Ideal S5632x3 .f32) (b : FVec Ideal S5632 .f32)
    (i : Fin 8448) (j : Fin 2816) : EReal :=
  conv x w cw b i ⟨j.val, by omega⟩ * Ideal.logistic (conv x w cw b i ⟨j.val, by omega⟩) * conv x w cw b i ⟨2816 + j.val, by omega⟩

/-! ## One point's payloads -/

theorem pay4_apply (i : grid0.Coords) (x : Vec Ideal S192x1024 .f32) (w : Vec Ideal S1024x5632 .bf16) (r : Fin 192) (j : Fin 5632) :
    k0_pay4 i x w (ix2 r j) = if 240 ≤ (i 0).val * 192 + r.val then ∑ k : Fin 1024, x (ix2 r k) * w (ix2 k j) else 0 := by
  have hi : (i 0).val < 44 := (i 0).isLt
  pointwise [k0_pay4]
  have hs : ∀ (n : ℕ) (u : EReal), n < 44 → Scalar.select (IntOp.cmpi CmpIPredicate.sge (IntOp.addi (Scalar.muli (BitVec.ofNat 32 n) 192#32) (BitVec.ofNat 32 r.val)) 240#32) u 0
      = if 240 ≤ n * 192 + r.val then u else 0 := by
    intro n u hn
    have e : IntOp.addi (Scalar.muli (BitVec.ofNat 32 n) 192#32) (BitVec.ofNat 32 r.val) = BitVec.ofNat 32 (n * 192 + r.val) := by
      show BitVec.ofNat 32 n * 192#32 + BitVec.ofNat 32 r.val = _
      rw [BitVec.ofNat_add, BitVec.ofNat_mul]
    rw [e]
    have h2 : n * 192 + r.val < 8448 := by omega
    unfold Scalar.select
    by_cases h : 240 ≤ n * 192 + r.val
    · rw [if_pos h]
      exact if_pos ((WordCmp.cmpi_sge_ofNat_eq_one_iff (w := 32) (by omega) (by decide)).mpr h)
    · rw [if_neg h]
      exact if_neg fun h' => h ((WordCmp.cmpi_sge_ofNat_eq_one_iff (w := 32) (by omega) (by decide)).mp h')
  exact hs _ _ hi

theorem pay6_apply (i : grid0.Coords) (x : Vec Ideal S192x1024 .f32) (w : Vec Ideal S1024x5632 .bf16) (cr : Vec Ideal S8x5632 .f32) (s : Fin 200) (j : Fin 5632) :
    k0_pay6 i x w cr (ix2 s j) = if h : s.val < 8 then cr (ix2 ⟨s.val, h⟩ j) else k0_pay4 i x w (ix2 ⟨s.val - 8, by omega⟩ j) := by
  unfold k0_pay6
  generalize k0_pay4 i x w = U
  pointwise

theorem pay8_apply (i : grid0.Coords) (x : Vec Ideal S192x1024 .f32) (w : Vec Ideal S1024x5632 .bf16) (cr : Vec Ideal S8x5632 .f32) (tp : Vec Ideal S1x5632 .f32) (r : Fin 192) (j : Fin 5632) :
    k0_pay8 i x w cr tp (ix2 r j) = tp (ix2 0 j) * k0_pay6 i x w cr (ix2 ⟨6 + r.val, by omega⟩ j) := by
  unfold k0_pay8
  generalize k0_pay6 i x w cr = U
  pointwise
  refine congrArg (fun s => tp (ix2 0 j) * U (ix2 s j)) (Fin.ext ?_)
  show (8 + r.val + 200 - 2) % 200 = 6 + r.val
  omega

theorem pay1_apply (U : FVec Ideal S192x5632 .f32) (E : FVec Ideal S200x5632 .f32) (p : FVec Ideal S192x5632 .f32) (t1 t2 b : Vec Ideal S1x5632 .f32) (r : Fin 192) (j : Fin 5632) :
    k0_pay1 U E p (k0_pay9 t1) 1#32 t2 b (ix2 r j)
      = p (ix2 r j) + t1 (ix2 0 j) * E (ix2 ⟨7 + r.val, by omega⟩ j) + t2 (ix2 0 j) * U (ix2 r j) + b (ix2 0 j) := by
  pointwise [k0_pay1, k0_pay9]
  refine congrArg (fun s => p (ix2 r j) + t1 (ix2 0 j) * E (ix2 s j) + t2 (ix2 0 j) * U (ix2 r j) + b (ix2 0 j)) (Fin.ext ?_)
  show (8 + r.val + 200 - 1) % 200 = 7 + r.val
  omega

theorem pay2_apply (U : FVec Ideal S192x5632 .f32) (E : FVec Ideal S200x5632 .f32) (p : FVec Ideal S192x5632 .f32) (t1 : FVec Ideal S1x5632 .f32) (t2 b : Vec Ideal S1x5632 .f32) (r : Fin 192) (j : Fin 2816) :
    k0_pay2 U E p t1 1#32 t2 b (ix2 r j) = k0_pay1 U E p t1 1#32 t2 b (ix2 r ⟨j.val, by omega⟩) * Ideal.logistic (k0_pay1 U E p t1 1#32 t2 b (ix2 r ⟨j.val, by omega⟩))
      * k0_pay1 U E p t1 1#32 t2 b (ix2 r ⟨2816 + j.val, by omega⟩) := by
  unfold k0_pay2
  generalize k0_pay1 U E p t1 1#32 t2 b = U
  pointwise

theorem pay7_apply (i : grid0.Coords) (x : Vec Ideal S192x1024 .f32) (w : Vec Ideal S1024x5632 .bf16) (s : Fin 8) (j : Fin 5632) :
    k0_pay7 i x w (ix2 s j) = k0_pay4 i x w (ix2 ⟨184 + s.val, by omega⟩ j) := by
  unfold k0_pay7
  generalize k0_pay4 i x w = U
  pointwise

theorem pay5_apply (i : grid0.Coords) (x : Vec Ideal S192x1024 .f32) (w : Vec Ideal S1024x5632 .bf16) (r : Fin 192) (j : Fin 5632) :
    k0_pay5 i x w (ix2 r j) = k0_pay4 i x w (ix2 r j) := by
  unfold k0_pay5
  generalize k0_pay4 i x w = U
  pointwise

/-! ## The blocks that a point reads -/

variable (m : (ℓ : Loc nD τ sig) → Buf (Elt Ideal) ℓ)

theorem row_lt (t : Fin cfg0.N) (r : Fin 192) : t.val * 192 + r.val < 8448 := by
  have := lt_of_lt_of_eq t.isLt (N_0 : cfg0.N = 44)
  omega

theorem coords_val : ∀ t : Fin cfg0.N, (grid0.coords t (0 : Fin 1)).val = t.val :=
  (by decide +kernel : ∀ t : Fin grid0.N, _)

/-- The weights are cast before the call, which over the reals changes nothing. -/
theorem V_main_v2 (c : Dev nD) : V m c main_v2 = m ((c : Thread nD τ).loc main_arg1) := by
  show StableHlo.after (List.flatten [hostOps0, hostOps0_1, hostOps0_2]) _ _ = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

theorem V_main_v1 (c : Dev nD) (i : Fin 3) (j : Fin 5632) : V m c main_v1 (ix2 ⟨i.val, by omega⟩ j) = m ((c : Thread nD τ).loc main_arg2) (ix2 j i) := by
  have h : V m c main_v1 = pad S8x5632 ![0, 0] ![5, 0] ![0, 0] (transpose S3x5632 [1, 0] (m ((c : Thread nD τ).loc main_arg2)) transposes_S5632x3_S3x5632_1_0)
      (sitofp (F := Ideal) .f32 (constantI S_ 32 0#32)) pads_S3x5632_S8x5632_050_000 h_S_ := by
    show StableHlo.after (List.flatten [hostOps0, hostOps0_1, hostOps0_2]) _ _ = _
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  generalize m ((c : Thread nD τ).loc main_arg2) = v
  pointwise

theorem V_main_v3 (c : Dev nD) (i : Fin 1) (j : Fin 5632) : V m c main_v3 (ix2 i j) = m ((c : Thread nD τ).loc main_arg3) (ix1 j) := by
  obtain rfl : i = 0 := Subsingleton.elim _ _
  have h : V m c main_v3 = shapeCast _ (m ((c : Thread nD τ).loc main_arg3)) shapeCasts_S5632_S1x5632 := by
    show StableHlo.after (List.flatten [hostOps0, hostOps0_1, hostOps0_2]) _ _ = _
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results_simp <;> rfl
  rw [h]
  exact Idealize.ShloMosaic.ValueIdx.shapeCast_a_1a_apply _ _ 0 j

/-- Window 0 moves down one row tile per point. -/
theorem idx0 : ∀ t : Fin cfg0.N, win0_0.index t (0 : Fin 2) = t.val ∧ win0_0.index t (1 : Fin 2) = 0 :=
  (by decide +kernel : ∀ t : Fin grid0.N, _)

/-- Window 1 holds its whole array at every point. -/
theorem idx1 : ∀ t : Fin cfg0.N, win0_1.index t (0 : Fin 2) = 0 ∧ win0_1.index t (1 : Fin 2) = 0 :=
  (by decide +kernel : ∀ t : Fin grid0.N, _)

/-- Window 2 holds its whole array at every point. -/
theorem idx2 : ∀ t : Fin cfg0.N, win0_2.index t (0 : Fin 2) = 0 ∧ win0_2.index t (1 : Fin 2) = 0 :=
  (by decide +kernel : ∀ t : Fin grid0.N, _)

/-- Window 3 holds its whole array at every point. -/
theorem idx3 : ∀ t : Fin cfg0.N, win0_3.index t (0 : Fin 2) = 0 ∧ win0_3.index t (1 : Fin 2) = 0 :=
  (by decide +kernel : ∀ t : Fin grid0.N, _)

/-- Window 4 moves down one row tile per point. -/
theorem idx4 : ∀ t : Fin cfg0.N, win0_4.index t (0 : Fin 2) = t.val ∧ win0_4.index t (1 : Fin 2) = 0 :=
  (by decide +kernel : ∀ t : Fin grid0.N, _)

/-- Window 5 moves down one row tile per point. -/
theorem idx5 : ∀ t : Fin cfg0.N, win0_5.index t (0 : Fin 2) = t.val ∧ win0_5.index t (1 : Fin 2) = 0 :=
  (by decide +kernel : ∀ t : Fin grid0.N, _)

/-- Window 6 moves down one row tile per point. -/
theorem idx6 : ∀ t : Fin cfg0.N, win0_6.index t (0 : Fin 2) = t.val ∧ win0_6.index t (1 : Fin 2) = 0 :=
  (by decide +kernel : ∀ t : Fin grid0.N, _)

theorem iblk0_apply (c : Dev nD) (t : Fin cfg0.N) (r : Fin 192) (k : Fin 1024) :
    iblk m c 0 t (ix2 r k) = m ((c : Thread nD τ).loc main_arg0) (ix2 ⟨t.val * 192 + r.val, row_lt t r⟩ k) := by
  obtain ⟨e0, e1⟩ := idx0 t
  show V m c main_arg0 (((cfg0.win 0).blk t).view.emb (ix2 r k)) = _
  rw [V_main_arg0]
  refine congrArg _ (funext fun a => Fin.ext ?_)
  match a with
  | ⟨0, _⟩ => show win0_0.index t (0 : Fin 2) * 192 + 1 * r.val = t.val * 192 + r.val; rw [e0]; omega
  | ⟨1, _⟩ => show win0_0.index t (1 : Fin 2) * 1024 + 1 * k.val = k.val; rw [e1]; omega

theorem iblk1_apply (c : Dev nD) (t : Fin cfg0.N) (j : Fin 1024) (k : Fin 5632) :
    iblk m c 1 t (ix2 j k) = m ((c : Thread nD τ).loc main_arg1) (ix2 j k) := by
  obtain ⟨e0, e1⟩ := idx1 t
  refine Eq.trans (b := V m c main_v2 (ix2 j k)) ?_ (congrFun (V_main_v2 m c) _)
  show V m c main_v2 (((cfg0.win 1).blk t).view.emb (ix2 j k)) = _
  refine congrArg _ (funext fun a => Fin.ext ?_)
  match a with
  | ⟨0, _⟩ => show win0_1.index t (0 : Fin 2) * 1024 + 1 * j.val = j.val; rw [e0]; omega
  | ⟨1, _⟩ => show win0_1.index t (1 : Fin 2) * 5632 + 1 * k.val = k.val; rw [e1]; omega

theorem iblk2_apply (c : Dev nD) (t : Fin cfg0.N) (j : Fin 8) (k : Fin 5632) :
    iblk m c 2 t (ix2 j k) = V m c main_v1 (ix2 j k) := by
  obtain ⟨e0, e1⟩ := idx2 t
  refine Eq.trans (b := V m c main_v1 (ix2 j k)) ?_ rfl
  show V m c main_v1 (((cfg0.win 2).blk t).view.emb (ix2 j k)) = _
  refine congrArg _ (funext fun a => Fin.ext ?_)
  match a with
  | ⟨0, _⟩ => show win0_2.index t (0 : Fin 2) * 8 + 1 * j.val = j.val; rw [e0]; omega
  | ⟨1, _⟩ => show win0_2.index t (1 : Fin 2) * 5632 + 1 * k.val = k.val; rw [e1]; omega

theorem iblk3_apply (c : Dev nD) (t : Fin cfg0.N) (j : Fin 1) (k : Fin 5632) :
    iblk m c 3 t (ix2 j k) = m ((c : Thread nD τ).loc main_arg3) (ix1 k) := by
  obtain ⟨e0, e1⟩ := idx3 t
  refine Eq.trans (b := V m c main_v3 (ix2 j k)) ?_ (V_main_v3 m c j k)
  show V m c main_v3 (((cfg0.win 3).blk t).view.emb (ix2 j k)) = _
  refine congrArg _ (funext fun a => Fin.ext ?_)
  match a with
  | ⟨0, _⟩ => show win0_3.index t (0 : Fin 2) * 1 + 1 * j.val = j.val; rw [e0]; omega
  | ⟨1, _⟩ => show win0_3.index t (1 : Fin 2) * 5632 + 1 * k.val = k.val; rw [e1]; omega

/-- The masked product of a point's rows. -/
theorem acc_apply (c : Dev nD) (t : Fin cfg0.N) (r : Fin 192) (j : Fin 5632) :
    k0_pay4 (grid0.coords t) (iblk m c 0 t) (iblk m c 1 t) (ix2 r j) = up (m ((c : Thread nD τ).loc main_arg0)) (m ((c : Thread nD τ).loc main_arg1)) ⟨t.val * 192 + r.val, row_lt t r⟩ j := by
  rw [pay4_apply, coords_val]
  unfold up
  refine congrArg (fun u => ite _ u _) ?_
  exact Finset.sum_congr rfl fun k _ => congrArg₂ _ (iblk0_apply m c t r k) (iblk1_apply m c t k j)

/-! ## What a point leaves -/

theorem up_eq (c : Dev nD) (t : Fin cfg0.N) : (outsAt0 m c t.val t.isLt).1 = k0_pay5 (grid0.coords t) (iblk m c 0 t) (iblk m c 1 t) := by
  by_cases h0 : t.val % 44 = 0
  · rw [outsAt0_A m c t h0]
    frame_out
  · rw [outsAt0_B m c t h0]
    frame_out

/-- A point keeps its last eight rows. -/
theorem carry_eq (c : Dev nD) (t : Fin cfg0.N) : (outsAt0 m c t.val t.isLt).2.2.2 = k0_pay7 (grid0.coords t) (iblk m c 0 t) (iblk m c 1 t) := by
  by_cases h0 : t.val % 44 = 0
  · rw [outsAt0_A m c t h0]
    frame_out
  · rw [outsAt0_B m c t h0]
    frame_out

/-- The tap `k` of a point's block. -/
abbrev tap (c : Dev nD) (t : Fin cfg0.N) (k : Fin 3) : Vec Ideal S1x5632 .f32 :=
  match k with
  | ⟨0, _⟩ => View.ld (iblk m c 2 t) (Rect.unit ![0, 0] ![1, 5632] inb_S8x5632_S1x5632_0_0)
  | ⟨1, _⟩ => View.ld (iblk m c 2 t) (Rect.unit ![1, 0] ![1, 5632] inb_S8x5632_S1x5632_1_0)
  | ⟨2, _⟩ => View.ld (iblk m c 2 t) (Rect.unit ![2, 0] ![1, 5632] inb_S8x5632_S1x5632_2_0)

theorem tap_apply (c : Dev nD) (t : Fin cfg0.N) (k : Fin 3) (j : Fin 5632) : tap m c t k (ix2 0 j) = m ((c : Thread nD τ).loc main_arg2) (ix2 j k) := by
  rw [← V_main_v1 m c k j, ← iblk2_apply m c t]
  generalize hB : iblk m c 2 t = B
  match k with
  | ⟨0, _⟩ => unfold tap; rw [hB]; pointwise
  | ⟨1, _⟩ => unfold tap; rw [hB]; pointwise
  | ⟨2, _⟩ => unfold tap; rw [hB]; pointwise

/-- The contents that the point before left. -/
abbrev before (c : Dev nD) (t : Fin cfg0.N) : Vec Ideal S8x5632 .f32 :=
  (outsAt0 m c (t.val - 1) (Nat.lt_of_le_of_lt (Nat.sub_le _ _) t.isLt)).2.2.2

theorem u_eq (c : Dev nD) (t : Fin cfg0.N) (h0 : ¬ t.val % 44 = 0) : (outsAt0 m c t.val t.isLt).2.1 =
    k0_pay1 (k0_pay4 (grid0.coords t) (iblk m c 0 t) (iblk m c 1 t)) (k0_pay6 (grid0.coords t) (iblk m c 0 t) (iblk m c 1 t) (before m c t))
      (k0_pay8 (grid0.coords t) (iblk m c 0 t) (iblk m c 1 t) (before m c t) (tap m c t 0)) (k0_pay9 (tap m c t 1)) 1#32 (tap m c t 2) (iblk m c 3 t) := by
  rw [outsAt0_B m c t h0]
  unfold before
  generalize (outsAt0 m c (t.val - 1) (Nat.lt_of_le_of_lt (Nat.sub_le _ _) t.isLt)).2.2.2 = X
  frame_out
  simp only [read_unread_whole]
  rfl

theorem a_eq (c : Dev nD) (t : Fin cfg0.N) (h0 : ¬ t.val % 44 = 0) : (outsAt0 m c t.val t.isLt).2.2.1 =
    k0_pay2 (k0_pay4 (grid0.coords t) (iblk m c 0 t) (iblk m c 1 t)) (k0_pay6 (grid0.coords t) (iblk m c 0 t) (iblk m c 1 t) (before m c t))
      (k0_pay8 (grid0.coords t) (iblk m c 0 t) (iblk m c 1 t) (before m c t) (tap m c t 0)) (k0_pay9 (tap m c t 1)) 1#32 (tap m c t 2) (iblk m c 3 t) := by
  rw [outsAt0_B m c t h0]
  unfold before
  generalize (outsAt0 m c (t.val - 1) (Nat.lt_of_le_of_lt (Nat.sub_le _ _) t.isLt)).2.2.2 = X
  frame_out
  simp only [read_unread_whole]
  rfl

theorem ext_lt (t : Fin cfg0.N) (s : Fin 200) : t.val * 192 + s.val - 8 < 8448 := by
  have := lt_of_lt_of_eq t.isLt (N_0 : cfg0.N = 44)
  omega

/-- Past the first point the extended rows are the product's rows, eight ahead. -/
theorem ext_apply (c : Dev nD) (t : Fin cfg0.N) (h0 : t.val ≠ 0) (s : Fin 200) (j : Fin 5632) :
    k0_pay6 (grid0.coords t) (iblk m c 0 t) (iblk m c 1 t) (before m c t) (ix2 s j) = up (m ((c : Thread nD τ).loc main_arg0)) (m ((c : Thread nD τ).loc main_arg1)) ⟨t.val * 192 + s.val - 8, ext_lt t s⟩ j := by
  rw [pay6_apply]
  by_cases h : s.val < 8
  · rw [dif_pos h]
    have hc := carry_eq m c ⟨t.val - 1, Nat.lt_of_le_of_lt (Nat.sub_le _ _) t.isLt⟩
    unfold before
    rw [hc, pay7_apply, acc_apply]
    refine congrArg (fun i => up (m ((c : Thread nD τ).loc main_arg0)) (m ((c : Thread nD τ).loc main_arg1)) i j) (Fin.ext ?_)
    show (t.val - 1) * 192 + (184 + s.val) = t.val * 192 + s.val - 8
    omega
  · rw [dif_neg h, acc_apply]
    refine congrArg (fun i => up (m ((c : Thread nD τ).loc main_arg0)) (m ((c : Thread nD τ).loc main_arg1)) i j) (Fin.ext ?_)
    show t.val * 192 + (s.val - 8) = t.val * 192 + s.val - 8
    omega

theorem u_apply (c : Dev nD) (t : Fin cfg0.N) (h0 : ¬ t.val % 44 = 0) (r : Fin 192) (j : Fin 5632) :
    k0_pay1 (k0_pay4 (grid0.coords t) (iblk m c 0 t) (iblk m c 1 t)) (k0_pay6 (grid0.coords t) (iblk m c 0 t) (iblk m c 1 t) (before m c t))
      (k0_pay8 (grid0.coords t) (iblk m c 0 t) (iblk m c 1 t) (before m c t) (tap m c t 0)) (k0_pay9 (tap m c t 1)) 1#32 (tap m c t 2) (iblk m c 3 t) (ix2 r j)
      = conv (m ((c : Thread nD τ).loc main_arg0)) (m ((c : Thread nD τ).loc main_arg1)) (m ((c : Thread nD τ).loc main_arg2)) (m ((c : Thread nD τ).loc main_arg3)) ⟨t.val * 192 + r.val, row_lt t r⟩ j := by
  have h1 : t.val ≠ 0 := fun h => h0 (by rw [h])
  rw [pay1_apply, pay8_apply, ext_apply m c t h1, ext_apply m c t h1, acc_apply, iblk3_apply, tap_apply, tap_apply, tap_apply]
  refine conv_of _ _ _ _ _ _ _ j ?_ ?_
  · show t.val * 192 + (6 + r.val) - 8 = t.val * 192 + r.val - 2
    omega
  · show t.val * 192 + (7 + r.val) - 8 = t.val * 192 + r.val - 1
    omega

/-! ## The arrays after the run -/

theorem point (i : Fin 8448) : ∃ (t : Fin cfg0.N) (r : Fin 192), i = ⟨t.val * 192 + r.val, row_lt t r⟩ := by
  have hN : cfg0.N = 44 := N_0
  have hi := i.isLt
  exact ⟨⟨i.val / 192, by omega⟩, ⟨i.val % 192, by omega⟩, Fin.ext (by show i.val = i.val / 192 * 192 + i.val % 192; omega)⟩

theorem read4 (c : Dev nD) (t : Fin cfg0.N) (r : Fin 192) (j : Fin 5632) :
    (dats m 0 c).arrAt 4 cfg0.N (ix2 ⟨t.val * 192 + r.val, row_lt t r⟩ j) = (outsAt0 m c t.val t.isLt).1 (ix2 r j) := by
  have h := congrFun (blocks4 m c t (flush0_4 t)) (ix2 r j)
  rw [flushed4] at h
  refine Eq.trans ?_ h
  obtain ⟨e0, e1⟩ := idx4 t
  show _ = (dats m 0 c).arrAt 4 cfg0.N (((cfg0.win 4).blk t).view.emb (ix2 r j))
  refine congrArg _ (funext fun a => Fin.ext ?_)
  match a with
  | ⟨0, _⟩ => show t.val * 192 + r.val = win0_4.index t (0 : Fin 2) * 192 + 1 * r.val; rw [e0]; omega
  | ⟨1, _⟩ => show j.val = win0_4.index t (1 : Fin 2) * 5632 + 1 * j.val; rw [e1]; omega

theorem read5 (c : Dev nD) (t : Fin cfg0.N) (r : Fin 192) (j : Fin 5632) :
    (dats m 0 c).arrAt 5 cfg0.N (ix2 ⟨t.val * 192 + r.val, row_lt t r⟩ j) = (outsAt0 m c t.val t.isLt).2.1 (ix2 r j) := by
  have h := congrFun (blocks5 m c t (flush0_5 t)) (ix2 r j)
  rw [flushed5] at h
  refine Eq.trans ?_ h
  obtain ⟨e0, e1⟩ := idx5 t
  show _ = (dats m 0 c).arrAt 5 cfg0.N (((cfg0.win 5).blk t).view.emb (ix2 r j))
  refine congrArg _ (funext fun a => Fin.ext ?_)
  match a with
  | ⟨0, _⟩ => show t.val * 192 + r.val = win0_5.index t (0 : Fin 2) * 192 + 1 * r.val; rw [e0]; omega
  | ⟨1, _⟩ => show j.val = win0_5.index t (1 : Fin 2) * 5632 + 1 * j.val; rw [e1]; omega

theorem read6 (c : Dev nD) (t : Fin cfg0.N) (r : Fin 192) (j : Fin 2816) :
    (dats m 0 c).arrAt 6 cfg0.N (ix2 ⟨t.val * 192 + r.val, row_lt t r⟩ j) = (outsAt0 m c t.val t.isLt).2.2.1 (ix2 r j) := by
  have h := congrFun (blocks6 m c t (flush0_6 t)) (ix2 r j)
  rw [flushed6] at h
  refine Eq.trans ?_ h
  obtain ⟨e0, e1⟩ := idx6 t
  show _ = (dats m 0 c).arrAt 6 cfg0.N (((cfg0.win 6).blk t).view.emb (ix2 r j))
  refine congrArg _ (funext fun a => Fin.ext ?_)
  match a with
  | ⟨0, _⟩ => show t.val * 192 + r.val = win0_6.index t (0 : Fin 2) * 192 + 1 * r.val; rw [e0]; omega
  | ⟨1, _⟩ => show j.val = win0_6.index t (1 : Fin 2) * 2816 + 1 * j.val; rw [e1]; omega

theorem end4 (c : Dev nD) (i : Fin 8448) (j : Fin 5632) : (dats m 0 c).arrAt 4 cfg0.N (ix2 i j) = up (m ((c : Thread nD τ).loc main_arg0)) (m ((c : Thread nD τ).loc main_arg1)) i j := by
  obtain ⟨t, r, rfl⟩ := point i
  rw [read4, up_eq, pay5_apply, acc_apply]

theorem later (t : Fin cfg0.N) (r : Fin 192) (h : 240 ≤ t.val * 192 + r.val) : ¬ t.val % 44 = 0 := by
  have := lt_of_lt_of_eq t.isLt (N_0 : cfg0.N = 44)
  omega

theorem end5 (c : Dev nD) (i : Fin 8448) (j : Fin 5632) (h : 240 ≤ i.val) : (dats m 0 c).arrAt 5 cfg0.N (ix2 i j) = conv (m ((c : Thread nD τ).loc main_arg0)) (m ((c : Thread nD τ).loc main_arg1)) (m ((c : Thread nD τ).loc main_arg2)) (m ((c : Thread nD τ).loc main_arg3)) i j := by
  obtain ⟨t, r, rfl⟩ := point i
  rw [read5, u_eq m c t (later t r h), u_apply m c t (later t r h)]

theorem end6 (c : Dev nD) (i : Fin 8448) (j : Fin 2816) (h : 240 ≤ i.val) : (dats m 0 c).arrAt 6 cfg0.N (ix2 i j) = act (m ((c : Thread nD τ).loc main_arg0)) (m ((c : Thread nD τ).loc main_arg1)) (m ((c : Thread nD τ).loc main_arg2)) (m ((c : Thread nD τ).loc main_arg3)) i j := by
  obtain ⟨t, r, rfl⟩ := point i
  rw [read6, a_eq m c t (later t r h), pay2_apply, u_apply m c t (later t r h), u_apply m c t (later t r h)]
  rfl

end Cert.MmUpIdeal.Value

/-! ## The reference -/

namespace Cert.MmUpRefIdeal.Value

open Cert.MmUpRefIdeal Cert.MmUpRefIdeal.Gen Idealize.ShloMosaic Idealize.ShloMosaic.TcCoe Idealize.SL.Sem
open Cert.MmUpIdeal.Value (up conv act)

/-- The product of the rows that are positions. -/
def prod (x : FVec Ideal S8448x1024 .f32) (w : FVec Ideal S1024x5632 .f32) : FVec Ideal S8208x5632 .f32 :=
  Host.dotGeneral dot_S8208x1024_S1024x5632_S8208x5632_1_0_0_1_n_n none (extractStridedSlice S8208x1024 ![240, 0] x slices_S8448x1024_S8208x1024_240_0) w

theorem prod_apply (x : FVec Ideal S8448x1024 .f32) (w : FVec Ideal S1024x5632 .f32) (i : Fin 8208) (j : Fin 5632) :
    prod x w (ix2 i j) = up x w ⟨i.val + 240, by omega⟩ j := by
  unfold up
  rw [if_pos (by dsimp only; omega)]
  pointwise [prod]
  refine Finset.sum_congr rfl fun k _ => congrArg (fun s => x (ix2 s k) * w (ix2 k j)) (Fin.ext ?_)
  show 240 + i.val = i.val + 240
  omega

/-- Rows ahead of the positions, zero. -/
def ahead (P : FVec Ideal S8208x5632 .f32) : FVec Ideal S8448x5632 .f32 :=
  pad S8448x5632 ![240, 0] ![0, 0] ![0, 0] P (sitofp (F := Ideal) .f32 (constantI S_ 32 0#32)) pads_S8208x5632_S8448x5632_24000_000 h_S_

theorem ahead_apply (P : FVec Ideal S8208x5632 .f32) (i : Fin 8448) (j : Fin 5632) :
    ahead P (ix2 i j) = if h : 240 ≤ i.val then P (ix2 ⟨i.val - 240, by omega⟩ j) else 0 := by
  pointwise [ahead]
  by_cases h : 240 ≤ i.val
  · rw [dif_pos ⟨h, by omega⟩, dif_pos h]
  · rw [dif_neg (fun h' => h h'.1), dif_neg h]
    exact sitofp_zero

def ahead' (P : FVec Ideal S8208x2816 .f32) : FVec Ideal S8448x2816 .bf16 :=
  truncf .bf16 (pad S8448x2816 ![240, 0] ![0, 0] ![0, 0] P (sitofp (F := Ideal) .f32 (constantI S_ 32 0#32)) pads_S8208x2816_S8448x2816_24000_000 h_S_) bitsLt_bf16_f32

theorem ahead'_apply (P : FVec Ideal S8208x2816 .f32) (i : Fin 8448) (j : Fin 2816) :
    ahead' P (ix2 i j) = if h : 240 ≤ i.val then P (ix2 ⟨i.val - 240, by omega⟩ j) else 0 := by
  pointwise [ahead']
  by_cases h : 240 ≤ i.val
  · rw [dif_pos ⟨h, by omega⟩, dif_pos h]
  · rw [dif_neg (fun h' => h h'.1), dif_neg h]
    exact sitofp_zero

/-- The convolution of the product. -/
def dw (P : FVec Ideal S8208x5632 .f32) (cw : FVec Ideal S5632x3 .f32) (b : FVec Ideal S5632 .f32) : FVec Ideal S8208x5632 .f32 :=
  addf (addf (addf (mulf (extractStridedSlice S8208x5632 ![0, 0] (pad S8210x5632 ![2, 0] ![0, 0] ![0, 0] P (sitofp (F := Ideal) .f32 (constantI S_ 32 0#32)) pads_S8208x5632_S8210x5632_200_000 h_S_) slices_S8210x5632_S8208x5632_0_0) (broadcastInDim S8208x5632 ![0, 1] bcast_S1x5632_S8208x5632_0_1 (broadcastInDim S1x5632 ![1] bcast_S5632_S1x5632_1 (shapeCast _ (extractStridedSlice S5632x1 ![0, 0] cw slices_S5632x3_S5632x1_0_0) shapeCasts_S5632x1_S5632)))) (mulf (extractStridedSlice S8208x5632 ![1, 0] (pad S8210x5632 ![2, 0] ![0, 0] ![0, 0] P (sitofp (F := Ideal) .f32 (constantI S_ 32 0#32)) pads_S8208x5632_S8210x5632_200_000 h_S_) slices_S8210x5632_S8208x5632_1_0) (broadcastInDim S8208x5632 ![0, 1] bcast_S1x5632_S8208x5632_0_1 (broadcastInDim S1x5632 ![1] bcast_S5632_S1x5632_1 (shapeCast _ (extractStridedSlice S5632x1 ![0, 1] cw slices_S5632x3_S5632x1_0_1) shapeCasts_S5632x1_S5632))))) (mulf (extractStridedSlice S8208x5632 ![2, 0] (pad S8210x5632 ![2, 0] ![0, 0] ![0, 0] P (sitofp (F := Ideal) .f32 (constantI S_ 32 0#32)) pads_S8208x5632_S8210x5632_200_000 h_S_) slices_S8210x5632_S8208x5632_2_0) (broadcastInDim S8208x5632 ![0, 1] bcast_S1x5632_S8208x5632_0_1 (broadcastInDim S1x5632 ![1] bcast_S5632_S1x5632_1 (shapeCast _ (extractStridedSlice S5632x1 ![0, 2] cw slices_S5632x3_S5632x1_0_2) shapeCasts_S5632x1_S5632))))) (broadcastInDim S8208x5632 ![0, 1] bcast_S1x5632_S8208x5632_0_1 (broadcastInDim S1x5632 ![1] bcast_S5632_S1x5632_1 b))

theorem dw_apply (P : FVec Ideal S8208x5632 .f32) (cw : FVec Ideal S5632x3 .f32) (b : FVec Ideal S5632 .f32) (i : Fin 8208) (j : Fin 5632) :
    dw P cw b (ix2 i j) = (if h : 2 ≤ i.val then P (ix2 ⟨i.val - 2, by omega⟩ j) else 0) * cw (ix2 j 0)
      + (if h : 1 ≤ i.val then P (ix2 ⟨i.val - 1, by omega⟩ j) else 0) * cw (ix2 j 1) + P (ix2 i j) * cw (ix2 j 2) + b (ix1 j) := by
  pointwise [dw]
  refine congrArg₂ (fun p q => p * cw (ix2 j 0) + q * cw (ix2 j 1) + P (ix2 i j) * cw (ix2 j 2) + b (ix1 j)) ?_ ?_
  · by_cases h : 2 ≤ i.val
    · rw [dif_pos ⟨h, by omega⟩, dif_pos h]
    · rw [dif_neg (fun h' => h h'.1), dif_neg h]
      exact sitofp_zero
  · by_cases h : 1 ≤ i.val
    · rw [dif_pos ⟨by omega, by omega⟩, dif_pos h]
      exact congrArg (fun s => P (ix2 s j)) (Fin.ext (by show 1 + i.val - 2 = i.val - 1; omega))
    · rw [dif_neg (fun h' => h (by omega)), dif_neg h]
      exact sitofp_zero

/-- The gate of the convolution. -/
def gated (U : FVec Ideal S8208x5632 .f32) : FVec Ideal S8208x2816 .f32 :=
  mulf (mulf (extractStridedSlice S8208x2816 ![0, 0] U slices_S8208x5632_S8208x2816_0_0) (Host.divf (broadcastInDim S8208x2816 ![] bcast_S_S8208x2816 (constant S_ .f32 0x3F800000#32)) (addf (broadcastInDim S8208x2816 ![] bcast_S_S8208x2816 (constant S_ .f32 0x3F800000#32)) (Host.exp (Host.negf (extractStridedSlice S8208x2816 ![0, 0] U slices_S8208x5632_S8208x2816_0_0)))))) (extractStridedSlice S8208x2816 ![0, 2816] U slices_S8208x5632_S8208x2816_0_2816)

theorem gated_apply (U : FVec Ideal S8208x5632 .f32) (i : Fin 8208) (j : Fin 2816) :
    gated U (ix2 i j) = U (ix2 i ⟨j.val, by omega⟩) * Ideal.logistic (U (ix2 i ⟨j.val, by omega⟩)) * U (ix2 i ⟨2816 + j.val, by omega⟩) := by
  unfold Ideal.logistic
  pointwise [gated]

theorem conv_apply (x : FVec Ideal S8448x1024 .f32) (w : FVec Ideal S1024x5632 .f32) (cw : FVec Ideal S5632x3 .f32) (b : FVec Ideal S5632 .f32) (i : Fin 8208) (j : Fin 5632) :
    dw (prod x w) cw b (ix2 i j) = conv x w cw b ⟨i.val + 240, by omega⟩ j := by
  rw [dw_apply, prod_apply]
  unfold conv
  have e2 : (if h : 2 ≤ i.val then prod x w (ix2 ⟨i.val - 2, by omega⟩ j) else 0) = up x w ⟨i.val + 240 - 2, by omega⟩ j := by
    by_cases h : 2 ≤ i.val
    · rw [dif_pos h, prod_apply]
      exact congrArg (fun s => up x w s j) (Fin.ext (by show i.val - 2 + 240 = i.val + 240 - 2; omega))
    · rw [dif_neg h]
      unfold up
      rw [if_neg (by dsimp only; omega)]
  have e1 : (if h : 1 ≤ i.val then prod x w (ix2 ⟨i.val - 1, by omega⟩ j) else 0) = up x w ⟨i.val + 240 - 1, by omega⟩ j := by
    by_cases h : 1 ≤ i.val
    · rw [dif_pos h, prod_apply]
      exact congrArg (fun s => up x w s j) (Fin.ext (by show i.val - 1 + 240 = i.val + 240 - 1; omega))
    · rw [dif_neg h]
      unfold up
      rw [if_neg (by dsimp only; omega)]
  rw [e2, e1, mul_comm (up x w _ j) (cw (ix2 j 0)), mul_comm (up x w _ j) (cw (ix2 j 1)), mul_comm (up x w _ j) (cw (ix2 j 2))]

theorem ref4 (x : FVec Ideal S8448x1024 .f32) (w : FVec Ideal S1024x5632 .f32) (i : Fin 8448) (j : Fin 5632) :
    ahead (prod x w) (ix2 i j) = up x w i j := by
  rw [ahead_apply]
  by_cases h : 240 ≤ i.val
  · rw [dif_pos h, prod_apply]
    exact congrArg (fun s => up x w s j) (Fin.ext (by show i.val - 240 + 240 = i.val; omega))
  · rw [dif_neg h]
    unfold up
    rw [if_neg h]

theorem back (i : Fin 8448) (h : 240 ≤ i.val) : (⟨i.val - 240 + 240, by omega⟩ : Fin 8448) = i :=
  Fin.ext (by show i.val - 240 + 240 = i.val; omega)

theorem ref5 (x : FVec Ideal S8448x1024 .f32) (w : FVec Ideal S1024x5632 .f32) (cw : FVec Ideal S5632x3 .f32) (b : FVec Ideal S5632 .f32) (i : Fin 8448) (j : Fin 5632) (h : 240 ≤ i.val) :
    ahead (dw (prod x w) cw b) (ix2 i j) = conv x w cw b i j := by
  rw [ahead_apply, dif_pos h, conv_apply]
  exact congrArg (fun s => conv x w cw b s j) (back i h)

theorem ref6 (x : FVec Ideal S8448x1024 .f32) (w : FVec Ideal S1024x5632 .f32) (cw : FVec Ideal S5632x3 .f32) (b : FVec Ideal S5632 .f32) (i : Fin 8448) (j : Fin 2816) (h : 240 ≤ i.val) :
    ahead' (gated (dw (prod x w) cw b)) (ix2 i j) = act x w cw b i j := by
  rw [ahead'_apply, dif_pos h, gated_apply, conv_apply, conv_apply]
  exact congrArg (fun s => act x w cw b s j) (back i h)

end Cert.MmUpRefIdeal.Value

namespace Cert.MmUpIdeal.Value

open Cert.MmUpIdeal Cert.MmUpIdeal.Gen Idealize.ShloMosaic Idealize.ShloMosaic.TcCoe Idealize.SL.Sem
open Cert.MmUpRefIdeal.Value

/-- A row that the claim covers is a position. -/
theorem row_of_mask (i : Fin 8448) (h : IntOp.cmpi CmpIPredicate.sge (BitVec.ofNat 32 i.val) 240#32 = 1#1) : 240 ≤ i.val :=
  (WordCmp.cmpi_sge_ofNat_eq_one_iff (w := 32) (by omega) (by decide)).mp h

theorem mask5 (x : FVec Ideal S8448x1024 .f32) (w : FVec Ideal S1024x5632 .f32) (cw : FVec Ideal S5632x3 .f32) (b : FVec Ideal S5632 .f32) (i : Fin 8448) (j : Fin 5632)
    (h : (Cert.On_ffn_up_positions.fn (F := Ideal) x w cw b).2.1 (ix2 i j) = 1#1) : 240 ≤ i.val := by
  refine row_of_mask i (Eq.trans ?_ h)
  symm
  pointwise [Cert.On_ffn_up_positions.fn]

theorem mask6 (x : FVec Ideal S8448x1024 .f32) (w : FVec Ideal S1024x5632 .f32) (cw : FVec Ideal S5632x3 .f32) (b : FVec Ideal S5632 .f32) (i : Fin 8448) (j : Fin 2816)
    (h : (Cert.On_ffn_up_positions.fn (F := Ideal) x w cw b).2.2 (ix2 i j) = 1#1) : 240 ≤ i.val := by
  refine row_of_mask i (Eq.trans ?_ h)
  symm
  pointwise [Cert.On_ffn_up_positions.fn]

/-- The two programs compute the same arrays. -/
theorem algebraic : Cert.algebraic_MmUpIdeal_MmUpRefIdeal_on_ffn_up_positions := by
  intro m g m' g' _ hargs
  refine ⟨fun c i => up (m ((c : Thread nD τ).loc main_arg0)) (m ((c : Thread nD τ).loc main_arg1)) (i 0) (i 1), fun c i => conv (m ((c : Thread nD τ).loc main_arg0)) (m ((c : Thread nD τ).loc main_arg1)) (m ((c : Thread nD τ).loc main_arg2)) (m ((c : Thread nD τ).loc main_arg3)) (i 0) (i 1), fun c i => act (m ((c : Thread nD τ).loc main_arg0)) (m ((c : Thread nD τ).loc main_arg1)) (m ((c : Thread nD τ).loc main_arg2)) (m ((c : Thread nD τ).loc main_arg3)) (i 0) (i 1),
    (θ_run defs _ _).mono (fun r h c => ⟨fun i _ => ?_, fun i hi => ?_, fun i hi => ?_, (h c).2.2.2⟩) (run_blocks (F := Ideal) m g),
    (θ_run Cert.MmUpRefIdeal.defs _ _).mono (fun r h c => ?_) (Cert.MmUpRefIdeal.Value.run (F := Ideal) m' g')⟩
  · rw [(h c).1, eq_ix2 i]
    exact end4 m c _ _
  · rw [(h c).2.1]
    rw [eq_ix2 i] at hi ⊢
    exact end5 m c _ _ (mask5 _ _ _ _ _ _ hi)
  · rw [(h c).2.2.1]
    rw [eq_ix2 i] at hi ⊢
    exact end6 m c _ _ (mask6 _ _ _ _ _ _ hi)
  · obtain ⟨a0, a1, a2, a3⟩ := hargs c
    obtain ⟨h0, h1, h2, h3⟩ := h c
    refine ⟨fun i _ => ?_, fun i hi => ?_, fun i hi => ?_, h3⟩
    · rw [a0, a1] at h0
      rw [h0.trans (Eq.trans (b := ahead (prod _ _)) rfl rfl), eq_ix2 i]
      exact ref4 _ _ _ _
    · rw [a0, a1, a2, a3] at h1
      rw [h1.trans (Eq.trans (b := ahead (dw (prod _ _) _ _)) rfl rfl)]
      rw [eq_ix2 i] at hi ⊢
      exact ref5 _ _ _ _ _ _ (mask5 _ _ _ _ _ _ hi)
    · unfold res_main_v34 at h2
      rw [a0, a1, a2, a3] at h2
      rw [h2.trans (Eq.trans (b := ahead' (gated (dw (prod _ _) _ _))) rfl rfl)]
      rw [eq_ix2 i] at hi ⊢
      exact ref6 _ _ _ _ _ _ (mask6 _ _ _ _ _ _ hi)

end Cert.MmUpIdeal.Value

end
-- ==== Proof.LnRow.lean ====
/-
  One row of a layer norm over 1024 columns, on the extended reals: its mean, its centred entries, the reciprocal of its
  deviation, its normalised entries and its result.
-/
module

public import Idealize.ShloMosaic.Lib.Pointwise

@[expose] public section

noncomputable section

namespace Cert.LnRow

open Idealize.ShloMosaic

/-- The scaled residual and the product, summed. -/
def pre {n : ℕ} (x : EReal) (a w : Fin n → EReal) : EReal :=
  Ideal.ofBits .f32 0x3FB504F3#32 * x + ∑ k : Fin n, a k * w k

/-- An entry less the mean of its row. -/
def centred (z : Fin 1024 → EReal) (j : Fin 1024) : EReal :=
  z j - Ideal.div (∑ k, z k) (Ideal.ofBits .f32 0x44800000#32)

/-- The reciprocal of the row's deviation. -/
def recip (z : Fin 1024 → EReal) : EReal :=
  Ideal.rsqrt (Ideal.div (∑ k, centred z k * centred z k) (Ideal.ofBits .f32 0x44800000#32) + Ideal.ofBits .f32 0x3727C5AC#32)

/-- The normalised entry. -/
def normed (z : Fin 1024 → EReal) (j : Fin 1024) : EReal := centred z j * recip z

/-- The result's entry, scaled and shifted. -/
def result (z : Fin 1024 → EReal) (g b : EReal) (j : Fin 1024) : EReal := normed z j * g + b

end Cert.LnRow

end
-- ==== Proof.MmO.lean ====
/-
  The mixer's output projection followed by its layer norm, `layer_norm(α x + a w)`, in row tiles of 384 rows.
-/
module

public import proofs.«01_k».proof.Defs
public import proofs.«01_k».proof.Proof.LnRow
public import proofs.«01_k».proof.Proof.Gen.MmOIdeal.Value
public import proofs.«01_k».proof.Proof.Gen.MmORefIdeal.Run
public import Idealize.ShloMosaic.Lib.Pointwise

@[expose] public section

set_option maxRecDepth 16384

noncomputable section

namespace Cert.MmOIdeal.Value

open Cert.MmOIdeal Cert.MmOIdeal.Gen Idealize.ShloMosaic Idealize.ShloMosaic.TcCoe Idealize.SL.Sem
open Cert.LnRow

/-! ## One point's blocks -/

theorem hz : (![0, 0] : Fin 2 → Nat) = fun _ => 0 := funext fun a => by fin_cases a <;> rfl

/-- The row that is normalised, of a point's blocks. -/
def zrow (x : Vec Ideal S384x1024 .f32) (a : Vec Ideal S384x1024 .bf16) (w : Vec Ideal S1024x1024 .bf16) (r : Fin 384) (j : Fin 1024) : EReal :=
  pre (x (ix2 r j)) (fun k => a (ix2 r k)) (fun k => w (ix2 k j))

theorem pay1_apply (x : Vec Ideal S384x1024 .f32) (a : Vec Ideal S384x1024 .bf16) (w : Vec Ideal S1024x1024 .bf16) (r : Fin 384) (j : Fin 1024) :
    k0_pay1 x a w (ix2 r j) = centred (zrow x a w r) j := by
  unfold centred zrow pre
  pointwise [k0_pay1]

theorem pay2_apply (x : Vec Ideal S384x1024 .f32) (a : Vec Ideal S384x1024 .bf16) (w : Vec Ideal S1024x1024 .bf16) (r : Fin 384) (j : Fin 1) :
    k0_pay2 x a w (ix2 r j) = recip (zrow x a w r) := by
  obtain rfl : j = 0 := Subsingleton.elim _ _
  unfold recip
  simp only [← pay1_apply]
  pointwise [k0_pay2]

theorem pay3_apply (x : Vec Ideal S384x1024 .f32) (a : Vec Ideal S384x1024 .bf16) (w : Vec Ideal S1024x1024 .bf16) (r : Fin 384) (j : Fin 1024) :
    k0_pay3 x a w (ix2 r j) = normed (zrow x a w r) j := by
  unfold normed
  rw [← pay1_apply, ← pay2_apply x a w r 0]
  pointwise [k0_pay3]

theorem pay4_apply (x : Vec Ideal S384x1024 .f32) (a : Vec Ideal S384x1024 .bf16) (w : Vec Ideal S1024x1024 .bf16) (g b : Vec Ideal S1x1024 .f32) (r : Fin 384) (j : Fin 1024) :
    k0_pay4 x a w g b (ix2 r j) = result (zrow x a w r) (g (ix2 0 j)) (b (ix2 0 j)) j := by
  unfold result
  rw [← pay3_apply]
  pointwise [k0_pay4]

variable (m : (ℓ : Loc nD τ sig) → Buf (Elt Ideal) ℓ)

theorem row_lt (t : Fin cfg0.N) (r : Fin 384) : t.val * 384 + r.val < 8448 := by
  have := lt_of_lt_of_eq t.isLt (N_0 : cfg0.N = 22)
  omega

/-- The weights are cast before the call, which over the reals changes nothing. -/
theorem V_main_v0 (c : Dev nD) : V m c main_v0 = m ((c : Thread nD τ).loc main_arg1) := by
  show StableHlo.after hostOps0 _ _ = _
  after_results <;> rfl

theorem V_main_v1 (c : Dev nD) (i : Fin 1) (j : Fin 1024) : V m c main_v1 (ix2 i j) = m ((c : Thread nD τ).loc main_arg3) (ix1 j) := by
  obtain rfl : i = 0 := Subsingleton.elim _ _
  have h : V m c main_v1 = shapeCast _ (m ((c : Thread nD τ).loc main_arg3)) shapeCasts_S1024_S1x1024 := by
    show StableHlo.after hostOps0 _ _ = _
    after_results <;> rfl
  rw [h]
  generalize m ((c : Thread nD τ).loc main_arg3) = v
  pointwise

theorem V_main_v2 (c : Dev nD) (i : Fin 1) (j : Fin 1024) : V m c main_v2 (ix2 i j) = m ((c : Thread nD τ).loc main_arg4) (ix1 j) := by
  obtain rfl : i = 0 := Subsingleton.elim _ _
  have h : V m c main_v2 = shapeCast _ (m ((c : Thread nD τ).loc main_arg4)) shapeCasts_S1024_S1x1024 := by
    show StableHlo.after hostOps0 _ _ = _
    after_results <;> rfl
  rw [h]
  generalize m ((c : Thread nD τ).loc main_arg4) = v
  pointwise

/-- Window 0 moves down one row tile per point. -/
theorem idx0 : ∀ t : Fin cfg0.N, win0_0.index t (0 : Fin 2) = t.val ∧ win0_0.index t (1 : Fin 2) = 0 :=
  (by decide +kernel : ∀ t : Fin grid0.N, _)

/-- Window 1 holds its whole array at every point. -/
theorem idx1 : ∀ t : Fin cfg0.N, win0_1.index t (0 : Fin 2) = 0 ∧ win0_1.index t (1 : Fin 2) = 0 :=
  (by decide +kernel : ∀ t : Fin grid0.N, _)

/-- Window 2 moves down one row tile per point. -/
theorem idx2 : ∀ t : Fin cfg0.N, win0_2.index t (0 : Fin 2) = t.val ∧ win0_2.index t (1 : Fin 2) = 0 :=
  (by decide +kernel : ∀ t : Fin grid0.N, _)

/-- Window 3 holds its whole array at every point. -/
theorem idx3 : ∀ t : Fin cfg0.N, win0_3.index t (0 : Fin 2) = 0 ∧ win0_3.index t (1 : Fin 2) = 0 :=
  (by decide +kernel : ∀ t : Fin grid0.N, _)

/-- Window 4 holds its whole array at every point. -/
theorem idx4 : ∀ t : Fin cfg0.N, win0_4.index t (0 : Fin 2) = 0 ∧ win0_4.index t (1 : Fin 2) = 0 :=
  (by decide +kernel : ∀ t : Fin grid0.N, _)

/-- Window 5 moves down one row tile per point. -/
theorem idx5 : ∀ t : Fin cfg0.N, win0_5.index t (0 : Fin 2) = t.val ∧ win0_5.index t (1 : Fin 2) = 0 :=
  (by decide +kernel : ∀ t : Fin grid0.N, _)

/-- Window 6 moves down one row tile per point. -/
theorem idx6 : ∀ t : Fin cfg0.N, win0_6.index t (0 : Fin 2) = t.val ∧ win0_6.index t (1 : Fin 2) = 0 :=
  (by decide +kernel : ∀ t : Fin grid0.N, _)

/-- Window 7 moves down one row tile per point. -/
theorem idx7 : ∀ t : Fin cfg0.N, win0_7.index t (0 : Fin 2) = t.val ∧ win0_7.index t (1 : Fin 2) = 0 :=
  (by decide +kernel : ∀ t : Fin grid0.N, _)

theorem iblk0_apply (c : Dev nD) (t : Fin cfg0.N) (r : Fin 384) (k : Fin 1024) :
    iblk m c 0 t (ix2 r k) = m ((c : Thread nD τ).loc main_arg0) (ix2 ⟨t.val * 384 + r.val, row_lt t r⟩ k) := by
  obtain ⟨e0, e1⟩ := idx0 t
  show V m c main_arg0 (((cfg0.win 0).blk t).view.emb (ix2 r k)) = _
  rw [V_main_arg0]
  refine congrArg _ (funext fun a => Fin.ext ?_)
  match a with
  | ⟨0, _⟩ => show win0_0.index t (0 : Fin 2) * 384 + 1 * r.val = t.val * 384 + r.val; rw [e0]; omega
  | ⟨1, _⟩ => show win0_0.index t (1 : Fin 2) * 1024 + 1 * k.val = k.val; rw [e1]; omega

theorem iblk1_apply (c : Dev nD) (t : Fin cfg0.N) (j : Fin 1024) (k : Fin 1024) :
    iblk m c 1 t (ix2 j k) = m ((c : Thread nD τ).loc main_arg1) (ix2 j k) := by
  obtain ⟨e0, e1⟩ := idx1 t
  refine Eq.trans (b := V m c main_v0 (ix2 j k)) ?_ (congrFun (V_main_v0 m c) _)
  show V m c main_v0 (((cfg0.win 1).blk t).view.emb (ix2 j k)) = _
  refine congrArg _ (funext fun a => Fin.ext ?_)
  match a with
  | ⟨0, _⟩ => show win0_1.index t (0 : Fin 2) * 1024 + 1 * j.val = j.val; rw [e0]; omega
  | ⟨1, _⟩ => show win0_1.index t (1 : Fin 2) * 1024 + 1 * k.val = k.val; rw [e1]; omega

theorem iblk2_apply (c : Dev nD) (t : Fin cfg0.N) (r : Fin 384) (k : Fin 1024) :
    iblk m c 2 t (ix2 r k) = m ((c : Thread nD τ).loc main_arg2) (ix2 ⟨t.val * 384 + r.val, row_lt t r⟩ k) := by
  obtain ⟨e0, e1⟩ := idx2 t
  show V m c main_arg2 (((cfg0.win 2).blk t).view.emb (ix2 r k)) = _
  rw [V_main_arg2]
  refine congrArg _ (funext fun a => Fin.ext ?_)
  match a with
  | ⟨0, _⟩ => show win0_2.index t (0 : Fin 2) * 384 + 1 * r.val = t.val * 384 + r.val; rw [e0]; omega
  | ⟨1, _⟩ => show win0_2.index t (1 : Fin 2) * 1024 + 1 * k.val = k.val; rw [e1]; omega

theorem iblk3_apply (c : Dev nD) (t : Fin cfg0.N) (j : Fin 1) (k : Fin 1024) :
    iblk m c 3 t (ix2 j k) = m ((c : Thread nD τ).loc main_arg3) (ix1 k) := by
  obtain ⟨e0, e1⟩ := idx3 t
  refine Eq.trans (b := V m c main_v1 (ix2 j k)) ?_ (V_main_v1 m c j k)
  show V m c main_v1 (((cfg0.win 3).blk t).view.emb (ix2 j k)) = _
  refine congrArg _ (funext fun a => Fin.ext ?_)
  match a with
  | ⟨0, _⟩ => show win0_3.index t (0 : Fin 2) * 1 + 1 * j.val = j.val; rw [e0]; omega
  | ⟨1, _⟩ => show win0_3.index t (1 : Fin 2) * 1024 + 1 * k.val = k.val; rw [e1]; omega

theorem iblk4_apply (c : Dev nD) (t : Fin cfg0.N) (j : Fin 1) (k : Fin 1024) :
    iblk m c 4 t (ix2 j k) = m ((c : Thread nD τ).loc main_arg4) (ix1 k) := by
  obtain ⟨e0, e1⟩ := idx4 t
  refine Eq.trans (b := V m c main_v2 (ix2 j k)) ?_ (V_main_v2 m c j k)
  show V m c main_v2 (((cfg0.win 4).blk t).view.emb (ix2 j k)) = _
  refine congrArg _ (funext fun a => Fin.ext ?_)
  match a with
  | ⟨0, _⟩ => show win0_4.index t (0 : Fin 2) * 1 + 1 * j.val = j.val; rw [e0]; omega
  | ⟨1, _⟩ => show win0_4.index t (1 : Fin 2) * 1024 + 1 * k.val = k.val; rw [e1]; omega

/-! ## The whole arrays -/

/-- The row that is normalised, of the arguments. -/
def zed (a : FVec Ideal S8448x1024 .bf16) (w : FVec Ideal S1024x1024 .f32) (x : FVec Ideal S8448x1024 .f32) (i : Fin 8448) (j : Fin 1024) : EReal :=
  pre (x (ix2 i j)) (fun k => a (ix2 i k)) (fun k => w (ix2 k j))

theorem zrow_eq (c : Dev nD) (t : Fin cfg0.N) (r : Fin 384) :
    zrow (iblk m c 2 t) (iblk m c 0 t) (iblk m c 1 t) r = zed (m ((c : Thread nD τ).loc main_arg0)) (m ((c : Thread nD τ).loc main_arg1)) (m ((c : Thread nD τ).loc main_arg2)) ⟨t.val * 384 + r.val, row_lt t r⟩ := by
  funext j
  unfold zrow zed
  rw [iblk2_apply]
  congr 1
  · exact funext fun k => iblk0_apply m c t r k
  · exact funext fun k => iblk1_apply m c t k j

/-- The normed rows, scaled and shifted. -/
def G5 (c : Dev nD) : Buf (Elt Ideal) ((c : Thread nD τ).loc main_v3_0) := fun i =>
  result (zed (m ((c : Thread nD τ).loc main_arg0)) (m ((c : Thread nD τ).loc main_arg1)) (m ((c : Thread nD τ).loc main_arg2)) (i 0)) (m ((c : Thread nD τ).loc main_arg3) (ix1 (i 1))) (m ((c : Thread nD τ).loc main_arg4) (ix1 (i 1))) (i 1)

/-- The normed rows. -/
def G6 (c : Dev nD) : Buf (Elt Ideal) ((c : Thread nD τ).loc main_v3_1) := fun i =>
  normed (zed (m ((c : Thread nD τ).loc main_arg0)) (m ((c : Thread nD τ).loc main_arg1)) (m ((c : Thread nD τ).loc main_arg2)) (i 0)) (i 1)

/-- The reciprocals of the deviations. -/
def G7 (c : Dev nD) : Buf (Elt Ideal) ((c : Thread nD τ).loc main_v3_2) := fun i =>
  recip (zed (m ((c : Thread nD τ).loc main_arg0)) (m ((c : Thread nD τ).loc main_arg1)) (m ((c : Thread nD τ).loc main_arg2)) (i 0))

theorem out5_eq (a : Vec Ideal S384x1024 .bf16) (w : Vec Ideal S1024x1024 .bf16) (x : Vec Ideal S384x1024 .f32) (g b : Vec Ideal S1x1024 .f32) : out0_5 a w x g b = k0_pay4 x a w g b := by
  unfold out0_5
  simp only [View.ld_unit_zero (S := S384x1024) hz, View.ld_unit_zero (S := S1024x1024) hz, View.ld_unit_zero (S := S1x1024) hz]
  exact View.canon_unit_zero (S := S384x1024) hz _ _

theorem flushed5_apply (c : Dev nD) (t : Fin cfg0.N) (r : Fin 384) (j : Fin 1024) :
    out0_5 (iblk m c 0 t) (iblk m c 1 t) (iblk m c 2 t) (iblk m c 3 t) (iblk m c 4 t) (ix2 r j) = result (zed (m ((c : Thread nD τ).loc main_arg0)) (m ((c : Thread nD τ).loc main_arg1)) (m ((c : Thread nD τ).loc main_arg2)) ⟨t.val * 384 + r.val, row_lt t r⟩) (m ((c : Thread nD τ).loc main_arg3) (ix1 j)) (m ((c : Thread nD τ).loc main_arg4) (ix1 j)) j := by
  rw [out5_eq, pay4_apply, zrow_eq, iblk3_apply, iblk4_apply]

/-- What point `t` writes back to window 5 is its block of that array. -/
theorem flushed5_eq (c : Dev nD) (t : Fin cfg0.N) :
    (dats m 0 c).flushed 5 t = ((cfg0.win 5).blk t).view.read (Elt Ideal) (G5 m c) := by
  rw [flushed5]
  have hb := flushed5_apply m c t
  generalize out0_5 (iblk m c 0 t) (iblk m c 1 t) (iblk m c 2 t) (iblk m c 3 t) (iblk m c 4 t) = b at hb ⊢
  funext y
  obtain ⟨e0, e1⟩ := idx5 t
  have hi : ((cfg0.win 5).blk t).view.emb y = (ix2 ⟨t.val * 384 + (y 0).val, row_lt t (y 0)⟩ (y 1) : S8448x1024.Idx) := by
    refine funext fun a => Fin.ext ?_
    match a with
    | ⟨0, _⟩ => show win0_5.index t (0 : Fin 2) * 384 + 1 * (y 0).val = t.val * 384 + (y 0).val; rw [e0]; omega
    | ⟨1, _⟩ => show win0_5.index t (1 : Fin 2) * 1024 + 1 * (y 1).val = (y 1).val; rw [e1]; omega
  show b y = G5 m c (((cfg0.win 5).blk t).view.emb y)
  rw [hi]
  exact (congrArg b (eq_ix2 y)).trans (hb (y 0) (y 1))

/-- The row tiles cover the array of window 5. -/
theorem cover5 (i : S8448x1024.Idx) : ∃ t : Fin cfg0.N, (cfg0.win 5).flush t = true ∧ i ∈ ((cfg0.win 5).blk t).view.set := by
  have h0 : (i 0).val < 8448 := (i 0).isLt
  have h1 : (i 1).val < 1024 := (i 1).isLt
  have hN : cfg0.N = 22 := N_0
  obtain ⟨t, ht⟩ : ∃ t : Fin cfg0.N, t.val = (i 0).val / 384 := ⟨⟨(i 0).val / 384, by omega⟩, rfl⟩
  obtain ⟨e0, e1⟩ := idx5 t
  refine ⟨t, (flush0_5 t), ?_⟩
  show i ∈ ((View.whole main_v3_0).slice (win0_5.rect t)).set
  rw [View.set_slice_whole, Rect.mem_set_unit]
  intro a
  match a with
  | ⟨0, _⟩ => show win0_5.index t (0 : Fin 2) * 384 ≤ (i 0).val ∧ (i 0).val < win0_5.index t (0 : Fin 2) * 384 + 384; rw [e0]; omega
  | ⟨1, _⟩ => show win0_5.index t (1 : Fin 2) * 1024 ≤ (i 1).val ∧ (i 1).val < win0_5.index t (1 : Fin 2) * 1024 + 1024; rw [e1]; omega

theorem final5 (c : Dev nD) : (dats m 0 c).arrAt 5 cfg0.N = G5 m c :=
  (dats m 0 c).arrAt_eq_of_cover 5 (G5 m c) (fun t _ => flushed5_eq m c t) cover5

theorem out6_eq (a : Vec Ideal S384x1024 .bf16) (w : Vec Ideal S1024x1024 .bf16) (x : Vec Ideal S384x1024 .f32) (g b : Vec Ideal S1x1024 .f32) : out0_6 a w x g b = k0_pay3 x a w := by
  unfold out0_6
  simp only [View.ld_unit_zero (S := S384x1024) hz, View.ld_unit_zero (S := S1024x1024) hz]
  exact View.canon_unit_zero (S := S384x1024) hz _ _

theorem flushed6_apply (c : Dev nD) (t : Fin cfg0.N) (r : Fin 384) (j : Fin 1024) :
    out0_6 (iblk m c 0 t) (iblk m c 1 t) (iblk m c 2 t) (iblk m c 3 t) (iblk m c 4 t) (ix2 r j) = normed (zed (m ((c : Thread nD τ).loc main_arg0)) (m ((c : Thread nD τ).loc main_arg1)) (m ((c : Thread nD τ).loc main_arg2)) ⟨t.val * 384 + r.val, row_lt t r⟩) j := by
  rw [out6_eq, pay3_apply, zrow_eq]

/-- What point `t` writes back to window 6 is its block of that array. -/
theorem flushed6_eq (c : Dev nD) (t : Fin cfg0.N) :
    (dats m 0 c).flushed 6 t = ((cfg0.win 6).blk t).view.read (Elt Ideal) (G6 m c) := by
  rw [flushed6]
  have hb := flushed6_apply m c t
  generalize out0_6 (iblk m c 0 t) (iblk m c 1 t) (iblk m c 2 t) (iblk m c 3 t) (iblk m c 4 t) = b at hb ⊢
  funext y
  obtain ⟨e0, e1⟩ := idx6 t
  have hi : ((cfg0.win 6).blk t).view.emb y = (ix2 ⟨t.val * 384 + (y 0).val, row_lt t (y 0)⟩ (y 1) : S8448x1024.Idx) := by
    refine funext fun a => Fin.ext ?_
    match a with
    | ⟨0, _⟩ => show win0_6.index t (0 : Fin 2) * 384 + 1 * (y 0).val = t.val * 384 + (y 0).val; rw [e0]; omega
    | ⟨1, _⟩ => show win0_6.index t (1 : Fin 2) * 1024 + 1 * (y 1).val = (y 1).val; rw [e1]; omega
  show b y = G6 m c (((cfg0.win 6).blk t).view.emb y)
  rw [hi]
  exact (congrArg b (eq_ix2 y)).trans (hb (y 0) (y 1))

/-- The row tiles cover the array of window 6. -/
theorem cover6 (i : S8448x1024.Idx) : ∃ t : Fin cfg0.N, (cfg0.win 6).flush t = true ∧ i ∈ ((cfg0.win 6).blk t).view.set := by
  have h0 : (i 0).val < 8448 := (i 0).isLt
  have h1 : (i 1).val < 1024 := (i 1).isLt
  have hN : cfg0.N = 22 := N_0
  obtain ⟨t, ht⟩ : ∃ t : Fin cfg0.N, t.val = (i 0).val / 384 := ⟨⟨(i 0).val / 384, by omega⟩, rfl⟩
  obtain ⟨e0, e1⟩ := idx6 t
  refine ⟨t, (flush0_6 t), ?_⟩
  show i ∈ ((View.whole main_v3_1).slice (win0_6.rect t)).set
  rw [View.set_slice_whole, Rect.mem_set_unit]
  intro a
  match a with
  | ⟨0, _⟩ => show win0_6.index t (0 : Fin 2) * 384 ≤ (i 0).val ∧ (i 0).val < win0_6.index t (0 : Fin 2) * 384 + 384; rw [e0]; omega
  | ⟨1, _⟩ => show win0_6.index t (1 : Fin 2) * 1024 ≤ (i 1).val ∧ (i 1).val < win0_6.index t (1 : Fin 2) * 1024 + 1024; rw [e1]; omega

theorem final6 (c : Dev nD) : (dats m 0 c).arrAt 6 cfg0.N = G6 m c :=
  (dats m 0 c).arrAt_eq_of_cover 6 (G6 m c) (fun t _ => flushed6_eq m c t) cover6

theorem out7_eq (a : Vec Ideal S384x1024 .bf16) (w : Vec Ideal S1024x1024 .bf16) (x : Vec Ideal S384x1024 .f32) (g b : Vec Ideal S1x1024 .f32) : out0_7 a w x g b = k0_pay2 x a w := by
  unfold out0_7
  simp only [View.ld_unit_zero (S := S384x1024) hz, View.ld_unit_zero (S := S1024x1024) hz]
  exact View.canon_unit_zero (S := S384x1) hz _ _

theorem flushed7_apply (c : Dev nD) (t : Fin cfg0.N) (r : Fin 384) (j : Fin 1) :
    out0_7 (iblk m c 0 t) (iblk m c 1 t) (iblk m c 2 t) (iblk m c 3 t) (iblk m c 4 t) (ix2 r j) = recip (zed (m ((c : Thread nD τ).loc main_arg0)) (m ((c : Thread nD τ).loc main_arg1)) (m ((c : Thread nD τ).loc main_arg2)) ⟨t.val * 384 + r.val, row_lt t r⟩) := by
  rw [out7_eq, pay2_apply, zrow_eq]

/-- What point `t` writes back to window 7 is its block of that array. -/
theorem flushed7_eq (c : Dev nD) (t : Fin cfg0.N) :
    (dats m 0 c).flushed 7 t = ((cfg0.win 7).blk t).view.read (Elt Ideal) (G7 m c) := by
  rw [flushed7]
  have hb := flushed7_apply m c t
  generalize out0_7 (iblk m c 0 t) (iblk m c 1 t) (iblk m c 2 t) (iblk m c 3 t) (iblk m c 4 t) = b at hb ⊢
  funext y
  obtain ⟨e0, e1⟩ := idx7 t
  have hi : ((cfg0.win 7).blk t).view.emb y = (ix2 ⟨t.val * 384 + (y 0).val, row_lt t (y 0)⟩ (y 1) : S8448x1.Idx) := by
    refine funext fun a => Fin.ext ?_
    match a with
    | ⟨0, _⟩ => show win0_7.index t (0 : Fin 2) * 384 + 1 * (y 0).val = t.val * 384 + (y 0).val; rw [e0]; omega
    | ⟨1, _⟩ => show win0_7.index t (1 : Fin 2) * 1 + 1 * (y 1).val = (y 1).val; rw [e1]; omega
  show b y = G7 m c (((cfg0.win 7).blk t).view.emb y)
  rw [hi]
  exact (congrArg b (eq_ix2 y)).trans (hb (y 0) (y 1))

/-- The row tiles cover the array of window 7. -/
theorem cover7 (i : S8448x1.Idx) : ∃ t : Fin cfg0.N, (cfg0.win 7).flush t = true ∧ i ∈ ((cfg0.win 7).blk t).view.set := by
  have h0 : (i 0).val < 8448 := (i 0).isLt
  have h1 : (i 1).val < 1 := (i 1).isLt
  have hN : cfg0.N = 22 := N_0
  obtain ⟨t, ht⟩ : ∃ t : Fin cfg0.N, t.val = (i 0).val / 384 := ⟨⟨(i 0).val / 384, by omega⟩, rfl⟩
  obtain ⟨e0, e1⟩ := idx7 t
  refine ⟨t, (flush0_7 t), ?_⟩
  show i ∈ ((View.whole main_v3_2).slice (win0_7.rect t)).set
  rw [View.set_slice_whole, Rect.mem_set_unit]
  intro a
  match a with
  | ⟨0, _⟩ => show win0_7.index t (0 : Fin 2) * 384 ≤ (i 0).val ∧ (i 0).val < win0_7.index t (0 : Fin 2) * 384 + 384; rw [e0]; omega
  | ⟨1, _⟩ => show win0_7.index t (1 : Fin 2) * 1 ≤ (i 1).val ∧ (i 1).val < win0_7.index t (1 : Fin 2) * 1 + 1; rw [e1]; omega

theorem final7 (c : Dev nD) : (dats m 0 c).arrAt 7 cfg0.N = G7 m c :=
  (dats m 0 c).arrAt_eq_of_cover 7 (G7 m c) (fun t _ => flushed7_eq m c t) cover7

end Cert.MmOIdeal.Value

/-! ## The reference -/

namespace Cert.MmORefIdeal.Value

open Cert.MmORefIdeal Cert.MmORefIdeal.Gen Idealize.ShloMosaic Idealize.ShloMosaic.TcCoe Idealize.SL.Sem
open Cert.LnRow

/-- The rows that are normalised. -/
def rz (a : FVec Ideal S8448x1024 .bf16) (w : FVec Ideal S1024x1024 .f32) (x : FVec Ideal S8448x1024 .f32) : FVec Ideal S8448x1024 .f32 :=
  (addf (mulf (broadcastInDim S8448x1024 ![] bcast_S_S8448x1024 (constant S_ .f32 0x3FB504F3#32)) x) (Host.dotGeneral dot_S8448x1024_S1024x1024_S8448x1024_1_0_0_1_n_n none (extf .f32 a (by decide)) w))

theorem rz_apply (a : FVec Ideal S8448x1024 .bf16) (w : FVec Ideal S1024x1024 .f32) (x : FVec Ideal S8448x1024 .f32) (i : Fin 8448) (j : Fin 1024) :
    rz a w x (ix2 i j) = Cert.MmOIdeal.Value.zed a w x i j := by
  unfold Cert.MmOIdeal.Value.zed pre
  pointwise [rz]

def rc (Z : FVec Ideal S8448x1024 .f32) : FVec Ideal S8448x1024 .f32 :=
  (subf Z (broadcastInDim S8448x1024 ![0, 1] bcast_S8448x1_S8448x1024_0_1 (Host.divf (broadcastInDim S8448x1 ![0] bcast_S8448_S8448x1_0 (Host.reduceAdd Z (constant S_ .f32 0x00000000#32) reducesTo_S8448x1024_S8448_d1 h_S_)) (broadcastInDim S8448x1 ![] bcast_S_S8448x1 (constant S_ .f32 0x44800000#32)))))

theorem rc_apply (Z : FVec Ideal S8448x1024 .f32) (i : Fin 8448) (j : Fin 1024) : rc Z (ix2 i j) = centred (fun k => Z (ix2 i k)) j := by
  unfold centred
  pointwise [rc]

def rr (C : FVec Ideal S8448x1024 .f32) : FVec Ideal S8448x1 .f32 :=
  (Host.rsqrt (addf (Host.divf (broadcastInDim S8448x1 ![0] bcast_S8448_S8448x1_0 (Host.reduceAdd (mulf C C) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32))))

theorem rr_apply (Z : FVec Ideal S8448x1024 .f32) (i : Fin 8448) (j : Fin 1) : rr (rc Z) (ix2 i j) = recip (fun k => Z (ix2 i k)) := by
  obtain rfl : j = 0 := Subsingleton.elim _ _
  unfold recip
  simp only [← rc_apply]
  generalize rc Z = C
  pointwise [rr]

def rn (C : FVec Ideal S8448x1024 .f32) (r : FVec Ideal S8448x1 .f32) : FVec Ideal S8448x1024 .f32 :=
  mulf C (broadcastInDim S8448x1024 ![0, 1] bcast_S8448x1_S8448x1024_0_1 r)

theorem rn_apply (Z : FVec Ideal S8448x1024 .f32) (i : Fin 8448) (j : Fin 1024) : rn (rc Z) (rr (rc Z)) (ix2 i j) = normed (fun k => Z (ix2 i k)) j := by
  unfold normed
  rw [← rc_apply, ← rr_apply Z i 0]
  generalize rc Z = C
  pointwise [rn]

def ro (n : FVec Ideal S8448x1024 .f32) (g b : FVec Ideal S1024 .f32) : FVec Ideal S8448x1024 .f32 :=
  addf (mulf n (broadcastInDim S8448x1024 ![0, 1] bcast_S1x1024_S8448x1024_0_1 (broadcastInDim S1x1024 ![1] bcast_S1024_S1x1024_1 g)))
    (broadcastInDim S8448x1024 ![0, 1] bcast_S1x1024_S8448x1024_0_1 (broadcastInDim S1x1024 ![1] bcast_S1024_S1x1024_1 b))

theorem ro_apply (Z : FVec Ideal S8448x1024 .f32) (g b : FVec Ideal S1024 .f32) (i : Fin 8448) (j : Fin 1024) :
    ro (rn (rc Z) (rr (rc Z))) g b (ix2 i j) = result (fun k => Z (ix2 i k)) (g (ix1 j)) (b (ix1 j)) j := by
  unfold result
  rw [← rn_apply]
  generalize rn (rc Z) (rr (rc Z)) = C
  pointwise [ro]

end Cert.MmORefIdeal.Value

namespace Cert.MmOIdeal.Value

open Cert.MmOIdeal Cert.MmOIdeal.Gen Idealize.ShloMosaic Idealize.ShloMosaic.TcCoe Idealize.SL.Sem
open Cert.LnRow Cert.MmORefIdeal.Value

/-- The two programs compute the same arrays. -/
theorem algebraic : Cert.algebraic_MmOIdeal_MmORefIdeal := by
  intro m g m' g' _ hargs
  refine ⟨fun c => G5 m c, fun c => G6 m c, fun c => G7 m c,
    (θ_run defs _ _).mono (fun r h c => ⟨(h c).1.trans (final5 m c), (h c).2.1.trans (final6 m c), (h c).2.2.1.trans (final7 m c), (h c).2.2.2⟩) (run_blocks (F := Ideal) m g),
    (θ_run Cert.MmORefIdeal.defs _ _).mono (fun r h c => ?_) (Cert.MmORefIdeal.Value.run (F := Ideal) m' g')⟩
  obtain ⟨a0, a1, a2, a3, a4⟩ := hargs c
  obtain ⟨h0, h1, h2, h3⟩ := h c
  rw [a0, a1, a2, a3, a4] at h0
  rw [a0, a1, a2] at h1 h2
  refine ⟨h0.trans (Eq.trans (b := ro (rn (rc (rz _ _ _)) (rr (rc (rz _ _ _)))) _ _) rfl ?_), h1.trans (Eq.trans (b := rn (rc (rz _ _ _)) (rr (rc (rz _ _ _)))) rfl ?_),
    h2.trans (Eq.trans (b := rr (rc (rz _ _ _))) rfl ?_), h3⟩
  · funext j
    rw [eq_ix2 j]
    exact (ro_apply _ _ _ _ _).trans (congrArg (fun z => result z _ _ _) (funext fun k => rz_apply _ _ _ _ k))
  · funext j
    rw [eq_ix2 j]
    exact (rn_apply _ _ _).trans (congrArg (fun z => normed z _) (funext fun k => rz_apply _ _ _ _ k))
  · funext j
    rw [eq_ix2 j]
    exact (rr_apply _ _ _).trans (congrArg recip (funext fun k => rz_apply _ _ _ _ k))

end Cert.MmOIdeal.Value

end
-- ==== Proof.MmDown.lean ====
/-
  The channel mixer's output projection followed by its layer norm, `layer_norm(α x + a w)`, in row tiles of 384 rows.
-/
module

public import proofs.«01_k».proof.Defs
public import proofs.«01_k».proof.Proof.LnRow
public import proofs.«01_k».proof.Proof.Gen.MmDownIdeal.Value
public import proofs.«01_k».proof.Proof.Gen.MmDownRefIdeal.Run
public import Idealize.ShloMosaic.Lib.Pointwise

@[expose] public section

set_option maxRecDepth 16384

noncomputable section

namespace Cert.MmDownIdeal.Value

open Cert.MmDownIdeal Cert.MmDownIdeal.Gen Idealize.ShloMosaic Idealize.ShloMosaic.TcCoe Idealize.SL.Sem
open Cert.LnRow

/-! ## One point's blocks -/

theorem hz : (![0, 0] : Fin 2 → Nat) = fun _ => 0 := funext fun a => by fin_cases a <;> rfl

/-- The row that is normalised, of a point's blocks. -/
def zrow (x : Vec Ideal S384x1024 .f32) (a : Vec Ideal S384x2816 .bf16) (w : Vec Ideal S2816x1024 .bf16) (r : Fin 384) (j : Fin 1024) : EReal :=
  pre (x (ix2 r j)) (fun k => a (ix2 r k)) (fun k => w (ix2 k j))

theorem pay1_apply (x : Vec Ideal S384x1024 .f32) (a : Vec Ideal S384x2816 .bf16) (w : Vec Ideal S2816x1024 .bf16) (r : Fin 384) (j : Fin 1024) :
    k0_pay1 x a w (ix2 r j) = centred (zrow x a w r) j := by
  unfold centred zrow pre
  pointwise [k0_pay1]

theorem pay2_apply (x : Vec Ideal S384x1024 .f32) (a : Vec Ideal S384x2816 .bf16) (w : Vec Ideal S2816x1024 .bf16) (r : Fin 384) (j : Fin 1) :
    k0_pay2 x a w (ix2 r j) = recip (zrow x a w r) := by
  obtain rfl : j = 0 := Subsingleton.elim _ _
  unfold recip
  simp only [← pay1_apply]
  pointwise [k0_pay2]

theorem pay3_apply (x : Vec Ideal S384x1024 .f32) (a : Vec Ideal S384x2816 .bf16) (w : Vec Ideal S2816x1024 .bf16) (r : Fin 384) (j : Fin 1024) :
    k0_pay3 x a w (ix2 r j) = normed (zrow x a w r) j := by
  unfold normed
  rw [← pay1_apply, ← pay2_apply x a w r 0]
  pointwise [k0_pay3]

theorem pay4_apply (x : Vec Ideal S384x1024 .f32) (a : Vec Ideal S384x2816 .bf16) (w : Vec Ideal S2816x1024 .bf16) (g b : Vec Ideal S1x1024 .f32) (r : Fin 384) (j : Fin 1024) :
    k0_pay4 x a w g b (ix2 r j) = result (zrow x a w r) (g (ix2 0 j)) (b (ix2 0 j)) j := by
  unfold result
  rw [← pay3_apply]
  pointwise [k0_pay4]

variable (m : (ℓ : Loc nD τ sig) → Buf (Elt Ideal) ℓ)

theorem row_lt (t : Fin cfg0.N) (r : Fin 384) : t.val * 384 + r.val < 8448 := by
  have := lt_of_lt_of_eq t.isLt (N_0 : cfg0.N = 22)
  omega

/-- The weights are cast before the call, which over the reals changes nothing. -/
theorem V_main_v0 (c : Dev nD) : V m c main_v0 = m ((c : Thread nD τ).loc main_arg1) := by
  show StableHlo.after hostOps0 _ _ = _
  after_results <;> rfl

theorem V_main_v1 (c : Dev nD) (i : Fin 1) (j : Fin 1024) : V m c main_v1 (ix2 i j) = m ((c : Thread nD τ).loc main_arg3) (ix1 j) := by
  obtain rfl : i = 0 := Subsingleton.elim _ _
  have h : V m c main_v1 = shapeCast _ (m ((c : Thread nD τ).loc main_arg3)) shapeCasts_S1024_S1x1024 := by
    show StableHlo.after hostOps0 _ _ = _
    after_results <;> rfl
  rw [h]
  generalize m ((c : Thread nD τ).loc main_arg3) = v
  pointwise

theorem V_main_v2 (c : Dev nD) (i : Fin 1) (j : Fin 1024) : V m c main_v2 (ix2 i j) = m ((c : Thread nD τ).loc main_arg4) (ix1 j) := by
  obtain rfl : i = 0 := Subsingleton.elim _ _
  have h : V m c main_v2 = shapeCast _ (m ((c : Thread nD τ).loc main_arg4)) shapeCasts_S1024_S1x1024 := by
    show StableHlo.after hostOps0 _ _ = _
    after_results <;> rfl
  rw [h]
  generalize m ((c : Thread nD τ).loc main_arg4) = v
  pointwise

/-- Window 0 moves down one row tile per point. -/
theorem idx0 : ∀ t : Fin cfg0.N, win0_0.index t (0 : Fin 2) = t.val ∧ win0_0.index t (1 : Fin 2) = 0 :=
  (by decide +kernel : ∀ t : Fin grid0.N, _)

/-- Window 1 holds its whole array at every point. -/
theorem idx1 : ∀ t : Fin cfg0.N, win0_1.index t (0 : Fin 2) = 0 ∧ win0_1.index t (1 : Fin 2) = 0 :=
  (by decide +kernel : ∀ t : Fin grid0.N, _)

/-- Window 2 moves down one row tile per point. -/
theorem idx2 : ∀ t : Fin cfg0.N, win0_2.index t (0 : Fin 2) = t.val ∧ win0_2.index t (1 : Fin 2) = 0 :=
  (by decide +kernel : ∀ t : Fin grid0.N, _)

/-- Window 3 holds its whole array at every point. -/
theorem idx3 : ∀ t : Fin cfg0.N, win0_3.index t (0 : Fin 2) = 0 ∧ win0_3.index t (1 : Fin 2) = 0 :=
  (by decide +kernel : ∀ t : Fin grid0.N, _)

/-- Window 4 holds its whole array at every point. -/
theorem idx4 : ∀ t : Fin cfg0.N, win0_4.index t (0 : Fin 2) = 0 ∧ win0_4.index t (1 : Fin 2) = 0 :=
  (by decide +kernel : ∀ t : Fin grid0.N, _)

/-- Window 5 moves down one row tile per point. -/
theorem idx5 : ∀ t : Fin cfg0.N, win0_5.index t (0 : Fin 2) = t.val ∧ win0_5.index t (1 : Fin 2) = 0 :=
  (by decide +kernel : ∀ t : Fin grid0.N, _)

/-- Window 6 moves down one row tile per point. -/
theorem idx6 : ∀ t : Fin cfg0.N, win0_6.index t (0 : Fin 2) = t.val ∧ win0_6.index t (1 : Fin 2) = 0 :=
  (by decide +kernel : ∀ t : Fin grid0.N, _)

/-- Window 7 moves down one row tile per point. -/
theorem idx7 : ∀ t : Fin cfg0.N, win0_7.index t (0 : Fin 2) = t.val ∧ win0_7.index t (1 : Fin 2) = 0 :=
  (by decide +kernel : ∀ t : Fin grid0.N, _)

theorem iblk0_apply (c : Dev nD) (t : Fin cfg0.N) (r : Fin 384) (k : Fin 2816) :
    iblk m c 0 t (ix2 r k) = m ((c : Thread nD τ).loc main_arg0) (ix2 ⟨t.val * 384 + r.val, row_lt t r⟩ k) := by
  obtain ⟨e0, e1⟩ := idx0 t
  show V m c main_arg0 (((cfg0.win 0).blk t).view.emb (ix2 r k)) = _
  rw [V_main_arg0]
  refine congrArg _ (funext fun a => Fin.ext ?_)
  match a with
  | ⟨0, _⟩ => show win0_0.index t (0 : Fin 2) * 384 + 1 * r.val = t.val * 384 + r.val; rw [e0]; omega
  | ⟨1, _⟩ => show win0_0.index t (1 : Fin 2) * 2816 + 1 * k.val = k.val; rw [e1]; omega

theorem iblk1_apply (c : Dev nD) (t : Fin cfg0.N) (j : Fin 2816) (k : Fin 1024) :
    iblk m c 1 t (ix2 j k) = m ((c : Thread nD τ).loc main_arg1) (ix2 j k) := by
  obtain ⟨e0, e1⟩ := idx1 t
  refine Eq.trans (b := V m c main_v0 (ix2 j k)) ?_ (congrFun (V_main_v0 m c) _)
  show V m c main_v0 (((cfg0.win 1).blk t).view.emb (ix2 j k)) = _
  refine congrArg _ (funext fun a => Fin.ext ?_)
  match a with
  | ⟨0, _⟩ => show win0_1.index t (0 : Fin 2) * 2816 + 1 * j.val = j.val; rw [e0]; omega
  | ⟨1, _⟩ => show win0_1.index t (1 : Fin 2) * 1024 + 1 * k.val = k.val; rw [e1]; omega

theorem iblk2_apply (c : Dev nD) (t : Fin cfg0.N) (r : Fin 384) (k : Fin 1024) :
    iblk m c 2 t (ix2 r k) = m ((c : Thread nD τ).loc main_arg2) (ix2 ⟨t.val * 384 + r.val, row_lt t r⟩ k) := by
  obtain ⟨e0, e1⟩ := idx2 t
  show V m c main_arg2 (((cfg0.win 2).blk t).view.emb (ix2 r k)) = _
  rw [V_main_arg2]
  refine congrArg _ (funext fun a => Fin.ext ?_)
  match a with
  | ⟨0, _⟩ => show win0_2.index t (0 : Fin 2) * 384 + 1 * r.val = t.val * 384 + r.val; rw [e0]; omega
  | ⟨1, _⟩ => show win0_2.index t (1 : Fin 2) * 1024 + 1 * k.val = k.val; rw [e1]; omega

theorem iblk3_apply (c : Dev nD) (t : Fin cfg0.N) (j : Fin 1) (k : Fin 1024) :
    iblk m c 3 t (ix2 j k) = m ((c : Thread nD τ).loc main_arg3) (ix1 k) := by
  obtain ⟨e0, e1⟩ := idx3 t
  refine Eq.trans (b := V m c main_v1 (ix2 j k)) ?_ (V_main_v1 m c j k)
  show V m c main_v1 (((cfg0.win 3).blk t).view.emb (ix2 j k)) = _
  refine congrArg _ (funext fun a => Fin.ext ?_)
  match a with
  | ⟨0, _⟩ => show win0_3.index t (0 : Fin 2) * 1 + 1 * j.val = j.val; rw [e0]; omega
  | ⟨1, _⟩ => show win0_3.index t (1 : Fin 2) * 1024 + 1 * k.val = k.val; rw [e1]; omega

theorem iblk4_apply (c : Dev nD) (t : Fin cfg0.N) (j : Fin 1) (k : Fin 1024) :
    iblk m c 4 t (ix2 j k) = m ((c : Thread nD τ).loc main_arg4) (ix1 k) := by
  obtain ⟨e0, e1⟩ := idx4 t
  refine Eq.trans (b := V m c main_v2 (ix2 j k)) ?_ (V_main_v2 m c j k)
  show V m c main_v2 (((cfg0.win 4).blk t).view.emb (ix2 j k)) = _
  refine congrArg _ (funext fun a => Fin.ext ?_)
  match a with
  | ⟨0, _⟩ => show win0_4.index t (0 : Fin 2) * 1 + 1 * j.val = j.val; rw [e0]; omega
  | ⟨1, _⟩ => show win0_4.index t (1 : Fin 2) * 1024 + 1 * k.val = k.val; rw [e1]; omega

/-! ## The whole arrays -/

/-- The row that is normalised, of the arguments. -/
def zed (a : FVec Ideal S8448x2816 .bf16) (w : FVec Ideal S2816x1024 .f32) (x : FVec Ideal S8448x1024 .f32) (i : Fin 8448) (j : Fin 1024) : EReal :=
  pre (x (ix2 i j)) (fun k => a (ix2 i k)) (fun k => w (ix2 k j))

theorem zrow_eq (c : Dev nD) (t : Fin cfg0.N) (r : Fin 384) :
    zrow (iblk m c 2 t) (iblk m c 0 t) (iblk m c 1 t) r = zed (m ((c : Thread nD τ).loc main_arg0)) (m ((c : Thread nD τ).loc main_arg1)) (m ((c : Thread nD τ).loc main_arg2)) ⟨t.val * 384 + r.val, row_lt t r⟩ := by
  funext j
  unfold zrow zed
  rw [iblk2_apply]
  congr 1
  · exact funext fun k => iblk0_apply m c t r k
  · exact funext fun k => iblk1_apply m c t k j

/-- The normed rows, scaled and shifted. -/
def G5 (c : Dev nD) : Buf (Elt Ideal) ((c : Thread nD τ).loc main_v3_0) := fun i =>
  result (zed (m ((c : Thread nD τ).loc main_arg0)) (m ((c : Thread nD τ).loc main_arg1)) (m ((c : Thread nD τ).loc main_arg2)) (i 0)) (m ((c : Thread nD τ).loc main_arg3) (ix1 (i 1))) (m ((c : Thread nD τ).loc main_arg4) (ix1 (i 1))) (i 1)

/-- The normed rows. -/
def G6 (c : Dev nD) : Buf (Elt Ideal) ((c : Thread nD τ).loc main_v3_1) := fun i =>
  normed (zed (m ((c : Thread nD τ).loc main_arg0)) (m ((c : Thread nD τ).loc main_arg1)) (m ((c : Thread nD τ).loc main_arg2)) (i 0)) (i 1)

/-- The reciprocals of the deviations. -/
def G7 (c : Dev nD) : Buf (Elt Ideal) ((c : Thread nD τ).loc main_v3_2) := fun i =>
  recip (zed (m ((c : Thread nD τ).loc main_arg0)) (m ((c : Thread nD τ).loc main_arg1)) (m ((c : Thread nD τ).loc main_arg2)) (i 0))

theorem out5_eq (a : Vec Ideal S384x2816 .bf16) (w : Vec Ideal S2816x1024 .bf16) (x : Vec Ideal S384x1024 .f32) (g b : Vec Ideal S1x1024 .f32) : out0_5 a w x g b = k0_pay4 x a w g b := by
  unfold out0_5
  simp only [View.ld_unit_zero (S := S384x1024) hz, View.ld_unit_zero (S := S384x2816) hz, View.ld_unit_zero (S := S2816x1024) hz, View.ld_unit_zero (S := S1x1024) hz]
  exact View.canon_unit_zero (S := S384x1024) hz _ _

theorem flushed5_apply (c : Dev nD) (t : Fin cfg0.N) (r : Fin 384) (j : Fin 1024) :
    out0_5 (iblk m c 0 t) (iblk m c 1 t) (iblk m c 2 t) (iblk m c 3 t) (iblk m c 4 t) (ix2 r j) = result (zed (m ((c : Thread nD τ).loc main_arg0)) (m ((c : Thread nD τ).loc main_arg1)) (m ((c : Thread nD τ).loc main_arg2)) ⟨t.val * 384 + r.val, row_lt t r⟩) (m ((c : Thread nD τ).loc main_arg3) (ix1 j)) (m ((c : Thread nD τ).loc main_arg4) (ix1 j)) j := by
  rw [out5_eq, pay4_apply, zrow_eq, iblk3_apply, iblk4_apply]

/-- What point `t` writes back to window 5 is its block of that array. -/
theorem flushed5_eq (c : Dev nD) (t : Fin cfg0.N) :
    (dats m 0 c).flushed 5 t = ((cfg0.win 5).blk t).view.read (Elt Ideal) (G5 m c) := by
  rw [flushed5]
  have hb := flushed5_apply m c t
  generalize out0_5 (iblk m c 0 t) (iblk m c 1 t) (iblk m c 2 t) (iblk m c 3 t) (iblk m c 4 t) = b at hb ⊢
  funext y
  obtain ⟨e0, e1⟩ := idx5 t
  have hi : ((cfg0.win 5).blk t).view.emb y = (ix2 ⟨t.val * 384 + (y 0).val, row_lt t (y 0)⟩ (y 1) : S8448x1024.Idx) := by
    refine funext fun a => Fin.ext ?_
    match a with
    | ⟨0, _⟩ => show win0_5.index t (0 : Fin 2) * 384 + 1 * (y 0).val = t.val * 384 + (y 0).val; rw [e0]; omega
    | ⟨1, _⟩ => show win0_5.index t (1 : Fin 2) * 1024 + 1 * (y 1).val = (y 1).val; rw [e1]; omega
  show b y = G5 m c (((cfg0.win 5).blk t).view.emb y)
  rw [hi]
  exact (congrArg b (eq_ix2 y)).trans (hb (y 0) (y 1))

/-- The row tiles cover the array of window 5. -/
theorem cover5 (i : S8448x1024.Idx) : ∃ t : Fin cfg0.N, (cfg0.win 5).flush t = true ∧ i ∈ ((cfg0.win 5).blk t).view.set := by
  have h0 : (i 0).val < 8448 := (i 0).isLt
  have h1 : (i 1).val < 1024 := (i 1).isLt
  have hN : cfg0.N = 22 := N_0
  obtain ⟨t, ht⟩ : ∃ t : Fin cfg0.N, t.val = (i 0).val / 384 := ⟨⟨(i 0).val / 384, by omega⟩, rfl⟩
  obtain ⟨e0, e1⟩ := idx5 t
  refine ⟨t, (flush0_5 t), ?_⟩
  show i ∈ ((View.whole main_v3_0).slice (win0_5.rect t)).set
  rw [View.set_slice_whole, Rect.mem_set_unit]
  intro a
  match a with
  | ⟨0, _⟩ => show win0_5.index t (0 : Fin 2) * 384 ≤ (i 0).val ∧ (i 0).val < win0_5.index t (0 : Fin 2) * 384 + 384; rw [e0]; omega
  | ⟨1, _⟩ => show win0_5.index t (1 : Fin 2) * 1024 ≤ (i 1).val ∧ (i 1).val < win0_5.index t (1 : Fin 2) * 1024 + 1024; rw [e1]; omega

theorem final5 (c : Dev nD) : (dats m 0 c).arrAt 5 cfg0.N = G5 m c :=
  (dats m 0 c).arrAt_eq_of_cover 5 (G5 m c) (fun t _ => flushed5_eq m c t) cover5

theorem out6_eq (a : Vec Ideal S384x2816 .bf16) (w : Vec Ideal S2816x1024 .bf16) (x : Vec Ideal S384x1024 .f32) (g b : Vec Ideal S1x1024 .f32) : out0_6 a w x g b = k0_pay3 x a w := by
  unfold out0_6
  simp only [View.ld_unit_zero (S := S384x1024) hz, View.ld_unit_zero (S := S384x2816) hz, View.ld_unit_zero (S := S2816x1024) hz]
  exact View.canon_unit_zero (S := S384x1024) hz _ _

theorem flushed6_apply (c : Dev nD) (t : Fin cfg0.N) (r : Fin 384) (j : Fin 1024) :
    out0_6 (iblk m c 0 t) (iblk m c 1 t) (iblk m c 2 t) (iblk m c 3 t) (iblk m c 4 t) (ix2 r j) = normed (zed (m ((c : Thread nD τ).loc main_arg0)) (m ((c : Thread nD τ).loc main_arg1)) (m ((c : Thread nD τ).loc main_arg2)) ⟨t.val * 384 + r.val, row_lt t r⟩) j := by
  rw [out6_eq, pay3_apply, zrow_eq]

/-- What point `t` writes back to window 6 is its block of that array. -/
theorem flushed6_eq (c : Dev nD) (t : Fin cfg0.N) :
    (dats m 0 c).flushed 6 t = ((cfg0.win 6).blk t).view.read (Elt Ideal) (G6 m c) := by
  rw [flushed6]
  have hb := flushed6_apply m c t
  generalize out0_6 (iblk m c 0 t) (iblk m c 1 t) (iblk m c 2 t) (iblk m c 3 t) (iblk m c 4 t) = b at hb ⊢
  funext y
  obtain ⟨e0, e1⟩ := idx6 t
  have hi : ((cfg0.win 6).blk t).view.emb y = (ix2 ⟨t.val * 384 + (y 0).val, row_lt t (y 0)⟩ (y 1) : S8448x1024.Idx) := by
    refine funext fun a => Fin.ext ?_
    match a with
    | ⟨0, _⟩ => show win0_6.index t (0 : Fin 2) * 384 + 1 * (y 0).val = t.val * 384 + (y 0).val; rw [e0]; omega
    | ⟨1, _⟩ => show win0_6.index t (1 : Fin 2) * 1024 + 1 * (y 1).val = (y 1).val; rw [e1]; omega
  show b y = G6 m c (((cfg0.win 6).blk t).view.emb y)
  rw [hi]
  exact (congrArg b (eq_ix2 y)).trans (hb (y 0) (y 1))

/-- The row tiles cover the array of window 6. -/
theorem cover6 (i : S8448x1024.Idx) : ∃ t : Fin cfg0.N, (cfg0.win 6).flush t = true ∧ i ∈ ((cfg0.win 6).blk t).view.set := by
  have h0 : (i 0).val < 8448 := (i 0).isLt
  have h1 : (i 1).val < 1024 := (i 1).isLt
  have hN : cfg0.N = 22 := N_0
  obtain ⟨t, ht⟩ : ∃ t : Fin cfg0.N, t.val = (i 0).val / 384 := ⟨⟨(i 0).val / 384, by omega⟩, rfl⟩
  obtain ⟨e0, e1⟩ := idx6 t
  refine ⟨t, (flush0_6 t), ?_⟩
  show i ∈ ((View.whole main_v3_1).slice (win0_6.rect t)).set
  rw [View.set_slice_whole, Rect.mem_set_unit]
  intro a
  match a with
  | ⟨0, _⟩ => show win0_6.index t (0 : Fin 2) * 384 ≤ (i 0).val ∧ (i 0).val < win0_6.index t (0 : Fin 2) * 384 + 384; rw [e0]; omega
  | ⟨1, _⟩ => show win0_6.index t (1 : Fin 2) * 1024 ≤ (i 1).val ∧ (i 1).val < win0_6.index t (1 : Fin 2) * 1024 + 1024; rw [e1]; omega

theorem final6 (c : Dev nD) : (dats m 0 c).arrAt 6 cfg0.N = G6 m c :=
  (dats m 0 c).arrAt_eq_of_cover 6 (G6 m c) (fun t _ => flushed6_eq m c t) cover6

theorem out7_eq (a : Vec Ideal S384x2816 .bf16) (w : Vec Ideal S2816x1024 .bf16) (x : Vec Ideal S384x1024 .f32) (g b : Vec Ideal S1x1024 .f32) : out0_7 a w x g b = k0_pay2 x a w := by
  unfold out0_7
  simp only [View.ld_unit_zero (S := S384x1024) hz, View.ld_unit_zero (S := S384x2816) hz, View.ld_unit_zero (S := S2816x1024) hz]
  exact View.canon_unit_zero (S := S384x1) hz _ _

theorem flushed7_apply (c : Dev nD) (t : Fin cfg0.N) (r : Fin 384) (j : Fin 1) :
    out0_7 (iblk m c 0 t) (iblk m c 1 t) (iblk m c 2 t) (iblk m c 3 t) (iblk m c 4 t) (ix2 r j) = recip (zed (m ((c : Thread nD τ).loc main_arg0)) (m ((c : Thread nD τ).loc main_arg1)) (m ((c : Thread nD τ).loc main_arg2)) ⟨t.val * 384 + r.val, row_lt t r⟩) := by
  rw [out7_eq, pay2_apply, zrow_eq]

/-- What point `t` writes back to window 7 is its block of that array. -/
theorem flushed7_eq (c : Dev nD) (t : Fin cfg0.N) :
    (dats m 0 c).flushed 7 t = ((cfg0.win 7).blk t).view.read (Elt Ideal) (G7 m c) := by
  rw [flushed7]
  have hb := flushed7_apply m c t
  generalize out0_7 (iblk m c 0 t) (iblk m c 1 t) (iblk m c 2 t) (iblk m c 3 t) (iblk m c 4 t) = b at hb ⊢
  funext y
  obtain ⟨e0, e1⟩ := idx7 t
  have hi : ((cfg0.win 7).blk t).view.emb y = (ix2 ⟨t.val * 384 + (y 0).val, row_lt t (y 0)⟩ (y 1) : S8448x1.Idx) := by
    refine funext fun a => Fin.ext ?_
    match a with
    | ⟨0, _⟩ => show win0_7.index t (0 : Fin 2) * 384 + 1 * (y 0).val = t.val * 384 + (y 0).val; rw [e0]; omega
    | ⟨1, _⟩ => show win0_7.index t (1 : Fin 2) * 1 + 1 * (y 1).val = (y 1).val; rw [e1]; omega
  show b y = G7 m c (((cfg0.win 7).blk t).view.emb y)
  rw [hi]
  exact (congrArg b (eq_ix2 y)).trans (hb (y 0) (y 1))

/-- The row tiles cover the array of window 7. -/
theorem cover7 (i : S8448x1.Idx) : ∃ t : Fin cfg0.N, (cfg0.win 7).flush t = true ∧ i ∈ ((cfg0.win 7).blk t).view.set := by
  have h0 : (i 0).val < 8448 := (i 0).isLt
  have h1 : (i 1).val < 1 := (i 1).isLt
  have hN : cfg0.N = 22 := N_0
  obtain ⟨t, ht⟩ : ∃ t : Fin cfg0.N, t.val = (i 0).val / 384 := ⟨⟨(i 0).val / 384, by omega⟩, rfl⟩
  obtain ⟨e0, e1⟩ := idx7 t
  refine ⟨t, (flush0_7 t), ?_⟩
  show i ∈ ((View.whole main_v3_2).slice (win0_7.rect t)).set
  rw [View.set_slice_whole, Rect.mem_set_unit]
  intro a
  match a with
  | ⟨0, _⟩ => show win0_7.index t (0 : Fin 2) * 384 ≤ (i 0).val ∧ (i 0).val < win0_7.index t (0 : Fin 2) * 384 + 384; rw [e0]; omega
  | ⟨1, _⟩ => show win0_7.index t (1 : Fin 2) * 1 ≤ (i 1).val ∧ (i 1).val < win0_7.index t (1 : Fin 2) * 1 + 1; rw [e1]; omega

theorem final7 (c : Dev nD) : (dats m 0 c).arrAt 7 cfg0.N = G7 m c :=
  (dats m 0 c).arrAt_eq_of_cover 7 (G7 m c) (fun t _ => flushed7_eq m c t) cover7

end Cert.MmDownIdeal.Value

/-! ## The reference -/

namespace Cert.MmDownRefIdeal.Value

open Cert.MmDownRefIdeal Cert.MmDownRefIdeal.Gen Idealize.ShloMosaic Idealize.ShloMosaic.TcCoe Idealize.SL.Sem
open Cert.LnRow

/-- The rows that are normalised. -/
def rz (a : FVec Ideal S8448x2816 .bf16) (w : FVec Ideal S2816x1024 .f32) (x : FVec Ideal S8448x1024 .f32) : FVec Ideal S8448x1024 .f32 :=
  (addf (mulf (broadcastInDim S8448x1024 ![] bcast_S_S8448x1024 (constant S_ .f32 0x3FB504F3#32)) x) (Host.dotGeneral dot_S8448x2816_S2816x1024_S8448x1024_1_0_0_1_n_n none (extf .f32 a (by decide)) w))

theorem rz_apply (a : FVec Ideal S8448x2816 .bf16) (w : FVec Ideal S2816x1024 .f32) (x : FVec Ideal S8448x1024 .f32) (i : Fin 8448) (j : Fin 1024) :
    rz a w x (ix2 i j) = Cert.MmDownIdeal.Value.zed a w x i j := by
  unfold Cert.MmDownIdeal.Value.zed pre
  pointwise [rz]

def rc (Z : FVec Ideal S8448x1024 .f32) : FVec Ideal S8448x1024 .f32 :=
  (subf Z (broadcastInDim S8448x1024 ![0, 1] bcast_S8448x1_S8448x1024_0_1 (Host.divf (broadcastInDim S8448x1 ![0] bcast_S8448_S8448x1_0 (Host.reduceAdd Z (constant S_ .f32 0x00000000#32) reducesTo_S8448x1024_S8448_d1 h_S_)) (broadcastInDim S8448x1 ![] bcast_S_S8448x1 (constant S_ .f32 0x44800000#32)))))

theorem rc_apply (Z : FVec Ideal S8448x1024 .f32) (i : Fin 8448) (j : Fin 1024) : rc Z (ix2 i j) = centred (fun k => Z (ix2 i k)) j := by
  unfold centred
  pointwise [rc]

def rr (C : FVec Ideal S8448x1024 .f32) : FVec Ideal S8448x1 .f32 :=
  (Host.rsqrt (addf (Host.divf (broadcastInDim S8448x1 ![0] bcast_S8448_S8448x1_0 (Host.reduceAdd (mulf C C) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32))))

theorem rr_apply (Z : FVec Ideal S8448x1024 .f32) (i : Fin 8448) (j : Fin 1) : rr (rc Z) (ix2 i j) = recip (fun k => Z (ix2 i k)) := by
  obtain rfl : j = 0 := Subsingleton.elim _ _
  unfold recip
  simp only [← rc_apply]
  generalize rc Z = C
  pointwise [rr]

def rn (C : FVec Ideal S8448x1024 .f32) (r : FVec Ideal S8448x1 .f32) : FVec Ideal S8448x1024 .f32 :=
  mulf C (broadcastInDim S8448x1024 ![0, 1] bcast_S8448x1_S8448x1024_0_1 r)

theorem rn_apply (Z : FVec Ideal S8448x1024 .f32) (i : Fin 8448) (j : Fin 1024) : rn (rc Z) (rr (rc Z)) (ix2 i j) = normed (fun k => Z (ix2 i k)) j := by
  unfold normed
  rw [← rc_apply, ← rr_apply Z i 0]
  generalize rc Z = C
  pointwise [rn]

def ro (n : FVec Ideal S8448x1024 .f32) (g b : FVec Ideal S1024 .f32) : FVec Ideal S8448x1024 .f32 :=
  addf (mulf n (broadcastInDim S8448x1024 ![0, 1] bcast_S1x1024_S8448x1024_0_1 (broadcastInDim S1x1024 ![1] bcast_S1024_S1x1024_1 g)))
    (broadcastInDim S8448x1024 ![0, 1] bcast_S1x1024_S8448x1024_0_1 (broadcastInDim S1x1024 ![1] bcast_S1024_S1x1024_1 b))

theorem ro_apply (Z : FVec Ideal S8448x1024 .f32) (g b : FVec Ideal S1024 .f32) (i : Fin 8448) (j : Fin 1024) :
    ro (rn (rc Z) (rr (rc Z))) g b (ix2 i j) = result (fun k => Z (ix2 i k)) (g (ix1 j)) (b (ix1 j)) j := by
  unfold result
  rw [← rn_apply]
  generalize rn (rc Z) (rr (rc Z)) = C
  pointwise [ro]

end Cert.MmDownRefIdeal.Value

namespace Cert.MmDownIdeal.Value

open Cert.MmDownIdeal Cert.MmDownIdeal.Gen Idealize.ShloMosaic Idealize.ShloMosaic.TcCoe Idealize.SL.Sem
open Cert.LnRow Cert.MmDownRefIdeal.Value

/-- The two programs compute the same arrays. -/
theorem algebraic : Cert.algebraic_MmDownIdeal_MmDownRefIdeal := by
  intro m g m' g' _ hargs
  refine ⟨fun c => G5 m c, fun c => G6 m c, fun c => G7 m c,
    (θ_run defs _ _).mono (fun r h c => ⟨(h c).1.trans (final5 m c), (h c).2.1.trans (final6 m c), (h c).2.2.1.trans (final7 m c), (h c).2.2.2⟩) (run_blocks (F := Ideal) m g),
    (θ_run Cert.MmDownRefIdeal.defs _ _).mono (fun r h c => ?_) (Cert.MmDownRefIdeal.Value.run (F := Ideal) m' g')⟩
  obtain ⟨a0, a1, a2, a3, a4⟩ := hargs c
  obtain ⟨h0, h1, h2, h3⟩ := h c
  rw [a0, a1, a2, a3, a4] at h0
  rw [a0, a1, a2] at h1 h2
  refine ⟨h0.trans (Eq.trans (b := ro (rn (rc (rz _ _ _)) (rr (rc (rz _ _ _)))) _ _) rfl ?_), h1.trans (Eq.trans (b := rn (rc (rz _ _ _)) (rr (rc (rz _ _ _)))) rfl ?_),
    h2.trans (Eq.trans (b := rr (rc (rz _ _ _))) rfl ?_), h3⟩
  · funext j
    rw [eq_ix2 j]
    exact (ro_apply _ _ _ _ _).trans (congrArg (fun z => result z _ _ _) (funext fun k => rz_apply _ _ _ _ k))
  · funext j
    rw [eq_ix2 j]
    exact (rn_apply _ _ _).trans (congrArg (fun z => normed z _) (funext fun k => rz_apply _ _ _ _ k))
  · funext j
    rw [eq_ix2 j]
    exact (rr_apply _ _ _).trans (congrArg recip (funext fun k => rz_apply _ _ _ _ k))

end Cert.MmDownIdeal.Value

end
-- ==== Proof.AdamRow.lean ====
/-
  One entry of the AdamW step: the new moments from the old ones and the gradient, and the update from the
  bias-corrected moments and the weight. The constants are those of the two programs, read as reals.
-/
module

public import Idealize.ShloMosaic.Lib.Pointwise

@[expose] public section

noncomputable section

namespace Cert.AdamRow

open Idealize.ShloMosaic

/-- The new first moment `b1 m + (1 - b1) g`. -/
def mNew (m g : EReal) : EReal := Ideal.ofBits FTy.f32 0x3F666666#32 * m + Ideal.ofBits FTy.f32 0x3DCCCCCD#32 * g

/-- The new second moment `b2 v + (1 - b2) g²`. -/
def vNew (v g : EReal) : EReal := Ideal.ofBits FTy.f32 0x3F7FBE77#32 * v + Ideal.ofBits FTy.f32 0x3A83126F#32 * (g * g)

/-- The update `-lr (m̂ / (√v̂ + ε) + wd w)`, the moments corrected for their bias. -/
def step (w m v g : EReal) : EReal :=
  Ideal.ofBits FTy.f32 0xBA83126F#32
    * (Ideal.div (Ideal.div (mNew m g) (Ideal.ofBits FTy.f32 0x3F26BD02#32))
          (Ideal.sqrt (Ideal.div (vNew v g) (Ideal.ofBits FTy.f32 0x3C231ACC#32)) + Ideal.ofBits FTy.f32 0x322BCC77#32)
        + Ideal.ofBits FTy.f32 0x3C23D70A#32 * w)

end Cert.AdamRow

end
-- ==== Proof.AdamIn.lean ====
/-
  The AdamW update of a chip's columns of `w_in`, a stack of two layers of 1024x768: the gradient
  of each layer is the sum of the two partial gradients it arrives as; from it come the update and the two
  new moments. The layers are updated by two calls, layer 1 first, the second one in the first one's arrays.
-/
module

public import proofs.«01_k».proof.Defs
public import proofs.«01_k».proof.Proof.AdamRow
public import proofs.«01_k».proof.Proof.Gen.AdamInIdeal.Frame
public import proofs.«01_k».proof.Proof.Gen.AdamInRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamInIdeal.Value

open Cert.AdamInIdeal Cert.AdamInIdeal.Gen Idealize.ShloMosaic Idealize.ShloMosaic.TcCoe Idealize.SL.Sem
open Cert.AdamRow

/-! ## The four results at an index -/

/-- The gradient of the stack: each layer's two partial gradients added. -/
def grad (a1 b1 a0 b0 : FVec Ideal S1024x768 .f32) : FVec Ideal S2x1024x768 .f32 := fun i =>
  if (i 0).val = 0 then a0 (ix2 (i 1) (i 2)) + b0 (ix2 (i 1) (i 2)) else a1 (ix2 (i 1) (i 2)) + b1 (ix2 (i 1) (i 2))

/-- The new first moment. -/
def fstM (m a : FVec Ideal S2x1024x768 .f32) : FVec Ideal S2x1024x768 .f32 := fun i => mNew (m i) (a i)

/-- The new second moment. -/
def sndM (v a : FVec Ideal S2x1024x768 .f32) : FVec Ideal S2x1024x768 .f32 := fun i => vNew (v i) (a i)

/-- The update of the weights. -/
def delta (w m v a : FVec Ideal S2x1024x768 .f32) : FVec Ideal S2x1024x768 .f32 := fun i => step (w i) (m i) (v i) (a i)

/-! ## One point's blocks -/

theorem pay0_7 (a b : Vec Ideal S256x768 .f32) (z : Fin 1) (r : Fin 256) (k : Fin 768) :
    k0_pay7 a b (ix3 z r k) = a (ix2 r k) + b (ix2 r k) := by
  obtain rfl : z = 0 := Subsingleton.elim _ _
  pointwise [k0_pay7, k0_pay4]

theorem pay0_2 (a b : Vec Ideal S256x768 .f32) (x : Vec Ideal S1x256x768 .f32) (z : Fin 1) (r : Fin 256) (k : Fin 768) :
    k0_pay2 (k0_pay5 a b x) (ix3 z r k) = mNew (x (ix3 z r k)) (a (ix2 r k) + b (ix2 r k)) := by
  obtain rfl : z = 0 := Subsingleton.elim _ _
  unfold mNew
  pointwise [k0_pay2, k0_pay5, k0_pay4]

theorem pay0_3 (a b : Vec Ideal S256x768 .f32) (x : Vec Ideal S1x256x768 .f32) (z : Fin 1) (r : Fin 256) (k : Fin 768) :
    k0_pay3 (k0_pay6 a b x) (ix3 z r k) = vNew (x (ix3 z r k)) (a (ix2 r k) + b (ix2 r k)) := by
  obtain rfl : z = 0 := Subsingleton.elim _ _
  unfold vNew
  pointwise [k0_pay3, k0_pay6, k0_pay4]

theorem pay0_1 (a b : Vec Ideal S256x768 .f32) (x y w : Vec Ideal S1x256x768 .f32) (z : Fin 1) (r : Fin 256) (k : Fin 768) :
    k0_pay1 (k0_pay8 a b x y w) (ix3 z r k) = step (w (ix3 z r k)) (x (ix3 z r k)) (y (ix3 z r k)) (a (ix2 r k) + b (ix2 r k)) := by
  obtain rfl : z = 0 := Subsingleton.elim _ _
  unfold step mNew vNew
  pointwise [k0_pay1, k0_pay8, k0_pay5, k0_pay6, k0_pay4]

theorem pay1_7 (a b : Vec Ideal S256x768 .f32) (z : Fin 1) (r : Fin 256) (k : Fin 768) :
    k1_pay7 a b (ix3 z r k) = a (ix2 r k) + b (ix2 r k) := by
  obtain rfl : z = 0 := Subsingleton.elim _ _
  pointwise [k1_pay7, k1_pay4]

theorem pay1_2 (a b : Vec Ideal S256x768 .f32) (x : Vec Ideal S1x256x768 .f32) (z : Fin 1) (r : Fin 256) (k : Fin 768) :
    k1_pay2 (k1_pay5 a b x) (ix3 z r k) = mNew (x (ix3 z r k)) (a (ix2 r k) + b (ix2 r k)) := by
  obtain rfl : z = 0 := Subsingleton.elim _ _
  unfold mNew
  pointwise [k1_pay2, k1_pay5, k1_pay4]

theorem pay1_3 (a b : Vec Ideal S256x768 .f32) (x : Vec Ideal S1x256x768 .f32) (z : Fin 1) (r : Fin 256) (k : Fin 768) :
    k1_pay3 (k1_pay6 a b x) (ix3 z r k) = vNew (x (ix3 z r k)) (a (ix2 r k) + b (ix2 r k)) := by
  obtain rfl : z = 0 := Subsingleton.elim _ _
  unfold vNew
  pointwise [k1_pay3, k1_pay6, k1_pay4]

theorem pay1_1 (a b : Vec Ideal S256x768 .f32) (x y w : Vec Ideal S1x256x768 .f32) (z : Fin 1) (r : Fin 256) (k : Fin 768) :
    k1_pay1 (k1_pay8 a b x y w) (ix3 z r k) = step (w (ix3 z r k)) (x (ix3 z r k)) (y (ix3 z r k)) (a (ix2 r k) + b (ix2 r k)) := by
  obtain rfl : z = 0 := Subsingleton.elim _ _
  unfold step mNew vNew
  pointwise [k1_pay1, k1_pay8, k1_pay5, k1_pay6, k1_pay4]

/-! ## The regions, from any entry contents -/

section Regions

variable (V : (c : Dev nD) → (b : Ref sig .tc) → Buf (Elt Ideal) ((c : Thread nD τ).loc b))

theorem row_lt0 (t : Fin cfg0.N) (r : Fin 256) : t.val * 256 + r.val < 1024 := by
  have := lt_of_lt_of_eq t.isLt (N_0 : cfg0.N = 4)
  omega

theorem idx0_0 : ∀ t : Fin cfg0.N, win0_0.index t (0 : Fin 3) = 1 ∧ win0_0.index t (1 : Fin 3) = t.val ∧ win0_0.index t (2 : Fin 3) = 0 :=
  (by decide +kernel : ∀ t : Fin grid0.N, _)

theorem idx0_1 : ∀ t : Fin cfg0.N, win0_1.index t (0 : Fin 3) = 1 ∧ win0_1.index t (1 : Fin 3) = t.val ∧ win0_1.index t (2 : Fin 3) = 0 :=
  (by decide +kernel : ∀ t : Fin grid0.N, _)

theorem idx0_2 : ∀ t : Fin cfg0.N, win0_2.index t (0 : Fin 3) = 1 ∧ win0_2.index t (1 : Fin 3) = t.val ∧ win0_2.index t (2 : Fin 3) = 0 :=
  (by decide +kernel : ∀ t : Fin grid0.N, _)

theorem idx0_5 : ∀ t : Fin cfg0.N, win0_5.index t (0 : Fin 3) = 1 ∧ win0_5.index t (1 : Fin 3) = t.val ∧ win0_5.index t (2 : Fin 3) = 0 :=
  (by decide +kernel : ∀ t : Fin grid0.N, _)

theorem idx0_6 : ∀ t : Fin cfg0.N, win0_6.index t (0 : Fin 3) = 1 ∧ win0_6.index t (1 : Fin 3) = t.val ∧ win0_6.index t (2 : Fin 3) = 0 :=
  (by decide +kernel : ∀ t : Fin grid0.N, _)

theorem idx0_7 : ∀ t : Fin cfg0.N, win0_7.index t (0 : Fin 3) = 1 ∧ win0_7.index t (1 : Fin 3) = t.val ∧ win0_7.index t (2 : Fin 3) = 0 :=
  (by decide +kernel : ∀ t : Fin grid0.N, _)

theorem idx0_8 : ∀ t : Fin cfg0.N, win0_8.index t (0 : Fin 3) = 1 ∧ win0_8.index t (1 : Fin 3) = t.val ∧ win0_8.index t (2 : Fin 3) = 0 :=
  (by decide +kernel : ∀ t : Fin grid0.N, _)

theorem idx0_3 : ∀ t : Fin cfg0.N, win0_3.index t (0 : Fin 2) = t.val ∧ win0_3.index t (1 : Fin 2) = 0 :=
  (by decide +kernel : ∀ t : Fin grid0.N, _)

theorem idx0_4 : ∀ t : Fin cfg0.N, win0_4.index t (0 : Fin 2) = t.val ∧ win0_4.index t (1 : Fin 2) = 0 :=
  (by decide +kernel : ∀ t : Fin grid0.N, _)

theorem blk0_0 (c : Dev nD) (t : Fin cfg0.N) (z : Fin 1) (r : Fin 256) (k : Fin 768) :
    iblk0 V c 0 t (ix3 z r k) = V c main_arg0 (ix3 1 ⟨t.val * 256 + r.val, row_lt0 t r⟩ k) := by
  obtain ⟨e0, e1, e2⟩ := idx0_0 t
  show V c main_arg0 (((cfg0.win 0).blk t).view.emb (ix3 z r k)) = _
  refine congrArg _ (funext fun a => Fin.ext ?_)
  match a with
  | ⟨0, _⟩ => show win0_0.index t (0 : Fin 3) * 1 + 1 * z.val = 1; rw [e0]; omega
  | ⟨1, _⟩ => show win0_0.index t (1 : Fin 3) * 256 + 1 * r.val = t.val * 256 + r.val; rw [e1]; omega
  | ⟨2, _⟩ => show win0_0.index t (2 : Fin 3) * 768 + 1 * k.val = k.val; rw [e2]; omega

theorem blk0_1 (c : Dev nD) (t : Fin cfg0.N) (z : Fin 1) (r : Fin 256) (k : Fin 768) :
    iblk0 V c 1 t (ix3 z r k) = V c main_arg1 (ix3 1 ⟨t.val * 256 + r.val, row_lt0 t r⟩ k) := by
  obtain ⟨e0, e1, e2⟩ := idx0_1 t
  show V c main_arg1 (((cfg0.win 1).blk t).view.emb (ix3 z r k)) = _
  refine congrArg _ (funext fun a => Fin.ext ?_)
  match a with
  | ⟨0, _⟩ => show win0_1.index t (0 : Fin 3) * 1 + 1 * z.val = 1; rw [e0]; omega
  | ⟨1, _⟩ => show win0_1.index t (1 : Fin 3) * 256 + 1 * r.val = t.val * 256 + r.val; rw [e1]; omega
  | ⟨2, _⟩ => show win0_1.index t (2 : Fin 3) * 768 + 1 * k.val = k.val; rw [e2]; omega

theorem blk0_2 (c : Dev nD) (t : Fin cfg0.N) (z : Fin 1) (r : Fin 256) (k : Fin 768) :
    iblk0 V c 2 t (ix3 z r k) = V c main_arg2 (ix3 1 ⟨t.val * 256 + r.val, row_lt0 t r⟩ k) := by
  obtain ⟨e0, e1, e2⟩ := idx0_2 t
  show V c main_arg2 (((cfg0.win 2).blk t).view.emb (ix3 z r k)) = _
  refine congrArg _ (funext fun a => Fin.ext ?_)
  match a with
  | ⟨0, _⟩ => show win0_2.index t (0 : Fin 3) * 1 + 1 * z.val = 1; rw [e0]; omega
  | ⟨1, _⟩ => show win0_2.index t (1 : Fin 3) * 256 + 1 * r.val = t.val * 256 + r.val; rw [e1]; omega
  | ⟨2, _⟩ => show win0_2.index t (2 : Fin 3) * 768 + 1 * k.val = k.val; rw [e2]; omega

theorem blk0_3 (c : Dev nD) (t : Fin cfg0.N) (r : Fin 256) (k : Fin 768) :
    iblk0 V c 3 t (ix2 r k) = V c main_arg3 (ix2 ⟨t.val * 256 + r.val, row_lt0 t r⟩ k) := by
  obtain ⟨e0, e1⟩ := idx0_3 t
  show V c main_arg3 (((cfg0.win 3).blk t).view.emb (ix2 r k)) = _
  refine congrArg _ (funext fun a => Fin.ext ?_)
  match a with
  | ⟨0, _⟩ => show win0_3.index t (0 : Fin 2) * 256 + 1 * r.val = t.val * 256 + r.val; rw [e0]; omega
  | ⟨1, _⟩ => show win0_3.index t (1 : Fin 2) * 768 + 1 * k.val = k.val; rw [e1]; omega

theorem blk0_4 (c : Dev nD) (t : Fin cfg0.N) (r : Fin 256) (k : Fin 768) :
    iblk0 V c 4 t (ix2 r k) = V c main_arg4 (ix2 ⟨t.val * 256 + r.val, row_lt0 t r⟩ k) := by
  obtain ⟨e0, e1⟩ := idx0_4 t
  show V c main_arg4 (((cfg0.win 4).blk t).view.emb (ix2 r k)) = _
  refine congrArg _ (funext fun a => Fin.ext ?_)
  match a with
  | ⟨0, _⟩ => show win0_4.index t (0 : Fin 2) * 256 + 1 * r.val = t.val * 256 + r.val; rw [e0]; omega
  | ⟨1, _⟩ => show win0_4.index t (1 : Fin 2) * 768 + 1 * k.val = k.val; rw [e1]; omega

/-- What point `t` writes to window 5. -/
theorem point0_5 (c : Dev nD) (t : Fin cfg0.N) (z : Fin 1) (r : Fin 256) (k : Fin 768) :
    k0_pay7 (iblk0 V c 3 t) (iblk0 V c 4 t) (ix3 z r k) = (grad (V c main_arg3) (V c main_arg4) (V c main_arg5) (V c main_arg6)) (ix3 1 ⟨t.val * 256 + r.val, row_lt0 t r⟩ k) := by
  rw [pay0_7, blk0_3, blk0_4]
  rfl

/-- The first call fills layer 1 of its result. -/
theorem final0_5 (c : Dev nD) (i : S2x1024x768.Idx) (hi1 : (i 0).val = 1) :
    (dat0 V c).arrAt 5 cfg0.N i = (grad (V c main_arg3) (V c main_arg4) (V c main_arg5) (V c main_arg6)) i := by
  have h : (dat0 V c).arrAt 5 cfg0.N = fun i => if (i 0).val / 1 = 1 then (grad (V c main_arg3) (V c main_arg4) (V c main_arg5) (V c main_arg6)) i else (dat0 V c).A 5 i := by
    refine (dat0 V c).arrAt_eq_of_coversWhere 5 _ (fun β => β (0 : Fin 3) = 1) (by decide +kernel) (fun t hf y => ?_) (fun j => Iff.rfl)
    blk_simp
    rw [after0_5]
    frame_out
    obtain ⟨e0, e1, e2⟩ := idx0_5 t
    have hi : ((View.whole main_v0_0).slice (win0_5.rect t)).emb y = (ix3 1 ⟨t.val * 256 + (y 1).val, row_lt0 t (y 1)⟩ (y 2) : S2x1024x768.Idx) := by
      refine funext fun a => Fin.ext ?_
      match a with
      | ⟨0, _⟩ => show win0_5.index t (0 : Fin 3) * 1 + 1 * (y 0).val = 1; rw [e0]; have : (y 0).val < 1 := (y 0).isLt; omega
      | ⟨1, _⟩ => show win0_5.index t (1 : Fin 3) * 256 + 1 * (y 1).val = t.val * 256 + (y 1).val; rw [e1]; omega
      | ⟨2, _⟩ => show win0_5.index t (2 : Fin 3) * 768 + 1 * (y 2).val = (y 2).val; rw [e2]; omega
    rw [hi]
    have hp := point0_5 V c t (y 0) (y 1) (y 2)
    generalize k0_pay7 (iblk0 V c 3 t) (iblk0 V c 4 t) = b at hp ⊢
    exact (congrArg b (eq_ix3 y)).trans hp
  rw [h]
  exact if_pos (by rw [Nat.div_one]; exact hi1)

/-- What point `t` writes to window 6. -/
theorem point0_6 (c : Dev nD) (t : Fin cfg0.N) (z : Fin 1) (r : Fin 256) (k : Fin 768) :
    k0_pay1 (k0_pay8 (iblk0 V c 3 t) (iblk0 V c 4 t) (iblk0 V c 1 t) (iblk0 V c 2 t) (iblk0 V c 0 t)) (ix3 z r k) = (delta (V c main_arg0) (V c main_arg1) (V c main_arg2) (grad (V c main_arg3) (V c main_arg4) (V c main_arg5) (V c main_arg6))) (ix3 1 ⟨t.val * 256 + r.val, row_lt0 t r⟩ k) := by
  rw [pay0_1, blk0_3, blk0_4, blk0_0, blk0_1, blk0_2]
  rfl

/-- The first call fills layer 1 of its result. -/
theorem final0_6 (c : Dev nD) (i : S2x1024x768.Idx) (hi1 : (i 0).val = 1) :
    (dat0 V c).arrAt 6 cfg0.N i = (delta (V c main_arg0) (V c main_arg1) (V c main_arg2) (grad (V c main_arg3) (V c main_arg4) (V c main_arg5) (V c main_arg6))) i := by
  have h : (dat0 V c).arrAt 6 cfg0.N = fun i => if (i 0).val / 1 = 1 then (delta (V c main_arg0) (V c main_arg1) (V c main_arg2) (grad (V c main_arg3) (V c main_arg4) (V c main_arg5) (V c main_arg6))) i else (dat0 V c).A 6 i := by
    refine (dat0 V c).arrAt_eq_of_coversWhere 6 _ (fun β => β (0 : Fin 3) = 1) (by decide +kernel) (fun t hf y => ?_) (fun j => Iff.rfl)
    blk_simp
    rw [after0_6]
    frame_out
    obtain ⟨e0, e1, e2⟩ := idx0_6 t
    have hi : ((View.whole main_v0_1).slice (win0_6.rect t)).emb y = (ix3 1 ⟨t.val * 256 + (y 1).val, row_lt0 t (y 1)⟩ (y 2) : S2x1024x768.Idx) := by
      refine funext fun a => Fin.ext ?_
      match a with
      | ⟨0, _⟩ => show win0_6.index t (0 : Fin 3) * 1 + 1 * (y 0).val = 1; rw [e0]; have : (y 0).val < 1 := (y 0).isLt; omega
      | ⟨1, _⟩ => show win0_6.index t (1 : Fin 3) * 256 + 1 * (y 1).val = t.val * 256 + (y 1).val; rw [e1]; omega
      | ⟨2, _⟩ => show win0_6.index t (2 : Fin 3) * 768 + 1 * (y 2).val = (y 2).val; rw [e2]; omega
    rw [hi]
    have hp := point0_6 V c t (y 0) (y 1) (y 2)
    generalize k0_pay1 (k0_pay8 (iblk0 V c 3 t) (iblk0 V c 4 t) (iblk0 V c 1 t) (iblk0 V c 2 t) (iblk0 V c 0 t)) = b at hp ⊢
    exact (congrArg b (eq_ix3 y)).trans hp
  rw [h]
  exact if_pos (by rw [Nat.div_one]; exact hi1)

/-- What point `t` writes to window 7. -/
theorem point0_7 (c : Dev nD) (t : Fin cfg0.N) (z : Fin 1) (r : Fin 256) (k : Fin 768) :
    k0_pay2 (k0_pay5 (iblk0 V c 3 t) (iblk0 V c 4 t) (iblk0 V c 1 t)) (ix3 z r k) = (fstM (V c main_arg1) (grad (V c main_arg3) (V c main_arg4) (V c main_arg5) (V c main_arg6))) (ix3 1 ⟨t.val * 256 + r.val, row_lt0 t r⟩ k) := by
  rw [pay0_2, blk0_3, blk0_4, blk0_1]
  rfl

/-- The first call fills layer 1 of its result. -/
theorem final0_7 (c : Dev nD) (i : S2x1024x768.Idx) (hi1 : (i 0).val = 1) :
    (dat0 V c).arrAt 7 cfg0.N i = (fstM (V c main_arg1) (grad (V c main_arg3) (V c main_arg4) (V c main_arg5) (V c main_arg6))) i := by
  have h : (dat0 V c).arrAt 7 cfg0.N = fun i => if (i 0).val / 1 = 1 then (fstM (V c main_arg1) (grad (V c main_arg3) (V c main_arg4) (V c main_arg5) (V c main_arg6))) i else (dat0 V c).A 7 i := by
    refine (dat0 V c).arrAt_eq_of_coversWhere 7 _ (fun β => β (0 : Fin 3) = 1) (by decide +kernel) (fun t hf y => ?_) (fun j => Iff.rfl)
    blk_simp
    rw [after0_7]
    frame_out
    obtain ⟨e0, e1, e2⟩ := idx0_7 t
    have hi : ((View.whole main_v0_2).slice (win0_7.rect t)).emb y = (ix3 1 ⟨t.val * 256 + (y 1).val, row_lt0 t (y 1)⟩ (y 2) : S2x1024x768.Idx) := by
      refine funext fun a => Fin.ext ?_
      match a with
      | ⟨0, _⟩ => show win0_7.index t (0 : Fin 3) * 1 + 1 * (y 0).val = 1; rw [e0]; have : (y 0).val < 1 := (y 0).isLt; omega
      | ⟨1, _⟩ => show win0_7.index t (1 : Fin 3) * 256 + 1 * (y 1).val = t.val * 256 + (y 1).val; rw [e1]; omega
      | ⟨2, _⟩ => show win0_7.index t (2 : Fin 3) * 768 + 1 * (y 2).val = (y 2).val; rw [e2]; omega
    rw [hi]
    have hp := point0_7 V c t (y 0) (y 1) (y 2)
    generalize k0_pay2 (k0_pay5 (iblk0 V c 3 t) (iblk0 V c 4 t) (iblk0 V c 1 t)) = b at hp ⊢
    exact (congrArg b (eq_ix3 y)).trans hp
  rw [h]
  exact if_pos (by rw [Nat.div_one]; exact hi1)

/-- What point `t` writes to window 8. -/
theorem point0_8 (c : Dev nD) (t : Fin cfg0.N) (z : Fin 1) (r : Fin 256) (k : Fin 768) :
    k0_pay3 (k0_pay6 (iblk0 V c 3 t) (iblk0 V c 4 t) (iblk0 V c 2 t)) (ix3 z r k) = (sndM (V c main_arg2) (grad (V c main_arg3) (V c main_arg4) (V c main_arg5) (V c main_arg6))) (ix3 1 ⟨t.val * 256 + r.val, row_lt0 t r⟩ k) := by
  rw [pay0_3, blk0_3, blk0_4, blk0_2]
  rfl

/-- The first call fills layer 1 of its result. -/
theorem final0_8 (c : Dev nD) (i : S2x1024x768.Idx) (hi1 : (i 0).val = 1) :
    (dat0 V c).arrAt 8 cfg0.N i = (sndM (V c main_arg2) (grad (V c main_arg3) (V c main_arg4) (V c main_arg5) (V c main_arg6))) i := by
  have h : (dat0 V c).arrAt 8 cfg0.N = fun i => if (i 0).val / 1 = 1 then (sndM (V c main_arg2) (grad (V c main_arg3) (V c main_arg4) (V c main_arg5) (V c main_arg6))) i else (dat0 V c).A 8 i := by
    refine (dat0 V c).arrAt_eq_of_coversWhere 8 _ (fun β => β (0 : Fin 3) = 1) (by decide +kernel) (fun t hf y => ?_) (fun j => Iff.rfl)
    blk_simp
    rw [after0_8]
    frame_out
    obtain ⟨e0, e1, e2⟩ := idx0_8 t
    have hi : ((View.whole main_v0_3).slice (win0_8.rect t)).emb y = (ix3 1 ⟨t.val * 256 + (y 1).val, row_lt0 t (y 1)⟩ (y 2) : S2x1024x768.Idx) := by
      refine funext fun a => Fin.ext ?_
      match a with
      | ⟨0, _⟩ => show win0_8.index t (0 : Fin 3) * 1 + 1 * (y 0).val = 1; rw [e0]; have : (y 0).val < 1 := (y 0).isLt; omega
      | ⟨1, _⟩ => show win0_8.index t (1 : Fin 3) * 256 + 1 * (y 1).val = t.val * 256 + (y 1).val; rw [e1]; omega
      | ⟨2, _⟩ => show win0_8.index t (2 : Fin 3) * 768 + 1 * (y 2).val = (y 2).val; rw [e2]; omega
    rw [hi]
    have hp := point0_8 V c t (y 0) (y 1) (y 2)
    generalize k0_pay3 (k0_pay6 (iblk0 V c 3 t) (iblk0 V c 4 t) (iblk0 V c 2 t)) = b at hp ⊢
    exact (congrArg b (eq_ix3 y)).trans hp
  rw [h]
  exact if_pos (by rw [Nat.div_one]; exact hi1)

theorem row_lt1 (t : Fin cfg1.N) (r : Fin 256) : t.val * 256 + r.val < 1024 := by
  have := lt_of_lt_of_eq t.isLt (N_1 : cfg1.N = 4)
  omega

theorem idx1_0 : ∀ t : Fin cfg1.N, win1_0.index t (0 : Fin 3) = 0 ∧ win1_0.index t (1 : Fin 3) = t.val ∧ win1_0.index t (2 : Fin 3) = 0 :=
  (by decide +kernel : ∀ t : Fin grid1.N, _)

theorem idx1_1 : ∀ t : Fin cfg1.N, win1_1.index t (0 : Fin 3) = 0 ∧ win1_1.index t (1 : Fin 3) = t.val ∧ win1_1.index t (2 : Fin 3) = 0 :=
  (by decide +kernel : ∀ t : Fin grid1.N, _)

theorem idx1_2 : ∀ t : Fin cfg1.N, win1_2.index t (0 : Fin 3) = 0 ∧ win1_2.index t (1 : Fin 3) = t.val ∧ win1_2.index t (2 : Fin 3) = 0 :=
  (by decide +kernel : ∀ t : Fin grid1.N, _)

theorem idx1_5 : ∀ t : Fin cfg1.N, win1_5.index t (0 : Fin 3) = 0 ∧ win1_5.index t (1 : Fin 3) = t.val ∧ win1_5.index t (2 : Fin 3) = 0 :=
  (by decide +kernel : ∀ t : Fin grid1.N, _)

theorem idx1_6 : ∀ t : Fin cfg1.N, win1_6.index t (0 : Fin 3) = 0 ∧ win1_6.index t (1 : Fin 3) = t.val ∧ win1_6.index t (2 : Fin 3) = 0 :=
  (by decide +kernel : ∀ t : Fin grid1.N, _)

theorem idx1_7 : ∀ t : Fin cfg1.N, win1_7.index t (0 : Fin 3) = 0 ∧ win1_7.index t (1 : Fin 3) = t.val ∧ win1_7.index t (2 : Fin 3) = 0 :=
  (by decide +kernel : ∀ t : Fin grid1.N, _)

theorem idx1_8 : ∀ t : Fin cfg1.N, win1_8.index t (0 : Fin 3) = 0 ∧ win1_8.index t (1 : Fin 3) = t.val ∧ win1_8.index t (2 : Fin 3) = 0 :=
  (by decide +kernel : ∀ t : Fin grid1.N, _)

theorem idx1_3 : ∀ t : Fin cfg1.N, win1_3.index t (0 : Fin 2) = t.val ∧ win1_3.index t (1 : Fin 2) = 0 :=
  (by decide +kernel : ∀ t : Fin grid1.N, _)

theorem idx1_4 : ∀ t : Fin cfg1.N, win1_4.index t (0 : Fin 2) = t.val ∧ win1_4.index t (1 : Fin 2) = 0 :=
  (by decide +kernel : ∀ t : Fin grid1.N, _)

theorem blk1_0 (c : Dev nD) (t : Fin cfg1.N) (z : Fin 1) (r : Fin 256) (k : Fin 768) :
    iblk1 V c 0 t (ix3 z r k) = V c main_arg0 (ix3 0 ⟨t.val * 256 + r.val, row_lt1 t r⟩ k) := by
  obtain ⟨e0, e1, e2⟩ := idx1_0 t
  show V c main_arg0 (((cfg1.win 0).blk t).view.emb (ix3 z r k)) = _
  refine congrArg _ (funext fun a => Fin.ext ?_)
  match a with
  | ⟨0, _⟩ => show win1_0.index t (0 : Fin 3) * 1 + 1 * z.val = 0; rw [e0]; omega
  | ⟨1, _⟩ => show win1_0.index t (1 : Fin 3) * 256 + 1 * r.val = t.val * 256 + r.val; rw [e1]; omega
  | ⟨2, _⟩ => show win1_0.index t (2 : Fin 3) * 768 + 1 * k.val = k.val; rw [e2]; omega

theorem blk1_1 (c : Dev nD) (t : Fin cfg1.N) (z : Fin 1) (r : Fin 256) (k : Fin 768) :
    iblk1 V c 1 t (ix3 z r k) = V c main_arg1 (ix3 0 ⟨t.val * 256 + r.val, row_lt1 t r⟩ k) := by
  obtain ⟨e0, e1, e2⟩ := idx1_1 t
  show V c main_arg1 (((cfg1.win 1).blk t).view.emb (ix3 z r k)) = _
  refine congrArg _ (funext fun a => Fin.ext ?_)
  match a with
  | ⟨0, _⟩ => show win1_1.index t (0 : Fin 3) * 1 + 1 * z.val = 0; rw [e0]; omega
  | ⟨1, _⟩ => show win1_1.index t (1 : Fin 3) * 256 + 1 * r.val = t.val * 256 + r.val; rw [e1]; omega
  | ⟨2, _⟩ => show win1_1.index t (2 : Fin 3) * 768 + 1 * k.val = k.val; rw [e2]; omega

theorem blk1_2 (c : Dev nD) (t : Fin cfg1.N) (z : Fin 1) (r : Fin 256) (k : Fin 768) :
    iblk1 V c 2 t (ix3 z r k) = V c main_arg2 (ix3 0 ⟨t.val * 256 + r.val, row_lt1 t r⟩ k) := by
  obtain ⟨e0, e1, e2⟩ := idx1_2 t
  show V c main_arg2 (((cfg1.win 2).blk t).view.emb (ix3 z r k)) = _
  refine congrArg _ (funext fun a => Fin.ext ?_)
  match a with
  | ⟨0, _⟩ => show win1_2.index t (0 : Fin 3) * 1 + 1 * z.val = 0; rw [e0]; omega
  | ⟨1, _⟩ => show win1_2.index t (1 : Fin 3) * 256 + 1 * r.val = t.val * 256 + r.val; rw [e1]; omega
  | ⟨2, _⟩ => show win1_2.index t (2 : Fin 3) * 768 + 1 * k.val = k.val; rw [e2]; omega

theorem blk1_3 (c : Dev nD) (t : Fin cfg1.N) (r : Fin 256) (k : Fin 768) :
    iblk1 V c 3 t (ix2 r k) = V c main_arg5 (ix2 ⟨t.val * 256 + r.val, row_lt1 t r⟩ k) := by
  obtain ⟨e0, e1⟩ := idx1_3 t
  show V c main_arg5 (((cfg1.win 3).blk t).view.emb (ix2 r k)) = _
  refine congrArg _ (funext fun a => Fin.ext ?_)
  match a with
  | ⟨0, _⟩ => show win1_3.index t (0 : Fin 2) * 256 + 1 * r.val = t.val * 256 + r.val; rw [e0]; omega
  | ⟨1, _⟩ => show win1_3.index t (1 : Fin 2) * 768 + 1 * k.val = k.val; rw [e1]; omega

theorem blk1_4 (c : Dev nD) (t : Fin cfg1.N) (r : Fin 256) (k : Fin 768) :
    iblk1 V c 4 t (ix2 r k) = V c main_arg6 (ix2 ⟨t.val * 256 + r.val, row_lt1 t r⟩ k) := by
  obtain ⟨e0, e1⟩ := idx1_4 t
  show V c main_arg6 (((cfg1.win 4).blk t).view.emb (ix2 r k)) = _
  refine congrArg _ (funext fun a => Fin.ext ?_)
  match a with
  | ⟨0, _⟩ => show win1_4.index t (0 : Fin 2) * 256 + 1 * r.val = t.val * 256 + r.val; rw [e0]; omega
  | ⟨1, _⟩ => show win1_4.index t (1 : Fin 2) * 768 + 1 * k.val = k.val; rw [e1]; omega

/-- What point `t` writes to window 5. -/
theorem point1_5 (c : Dev nD) (t : Fin cfg1.N) (z : Fin 1) (r : Fin 256) (k : Fin 768) :
    k1_pay7 (iblk1 V c 3 t) (iblk1 V c 4 t) (ix3 z r k) = (grad (V c main_arg3) (V c main_arg4) (V c main_arg5) (V c main_arg6)) (ix3 0 ⟨t.val * 256 + r.val, row_lt1 t r⟩ k) := by
  rw [pay1_7, blk1_3, blk1_4]
  rfl

/-- The second call fills layer 0, and leaves layer 1 as it finds it. -/
theorem final1_5 (c : Dev nD) (h1 : ∀ j : S2x1024x768.Idx, (j 0).val = 1 → V c main_v1_0 j = (grad (V c main_arg3) (V c main_arg4) (V c main_arg5) (V c main_arg6)) j) :
    (dat1 V c).arrAt 5 cfg1.N = (grad (V c main_arg3) (V c main_arg4) (V c main_arg5) (V c main_arg6)) := by
  refine (dat1 V c).arrAt_eq_of_coversWhere_of_agree 5 _ (fun β => β (0 : Fin 3) = 0) (by decide +kernel) (fun t hf y => ?_) (fun j hj => ?_)
  · blk_simp
    rw [after1_5]
    unfold outsAt1
    frame_out
    obtain ⟨e0, e1, e2⟩ := idx1_5 t
    have hi : ((View.whole main_v1_0).slice (win1_5.rect t)).emb y = (ix3 0 ⟨t.val * 256 + (y 1).val, row_lt1 t (y 1)⟩ (y 2) : S2x1024x768.Idx) := by
      refine funext fun a => Fin.ext ?_
      match a with
      | ⟨0, _⟩ => show win1_5.index t (0 : Fin 3) * 1 + 1 * (y 0).val = 0; rw [e0]; have : (y 0).val < 1 := (y 0).isLt; omega
      | ⟨1, _⟩ => show win1_5.index t (1 : Fin 3) * 256 + 1 * (y 1).val = t.val * 256 + (y 1).val; rw [e1]; omega
      | ⟨2, _⟩ => show win1_5.index t (2 : Fin 3) * 768 + 1 * (y 2).val = (y 2).val; rw [e2]; omega
    rw [hi]
    have hp := point1_5 V c t (y 0) (y 1) (y 2)
    generalize k1_pay7 (iblk1 V c 3 t) (iblk1 V c 4 t) = b at hp ⊢
    exact (congrArg b (eq_ix3 y)).trans hp
  · blk_simp [Pipeline.Window.cell_apply] at hj
    have hj2 : (j 0).val < 2 := (j 0).isLt
    exact h1 j (by omega)

/-- What point `t` writes to window 6. -/
theorem point1_6 (c : Dev nD) (t : Fin cfg1.N) (z : Fin 1) (r : Fin 256) (k : Fin 768) :
    k1_pay1 (k1_pay8 (iblk1 V c 3 t) (iblk1 V c 4 t) (iblk1 V c 1 t) (iblk1 V c 2 t) (iblk1 V c 0 t)) (ix3 z r k) = (delta (V c main_arg0) (V c main_arg1) (V c main_arg2) (grad (V c main_arg3) (V c main_arg4) (V c main_arg5) (V c main_arg6))) (ix3 0 ⟨t.val * 256 + r.val, row_lt1 t r⟩ k) := by
  rw [pay1_1, blk1_3, blk1_4, blk1_0, blk1_1, blk1_2]
  rfl

/-- The second call fills layer 0, and leaves layer 1 as it finds it. -/
theorem final1_6 (c : Dev nD) (h1 : ∀ j : S2x1024x768.Idx, (j 0).val = 1 → V c main_v1_1 j = (delta (V c main_arg0) (V c main_arg1) (V c main_arg2) (grad (V c main_arg3) (V c main_arg4) (V c main_arg5) (V c main_arg6))) j) :
    (dat1 V c).arrAt 6 cfg1.N = (delta (V c main_arg0) (V c main_arg1) (V c main_arg2) (grad (V c main_arg3) (V c main_arg4) (V c main_arg5) (V c main_arg6))) := by
  refine (dat1 V c).arrAt_eq_of_coversWhere_of_agree 6 _ (fun β => β (0 : Fin 3) = 0) (by decide +kernel) (fun t hf y => ?_) (fun j hj => ?_)
  · blk_simp
    rw [after1_6]
    unfold outsAt1
    frame_out
    obtain ⟨e0, e1, e2⟩ := idx1_6 t
    have hi : ((View.whole main_v1_1).slice (win1_6.rect t)).emb y = (ix3 0 ⟨t.val * 256 + (y 1).val, row_lt1 t (y 1)⟩ (y 2) : S2x1024x768.Idx) := by
      refine funext fun a => Fin.ext ?_
      match a with
      | ⟨0, _⟩ => show win1_6.index t (0 : Fin 3) * 1 + 1 * (y 0).val = 0; rw [e0]; have : (y 0).val < 1 := (y 0).isLt; omega
      | ⟨1, _⟩ => show win1_6.index t (1 : Fin 3) * 256 + 1 * (y 1).val = t.val * 256 + (y 1).val; rw [e1]; omega
      | ⟨2, _⟩ => show win1_6.index t (2 : Fin 3) * 768 + 1 * (y 2).val = (y 2).val; rw [e2]; omega
    rw [hi]
    have hp := point1_6 V c t (y 0) (y 1) (y 2)
    generalize k1_pay1 (k1_pay8 (iblk1 V c 3 t) (iblk1 V c 4 t) (iblk1 V c 1 t) (iblk1 V c 2 t) (iblk1 V c 0 t)) = b at hp ⊢
    exact (congrArg b (eq_ix3 y)).trans hp
  · blk_simp [Pipeline.Window.cell_apply] at hj
    have hj2 : (j 0).val < 2 := (j 0).isLt
    exact h1 j (by omega)

/-- What point `t` writes to window 7. -/
theorem point1_7 (c : Dev nD) (t : Fin cfg1.N) (z : Fin 1) (r : Fin 256) (k : Fin 768) :
    k1_pay2 (k1_pay5 (iblk1 V c 3 t) (iblk1 V c 4 t) (iblk1 V c 1 t)) (ix3 z r k) = (fstM (V c main_arg1) (grad (V c main_arg3) (V c main_arg4) (V c main_arg5) (V c main_arg6))) (ix3 0 ⟨t.val * 256 + r.val, row_lt1 t r⟩ k) := by
  rw [pay1_2, blk1_3, blk1_4, blk1_1]
  rfl

/-- The second call fills layer 0, and leaves layer 1 as it finds it. -/
theorem final1_7 (c : Dev nD) (h1 : ∀ j : S2x1024x768.Idx, (j 0).val = 1 → V c main_v1_2 j = (fstM (V c main_arg1) (grad (V c main_arg3) (V c main_arg4) (V c main_arg5) (V c main_arg6))) j) :
    (dat1 V c).arrAt 7 cfg1.N = (fstM (V c main_arg1) (grad (V c main_arg3) (V c main_arg4) (V c main_arg5) (V c main_arg6))) := by
  refine (dat1 V c).arrAt_eq_of_coversWhere_of_agree 7 _ (fun β => β (0 : Fin 3) = 0) (by decide +kernel) (fun t hf y => ?_) (fun j hj => ?_)
  · blk_simp
    rw [after1_7]
    unfold outsAt1
    frame_out
    obtain ⟨e0, e1, e2⟩ := idx1_7 t
    have hi : ((View.whole main_v1_2).slice (win1_7.rect t)).emb y = (ix3 0 ⟨t.val * 256 + (y 1).val, row_lt1 t (y 1)⟩ (y 2) : S2x1024x768.Idx) := by
      refine funext fun a => Fin.ext ?_
      match a with
      | ⟨0, _⟩ => show win1_7.index t (0 : Fin 3) * 1 + 1 * (y 0).val = 0; rw [e0]; have : (y 0).val < 1 := (y 0).isLt; omega
      | ⟨1, _⟩ => show win1_7.index t (1 : Fin 3) * 256 + 1 * (y 1).val = t.val * 256 + (y 1).val; rw [e1]; omega
      | ⟨2, _⟩ => show win1_7.index t (2 : Fin 3) * 768 + 1 * (y 2).val = (y 2).val; rw [e2]; omega
    rw [hi]
    have hp := point1_7 V c t (y 0) (y 1) (y 2)
    generalize k1_pay2 (k1_pay5 (iblk1 V c 3 t) (iblk1 V c 4 t) (iblk1 V c 1 t)) = b at hp ⊢
    exact (congrArg b (eq_ix3 y)).trans hp
  · blk_simp [Pipeline.Window.cell_apply] at hj
    have hj2 : (j 0).val < 2 := (j 0).isLt
    exact h1 j (by omega)

/-- What point `t` writes to window 8. -/
theorem point1_8 (c : Dev nD) (t : Fin cfg1.N) (z : Fin 1) (r : Fin 256) (k : Fin 768) :
    k1_pay3 (k1_pay6 (iblk1 V c 3 t) (iblk1 V c 4 t) (iblk1 V c 2 t)) (ix3 z r k) = (sndM (V c main_arg2) (grad (V c main_arg3) (V c main_arg4) (V c main_arg5) (V c main_arg6))) (ix3 0 ⟨t.val * 256 + r.val, row_lt1 t r⟩ k) := by
  rw [pay1_3, blk1_3, blk1_4, blk1_2]
  rfl

/-- The second call fills layer 0, and leaves layer 1 as it finds it. -/
theorem final1_8 (c : Dev nD) (h1 : ∀ j : S2x1024x768.Idx, (j 0).val = 1 → V c main_v1_3 j = (sndM (V c main_arg2) (grad (V c main_arg3) (V c main_arg4) (V c main_arg5) (V c main_arg6))) j) :
    (dat1 V c).arrAt 8 cfg1.N = (sndM (V c main_arg2) (grad (V c main_arg3) (V c main_arg4) (V c main_arg5) (V c main_arg6))) := by
  refine (dat1 V c).arrAt_eq_of_coversWhere_of_agree 8 _ (fun β => β (0 : Fin 3) = 0) (by decide +kernel) (fun t hf y => ?_) (fun j hj => ?_)
  · blk_simp
    rw [after1_8]
    unfold outsAt1
    frame_out
    obtain ⟨e0, e1, e2⟩ := idx1_8 t
    have hi : ((View.whole main_v1_3).slice (win1_8.rect t)).emb y = (ix3 0 ⟨t.val * 256 + (y 1).val, row_lt1 t (y 1)⟩ (y 2) : S2x1024x768.Idx) := by
      refine funext fun a => Fin.ext ?_
      match a with
      | ⟨0, _⟩ => show win1_8.index t (0 : Fin 3) * 1 + 1 * (y 0).val = 0; rw [e0]; have : (y 0).val < 1 := (y 0).isLt; omega
      | ⟨1, _⟩ => show win1_8.index t (1 : Fin 3) * 256 + 1 * (y 1).val = t.val * 256 + (y 1).val; rw [e1]; omega
      | ⟨2, _⟩ => show win1_8.index t (2 : Fin 3) * 768 + 1 * (y 2).val = (y 2).val; rw [e2]; omega
    rw [hi]
    have hp := point1_8 V c t (y 0) (y 1) (y 2)
    generalize k1_pay3 (k1_pay6 (iblk1 V c 3 t) (iblk1 V c 4 t) (iblk1 V c 2 t)) = b at hp ⊢
    exact (congrArg b (eq_ix3 y)).trans hp
  · blk_simp [Pipeline.Window.cell_apply] at hj
    have hj2 : (j 0).val < 2 := (j 0).isLt
    exact h1 j (by omega)

end Regions

/-! ## The run -/

variable (m : (ℓ : Loc nD τ sig) → Buf (Elt Ideal) ℓ) (ρ : Dev nD → PrngReg)

/-- An argument's contents as the first call finds them. -/
abbrev A0 (c : Dev nD) : FVec Ideal S2x1024x768 .f32 := m ((c : Thread nD τ).loc main_arg0)
abbrev A1 (c : Dev nD) : FVec Ideal S2x1024x768 .f32 := m ((c : Thread nD τ).loc main_arg1)
abbrev A2 (c : Dev nD) : FVec Ideal S2x1024x768 .f32 := m ((c : Thread nD τ).loc main_arg2)
/-- The gradient of the launch's arguments. -/
abbrev GR (c : Dev nD) : FVec Ideal S2x1024x768 .f32 :=
  grad (m ((c : Thread nD τ).loc main_arg3)) (m ((c : Thread nD τ).loc main_arg4)) (m ((c : Thread nD τ).loc main_arg5)) (m ((c : Thread nD τ).loc main_arg6))

theorem V2_arg (c : Dev nD) (a : Ref sig .tc) (ha : a ∈ argRefs) : V2 m ρ c a = m ((c : Thread nD τ).loc a) := W2_args m ρ c a ha

theorem entry5 (c : Dev nD) : V2 m ρ c main_v1_0 = (dat0 (V0 m ρ) c).arrAt 5 cfg0.N := by
  refine Eq.trans ?_ (W1_arr m ρ c 5)
  show StableHlo.after hostOps1 _ _ = _
  after_results <;> rfl

theorem W3_res5 (c : Dev nD) : W3 m ρ c (Proc.devRef .tc main_v1_0) = GR m c := by
  refine (W3_arr m ρ c 5).trans ((final1_5 (V2 m ρ) c (fun j hj => ?_)).trans ?_)
  · rw [entry5, final0_5 (V0 m ρ) c j hj]
    iterate 7 try rw [V2_arg m ρ c _ (by decide)]
  · iterate 7 try rw [V2_arg m ρ c _ (by decide)]

theorem entry6 (c : Dev nD) : V2 m ρ c main_v1_1 = (dat0 (V0 m ρ) c).arrAt 6 cfg0.N := by
  refine Eq.trans ?_ (W1_arr m ρ c 6)
  show StableHlo.after hostOps1 _ _ = _
  after_results <;> rfl

theorem W3_res6 (c : Dev nD) : W3 m ρ c (Proc.devRef .tc main_v1_1) = delta (A0 m c) (A1 m c) (A2 m c) (GR m c) := by
  refine (W3_arr m ρ c 6).trans ((final1_6 (V2 m ρ) c (fun j hj => ?_)).trans ?_)
  · rw [entry6, final0_6 (V0 m ρ) c j hj]
    iterate 7 try rw [V2_arg m ρ c _ (by decide)]
  · iterate 7 try rw [V2_arg m ρ c _ (by decide)]

theorem entry7 (c : Dev nD) : V2 m ρ c main_v1_2 = (dat0 (V0 m ρ) c).arrAt 7 cfg0.N := by
  refine Eq.trans ?_ (W1_arr m ρ c 7)
  show StableHlo.after hostOps1 _ _ = _
  after_results <;> rfl

theorem W3_res7 (c : Dev nD) : W3 m ρ c (Proc.devRef .tc main_v1_2) = fstM (A1 m c) (GR m c) := by
  refine (W3_arr m ρ c 7).trans ((final1_7 (V2 m ρ) c (fun j hj => ?_)).trans ?_)
  · rw [entry7, final0_7 (V0 m ρ) c j hj]
    iterate 7 try rw [V2_arg m ρ c _ (by decide)]
  · iterate 7 try rw [V2_arg m ρ c _ (by decide)]

theorem entry8 (c : Dev nD) : V2 m ρ c main_v1_3 = (dat0 (V0 m ρ) c).arrAt 8 cfg0.N := by
  refine Eq.trans ?_ (W1_arr m ρ c 8)
  show StableHlo.after hostOps1 _ _ = _
  after_results <;> rfl

theorem W3_res8 (c : Dev nD) : W3 m ρ c (Proc.devRef .tc main_v1_3) = sndM (A2 m c) (GR m c) := by
  refine (W3_arr m ρ c 8).trans ((final1_8 (V2 m ρ) c (fun j hj => ?_)).trans ?_)
  · rw [entry8, final0_8 (V0 m ρ) c j hj]
    iterate 7 try rw [V2_arg m ρ c _ (by decide)]
  · iterate 7 try rw [V2_arg m ρ c _ (by decide)]

section Run
open Idealize.ShloMosaic.Tactic Idealize.SL Idealize.SL.RA Idealize.SL.BI
open scoped Idealize.SL.BI
open Idealize.SL.BI.BIBase Idealize.SL.BI.Laws Idealize.SL.ProofMode
open Idealize.ShloMosaic.Rounds

/-- The heap the run's assertions speak of. -/
local notation "𝕄" => MT nD τ sig Unit (Elt Ideal) ℕ (UR sig nD τ) ℕ

-- the launch lemma's implicit arguments are found from the conclusion
set_option backward.isDefEq.respectTransparency.types false in
/-- The program ends with its four results at the contents after the second call, its arguments unchanged. -/
theorem run_mem : θ_run defs (onTc (τ := τ) (main (F := Ideal))) ⟨m, fun _ => 0, ρ⟩ (fun r => ∀ c : Dev nD,
      ∀ b ∈ Pipeline.ucRefs τ sig, r.2.mem (((c : Thread nD τ)).1, b) = W3 (F := Ideal) m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Run

/-! ## The reference -/

section Reference
open Cert.AdamInRefIdeal Cert.AdamInRefIdeal.Gen

/-- The reference's stack of the two layers' sums. -/
theorem stack_apply (a1 b1 a0 b0 : FVec Ideal S1024x768 .f32) (l : Fin 2) (r : Fin 1024) (k : Fin 768) :
    concatenate Cert.AdamInRefIdeal.S2x1024x768 0 [⟨S1x1024x768, (broadcastInDim S1x1024x768 ![1, 2] bcast_S1024x768_S1x1024x768_1_2 (addf a0 b0))⟩, ⟨S1x1024x768, (broadcastInDim S1x1024x768 ![1, 2] bcast_S1024x768_S1x1024x768_1_2 (addf a1 b1))⟩] concatenates_S1x1024x768_S1x1024x768_S2x1024x768_d0 (ix3 l r k)
      = grad a1 b1 a0 b0 (ix3 l r k) := by
  unfold grad
  obtain ⟨l, hl⟩ := l
  interval_cases l
  · exact by pointwise
  · exact by pointwise

theorem ref_delta (w m v s a : FVec Ideal Cert.AdamInRefIdeal.S2x1024x768 .f32) (hs : ∀ l r k, s (ix3 l r k) = a (ix3 l r k)) :
    mulf (broadcastInDim Cert.AdamInRefIdeal.S2x1024x768 ![] bcast_S_S2x1024x768 (constant S_ .f32 0xBA83126F#32)) (addf (Host.divf (Host.divf (addf (mulf (broadcastInDim Cert.AdamInRefIdeal.S2x1024x768 ![] bcast_S_S2x1024x768 (constant S_ .f32 0x3F666666#32)) m) (mulf (broadcastInDim Cert.AdamInRefIdeal.S2x1024x768 ![] bcast_S_S2x1024x768 (constant S_ .f32 0x3DCCCCCD#32)) s)) (broadcastInDim Cert.AdamInRefIdeal.S2x1024x768 ![] bcast_S_S2x1024x768 (constant S_ .f32 0x3F26BD02#32))) (addf (Host.sqrt (Host.divf (addf (mulf (broadcastInDim Cert.AdamInRefIdeal.S2x1024x768 ![] bcast_S_S2x1024x768 (constant S_ .f32 0x3F7FBE77#32)) v) (mulf (broadcastInDim Cert.AdamInRefIdeal.S2x1024x768 ![] bcast_S_S2x1024x768 (constant S_ .f32 0x3A83126F#32)) (mulf s s))) (broadcastInDim Cert.AdamInRefIdeal.S2x1024x768 ![] bcast_S_S2x1024x768 (constant S_ .f32 0x3C231ACC#32)))) (broadcastInDim Cert.AdamInRefIdeal.S2x1024x768 ![] bcast_S_S2x1024x768 (constant S_ .f32 0x322BCC77#32)))) (mulf (broadcastInDim Cert.AdamInRefIdeal.S2x1024x768 ![] bcast_S_S2x1024x768 (constant S_ .f32 0x3C23D70A#32)) w)) = delta w m v a := by
  funext i
  obtain ⟨l, r, k, rfl⟩ : ∃ (l : Fin 2) (r : Fin 1024) (k : Fin 768), i = ix3 l r k := ⟨i 0, i 1, i 2, eq_ix3 i⟩
  unfold delta
  rw [show a = s from funext fun i => by rw [eq_ix3 i]; exact (hs _ _ _).symm]
  unfold step mNew vNew
  pointwise

theorem ref_fstM (m s a : FVec Ideal Cert.AdamInRefIdeal.S2x1024x768 .f32) (hs : ∀ l r k, s (ix3 l r k) = a (ix3 l r k)) :
    addf (mulf (broadcastInDim Cert.AdamInRefIdeal.S2x1024x768 ![] bcast_S_S2x1024x768 (constant S_ .f32 0x3F666666#32)) m) (mulf (broadcastInDim Cert.AdamInRefIdeal.S2x1024x768 ![] bcast_S_S2x1024x768 (constant S_ .f32 0x3DCCCCCD#32)) s) = fstM m a := by
  funext i
  obtain ⟨l, r, k, rfl⟩ : ∃ (l : Fin 2) (r : Fin 1024) (k : Fin 768), i = ix3 l r k := ⟨i 0, i 1, i 2, eq_ix3 i⟩
  unfold fstM
  rw [show a = s from funext fun i => by rw [eq_ix3 i]; exact (hs _ _ _).symm]
  unfold mNew
  pointwise

theorem ref_sndM (v s a : FVec Ideal Cert.AdamInRefIdeal.S2x1024x768 .f32) (hs : ∀ l r k, s (ix3 l r k) = a (ix3 l r k)) :
    addf (mulf (broadcastInDim Cert.AdamInRefIdeal.S2x1024x768 ![] bcast_S_S2x1024x768 (constant S_ .f32 0x3F7FBE77#32)) v) (mulf (broadcastInDim Cert.AdamInRefIdeal.S2x1024x768 ![] bcast_S_S2x1024x768 (constant S_ .f32 0x3A83126F#32)) (mulf s s)) = sndM v a := by
  funext i
  obtain ⟨l, r, k, rfl⟩ : ∃ (l : Fin 2) (r : Fin 1024) (k : Fin 768), i = ix3 l r k := ⟨i 0, i 1, i 2, eq_ix3 i⟩
  unfold sndM
  rw [show a = s from funext fun i => by rw [eq_ix3 i]; exact (hs _ _ _).symm]
  unfold vNew
  pointwise

end Reference

/-- The two programs compute the same gradient, update and moments. -/
theorem algebraic : Cert.algebraic_AdamInIdeal_AdamInRefIdeal := by
  intro m g m' g' _ hargs
  refine ⟨fun c => GR m c, fun c => delta (A0 m c) (A1 m c) (A2 m c) (GR m c), fun c => fstM (A1 m c) (GR m c), fun c => sndM (A2 m c) (GR m c),
    (θ_run defs _ _).mono (fun r h c => ?_) (run_mem m g),
    (θ_run Cert.AdamInRefIdeal.defs _ _).mono (fun r h c => ?_) (Cert.AdamInRefIdeal.Value.run (F := Ideal) m' g')⟩
  · exact ⟨(h c _ (mem_uc main_v1_0 (by decide))).trans (W3_res5 m g c),
      (h c _ (mem_uc main_v1_1 (by decide))).trans (W3_res6 m g c),
      (h c _ (mem_uc main_v1_2 (by decide))).trans (W3_res7 m g c),
      (h c _ (mem_uc main_v1_3 (by decide))).trans (W3_res8 m g c),
      (h c _ (mem_uc main_arg0 (by decide))).trans (W3_main_arg0 m g c),
      (h c _ (mem_uc main_arg1 (by decide))).trans (W3_main_arg1 m g c),
      (h c _ (mem_uc main_arg2 (by decide))).trans (W3_main_arg2 m g c),
      (h c _ (mem_uc main_arg3 (by decide))).trans (W3_main_arg3 m g c),
      (h c _ (mem_uc main_arg4 (by decide))).trans (W3_main_arg4 m g c),
      (h c _ (mem_uc main_arg5 (by decide))).trans (W3_main_arg5 m g c),
      (h c _ (mem_uc main_arg6 (by decide))).trans (W3_main_arg6 m g c)⟩
  obtain ⟨h0, h1, h2, h3, hr⟩ := h c
  obtain ⟨a0, a1, a2, a3, a4, a5, a6⟩ := hargs c
  rw [a3, a4, a5, a6] at h0 h1 h2 h3
  rw [a0, a1, a2] at h1
  rw [a1] at h2
  rw [a2] at h3
  have hs := stack_apply (m ((c : Thread nD τ).loc main_arg3)) (m ((c : Thread nD τ).loc main_arg4)) (m ((c : Thread nD τ).loc main_arg5)) (m ((c : Thread nD τ).loc main_arg6))
  generalize concatenate (α := Ideal .f32) Cert.AdamInRefIdeal.S2x1024x768 0 _ _ = s at h0 h1 h2 h3 hs
  refine ⟨h0.trans ?_, h1.trans ?_, h2.trans ?_, h3.trans ?_, hr⟩
  · funext i
    rw [eq_ix3 i]
    exact hs _ _ _
  · exact ref_delta _ _ _ s (GR m c) hs
  · exact ref_fstM _ s (GR m c) hs
  · exact ref_sndM _ s (GR m c) hs

end Cert.AdamInIdeal.Value

end
-- ==== Proof.AdamO.lean ====
/-
  The AdamW update of a chip's rows of `w_o`, a stack of two layers of 256x1024: the gradient
  of each layer is the sum of the two partial gradients it arrives as; from it come the update and the two
  new moments. The layers are updated by two calls, layer 1 first, the second one in the first one's arrays.
-/
module

public import proofs.«01_k».proof.Defs
public import proofs.«01_k».proof.Proof.AdamRow
public import proofs.«01_k».proof.Proof.Gen.AdamOIdeal.Frame
public import proofs.«01_k».proof.Proof.Gen.AdamORefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamOIdeal.Value

open Cert.AdamOIdeal Cert.AdamOIdeal.Gen Idealize.ShloMosaic Idealize.ShloMosaic.TcCoe Idealize.SL.Sem
open Cert.AdamRow

/-! ## The four results at an index -/

/-- The gradient of the stack: each layer's two partial gradients added. -/
def grad (a1 b1 a0 b0 : FVec Ideal S256x1024 .f32) : FVec Ideal S2x256x1024 .f32 := fun i =>
  if (i 0).val = 0 then a0 (ix2 (i 1) (i 2)) + b0 (ix2 (i 1) (i 2)) else a1 (ix2 (i 1) (i 2)) + b1 (ix2 (i 1) (i 2))

/-- The new first moment. -/
def fstM (m a : FVec Ideal S2x256x1024 .f32) : FVec Ideal S2x256x1024 .f32 := fun i => mNew (m i) (a i)

/-- The new second moment. -/
def sndM (v a : FVec Ideal S2x256x1024 .f32) : FVec Ideal S2x256x1024 .f32 := fun i => vNew (v i) (a i)

/-- The update of the weights. -/
def delta (w m v a : FVec Ideal S2x256x1024 .f32) : FVec Ideal S2x256x1024 .f32 := fun i => step (w i) (m i) (v i) (a i)

/-! ## One point's blocks -/

theorem pay0_7 (a b : Vec Ideal S256x1024 .f32) (z : Fin 1) (r : Fin 256) (k : Fin 1024) :
    k0_pay7 a b (ix3 z r k) = a (ix2 r k) + b (ix2 r k) := by
  obtain rfl : z = 0 := Subsingleton.elim _ _
  pointwise [k0_pay7, k0_pay4]

theorem pay0_2 (a b : Vec Ideal S256x1024 .f32) (x : Vec Ideal S1x256x1024 .f32) (z : Fin 1) (r : Fin 256) (k : Fin 1024) :
    k0_pay2 (k0_pay5 a b x) (ix3 z r k) = mNew (x (ix3 z r k)) (a (ix2 r k) + b (ix2 r k)) := by
  obtain rfl : z = 0 := Subsingleton.elim _ _
  unfold mNew
  pointwise [k0_pay2, k0_pay5, k0_pay4]

theorem pay0_3 (a b : Vec Ideal S256x1024 .f32) (x : Vec Ideal S1x256x1024 .f32) (z : Fin 1) (r : Fin 256) (k : Fin 1024) :
    k0_pay3 (k0_pay6 a b x) (ix3 z r k) = vNew (x (ix3 z r k)) (a (ix2 r k) + b (ix2 r k)) := by
  obtain rfl : z = 0 := Subsingleton.elim _ _
  unfold vNew
  pointwise [k0_pay3, k0_pay6, k0_pay4]

theorem pay0_1 (a b : Vec Ideal S256x1024 .f32) (x y w : Vec Ideal S1x256x1024 .f32) (z : Fin 1) (r : Fin 256) (k : Fin 1024) :
    k0_pay1 (k0_pay8 a b x y w) (ix3 z r k) = step (w (ix3 z r k)) (x (ix3 z r k)) (y (ix3 z r k)) (a (ix2 r k) + b (ix2 r k)) := by
  obtain rfl : z = 0 := Subsingleton.elim _ _
  unfold step mNew vNew
  pointwise [k0_pay1, k0_pay8, k0_pay5, k0_pay6, k0_pay4]

theorem pay1_7 (a b : Vec Ideal S256x1024 .f32) (z : Fin 1) (r : Fin 256) (k : Fin 1024) :
    k1_pay7 a b (ix3 z r k) = a (ix2 r k) + b (ix2 r k) := by
  obtain rfl : z = 0 := Subsingleton.elim _ _
  pointwise [k1_pay7, k1_pay4]

theorem pay1_2 (a b : Vec Ideal S256x1024 .f32) (x : Vec Ideal S1x256x1024 .f32) (z : Fin 1) (r : Fin 256) (k : Fin 1024) :
    k1_pay2 (k1_pay5 a b x) (ix3 z r k) = mNew (x (ix3 z r k)) (a (ix2 r k) + b (ix2 r k)) := by
  obtain rfl : z = 0 := Subsingleton.elim _ _
  unfold mNew
  pointwise [k1_pay2, k1_pay5, k1_pay4]

theorem pay1_3 (a b : Vec Ideal S256x1024 .f32) (x : Vec Ideal S1x256x1024 .f32) (z : Fin 1) (r : Fin 256) (k : Fin 1024) :
    k1_pay3 (k1_pay6 a b x) (ix3 z r k) = vNew (x (ix3 z r k)) (a (ix2 r k) + b (ix2 r k)) := by
  obtain rfl : z = 0 := Subsingleton.elim _ _
  unfold vNew
  pointwise [k1_pay3, k1_pay6, k1_pay4]

theorem pay1_1 (a b : Vec Ideal S256x1024 .f32) (x y w : Vec Ideal S1x256x1024 .f32) (z : Fin 1) (r : Fin 256) (k : Fin 1024) :
    k1_pay1 (k1_pay8 a b x y w) (ix3 z r k) = step (w (ix3 z r k)) (x (ix3 z r k)) (y (ix3 z r k)) (a (ix2 r k) + b (ix2 r k)) := by
  obtain rfl : z = 0 := Subsingleton.elim _ _
  unfold step mNew vNew
  pointwise [k1_pay1, k1_pay8, k1_pay5, k1_pay6, k1_pay4]

/-! ## The regions, from any entry contents -/

section Regions

variable (V : (c : Dev nD) → (b : Ref sig .tc) → Buf (Elt Ideal) ((c : Thread nD τ).loc b))

theorem row_lt0 (t : Fin cfg0.N) (r : Fin 256) : t.val * 256 + r.val < 256 := by
  have := lt_of_lt_of_eq t.isLt (N_0 : cfg0.N = 1)
  omega

theorem idx0_0 : ∀ t : Fin cfg0.N, win0_0.index t (0 : Fin 3) = 1 ∧ win0_0.index t (1 : Fin 3) = t.val ∧ win0_0.index t (2 : Fin 3) = 0 :=
  (by decide +kernel : ∀ t : Fin grid0.N, _)

theorem idx0_1 : ∀ t : Fin cfg0.N, win0_1.index t (0 : Fin 3) = 1 ∧ win0_1.index t (1 : Fin 3) = t.val ∧ win0_1.index t (2 : Fin 3) = 0 :=
  (by decide +kernel : ∀ t : Fin grid0.N, _)

theorem idx0_2 : ∀ t : Fin cfg0.N, win0_2.index t (0 : Fin 3) = 1 ∧ win0_2.index t (1 : Fin 3) = t.val ∧ win0_2.index t (2 : Fin 3) = 0 :=
  (by decide +kernel : ∀ t : Fin grid0.N, _)

theorem idx0_5 : ∀ t : Fin cfg0.N, win0_5.index t (0 : Fin 3) = 1 ∧ win0_5.index t (1 : Fin 3) = t.val ∧ win0_5.index t (2 : Fin 3) = 0 :=
  (by decide +kernel : ∀ t : Fin grid0.N, _)

theorem idx0_6 : ∀ t : Fin cfg0.N, win0_6.index t (0 : Fin 3) = 1 ∧ win0_6.index t (1 : Fin 3) = t.val ∧ win0_6.index t (2 : Fin 3) = 0 :=
  (by decide +kernel : ∀ t : Fin grid0.N, _)

theorem idx0_7 : ∀ t : Fin cfg0.N, win0_7.index t (0 : Fin 3) = 1 ∧ win0_7.index t (1 : Fin 3) = t.val ∧ win0_7.index t (2 : Fin 3) = 0 :=
  (by decide +kernel : ∀ t : Fin grid0.N, _)

theorem idx0_8 : ∀ t : Fin cfg0.N, win0_8.index t (0 : Fin 3) = 1 ∧ win0_8.index t (1 : Fin 3) = t.val ∧ win0_8.index t (2 : Fin 3) = 0 :=
  (by decide +kernel : ∀ t : Fin grid0.N, _)

theorem idx0_3 : ∀ t : Fin cfg0.N, win0_3.index t (0 : Fin 2) = t.val ∧ win0_3.index t (1 : Fin 2) = 0 :=
  (by decide +kernel : ∀ t : Fin grid0.N, _)

theorem idx0_4 : ∀ t : Fin cfg0.N, win0_4.index t (0 : Fin 2) = t.val ∧ win0_4.index t (1 : Fin 2) = 0 :=
  (by decide +kernel : ∀ t : Fin grid0.N, _)

theorem blk0_0 (c : Dev nD) (t : Fin cfg0.N) (z : Fin 1) (r : Fin 256) (k : Fin 1024) :
    iblk0 V c 0 t (ix3 z r k) = V c main_arg0 (ix3 1 ⟨t.val * 256 + r.val, row_lt0 t r⟩ k) := by
  obtain ⟨e0, e1, e2⟩ := idx0_0 t
  show V c main_arg0 (((cfg0.win 0).blk t).view.emb (ix3 z r k)) = _
  refine congrArg _ (funext fun a => Fin.ext ?_)
  match a with
  | ⟨0, _⟩ => show win0_0.index t (0 : Fin 3) * 1 + 1 * z.val = 1; rw [e0]; omega
  | ⟨1, _⟩ => show win0_0.index t (1 : Fin 3) * 256 + 1 * r.val = t.val * 256 + r.val; rw [e1]; omega
  | ⟨2, _⟩ => show win0_0.index t (2 : Fin 3) * 1024 + 1 * k.val = k.val; rw [e2]; omega

theorem blk0_1 (c : Dev nD) (t : Fin cfg0.N) (z : Fin 1) (r : Fin 256) (k : Fin 1024) :
    iblk0 V c 1 t (ix3 z r k) = V c main_arg1 (ix3 1 ⟨t.val * 256 + r.val, row_lt0 t r⟩ k) := by
  obtain ⟨e0, e1, e2⟩ := idx0_1 t
  show V c main_arg1 (((cfg0.win 1).blk t).view.emb (ix3 z r k)) = _
  refine congrArg _ (funext fun a => Fin.ext ?_)
  match a with
  | ⟨0, _⟩ => show win0_1.index t (0 : Fin 3) * 1 + 1 * z.val = 1; rw [e0]; omega
  | ⟨1, _⟩ => show win0_1.index t (1 : Fin 3) * 256 + 1 * r.val = t.val * 256 + r.val; rw [e1]; omega
  | ⟨2, _⟩ => show win0_1.index t (2 : Fin 3) * 1024 + 1 * k.val = k.val; rw [e2]; omega

theorem blk0_2 (c : Dev nD) (t : Fin cfg0.N) (z : Fin 1) (r : Fin 256) (k : Fin 1024) :
    iblk0 V c 2 t (ix3 z r k) = V c main_arg2 (ix3 1 ⟨t.val * 256 + r.val, row_lt0 t r⟩ k) := by
  obtain ⟨e0, e1, e2⟩ := idx0_2 t
  show V c main_arg2 (((cfg0.win 2).blk t).view.emb (ix3 z r k)) = _
  refine congrArg _ (funext fun a => Fin.ext ?_)
  match a with
  | ⟨0, _⟩ => show win0_2.index t (0 : Fin 3) * 1 + 1 * z.val = 1; rw [e0]; omega
  | ⟨1, _⟩ => show win0_2.index t (1 : Fin 3) * 256 + 1 * r.val = t.val * 256 + r.val; rw [e1]; omega
  | ⟨2, _⟩ => show win0_2.index t (2 : Fin 3) * 1024 + 1 * k.val = k.val; rw [e2]; omega

theorem blk0_3 (c : Dev nD) (t : Fin cfg0.N) (r : Fin 256) (k : Fin 1024) :
    iblk0 V c 3 t (ix2 r k) = V c main_arg3 (ix2 ⟨t.val * 256 + r.val, row_lt0 t r⟩ k) := by
  obtain ⟨e0, e1⟩ := idx0_3 t
  show V c main_arg3 (((cfg0.win 3).blk t).view.emb (ix2 r k)) = _
  refine congrArg _ (funext fun a => Fin.ext ?_)
  match a with
  | ⟨0, _⟩ => show win0_3.index t (0 : Fin 2) * 256 + 1 * r.val = t.val * 256 + r.val; rw [e0]; omega
  | ⟨1, _⟩ => show win0_3.index t (1 : Fin 2) * 1024 + 1 * k.val = k.val; rw [e1]; omega

theorem blk0_4 (c : Dev nD) (t : Fin cfg0.N) (r : Fin 256) (k : Fin 1024) :
    iblk0 V c 4 t (ix2 r k) = V c main_arg4 (ix2 ⟨t.val * 256 + r.val, row_lt0 t r⟩ k) := by
  obtain ⟨e0, e1⟩ := idx0_4 t
  show V c main_arg4 (((cfg0.win 4).blk t).view.emb (ix2 r k)) = _
  refine congrArg _ (funext fun a => Fin.ext ?_)
  match a with
  | ⟨0, _⟩ => show win0_4.index t (0 : Fin 2) * 256 + 1 * r.val = t.val * 256 + r.val; rw [e0]; omega
  | ⟨1, _⟩ => show win0_4.index t (1 : Fin 2) * 1024 + 1 * k.val = k.val; rw [e1]; omega

/-- What point `t` writes to window 5. -/
theorem point0_5 (c : Dev nD) (t : Fin cfg0.N) (z : Fin 1) (r : Fin 256) (k : Fin 1024) :
    k0_pay7 (iblk0 V c 3 t) (iblk0 V c 4 t) (ix3 z r k) = (grad (V c main_arg3) (V c main_arg4) (V c main_arg5) (V c main_arg6)) (ix3 1 ⟨t.val * 256 + r.val, row_lt0 t r⟩ k) := by
  rw [pay0_7, blk0_3, blk0_4]
  rfl

/-- The first call fills layer 1 of its result. -/
theorem final0_5 (c : Dev nD) (i : S2x256x1024.Idx) (hi1 : (i 0).val = 1) :
    (dat0 V c).arrAt 5 cfg0.N i = (grad (V c main_arg3) (V c main_arg4) (V c main_arg5) (V c main_arg6)) i := by
  have h : (dat0 V c).arrAt 5 cfg0.N = fun i => if (i 0).val / 1 = 1 then (grad (V c main_arg3) (V c main_arg4) (V c main_arg5) (V c main_arg6)) i else (dat0 V c).A 5 i := by
    refine (dat0 V c).arrAt_eq_of_coversWhere 5 _ (fun β => β (0 : Fin 3) = 1) (by decide +kernel) (fun t hf y => ?_) (fun j => Iff.rfl)
    blk_simp
    rw [after0_5]
    frame_out
    obtain ⟨e0, e1, e2⟩ := idx0_5 t
    have hi : ((View.whole main_v0_0).slice (win0_5.rect t)).emb y = (ix3 1 ⟨t.val * 256 + (y 1).val, row_lt0 t (y 1)⟩ (y 2) : S2x256x1024.Idx) := by
      refine funext fun a => Fin.ext ?_
      match a with
      | ⟨0, _⟩ => show win0_5.index t (0 : Fin 3) * 1 + 1 * (y 0).val = 1; rw [e0]; have : (y 0).val < 1 := (y 0).isLt; omega
      | ⟨1, _⟩ => show win0_5.index t (1 : Fin 3) * 256 + 1 * (y 1).val = t.val * 256 + (y 1).val; rw [e1]; omega
      | ⟨2, _⟩ => show win0_5.index t (2 : Fin 3) * 1024 + 1 * (y 2).val = (y 2).val; rw [e2]; omega
    rw [hi]
    have hp := point0_5 V c t (y 0) (y 1) (y 2)
    generalize k0_pay7 (iblk0 V c 3 t) (iblk0 V c 4 t) = b at hp ⊢
    exact (congrArg b (eq_ix3 y)).trans hp
  rw [h]
  exact if_pos (by rw [Nat.div_one]; exact hi1)

/-- What point `t` writes to window 6. -/
theorem point0_6 (c : Dev nD) (t : Fin cfg0.N) (z : Fin 1) (r : Fin 256) (k : Fin 1024) :
    k0_pay1 (k0_pay8 (iblk0 V c 3 t) (iblk0 V c 4 t) (iblk0 V c 1 t) (iblk0 V c 2 t) (iblk0 V c 0 t)) (ix3 z r k) = (delta (V c main_arg0) (V c main_arg1) (V c main_arg2) (grad (V c main_arg3) (V c main_arg4) (V c main_arg5) (V c main_arg6))) (ix3 1 ⟨t.val * 256 + r.val, row_lt0 t r⟩ k) := by
  rw [pay0_1, blk0_3, blk0_4, blk0_0, blk0_1, blk0_2]
  rfl

/-- The first call fills layer 1 of its result. -/
theorem final0_6 (c : Dev nD) (i : S2x256x1024.Idx) (hi1 : (i 0).val = 1) :
    (dat0 V c).arrAt 6 cfg0.N i = (delta (V c main_arg0) (V c main_arg1) (V c main_arg2) (grad (V c main_arg3) (V c main_arg4) (V c main_arg5) (V c main_arg6))) i := by
  have h : (dat0 V c).arrAt 6 cfg0.N = fun i => if (i 0).val / 1 = 1 then (delta (V c main_arg0) (V c main_arg1) (V c main_arg2) (grad (V c main_arg3) (V c main_arg4) (V c main_arg5) (V c main_arg6))) i else (dat0 V c).A 6 i := by
    refine (dat0 V c).arrAt_eq_of_coversWhere 6 _ (fun β => β (0 : Fin 3) = 1) (by decide +kernel) (fun t hf y => ?_) (fun j => Iff.rfl)
    blk_simp
    rw [after0_6]
    frame_out
    obtain ⟨e0, e1, e2⟩ := idx0_6 t
    have hi : ((View.whole main_v0_1).slice (win0_6.rect t)).emb y = (ix3 1 ⟨t.val * 256 + (y 1).val, row_lt0 t (y 1)⟩ (y 2) : S2x256x1024.Idx) := by
      refine funext fun a => Fin.ext ?_
      match a with
      | ⟨0, _⟩ => show win0_6.index t (0 : Fin 3) * 1 + 1 * (y 0).val = 1; rw [e0]; have : (y 0).val < 1 := (y 0).isLt; omega
      | ⟨1, _⟩ => show win0_6.index t (1 : Fin 3) * 256 + 1 * (y 1).val = t.val * 256 + (y 1).val; rw [e1]; omega
      | ⟨2, _⟩ => show win0_6.index t (2 : Fin 3) * 1024 + 1 * (y 2).val = (y 2).val; rw [e2]; omega
    rw [hi]
    have hp := point0_6 V c t (y 0) (y 1) (y 2)
    generalize k0_pay1 (k0_pay8 (iblk0 V c 3 t) (iblk0 V c 4 t) (iblk0 V c 1 t) (iblk0 V c 2 t) (iblk0 V c 0 t)) = b at hp ⊢
    exact (congrArg b (eq_ix3 y)).trans hp
  rw [h]
  exact if_pos (by rw [Nat.div_one]; exact hi1)

/-- What point `t` writes to window 7. -/
theorem point0_7 (c : Dev nD) (t : Fin cfg0.N) (z : Fin 1) (r : Fin 256) (k : Fin 1024) :
    k0_pay2 (k0_pay5 (iblk0 V c 3 t) (iblk0 V c 4 t) (iblk0 V c 1 t)) (ix3 z r k) = (fstM (V c main_arg1) (grad (V c main_arg3) (V c main_arg4) (V c main_arg5) (V c main_arg6))) (ix3 1 ⟨t.val * 256 + r.val, row_lt0 t r⟩ k) := by
  rw [pay0_2, blk0_3, blk0_4, blk0_1]
  rfl

/-- The first call fills layer 1 of its result. -/
theorem final0_7 (c : Dev nD) (i : S2x256x1024.Idx) (hi1 : (i 0).val = 1) :
    (dat0 V c).arrAt 7 cfg0.N i = (fstM (V c main_arg1) (grad (V c main_arg3) (V c main_arg4) (V c main_arg5) (V c main_arg6))) i := by
  have h : (dat0 V c).arrAt 7 cfg0.N = fun i => if (i 0).val / 1 = 1 then (fstM (V c main_arg1) (grad (V c main_arg3) (V c main_arg4) (V c main_arg5) (V c main_arg6))) i else (dat0 V c).A 7 i := by
    refine (dat0 V c).arrAt_eq_of_coversWhere 7 _ (fun β => β (0 : Fin 3) = 1) (by decide +kernel) (fun t hf y => ?_) (fun j => Iff.rfl)
    blk_simp
    rw [after0_7]
    frame_out
    obtain ⟨e0, e1, e2⟩ := idx0_7 t
    have hi : ((View.whole main_v0_2).slice (win0_7.rect t)).emb y = (ix3 1 ⟨t.val * 256 + (y 1).val, row_lt0 t (y 1)⟩ (y 2) : S2x256x1024.Idx) := by
      refine funext fun a => Fin.ext ?_
      match a with
      | ⟨0, _⟩ => show win0_7.index t (0 : Fin 3) * 1 + 1 * (y 0).val = 1; rw [e0]; have : (y 0).val < 1 := (y 0).isLt; omega
      | ⟨1, _⟩ => show win0_7.index t (1 : Fin 3) * 256 + 1 * (y 1).val = t.val * 256 + (y 1).val; rw [e1]; omega
      | ⟨2, _⟩ => show win0_7.index t (2 : Fin 3) * 1024 + 1 * (y 2).val = (y 2).val; rw [e2]; omega
    rw [hi]
    have hp := point0_7 V c t (y 0) (y 1) (y 2)
    generalize k0_pay2 (k0_pay5 (iblk0 V c 3 t) (iblk0 V c 4 t) (iblk0 V c 1 t)) = b at hp ⊢
    exact (congrArg b (eq_ix3 y)).trans hp
  rw [h]
  exact if_pos (by rw [Nat.div_one]; exact hi1)

/-- What point `t` writes to window 8. -/
theorem point0_8 (c : Dev nD) (t : Fin cfg0.N) (z : Fin 1) (r : Fin 256) (k : Fin 1024) :
    k0_pay3 (k0_pay6 (iblk0 V c 3 t) (iblk0 V c 4 t) (iblk0 V c 2 t)) (ix3 z r k) = (sndM (V c main_arg2) (grad (V c main_arg3) (V c main_arg4) (V c main_arg5) (V c main_arg6))) (ix3 1 ⟨t.val * 256 + r.val, row_lt0 t r⟩ k) := by
  rw [pay0_3, blk0_3, blk0_4, blk0_2]
  rfl

/-- The first call fills layer 1 of its result. -/
theorem final0_8 (c : Dev nD) (i : S2x256x1024.Idx) (hi1 : (i 0).val = 1) :
    (dat0 V c).arrAt 8 cfg0.N i = (sndM (V c main_arg2) (grad (V c main_arg3) (V c main_arg4) (V c main_arg5) (V c main_arg6))) i := by
  have h : (dat0 V c).arrAt 8 cfg0.N = fun i => if (i 0).val / 1 = 1 then (sndM (V c main_arg2) (grad (V c main_arg3) (V c main_arg4) (V c main_arg5) (V c main_arg6))) i else (dat0 V c).A 8 i := by
    refine (dat0 V c).arrAt_eq_of_coversWhere 8 _ (fun β => β (0 : Fin 3) = 1) (by decide +kernel) (fun t hf y => ?_) (fun j => Iff.rfl)
    blk_simp
    rw [after0_8]
    frame_out
    obtain ⟨e0, e1, e2⟩ := idx0_8 t
    have hi : ((View.whole main_v0_3).slice (win0_8.rect t)).emb y = (ix3 1 ⟨t.val * 256 + (y 1).val, row_lt0 t (y 1)⟩ (y 2) : S2x256x1024.Idx) := by
      refine funext fun a => Fin.ext ?_
      match a with
      | ⟨0, _⟩ => show win0_8.index t (0 : Fin 3) * 1 + 1 * (y 0).val = 1; rw [e0]; have : (y 0).val < 1 := (y 0).isLt; omega
      | ⟨1, _⟩ => show win0_8.index t (1 : Fin 3) * 256 + 1 * (y 1).val = t.val * 256 + (y 1).val; rw [e1]; omega
      | ⟨2, _⟩ => show win0_8.index t (2 : Fin 3) * 1024 + 1 * (y 2).val = (y 2).val; rw [e2]; omega
    rw [hi]
    have hp := point0_8 V c t (y 0) (y 1) (y 2)
    generalize k0_pay3 (k0_pay6 (iblk0 V c 3 t) (iblk0 V c 4 t) (iblk0 V c 2 t)) = b at hp ⊢
    exact (congrArg b (eq_ix3 y)).trans hp
  rw [h]
  exact if_pos (by rw [Nat.div_one]; exact hi1)

theorem row_lt1 (t : Fin cfg1.N) (r : Fin 256) : t.val * 256 + r.val < 256 := by
  have := lt_of_lt_of_eq t.isLt (N_1 : cfg1.N = 1)
  omega

theorem idx1_0 : ∀ t : Fin cfg1.N, win1_0.index t (0 : Fin 3) = 0 ∧ win1_0.index t (1 : Fin 3) = t.val ∧ win1_0.index t (2 : Fin 3) = 0 :=
  (by decide +kernel : ∀ t : Fin grid1.N, _)

theorem idx1_1 : ∀ t : Fin cfg1.N, win1_1.index t (0 : Fin 3) = 0 ∧ win1_1.index t (1 : Fin 3) = t.val ∧ win1_1.index t (2 : Fin 3) = 0 :=
  (by decide +kernel : ∀ t : Fin grid1.N, _)

theorem idx1_2 : ∀ t : Fin cfg1.N, win1_2.index t (0 : Fin 3) = 0 ∧ win1_2.index t (1 : Fin 3) = t.val ∧ win1_2.index t (2 : Fin 3) = 0 :=
  (by decide +kernel : ∀ t : Fin grid1.N, _)

theorem idx1_5 : ∀ t : Fin cfg1.N, win1_5.index t (0 : Fin 3) = 0 ∧ win1_5.index t (1 : Fin 3) = t.val ∧ win1_5.index t (2 : Fin 3) = 0 :=
  (by decide +kernel : ∀ t : Fin grid1.N, _)

theorem idx1_6 : ∀ t : Fin cfg1.N, win1_6.index t (0 : Fin 3) = 0 ∧ win1_6.index t (1 : Fin 3) = t.val ∧ win1_6.index t (2 : Fin 3) = 0 :=
  (by decide +kernel : ∀ t : Fin grid1.N, _)

theorem idx1_7 : ∀ t : Fin cfg1.N, win1_7.index t (0 : Fin 3) = 0 ∧ win1_7.index t (1 : Fin 3) = t.val ∧ win1_7.index t (2 : Fin 3) = 0 :=
  (by decide +kernel : ∀ t : Fin grid1.N, _)

theorem idx1_8 : ∀ t : Fin cfg1.N, win1_8.index t (0 : Fin 3) = 0 ∧ win1_8.index t (1 : Fin 3) = t.val ∧ win1_8.index t (2 : Fin 3) = 0 :=
  (by decide +kernel : ∀ t : Fin grid1.N, _)

theorem idx1_3 : ∀ t : Fin cfg1.N, win1_3.index t (0 : Fin 2) = t.val ∧ win1_3.index t (1 : Fin 2) = 0 :=
  (by decide +kernel : ∀ t : Fin grid1.N, _)

theorem idx1_4 : ∀ t : Fin cfg1.N, win1_4.index t (0 : Fin 2) = t.val ∧ win1_4.index t (1 : Fin 2) = 0 :=
  (by decide +kernel : ∀ t : Fin grid1.N, _)

theorem blk1_0 (c : Dev nD) (t : Fin cfg1.N) (z : Fin 1) (r : Fin 256) (k : Fin 1024) :
    iblk1 V c 0 t (ix3 z r k) = V c main_arg0 (ix3 0 ⟨t.val * 256 + r.val, row_lt1 t r⟩ k) := by
  obtain ⟨e0, e1, e2⟩ := idx1_0 t
  show V c main_arg0 (((cfg1.win 0).blk t).view.emb (ix3 z r k)) = _
  refine congrArg _ (funext fun a => Fin.ext ?_)
  match a with
  | ⟨0, _⟩ => show win1_0.index t (0 : Fin 3) * 1 + 1 * z.val = 0; rw [e0]; omega
  | ⟨1, _⟩ => show win1_0.index t (1 : Fin 3) * 256 + 1 * r.val = t.val * 256 + r.val; rw [e1]; omega
  | ⟨2, _⟩ => show win1_0.index t (2 : Fin 3) * 1024 + 1 * k.val = k.val; rw [e2]; omega

theorem blk1_1 (c : Dev nD) (t : Fin cfg1.N) (z : Fin 1) (r : Fin 256) (k : Fin 1024) :
    iblk1 V c 1 t (ix3 z r k) = V c main_arg1 (ix3 0 ⟨t.val * 256 + r.val, row_lt1 t r⟩ k) := by
  obtain ⟨e0, e1, e2⟩ := idx1_1 t
  show V c main_arg1 (((cfg1.win 1).blk t).view.emb (ix3 z r k)) = _
  refine congrArg _ (funext fun a => Fin.ext ?_)
  match a with
  | ⟨0, _⟩ => show win1_1.index t (0 : Fin 3) * 1 + 1 * z.val = 0; rw [e0]; omega
  | ⟨1, _⟩ => show win1_1.index t (1 : Fin 3) * 256 + 1 * r.val = t.val * 256 + r.val; rw [e1]; omega
  | ⟨2, _⟩ => show win1_1.index t (2 : Fin 3) * 1024 + 1 * k.val = k.val; rw [e2]; omega

theorem blk1_2 (c : Dev nD) (t : Fin cfg1.N) (z : Fin 1) (r : Fin 256) (k : Fin 1024) :
    iblk1 V c 2 t (ix3 z r k) = V c main_arg2 (ix3 0 ⟨t.val * 256 + r.val, row_lt1 t r⟩ k) := by
  obtain ⟨e0, e1, e2⟩ := idx1_2 t
  show V c main_arg2 (((cfg1.win 2).blk t).view.emb (ix3 z r k)) = _
  refine congrArg _ (funext fun a => Fin.ext ?_)
  match a with
  | ⟨0, _⟩ => show win1_2.index t (0 : Fin 3) * 1 + 1 * z.val = 0; rw [e0]; omega
  | ⟨1, _⟩ => show win1_2.index t (1 : Fin 3) * 256 + 1 * r.val = t.val * 256 + r.val; rw [e1]; omega
  | ⟨2, _⟩ => show win1_2.index t (2 : Fin 3) * 1024 + 1 * k.val = k.val; rw [e2]; omega

theorem blk1_3 (c : Dev nD) (t : Fin cfg1.N) (r : Fin 256) (k : Fin 1024) :
    iblk1 V c 3 t (ix2 r k) = V c main_arg5 (ix2 ⟨t.val * 256 + r.val, row_lt1 t r⟩ k) := by
  obtain ⟨e0, e1⟩ := idx1_3 t
  show V c main_arg5 (((cfg1.win 3).blk t).view.emb (ix2 r k)) = _
  refine congrArg _ (funext fun a => Fin.ext ?_)
  match a with
  | ⟨0, _⟩ => show win1_3.index t (0 : Fin 2) * 256 + 1 * r.val = t.val * 256 + r.val; rw [e0]; omega
  | ⟨1, _⟩ => show win1_3.index t (1 : Fin 2) * 1024 + 1 * k.val = k.val; rw [e1]; omega

theorem blk1_4 (c : Dev nD) (t : Fin cfg1.N) (r : Fin 256) (k : Fin 1024) :
    iblk1 V c 4 t (ix2 r k) = V c main_arg6 (ix2 ⟨t.val * 256 + r.val, row_lt1 t r⟩ k) := by
  obtain ⟨e0, e1⟩ := idx1_4 t
  show V c main_arg6 (((cfg1.win 4).blk t).view.emb (ix2 r k)) = _
  refine congrArg _ (funext fun a => Fin.ext ?_)
  match a with
  | ⟨0, _⟩ => show win1_4.index t (0 : Fin 2) * 256 + 1 * r.val = t.val * 256 + r.val; rw [e0]; omega
  | ⟨1, _⟩ => show win1_4.index t (1 : Fin 2) * 1024 + 1 * k.val = k.val; rw [e1]; omega

/-- What point `t` writes to window 5. -/
theorem point1_5 (c : Dev nD) (t : Fin cfg1.N) (z : Fin 1) (r : Fin 256) (k : Fin 1024) :
    k1_pay7 (iblk1 V c 3 t) (iblk1 V c 4 t) (ix3 z r k) = (grad (V c main_arg3) (V c main_arg4) (V c main_arg5) (V c main_arg6)) (ix3 0 ⟨t.val * 256 + r.val, row_lt1 t r⟩ k) := by
  rw [pay1_7, blk1_3, blk1_4]
  rfl

/-- The second call fills layer 0, and leaves layer 1 as it finds it. -/
theorem final1_5 (c : Dev nD) (h1 : ∀ j : S2x256x1024.Idx, (j 0).val = 1 → V c main_v1_0 j = (grad (V c main_arg3) (V c main_arg4) (V c main_arg5) (V c main_arg6)) j) :
    (dat1 V c).arrAt 5 cfg1.N = (grad (V c main_arg3) (V c main_arg4) (V c main_arg5) (V c main_arg6)) := by
  refine (dat1 V c).arrAt_eq_of_coversWhere_of_agree 5 _ (fun β => β (0 : Fin 3) = 0) (by decide +kernel) (fun t hf y => ?_) (fun j hj => ?_)
  · blk_simp
    rw [after1_5]
    unfold outsAt1
    frame_out
    obtain ⟨e0, e1, e2⟩ := idx1_5 t
    have hi : ((View.whole main_v1_0).slice (win1_5.rect t)).emb y = (ix3 0 ⟨t.val * 256 + (y 1).val, row_lt1 t (y 1)⟩ (y 2) : S2x256x1024.Idx) := by
      refine funext fun a => Fin.ext ?_
      match a with
      | ⟨0, _⟩ => show win1_5.index t (0 : Fin 3) * 1 + 1 * (y 0).val = 0; rw [e0]; have : (y 0).val < 1 := (y 0).isLt; omega
      | ⟨1, _⟩ => show win1_5.index t (1 : Fin 3) * 256 + 1 * (y 1).val = t.val * 256 + (y 1).val; rw [e1]; omega
      | ⟨2, _⟩ => show win1_5.index t (2 : Fin 3) * 1024 + 1 * (y 2).val = (y 2).val; rw [e2]; omega
    rw [hi]
    have hp := point1_5 V c t (y 0) (y 1) (y 2)
    generalize k1_pay7 (iblk1 V c 3 t) (iblk1 V c 4 t) = b at hp ⊢
    exact (congrArg b (eq_ix3 y)).trans hp
  · blk_simp [Pipeline.Window.cell_apply] at hj
    have hj2 : (j 0).val < 2 := (j 0).isLt
    exact h1 j (by omega)

/-- What point `t` writes to window 6. -/
theorem point1_6 (c : Dev nD) (t : Fin cfg1.N) (z : Fin 1) (r : Fin 256) (k : Fin 1024) :
    k1_pay1 (k1_pay8 (iblk1 V c 3 t) (iblk1 V c 4 t) (iblk1 V c 1 t) (iblk1 V c 2 t) (iblk1 V c 0 t)) (ix3 z r k) = (delta (V c main_arg0) (V c main_arg1) (V c main_arg2) (grad (V c main_arg3) (V c main_arg4) (V c main_arg5) (V c main_arg6))) (ix3 0 ⟨t.val * 256 + r.val, row_lt1 t r⟩ k) := by
  rw [pay1_1, blk1_3, blk1_4, blk1_0, blk1_1, blk1_2]
  rfl

/-- The second call fills layer 0, and leaves layer 1 as it finds it. -/
theorem final1_6 (c : Dev nD) (h1 : ∀ j : S2x256x1024.Idx, (j 0).val = 1 → V c main_v1_1 j = (delta (V c main_arg0) (V c main_arg1) (V c main_arg2) (grad (V c main_arg3) (V c main_arg4) (V c main_arg5) (V c main_arg6))) j) :
    (dat1 V c).arrAt 6 cfg1.N = (delta (V c main_arg0) (V c main_arg1) (V c main_arg2) (grad (V c main_arg3) (V c main_arg4) (V c main_arg5) (V c main_arg6))) := by
  refine (dat1 V c).arrAt_eq_of_coversWhere_of_agree 6 _ (fun β => β (0 : Fin 3) = 0) (by decide +kernel) (fun t hf y => ?_) (fun j hj => ?_)
  · blk_simp
    rw [after1_6]
    unfold outsAt1
    frame_out
    obtain ⟨e0, e1, e2⟩ := idx1_6 t
    have hi : ((View.whole main_v1_1).slice (win1_6.rect t)).emb y = (ix3 0 ⟨t.val * 256 + (y 1).val, row_lt1 t (y 1)⟩ (y 2) : S2x256x1024.Idx) := by
      refine funext fun a => Fin.ext ?_
      match a with
      | ⟨0, _⟩ => show win1_6.index t (0 : Fin 3) * 1 + 1 * (y 0).val = 0; rw [e0]; have : (y 0).val < 1 := (y 0).isLt; omega
      | ⟨1, _⟩ => show win1_6.index t (1 : Fin 3) * 256 + 1 * (y 1).val = t.val * 256 + (y 1).val; rw [e1]; omega
      | ⟨2, _⟩ => show win1_6.index t (2 : Fin 3) * 1024 + 1 * (y 2).val = (y 2).val; rw [e2]; omega
    rw [hi]
    have hp := point1_6 V c t (y 0) (y 1) (y 2)
    generalize k1_pay1 (k1_pay8 (iblk1 V c 3 t) (iblk1 V c 4 t) (iblk1 V c 1 t) (iblk1 V c 2 t) (iblk1 V c 0 t)) = b at hp ⊢
    exact (congrArg b (eq_ix3 y)).trans hp
  · blk_simp [Pipeline.Window.cell_apply] at hj
    have hj2 : (j 0).val < 2 := (j 0).isLt
    exact h1 j (by omega)

/-- What point `t` writes to window 7. -/
theorem point1_7 (c : Dev nD) (t : Fin cfg1.N) (z : Fin 1) (r : Fin 256) (k : Fin 1024) :
    k1_pay2 (k1_pay5 (iblk1 V c 3 t) (iblk1 V c 4 t) (iblk1 V c 1 t)) (ix3 z r k) = (fstM (V c main_arg1) (grad (V c main_arg3) (V c main_arg4) (V c main_arg5) (V c main_arg6))) (ix3 0 ⟨t.val * 256 + r.val, row_lt1 t r⟩ k) := by
  rw [pay1_2, blk1_3, blk1_4, blk1_1]
  rfl

/-- The second call fills layer 0, and leaves layer 1 as it finds it. -/
theorem final1_7 (c : Dev nD) (h1 : ∀ j : S2x256x1024.Idx, (j 0).val = 1 → V c main_v1_2 j = (fstM (V c main_arg1) (grad (V c main_arg3) (V c main_arg4) (V c main_arg5) (V c main_arg6))) j) :
    (dat1 V c).arrAt 7 cfg1.N = (fstM (V c main_arg1) (grad (V c main_arg3) (V c main_arg4) (V c main_arg5) (V c main_arg6))) := by
  refine (dat1 V c).arrAt_eq_of_coversWhere_of_agree 7 _ (fun β => β (0 : Fin 3) = 0) (by decide +kernel) (fun t hf y => ?_) (fun j hj => ?_)
  · blk_simp
    rw [after1_7]
    unfold outsAt1
    frame_out
    obtain ⟨e0, e1, e2⟩ := idx1_7 t
    have hi : ((View.whole main_v1_2).slice (win1_7.rect t)).emb y = (ix3 0 ⟨t.val * 256 + (y 1).val, row_lt1 t (y 1)⟩ (y 2) : S2x256x1024.Idx) := by
      refine funext fun a => Fin.ext ?_
      match a with
      | ⟨0, _⟩ => show win1_7.index t (0 : Fin 3) * 1 + 1 * (y 0).val = 0; rw [e0]; have : (y 0).val < 1 := (y 0).isLt; omega
      | ⟨1, _⟩ => show win1_7.index t (1 : Fin 3) * 256 + 1 * (y 1).val = t.val * 256 + (y 1).val; rw [e1]; omega
      | ⟨2, _⟩ => show win1_7.index t (2 : Fin 3) * 1024 + 1 * (y 2).val = (y 2).val; rw [e2]; omega
    rw [hi]
    have hp := point1_7 V c t (y 0) (y 1) (y 2)
    generalize k1_pay2 (k1_pay5 (iblk1 V c 3 t) (iblk1 V c 4 t) (iblk1 V c 1 t)) = b at hp ⊢
    exact (congrArg b (eq_ix3 y)).trans hp
  · blk_simp [Pipeline.Window.cell_apply] at hj
    have hj2 : (j 0).val < 2 := (j 0).isLt
    exact h1 j (by omega)

/-- What point `t` writes to window 8. -/
theorem point1_8 (c : Dev nD) (t : Fin cfg1.N) (z : Fin 1) (r : Fin 256) (k : Fin 1024) :
    k1_pay3 (k1_pay6 (iblk1 V c 3 t) (iblk1 V c 4 t) (iblk1 V c 2 t)) (ix3 z r k) = (sndM (V c main_arg2) (grad (V c main_arg3) (V c main_arg4) (V c main_arg5) (V c main_arg6))) (ix3 0 ⟨t.val * 256 + r.val, row_lt1 t r⟩ k) := by
  rw [pay1_3, blk1_3, blk1_4, blk1_2]
  rfl

/-- The second call fills layer 0, and leaves layer 1 as it finds it. -/
theorem final1_8 (c : Dev nD) (h1 : ∀ j : S2x256x1024.Idx, (j 0).val = 1 → V c main_v1_3 j = (sndM (V c main_arg2) (grad (V c main_arg3) (V c main_arg4) (V c main_arg5) (V c main_arg6))) j) :
    (dat1 V c).arrAt 8 cfg1.N = (sndM (V c main_arg2) (grad (V c main_arg3) (V c main_arg4) (V c main_arg5) (V c main_arg6))) := by
  refine (dat1 V c).arrAt_eq_of_coversWhere_of_agree 8 _ (fun β => β (0 : Fin 3) = 0) (by decide +kernel) (fun t hf y => ?_) (fun j hj => ?_)
  · blk_simp
    rw [after1_8]
    unfold outsAt1
    frame_out
    obtain ⟨e0, e1, e2⟩ := idx1_8 t
    have hi : ((View.whole main_v1_3).slice (win1_8.rect t)).emb y = (ix3 0 ⟨t.val * 256 + (y 1).val, row_lt1 t (y 1)⟩ (y 2) : S2x256x1024.Idx) := by
      refine funext fun a => Fin.ext ?_
      match a with
      | ⟨0, _⟩ => show win1_8.index t (0 : Fin 3) * 1 + 1 * (y 0).val = 0; rw [e0]; have : (y 0).val < 1 := (y 0).isLt; omega
      | ⟨1, _⟩ => show win1_8.index t (1 : Fin 3) * 256 + 1 * (y 1).val = t.val * 256 + (y 1).val; rw [e1]; omega
      | ⟨2, _⟩ => show win1_8.index t (2 : Fin 3) * 1024 + 1 * (y 2).val = (y 2).val; rw [e2]; omega
    rw [hi]
    have hp := point1_8 V c t (y 0) (y 1) (y 2)
    generalize k1_pay3 (k1_pay6 (iblk1 V c 3 t) (iblk1 V c 4 t) (iblk1 V c 2 t)) = b at hp ⊢
    exact (congrArg b (eq_ix3 y)).trans hp
  · blk_simp [Pipeline.Window.cell_apply] at hj
    have hj2 : (j 0).val < 2 := (j 0).isLt
    exact h1 j (by omega)

end Regions

/-! ## The run -/

variable (m : (ℓ : Loc nD τ sig) → Buf (Elt Ideal) ℓ) (ρ : Dev nD → PrngReg)

/-- An argument's contents as the first call finds them. -/
abbrev A0 (c : Dev nD) : FVec Ideal S2x256x1024 .f32 := m ((c : Thread nD τ).loc main_arg0)
abbrev A1 (c : Dev nD) : FVec Ideal S2x256x1024 .f32 := m ((c : Thread nD τ).loc main_arg1)
abbrev A2 (c : Dev nD) : FVec Ideal S2x256x1024 .f32 := m ((c : Thread nD τ).loc main_arg2)
/-- The gradient of the launch's arguments. -/
abbrev GR (c : Dev nD) : FVec Ideal S2x256x1024 .f32 :=
  grad (m ((c : Thread nD τ).loc main_arg3)) (m ((c : Thread nD τ).loc main_arg4)) (m ((c : Thread nD τ).loc main_arg5)) (m ((c : Thread nD τ).loc main_arg6))

theorem V2_arg (c : Dev nD) (a : Ref sig .tc) (ha : a ∈ argRefs) : V2 m ρ c a = m ((c : Thread nD τ).loc a) := W2_args m ρ c a ha

theorem entry5 (c : Dev nD) : V2 m ρ c main_v1_0 = (dat0 (V0 m ρ) c).arrAt 5 cfg0.N := by
  refine Eq.trans ?_ (W1_arr m ρ c 5)
  show StableHlo.after hostOps1 _ _ = _
  after_results <;> rfl

theorem W3_res5 (c : Dev nD) : W3 m ρ c (Proc.devRef .tc main_v1_0) = GR m c := by
  refine (W3_arr m ρ c 5).trans ((final1_5 (V2 m ρ) c (fun j hj => ?_)).trans ?_)
  · rw [entry5, final0_5 (V0 m ρ) c j hj]
    iterate 7 try rw [V2_arg m ρ c _ (by decide)]
  · iterate 7 try rw [V2_arg m ρ c _ (by decide)]

theorem entry6 (c : Dev nD) : V2 m ρ c main_v1_1 = (dat0 (V0 m ρ) c).arrAt 6 cfg0.N := by
  refine Eq.trans ?_ (W1_arr m ρ c 6)
  show StableHlo.after hostOps1 _ _ = _
  after_results <;> rfl

theorem W3_res6 (c : Dev nD) : W3 m ρ c (Proc.devRef .tc main_v1_1) = delta (A0 m c) (A1 m c) (A2 m c) (GR m c) := by
  refine (W3_arr m ρ c 6).trans ((final1_6 (V2 m ρ) c (fun j hj => ?_)).trans ?_)
  · rw [entry6, final0_6 (V0 m ρ) c j hj]
    iterate 7 try rw [V2_arg m ρ c _ (by decide)]
  · iterate 7 try rw [V2_arg m ρ c _ (by decide)]

theorem entry7 (c : Dev nD) : V2 m ρ c main_v1_2 = (dat0 (V0 m ρ) c).arrAt 7 cfg0.N := by
  refine Eq.trans ?_ (W1_arr m ρ c 7)
  show StableHlo.after hostOps1 _ _ = _
  after_results <;> rfl

theorem W3_res7 (c : Dev nD) : W3 m ρ c (Proc.devRef .tc main_v1_2) = fstM (A1 m c) (GR m c) := by
  refine (W3_arr m ρ c 7).trans ((final1_7 (V2 m ρ) c (fun j hj => ?_)).trans ?_)
  · rw [entry7, final0_7 (V0 m ρ) c j hj]
    iterate 7 try rw [V2_arg m ρ c _ (by decide)]
  · iterate 7 try rw [V2_arg m ρ c _ (by decide)]

theorem entry8 (c : Dev nD) : V2 m ρ c main_v1_3 = (dat0 (V0 m ρ) c).arrAt 8 cfg0.N := by
  refine Eq.trans ?_ (W1_arr m ρ c 8)
  show StableHlo.after hostOps1 _ _ = _
  after_results <;> rfl

theorem W3_res8 (c : Dev nD) : W3 m ρ c (Proc.devRef .tc main_v1_3) = sndM (A2 m c) (GR m c) := by
  refine (W3_arr m ρ c 8).trans ((final1_8 (V2 m ρ) c (fun j hj => ?_)).trans ?_)
  · rw [entry8, final0_8 (V0 m ρ) c j hj]
    iterate 7 try rw [V2_arg m ρ c _ (by decide)]
  · iterate 7 try rw [V2_arg m ρ c _ (by decide)]

section Run
open Idealize.ShloMosaic.Tactic Idealize.SL Idealize.SL.RA Idealize.SL.BI
open scoped Idealize.SL.BI
open Idealize.SL.BI.BIBase Idealize.SL.BI.Laws Idealize.SL.ProofMode
open Idealize.ShloMosaic.Rounds

/-- The heap the run's assertions speak of. -/
local notation "𝕄" => MT nD τ sig Unit (Elt Ideal) ℕ (UR sig nD τ) ℕ

-- the launch lemma's implicit arguments are found from the conclusion
set_option backward.isDefEq.respectTransparency.types false in
/-- The program ends with its four results at the contents after the second call, its arguments unchanged. -/
theorem run_mem : θ_run defs (onTc (τ := τ) (main (F := Ideal))) ⟨m, fun _ => 0, ρ⟩ (fun r => ∀ c : Dev nD,
      ∀ b ∈ Pipeline.ucRefs τ sig, r.2.mem (((c : Thread nD τ)).1, b) = W3 (F := Ideal) m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Run

/-! ## The reference -/

section Reference
open Cert.AdamORefIdeal Cert.AdamORefIdeal.Gen

/-- The reference's stack of the two layers' sums. -/
theorem stack_apply (a1 b1 a0 b0 : FVec Ideal S256x1024 .f32) (l : Fin 2) (r : Fin 256) (k : Fin 1024) :
    concatenate Cert.AdamORefIdeal.S2x256x1024 0 [⟨S1x256x1024, (broadcastInDim S1x256x1024 ![1, 2] bcast_S256x1024_S1x256x1024_1_2 (addf a0 b0))⟩, ⟨S1x256x1024, (broadcastInDim S1x256x1024 ![1, 2] bcast_S256x1024_S1x256x1024_1_2 (addf a1 b1))⟩] concatenates_S1x256x1024_S1x256x1024_S2x256x1024_d0 (ix3 l r k)
      = grad a1 b1 a0 b0 (ix3 l r k) := by
  unfold grad
  obtain ⟨l, hl⟩ := l
  interval_cases l
  · exact by pointwise
  · exact by pointwise

theorem ref_delta (w m v s a : FVec Ideal Cert.AdamORefIdeal.S2x256x1024 .f32) (hs : ∀ l r k, s (ix3 l r k) = a (ix3 l r k)) :
    mulf (broadcastInDim Cert.AdamORefIdeal.S2x256x1024 ![] bcast_S_S2x256x1024 (constant S_ .f32 0xBA83126F#32)) (addf (Host.divf (Host.divf (addf (mulf (broadcastInDim Cert.AdamORefIdeal.S2x256x1024 ![] bcast_S_S2x256x1024 (constant S_ .f32 0x3F666666#32)) m) (mulf (broadcastInDim Cert.AdamORefIdeal.S2x256x1024 ![] bcast_S_S2x256x1024 (constant S_ .f32 0x3DCCCCCD#32)) s)) (broadcastInDim Cert.AdamORefIdeal.S2x256x1024 ![] bcast_S_S2x256x1024 (constant S_ .f32 0x3F26BD02#32))) (addf (Host.sqrt (Host.divf (addf (mulf (broadcastInDim Cert.AdamORefIdeal.S2x256x1024 ![] bcast_S_S2x256x1024 (constant S_ .f32 0x3F7FBE77#32)) v) (mulf (broadcastInDim Cert.AdamORefIdeal.S2x256x1024 ![] bcast_S_S2x256x1024 (constant S_ .f32 0x3A83126F#32)) (mulf s s))) (broadcastInDim Cert.AdamORefIdeal.S2x256x1024 ![] bcast_S_S2x256x1024 (constant S_ .f32 0x3C231ACC#32)))) (broadcastInDim Cert.AdamORefIdeal.S2x256x1024 ![] bcast_S_S2x256x1024 (constant S_ .f32 0x322BCC77#32)))) (mulf (broadcastInDim Cert.AdamORefIdeal.S2x256x1024 ![] bcast_S_S2x256x1024 (constant S_ .f32 0x3C23D70A#32)) w)) = delta w m v a := by
  funext i
  obtain ⟨l, r, k, rfl⟩ : ∃ (l : Fin 2) (r : Fin 256) (k : Fin 1024), i = ix3 l r k := ⟨i 0, i 1, i 2, eq_ix3 i⟩
  unfold delta
  rw [show a = s from funext fun i => by rw [eq_ix3 i]; exact (hs _ _ _).symm]
  unfold step mNew vNew
  pointwise

theorem ref_fstM (m s a : FVec Ideal Cert.AdamORefIdeal.S2x256x1024 .f32) (hs : ∀ l r k, s (ix3 l r k) = a (ix3 l r k)) :
    addf (mulf (broadcastInDim Cert.AdamORefIdeal.S2x256x1024 ![] bcast_S_S2x256x1024 (constant S_ .f32 0x3F666666#32)) m) (mulf (broadcastInDim Cert.AdamORefIdeal.S2x256x1024 ![] bcast_S_S2x256x1024 (constant S_ .f32 0x3DCCCCCD#32)) s) = fstM m a := by
  funext i
  obtain ⟨l, r, k, rfl⟩ : ∃ (l : Fin 2) (r : Fin 256) (k : Fin 1024), i = ix3 l r k := ⟨i 0, i 1, i 2, eq_ix3 i⟩
  unfold fstM
  rw [show a = s from funext fun i => by rw [eq_ix3 i]; exact (hs _ _ _).symm]
  unfold mNew
  pointwise

theorem ref_sndM (v s a : FVec Ideal Cert.AdamORefIdeal.S2x256x1024 .f32) (hs : ∀ l r k, s (ix3 l r k) = a (ix3 l r k)) :
    addf (mulf (broadcastInDim Cert.AdamORefIdeal.S2x256x1024 ![] bcast_S_S2x256x1024 (constant S_ .f32 0x3F7FBE77#32)) v) (mulf (broadcastInDim Cert.AdamORefIdeal.S2x256x1024 ![] bcast_S_S2x256x1024 (constant S_ .f32 0x3A83126F#32)) (mulf s s)) = sndM v a := by
  funext i
  obtain ⟨l, r, k, rfl⟩ : ∃ (l : Fin 2) (r : Fin 256) (k : Fin 1024), i = ix3 l r k := ⟨i 0, i 1, i 2, eq_ix3 i⟩
  unfold sndM
  rw [show a = s from funext fun i => by rw [eq_ix3 i]; exact (hs _ _ _).symm]
  unfold vNew
  pointwise

end Reference

/-- The two programs compute the same gradient, update and moments. -/
theorem algebraic : Cert.algebraic_AdamOIdeal_AdamORefIdeal := by
  intro m g m' g' _ hargs
  refine ⟨fun c => GR m c, fun c => delta (A0 m c) (A1 m c) (A2 m c) (GR m c), fun c => fstM (A1 m c) (GR m c), fun c => sndM (A2 m c) (GR m c),
    (θ_run defs _ _).mono (fun r h c => ?_) (run_mem m g),
    (θ_run Cert.AdamORefIdeal.defs _ _).mono (fun r h c => ?_) (Cert.AdamORefIdeal.Value.run (F := Ideal) m' g')⟩
  · exact ⟨(h c _ (mem_uc main_v1_0 (by decide))).trans (W3_res5 m g c),
      (h c _ (mem_uc main_v1_1 (by decide))).trans (W3_res6 m g c),
      (h c _ (mem_uc main_v1_2 (by decide))).trans (W3_res7 m g c),
      (h c _ (mem_uc main_v1_3 (by decide))).trans (W3_res8 m g c),
      (h c _ (mem_uc main_arg0 (by decide))).trans (W3_main_arg0 m g c),
      (h c _ (mem_uc main_arg1 (by decide))).trans (W3_main_arg1 m g c),
      (h c _ (mem_uc main_arg2 (by decide))).trans (W3_main_arg2 m g c),
      (h c _ (mem_uc main_arg3 (by decide))).trans (W3_main_arg3 m g c),
      (h c _ (mem_uc main_arg4 (by decide))).trans (W3_main_arg4 m g c),
      (h c _ (mem_uc main_arg5 (by decide))).trans (W3_main_arg5 m g c),
      (h c _ (mem_uc main_arg6 (by decide))).trans (W3_main_arg6 m g c)⟩
  obtain ⟨h0, h1, h2, h3, hr⟩ := h c
  obtain ⟨a0, a1, a2, a3, a4, a5, a6⟩ := hargs c
  rw [a3, a4, a5, a6] at h0 h1 h2 h3
  rw [a0, a1, a2] at h1
  rw [a1] at h2
  rw [a2] at h3
  have hs := stack_apply (m ((c : Thread nD τ).loc main_arg3)) (m ((c : Thread nD τ).loc main_arg4)) (m ((c : Thread nD τ).loc main_arg5)) (m ((c : Thread nD τ).loc main_arg6))
  generalize concatenate (α := Ideal .f32) Cert.AdamORefIdeal.S2x256x1024 0 _ _ = s at h0 h1 h2 h3 hs
  refine ⟨h0.trans ?_, h1.trans ?_, h2.trans ?_, h3.trans ?_, hr⟩
  · funext i
    rw [eq_ix3 i]
    exact hs _ _ _
  · exact ref_delta _ _ _ s (GR m c) hs
  · exact ref_fstM _ s (GR m c) hs
  · exact ref_sndM _ s (GR m c) hs

end Cert.AdamOIdeal.Value

end
-- ==== Proof.AdamUp.lean ====
/-
  The AdamW update of a chip's columns of `w_up`, a stack of two layers of 1024x1408: the gradient
  of each layer is the sum of the two partial gradients it arrives as; from it come the update and the two
  new moments. The layers are updated by two calls, layer 1 first, the second one in the first one's arrays.
-/
module

public import proofs.«01_k».proof.Defs
public import proofs.«01_k».proof.Proof.AdamRow
public import proofs.«01_k».proof.Proof.Gen.AdamUpIdeal.Frame
public import proofs.«01_k».proof.Proof.Gen.AdamUpRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamUpIdeal.Value

open Cert.AdamUpIdeal Cert.AdamUpIdeal.Gen Idealize.ShloMosaic Idealize.ShloMosaic.TcCoe Idealize.SL.Sem
open Cert.AdamRow

/-! ## The four results at an index -/

/-- The gradient of the stack: each layer's two partial gradients added. -/
def grad (a1 b1 a0 b0 : FVec Ideal S1024x1408 .f32) : FVec Ideal S2x1024x1408 .f32 := fun i =>
  if (i 0).val = 0 then a0 (ix2 (i 1) (i 2)) + b0 (ix2 (i 1) (i 2)) else a1 (ix2 (i 1) (i 2)) + b1 (ix2 (i 1) (i 2))

/-- The new first moment. -/
def fstM (m a : FVec Ideal S2x1024x1408 .f32) : FVec Ideal S2x1024x1408 .f32 := fun i => mNew (m i) (a i)

/-- The new second moment. -/
def sndM (v a : FVec Ideal S2x1024x1408 .f32) : FVec Ideal S2x1024x1408 .f32 := fun i => vNew (v i) (a i)

/-- The update of the weights. -/
def delta (w m v a : FVec Ideal S2x1024x1408 .f32) : FVec Ideal S2x1024x1408 .f32 := fun i => step (w i) (m i) (v i) (a i)

/-! ## One point's blocks -/

theorem pay0_7 (a b : Vec Ideal S128x1408 .f32) (z : Fin 1) (r : Fin 128) (k : Fin 1408) :
    k0_pay7 a b (ix3 z r k) = a (ix2 r k) + b (ix2 r k) := by
  obtain rfl : z = 0 := Subsingleton.elim _ _
  pointwise [k0_pay7, k0_pay4]

theorem pay0_2 (a b : Vec Ideal S128x1408 .f32) (x : Vec Ideal S1x128x1408 .f32) (z : Fin 1) (r : Fin 128) (k : Fin 1408) :
    k0_pay2 (k0_pay5 a b x) (ix3 z r k) = mNew (x (ix3 z r k)) (a (ix2 r k) + b (ix2 r k)) := by
  obtain rfl : z = 0 := Subsingleton.elim _ _
  unfold mNew
  pointwise [k0_pay2, k0_pay5, k0_pay4]

theorem pay0_3 (a b : Vec Ideal S128x1408 .f32) (x : Vec Ideal S1x128x1408 .f32) (z : Fin 1) (r : Fin 128) (k : Fin 1408) :
    k0_pay3 (k0_pay6 a b x) (ix3 z r k) = vNew (x (ix3 z r k)) (a (ix2 r k) + b (ix2 r k)) := by
  obtain rfl : z = 0 := Subsingleton.elim _ _
  unfold vNew
  pointwise [k0_pay3, k0_pay6, k0_pay4]

theorem pay0_1 (a b : Vec Ideal S128x1408 .f32) (x y w : Vec Ideal S1x128x1408 .f32) (z : Fin 1) (r : Fin 128) (k : Fin 1408) :
    k0_pay1 (k0_pay8 a b x y w) (ix3 z r k) = step (w (ix3 z r k)) (x (ix3 z r k)) (y (ix3 z r k)) (a (ix2 r k) + b (ix2 r k)) := by
  obtain rfl : z = 0 := Subsingleton.elim _ _
  unfold step mNew vNew
  pointwise [k0_pay1, k0_pay8, k0_pay5, k0_pay6, k0_pay4]

theorem pay1_7 (a b : Vec Ideal S128x1408 .f32) (z : Fin 1) (r : Fin 128) (k : Fin 1408) :
    k1_pay7 a b (ix3 z r k) = a (ix2 r k) + b (ix2 r k) := by
  obtain rfl : z = 0 := Subsingleton.elim _ _
  pointwise [k1_pay7, k1_pay4]

theorem pay1_2 (a b : Vec Ideal S128x1408 .f32) (x : Vec Ideal S1x128x1408 .f32) (z : Fin 1) (r : Fin 128) (k : Fin 1408) :
    k1_pay2 (k1_pay5 a b x) (ix3 z r k) = mNew (x (ix3 z r k)) (a (ix2 r k) + b (ix2 r k)) := by
  obtain rfl : z = 0 := Subsingleton.elim _ _
  unfold mNew
  pointwise [k1_pay2, k1_pay5, k1_pay4]

theorem pay1_3 (a b : Vec Ideal S128x1408 .f32) (x : Vec Ideal S1x128x1408 .f32) (z : Fin 1) (r : Fin 128) (k : Fin 1408) :
    k1_pay3 (k1_pay6 a b x) (ix3 z r k) = vNew (x (ix3 z r k)) (a (ix2 r k) + b (ix2 r k)) := by
  obtain rfl : z = 0 := Subsingleton.elim _ _
  unfold vNew
  pointwise [k1_pay3, k1_pay6, k1_pay4]

theorem pay1_1 (a b : Vec Ideal S128x1408 .f32) (x y w : Vec Ideal S1x128x1408 .f32) (z : Fin 1) (r : Fin 128) (k : Fin 1408) :
    k1_pay1 (k1_pay8 a b x y w) (ix3 z r k) = step (w (ix3 z r k)) (x (ix3 z r k)) (y (ix3 z r k)) (a (ix2 r k) + b (ix2 r k)) := by
  obtain rfl : z = 0 := Subsingleton.elim _ _
  unfold step mNew vNew
  pointwise [k1_pay1, k1_pay8, k1_pay5, k1_pay6, k1_pay4]

/-! ## The regions, from any entry contents -/

section Regions

variable (V : (c : Dev nD) → (b : Ref sig .tc) → Buf (Elt Ideal) ((c : Thread nD τ).loc b))

theorem row_lt0 (t : Fin cfg0.N) (r : Fin 128) : t.val * 128 + r.val < 1024 := by
  have := lt_of_lt_of_eq t.isLt (N_0 : cfg0.N = 8)
  omega

theorem idx0_0 : ∀ t : Fin cfg0.N, win0_0.index t (0 : Fin 3) = 1 ∧ win0_0.index t (1 : Fin 3) = t.val ∧ win0_0.index t (2 : Fin 3) = 0 :=
  (by decide +kernel : ∀ t : Fin grid0.N, _)

theorem idx0_1 : ∀ t : Fin cfg0.N, win0_1.index t (0 : Fin 3) = 1 ∧ win0_1.index t (1 : Fin 3) = t.val ∧ win0_1.index t (2 : Fin 3) = 0 :=
  (by decide +kernel : ∀ t : Fin grid0.N, _)

theorem idx0_2 : ∀ t : Fin cfg0.N, win0_2.index t (0 : Fin 3) = 1 ∧ win0_2.index t (1 : Fin 3) = t.val ∧ win0_2.index t (2 : Fin 3) = 0 :=
  (by decide +kernel : ∀ t : Fin grid0.N, _)

theorem idx0_5 : ∀ t : Fin cfg0.N, win0_5.index t (0 : Fin 3) = 1 ∧ win0_5.index t (1 : Fin 3) = t.val ∧ win0_5.index t (2 : Fin 3) = 0 :=
  (by decide +kernel : ∀ t : Fin grid0.N, _)

theorem idx0_6 : ∀ t : Fin cfg0.N, win0_6.index t (0 : Fin 3) = 1 ∧ win0_6.index t (1 : Fin 3) = t.val ∧ win0_6.index t (2 : Fin 3) = 0 :=
  (by decide +kernel : ∀ t : Fin grid0.N, _)

theorem idx0_7 : ∀ t : Fin cfg0.N, win0_7.index t (0 : Fin 3) = 1 ∧ win0_7.index t (1 : Fin 3) = t.val ∧ win0_7.index t (2 : Fin 3) = 0 :=
  (by decide +kernel : ∀ t : Fin grid0.N, _)

theorem idx0_8 : ∀ t : Fin cfg0.N, win0_8.index t (0 : Fin 3) = 1 ∧ win0_8.index t (1 : Fin 3) = t.val ∧ win0_8.index t (2 : Fin 3) = 0 :=
  (by decide +kernel : ∀ t : Fin grid0.N, _)

theorem idx0_3 : ∀ t : Fin cfg0.N, win0_3.index t (0 : Fin 2) = t.val ∧ win0_3.index t (1 : Fin 2) = 0 :=
  (by decide +kernel : ∀ t : Fin grid0.N, _)

theorem idx0_4 : ∀ t : Fin cfg0.N, win0_4.index t (0 : Fin 2) = t.val ∧ win0_4.index t (1 : Fin 2) = 0 :=
  (by decide +kernel : ∀ t : Fin grid0.N, _)

theorem blk0_0 (c : Dev nD) (t : Fin cfg0.N) (z : Fin 1) (r : Fin 128) (k : Fin 1408) :
    iblk0 V c 0 t (ix3 z r k) = V c main_arg0 (ix3 1 ⟨t.val * 128 + r.val, row_lt0 t r⟩ k) := by
  obtain ⟨e0, e1, e2⟩ := idx0_0 t
  show V c main_arg0 (((cfg0.win 0).blk t).view.emb (ix3 z r k)) = _
  refine congrArg _ (funext fun a => Fin.ext ?_)
  match a with
  | ⟨0, _⟩ => show win0_0.index t (0 : Fin 3) * 1 + 1 * z.val = 1; rw [e0]; omega
  | ⟨1, _⟩ => show win0_0.index t (1 : Fin 3) * 128 + 1 * r.val = t.val * 128 + r.val; rw [e1]; omega
  | ⟨2, _⟩ => show win0_0.index t (2 : Fin 3) * 1408 + 1 * k.val = k.val; rw [e2]; omega

theorem blk0_1 (c : Dev nD) (t : Fin cfg0.N) (z : Fin 1) (r : Fin 128) (k : Fin 1408) :
    iblk0 V c 1 t (ix3 z r k) = V c main_arg1 (ix3 1 ⟨t.val * 128 + r.val, row_lt0 t r⟩ k) := by
  obtain ⟨e0, e1, e2⟩ := idx0_1 t
  show V c main_arg1 (((cfg0.win 1).blk t).view.emb (ix3 z r k)) = _
  refine congrArg _ (funext fun a => Fin.ext ?_)
  match a with
  | ⟨0, _⟩ => show win0_1.index t (0 : Fin 3) * 1 + 1 * z.val = 1; rw [e0]; omega
  | ⟨1, _⟩ => show win0_1.index t (1 : Fin 3) * 128 + 1 * r.val = t.val * 128 + r.val; rw [e1]; omega
  | ⟨2, _⟩ => show win0_1.index t (2 : Fin 3) * 1408 + 1 * k.val = k.val; rw [e2]; omega

theorem blk0_2 (c : Dev nD) (t : Fin cfg0.N) (z : Fin 1) (r : Fin 128) (k : Fin 1408) :
    iblk0 V c 2 t (ix3 z r k) = V c main_arg2 (ix3 1 ⟨t.val * 128 + r.val, row_lt0 t r⟩ k) := by
  obtain ⟨e0, e1, e2⟩ := idx0_2 t
  show V c main_arg2 (((cfg0.win 2).blk t).view.emb (ix3 z r k)) = _
  refine congrArg _ (funext fun a => Fin.ext ?_)
  match a with
  | ⟨0, _⟩ => show win0_2.index t (0 : Fin 3) * 1 + 1 * z.val = 1; rw [e0]; omega
  | ⟨1, _⟩ => show win0_2.index t (1 : Fin 3) * 128 + 1 * r.val = t.val * 128 + r.val; rw [e1]; omega
  | ⟨2, _⟩ => show win0_2.index t (2 : Fin 3) * 1408 + 1 * k.val = k.val; rw [e2]; omega

theorem blk0_3 (c : Dev nD) (t : Fin cfg0.N) (r : Fin 128) (k : Fin 1408) :
    iblk0 V c 3 t (ix2 r k) = V c main_arg3 (ix2 ⟨t.val * 128 + r.val, row_lt0 t r⟩ k) := by
  obtain ⟨e0, e1⟩ := idx0_3 t
  show V c main_arg3 (((cfg0.win 3).blk t).view.emb (ix2 r k)) = _
  refine congrArg _ (funext fun a => Fin.ext ?_)
  match a with
  | ⟨0, _⟩ => show win0_3.index t (0 : Fin 2) * 128 + 1 * r.val = t.val * 128 + r.val; rw [e0]; omega
  | ⟨1, _⟩ => show win0_3.index t (1 : Fin 2) * 1408 + 1 * k.val = k.val; rw [e1]; omega

theorem blk0_4 (c : Dev nD) (t : Fin cfg0.N) (r : Fin 128) (k : Fin 1408) :
    iblk0 V c 4 t (ix2 r k) = V c main_arg4 (ix2 ⟨t.val * 128 + r.val, row_lt0 t r⟩ k) := by
  obtain ⟨e0, e1⟩ := idx0_4 t
  show V c main_arg4 (((cfg0.win 4).blk t).view.emb (ix2 r k)) = _
  refine congrArg _ (funext fun a => Fin.ext ?_)
  match a with
  | ⟨0, _⟩ => show win0_4.index t (0 : Fin 2) * 128 + 1 * r.val = t.val * 128 + r.val; rw [e0]; omega
  | ⟨1, _⟩ => show win0_4.index t (1 : Fin 2) * 1408 + 1 * k.val = k.val; rw [e1]; omega

/-- What point `t` writes to window 5. -/
theorem point0_5 (c : Dev nD) (t : Fin cfg0.N) (z : Fin 1) (r : Fin 128) (k : Fin 1408) :
    k0_pay7 (iblk0 V c 3 t) (iblk0 V c 4 t) (ix3 z r k) = (grad (V c main_arg3) (V c main_arg4) (V c main_arg5) (V c main_arg6)) (ix3 1 ⟨t.val * 128 + r.val, row_lt0 t r⟩ k) := by
  rw [pay0_7, blk0_3, blk0_4]
  rfl

/-- The first call fills layer 1 of its result. -/
theorem final0_5 (c : Dev nD) (i : S2x1024x1408.Idx) (hi1 : (i 0).val = 1) :
    (dat0 V c).arrAt 5 cfg0.N i = (grad (V c main_arg3) (V c main_arg4) (V c main_arg5) (V c main_arg6)) i := by
  have h : (dat0 V c).arrAt 5 cfg0.N = fun i => if (i 0).val / 1 = 1 then (grad (V c main_arg3) (V c main_arg4) (V c main_arg5) (V c main_arg6)) i else (dat0 V c).A 5 i := by
    refine (dat0 V c).arrAt_eq_of_coversWhere 5 _ (fun β => β (0 : Fin 3) = 1) (by decide +kernel) (fun t hf y => ?_) (fun j => Iff.rfl)
    blk_simp
    rw [after0_5]
    frame_out
    obtain ⟨e0, e1, e2⟩ := idx0_5 t
    have hi : ((View.whole main_v0_0).slice (win0_5.rect t)).emb y = (ix3 1 ⟨t.val * 128 + (y 1).val, row_lt0 t (y 1)⟩ (y 2) : S2x1024x1408.Idx) := by
      refine funext fun a => Fin.ext ?_
      match a with
      | ⟨0, _⟩ => show win0_5.index t (0 : Fin 3) * 1 + 1 * (y 0).val = 1; rw [e0]; have : (y 0).val < 1 := (y 0).isLt; omega
      | ⟨1, _⟩ => show win0_5.index t (1 : Fin 3) * 128 + 1 * (y 1).val = t.val * 128 + (y 1).val; rw [e1]; omega
      | ⟨2, _⟩ => show win0_5.index t (2 : Fin 3) * 1408 + 1 * (y 2).val = (y 2).val; rw [e2]; omega
    rw [hi]
    have hp := point0_5 V c t (y 0) (y 1) (y 2)
    generalize k0_pay7 (iblk0 V c 3 t) (iblk0 V c 4 t) = b at hp ⊢
    exact (congrArg b (eq_ix3 y)).trans hp
  rw [h]
  exact if_pos (by rw [Nat.div_one]; exact hi1)

/-- What point `t` writes to window 6. -/
theorem point0_6 (c : Dev nD) (t : Fin cfg0.N) (z : Fin 1) (r : Fin 128) (k : Fin 1408) :
    k0_pay1 (k0_pay8 (iblk0 V c 3 t) (iblk0 V c 4 t) (iblk0 V c 1 t) (iblk0 V c 2 t) (iblk0 V c 0 t)) (ix3 z r k) = (delta (V c main_arg0) (V c main_arg1) (V c main_arg2) (grad (V c main_arg3) (V c main_arg4) (V c main_arg5) (V c main_arg6))) (ix3 1 ⟨t.val * 128 + r.val, row_lt0 t r⟩ k) := by
  rw [pay0_1, blk0_3, blk0_4, blk0_0, blk0_1, blk0_2]
  rfl

/-- The first call fills layer 1 of its result. -/
theorem final0_6 (c : Dev nD) (i : S2x1024x1408.Idx) (hi1 : (i 0).val = 1) :
    (dat0 V c).arrAt 6 cfg0.N i = (delta (V c main_arg0) (V c main_arg1) (V c main_arg2) (grad (V c main_arg3) (V c main_arg4) (V c main_arg5) (V c main_arg6))) i := by
  have h : (dat0 V c).arrAt 6 cfg0.N = fun i => if (i 0).val / 1 = 1 then (delta (V c main_arg0) (V c main_arg1) (V c main_arg2) (grad (V c main_arg3) (V c main_arg4) (V c main_arg5) (V c main_arg6))) i else (dat0 V c).A 6 i := by
    refine (dat0 V c).arrAt_eq_of_coversWhere 6 _ (fun β => β (0 : Fin 3) = 1) (by decide +kernel) (fun t hf y => ?_) (fun j => Iff.rfl)
    blk_simp
    rw [after0_6]
    frame_out
    obtain ⟨e0, e1, e2⟩ := idx0_6 t
    have hi : ((View.whole main_v0_1).slice (win0_6.rect t)).emb y = (ix3 1 ⟨t.val * 128 + (y 1).val, row_lt0 t (y 1)⟩ (y 2) : S2x1024x1408.Idx) := by
      refine funext fun a => Fin.ext ?_
      match a with
      | ⟨0, _⟩ => show win0_6.index t (0 : Fin 3) * 1 + 1 * (y 0).val = 1; rw [e0]; have : (y 0).val < 1 := (y 0).isLt; omega
      | ⟨1, _⟩ => show win0_6.index t (1 : Fin 3) * 128 + 1 * (y 1).val = t.val * 128 + (y 1).val; rw [e1]; omega
      | ⟨2, _⟩ => show win0_6.index t (2 : Fin 3) * 1408 + 1 * (y 2).val = (y 2).val; rw [e2]; omega
    rw [hi]
    have hp := point0_6 V c t (y 0) (y 1) (y 2)
    generalize k0_pay1 (k0_pay8 (iblk0 V c 3 t) (iblk0 V c 4 t) (iblk0 V c 1 t) (iblk0 V c 2 t) (iblk0 V c 0 t)) = b at hp ⊢
    exact (congrArg b (eq_ix3 y)).trans hp
  rw [h]
  exact if_pos (by rw [Nat.div_one]; exact hi1)

/-- What point `t` writes to window 7. -/
theorem point0_7 (c : Dev nD) (t : Fin cfg0.N) (z : Fin 1) (r : Fin 128) (k : Fin 1408) :
    k0_pay2 (k0_pay5 (iblk0 V c 3 t) (iblk0 V c 4 t) (iblk0 V c 1 t)) (ix3 z r k) = (fstM (V c main_arg1) (grad (V c main_arg3) (V c main_arg4) (V c main_arg5) (V c main_arg6))) (ix3 1 ⟨t.val * 128 + r.val, row_lt0 t r⟩ k) := by
  rw [pay0_2, blk0_3, blk0_4, blk0_1]
  rfl

/-- The first call fills layer 1 of its result. -/
theorem final0_7 (c : Dev nD) (i : S2x1024x1408.Idx) (hi1 : (i 0).val = 1) :
    (dat0 V c).arrAt 7 cfg0.N i = (fstM (V c main_arg1) (grad (V c main_arg3) (V c main_arg4) (V c main_arg5) (V c main_arg6))) i := by
  have h : (dat0 V c).arrAt 7 cfg0.N = fun i => if (i 0).val / 1 = 1 then (fstM (V c main_arg1) (grad (V c main_arg3) (V c main_arg4) (V c main_arg5) (V c main_arg6))) i else (dat0 V c).A 7 i := by
    refine (dat0 V c).arrAt_eq_of_coversWhere 7 _ (fun β => β (0 : Fin 3) = 1) (by decide +kernel) (fun t hf y => ?_) (fun j => Iff.rfl)
    blk_simp
    rw [after0_7]
    frame_out
    obtain ⟨e0, e1, e2⟩ := idx0_7 t
    have hi : ((View.whole main_v0_2).slice (win0_7.rect t)).emb y = (ix3 1 ⟨t.val * 128 + (y 1).val, row_lt0 t (y 1)⟩ (y 2) : S2x1024x1408.Idx) := by
      refine funext fun a => Fin.ext ?_
      match a with
      | ⟨0, _⟩ => show win0_7.index t (0 : Fin 3) * 1 + 1 * (y 0).val = 1; rw [e0]; have : (y 0).val < 1 := (y 0).isLt; omega
      | ⟨1, _⟩ => show win0_7.index t (1 : Fin 3) * 128 + 1 * (y 1).val = t.val * 128 + (y 1).val; rw [e1]; omega
      | ⟨2, _⟩ => show win0_7.index t (2 : Fin 3) * 1408 + 1 * (y 2).val = (y 2).val; rw [e2]; omega
    rw [hi]
    have hp := point0_7 V c t (y 0) (y 1) (y 2)
    generalize k0_pay2 (k0_pay5 (iblk0 V c 3 t) (iblk0 V c 4 t) (iblk0 V c 1 t)) = b at hp ⊢
    exact (congrArg b (eq_ix3 y)).trans hp
  rw [h]
  exact if_pos (by rw [Nat.div_one]; exact hi1)

/-- What point `t` writes to window 8. -/
theorem point0_8 (c : Dev nD) (t : Fin cfg0.N) (z : Fin 1) (r : Fin 128) (k : Fin 1408) :
    k0_pay3 (k0_pay6 (iblk0 V c 3 t) (iblk0 V c 4 t) (iblk0 V c 2 t)) (ix3 z r k) = (sndM (V c main_arg2) (grad (V c main_arg3) (V c main_arg4) (V c main_arg5) (V c main_arg6))) (ix3 1 ⟨t.val * 128 + r.val, row_lt0 t r⟩ k) := by
  rw [pay0_3, blk0_3, blk0_4, blk0_2]
  rfl

/-- The first call fills layer 1 of its result. -/
theorem final0_8 (c : Dev nD) (i : S2x1024x1408.Idx) (hi1 : (i 0).val = 1) :
    (dat0 V c).arrAt 8 cfg0.N i = (sndM (V c main_arg2) (grad (V c main_arg3) (V c main_arg4) (V c main_arg5) (V c main_arg6))) i := by
  have h : (dat0 V c).arrAt 8 cfg0.N = fun i => if (i 0).val / 1 = 1 then (sndM (V c main_arg2) (grad (V c main_arg3) (V c main_arg4) (V c main_arg5) (V c main_arg6))) i else (dat0 V c).A 8 i := by
    refine (dat0 V c).arrAt_eq_of_coversWhere 8 _ (fun β => β (0 : Fin 3) = 1) (by decide +kernel) (fun t hf y => ?_) (fun j => Iff.rfl)
    blk_simp
    rw [after0_8]
    frame_out
    obtain ⟨e0, e1, e2⟩ := idx0_8 t
    have hi : ((View.whole main_v0_3).slice (win0_8.rect t)).emb y = (ix3 1 ⟨t.val * 128 + (y 1).val, row_lt0 t (y 1)⟩ (y 2) : S2x1024x1408.Idx) := by
      refine funext fun a => Fin.ext ?_
      match a with
      | ⟨0, _⟩ => show win0_8.index t (0 : Fin 3) * 1 + 1 * (y 0).val = 1; rw [e0]; have : (y 0).val < 1 := (y 0).isLt; omega
      | ⟨1, _⟩ => show win0_8.index t (1 : Fin 3) * 128 + 1 * (y 1).val = t.val * 128 + (y 1).val; rw [e1]; omega
      | ⟨2, _⟩ => show win0_8.index t (2 : Fin 3) * 1408 + 1 * (y 2).val = (y 2).val; rw [e2]; omega
    rw [hi]
    have hp := point0_8 V c t (y 0) (y 1) (y 2)
    generalize k0_pay3 (k0_pay6 (iblk0 V c 3 t) (iblk0 V c 4 t) (iblk0 V c 2 t)) = b at hp ⊢
    exact (congrArg b (eq_ix3 y)).trans hp
  rw [h]
  exact if_pos (by rw [Nat.div_one]; exact hi1)

theorem row_lt1 (t : Fin cfg1.N) (r : Fin 128) : t.val * 128 + r.val < 1024 := by
  have := lt_of_lt_of_eq t.isLt (N_1 : cfg1.N = 8)
  omega

theorem idx1_0 : ∀ t : Fin cfg1.N, win1_0.index t (0 : Fin 3) = 0 ∧ win1_0.index t (1 : Fin 3) = t.val ∧ win1_0.index t (2 : Fin 3) = 0 :=
  (by decide +kernel : ∀ t : Fin grid1.N, _)

theorem idx1_1 : ∀ t : Fin cfg1.N, win1_1.index t (0 : Fin 3) = 0 ∧ win1_1.index t (1 : Fin 3) = t.val ∧ win1_1.index t (2 : Fin 3) = 0 :=
  (by decide +kernel : ∀ t : Fin grid1.N, _)

theorem idx1_2 : ∀ t : Fin cfg1.N, win1_2.index t (0 : Fin 3) = 0 ∧ win1_2.index t (1 : Fin 3) = t.val ∧ win1_2.index t (2 : Fin 3) = 0 :=
  (by decide +kernel : ∀ t : Fin grid1.N, _)

theorem idx1_5 : ∀ t : Fin cfg1.N, win1_5.index t (0 : Fin 3) = 0 ∧ win1_5.index t (1 : Fin 3) = t.val ∧ win1_5.index t (2 : Fin 3) = 0 :=
  (by decide +kernel : ∀ t : Fin grid1.N, _)

theorem idx1_6 : ∀ t : Fin cfg1.N, win1_6.index t (0 : Fin 3) = 0 ∧ win1_6.index t (1 : Fin 3) = t.val ∧ win1_6.index t (2 : Fin 3) = 0 :=
  (by decide +kernel : ∀ t : Fin grid1.N, _)

theorem idx1_7 : ∀ t : Fin cfg1.N, win1_7.index t (0 : Fin 3) = 0 ∧ win1_7.index t (1 : Fin 3) = t.val ∧ win1_7.index t (2 : Fin 3) = 0 :=
  (by decide +kernel : ∀ t : Fin grid1.N, _)

theorem idx1_8 : ∀ t : Fin cfg1.N, win1_8.index t (0 : Fin 3) = 0 ∧ win1_8.index t (1 : Fin 3) = t.val ∧ win1_8.index t (2 : Fin 3) = 0 :=
  (by decide +kernel : ∀ t : Fin grid1.N, _)

theorem idx1_3 : ∀ t : Fin cfg1.N, win1_3.index t (0 : Fin 2) = t.val ∧ win1_3.index t (1 : Fin 2) = 0 :=
  (by decide +kernel : ∀ t : Fin grid1.N, _)

theorem idx1_4 : ∀ t : Fin cfg1.N, win1_4.index t (0 : Fin 2) = t.val ∧ win1_4.index t (1 : Fin 2) = 0 :=
  (by decide +kernel : ∀ t : Fin grid1.N, _)

theorem blk1_0 (c : Dev nD) (t : Fin cfg1.N) (z : Fin 1) (r : Fin 128) (k : Fin 1408) :
    iblk1 V c 0 t (ix3 z r k) = V c main_arg0 (ix3 0 ⟨t.val * 128 + r.val, row_lt1 t r⟩ k) := by
  obtain ⟨e0, e1, e2⟩ := idx1_0 t
  show V c main_arg0 (((cfg1.win 0).blk t).view.emb (ix3 z r k)) = _
  refine congrArg _ (funext fun a => Fin.ext ?_)
  match a with
  | ⟨0, _⟩ => show win1_0.index t (0 : Fin 3) * 1 + 1 * z.val = 0; rw [e0]; omega
  | ⟨1, _⟩ => show win1_0.index t (1 : Fin 3) * 128 + 1 * r.val = t.val * 128 + r.val; rw [e1]; omega
  | ⟨2, _⟩ => show win1_0.index t (2 : Fin 3) * 1408 + 1 * k.val = k.val; rw [e2]; omega

theorem blk1_1 (c : Dev nD) (t : Fin cfg1.N) (z : Fin 1) (r : Fin 128) (k : Fin 1408) :
    iblk1 V c 1 t (ix3 z r k) = V c main_arg1 (ix3 0 ⟨t.val * 128 + r.val, row_lt1 t r⟩ k) := by
  obtain ⟨e0, e1, e2⟩ := idx1_1 t
  show V c main_arg1 (((cfg1.win 1).blk t).view.emb (ix3 z r k)) = _
  refine congrArg _ (funext fun a => Fin.ext ?_)
  match a with
  | ⟨0, _⟩ => show win1_1.index t (0 : Fin 3) * 1 + 1 * z.val = 0; rw [e0]; omega
  | ⟨1, _⟩ => show win1_1.index t (1 : Fin 3) * 128 + 1 * r.val = t.val * 128 + r.val; rw [e1]; omega
  | ⟨2, _⟩ => show win1_1.index t (2 : Fin 3) * 1408 + 1 * k.val = k.val; rw [e2]; omega

theorem blk1_2 (c : Dev nD) (t : Fin cfg1.N) (z : Fin 1) (r : Fin 128) (k : Fin 1408) :
    iblk1 V c 2 t (ix3 z r k) = V c main_arg2 (ix3 0 ⟨t.val * 128 + r.val, row_lt1 t r⟩ k) := by
  obtain ⟨e0, e1, e2⟩ := idx1_2 t
  show V c main_arg2 (((cfg1.win 2).blk t).view.emb (ix3 z r k)) = _
  refine congrArg _ (funext fun a => Fin.ext ?_)
  match a with
  | ⟨0, _⟩ => show win1_2.index t (0 : Fin 3) * 1 + 1 * z.val = 0; rw [e0]; omega
  | ⟨1, _⟩ => show win1_2.index t (1 : Fin 3) * 128 + 1 * r.val = t.val * 128 + r.val; rw [e1]; omega
  | ⟨2, _⟩ => show win1_2.index t (2 : Fin 3) * 1408 + 1 * k.val = k.val; rw [e2]; omega

theorem blk1_3 (c : Dev nD) (t : Fin cfg1.N) (r : Fin 128) (k : Fin 1408) :
    iblk1 V c 3 t (ix2 r k) = V c main_arg5 (ix2 ⟨t.val * 128 + r.val, row_lt1 t r⟩ k) := by
  obtain ⟨e0, e1⟩ := idx1_3 t
  show V c main_arg5 (((cfg1.win 3).blk t).view.emb (ix2 r k)) = _
  refine congrArg _ (funext fun a => Fin.ext ?_)
  match a with
  | ⟨0, _⟩ => show win1_3.index t (0 : Fin 2) * 128 + 1 * r.val = t.val * 128 + r.val; rw [e0]; omega
  | ⟨1, _⟩ => show win1_3.index t (1 : Fin 2) * 1408 + 1 * k.val = k.val; rw [e1]; omega

theorem blk1_4 (c : Dev nD) (t : Fin cfg1.N) (r : Fin 128) (k : Fin 1408) :
    iblk1 V c 4 t (ix2 r k) = V c main_arg6 (ix2 ⟨t.val * 128 + r.val, row_lt1 t r⟩ k) := by
  obtain ⟨e0, e1⟩ := idx1_4 t
  show V c main_arg6 (((cfg1.win 4).blk t).view.emb (ix2 r k)) = _
  refine congrArg _ (funext fun a => Fin.ext ?_)
  match a with
  | ⟨0, _⟩ => show win1_4.index t (0 : Fin 2) * 128 + 1 * r.val = t.val * 128 + r.val; rw [e0]; omega
  | ⟨1, _⟩ => show win1_4.index t (1 : Fin 2) * 1408 + 1 * k.val = k.val; rw [e1]; omega

/-- What point `t` writes to window 5. -/
theorem point1_5 (c : Dev nD) (t : Fin cfg1.N) (z : Fin 1) (r : Fin 128) (k : Fin 1408) :
    k1_pay7 (iblk1 V c 3 t) (iblk1 V c 4 t) (ix3 z r k) = (grad (V c main_arg3) (V c main_arg4) (V c main_arg5) (V c main_arg6)) (ix3 0 ⟨t.val * 128 + r.val, row_lt1 t r⟩ k) := by
  rw [pay1_7, blk1_3, blk1_4]
  rfl

/-- The second call fills layer 0, and leaves layer 1 as it finds it. -/
theorem final1_5 (c : Dev nD) (h1 : ∀ j : S2x1024x1408.Idx, (j 0).val = 1 → V c main_v1_0 j = (grad (V c main_arg3) (V c main_arg4) (V c main_arg5) (V c main_arg6)) j) :
    (dat1 V c).arrAt 5 cfg1.N = (grad (V c main_arg3) (V c main_arg4) (V c main_arg5) (V c main_arg6)) := by
  refine (dat1 V c).arrAt_eq_of_coversWhere_of_agree 5 _ (fun β => β (0 : Fin 3) = 0) (by decide +kernel) (fun t hf y => ?_) (fun j hj => ?_)
  · blk_simp
    rw [after1_5]
    unfold outsAt1
    frame_out
    obtain ⟨e0, e1, e2⟩ := idx1_5 t
    have hi : ((View.whole main_v1_0).slice (win1_5.rect t)).emb y = (ix3 0 ⟨t.val * 128 + (y 1).val, row_lt1 t (y 1)⟩ (y 2) : S2x1024x1408.Idx) := by
      refine funext fun a => Fin.ext ?_
      match a with
      | ⟨0, _⟩ => show win1_5.index t (0 : Fin 3) * 1 + 1 * (y 0).val = 0; rw [e0]; have : (y 0).val < 1 := (y 0).isLt; omega
      | ⟨1, _⟩ => show win1_5.index t (1 : Fin 3) * 128 + 1 * (y 1).val = t.val * 128 + (y 1).val; rw [e1]; omega
      | ⟨2, _⟩ => show win1_5.index t (2 : Fin 3) * 1408 + 1 * (y 2).val = (y 2).val; rw [e2]; omega
    rw [hi]
    have hp := point1_5 V c t (y 0) (y 1) (y 2)
    generalize k1_pay7 (iblk1 V c 3 t) (iblk1 V c 4 t) = b at hp ⊢
    exact (congrArg b (eq_ix3 y)).trans hp
  · blk_simp [Pipeline.Window.cell_apply] at hj
    have hj2 : (j 0).val < 2 := (j 0).isLt
    exact h1 j (by omega)

/-- What point `t` writes to window 6. -/
theorem point1_6 (c : Dev nD) (t : Fin cfg1.N) (z : Fin 1) (r : Fin 128) (k : Fin 1408) :
    k1_pay1 (k1_pay8 (iblk1 V c 3 t) (iblk1 V c 4 t) (iblk1 V c 1 t) (iblk1 V c 2 t) (iblk1 V c 0 t)) (ix3 z r k) = (delta (V c main_arg0) (V c main_arg1) (V c main_arg2) (grad (V c main_arg3) (V c main_arg4) (V c main_arg5) (V c main_arg6))) (ix3 0 ⟨t.val * 128 + r.val, row_lt1 t r⟩ k) := by
  rw [pay1_1, blk1_3, blk1_4, blk1_0, blk1_1, blk1_2]
  rfl

/-- The second call fills layer 0, and leaves layer 1 as it finds it. -/
theorem final1_6 (c : Dev nD) (h1 : ∀ j : S2x1024x1408.Idx, (j 0).val = 1 → V c main_v1_1 j = (delta (V c main_arg0) (V c main_arg1) (V c main_arg2) (grad (V c main_arg3) (V c main_arg4) (V c main_arg5) (V c main_arg6))) j) :
    (dat1 V c).arrAt 6 cfg1.N = (delta (V c main_arg0) (V c main_arg1) (V c main_arg2) (grad (V c main_arg3) (V c main_arg4) (V c main_arg5) (V c main_arg6))) := by
  refine (dat1 V c).arrAt_eq_of_coversWhere_of_agree 6 _ (fun β => β (0 : Fin 3) = 0) (by decide +kernel) (fun t hf y => ?_) (fun j hj => ?_)
  · blk_simp
    rw [after1_6]
    unfold outsAt1
    frame_out
    obtain ⟨e0, e1, e2⟩ := idx1_6 t
    have hi : ((View.whole main_v1_1).slice (win1_6.rect t)).emb y = (ix3 0 ⟨t.val * 128 + (y 1).val, row_lt1 t (y 1)⟩ (y 2) : S2x1024x1408.Idx) := by
      refine funext fun a => Fin.ext ?_
      match a with
      | ⟨0, _⟩ => show win1_6.index t (0 : Fin 3) * 1 + 1 * (y 0).val = 0; rw [e0]; have : (y 0).val < 1 := (y 0).isLt; omega
      | ⟨1, _⟩ => show win1_6.index t (1 : Fin 3) * 128 + 1 * (y 1).val = t.val * 128 + (y 1).val; rw [e1]; omega
      | ⟨2, _⟩ => show win1_6.index t (2 : Fin 3) * 1408 + 1 * (y 2).val = (y 2).val; rw [e2]; omega
    rw [hi]
    have hp := point1_6 V c t (y 0) (y 1) (y 2)
    generalize k1_pay1 (k1_pay8 (iblk1 V c 3 t) (iblk1 V c 4 t) (iblk1 V c 1 t) (iblk1 V c 2 t) (iblk1 V c 0 t)) = b at hp ⊢
    exact (congrArg b (eq_ix3 y)).trans hp
  · blk_simp [Pipeline.Window.cell_apply] at hj
    have hj2 : (j 0).val < 2 := (j 0).isLt
    exact h1 j (by omega)

/-- What point `t` writes to window 7. -/
theorem point1_7 (c : Dev nD) (t : Fin cfg1.N) (z : Fin 1) (r : Fin 128) (k : Fin 1408) :
    k1_pay2 (k1_pay5 (iblk1 V c 3 t) (iblk1 V c 4 t) (iblk1 V c 1 t)) (ix3 z r k) = (fstM (V c main_arg1) (grad (V c main_arg3) (V c main_arg4) (V c main_arg5) (V c main_arg6))) (ix3 0 ⟨t.val * 128 + r.val, row_lt1 t r⟩ k) := by
  rw [pay1_2, blk1_3, blk1_4, blk1_1]
  rfl

/-- The second call fills layer 0, and leaves layer 1 as it finds it. -/
theorem final1_7 (c : Dev nD) (h1 : ∀ j : S2x1024x1408.Idx, (j 0).val = 1 → V c main_v1_2 j = (fstM (V c main_arg1) (grad (V c main_arg3) (V c main_arg4) (V c main_arg5) (V c main_arg6))) j) :
    (dat1 V c).arrAt 7 cfg1.N = (fstM (V c main_arg1) (grad (V c main_arg3) (V c main_arg4) (V c main_arg5) (V c main_arg6))) := by
  refine (dat1 V c).arrAt_eq_of_coversWhere_of_agree 7 _ (fun β => β (0 : Fin 3) = 0) (by decide +kernel) (fun t hf y => ?_) (fun j hj => ?_)
  · blk_simp
    rw [after1_7]
    unfold outsAt1
    frame_out
    obtain ⟨e0, e1, e2⟩ := idx1_7 t
    have hi : ((View.whole main_v1_2).slice (win1_7.rect t)).emb y = (ix3 0 ⟨t.val * 128 + (y 1).val, row_lt1 t (y 1)⟩ (y 2) : S2x1024x1408.Idx) := by
      refine funext fun a => Fin.ext ?_
      match a with
      | ⟨0, _⟩ => show win1_7.index t (0 : Fin 3) * 1 + 1 * (y 0).val = 0; rw [e0]; have : (y 0).val < 1 := (y 0).isLt; omega
      | ⟨1, _⟩ => show win1_7.index t (1 : Fin 3) * 128 + 1 * (y 1).val = t.val * 128 + (y 1).val; rw [e1]; omega
      | ⟨2, _⟩ => show win1_7.index t (2 : Fin 3) * 1408 + 1 * (y 2).val = (y 2).val; rw [e2]; omega
    rw [hi]
    have hp := point1_7 V c t (y 0) (y 1) (y 2)
    generalize k1_pay2 (k1_pay5 (iblk1 V c 3 t) (iblk1 V c 4 t) (iblk1 V c 1 t)) = b at hp ⊢
    exact (congrArg b (eq_ix3 y)).trans hp
  · blk_simp [Pipeline.Window.cell_apply] at hj
    have hj2 : (j 0).val < 2 := (j 0).isLt
    exact h1 j (by omega)

/-- What point `t` writes to window 8. -/
theorem point1_8 (c : Dev nD) (t : Fin cfg1.N) (z : Fin 1) (r : Fin 128) (k : Fin 1408) :
    k1_pay3 (k1_pay6 (iblk1 V c 3 t) (iblk1 V c 4 t) (iblk1 V c 2 t)) (ix3 z r k) = (sndM (V c main_arg2) (grad (V c main_arg3) (V c main_arg4) (V c main_arg5) (V c main_arg6))) (ix3 0 ⟨t.val * 128 + r.val, row_lt1 t r⟩ k) := by
  rw [pay1_3, blk1_3, blk1_4, blk1_2]
  rfl

/-- The second call fills layer 0, and leaves layer 1 as it finds it. -/
theorem final1_8 (c : Dev nD) (h1 : ∀ j : S2x1024x1408.Idx, (j 0).val = 1 → V c main_v1_3 j = (sndM (V c main_arg2) (grad (V c main_arg3) (V c main_arg4) (V c main_arg5) (V c main_arg6))) j) :
    (dat1 V c).arrAt 8 cfg1.N = (sndM (V c main_arg2) (grad (V c main_arg3) (V c main_arg4) (V c main_arg5) (V c main_arg6))) := by
  refine (dat1 V c).arrAt_eq_of_coversWhere_of_agree 8 _ (fun β => β (0 : Fin 3) = 0) (by decide +kernel) (fun t hf y => ?_) (fun j hj => ?_)
  · blk_simp
    rw [after1_8]
    unfold outsAt1
    frame_out
    obtain ⟨e0, e1, e2⟩ := idx1_8 t
    have hi : ((View.whole main_v1_3).slice (win1_8.rect t)).emb y = (ix3 0 ⟨t.val * 128 + (y 1).val, row_lt1 t (y 1)⟩ (y 2) : S2x1024x1408.Idx) := by
      refine funext fun a => Fin.ext ?_
      match a with
      | ⟨0, _⟩ => show win1_8.index t (0 : Fin 3) * 1 + 1 * (y 0).val = 0; rw [e0]; have : (y 0).val < 1 := (y 0).isLt; omega
      | ⟨1, _⟩ => show win1_8.index t (1 : Fin 3) * 128 + 1 * (y 1).val = t.val * 128 + (y 1).val; rw [e1]; omega
      | ⟨2, _⟩ => show win1_8.index t (2 : Fin 3) * 1408 + 1 * (y 2).val = (y 2).val; rw [e2]; omega
    rw [hi]
    have hp := point1_8 V c t (y 0) (y 1) (y 2)
    generalize k1_pay3 (k1_pay6 (iblk1 V c 3 t) (iblk1 V c 4 t) (iblk1 V c 2 t)) = b at hp ⊢
    exact (congrArg b (eq_ix3 y)).trans hp
  · blk_simp [Pipeline.Window.cell_apply] at hj
    have hj2 : (j 0).val < 2 := (j 0).isLt
    exact h1 j (by omega)

end Regions

/-! ## The run -/

variable (m : (ℓ : Loc nD τ sig) → Buf (Elt Ideal) ℓ) (ρ : Dev nD → PrngReg)

/-- An argument's contents as the first call finds them. -/
abbrev A0 (c : Dev nD) : FVec Ideal S2x1024x1408 .f32 := m ((c : Thread nD τ).loc main_arg0)
abbrev A1 (c : Dev nD) : FVec Ideal S2x1024x1408 .f32 := m ((c : Thread nD τ).loc main_arg1)
abbrev A2 (c : Dev nD) : FVec Ideal S2x1024x1408 .f32 := m ((c : Thread nD τ).loc main_arg2)
/-- The gradient of the launch's arguments. -/
abbrev GR (c : Dev nD) : FVec Ideal S2x1024x1408 .f32 :=
  grad (m ((c : Thread nD τ).loc main_arg3)) (m ((c : Thread nD τ).loc main_arg4)) (m ((c : Thread nD τ).loc main_arg5)) (m ((c : Thread nD τ).loc main_arg6))

theorem V2_arg (c : Dev nD) (a : Ref sig .tc) (ha : a ∈ argRefs) : V2 m ρ c a = m ((c : Thread nD τ).loc a) := W2_args m ρ c a ha

theorem entry5 (c : Dev nD) : V2 m ρ c main_v1_0 = (dat0 (V0 m ρ) c).arrAt 5 cfg0.N := by
  refine Eq.trans ?_ (W1_arr m ρ c 5)
  show StableHlo.after hostOps1 _ _ = _
  after_results <;> rfl

theorem W3_res5 (c : Dev nD) : W3 m ρ c (Proc.devRef .tc main_v1_0) = GR m c := by
  refine (W3_arr m ρ c 5).trans ((final1_5 (V2 m ρ) c (fun j hj => ?_)).trans ?_)
  · rw [entry5, final0_5 (V0 m ρ) c j hj]
    iterate 7 try rw [V2_arg m ρ c _ (by decide)]
  · iterate 7 try rw [V2_arg m ρ c _ (by decide)]

theorem entry6 (c : Dev nD) : V2 m ρ c main_v1_1 = (dat0 (V0 m ρ) c).arrAt 6 cfg0.N := by
  refine Eq.trans ?_ (W1_arr m ρ c 6)
  show StableHlo.after hostOps1 _ _ = _
  after_results <;> rfl

theorem W3_res6 (c : Dev nD) : W3 m ρ c (Proc.devRef .tc main_v1_1) = delta (A0 m c) (A1 m c) (A2 m c) (GR m c) := by
  refine (W3_arr m ρ c 6).trans ((final1_6 (V2 m ρ) c (fun j hj => ?_)).trans ?_)
  · rw [entry6, final0_6 (V0 m ρ) c j hj]
    iterate 7 try rw [V2_arg m ρ c _ (by decide)]
  · iterate 7 try rw [V2_arg m ρ c _ (by decide)]

theorem entry7 (c : Dev nD) : V2 m ρ c main_v1_2 = (dat0 (V0 m ρ) c).arrAt 7 cfg0.N := by
  refine Eq.trans ?_ (W1_arr m ρ c 7)
  show StableHlo.after hostOps1 _ _ = _
  after_results <;> rfl

theorem W3_res7 (c : Dev nD) : W3 m ρ c (Proc.devRef .tc main_v1_2) = fstM (A1 m c) (GR m c) := by
  refine (W3_arr m ρ c 7).trans ((final1_7 (V2 m ρ) c (fun j hj => ?_)).trans ?_)
  · rw [entry7, final0_7 (V0 m ρ) c j hj]
    iterate 7 try rw [V2_arg m ρ c _ (by decide)]
  · iterate 7 try rw [V2_arg m ρ c _ (by decide)]

theorem entry8 (c : Dev nD) : V2 m ρ c main_v1_3 = (dat0 (V0 m ρ) c).arrAt 8 cfg0.N := by
  refine Eq.trans ?_ (W1_arr m ρ c 8)
  show StableHlo.after hostOps1 _ _ = _
  after_results <;> rfl

theorem W3_res8 (c : Dev nD) : W3 m ρ c (Proc.devRef .tc main_v1_3) = sndM (A2 m c) (GR m c) := by
  refine (W3_arr m ρ c 8).trans ((final1_8 (V2 m ρ) c (fun j hj => ?_)).trans ?_)
  · rw [entry8, final0_8 (V0 m ρ) c j hj]
    iterate 7 try rw [V2_arg m ρ c _ (by decide)]
  · iterate 7 try rw [V2_arg m ρ c _ (by decide)]

section Run
open Idealize.ShloMosaic.Tactic Idealize.SL Idealize.SL.RA Idealize.SL.BI
open scoped Idealize.SL.BI
open Idealize.SL.BI.BIBase Idealize.SL.BI.Laws Idealize.SL.ProofMode
open Idealize.ShloMosaic.Rounds

/-- The heap the run's assertions speak of. -/
local notation "𝕄" => MT nD τ sig Unit (Elt Ideal) ℕ (UR sig nD τ) ℕ

-- the launch lemma's implicit arguments are found from the conclusion
set_option backward.isDefEq.respectTransparency.types false in
/-- The program ends with its four results at the contents after the second call, its arguments unchanged. -/
theorem run_mem : θ_run defs (onTc (τ := τ) (main (F := Ideal))) ⟨m, fun _ => 0, ρ⟩ (fun r => ∀ c : Dev nD,
      ∀ b ∈ Pipeline.ucRefs τ sig, r.2.mem (((c : Thread nD τ)).1, b) = W3 (F := Ideal) m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Run

/-! ## The reference -/

section Reference
open Cert.AdamUpRefIdeal Cert.AdamUpRefIdeal.Gen

/-- The reference's stack of the two layers' sums. -/
theorem stack_apply (a1 b1 a0 b0 : FVec Ideal S1024x1408 .f32) (l : Fin 2) (r : Fin 1024) (k : Fin 1408) :
    concatenate Cert.AdamUpRefIdeal.S2x1024x1408 0 [⟨S1x1024x1408, (broadcastInDim S1x1024x1408 ![1, 2] bcast_S1024x1408_S1x1024x1408_1_2 (addf a0 b0))⟩, ⟨S1x1024x1408, (broadcastInDim S1x1024x1408 ![1, 2] bcast_S1024x1408_S1x1024x1408_1_2 (addf a1 b1))⟩] concatenates_S1x1024x1408_S1x1024x1408_S2x1024x1408_d0 (ix3 l r k)
      = grad a1 b1 a0 b0 (ix3 l r k) := by
  unfold grad
  obtain ⟨l, hl⟩ := l
  interval_cases l
  · exact by pointwise
  · exact by pointwise

theorem ref_delta (w m v s a : FVec Ideal Cert.AdamUpRefIdeal.S2x1024x1408 .f32) (hs : ∀ l r k, s (ix3 l r k) = a (ix3 l r k)) :
    mulf (broadcastInDim Cert.AdamUpRefIdeal.S2x1024x1408 ![] bcast_S_S2x1024x1408 (constant S_ .f32 0xBA83126F#32)) (addf (Host.divf (Host.divf (addf (mulf (broadcastInDim Cert.AdamUpRefIdeal.S2x1024x1408 ![] bcast_S_S2x1024x1408 (constant S_ .f32 0x3F666666#32)) m) (mulf (broadcastInDim Cert.AdamUpRefIdeal.S2x1024x1408 ![] bcast_S_S2x1024x1408 (constant S_ .f32 0x3DCCCCCD#32)) s)) (broadcastInDim Cert.AdamUpRefIdeal.S2x1024x1408 ![] bcast_S_S2x1024x1408 (constant S_ .f32 0x3F26BD02#32))) (addf (Host.sqrt (Host.divf (addf (mulf (broadcastInDim Cert.AdamUpRefIdeal.S2x1024x1408 ![] bcast_S_S2x1024x1408 (constant S_ .f32 0x3F7FBE77#32)) v) (mulf (broadcastInDim Cert.AdamUpRefIdeal.S2x1024x1408 ![] bcast_S_S2x1024x1408 (constant S_ .f32 0x3A83126F#32)) (mulf s s))) (broadcastInDim Cert.AdamUpRefIdeal.S2x1024x1408 ![] bcast_S_S2x1024x1408 (constant S_ .f32 0x3C231ACC#32)))) (broadcastInDim Cert.AdamUpRefIdeal.S2x1024x1408 ![] bcast_S_S2x1024x1408 (constant S_ .f32 0x322BCC77#32)))) (mulf (broadcastInDim Cert.AdamUpRefIdeal.S2x1024x1408 ![] bcast_S_S2x1024x1408 (constant S_ .f32 0x3C23D70A#32)) w)) = delta w m v a := by
  funext i
  obtain ⟨l, r, k, rfl⟩ : ∃ (l : Fin 2) (r : Fin 1024) (k : Fin 1408), i = ix3 l r k := ⟨i 0, i 1, i 2, eq_ix3 i⟩
  unfold delta
  rw [show a = s from funext fun i => by rw [eq_ix3 i]; exact (hs _ _ _).symm]
  unfold step mNew vNew
  pointwise

theorem ref_fstM (m s a : FVec Ideal Cert.AdamUpRefIdeal.S2x1024x1408 .f32) (hs : ∀ l r k, s (ix3 l r k) = a (ix3 l r k)) :
    addf (mulf (broadcastInDim Cert.AdamUpRefIdeal.S2x1024x1408 ![] bcast_S_S2x1024x1408 (constant S_ .f32 0x3F666666#32)) m) (mulf (broadcastInDim Cert.AdamUpRefIdeal.S2x1024x1408 ![] bcast_S_S2x1024x1408 (constant S_ .f32 0x3DCCCCCD#32)) s) = fstM m a := by
  funext i
  obtain ⟨l, r, k, rfl⟩ : ∃ (l : Fin 2) (r : Fin 1024) (k : Fin 1408), i = ix3 l r k := ⟨i 0, i 1, i 2, eq_ix3 i⟩
  unfold fstM
  rw [show a = s from funext fun i => by rw [eq_ix3 i]; exact (hs _ _ _).symm]
  unfold mNew
  pointwise

theorem ref_sndM (v s a : FVec Ideal Cert.AdamUpRefIdeal.S2x1024x1408 .f32) (hs : ∀ l r k, s (ix3 l r k) = a (ix3 l r k)) :
    addf (mulf (broadcastInDim Cert.AdamUpRefIdeal.S2x1024x1408 ![] bcast_S_S2x1024x1408 (constant S_ .f32 0x3F7FBE77#32)) v) (mulf (broadcastInDim Cert.AdamUpRefIdeal.S2x1024x1408 ![] bcast_S_S2x1024x1408 (constant S_ .f32 0x3A83126F#32)) (mulf s s)) = sndM v a := by
  funext i
  obtain ⟨l, r, k, rfl⟩ : ∃ (l : Fin 2) (r : Fin 1024) (k : Fin 1408), i = ix3 l r k := ⟨i 0, i 1, i 2, eq_ix3 i⟩
  unfold sndM
  rw [show a = s from funext fun i => by rw [eq_ix3 i]; exact (hs _ _ _).symm]
  unfold vNew
  pointwise

end Reference

/-- The two programs compute the same gradient, update and moments. -/
theorem algebraic : Cert.algebraic_AdamUpIdeal_AdamUpRefIdeal := by
  intro m g m' g' _ hargs
  refine ⟨fun c => GR m c, fun c => delta (A0 m c) (A1 m c) (A2 m c) (GR m c), fun c => fstM (A1 m c) (GR m c), fun c => sndM (A2 m c) (GR m c),
    (θ_run defs _ _).mono (fun r h c => ?_) (run_mem m g),
    (θ_run Cert.AdamUpRefIdeal.defs _ _).mono (fun r h c => ?_) (Cert.AdamUpRefIdeal.Value.run (F := Ideal) m' g')⟩
  · exact ⟨(h c _ (mem_uc main_v1_0 (by decide))).trans (W3_res5 m g c),
      (h c _ (mem_uc main_v1_1 (by decide))).trans (W3_res6 m g c),
      (h c _ (mem_uc main_v1_2 (by decide))).trans (W3_res7 m g c),
      (h c _ (mem_uc main_v1_3 (by decide))).trans (W3_res8 m g c),
      (h c _ (mem_uc main_arg0 (by decide))).trans (W3_main_arg0 m g c),
      (h c _ (mem_uc main_arg1 (by decide))).trans (W3_main_arg1 m g c),
      (h c _ (mem_uc main_arg2 (by decide))).trans (W3_main_arg2 m g c),
      (h c _ (mem_uc main_arg3 (by decide))).trans (W3_main_arg3 m g c),
      (h c _ (mem_uc main_arg4 (by decide))).trans (W3_main_arg4 m g c),
      (h c _ (mem_uc main_arg5 (by decide))).trans (W3_main_arg5 m g c),
      (h c _ (mem_uc main_arg6 (by decide))).trans (W3_main_arg6 m g c)⟩
  obtain ⟨h0, h1, h2, h3, hr⟩ := h c
  obtain ⟨a0, a1, a2, a3, a4, a5, a6⟩ := hargs c
  rw [a3, a4, a5, a6] at h0 h1 h2 h3
  rw [a0, a1, a2] at h1
  rw [a1] at h2
  rw [a2] at h3
  have hs := stack_apply (m ((c : Thread nD τ).loc main_arg3)) (m ((c : Thread nD τ).loc main_arg4)) (m ((c : Thread nD τ).loc main_arg5)) (m ((c : Thread nD τ).loc main_arg6))
  generalize concatenate (α := Ideal .f32) Cert.AdamUpRefIdeal.S2x1024x1408 0 _ _ = s at h0 h1 h2 h3 hs
  refine ⟨h0.trans ?_, h1.trans ?_, h2.trans ?_, h3.trans ?_, hr⟩
  · funext i
    rw [eq_ix3 i]
    exact hs _ _ _
  · exact ref_delta _ _ _ s (GR m c) hs
  · exact ref_fstM _ s (GR m c) hs
  · exact ref_sndM _ s (GR m c) hs

end Cert.AdamUpIdeal.Value

end
-- ==== Proof.AdamDown.lean ====
/-
  The AdamW update of a chip's rows of `w_down`, a stack of two layers of 704x1024: the gradient
  of each layer is the sum of the two partial gradients it arrives as; from it come the update and the two
  new moments. The layers are updated by two calls, layer 1 first, the second one in the first one's arrays.
-/
module

public import proofs.«01_k».proof.Defs
public import proofs.«01_k».proof.Proof.AdamRow
public import proofs.«01_k».proof.Proof.Gen.AdamDownIdeal.Frame
public import proofs.«01_k».proof.Proof.Gen.AdamDownRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamDownIdeal.Value

open Cert.AdamDownIdeal Cert.AdamDownIdeal.Gen Idealize.ShloMosaic Idealize.ShloMosaic.TcCoe Idealize.SL.Sem
open Cert.AdamRow

/-! ## The four results at an index -/

/-- The gradient of the stack: each layer's two partial gradients added. -/
def grad (a1 b1 a0 b0 : FVec Ideal S704x1024 .f32) : FVec Ideal S2x704x1024 .f32 := fun i =>
  if (i 0).val = 0 then a0 (ix2 (i 1) (i 2)) + b0 (ix2 (i 1) (i 2)) else a1 (ix2 (i 1) (i 2)) + b1 (ix2 (i 1) (i 2))

/-- The new first moment. -/
def fstM (m a : FVec Ideal S2x704x1024 .f32) : FVec Ideal S2x704x1024 .f32 := fun i => mNew (m i) (a i)

/-- The new second moment. -/
def sndM (v a : FVec Ideal S2x704x1024 .f32) : FVec Ideal S2x704x1024 .f32 := fun i => vNew (v i) (a i)

/-- The update of the weights. -/
def delta (w m v a : FVec Ideal S2x704x1024 .f32) : FVec Ideal S2x704x1024 .f32 := fun i => step (w i) (m i) (v i) (a i)

/-! ## One point's blocks -/

theorem pay0_7 (a b : Vec Ideal S176x1024 .f32) (z : Fin 1) (r : Fin 176) (k : Fin 1024) :
    k0_pay7 a b (ix3 z r k) = a (ix2 r k) + b (ix2 r k) := by
  obtain rfl : z = 0 := Subsingleton.elim _ _
  pointwise [k0_pay7, k0_pay4]

theorem pay0_2 (a b : Vec Ideal S176x1024 .f32) (x : Vec Ideal S1x176x1024 .f32) (z : Fin 1) (r : Fin 176) (k : Fin 1024) :
    k0_pay2 (k0_pay5 a b x) (ix3 z r k) = mNew (x (ix3 z r k)) (a (ix2 r k) + b (ix2 r k)) := by
  obtain rfl : z = 0 := Subsingleton.elim _ _
  unfold mNew
  pointwise [k0_pay2, k0_pay5, k0_pay4]

theorem pay0_3 (a b : Vec Ideal S176x1024 .f32) (x : Vec Ideal S1x176x1024 .f32) (z : Fin 1) (r : Fin 176) (k : Fin 1024) :
    k0_pay3 (k0_pay6 a b x) (ix3 z r k) = vNew (x (ix3 z r k)) (a (ix2 r k) + b (ix2 r k)) := by
  obtain rfl : z = 0 := Subsingleton.elim _ _
  unfold vNew
  pointwise [k0_pay3, k0_pay6, k0_pay4]

theorem pay0_1 (a b : Vec Ideal S176x1024 .f32) (x y w : Vec Ideal S1x176x1024 .f32) (z : Fin 1) (r : Fin 176) (k : Fin 1024) :
    k0_pay1 (k0_pay8 a b x y w) (ix3 z r k) = step (w (ix3 z r k)) (x (ix3 z r k)) (y (ix3 z r k)) (a (ix2 r k) + b (ix2 r k)) := by
  obtain rfl : z = 0 := Subsingleton.elim _ _
  unfold step mNew vNew
  pointwise [k0_pay1, k0_pay8, k0_pay5, k0_pay6, k0_pay4]

theorem pay1_7 (a b : Vec Ideal S176x1024 .f32) (z : Fin 1) (r : Fin 176) (k : Fin 1024) :
    k1_pay7 a b (ix3 z r k) = a (ix2 r k) + b (ix2 r k) := by
  obtain rfl : z = 0 := Subsingleton.elim _ _
  pointwise [k1_pay7, k1_pay4]

theorem pay1_2 (a b : Vec Ideal S176x1024 .f32) (x : Vec Ideal S1x176x1024 .f32) (z : Fin 1) (r : Fin 176) (k : Fin 1024) :
    k1_pay2 (k1_pay5 a b x) (ix3 z r k) = mNew (x (ix3 z r k)) (a (ix2 r k) + b (ix2 r k)) := by
  obtain rfl : z = 0 := Subsingleton.elim _ _
  unfold mNew
  pointwise [k1_pay2, k1_pay5, k1_pay4]

theorem pay1_3 (a b : Vec Ideal S176x1024 .f32) (x : Vec Ideal S1x176x1024 .f32) (z : Fin 1) (r : Fin 176) (k : Fin 1024) :
    k1_pay3 (k1_pay6 a b x) (ix3 z r k) = vNew (x (ix3 z r k)) (a (ix2 r k) + b (ix2 r k)) := by
  obtain rfl : z = 0 := Subsingleton.elim _ _
  unfold vNew
  pointwise [k1_pay3, k1_pay6, k1_pay4]

theorem pay1_1 (a b : Vec Ideal S176x1024 .f32) (x y w : Vec Ideal S1x176x1024 .f32) (z : Fin 1) (r : Fin 176) (k : Fin 1024) :
    k1_pay1 (k1_pay8 a b x y w) (ix3 z r k) = step (w (ix3 z r k)) (x (ix3 z r k)) (y (ix3 z r k)) (a (ix2 r k) + b (ix2 r k)) := by
  obtain rfl : z = 0 := Subsingleton.elim _ _
  unfold step mNew vNew
  pointwise [k1_pay1, k1_pay8, k1_pay5, k1_pay6, k1_pay4]

/-! ## The regions, from any entry contents -/

section Regions

variable (V : (c : Dev nD) → (b : Ref sig .tc) → Buf (Elt Ideal) ((c : Thread nD τ).loc b))

theorem row_lt0 (t : Fin cfg0.N) (r : Fin 176) : t.val * 176 + r.val < 704 := by
  have := lt_of_lt_of_eq t.isLt (N_0 : cfg0.N = 4)
  omega

theorem idx0_0 : ∀ t : Fin cfg0.N, win0_0.index t (0 : Fin 3) = 1 ∧ win0_0.index t (1 : Fin 3) = t.val ∧ win0_0.index t (2 : Fin 3) = 0 :=
  (by decide +kernel : ∀ t : Fin grid0.N, _)

theorem idx0_1 : ∀ t : Fin cfg0.N, win0_1.index t (0 : Fin 3) = 1 ∧ win0_1.index t (1 : Fin 3) = t.val ∧ win0_1.index t (2 : Fin 3) = 0 :=
  (by decide +kernel : ∀ t : Fin grid0.N, _)

theorem idx0_2 : ∀ t : Fin cfg0.N, win0_2.index t (0 : Fin 3) = 1 ∧ win0_2.index t (1 : Fin 3) = t.val ∧ win0_2.index t (2 : Fin 3) = 0 :=
  (by decide +kernel : ∀ t : Fin grid0.N, _)

theorem idx0_5 : ∀ t : Fin cfg0.N, win0_5.index t (0 : Fin 3) = 1 ∧ win0_5.index t (1 : Fin 3) = t.val ∧ win0_5.index t (2 : Fin 3) = 0 :=
  (by decide +kernel : ∀ t : Fin grid0.N, _)

theorem idx0_6 : ∀ t : Fin cfg0.N, win0_6.index t (0 : Fin 3) = 1 ∧ win0_6.index t (1 : Fin 3) = t.val ∧ win0_6.index t (2 : Fin 3) = 0 :=
  (by decide +kernel : ∀ t : Fin grid0.N, _)

theorem idx0_7 : ∀ t : Fin cfg0.N, win0_7.index t (0 : Fin 3) = 1 ∧ win0_7.index t (1 : Fin 3) = t.val ∧ win0_7.index t (2 : Fin 3) = 0 :=
  (by decide +kernel : ∀ t : Fin grid0.N, _)

theorem idx0_8 : ∀ t : Fin cfg0.N, win0_8.index t (0 : Fin 3) = 1 ∧ win0_8.index t (1 : Fin 3) = t.val ∧ win0_8.index t (2 : Fin 3) = 0 :=
  (by decide +kernel : ∀ t : Fin grid0.N, _)

theorem idx0_3 : ∀ t : Fin cfg0.N, win0_3.index t (0 : Fin 2) = t.val ∧ win0_3.index t (1 : Fin 2) = 0 :=
  (by decide +kernel : ∀ t : Fin grid0.N, _)

theorem idx0_4 : ∀ t : Fin cfg0.N, win0_4.index t (0 : Fin 2) = t.val ∧ win0_4.index t (1 : Fin 2) = 0 :=
  (by decide +kernel : ∀ t : Fin grid0.N, _)

theorem blk0_0 (c : Dev nD) (t : Fin cfg0.N) (z : Fin 1) (r : Fin 176) (k : Fin 1024) :
    iblk0 V c 0 t (ix3 z r k) = V c main_arg0 (ix3 1 ⟨t.val * 176 + r.val, row_lt0 t r⟩ k) := by
  obtain ⟨e0, e1, e2⟩ := idx0_0 t
  show V c main_arg0 (((cfg0.win 0).blk t).view.emb (ix3 z r k)) = _
  refine congrArg _ (funext fun a => Fin.ext ?_)
  match a with
  | ⟨0, _⟩ => show win0_0.index t (0 : Fin 3) * 1 + 1 * z.val = 1; rw [e0]; omega
  | ⟨1, _⟩ => show win0_0.index t (1 : Fin 3) * 176 + 1 * r.val = t.val * 176 + r.val; rw [e1]; omega
  | ⟨2, _⟩ => show win0_0.index t (2 : Fin 3) * 1024 + 1 * k.val = k.val; rw [e2]; omega

theorem blk0_1 (c : Dev nD) (t : Fin cfg0.N) (z : Fin 1) (r : Fin 176) (k : Fin 1024) :
    iblk0 V c 1 t (ix3 z r k) = V c main_arg1 (ix3 1 ⟨t.val * 176 + r.val, row_lt0 t r⟩ k) := by
  obtain ⟨e0, e1, e2⟩ := idx0_1 t
  show V c main_arg1 (((cfg0.win 1).blk t).view.emb (ix3 z r k)) = _
  refine congrArg _ (funext fun a => Fin.ext ?_)
  match a with
  | ⟨0, _⟩ => show win0_1.index t (0 : Fin 3) * 1 + 1 * z.val = 1; rw [e0]; omega
  | ⟨1, _⟩ => show win0_1.index t (1 : Fin 3) * 176 + 1 * r.val = t.val * 176 + r.val; rw [e1]; omega
  | ⟨2, _⟩ => show win0_1.index t (2 : Fin 3) * 1024 + 1 * k.val = k.val; rw [e2]; omega

theorem blk0_2 (c : Dev nD) (t : Fin cfg0.N) (z : Fin 1) (r : Fin 176) (k : Fin 1024) :
    iblk0 V c 2 t (ix3 z r k) = V c main_arg2 (ix3 1 ⟨t.val * 176 + r.val, row_lt0 t r⟩ k) := by
  obtain ⟨e0, e1, e2⟩ := idx0_2 t
  show V c main_arg2 (((cfg0.win 2).blk t).view.emb (ix3 z r k)) = _
  refine congrArg _ (funext fun a => Fin.ext ?_)
  match a with
  | ⟨0, _⟩ => show win0_2.index t (0 : Fin 3) * 1 + 1 * z.val = 1; rw [e0]; omega
  | ⟨1, _⟩ => show win0_2.index t (1 : Fin 3) * 176 + 1 * r.val = t.val * 176 + r.val; rw [e1]; omega
  | ⟨2, _⟩ => show win0_2.index t (2 : Fin 3) * 1024 + 1 * k.val = k.val; rw [e2]; omega

theorem blk0_3 (c : Dev nD) (t : Fin cfg0.N) (r : Fin 176) (k : Fin 1024) :
    iblk0 V c 3 t (ix2 r k) = V c main_arg3 (ix2 ⟨t.val * 176 + r.val, row_lt0 t r⟩ k) := by
  obtain ⟨e0, e1⟩ := idx0_3 t
  show V c main_arg3 (((cfg0.win 3).blk t).view.emb (ix2 r k)) = _
  refine congrArg _ (funext fun a => Fin.ext ?_)
  match a with
  | ⟨0, _⟩ => show win0_3.index t (0 : Fin 2) * 176 + 1 * r.val = t.val * 176 + r.val; rw [e0]; omega
  | ⟨1, _⟩ => show win0_3.index t (1 : Fin 2) * 1024 + 1 * k.val = k.val; rw [e1]; omega

theorem blk0_4 (c : Dev nD) (t : Fin cfg0.N) (r : Fin 176) (k : Fin 1024) :
    iblk0 V c 4 t (ix2 r k) = V c main_arg4 (ix2 ⟨t.val * 176 + r.val, row_lt0 t r⟩ k) := by
  obtain ⟨e0, e1⟩ := idx0_4 t
  show V c main_arg4 (((cfg0.win 4).blk t).view.emb (ix2 r k)) = _
  refine congrArg _ (funext fun a => Fin.ext ?_)
  match a with
  | ⟨0, _⟩ => show win0_4.index t (0 : Fin 2) * 176 + 1 * r.val = t.val * 176 + r.val; rw [e0]; omega
  | ⟨1, _⟩ => show win0_4.index t (1 : Fin 2) * 1024 + 1 * k.val = k.val; rw [e1]; omega

/-- What point `t` writes to window 5. -/
theorem point0_5 (c : Dev nD) (t : Fin cfg0.N) (z : Fin 1) (r : Fin 176) (k : Fin 1024) :
    k0_pay7 (iblk0 V c 3 t) (iblk0 V c 4 t) (ix3 z r k) = (grad (V c main_arg3) (V c main_arg4) (V c main_arg5) (V c main_arg6)) (ix3 1 ⟨t.val * 176 + r.val, row_lt0 t r⟩ k) := by
  rw [pay0_7, blk0_3, blk0_4]
  rfl

/-- The first call fills layer 1 of its result. -/
theorem final0_5 (c : Dev nD) (i : S2x704x1024.Idx) (hi1 : (i 0).val = 1) :
    (dat0 V c).arrAt 5 cfg0.N i = (grad (V c main_arg3) (V c main_arg4) (V c main_arg5) (V c main_arg6)) i := by
  have h : (dat0 V c).arrAt 5 cfg0.N = fun i => if (i 0).val / 1 = 1 then (grad (V c main_arg3) (V c main_arg4) (V c main_arg5) (V c main_arg6)) i else (dat0 V c).A 5 i := by
    refine (dat0 V c).arrAt_eq_of_coversWhere 5 _ (fun β => β (0 : Fin 3) = 1) (by decide +kernel) (fun t hf y => ?_) (fun j => Iff.rfl)
    blk_simp
    rw [after0_5]
    frame_out
    obtain ⟨e0, e1, e2⟩ := idx0_5 t
    have hi : ((View.whole main_v0_0).slice (win0_5.rect t)).emb y = (ix3 1 ⟨t.val * 176 + (y 1).val, row_lt0 t (y 1)⟩ (y 2) : S2x704x1024.Idx) := by
      refine funext fun a => Fin.ext ?_
      match a with
      | ⟨0, _⟩ => show win0_5.index t (0 : Fin 3) * 1 + 1 * (y 0).val = 1; rw [e0]; have : (y 0).val < 1 := (y 0).isLt; omega
      | ⟨1, _⟩ => show win0_5.index t (1 : Fin 3) * 176 + 1 * (y 1).val = t.val * 176 + (y 1).val; rw [e1]; omega
      | ⟨2, _⟩ => show win0_5.index t (2 : Fin 3) * 1024 + 1 * (y 2).val = (y 2).val; rw [e2]; omega
    rw [hi]
    have hp := point0_5 V c t (y 0) (y 1) (y 2)
    generalize k0_pay7 (iblk0 V c 3 t) (iblk0 V c 4 t) = b at hp ⊢
    exact (congrArg b (eq_ix3 y)).trans hp
  rw [h]
  exact if_pos (by rw [Nat.div_one]; exact hi1)

/-- What point `t` writes to window 6. -/
theorem point0_6 (c : Dev nD) (t : Fin cfg0.N) (z : Fin 1) (r : Fin 176) (k : Fin 1024) :
    k0_pay1 (k0_pay8 (iblk0 V c 3 t) (iblk0 V c 4 t) (iblk0 V c 1 t) (iblk0 V c 2 t) (iblk0 V c 0 t)) (ix3 z r k) = (delta (V c main_arg0) (V c main_arg1) (V c main_arg2) (grad (V c main_arg3) (V c main_arg4) (V c main_arg5) (V c main_arg6))) (ix3 1 ⟨t.val * 176 + r.val, row_lt0 t r⟩ k) := by
  rw [pay0_1, blk0_3, blk0_4, blk0_0, blk0_1, blk0_2]
  rfl

/-- The first call fills layer 1 of its result. -/
theorem final0_6 (c : Dev nD) (i : S2x704x1024.Idx) (hi1 : (i 0).val = 1) :
    (dat0 V c).arrAt 6 cfg0.N i = (delta (V c main_arg0) (V c main_arg1) (V c main_arg2) (grad (V c main_arg3) (V c main_arg4) (V c main_arg5) (V c main_arg6))) i := by
  have h : (dat0 V c).arrAt 6 cfg0.N = fun i => if (i 0).val / 1 = 1 then (delta (V c main_arg0) (V c main_arg1) (V c main_arg2) (grad (V c main_arg3) (V c main_arg4) (V c main_arg5) (V c main_arg6))) i else (dat0 V c).A 6 i := by
    refine (dat0 V c).arrAt_eq_of_coversWhere 6 _ (fun β => β (0 : Fin 3) = 1) (by decide +kernel) (fun t hf y => ?_) (fun j => Iff.rfl)
    blk_simp
    rw [after0_6]
    frame_out
    obtain ⟨e0, e1, e2⟩ := idx0_6 t
    have hi : ((View.whole main_v0_1).slice (win0_6.rect t)).emb y = (ix3 1 ⟨t.val * 176 + (y 1).val, row_lt0 t (y 1)⟩ (y 2) : S2x704x1024.Idx) := by
      refine funext fun a => Fin.ext ?_
      match a with
      | ⟨0, _⟩ => show win0_6.index t (0 : Fin 3) * 1 + 1 * (y 0).val = 1; rw [e0]; have : (y 0).val < 1 := (y 0).isLt; omega
      | ⟨1, _⟩ => show win0_6.index t (1 : Fin 3) * 176 + 1 * (y 1).val = t.val * 176 + (y 1).val; rw [e1]; omega
      | ⟨2, _⟩ => show win0_6.index t (2 : Fin 3) * 1024 + 1 * (y 2).val = (y 2).val; rw [e2]; omega
    rw [hi]
    have hp := point0_6 V c t (y 0) (y 1) (y 2)
    generalize k0_pay1 (k0_pay8 (iblk0 V c 3 t) (iblk0 V c 4 t) (iblk0 V c 1 t) (iblk0 V c 2 t) (iblk0 V c 0 t)) = b at hp ⊢
    exact (congrArg b (eq_ix3 y)).trans hp
  rw [h]
  exact if_pos (by rw [Nat.div_one]; exact hi1)

/-- What point `t` writes to window 7. -/
theorem point0_7 (c : Dev nD) (t : Fin cfg0.N) (z : Fin 1) (r : Fin 176) (k : Fin 1024) :
    k0_pay2 (k0_pay5 (iblk0 V c 3 t) (iblk0 V c 4 t) (iblk0 V c 1 t)) (ix3 z r k) = (fstM (V c main_arg1) (grad (V c main_arg3) (V c main_arg4) (V c main_arg5) (V c main_arg6))) (ix3 1 ⟨t.val * 176 + r.val, row_lt0 t r⟩ k) := by
  rw [pay0_2, blk0_3, blk0_4, blk0_1]
  rfl

/-- The first call fills layer 1 of its result. -/
theorem final0_7 (c : Dev nD) (i : S2x704x1024.Idx) (hi1 : (i 0).val = 1) :
    (dat0 V c).arrAt 7 cfg0.N i = (fstM (V c main_arg1) (grad (V c main_arg3) (V c main_arg4) (V c main_arg5) (V c main_arg6))) i := by
  have h : (dat0 V c).arrAt 7 cfg0.N = fun i => if (i 0).val / 1 = 1 then (fstM (V c main_arg1) (grad (V c main_arg3) (V c main_arg4) (V c main_arg5) (V c main_arg6))) i else (dat0 V c).A 7 i := by
    refine (dat0 V c).arrAt_eq_of_coversWhere 7 _ (fun β => β (0 : Fin 3) = 1) (by decide +kernel) (fun t hf y => ?_) (fun j => Iff.rfl)
    blk_simp
    rw [after0_7]
    frame_out
    obtain ⟨e0, e1, e2⟩ := idx0_7 t
    have hi : ((View.whole main_v0_2).slice (win0_7.rect t)).emb y = (ix3 1 ⟨t.val * 176 + (y 1).val, row_lt0 t (y 1)⟩ (y 2) : S2x704x1024.Idx) := by
      refine funext fun a => Fin.ext ?_
      match a with
      | ⟨0, _⟩ => show win0_7.index t (0 : Fin 3) * 1 + 1 * (y 0).val = 1; rw [e0]; have : (y 0).val < 1 := (y 0).isLt; omega
      | ⟨1, _⟩ => show win0_7.index t (1 : Fin 3) * 176 + 1 * (y 1).val = t.val * 176 + (y 1).val; rw [e1]; omega
      | ⟨2, _⟩ => show win0_7.index t (2 : Fin 3) * 1024 + 1 * (y 2).val = (y 2).val; rw [e2]; omega
    rw [hi]
    have hp := point0_7 V c t (y 0) (y 1) (y 2)
    generalize k0_pay2 (k0_pay5 (iblk0 V c 3 t) (iblk0 V c 4 t) (iblk0 V c 1 t)) = b at hp ⊢
    exact (congrArg b (eq_ix3 y)).trans hp
  rw [h]
  exact if_pos (by rw [Nat.div_one]; exact hi1)

/-- What point `t` writes to window 8. -/
theorem point0_8 (c : Dev nD) (t : Fin cfg0.N) (z : Fin 1) (r : Fin 176) (k : Fin 1024) :
    k0_pay3 (k0_pay6 (iblk0 V c 3 t) (iblk0 V c 4 t) (iblk0 V c 2 t)) (ix3 z r k) = (sndM (V c main_arg2) (grad (V c main_arg3) (V c main_arg4) (V c main_arg5) (V c main_arg6))) (ix3 1 ⟨t.val * 176 + r.val, row_lt0 t r⟩ k) := by
  rw [pay0_3, blk0_3, blk0_4, blk0_2]
  rfl

/-- The first call fills layer 1 of its result. -/
theorem final0_8 (c : Dev nD) (i : S2x704x1024.Idx) (hi1 : (i 0).val = 1) :
    (dat0 V c).arrAt 8 cfg0.N i = (sndM (V c main_arg2) (grad (V c main_arg3) (V c main_arg4) (V c main_arg5) (V c main_arg6))) i := by
  have h : (dat0 V c).arrAt 8 cfg0.N = fun i => if (i 0).val / 1 = 1 then (sndM (V c main_arg2) (grad (V c main_arg3) (V c main_arg4) (V c main_arg5) (V c main_arg6))) i else (dat0 V c).A 8 i := by
    refine (dat0 V c).arrAt_eq_of_coversWhere 8 _ (fun β => β (0 : Fin 3) = 1) (by decide +kernel) (fun t hf y => ?_) (fun j => Iff.rfl)
    blk_simp
    rw [after0_8]
    frame_out
    obtain ⟨e0, e1, e2⟩ := idx0_8 t
    have hi : ((View.whole main_v0_3).slice (win0_8.rect t)).emb y = (ix3 1 ⟨t.val * 176 + (y 1).val, row_lt0 t (y 1)⟩ (y 2) : S2x704x1024.Idx) := by
      refine funext fun a => Fin.ext ?_
      match a with
      | ⟨0, _⟩ => show win0_8.index t (0 : Fin 3) * 1 + 1 * (y 0).val = 1; rw [e0]; have : (y 0).val < 1 := (y 0).isLt; omega
      | ⟨1, _⟩ => show win0_8.index t (1 : Fin 3) * 176 + 1 * (y 1).val = t.val * 176 + (y 1).val; rw [e1]; omega
      | ⟨2, _⟩ => show win0_8.index t (2 : Fin 3) * 1024 + 1 * (y 2).val = (y 2).val; rw [e2]; omega
    rw [hi]
    have hp := point0_8 V c t (y 0) (y 1) (y 2)
    generalize k0_pay3 (k0_pay6 (iblk0 V c 3 t) (iblk0 V c 4 t) (iblk0 V c 2 t)) = b at hp ⊢
    exact (congrArg b (eq_ix3 y)).trans hp
  rw [h]
  exact if_pos (by rw [Nat.div_one]; exact hi1)

theorem row_lt1 (t : Fin cfg1.N) (r : Fin 176) : t.val * 176 + r.val < 704 := by
  have := lt_of_lt_of_eq t.isLt (N_1 : cfg1.N = 4)
  omega

theorem idx1_0 : ∀ t : Fin cfg1.N, win1_0.index t (0 : Fin 3) = 0 ∧ win1_0.index t (1 : Fin 3) = t.val ∧ win1_0.index t (2 : Fin 3) = 0 :=
  (by decide +kernel : ∀ t : Fin grid1.N, _)

theorem idx1_1 : ∀ t : Fin cfg1.N, win1_1.index t (0 : Fin 3) = 0 ∧ win1_1.index t (1 : Fin 3) = t.val ∧ win1_1.index t (2 : Fin 3) = 0 :=
  (by decide +kernel : ∀ t : Fin grid1.N, _)

theorem idx1_2 : ∀ t : Fin cfg1.N, win1_2.index t (0 : Fin 3) = 0 ∧ win1_2.index t (1 : Fin 3) = t.val ∧ win1_2.index t (2 : Fin 3) = 0 :=
  (by decide +kernel : ∀ t : Fin grid1.N, _)

theorem idx1_5 : ∀ t : Fin cfg1.N, win1_5.index t (0 : Fin 3) = 0 ∧ win1_5.index t (1 : Fin 3) = t.val ∧ win1_5.index t (2 : Fin 3) = 0 :=
  (by decide +kernel : ∀ t : Fin grid1.N, _)

theorem idx1_6 : ∀ t : Fin cfg1.N, win1_6.index t (0 : Fin 3) = 0 ∧ win1_6.index t (1 : Fin 3) = t.val ∧ win1_6.index t (2 : Fin 3) = 0 :=
  (by decide +kernel : ∀ t : Fin grid1.N, _)

theorem idx1_7 : ∀ t : Fin cfg1.N, win1_7.index t (0 : Fin 3) = 0 ∧ win1_7.index t (1 : Fin 3) = t.val ∧ win1_7.index t (2 : Fin 3) = 0 :=
  (by decide +kernel : ∀ t : Fin grid1.N, _)

theorem idx1_8 : ∀ t : Fin cfg1.N, win1_8.index t (0 : Fin 3) = 0 ∧ win1_8.index t (1 : Fin 3) = t.val ∧ win1_8.index t (2 : Fin 3) = 0 :=
  (by decide +kernel : ∀ t : Fin grid1.N, _)

theorem idx1_3 : ∀ t : Fin cfg1.N, win1_3.index t (0 : Fin 2) = t.val ∧ win1_3.index t (1 : Fin 2) = 0 :=
  (by decide +kernel : ∀ t : Fin grid1.N, _)

theorem idx1_4 : ∀ t : Fin cfg1.N, win1_4.index t (0 : Fin 2) = t.val ∧ win1_4.index t (1 : Fin 2) = 0 :=
  (by decide +kernel : ∀ t : Fin grid1.N, _)

theorem blk1_0 (c : Dev nD) (t : Fin cfg1.N) (z : Fin 1) (r : Fin 176) (k : Fin 1024) :
    iblk1 V c 0 t (ix3 z r k) = V c main_arg0 (ix3 0 ⟨t.val * 176 + r.val, row_lt1 t r⟩ k) := by
  obtain ⟨e0, e1, e2⟩ := idx1_0 t
  show V c main_arg0 (((cfg1.win 0).blk t).view.emb (ix3 z r k)) = _
  refine congrArg _ (funext fun a => Fin.ext ?_)
  match a with
  | ⟨0, _⟩ => show win1_0.index t (0 : Fin 3) * 1 + 1 * z.val = 0; rw [e0]; omega
  | ⟨1, _⟩ => show win1_0.index t (1 : Fin 3) * 176 + 1 * r.val = t.val * 176 + r.val; rw [e1]; omega
  | ⟨2, _⟩ => show win1_0.index t (2 : Fin 3) * 1024 + 1 * k.val = k.val; rw [e2]; omega

theorem blk1_1 (c : Dev nD) (t : Fin cfg1.N) (z : Fin 1) (r : Fin 176) (k : Fin 1024) :
    iblk1 V c 1 t (ix3 z r k) = V c main_arg1 (ix3 0 ⟨t.val * 176 + r.val, row_lt1 t r⟩ k) := by
  obtain ⟨e0, e1, e2⟩ := idx1_1 t
  show V c main_arg1 (((cfg1.win 1).blk t).view.emb (ix3 z r k)) = _
  refine congrArg _ (funext fun a => Fin.ext ?_)
  match a with
  | ⟨0, _⟩ => show win1_1.index t (0 : Fin 3) * 1 + 1 * z.val = 0; rw [e0]; omega
  | ⟨1, _⟩ => show win1_1.index t (1 : Fin 3) * 176 + 1 * r.val = t.val * 176 + r.val; rw [e1]; omega
  | ⟨2, _⟩ => show win1_1.index t (2 : Fin 3) * 1024 + 1 * k.val = k.val; rw [e2]; omega

theorem blk1_2 (c : Dev nD) (t : Fin cfg1.N) (z : Fin 1) (r : Fin 176) (k : Fin 1024) :
    iblk1 V c 2 t (ix3 z r k) = V c main_arg2 (ix3 0 ⟨t.val * 176 + r.val, row_lt1 t r⟩ k) := by
  obtain ⟨e0, e1, e2⟩ := idx1_2 t
  show V c main_arg2 (((cfg1.win 2).blk t).view.emb (ix3 z r k)) = _
  refine congrArg _ (funext fun a => Fin.ext ?_)
  match a with
  | ⟨0, _⟩ => show win1_2.index t (0 : Fin 3) * 1 + 1 * z.val = 0; rw [e0]; omega
  | ⟨1, _⟩ => show win1_2.index t (1 : Fin 3) * 176 + 1 * r.val = t.val * 176 + r.val; rw [e1]; omega
  | ⟨2, _⟩ => show win1_2.index t (2 : Fin 3) * 1024 + 1 * k.val = k.val; rw [e2]; omega

theorem blk1_3 (c : Dev nD) (t : Fin cfg1.N) (r : Fin 176) (k : Fin 1024) :
    iblk1 V c 3 t (ix2 r k) = V c main_arg5 (ix2 ⟨t.val * 176 + r.val, row_lt1 t r⟩ k) := by
  obtain ⟨e0, e1⟩ := idx1_3 t
  show V c main_arg5 (((cfg1.win 3).blk t).view.emb (ix2 r k)) = _
  refine congrArg _ (funext fun a => Fin.ext ?_)
  match a with
  | ⟨0, _⟩ => show win1_3.index t (0 : Fin 2) * 176 + 1 * r.val = t.val * 176 + r.val; rw [e0]; omega
  | ⟨1, _⟩ => show win1_3.index t (1 : Fin 2) * 1024 + 1 * k.val = k.val; rw [e1]; omega

theorem blk1_4 (c : Dev nD) (t : Fin cfg1.N) (r : Fin 176) (k : Fin 1024) :
    iblk1 V c 4 t (ix2 r k) = V c main_arg6 (ix2 ⟨t.val * 176 + r.val, row_lt1 t r⟩ k) := by
  obtain ⟨e0, e1⟩ := idx1_4 t
  show V c main_arg6 (((cfg1.win 4).blk t).view.emb (ix2 r k)) = _
  refine congrArg _ (funext fun a => Fin.ext ?_)
  match a with
  | ⟨0, _⟩ => show win1_4.index t (0 : Fin 2) * 176 + 1 * r.val = t.val * 176 + r.val; rw [e0]; omega
  | ⟨1, _⟩ => show win1_4.index t (1 : Fin 2) * 1024 + 1 * k.val = k.val; rw [e1]; omega

/-- What point `t` writes to window 5. -/
theorem point1_5 (c : Dev nD) (t : Fin cfg1.N) (z : Fin 1) (r : Fin 176) (k : Fin 1024) :
    k1_pay7 (iblk1 V c 3 t) (iblk1 V c 4 t) (ix3 z r k) = (grad (V c main_arg3) (V c main_arg4) (V c main_arg5) (V c main_arg6)) (ix3 0 ⟨t.val * 176 + r.val, row_lt1 t r⟩ k) := by
  rw [pay1_7, blk1_3, blk1_4]
  rfl

/-- The second call fills layer 0, and leaves layer 1 as it finds it. -/
theorem final1_5 (c : Dev nD) (h1 : ∀ j : S2x704x1024.Idx, (j 0).val = 1 → V c main_v1_0 j = (grad (V c main_arg3) (V c main_arg4) (V c main_arg5) (V c main_arg6)) j) :
    (dat1 V c).arrAt 5 cfg1.N = (grad (V c main_arg3) (V c main_arg4) (V c main_arg5) (V c main_arg6)) := by
  refine (dat1 V c).arrAt_eq_of_coversWhere_of_agree 5 _ (fun β => β (0 : Fin 3) = 0) (by decide +kernel) (fun t hf y => ?_) (fun j hj => ?_)
  · blk_simp
    rw [after1_5]
    unfold outsAt1
    frame_out
    obtain ⟨e0, e1, e2⟩ := idx1_5 t
    have hi : ((View.whole main_v1_0).slice (win1_5.rect t)).emb y = (ix3 0 ⟨t.val * 176 + (y 1).val, row_lt1 t (y 1)⟩ (y 2) : S2x704x1024.Idx) := by
      refine funext fun a => Fin.ext ?_
      match a with
      | ⟨0, _⟩ => show win1_5.index t (0 : Fin 3) * 1 + 1 * (y 0).val = 0; rw [e0]; have : (y 0).val < 1 := (y 0).isLt; omega
      | ⟨1, _⟩ => show win1_5.index t (1 : Fin 3) * 176 + 1 * (y 1).val = t.val * 176 + (y 1).val; rw [e1]; omega
      | ⟨2, _⟩ => show win1_5.index t (2 : Fin 3) * 1024 + 1 * (y 2).val = (y 2).val; rw [e2]; omega
    rw [hi]
    have hp := point1_5 V c t (y 0) (y 1) (y 2)
    generalize k1_pay7 (iblk1 V c 3 t) (iblk1 V c 4 t) = b at hp ⊢
    exact (congrArg b (eq_ix3 y)).trans hp
  · blk_simp [Pipeline.Window.cell_apply] at hj
    have hj2 : (j 0).val < 2 := (j 0).isLt
    exact h1 j (by omega)

/-- What point `t` writes to window 6. -/
theorem point1_6 (c : Dev nD) (t : Fin cfg1.N) (z : Fin 1) (r : Fin 176) (k : Fin 1024) :
    k1_pay1 (k1_pay8 (iblk1 V c 3 t) (iblk1 V c 4 t) (iblk1 V c 1 t) (iblk1 V c 2 t) (iblk1 V c 0 t)) (ix3 z r k) = (delta (V c main_arg0) (V c main_arg1) (V c main_arg2) (grad (V c main_arg3) (V c main_arg4) (V c main_arg5) (V c main_arg6))) (ix3 0 ⟨t.val * 176 + r.val, row_lt1 t r⟩ k) := by
  rw [pay1_1, blk1_3, blk1_4, blk1_0, blk1_1, blk1_2]
  rfl

/-- The second call fills layer 0, and leaves layer 1 as it finds it. -/
theorem final1_6 (c : Dev nD) (h1 : ∀ j : S2x704x1024.Idx, (j 0).val = 1 → V c main_v1_1 j = (delta (V c main_arg0) (V c main_arg1) (V c main_arg2) (grad (V c main_arg3) (V c main_arg4) (V c main_arg5) (V c main_arg6))) j) :
    (dat1 V c).arrAt 6 cfg1.N = (delta (V c main_arg0) (V c main_arg1) (V c main_arg2) (grad (V c main_arg3) (V c main_arg4) (V c main_arg5) (V c main_arg6))) := by
  refine (dat1 V c).arrAt_eq_of_coversWhere_of_agree 6 _ (fun β => β (0 : Fin 3) = 0) (by decide +kernel) (fun t hf y => ?_) (fun j hj => ?_)
  · blk_simp
    rw [after1_6]
    unfold outsAt1
    frame_out
    obtain ⟨e0, e1, e2⟩ := idx1_6 t
    have hi : ((View.whole main_v1_1).slice (win1_6.rect t)).emb y = (ix3 0 ⟨t.val * 176 + (y 1).val, row_lt1 t (y 1)⟩ (y 2) : S2x704x1024.Idx) := by
      refine funext fun a => Fin.ext ?_
      match a with
      | ⟨0, _⟩ => show win1_6.index t (0 : Fin 3) * 1 + 1 * (y 0).val = 0; rw [e0]; have : (y 0).val < 1 := (y 0).isLt; omega
      | ⟨1, _⟩ => show win1_6.index t (1 : Fin 3) * 176 + 1 * (y 1).val = t.val * 176 + (y 1).val; rw [e1]; omega
      | ⟨2, _⟩ => show win1_6.index t (2 : Fin 3) * 1024 + 1 * (y 2).val = (y 2).val; rw [e2]; omega
    rw [hi]
    have hp := point1_6 V c t (y 0) (y 1) (y 2)
    generalize k1_pay1 (k1_pay8 (iblk1 V c 3 t) (iblk1 V c 4 t) (iblk1 V c 1 t) (iblk1 V c 2 t) (iblk1 V c 0 t)) = b at hp ⊢
    exact (congrArg b (eq_ix3 y)).trans hp
  · blk_simp [Pipeline.Window.cell_apply] at hj
    have hj2 : (j 0).val < 2 := (j 0).isLt
    exact h1 j (by omega)

/-- What point `t` writes to window 7. -/
theorem point1_7 (c : Dev nD) (t : Fin cfg1.N) (z : Fin 1) (r : Fin 176) (k : Fin 1024) :
    k1_pay2 (k1_pay5 (iblk1 V c 3 t) (iblk1 V c 4 t) (iblk1 V c 1 t)) (ix3 z r k) = (fstM (V c main_arg1) (grad (V c main_arg3) (V c main_arg4) (V c main_arg5) (V c main_arg6))) (ix3 0 ⟨t.val * 176 + r.val, row_lt1 t r⟩ k) := by
  rw [pay1_2, blk1_3, blk1_4, blk1_1]
  rfl

/-- The second call fills layer 0, and leaves layer 1 as it finds it. -/
theorem final1_7 (c : Dev nD) (h1 : ∀ j : S2x704x1024.Idx, (j 0).val = 1 → V c main_v1_2 j = (fstM (V c main_arg1) (grad (V c main_arg3) (V c main_arg4) (V c main_arg5) (V c main_arg6))) j) :
    (dat1 V c).arrAt 7 cfg1.N = (fstM (V c main_arg1) (grad (V c main_arg3) (V c main_arg4) (V c main_arg5) (V c main_arg6))) := by
  refine (dat1 V c).arrAt_eq_of_coversWhere_of_agree 7 _ (fun β => β (0 : Fin 3) = 0) (by decide +kernel) (fun t hf y => ?_) (fun j hj => ?_)
  · blk_simp
    rw [after1_7]
    unfold outsAt1
    frame_out
    obtain ⟨e0, e1, e2⟩ := idx1_7 t
    have hi : ((View.whole main_v1_2).slice (win1_7.rect t)).emb y = (ix3 0 ⟨t.val * 176 + (y 1).val, row_lt1 t (y 1)⟩ (y 2) : S2x704x1024.Idx) := by
      refine funext fun a => Fin.ext ?_
      match a with
      | ⟨0, _⟩ => show win1_7.index t (0 : Fin 3) * 1 + 1 * (y 0).val = 0; rw [e0]; have : (y 0).val < 1 := (y 0).isLt; omega
      | ⟨1, _⟩ => show win1_7.index t (1 : Fin 3) * 176 + 1 * (y 1).val = t.val * 176 + (y 1).val; rw [e1]; omega
      | ⟨2, _⟩ => show win1_7.index t (2 : Fin 3) * 1024 + 1 * (y 2).val = (y 2).val; rw [e2]; omega
    rw [hi]
    have hp := point1_7 V c t (y 0) (y 1) (y 2)
    generalize k1_pay2 (k1_pay5 (iblk1 V c 3 t) (iblk1 V c 4 t) (iblk1 V c 1 t)) = b at hp ⊢
    exact (congrArg b (eq_ix3 y)).trans hp
  · blk_simp [Pipeline.Window.cell_apply] at hj
    have hj2 : (j 0).val < 2 := (j 0).isLt
    exact h1 j (by omega)

/-- What point `t` writes to window 8. -/
theorem point1_8 (c : Dev nD) (t : Fin cfg1.N) (z : Fin 1) (r : Fin 176) (k : Fin 1024) :
    k1_pay3 (k1_pay6 (iblk1 V c 3 t) (iblk1 V c 4 t) (iblk1 V c 2 t)) (ix3 z r k) = (sndM (V c main_arg2) (grad (V c main_arg3) (V c main_arg4) (V c main_arg5) (V c main_arg6))) (ix3 0 ⟨t.val * 176 + r.val, row_lt1 t r⟩ k) := by
  rw [pay1_3, blk1_3, blk1_4, blk1_2]
  rfl

/-- The second call fills layer 0, and leaves layer 1 as it finds it. -/
theorem final1_8 (c : Dev nD) (h1 : ∀ j : S2x704x1024.Idx, (j 0).val = 1 → V c main_v1_3 j = (sndM (V c main_arg2) (grad (V c main_arg3) (V c main_arg4) (V c main_arg5) (V c main_arg6))) j) :
    (dat1 V c).arrAt 8 cfg1.N = (sndM (V c main_arg2) (grad (V c main_arg3) (V c main_arg4) (V c main_arg5) (V c main_arg6))) := by
  refine (dat1 V c).arrAt_eq_of_coversWhere_of_agree 8 _ (fun β => β (0 : Fin 3) = 0) (by decide +kernel) (fun t hf y => ?_) (fun j hj => ?_)
  · blk_simp
    rw [after1_8]
    unfold outsAt1
    frame_out
    obtain ⟨e0, e1, e2⟩ := idx1_8 t
    have hi : ((View.whole main_v1_3).slice (win1_8.rect t)).emb y = (ix3 0 ⟨t.val * 176 + (y 1).val, row_lt1 t (y 1)⟩ (y 2) : S2x704x1024.Idx) := by
      refine funext fun a => Fin.ext ?_
      match a with
      | ⟨0, _⟩ => show win1_8.index t (0 : Fin 3) * 1 + 1 * (y 0).val = 0; rw [e0]; have : (y 0).val < 1 := (y 0).isLt; omega
      | ⟨1, _⟩ => show win1_8.index t (1 : Fin 3) * 176 + 1 * (y 1).val = t.val * 176 + (y 1).val; rw [e1]; omega
      | ⟨2, _⟩ => show win1_8.index t (2 : Fin 3) * 1024 + 1 * (y 2).val = (y 2).val; rw [e2]; omega
    rw [hi]
    have hp := point1_8 V c t (y 0) (y 1) (y 2)
    generalize k1_pay3 (k1_pay6 (iblk1 V c 3 t) (iblk1 V c 4 t) (iblk1 V c 2 t)) = b at hp ⊢
    exact (congrArg b (eq_ix3 y)).trans hp
  · blk_simp [Pipeline.Window.cell_apply] at hj
    have hj2 : (j 0).val < 2 := (j 0).isLt
    exact h1 j (by omega)

end Regions

/-! ## The run -/

variable (m : (ℓ : Loc nD τ sig) → Buf (Elt Ideal) ℓ) (ρ : Dev nD → PrngReg)

/-- An argument's contents as the first call finds them. -/
abbrev A0 (c : Dev nD) : FVec Ideal S2x704x1024 .f32 := m ((c : Thread nD τ).loc main_arg0)
abbrev A1 (c : Dev nD) : FVec Ideal S2x704x1024 .f32 := m ((c : Thread nD τ).loc main_arg1)
abbrev A2 (c : Dev nD) : FVec Ideal S2x704x1024 .f32 := m ((c : Thread nD τ).loc main_arg2)
/-- The gradient of the launch's arguments. -/
abbrev GR (c : Dev nD) : FVec Ideal S2x704x1024 .f32 :=
  grad (m ((c : Thread nD τ).loc main_arg3)) (m ((c : Thread nD τ).loc main_arg4)) (m ((c : Thread nD τ).loc main_arg5)) (m ((c : Thread nD τ).loc main_arg6))

theorem V2_arg (c : Dev nD) (a : Ref sig .tc) (ha : a ∈ argRefs) : V2 m ρ c a = m ((c : Thread nD τ).loc a) := W2_args m ρ c a ha

theorem entry5 (c : Dev nD) : V2 m ρ c main_v1_0 = (dat0 (V0 m ρ) c).arrAt 5 cfg0.N := by
  refine Eq.trans ?_ (W1_arr m ρ c 5)
  show StableHlo.after hostOps1 _ _ = _
  after_results <;> rfl

theorem W3_res5 (c : Dev nD) : W3 m ρ c (Proc.devRef .tc main_v1_0) = GR m c := by
  refine (W3_arr m ρ c 5).trans ((final1_5 (V2 m ρ) c (fun j hj => ?_)).trans ?_)
  · rw [entry5, final0_5 (V0 m ρ) c j hj]
    iterate 7 try rw [V2_arg m ρ c _ (by decide)]
  · iterate 7 try rw [V2_arg m ρ c _ (by decide)]

theorem entry6 (c : Dev nD) : V2 m ρ c main_v1_1 = (dat0 (V0 m ρ) c).arrAt 6 cfg0.N := by
  refine Eq.trans ?_ (W1_arr m ρ c 6)
  show StableHlo.after hostOps1 _ _ = _
  after_results <;> rfl

theorem W3_res6 (c : Dev nD) : W3 m ρ c (Proc.devRef .tc main_v1_1) = delta (A0 m c) (A1 m c) (A2 m c) (GR m c) := by
  refine (W3_arr m ρ c 6).trans ((final1_6 (V2 m ρ) c (fun j hj => ?_)).trans ?_)
  · rw [entry6, final0_6 (V0 m ρ) c j hj]
    iterate 7 try rw [V2_arg m ρ c _ (by decide)]
  · iterate 7 try rw [V2_arg m ρ c _ (by decide)]

theorem entry7 (c : Dev nD) : V2 m ρ c main_v1_2 = (dat0 (V0 m ρ) c).arrAt 7 cfg0.N := by
  refine Eq.trans ?_ (W1_arr m ρ c 7)
  show StableHlo.after hostOps1 _ _ = _
  after_results <;> rfl

theorem W3_res7 (c : Dev nD) : W3 m ρ c (Proc.devRef .tc main_v1_2) = fstM (A1 m c) (GR m c) := by
  refine (W3_arr m ρ c 7).trans ((final1_7 (V2 m ρ) c (fun j hj => ?_)).trans ?_)
  · rw [entry7, final0_7 (V0 m ρ) c j hj]
    iterate 7 try rw [V2_arg m ρ c _ (by decide)]
  · iterate 7 try rw [V2_arg m ρ c _ (by decide)]

theorem entry8 (c : Dev nD) : V2 m ρ c main_v1_3 = (dat0 (V0 m ρ) c).arrAt 8 cfg0.N := by
  refine Eq.trans ?_ (W1_arr m ρ c 8)
  show StableHlo.after hostOps1 _ _ = _
  after_results <;> rfl

theorem W3_res8 (c : Dev nD) : W3 m ρ c (Proc.devRef .tc main_v1_3) = sndM (A2 m c) (GR m c) := by
  refine (W3_arr m ρ c 8).trans ((final1_8 (V2 m ρ) c (fun j hj => ?_)).trans ?_)
  · rw [entry8, final0_8 (V0 m ρ) c j hj]
    iterate 7 try rw [V2_arg m ρ c _ (by decide)]
  · iterate 7 try rw [V2_arg m ρ c _ (by decide)]

section Run
open Idealize.ShloMosaic.Tactic Idealize.SL Idealize.SL.RA Idealize.SL.BI
open scoped Idealize.SL.BI
open Idealize.SL.BI.BIBase Idealize.SL.BI.Laws Idealize.SL.ProofMode
open Idealize.ShloMosaic.Rounds

/-- The heap the run's assertions speak of. -/
local notation "𝕄" => MT nD τ sig Unit (Elt Ideal) ℕ (UR sig nD τ) ℕ

-- the launch lemma's implicit arguments are found from the conclusion
set_option backward.isDefEq.respectTransparency.types false in
/-- The program ends with its four results at the contents after the second call, its arguments unchanged. -/
theorem run_mem : θ_run defs (onTc (τ := τ) (main (F := Ideal))) ⟨m, fun _ => 0, ρ⟩ (fun r => ∀ c : Dev nD,
      ∀ b ∈ Pipeline.ucRefs τ sig, r.2.mem (((c : Thread nD τ)).1, b) = W3 (F := Ideal) m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Run

/-! ## The reference -/

section Reference
open Cert.AdamDownRefIdeal Cert.AdamDownRefIdeal.Gen

/-- The reference's stack of the two layers' sums. -/
theorem stack_apply (a1 b1 a0 b0 : FVec Ideal S704x1024 .f32) (l : Fin 2) (r : Fin 704) (k : Fin 1024) :
    concatenate Cert.AdamDownRefIdeal.S2x704x1024 0 [⟨S1x704x1024, (broadcastInDim S1x704x1024 ![1, 2] bcast_S704x1024_S1x704x1024_1_2 (addf a0 b0))⟩, ⟨S1x704x1024, (broadcastInDim S1x704x1024 ![1, 2] bcast_S704x1024_S1x704x1024_1_2 (addf a1 b1))⟩] concatenates_S1x704x1024_S1x704x1024_S2x704x1024_d0 (ix3 l r k)
      = grad a1 b1 a0 b0 (ix3 l r k) := by
  unfold grad
  obtain ⟨l, hl⟩ := l
  interval_cases l
  · exact by pointwise
  · exact by pointwise

theorem ref_delta (w m v s a : FVec Ideal Cert.AdamDownRefIdeal.S2x704x1024 .f32) (hs : ∀ l r k, s (ix3 l r k) = a (ix3 l r k)) :
    mulf (broadcastInDim Cert.AdamDownRefIdeal.S2x704x1024 ![] bcast_S_S2x704x1024 (constant S_ .f32 0xBA83126F#32)) (addf (Host.divf (Host.divf (addf (mulf (broadcastInDim Cert.AdamDownRefIdeal.S2x704x1024 ![] bcast_S_S2x704x1024 (constant S_ .f32 0x3F666666#32)) m) (mulf (broadcastInDim Cert.AdamDownRefIdeal.S2x704x1024 ![] bcast_S_S2x704x1024 (constant S_ .f32 0x3DCCCCCD#32)) s)) (broadcastInDim Cert.AdamDownRefIdeal.S2x704x1024 ![] bcast_S_S2x704x1024 (constant S_ .f32 0x3F26BD02#32))) (addf (Host.sqrt (Host.divf (addf (mulf (broadcastInDim Cert.AdamDownRefIdeal.S2x704x1024 ![] bcast_S_S2x704x1024 (constant S_ .f32 0x3F7FBE77#32)) v) (mulf (broadcastInDim Cert.AdamDownRefIdeal.S2x704x1024 ![] bcast_S_S2x704x1024 (constant S_ .f32 0x3A83126F#32)) (mulf s s))) (broadcastInDim Cert.AdamDownRefIdeal.S2x704x1024 ![] bcast_S_S2x704x1024 (constant S_ .f32 0x3C231ACC#32)))) (broadcastInDim Cert.AdamDownRefIdeal.S2x704x1024 ![] bcast_S_S2x704x1024 (constant S_ .f32 0x322BCC77#32)))) (mulf (broadcastInDim Cert.AdamDownRefIdeal.S2x704x1024 ![] bcast_S_S2x704x1024 (constant S_ .f32 0x3C23D70A#32)) w)) = delta w m v a := by
  funext i
  obtain ⟨l, r, k, rfl⟩ : ∃ (l : Fin 2) (r : Fin 704) (k : Fin 1024), i = ix3 l r k := ⟨i 0, i 1, i 2, eq_ix3 i⟩
  unfold delta
  rw [show a = s from funext fun i => by rw [eq_ix3 i]; exact (hs _ _ _).symm]
  unfold step mNew vNew
  pointwise

theorem ref_fstM (m s a : FVec Ideal Cert.AdamDownRefIdeal.S2x704x1024 .f32) (hs : ∀ l r k, s (ix3 l r k) = a (ix3 l r k)) :
    addf (mulf (broadcastInDim Cert.AdamDownRefIdeal.S2x704x1024 ![] bcast_S_S2x704x1024 (constant S_ .f32 0x3F666666#32)) m) (mulf (broadcastInDim Cert.AdamDownRefIdeal.S2x704x1024 ![] bcast_S_S2x704x1024 (constant S_ .f32 0x3DCCCCCD#32)) s) = fstM m a := by
  funext i
  obtain ⟨l, r, k, rfl⟩ : ∃ (l : Fin 2) (r : Fin 704) (k : Fin 1024), i = ix3 l r k := ⟨i 0, i 1, i 2, eq_ix3 i⟩
  unfold fstM
  rw [show a = s from funext fun i => by rw [eq_ix3 i]; exact (hs _ _ _).symm]
  unfold mNew
  pointwise

theorem ref_sndM (v s a : FVec Ideal Cert.AdamDownRefIdeal.S2x704x1024 .f32) (hs : ∀ l r k, s (ix3 l r k) = a (ix3 l r k)) :
    addf (mulf (broadcastInDim Cert.AdamDownRefIdeal.S2x704x1024 ![] bcast_S_S2x704x1024 (constant S_ .f32 0x3F7FBE77#32)) v) (mulf (broadcastInDim Cert.AdamDownRefIdeal.S2x704x1024 ![] bcast_S_S2x704x1024 (constant S_ .f32 0x3A83126F#32)) (mulf s s)) = sndM v a := by
  funext i
  obtain ⟨l, r, k, rfl⟩ : ∃ (l : Fin 2) (r : Fin 704) (k : Fin 1024), i = ix3 l r k := ⟨i 0, i 1, i 2, eq_ix3 i⟩
  unfold sndM
  rw [show a = s from funext fun i => by rw [eq_ix3 i]; exact (hs _ _ _).symm]
  unfold vNew
  pointwise

end Reference

/-- The two programs compute the same gradient, update and moments. -/
theorem algebraic : Cert.algebraic_AdamDownIdeal_AdamDownRefIdeal := by
  intro m g m' g' _ hargs
  refine ⟨fun c => GR m c, fun c => delta (A0 m c) (A1 m c) (A2 m c) (GR m c), fun c => fstM (A1 m c) (GR m c), fun c => sndM (A2 m c) (GR m c),
    (θ_run defs _ _).mono (fun r h c => ?_) (run_mem m g),
    (θ_run Cert.AdamDownRefIdeal.defs _ _).mono (fun r h c => ?_) (Cert.AdamDownRefIdeal.Value.run (F := Ideal) m' g')⟩
  · exact ⟨(h c _ (mem_uc main_v1_0 (by decide))).trans (W3_res5 m g c),
      (h c _ (mem_uc main_v1_1 (by decide))).trans (W3_res6 m g c),
      (h c _ (mem_uc main_v1_2 (by decide))).trans (W3_res7 m g c),
      (h c _ (mem_uc main_v1_3 (by decide))).trans (W3_res8 m g c),
      (h c _ (mem_uc main_arg0 (by decide))).trans (W3_main_arg0 m g c),
      (h c _ (mem_uc main_arg1 (by decide))).trans (W3_main_arg1 m g c),
      (h c _ (mem_uc main_arg2 (by decide))).trans (W3_main_arg2 m g c),
      (h c _ (mem_uc main_arg3 (by decide))).trans (W3_main_arg3 m g c),
      (h c _ (mem_uc main_arg4 (by decide))).trans (W3_main_arg4 m g c),
      (h c _ (mem_uc main_arg5 (by decide))).trans (W3_main_arg5 m g c),
      (h c _ (mem_uc main_arg6 (by decide))).trans (W3_main_arg6 m g c)⟩
  obtain ⟨h0, h1, h2, h3, hr⟩ := h c
  obtain ⟨a0, a1, a2, a3, a4, a5, a6⟩ := hargs c
  rw [a3, a4, a5, a6] at h0 h1 h2 h3
  rw [a0, a1, a2] at h1
  rw [a1] at h2
  rw [a2] at h3
  have hs := stack_apply (m ((c : Thread nD τ).loc main_arg3)) (m ((c : Thread nD τ).loc main_arg4)) (m ((c : Thread nD τ).loc main_arg5)) (m ((c : Thread nD τ).loc main_arg6))
  generalize concatenate (α := Ideal .f32) Cert.AdamDownRefIdeal.S2x704x1024 0 _ _ = s at h0 h1 h2 h3 hs
  refine ⟨h0.trans ?_, h1.trans ?_, h2.trans ?_, h3.trans ?_, hr⟩
  · funext i
    rw [eq_ix3 i]
    exact hs _ _ _
  · exact ref_delta _ _ _ s (GR m c) hs
  · exact ref_fstM _ s (GR m c) hs
  · exact ref_sndM _ s (GR m c) hs

end Cert.AdamDownIdeal.Value

end
-- ==== Proof.AdamSmall.lean ====
/-
  The AdamW update of the leaves other than the four matrices: their weights, moments and gradients are each laid
  end to end in one array of 528 rows of 128, which one call updates; the results are cut out of its outputs.
-/
module

public import proofs.«01_k».proof.Defs
public import proofs.«01_k».proof.Proof.AdamRow
public import proofs.«01_k».proof.Proof.Gen.AdamSmallIdeal.Frame
public import proofs.«01_k».proof.Proof.Gen.AdamSmallRefIdeal.Run
public import Idealize.ShloMosaic.Lib.Pointwise
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.AdamSmallIdeal.Value

open Cert.AdamSmallIdeal Cert.AdamSmallIdeal.Gen Idealize.ShloMosaic Idealize.ShloMosaic.TcCoe Idealize.SL.Sem
open Cert.AdamRow

/-! ## The results, entry by entry -/

/-- The update of a leaf of any shape. -/
def delta {s : Shape} (w m v g : FVec Ideal s .f32) : FVec Ideal s .f32 := fun i => step (w i) (m i) (v i) (g i)

/-- Its new first moment. -/
def fstM {s : Shape} (m g : FVec Ideal s .f32) : FVec Ideal s .f32 := fun i => mNew (m i) (g i)

/-- Its new second moment. -/
def sndM {s : Shape} (v g : FVec Ideal s .f32) : FVec Ideal s .f32 := fun i => vNew (v i) (g i)

/-! ## Laying the leaves end to end, and cutting them out again -/

/-- The leaves, each as one row of entries. -/
def parts (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    List ((s : Shape) × (s.Idx → Ideal .f32)) :=
  [⟨S4096, shapeCast S4096 a0 shapeCasts_S16x256_S4096⟩, ⟨S1024, shapeCast S1024 a1 shapeCasts_S2x512_S1024⟩, ⟨S384, shapeCast S384 a2 shapeCasts_S2x64x3_S384⟩, ⟨S32768, shapeCast S32768 a3 shapeCasts_S2x4x64x64_S32768⟩, ⟨S512, shapeCast S512 a4 shapeCasts_S2x256_S512⟩, ⟨S256, shapeCast S256 a5 shapeCasts_S2x128_S256⟩, ⟨S2048, shapeCast S2048 a6 shapeCasts_S2x1024_S2048⟩, ⟨S2048, shapeCast S2048 a7 shapeCasts_S2x1024_S2048⟩, ⟨S8448, shapeCast S8448 a8 shapeCasts_S2x1408x3_S8448⟩, ⟨S11264, shapeCast S11264 a9 shapeCasts_S2x5632_S11264⟩, ⟨S2048, shapeCast S2048 a10 shapeCasts_S2x1024_S2048⟩, ⟨S2048, shapeCast S2048 a11 shapeCasts_S2x1024_S2048⟩]

/-- The leaves end to end. -/
def flat (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    FVec Ideal S66944 .f32 :=
  concatenate S66944 0 (parts a0 a1 a2 a3 a4 a5 a6 a7 a8 a9 a10 a11) concatenates_S4096_S1024_S384_S32768_S512_S256_S2048_S2048_S8448_S11264_S2048_S2048_S66944_d0

/-- The leaves end to end, padded to 67584 entries. -/
def padded (x : FVec Ideal S66944 .f32) : FVec Ideal S67584 .f32 :=
  pad S67584 ![0] ![640] ![0] x (sitofp .f32 (constantI S_ 32 0#32)) pads_S66944_S67584_06400 h_S_

/-- The array the call works on: 528 rows of 128. -/
def rows (x : FVec Ideal S67584 .f32) : FVec Ideal S1x528x128 .f32 :=
  broadcastInDim S1x528x128 ![1, 2] bcast_S528x128_S1x528x128_1_2 (shapeCast S528x128 x shapeCasts_S67584_S528x128)

/-- The leaves packed. -/
def pack (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    FVec Ideal S1x528x128 .f32 :=
  rows (padded (flat a0 a1 a2 a3 a4 a5 a6 a7 a8 a9 a10 a11))

/-- The rows of a packed array end to end. -/
def unrow (y : FVec Ideal S1x528x128 .f32) : FVec Ideal S67584 .f32 :=
  shapeCast S67584 (shapeCast S528x128 y shapeCasts_S1x528x128_S528x128) shapeCasts_S528x128_S67584

/-- Dropping the unit axis again. -/
theorem drop_unit (x : FVec Ideal S528x128 .f32) :
    shapeCast S528x128 (broadcastInDim S1x528x128 ![1, 2] bcast_S528x128_S1x528x128_1_2 x) shapeCasts_S1x528x128_S528x128 = x := by
  funext i
  obtain ⟨r, k, rfl⟩ : ∃ (r : Fin 528) (k : Fin 128), i = ix2 r k := ⟨i 0, i 1, eq_ix2 i⟩
  pointwise

theorem unrow_rows (x : FVec Ideal S67584 .f32) : unrow (rows x) = x := by
  unfold unrow rows
  rw [drop_unit, shapeCast_shapeCast]

/-- Inside the leaves, the padded array is the leaves. -/
theorem padded_apply (x : FVec Ideal S66944 .f32) (j : S67584.Idx) (k : S66944.Idx) (h : (j 0).val = (k 0).val) :
    padded x j = x k := by
  refine pad_apply_of_inside _ _ _ x _ _ _ j k fun a => ?_
  match a with
  | ⟨0, _⟩ => show (j 0).val = 0 + (k 0).val * (0 + 1); omega

/-- Leaf 0 of a packed array. -/
def leaf0 (y : FVec Ideal S1x528x128 .f32) : FVec Ideal S16x256 .f32 :=
  shapeCast S16x256 (extractStridedSlice S4096 ![0] (unrow y) slices_S67584_S4096_0) shapeCasts_S4096_S16x256

theorem before0 : (([S4096, S1024, S384, S32768, S512, S256, S2048, S2048, S8448, S11264, S2048, S2048].take 0).map fun s : Shape => if h : s.rank = S66944.rank then s.size ((0 : Fin S66944.rank).cast h.symm) else 0).sum = 0 := by
  decide +kernel

theorem leaf0_pack (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    leaf0 (pack a0 a1 a2 a3 a4 a5 a6 a7 a8 a9 a10 a11) = a0 := by
  unfold leaf0 pack
  rw [unrow_rows]
  refine Eq.trans ?_ (shapeCast_shapeCast a0 shapeCasts_S16x256_S4096 shapeCasts_S4096_S16x256)
  refine congrArg (fun z => shapeCast S16x256 z shapeCasts_S4096_S16x256) (funext fun j => ?_)
  have hj : (j 0).val < 4096 := (j 0).isLt
  rw [extractStridedSlice_apply (s := S67584) (t := S4096) ![0] _ slices_S67584_S4096_0 j (ix1 ⟨0 + (j 0).val, by omega⟩)
      (fun a => by match a with | ⟨0, _⟩ => rfl),
    padded_apply _ _ (ix1 ⟨0 + (j 0).val, by omega⟩) rfl]
  unfold flat
  exact concatenate_apply_piece (t := S66944) 0 (parts a0 a1 a2 a3 a4 a5 a6 a7 a8 a9 a10 a11) concatenates_S4096_S1024_S384_S32768_S512_S256_S2048_S2048_S8448_S11264_S2048_S2048_S66944_d0 _ 0 (show 0 < 12 by decide) S4096 _ rfl rfl 0 before0 j
    (fun b hb => absurd (Subsingleton.elim _ _) hb) rfl

/-- Leaf 1 of a packed array. -/
def leaf1 (y : FVec Ideal S1x528x128 .f32) : FVec Ideal S2x512 .f32 :=
  shapeCast S2x512 (extractStridedSlice S1024 ![4096] (unrow y) slices_S67584_S1024_4096) shapeCasts_S1024_S2x512

theorem before1 : (([S4096, S1024, S384, S32768, S512, S256, S2048, S2048, S8448, S11264, S2048, S2048].take 1).map fun s : Shape => if h : s.rank = S66944.rank then s.size ((0 : Fin S66944.rank).cast h.symm) else 0).sum = 4096 := by
  decide +kernel

theorem leaf1_pack (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    leaf1 (pack a0 a1 a2 a3 a4 a5 a6 a7 a8 a9 a10 a11) = a1 := by
  unfold leaf1 pack
  rw [unrow_rows]
  refine Eq.trans ?_ (shapeCast_shapeCast a1 shapeCasts_S2x512_S1024 shapeCasts_S1024_S2x512)
  refine congrArg (fun z => shapeCast S2x512 z shapeCasts_S1024_S2x512) (funext fun j => ?_)
  have hj : (j 0).val < 1024 := (j 0).isLt
  rw [extractStridedSlice_apply (s := S67584) (t := S1024) ![4096] _ slices_S67584_S1024_4096 j (ix1 ⟨4096 + (j 0).val, by omega⟩)
      (fun a => by match a with | ⟨0, _⟩ => rfl),
    padded_apply _ _ (ix1 ⟨4096 + (j 0).val, by omega⟩) rfl]
  unfold flat
  exact concatenate_apply_piece (t := S66944) 0 (parts a0 a1 a2 a3 a4 a5 a6 a7 a8 a9 a10 a11) concatenates_S4096_S1024_S384_S32768_S512_S256_S2048_S2048_S8448_S11264_S2048_S2048_S66944_d0 _ 1 (show 1 < 12 by decide) S1024 _ rfl rfl 4096 before1 j
    (fun b hb => absurd (Subsingleton.elim _ _) hb) rfl

/-- Leaf 2 of a packed array. -/
def leaf2 (y : FVec Ideal S1x528x128 .f32) : FVec Ideal S2x64x3 .f32 :=
  shapeCast S2x64x3 (extractStridedSlice S384 ![5120] (unrow y) slices_S67584_S384_5120) shapeCasts_S384_S2x64x3

theorem before2 : (([S4096, S1024, S384, S32768, S512, S256, S2048, S2048, S8448, S11264, S2048, S2048].take 2).map fun s : Shape => if h : s.rank = S66944.rank then s.size ((0 : Fin S66944.rank).cast h.symm) else 0).sum = 5120 := by
  decide +kernel

theorem leaf2_pack (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    leaf2 (pack a0 a1 a2 a3 a4 a5 a6 a7 a8 a9 a10 a11) = a2 := by
  unfold leaf2 pack
  rw [unrow_rows]
  refine Eq.trans ?_ (shapeCast_shapeCast a2 shapeCasts_S2x64x3_S384 shapeCasts_S384_S2x64x3)
  refine congrArg (fun z => shapeCast S2x64x3 z shapeCasts_S384_S2x64x3) (funext fun j => ?_)
  have hj : (j 0).val < 384 := (j 0).isLt
  rw [extractStridedSlice_apply (s := S67584) (t := S384) ![5120] _ slices_S67584_S384_5120 j (ix1 ⟨5120 + (j 0).val, by omega⟩)
      (fun a => by match a with | ⟨0, _⟩ => rfl),
    padded_apply _ _ (ix1 ⟨5120 + (j 0).val, by omega⟩) rfl]
  unfold flat
  exact concatenate_apply_piece (t := S66944) 0 (parts a0 a1 a2 a3 a4 a5 a6 a7 a8 a9 a10 a11) concatenates_S4096_S1024_S384_S32768_S512_S256_S2048_S2048_S8448_S11264_S2048_S2048_S66944_d0 _ 2 (show 2 < 12 by decide) S384 _ rfl rfl 5120 before2 j
    (fun b hb => absurd (Subsingleton.elim _ _) hb) rfl

/-- Leaf 3 of a packed array. -/
def leaf3 (y : FVec Ideal S1x528x128 .f32) : FVec Ideal S2x4x64x64 .f32 :=
  shapeCast S2x4x64x64 (extractStridedSlice S32768 ![5504] (unrow y) slices_S67584_S32768_5504) shapeCasts_S32768_S2x4x64x64

theorem before3 : (([S4096, S1024, S384, S32768, S512, S256, S2048, S2048, S8448, S11264, S2048, S2048].take 3).map fun s : Shape => if h : s.rank = S66944.rank then s.size ((0 : Fin S66944.rank).cast h.symm) else 0).sum = 5504 := by
  decide +kernel

theorem leaf3_pack (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    leaf3 (pack a0 a1 a2 a3 a4 a5 a6 a7 a8 a9 a10 a11) = a3 := by
  unfold leaf3 pack
  rw [unrow_rows]
  refine Eq.trans ?_ (shapeCast_shapeCast a3 shapeCasts_S2x4x64x64_S32768 shapeCasts_S32768_S2x4x64x64)
  refine congrArg (fun z => shapeCast S2x4x64x64 z shapeCasts_S32768_S2x4x64x64) (funext fun j => ?_)
  have hj : (j 0).val < 32768 := (j 0).isLt
  rw [extractStridedSlice_apply (s := S67584) (t := S32768) ![5504] _ slices_S67584_S32768_5504 j (ix1 ⟨5504 + (j 0).val, by omega⟩)
      (fun a => by match a with | ⟨0, _⟩ => rfl),
    padded_apply _ _ (ix1 ⟨5504 + (j 0).val, by omega⟩) rfl]
  unfold flat
  exact concatenate_apply_piece (t := S66944) 0 (parts a0 a1 a2 a3 a4 a5 a6 a7 a8 a9 a10 a11) concatenates_S4096_S1024_S384_S32768_S512_S256_S2048_S2048_S8448_S11264_S2048_S2048_S66944_d0 _ 3 (show 3 < 12 by decide) S32768 _ rfl rfl 5504 before3 j
    (fun b hb => absurd (Subsingleton.elim _ _) hb) rfl

/-- Leaf 4 of a packed array. -/
def leaf4 (y : FVec Ideal S1x528x128 .f32) : FVec Ideal S2x256 .f32 :=
  shapeCast S2x256 (extractStridedSlice S512 ![38272] (unrow y) slices_S67584_S512_38272) shapeCasts_S512_S2x256

theorem before4 : (([S4096, S1024, S384, S32768, S512, S256, S2048, S2048, S8448, S11264, S2048, S2048].take 4).map fun s : Shape => if h : s.rank = S66944.rank then s.size ((0 : Fin S66944.rank).cast h.symm) else 0).sum = 38272 := by
  decide +kernel

theorem leaf4_pack (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    leaf4 (pack a0 a1 a2 a3 a4 a5 a6 a7 a8 a9 a10 a11) = a4 := by
  unfold leaf4 pack
  rw [unrow_rows]
  refine Eq.trans ?_ (shapeCast_shapeCast a4 shapeCasts_S2x256_S512 shapeCasts_S512_S2x256)
  refine congrArg (fun z => shapeCast S2x256 z shapeCasts_S512_S2x256) (funext fun j => ?_)
  have hj : (j 0).val < 512 := (j 0).isLt
  rw [extractStridedSlice_apply (s := S67584) (t := S512) ![38272] _ slices_S67584_S512_38272 j (ix1 ⟨38272 + (j 0).val, by omega⟩)
      (fun a => by match a with | ⟨0, _⟩ => rfl),
    padded_apply _ _ (ix1 ⟨38272 + (j 0).val, by omega⟩) rfl]
  unfold flat
  exact concatenate_apply_piece (t := S66944) 0 (parts a0 a1 a2 a3 a4 a5 a6 a7 a8 a9 a10 a11) concatenates_S4096_S1024_S384_S32768_S512_S256_S2048_S2048_S8448_S11264_S2048_S2048_S66944_d0 _ 4 (show 4 < 12 by decide) S512 _ rfl rfl 38272 before4 j
    (fun b hb => absurd (Subsingleton.elim _ _) hb) rfl

/-- Leaf 5 of a packed array. -/
def leaf5 (y : FVec Ideal S1x528x128 .f32) : FVec Ideal S2x128 .f32 :=
  shapeCast S2x128 (extractStridedSlice S256 ![38784] (unrow y) slices_S67584_S256_38784) shapeCasts_S256_S2x128

theorem before5 : (([S4096, S1024, S384, S32768, S512, S256, S2048, S2048, S8448, S11264, S2048, S2048].take 5).map fun s : Shape => if h : s.rank = S66944.rank then s.size ((0 : Fin S66944.rank).cast h.symm) else 0).sum = 38784 := by
  decide +kernel

theorem leaf5_pack (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    leaf5 (pack a0 a1 a2 a3 a4 a5 a6 a7 a8 a9 a10 a11) = a5 := by
  unfold leaf5 pack
  rw [unrow_rows]
  refine Eq.trans ?_ (shapeCast_shapeCast a5 shapeCasts_S2x128_S256 shapeCasts_S256_S2x128)
  refine congrArg (fun z => shapeCast S2x128 z shapeCasts_S256_S2x128) (funext fun j => ?_)
  have hj : (j 0).val < 256 := (j 0).isLt
  rw [extractStridedSlice_apply (s := S67584) (t := S256) ![38784] _ slices_S67584_S256_38784 j (ix1 ⟨38784 + (j 0).val, by omega⟩)
      (fun a => by match a with | ⟨0, _⟩ => rfl),
    padded_apply _ _ (ix1 ⟨38784 + (j 0).val, by omega⟩) rfl]
  unfold flat
  exact concatenate_apply_piece (t := S66944) 0 (parts a0 a1 a2 a3 a4 a5 a6 a7 a8 a9 a10 a11) concatenates_S4096_S1024_S384_S32768_S512_S256_S2048_S2048_S8448_S11264_S2048_S2048_S66944_d0 _ 5 (show 5 < 12 by decide) S256 _ rfl rfl 38784 before5 j
    (fun b hb => absurd (Subsingleton.elim _ _) hb) rfl

/-- Leaf 6 of a packed array. -/
def leaf6 (y : FVec Ideal S1x528x128 .f32) : FVec Ideal S2x1024 .f32 :=
  shapeCast S2x1024 (extractStridedSlice S2048 ![39040] (unrow y) slices_S67584_S2048_39040) shapeCasts_S2048_S2x1024

theorem before6 : (([S4096, S1024, S384, S32768, S512, S256, S2048, S2048, S8448, S11264, S2048, S2048].take 6).map fun s : Shape => if h : s.rank = S66944.rank then s.size ((0 : Fin S66944.rank).cast h.symm) else 0).sum = 39040 := by
  decide +kernel

theorem leaf6_pack (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    leaf6 (pack a0 a1 a2 a3 a4 a5 a6 a7 a8 a9 a10 a11) = a6 := by
  unfold leaf6 pack
  rw [unrow_rows]
  refine Eq.trans ?_ (shapeCast_shapeCast a6 shapeCasts_S2x1024_S2048 shapeCasts_S2048_S2x1024)
  refine congrArg (fun z => shapeCast S2x1024 z shapeCasts_S2048_S2x1024) (funext fun j => ?_)
  have hj : (j 0).val < 2048 := (j 0).isLt
  rw [extractStridedSlice_apply (s := S67584) (t := S2048) ![39040] _ slices_S67584_S2048_39040 j (ix1 ⟨39040 + (j 0).val, by omega⟩)
      (fun a => by match a with | ⟨0, _⟩ => rfl),
    padded_apply _ _ (ix1 ⟨39040 + (j 0).val, by omega⟩) rfl]
  unfold flat
  exact concatenate_apply_piece (t := S66944) 0 (parts a0 a1 a2 a3 a4 a5 a6 a7 a8 a9 a10 a11) concatenates_S4096_S1024_S384_S32768_S512_S256_S2048_S2048_S8448_S11264_S2048_S2048_S66944_d0 _ 6 (show 6 < 12 by decide) S2048 _ rfl rfl 39040 before6 j
    (fun b hb => absurd (Subsingleton.elim _ _) hb) rfl

/-- Leaf 7 of a packed array. -/
def leaf7 (y : FVec Ideal S1x528x128 .f32) : FVec Ideal S2x1024 .f32 :=
  shapeCast S2x1024 (extractStridedSlice S2048 ![41088] (unrow y) slices_S67584_S2048_41088) shapeCasts_S2048_S2x1024

theorem before7 : (([S4096, S1024, S384, S32768, S512, S256, S2048, S2048, S8448, S11264, S2048, S2048].take 7).map fun s : Shape => if h : s.rank = S66944.rank then s.size ((0 : Fin S66944.rank).cast h.symm) else 0).sum = 41088 := by
  decide +kernel

theorem leaf7_pack (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    leaf7 (pack a0 a1 a2 a3 a4 a5 a6 a7 a8 a9 a10 a11) = a7 := by
  unfold leaf7 pack
  rw [unrow_rows]
  refine Eq.trans ?_ (shapeCast_shapeCast a7 shapeCasts_S2x1024_S2048 shapeCasts_S2048_S2x1024)
  refine congrArg (fun z => shapeCast S2x1024 z shapeCasts_S2048_S2x1024) (funext fun j => ?_)
  have hj : (j 0).val < 2048 := (j 0).isLt
  rw [extractStridedSlice_apply (s := S67584) (t := S2048) ![41088] _ slices_S67584_S2048_41088 j (ix1 ⟨41088 + (j 0).val, by omega⟩)
      (fun a => by match a with | ⟨0, _⟩ => rfl),
    padded_apply _ _ (ix1 ⟨41088 + (j 0).val, by omega⟩) rfl]
  unfold flat
  exact concatenate_apply_piece (t := S66944) 0 (parts a0 a1 a2 a3 a4 a5 a6 a7 a8 a9 a10 a11) concatenates_S4096_S1024_S384_S32768_S512_S256_S2048_S2048_S8448_S11264_S2048_S2048_S66944_d0 _ 7 (show 7 < 12 by decide) S2048 _ rfl rfl 41088 before7 j
    (fun b hb => absurd (Subsingleton.elim _ _) hb) rfl

/-- Leaf 8 of a packed array. -/
def leaf8 (y : FVec Ideal S1x528x128 .f32) : FVec Ideal S2x1408x3 .f32 :=
  shapeCast S2x1408x3 (extractStridedSlice S8448 ![43136] (unrow y) slices_S67584_S8448_43136) shapeCasts_S8448_S2x1408x3

theorem before8 : (([S4096, S1024, S384, S32768, S512, S256, S2048, S2048, S8448, S11264, S2048, S2048].take 8).map fun s : Shape => if h : s.rank = S66944.rank then s.size ((0 : Fin S66944.rank).cast h.symm) else 0).sum = 43136 := by
  decide +kernel

theorem leaf8_pack (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    leaf8 (pack a0 a1 a2 a3 a4 a5 a6 a7 a8 a9 a10 a11) = a8 := by
  unfold leaf8 pack
  rw [unrow_rows]
  refine Eq.trans ?_ (shapeCast_shapeCast a8 shapeCasts_S2x1408x3_S8448 shapeCasts_S8448_S2x1408x3)
  refine congrArg (fun z => shapeCast S2x1408x3 z shapeCasts_S8448_S2x1408x3) (funext fun j => ?_)
  have hj : (j 0).val < 8448 := (j 0).isLt
  rw [extractStridedSlice_apply (s := S67584) (t := S8448) ![43136] _ slices_S67584_S8448_43136 j (ix1 ⟨43136 + (j 0).val, by omega⟩)
      (fun a => by match a with | ⟨0, _⟩ => rfl),
    padded_apply _ _ (ix1 ⟨43136 + (j 0).val, by omega⟩) rfl]
  unfold flat
  exact concatenate_apply_piece (t := S66944) 0 (parts a0 a1 a2 a3 a4 a5 a6 a7 a8 a9 a10 a11) concatenates_S4096_S1024_S384_S32768_S512_S256_S2048_S2048_S8448_S11264_S2048_S2048_S66944_d0 _ 8 (show 8 < 12 by decide) S8448 _ rfl rfl 43136 before8 j
    (fun b hb => absurd (Subsingleton.elim _ _) hb) rfl

/-- Leaf 9 of a packed array. -/
def leaf9 (y : FVec Ideal S1x528x128 .f32) : FVec Ideal S2x5632 .f32 :=
  shapeCast S2x5632 (extractStridedSlice S11264 ![51584] (unrow y) slices_S67584_S11264_51584) shapeCasts_S11264_S2x5632

theorem before9 : (([S4096, S1024, S384, S32768, S512, S256, S2048, S2048, S8448, S11264, S2048, S2048].take 9).map fun s : Shape => if h : s.rank = S66944.rank then s.size ((0 : Fin S66944.rank).cast h.symm) else 0).sum = 51584 := by
  decide +kernel

theorem leaf9_pack (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    leaf9 (pack a0 a1 a2 a3 a4 a5 a6 a7 a8 a9 a10 a11) = a9 := by
  unfold leaf9 pack
  rw [unrow_rows]
  refine Eq.trans ?_ (shapeCast_shapeCast a9 shapeCasts_S2x5632_S11264 shapeCasts_S11264_S2x5632)
  refine congrArg (fun z => shapeCast S2x5632 z shapeCasts_S11264_S2x5632) (funext fun j => ?_)
  have hj : (j 0).val < 11264 := (j 0).isLt
  rw [extractStridedSlice_apply (s := S67584) (t := S11264) ![51584] _ slices_S67584_S11264_51584 j (ix1 ⟨51584 + (j 0).val, by omega⟩)
      (fun a => by match a with | ⟨0, _⟩ => rfl),
    padded_apply _ _ (ix1 ⟨51584 + (j 0).val, by omega⟩) rfl]
  unfold flat
  exact concatenate_apply_piece (t := S66944) 0 (parts a0 a1 a2 a3 a4 a5 a6 a7 a8 a9 a10 a11) concatenates_S4096_S1024_S384_S32768_S512_S256_S2048_S2048_S8448_S11264_S2048_S2048_S66944_d0 _ 9 (show 9 < 12 by decide) S11264 _ rfl rfl 51584 before9 j
    (fun b hb => absurd (Subsingleton.elim _ _) hb) rfl

/-- Leaf 10 of a packed array. -/
def leaf10 (y : FVec Ideal S1x528x128 .f32) : FVec Ideal S2x1024 .f32 :=
  shapeCast S2x1024 (extractStridedSlice S2048 ![62848] (unrow y) slices_S67584_S2048_62848) shapeCasts_S2048_S2x1024

theorem before10 : (([S4096, S1024, S384, S32768, S512, S256, S2048, S2048, S8448, S11264, S2048, S2048].take 10).map fun s : Shape => if h : s.rank = S66944.rank then s.size ((0 : Fin S66944.rank).cast h.symm) else 0).sum = 62848 := by
  decide +kernel

theorem leaf10_pack (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    leaf10 (pack a0 a1 a2 a3 a4 a5 a6 a7 a8 a9 a10 a11) = a10 := by
  unfold leaf10 pack
  rw [unrow_rows]
  refine Eq.trans ?_ (shapeCast_shapeCast a10 shapeCasts_S2x1024_S2048 shapeCasts_S2048_S2x1024)
  refine congrArg (fun z => shapeCast S2x1024 z shapeCasts_S2048_S2x1024) (funext fun j => ?_)
  have hj : (j 0).val < 2048 := (j 0).isLt
  rw [extractStridedSlice_apply (s := S67584) (t := S2048) ![62848] _ slices_S67584_S2048_62848 j (ix1 ⟨62848 + (j 0).val, by omega⟩)
      (fun a => by match a with | ⟨0, _⟩ => rfl),
    padded_apply _ _ (ix1 ⟨62848 + (j 0).val, by omega⟩) rfl]
  unfold flat
  exact concatenate_apply_piece (t := S66944) 0 (parts a0 a1 a2 a3 a4 a5 a6 a7 a8 a9 a10 a11) concatenates_S4096_S1024_S384_S32768_S512_S256_S2048_S2048_S8448_S11264_S2048_S2048_S66944_d0 _ 10 (show 10 < 12 by decide) S2048 _ rfl rfl 62848 before10 j
    (fun b hb => absurd (Subsingleton.elim _ _) hb) rfl

/-- Leaf 11 of a packed array. -/
def leaf11 (y : FVec Ideal S1x528x128 .f32) : FVec Ideal S2x1024 .f32 :=
  shapeCast S2x1024 (extractStridedSlice S2048 ![64896] (unrow y) slices_S67584_S2048_64896) shapeCasts_S2048_S2x1024

theorem before11 : (([S4096, S1024, S384, S32768, S512, S256, S2048, S2048, S8448, S11264, S2048, S2048].take 11).map fun s : Shape => if h : s.rank = S66944.rank then s.size ((0 : Fin S66944.rank).cast h.symm) else 0).sum = 64896 := by
  decide +kernel

theorem leaf11_pack (a0 : FVec Ideal S16x256 .f32) (a1 : FVec Ideal S2x512 .f32) (a2 : FVec Ideal S2x64x3 .f32) (a3 : FVec Ideal S2x4x64x64 .f32) (a4 : FVec Ideal S2x256 .f32) (a5 : FVec Ideal S2x128 .f32) (a6 : FVec Ideal S2x1024 .f32) (a7 : FVec Ideal S2x1024 .f32) (a8 : FVec Ideal S2x1408x3 .f32) (a9 : FVec Ideal S2x5632 .f32) (a10 : FVec Ideal S2x1024 .f32) (a11 : FVec Ideal S2x1024 .f32) :
    leaf11 (pack a0 a1 a2 a3 a4 a5 a6 a7 a8 a9 a10 a11) = a11 := by
  unfold leaf11 pack
  rw [unrow_rows]
  refine Eq.trans ?_ (shapeCast_shapeCast a11 shapeCasts_S2x1024_S2048 shapeCasts_S2048_S2x1024)
  refine congrArg (fun z => shapeCast S2x1024 z shapeCasts_S2048_S2x1024) (funext fun j => ?_)
  have hj : (j 0).val < 2048 := (j 0).isLt
  rw [extractStridedSlice_apply (s := S67584) (t := S2048) ![64896] _ slices_S67584_S2048_64896 j (ix1 ⟨64896 + (j 0).val, by omega⟩)
      (fun a => by match a with | ⟨0, _⟩ => rfl),
    padded_apply _ _ (ix1 ⟨64896 + (j 0).val, by omega⟩) rfl]
  unfold flat
  exact concatenate_apply_piece (t := S66944) 0 (parts a0 a1 a2 a3 a4 a5 a6 a7 a8 a9 a10 a11) concatenates_S4096_S1024_S384_S32768_S512_S256_S2048_S2048_S8448_S11264_S2048_S2048_S66944_d0 _ 11 (show 11 < 12 by decide) S2048 _ rfl rfl 64896 before11 j
    (fun b hb => absurd (Subsingleton.elim _ _) hb) rfl

/-! ## What the call computes -/

theorem pay_m (g : Vec Ideal S528x128 .f32) (x : Vec Ideal S1x528x128 .f32) (z : Fin 1) (r : Fin 528) (k : Fin 128) :
    k0_pay2 (k0_pay5 g x) (ix3 z r k) = mNew (x (ix3 z r k)) (g (ix2 r k)) := by
  obtain rfl : z = 0 := Subsingleton.elim _ _
  unfold mNew
  pointwise [k0_pay2, k0_pay5, k0_pay4]

theorem pay_v (g : Vec Ideal S528x128 .f32) (x : Vec Ideal S1x528x128 .f32) (z : Fin 1) (r : Fin 528) (k : Fin 128) :
    k0_pay3 (k0_pay6 g x) (ix3 z r k) = vNew (x (ix3 z r k)) (g (ix2 r k)) := by
  obtain rfl : z = 0 := Subsingleton.elim _ _
  unfold vNew
  pointwise [k0_pay3, k0_pay6, k0_pay4]

theorem pay_d (g : Vec Ideal S528x128 .f32) (x y w : Vec Ideal S1x528x128 .f32) (z : Fin 1) (r : Fin 528) (k : Fin 128) :
    k0_pay1 (k0_pay8 g x y w) (ix3 z r k) = step (w (ix3 z r k)) (x (ix3 z r k)) (y (ix3 z r k)) (g (ix2 r k)) := by
  obtain rfl : z = 0 := Subsingleton.elim _ _
  unfold step mNew vNew
  pointwise [k0_pay1, k0_pay8, k0_pay5, k0_pay6, k0_pay4]

/-! ## The arrays the call finds -/

section Call

variable (m : (ℓ : Loc nD τ sig) → Buf (Elt Ideal) ℓ)

/-- The packed weights. -/
def Pw (c : Dev nD) : FVec Ideal S1x528x128 .f32 :=
  pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The packed first moments. -/
def Pm (c : Dev nD) : FVec Ideal S1x528x128 .f32 :=
  pack (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))

/-- The packed second moments. -/
def Pv (c : Dev nD) : FVec Ideal S1x528x128 .f32 :=
  pack (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35))

/-- The packed gradients. -/
def Pg (c : Dev nD) : FVec Ideal S1x528x128 .f32 :=
  pack (m ((c : Thread nD τ).loc main_arg36)) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47))

theorem V_w (c : Dev nD) : V m c main_v15 = Pw m c := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.unary, StableHlo.TRef.toBuf, StableHlo.TRef.ofBuf, cast_eq]
  after_results_simp <;> rfl

theorem V_m (c : Dev nD) : V m c main_v31 = Pm m c := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.unary, StableHlo.TRef.toBuf, StableHlo.TRef.ofBuf, cast_eq]
  after_results_simp <;> rfl

theorem V_v (c : Dev nD) : V m c main_v47 = Pv m c := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.unary, StableHlo.TRef.toBuf, StableHlo.TRef.ofBuf, cast_eq]
  after_results_simp <;> rfl

theorem V_g (c : Dev nD) : V m c main_v64 = shapeCast S528x128 (Pg m c) shapeCasts_S1x528x128_S528x128 := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.unary, StableHlo.TRef.toBuf, StableHlo.TRef.ofBuf, cast_eq]
  after_results_simp <;> rfl

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem blk0 (c : Dev nD) (t : Fin cfg0.N) (z : Fin 1) (r : Fin 528) (k : Fin 128) :
    iblk m c 0 t (ix3 z r k) = Pw m c (ix3 z r k) := by
  obtain ⟨e0, e1, e2⟩ := idx0 t
  refine Eq.trans (b := V m c main_v15 (ix3 z r k)) ?_ (congrFun (V_w m c) _)
  show V m c main_v15 (((cfg0.win 0).blk t).view.emb (ix3 z r k)) = _
  refine congrArg _ (funext fun a => Fin.ext ?_)
  match a with
  | ⟨0, _⟩ => show win0_0.index t (0 : Fin 3) * 1 + 1 * z.val = z.val; rw [e0]; omega
  | ⟨1, _⟩ => show win0_0.index t (1 : Fin 3) * 528 + 1 * r.val = r.val; rw [e1]; omega
  | ⟨2, _⟩ => show win0_0.index t (2 : Fin 3) * 128 + 1 * k.val = k.val; rw [e2]; omega

theorem blk1 (c : Dev nD) (t : Fin cfg0.N) (z : Fin 1) (r : Fin 528) (k : Fin 128) :
    iblk m c 1 t (ix3 z r k) = Pm m c (ix3 z r k) := by
  obtain ⟨e0, e1, e2⟩ := idx1 t
  refine Eq.trans (b := V m c main_v31 (ix3 z r k)) ?_ (congrFun (V_m m c) _)
  show V m c main_v31 (((cfg0.win 1).blk t).view.emb (ix3 z r k)) = _
  refine congrArg _ (funext fun a => Fin.ext ?_)
  match a with
  | ⟨0, _⟩ => show win0_1.index t (0 : Fin 3) * 1 + 1 * z.val = z.val; rw [e0]; omega
  | ⟨1, _⟩ => show win0_1.index t (1 : Fin 3) * 528 + 1 * r.val = r.val; rw [e1]; omega
  | ⟨2, _⟩ => show win0_1.index t (2 : Fin 3) * 128 + 1 * k.val = k.val; rw [e2]; omega

theorem blk2 (c : Dev nD) (t : Fin cfg0.N) (z : Fin 1) (r : Fin 528) (k : Fin 128) :
    iblk m c 2 t (ix3 z r k) = Pv m c (ix3 z r k) := by
  obtain ⟨e0, e1, e2⟩ := idx2 t
  refine Eq.trans (b := V m c main_v47 (ix3 z r k)) ?_ (congrFun (V_v m c) _)
  show V m c main_v47 (((cfg0.win 2).blk t).view.emb (ix3 z r k)) = _
  refine congrArg _ (funext fun a => Fin.ext ?_)
  match a with
  | ⟨0, _⟩ => show win0_2.index t (0 : Fin 3) * 1 + 1 * z.val = z.val; rw [e0]; omega
  | ⟨1, _⟩ => show win0_2.index t (1 : Fin 3) * 528 + 1 * r.val = r.val; rw [e1]; omega
  | ⟨2, _⟩ => show win0_2.index t (2 : Fin 3) * 128 + 1 * k.val = k.val; rw [e2]; omega

/-- The gradients lose their unit axis before the call. -/
theorem drop_apply (y : FVec Ideal S1x528x128 .f32) (z : Fin 1) (r : Fin 528) (k : Fin 128) :
    shapeCast S528x128 y shapeCasts_S1x528x128_S528x128 (ix2 r k) = y (ix3 z r k) := by
  obtain rfl : z = 0 := Subsingleton.elim _ _
  pointwise

theorem blk3 (c : Dev nD) (t : Fin cfg0.N) (z : Fin 1) (r : Fin 528) (k : Fin 128) :
    iblk m c 3 t (ix2 r k) = Pg m c (ix3 z r k) := by
  obtain ⟨e0, e1⟩ := idx3 t
  refine Eq.trans (b := V m c main_v64 (ix2 r k)) ?_ ((congrFun (V_g m c) _).trans (drop_apply _ z r k))
  show V m c main_v64 (((cfg0.win 3).blk t).view.emb (ix2 r k)) = _
  refine congrArg _ (funext fun a => Fin.ext ?_)
  match a with
  | ⟨0, _⟩ => show win0_3.index t (0 : Fin 2) * 528 + 1 * r.val = r.val; rw [e0]; omega
  | ⟨1, _⟩ => show win0_3.index t (1 : Fin 2) * 128 + 1 * k.val = k.val; rw [e1]; omega

/-! ## The call's outputs -/

theorem point5 (c : Dev nD) (t : Fin cfg0.N) (z : Fin 1) (r : Fin 528) (k : Fin 128) :
    k0_pay1 (k0_pay8 (iblk m c 3 t) (iblk m c 1 t) (iblk m c 2 t) (iblk m c 0 t)) (ix3 z r k) = (delta (Pw m c) (Pm m c) (Pv m c) (Pg m c)) (ix3 z r k) := by
  rw [pay_d, blk0, blk1, blk2, blk3 m c t z]
  rfl

theorem final5 (c : Dev nD) : (dats m 0 c).arrAt 5 cfg0.N = delta (Pw m c) (Pm m c) (Pv m c) (Pg m c) := by
  have h : (dats m 0 c).arrAt 5 cfg0.N = fun i => if (i 0).val / 1 = 0 then (delta (Pw m c) (Pm m c) (Pv m c) (Pg m c)) i else (dats m 0 c).A 5 i := by
    refine (dats m 0 c).arrAt_eq_of_coversWhere 5 _ (fun β => β (0 : Fin 3) = 0) (by decide +kernel) (fun t hf y => ?_) (fun j => Iff.rfl)
    blk_simp
    rw [after0_5]
    frame_out
    obtain ⟨e0, e1, e2⟩ := idx5 t
    have hi : ((View.whole main_v65_1).slice (win0_5.rect t)).emb y = (ix3 (y 0) (y 1) (y 2) : S1x528x128.Idx) := by
      refine funext fun a => Fin.ext ?_
      match a with
      | ⟨0, _⟩ => show win0_5.index t (0 : Fin 3) * 1 + 1 * (y 0).val = (y 0).val; rw [e0]; omega
      | ⟨1, _⟩ => show win0_5.index t (1 : Fin 3) * 528 + 1 * (y 1).val = (y 1).val; rw [e1]; omega
      | ⟨2, _⟩ => show win0_5.index t (2 : Fin 3) * 128 + 1 * (y 2).val = (y 2).val; rw [e2]; omega
    rw [hi]
    have hp := point5 m c t (y 0) (y 1) (y 2)
    generalize k0_pay1 (k0_pay8 (iblk m c 3 t) (iblk m c 1 t) (iblk m c 2 t) (iblk m c 0 t)) = b at hp ⊢
    exact (congrArg b (eq_ix3 y)).trans hp
  rw [h]
  funext i
  exact if_pos (by have : (i 0).val < 1 := (i 0).isLt; omega)

theorem point6 (c : Dev nD) (t : Fin cfg0.N) (z : Fin 1) (r : Fin 528) (k : Fin 128) :
    k0_pay2 (k0_pay5 (iblk m c 3 t) (iblk m c 1 t)) (ix3 z r k) = (fstM (Pm m c) (Pg m c)) (ix3 z r k) := by
  rw [pay_m, blk1, blk3 m c t z]
  rfl

theorem final6 (c : Dev nD) : (dats m 0 c).arrAt 6 cfg0.N = fstM (Pm m c) (Pg m c) := by
  have h : (dats m 0 c).arrAt 6 cfg0.N = fun i => if (i 0).val / 1 = 0 then (fstM (Pm m c) (Pg m c)) i else (dats m 0 c).A 6 i := by
    refine (dats m 0 c).arrAt_eq_of_coversWhere 6 _ (fun β => β (0 : Fin 3) = 0) (by decide +kernel) (fun t hf y => ?_) (fun j => Iff.rfl)
    blk_simp
    rw [after0_6]
    frame_out
    obtain ⟨e0, e1, e2⟩ := idx6 t
    have hi : ((View.whole main_v65_2).slice (win0_6.rect t)).emb y = (ix3 (y 0) (y 1) (y 2) : S1x528x128.Idx) := by
      refine funext fun a => Fin.ext ?_
      match a with
      | ⟨0, _⟩ => show win0_6.index t (0 : Fin 3) * 1 + 1 * (y 0).val = (y 0).val; rw [e0]; omega
      | ⟨1, _⟩ => show win0_6.index t (1 : Fin 3) * 528 + 1 * (y 1).val = (y 1).val; rw [e1]; omega
      | ⟨2, _⟩ => show win0_6.index t (2 : Fin 3) * 128 + 1 * (y 2).val = (y 2).val; rw [e2]; omega
    rw [hi]
    have hp := point6 m c t (y 0) (y 1) (y 2)
    generalize k0_pay2 (k0_pay5 (iblk m c 3 t) (iblk m c 1 t)) = b at hp ⊢
    exact (congrArg b (eq_ix3 y)).trans hp
  rw [h]
  funext i
  exact if_pos (by have : (i 0).val < 1 := (i 0).isLt; omega)

theorem point7 (c : Dev nD) (t : Fin cfg0.N) (z : Fin 1) (r : Fin 528) (k : Fin 128) :
    k0_pay3 (k0_pay6 (iblk m c 3 t) (iblk m c 2 t)) (ix3 z r k) = (sndM (Pv m c) (Pg m c)) (ix3 z r k) := by
  rw [pay_v, blk2, blk3 m c t z]
  rfl

theorem final7 (c : Dev nD) : (dats m 0 c).arrAt 7 cfg0.N = sndM (Pv m c) (Pg m c) := by
  have h : (dats m 0 c).arrAt 7 cfg0.N = fun i => if (i 0).val / 1 = 0 then (sndM (Pv m c) (Pg m c)) i else (dats m 0 c).A 7 i := by
    refine (dats m 0 c).arrAt_eq_of_coversWhere 7 _ (fun β => β (0 : Fin 3) = 0) (by decide +kernel) (fun t hf y => ?_) (fun j => Iff.rfl)
    blk_simp
    rw [after0_7]
    frame_out
    obtain ⟨e0, e1, e2⟩ := idx7 t
    have hi : ((View.whole main_v65_3).slice (win0_7.rect t)).emb y = (ix3 (y 0) (y 1) (y 2) : S1x528x128.Idx) := by
      refine funext fun a => Fin.ext ?_
      match a with
      | ⟨0, _⟩ => show win0_7.index t (0 : Fin 3) * 1 + 1 * (y 0).val = (y 0).val; rw [e0]; omega
      | ⟨1, _⟩ => show win0_7.index t (1 : Fin 3) * 528 + 1 * (y 1).val = (y 1).val; rw [e1]; omega
      | ⟨2, _⟩ => show win0_7.index t (2 : Fin 3) * 128 + 1 * (y 2).val = (y 2).val; rw [e2]; omega
    rw [hi]
    have hp := point7 m c t (y 0) (y 1) (y 2)
    generalize k0_pay3 (k0_pay6 (iblk m c 3 t) (iblk m c 2 t)) = b at hp ⊢
    exact (congrArg b (eq_ix3 y)).trans hp
  rw [h]
  funext i
  exact if_pos (by have : (i 0).val < 1 := (i 0).isLt; omega)

end Call

/-! ## The results cut out of the outputs -/

theorem cut0 (U : Valuation τ sig (Elt Ideal)) :
    StableHlo.after hostOps1 U (Proc.devRef .tc main_v69) = leaf0 (U (Proc.devRef .tc main_v65_1)) := by
  after_results_simp <;> rfl

theorem cut1 (U : Valuation τ sig (Elt Ideal)) :
    StableHlo.after hostOps1 U (Proc.devRef .tc main_v71) = leaf1 (U (Proc.devRef .tc main_v65_1)) := by
  after_results_simp <;> rfl

theorem cut2 (U : Valuation τ sig (Elt Ideal)) :
    StableHlo.after hostOps1 U (Proc.devRef .tc main_v73) = leaf2 (U (Proc.devRef .tc main_v65_1)) := by
  after_results_simp <;> rfl

theorem cut3 (U : Valuation τ sig (Elt Ideal)) :
    StableHlo.after hostOps1 U (Proc.devRef .tc main_v75) = leaf3 (U (Proc.devRef .tc main_v65_1)) := by
  after_results_simp <;> rfl

theorem cut4 (U : Valuation τ sig (Elt Ideal)) :
    StableHlo.after hostOps1 U (Proc.devRef .tc main_v77) = leaf4 (U (Proc.devRef .tc main_v65_1)) := by
  after_results_simp <;> rfl

theorem cut5 (U : Valuation τ sig (Elt Ideal)) :
    StableHlo.after hostOps1 U (Proc.devRef .tc main_v79) = leaf5 (U (Proc.devRef .tc main_v65_1)) := by
  after_results_simp <;> rfl

theorem cut6 (U : Valuation τ sig (Elt Ideal)) :
    StableHlo.after hostOps1 U (Proc.devRef .tc main_v81) = leaf6 (U (Proc.devRef .tc main_v65_1)) := by
  after_results_simp <;> rfl

theorem cut7 (U : Valuation τ sig (Elt Ideal)) :
    StableHlo.after hostOps1 U (Proc.devRef .tc main_v83) = leaf7 (U (Proc.devRef .tc main_v65_1)) := by
  after_results_simp <;> rfl

theorem cut8 (U : Valuation τ sig (Elt Ideal)) :
    StableHlo.after hostOps1 U (Proc.devRef .tc main_v85) = leaf8 (U (Proc.devRef .tc main_v65_1)) := by
  after_results_simp <;> rfl

theorem cut9 (U : Valuation τ sig (Elt Ideal)) :
    StableHlo.after hostOps1 U (Proc.devRef .tc main_v87) = leaf9 (U (Proc.devRef .tc main_v65_1)) := by
  after_results_simp <;> rfl

theorem cut10 (U : Valuation τ sig (Elt Ideal)) :
    StableHlo.after hostOps1 U (Proc.devRef .tc main_v89) = leaf10 (U (Proc.devRef .tc main_v65_1)) := by
  after_results_simp <;> rfl

theorem cut11 (U : Valuation τ sig (Elt Ideal)) :
    StableHlo.after hostOps1 U (Proc.devRef .tc main_v91) = leaf11 (U (Proc.devRef .tc main_v65_1)) := by
  after_results_simp <;> rfl

theorem cut12 (U : Valuation τ sig (Elt Ideal)) :
    StableHlo.after hostOps1 U (Proc.devRef .tc main_v95) = leaf0 (U (Proc.devRef .tc main_v65_2)) := by
  after_results_simp <;> rfl

theorem cut13 (U : Valuation τ sig (Elt Ideal)) :
    StableHlo.after hostOps1 U (Proc.devRef .tc main_v97) = leaf1 (U (Proc.devRef .tc main_v65_2)) := by
  after_results_simp <;> rfl

theorem cut14 (U : Valuation τ sig (Elt Ideal)) :
    StableHlo.after hostOps1 U (Proc.devRef .tc main_v99) = leaf2 (U (Proc.devRef .tc main_v65_2)) := by
  after_results_simp <;> rfl

theorem cut15 (U : Valuation τ sig (Elt Ideal)) :
    StableHlo.after hostOps1 U (Proc.devRef .tc main_v101) = leaf3 (U (Proc.devRef .tc main_v65_2)) := by
  after_results_simp <;> rfl

theorem cut16 (U : Valuation τ sig (Elt Ideal)) :
    StableHlo.after hostOps1 U (Proc.devRef .tc main_v103) = leaf4 (U (Proc.devRef .tc main_v65_2)) := by
  after_results_simp <;> rfl

theorem cut17 (U : Valuation τ sig (Elt Ideal)) :
    StableHlo.after hostOps1 U (Proc.devRef .tc main_v105) = leaf5 (U (Proc.devRef .tc main_v65_2)) := by
  after_results_simp <;> rfl

theorem cut18 (U : Valuation τ sig (Elt Ideal)) :
    StableHlo.after hostOps1 U (Proc.devRef .tc main_v107) = leaf6 (U (Proc.devRef .tc main_v65_2)) := by
  after_results_simp <;> rfl

theorem cut19 (U : Valuation τ sig (Elt Ideal)) :
    StableHlo.after hostOps1 U (Proc.devRef .tc main_v109) = leaf7 (U (Proc.devRef .tc main_v65_2)) := by
  after_results_simp <;> rfl

theorem cut20 (U : Valuation τ sig (Elt Ideal)) :
    StableHlo.after hostOps1 U (Proc.devRef .tc main_v111) = leaf8 (U (Proc.devRef .tc main_v65_2)) := by
  after_results_simp <;> rfl

theorem cut21 (U : Valuation τ sig (Elt Ideal)) :
    StableHlo.after hostOps1 U (Proc.devRef .tc main_v113) = leaf9 (U (Proc.devRef .tc main_v65_2)) := by
  after_results_simp <;> rfl

theorem cut22 (U : Valuation τ sig (Elt Ideal)) :
    StableHlo.after hostOps1 U (Proc.devRef .tc main_v115) = leaf10 (U (Proc.devRef .tc main_v65_2)) := by
  after_results_simp <;> rfl

theorem cut23 (U : Valuation τ sig (Elt Ideal)) :
    StableHlo.after hostOps1 U (Proc.devRef .tc main_v117) = leaf11 (U (Proc.devRef .tc main_v65_2)) := by
  after_results_simp <;> rfl

theorem cut24 (U : Valuation τ sig (Elt Ideal)) :
    StableHlo.after hostOps1 U (Proc.devRef .tc main_v121) = leaf0 (U (Proc.devRef .tc main_v65_3)) := by
  after_results_simp <;> rfl

theorem cut25 (U : Valuation τ sig (Elt Ideal)) :
    StableHlo.after hostOps1 U (Proc.devRef .tc main_v123) = leaf1 (U (Proc.devRef .tc main_v65_3)) := by
  after_results_simp <;> rfl

theorem cut26 (U : Valuation τ sig (Elt Ideal)) :
    StableHlo.after hostOps1 U (Proc.devRef .tc main_v125) = leaf2 (U (Proc.devRef .tc main_v65_3)) := by
  after_results_simp <;> rfl

theorem cut27 (U : Valuation τ sig (Elt Ideal)) :
    StableHlo.after hostOps1 U (Proc.devRef .tc main_v127) = leaf3 (U (Proc.devRef .tc main_v65_3)) := by
  after_results_simp <;> rfl

theorem cut28 (U : Valuation τ sig (Elt Ideal)) :
    StableHlo.after hostOps1 U (Proc.devRef .tc main_v129) = leaf4 (U (Proc.devRef .tc main_v65_3)) := by
  after_results_simp <;> rfl

theorem cut29 (U : Valuation τ sig (Elt Ideal)) :
    StableHlo.after hostOps1 U (Proc.devRef .tc main_v131) = leaf5 (U (Proc.devRef .tc main_v65_3)) := by
  after_results_simp <;> rfl

theorem cut30 (U : Valuation τ sig (Elt Ideal)) :
    StableHlo.after hostOps1 U (Proc.devRef .tc main_v133) = leaf6 (U (Proc.devRef .tc main_v65_3)) := by
  after_results_simp <;> rfl

theorem cut31 (U : Valuation τ sig (Elt Ideal)) :
    StableHlo.after hostOps1 U (Proc.devRef .tc main_v135) = leaf7 (U (Proc.devRef .tc main_v65_3)) := by
  after_results_simp <;> rfl

theorem cut32 (U : Valuation τ sig (Elt Ideal)) :
    StableHlo.after hostOps1 U (Proc.devRef .tc main_v137) = leaf8 (U (Proc.devRef .tc main_v65_3)) := by
  after_results_simp <;> rfl

theorem cut33 (U : Valuation τ sig (Elt Ideal)) :
    StableHlo.after hostOps1 U (Proc.devRef .tc main_v139) = leaf9 (U (Proc.devRef .tc main_v65_3)) := by
  after_results_simp <;> rfl

theorem cut34 (U : Valuation τ sig (Elt Ideal)) :
    StableHlo.after hostOps1 U (Proc.devRef .tc main_v141) = leaf10 (U (Proc.devRef .tc main_v65_3)) := by
  after_results_simp <;> rfl

theorem cut35 (U : Valuation τ sig (Elt Ideal)) :
    StableHlo.after hostOps1 U (Proc.devRef .tc main_v143) = leaf11 (U (Proc.devRef .tc main_v65_3)) := by
  after_results_simp <;> rfl

section Tail

variable (m : (ℓ : Loc nD τ sig) → Buf (Elt Ideal) ℓ)

/-- What the call leaves in its arrays is what the operations after it find there. -/
theorem arr_apply (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 (by decide +kernel) c (V0 m c) _ w

theorem out0 (c : Dev nD) :
    Pipeline.afterTail₀ cfgs (dats m) 0 (V0 m) [hostOps1] c main_v69 = delta (m ((c : Thread nD τ).loc main_arg0)) (m ((c : Thread nD τ).loc main_arg12)) (m ((c : Thread nD τ).loc main_arg24)) (m ((c : Thread nD τ).loc main_arg36)) := by
  unfold Pipeline.afterTail₀
  rw [List.flatten_cons, List.flatten_nil, List.append_nil]
  refine (cut0 _).trans ((congrArg leaf0 ((arr_apply m c 5).trans (final5 m c))).trans ?_)
  refine Eq.trans (b := delta (leaf0 (Pw m c)) (leaf0 (Pm m c)) (leaf0 (Pv m c)) (leaf0 (Pg m c))) rfl ?_
  unfold Pw Pm Pv Pg
  iterate 4 try rw [leaf0_pack]

theorem out1 (c : Dev nD) :
    Pipeline.afterTail₀ cfgs (dats m) 0 (V0 m) [hostOps1] c main_v71 = delta (m ((c : Thread nD τ).loc main_arg1)) (m ((c : Thread nD τ).loc main_arg13)) (m ((c : Thread nD τ).loc main_arg25)) (m ((c : Thread nD τ).loc main_arg37)) := by
  unfold Pipeline.afterTail₀
  rw [List.flatten_cons, List.flatten_nil, List.append_nil]
  refine (cut1 _).trans ((congrArg leaf1 ((arr_apply m c 5).trans (final5 m c))).trans ?_)
  refine Eq.trans (b := delta (leaf1 (Pw m c)) (leaf1 (Pm m c)) (leaf1 (Pv m c)) (leaf1 (Pg m c))) rfl ?_
  unfold Pw Pm Pv Pg
  iterate 4 try rw [leaf1_pack]

theorem out2 (c : Dev nD) :
    Pipeline.afterTail₀ cfgs (dats m) 0 (V0 m) [hostOps1] c main_v73 = delta (m ((c : Thread nD τ).loc main_arg2)) (m ((c : Thread nD τ).loc main_arg14)) (m ((c : Thread nD τ).loc main_arg26)) (m ((c : Thread nD τ).loc main_arg38)) := by
  unfold Pipeline.afterTail₀
  rw [List.flatten_cons, List.flatten_nil, List.append_nil]
  refine (cut2 _).trans ((congrArg leaf2 ((arr_apply m c 5).trans (final5 m c))).trans ?_)
  refine Eq.trans (b := delta (leaf2 (Pw m c)) (leaf2 (Pm m c)) (leaf2 (Pv m c)) (leaf2 (Pg m c))) rfl ?_
  unfold Pw Pm Pv Pg
  iterate 4 try rw [leaf2_pack]

theorem out3 (c : Dev nD) :
    Pipeline.afterTail₀ cfgs (dats m) 0 (V0 m) [hostOps1] c main_v75 = delta (m ((c : Thread nD τ).loc main_arg3)) (m ((c : Thread nD τ).loc main_arg15)) (m ((c : Thread nD τ).loc main_arg27)) (m ((c : Thread nD τ).loc main_arg39)) := by
  unfold Pipeline.afterTail₀
  rw [List.flatten_cons, List.flatten_nil, List.append_nil]
  refine (cut3 _).trans ((congrArg leaf3 ((arr_apply m c 5).trans (final5 m c))).trans ?_)
  refine Eq.trans (b := delta (leaf3 (Pw m c)) (leaf3 (Pm m c)) (leaf3 (Pv m c)) (leaf3 (Pg m c))) rfl ?_
  unfold Pw Pm Pv Pg
  iterate 4 try rw [leaf3_pack]

theorem out4 (c : Dev nD) :
    Pipeline.afterTail₀ cfgs (dats m) 0 (V0 m) [hostOps1] c main_v77 = delta (m ((c : Thread nD τ).loc main_arg4)) (m ((c : Thread nD τ).loc main_arg16)) (m ((c : Thread nD τ).loc main_arg28)) (m ((c : Thread nD τ).loc main_arg40)) := by
  unfold Pipeline.afterTail₀
  rw [List.flatten_cons, List.flatten_nil, List.append_nil]
  refine (cut4 _).trans ((congrArg leaf4 ((arr_apply m c 5).trans (final5 m c))).trans ?_)
  refine Eq.trans (b := delta (leaf4 (Pw m c)) (leaf4 (Pm m c)) (leaf4 (Pv m c)) (leaf4 (Pg m c))) rfl ?_
  unfold Pw Pm Pv Pg
  iterate 4 try rw [leaf4_pack]

theorem out5 (c : Dev nD) :
    Pipeline.afterTail₀ cfgs (dats m) 0 (V0 m) [hostOps1] c main_v79 = delta (m ((c : Thread nD τ).loc main_arg5)) (m ((c : Thread nD τ).loc main_arg17)) (m ((c : Thread nD τ).loc main_arg29)) (m ((c : Thread nD τ).loc main_arg41)) := by
  unfold Pipeline.afterTail₀
  rw [List.flatten_cons, List.flatten_nil, List.append_nil]
  refine (cut5 _).trans ((congrArg leaf5 ((arr_apply m c 5).trans (final5 m c))).trans ?_)
  refine Eq.trans (b := delta (leaf5 (Pw m c)) (leaf5 (Pm m c)) (leaf5 (Pv m c)) (leaf5 (Pg m c))) rfl ?_
  unfold Pw Pm Pv Pg
  iterate 4 try rw [leaf5_pack]

theorem out6 (c : Dev nD) :
    Pipeline.afterTail₀ cfgs (dats m) 0 (V0 m) [hostOps1] c main_v81 = delta (m ((c : Thread nD τ).loc main_arg6)) (m ((c : Thread nD τ).loc main_arg18)) (m ((c : Thread nD τ).loc main_arg30)) (m ((c : Thread nD τ).loc main_arg42)) := by
  unfold Pipeline.afterTail₀
  rw [List.flatten_cons, List.flatten_nil, List.append_nil]
  refine (cut6 _).trans ((congrArg leaf6 ((arr_apply m c 5).trans (final5 m c))).trans ?_)
  refine Eq.trans (b := delta (leaf6 (Pw m c)) (leaf6 (Pm m c)) (leaf6 (Pv m c)) (leaf6 (Pg m c))) rfl ?_
  unfold Pw Pm Pv Pg
  iterate 4 try rw [leaf6_pack]

theorem out7 (c : Dev nD) :
    Pipeline.afterTail₀ cfgs (dats m) 0 (V0 m) [hostOps1] c main_v83 = delta (m ((c : Thread nD τ).loc main_arg7)) (m ((c : Thread nD τ).loc main_arg19)) (m ((c : Thread nD τ).loc main_arg31)) (m ((c : Thread nD τ).loc main_arg43)) := by
  unfold Pipeline.afterTail₀
  rw [List.flatten_cons, List.flatten_nil, List.append_nil]
  refine (cut7 _).trans ((congrArg leaf7 ((arr_apply m c 5).trans (final5 m c))).trans ?_)
  refine Eq.trans (b := delta (leaf7 (Pw m c)) (leaf7 (Pm m c)) (leaf7 (Pv m c)) (leaf7 (Pg m c))) rfl ?_
  unfold Pw Pm Pv Pg
  iterate 4 try rw [leaf7_pack]

theorem out8 (c : Dev nD) :
    Pipeline.afterTail₀ cfgs (dats m) 0 (V0 m) [hostOps1] c main_v85 = delta (m ((c : Thread nD τ).loc main_arg8)) (m ((c : Thread nD τ).loc main_arg20)) (m ((c : Thread nD τ).loc main_arg32)) (m ((c : Thread nD τ).loc main_arg44)) := by
  unfold Pipeline.afterTail₀
  rw [List.flatten_cons, List.flatten_nil, List.append_nil]
  refine (cut8 _).trans ((congrArg leaf8 ((arr_apply m c 5).trans (final5 m c))).trans ?_)
  refine Eq.trans (b := delta (leaf8 (Pw m c)) (leaf8 (Pm m c)) (leaf8 (Pv m c)) (leaf8 (Pg m c))) rfl ?_
  unfold Pw Pm Pv Pg
  iterate 4 try rw [leaf8_pack]

theorem out9 (c : Dev nD) :
    Pipeline.afterTail₀ cfgs (dats m) 0 (V0 m) [hostOps1] c main_v87 = delta (m ((c : Thread nD τ).loc main_arg9)) (m ((c : Thread nD τ).loc main_arg21)) (m ((c : Thread nD τ).loc main_arg33)) (m ((c : Thread nD τ).loc main_arg45)) := by
  unfold Pipeline.afterTail₀
  rw [List.flatten_cons, List.flatten_nil, List.append_nil]
  refine (cut9 _).trans ((congrArg leaf9 ((arr_apply m c 5).trans (final5 m c))).trans ?_)
  refine Eq.trans (b := delta (leaf9 (Pw m c)) (leaf9 (Pm m c)) (leaf9 (Pv m c)) (leaf9 (Pg m c))) rfl ?_
  unfold Pw Pm Pv Pg
  iterate 4 try rw [leaf9_pack]

theorem out10 (c : Dev nD) :
    Pipeline.afterTail₀ cfgs (dats m) 0 (V0 m) [hostOps1] c main_v89 = delta (m ((c : Thread nD τ).loc main_arg10)) (m ((c : Thread nD τ).loc main_arg22)) (m ((c : Thread nD τ).loc main_arg34)) (m ((c : Thread nD τ).loc main_arg46)) := by
  unfold Pipeline.afterTail₀
  rw [List.flatten_cons, List.flatten_nil, List.append_nil]
  refine (cut10 _).trans ((congrArg leaf10 ((arr_apply m c 5).trans (final5 m c))).trans ?_)
  refine Eq.trans (b := delta (leaf10 (Pw m c)) (leaf10 (Pm m c)) (leaf10 (Pv m c)) (leaf10 (Pg m c))) rfl ?_
  unfold Pw Pm Pv Pg
  iterate 4 try rw [leaf10_pack]

theorem out11 (c : Dev nD) :
    Pipeline.afterTail₀ cfgs (dats m) 0 (V0 m) [hostOps1] c main_v91 = delta (m ((c : Thread nD τ).loc main_arg11)) (m ((c : Thread nD τ).loc main_arg23)) (m ((c : Thread nD τ).loc main_arg35)) (m ((c : Thread nD τ).loc main_arg47)) := by
  unfold Pipeline.afterTail₀
  rw [List.flatten_cons, List.flatten_nil, List.append_nil]
  refine (cut11 _).trans ((congrArg leaf11 ((arr_apply m c 5).trans (final5 m c))).trans ?_)
  refine Eq.trans (b := delta (leaf11 (Pw m c)) (leaf11 (Pm m c)) (leaf11 (Pv m c)) (leaf11 (Pg m c))) rfl ?_
  unfold Pw Pm Pv Pg
  iterate 4 try rw [leaf11_pack]

theorem out12 (c : Dev nD) :
    Pipeline.afterTail₀ cfgs (dats m) 0 (V0 m) [hostOps1] c main_v95 = fstM (m ((c : Thread nD τ).loc main_arg12)) (m ((c : Thread nD τ).loc main_arg36)) := by
  unfold Pipeline.afterTail₀
  rw [List.flatten_cons, List.flatten_nil, List.append_nil]
  refine (cut12 _).trans ((congrArg leaf0 ((arr_apply m c 6).trans (final6 m c))).trans ?_)
  refine Eq.trans (b := fstM (leaf0 (Pm m c)) (leaf0 (Pg m c))) rfl ?_
  unfold Pm Pg
  iterate 4 try rw [leaf0_pack]

theorem out13 (c : Dev nD) :
    Pipeline.afterTail₀ cfgs (dats m) 0 (V0 m) [hostOps1] c main_v97 = fstM (m ((c : Thread nD τ).loc main_arg13)) (m ((c : Thread nD τ).loc main_arg37)) := by
  unfold Pipeline.afterTail₀
  rw [List.flatten_cons, List.flatten_nil, List.append_nil]
  refine (cut13 _).trans ((congrArg leaf1 ((arr_apply m c 6).trans (final6 m c))).trans ?_)
  refine Eq.trans (b := fstM (leaf1 (Pm m c)) (leaf1 (Pg m c))) rfl ?_
  unfold Pm Pg
  iterate 4 try rw [leaf1_pack]

theorem out14 (c : Dev nD) :
    Pipeline.afterTail₀ cfgs (dats m) 0 (V0 m) [hostOps1] c main_v99 = fstM (m ((c : Thread nD τ).loc main_arg14)) (m ((c : Thread nD τ).loc main_arg38)) := by
  unfold Pipeline.afterTail₀
  rw [List.flatten_cons, List.flatten_nil, List.append_nil]
  refine (cut14 _).trans ((congrArg leaf2 ((arr_apply m c 6).trans (final6 m c))).trans ?_)
  refine Eq.trans (b := fstM (leaf2 (Pm m c)) (leaf2 (Pg m c))) rfl ?_
  unfold Pm Pg
  iterate 4 try rw [leaf2_pack]

theorem out15 (c : Dev nD) :
    Pipeline.afterTail₀ cfgs (dats m) 0 (V0 m) [hostOps1] c main_v101 = fstM (m ((c : Thread nD τ).loc main_arg15)) (m ((c : Thread nD τ).loc main_arg39)) := by
  unfold Pipeline.afterTail₀
  rw [List.flatten_cons, List.flatten_nil, List.append_nil]
  refine (cut15 _).trans ((congrArg leaf3 ((arr_apply m c 6).trans (final6 m c))).trans ?_)
  refine Eq.trans (b := fstM (leaf3 (Pm m c)) (leaf3 (Pg m c))) rfl ?_
  unfold Pm Pg
  iterate 4 try rw [leaf3_pack]

theorem out16 (c : Dev nD) :
    Pipeline.afterTail₀ cfgs (dats m) 0 (V0 m) [hostOps1] c main_v103 = fstM (m ((c : Thread nD τ).loc main_arg16)) (m ((c : Thread nD τ).loc main_arg40)) := by
  unfold Pipeline.afterTail₀
  rw [List.flatten_cons, List.flatten_nil, List.append_nil]
  refine (cut16 _).trans ((congrArg leaf4 ((arr_apply m c 6).trans (final6 m c))).trans ?_)
  refine Eq.trans (b := fstM (leaf4 (Pm m c)) (leaf4 (Pg m c))) rfl ?_
  unfold Pm Pg
  iterate 4 try rw [leaf4_pack]

theorem out17 (c : Dev nD) :
    Pipeline.afterTail₀ cfgs (dats m) 0 (V0 m) [hostOps1] c main_v105 = fstM (m ((c : Thread nD τ).loc main_arg17)) (m ((c : Thread nD τ).loc main_arg41)) := by
  unfold Pipeline.afterTail₀
  rw [List.flatten_cons, List.flatten_nil, List.append_nil]
  refine (cut17 _).trans ((congrArg leaf5 ((arr_apply m c 6).trans (final6 m c))).trans ?_)
  refine Eq.trans (b := fstM (leaf5 (Pm m c)) (leaf5 (Pg m c))) rfl ?_
  unfold Pm Pg
  iterate 4 try rw [leaf5_pack]

theorem out18 (c : Dev nD) :
    Pipeline.afterTail₀ cfgs (dats m) 0 (V0 m) [hostOps1] c main_v107 = fstM (m ((c : Thread nD τ).loc main_arg18)) (m ((c : Thread nD τ).loc main_arg42)) := by
  unfold Pipeline.afterTail₀
  rw [List.flatten_cons, List.flatten_nil, List.append_nil]
  refine (cut18 _).trans ((congrArg leaf6 ((arr_apply m c 6).trans (final6 m c))).trans ?_)
  refine Eq.trans (b := fstM (leaf6 (Pm m c)) (leaf6 (Pg m c))) rfl ?_
  unfold Pm Pg
  iterate 4 try rw [leaf6_pack]

theorem out19 (c : Dev nD) :
    Pipeline.afterTail₀ cfgs (dats m) 0 (V0 m) [hostOps1] c main_v109 = fstM (m ((c : Thread nD τ).loc main_arg19)) (m ((c : Thread nD τ).loc main_arg43)) := by
  unfold Pipeline.afterTail₀
  rw [List.flatten_cons, List.flatten_nil, List.append_nil]
  refine (cut19 _).trans ((congrArg leaf7 ((arr_apply m c 6).trans (final6 m c))).trans ?_)
  refine Eq.trans (b := fstM (leaf7 (Pm m c)) (leaf7 (Pg m c))) rfl ?_
  unfold Pm Pg
  iterate 4 try rw [leaf7_pack]

theorem out20 (c : Dev nD) :
    Pipeline.afterTail₀ cfgs (dats m) 0 (V0 m) [hostOps1] c main_v111 = fstM (m ((c : Thread nD τ).loc main_arg20)) (m ((c : Thread nD τ).loc main_arg44)) := by
  unfold Pipeline.afterTail₀
  rw [List.flatten_cons, List.flatten_nil, List.append_nil]
  refine (cut20 _).trans ((congrArg leaf8 ((arr_apply m c 6).trans (final6 m c))).trans ?_)
  refine Eq.trans (b := fstM (leaf8 (Pm m c)) (leaf8 (Pg m c))) rfl ?_
  unfold Pm Pg
  iterate 4 try rw [leaf8_pack]

theorem out21 (c : Dev nD) :
    Pipeline.afterTail₀ cfgs (dats m) 0 (V0 m) [hostOps1] c main_v113 = fstM (m ((c : Thread nD τ).loc main_arg21)) (m ((c : Thread nD τ).loc main_arg45)) := by
  unfold Pipeline.afterTail₀
  rw [List.flatten_cons, List.flatten_nil, List.append_nil]
  refine (cut21 _).trans ((congrArg leaf9 ((arr_apply m c 6).trans (final6 m c))).trans ?_)
  refine Eq.trans (b := fstM (leaf9 (Pm m c)) (leaf9 (Pg m c))) rfl ?_
  unfold Pm Pg
  iterate 4 try rw [leaf9_pack]

theorem out22 (c : Dev nD) :
    Pipeline.afterTail₀ cfgs (dats m) 0 (V0 m) [hostOps1] c main_v115 = fstM (m ((c : Thread nD τ).loc main_arg22)) (m ((c : Thread nD τ).loc main_arg46)) := by
  unfold Pipeline.afterTail₀
  rw [List.flatten_cons, List.flatten_nil, List.append_nil]
  refine (cut22 _).trans ((congrArg leaf10 ((arr_apply m c 6).trans (final6 m c))).trans ?_)
  refine Eq.trans (b := fstM (leaf10 (Pm m c)) (leaf10 (Pg m c))) rfl ?_
  unfold Pm Pg
  iterate 4 try rw [leaf10_pack]

theorem out23 (c : Dev nD) :
    Pipeline.afterTail₀ cfgs (dats m) 0 (V0 m) [hostOps1] c main_v117 = fstM (m ((c : Thread nD τ).loc main_arg23)) (m ((c : Thread nD τ).loc main_arg47)) := by
  unfold Pipeline.afterTail₀
  rw [List.flatten_cons, List.flatten_nil, List.append_nil]
  refine (cut23 _).trans ((congrArg leaf11 ((arr_apply m c 6).trans (final6 m c))).trans ?_)
  refine Eq.trans (b := fstM (leaf11 (Pm m c)) (leaf11 (Pg m c))) rfl ?_
  unfold Pm Pg
  iterate 4 try rw [leaf11_pack]

theorem out24 (c : Dev nD) :
    Pipeline.afterTail₀ cfgs (dats m) 0 (V0 m) [hostOps1] c main_v121 = sndM (m ((c : Thread nD τ).loc main_arg24)) (m ((c : Thread nD τ).loc main_arg36)) := by
  unfold Pipeline.afterTail₀
  rw [List.flatten_cons, List.flatten_nil, List.append_nil]
  refine (cut24 _).trans ((congrArg leaf0 ((arr_apply m c 7).trans (final7 m c))).trans ?_)
  refine Eq.trans (b := sndM (leaf0 (Pv m c)) (leaf0 (Pg m c))) rfl ?_
  unfold Pv Pg
  iterate 4 try rw [leaf0_pack]

theorem out25 (c : Dev nD) :
    Pipeline.afterTail₀ cfgs (dats m) 0 (V0 m) [hostOps1] c main_v123 = sndM (m ((c : Thread nD τ).loc main_arg25)) (m ((c : Thread nD τ).loc main_arg37)) := by
  unfold Pipeline.afterTail₀
  rw [List.flatten_cons, List.flatten_nil, List.append_nil]
  refine (cut25 _).trans ((congrArg leaf1 ((arr_apply m c 7).trans (final7 m c))).trans ?_)
  refine Eq.trans (b := sndM (leaf1 (Pv m c)) (leaf1 (Pg m c))) rfl ?_
  unfold Pv Pg
  iterate 4 try rw [leaf1_pack]

theorem out26 (c : Dev nD) :
    Pipeline.afterTail₀ cfgs (dats m) 0 (V0 m) [hostOps1] c main_v125 = sndM (m ((c : Thread nD τ).loc main_arg26)) (m ((c : Thread nD τ).loc main_arg38)) := by
  unfold Pipeline.afterTail₀
  rw [List.flatten_cons, List.flatten_nil, List.append_nil]
  refine (cut26 _).trans ((congrArg leaf2 ((arr_apply m c 7).trans (final7 m c))).trans ?_)
  refine Eq.trans (b := sndM (leaf2 (Pv m c)) (leaf2 (Pg m c))) rfl ?_
  unfold Pv Pg
  iterate 4 try rw [leaf2_pack]

theorem out27 (c : Dev nD) :
    Pipeline.afterTail₀ cfgs (dats m) 0 (V0 m) [hostOps1] c main_v127 = sndM (m ((c : Thread nD τ).loc main_arg27)) (m ((c : Thread nD τ).loc main_arg39)) := by
  unfold Pipeline.afterTail₀
  rw [List.flatten_cons, List.flatten_nil, List.append_nil]
  refine (cut27 _).trans ((congrArg leaf3 ((arr_apply m c 7).trans (final7 m c))).trans ?_)
  refine Eq.trans (b := sndM (leaf3 (Pv m c)) (leaf3 (Pg m c))) rfl ?_
  unfold Pv Pg
  iterate 4 try rw [leaf3_pack]

theorem out28 (c : Dev nD) :
    Pipeline.afterTail₀ cfgs (dats m) 0 (V0 m) [hostOps1] c main_v129 = sndM (m ((c : Thread nD τ).loc main_arg28)) (m ((c : Thread nD τ).loc main_arg40)) := by
  unfold Pipeline.afterTail₀
  rw [List.flatten_cons, List.flatten_nil, List.append_nil]
  refine (cut28 _).trans ((congrArg leaf4 ((arr_apply m c 7).trans (final7 m c))).trans ?_)
  refine Eq.trans (b := sndM (leaf4 (Pv m c)) (leaf4 (Pg m c))) rfl ?_
  unfold Pv Pg
  iterate 4 try rw [leaf4_pack]

theorem out29 (c : Dev nD) :
    Pipeline.afterTail₀ cfgs (dats m) 0 (V0 m) [hostOps1] c main_v131 = sndM (m ((c : Thread nD τ).loc main_arg29)) (m ((c : Thread nD τ).loc main_arg41)) := by
  unfold Pipeline.afterTail₀
  rw [List.flatten_cons, List.flatten_nil, List.append_nil]
  refine (cut29 _).trans ((congrArg leaf5 ((arr_apply m c 7).trans (final7 m c))).trans ?_)
  refine Eq.trans (b := sndM (leaf5 (Pv m c)) (leaf5 (Pg m c))) rfl ?_
  unfold Pv Pg
  iterate 4 try rw [leaf5_pack]

theorem out30 (c : Dev nD) :
    Pipeline.afterTail₀ cfgs (dats m) 0 (V0 m) [hostOps1] c main_v133 = sndM (m ((c : Thread nD τ).loc main_arg30)) (m ((c : Thread nD τ).loc main_arg42)) := by
  unfold Pipeline.afterTail₀
  rw [List.flatten_cons, List.flatten_nil, List.append_nil]
  refine (cut30 _).trans ((congrArg leaf6 ((arr_apply m c 7).trans (final7 m c))).trans ?_)
  refine Eq.trans (b := sndM (leaf6 (Pv m c)) (leaf6 (Pg m c))) rfl ?_
  unfold Pv Pg
  iterate 4 try rw [leaf6_pack]

theorem out31 (c : Dev nD) :
    Pipeline.afterTail₀ cfgs (dats m) 0 (V0 m) [hostOps1] c main_v135 = sndM (m ((c : Thread nD τ).loc main_arg31)) (m ((c : Thread nD τ).loc main_arg43)) := by
  unfold Pipeline.afterTail₀
  rw [List.flatten_cons, List.flatten_nil, List.append_nil]
  refine (cut31 _).trans ((congrArg leaf7 ((arr_apply m c 7).trans (final7 m c))).trans ?_)
  refine Eq.trans (b := sndM (leaf7 (Pv m c)) (leaf7 (Pg m c))) rfl ?_
  unfold Pv Pg
  iterate 4 try rw [leaf7_pack]

theorem out32 (c : Dev nD) :
    Pipeline.afterTail₀ cfgs (dats m) 0 (V0 m) [hostOps1] c main_v137 = sndM (m ((c : Thread nD τ).loc main_arg32)) (m ((c : Thread nD τ).loc main_arg44)) := by
  unfold Pipeline.afterTail₀
  rw [List.flatten_cons, List.flatten_nil, List.append_nil]
  refine (cut32 _).trans ((congrArg leaf8 ((arr_apply m c 7).trans (final7 m c))).trans ?_)
  refine Eq.trans (b := sndM (leaf8 (Pv m c)) (leaf8 (Pg m c))) rfl ?_
  unfold Pv Pg
  iterate 4 try rw [leaf8_pack]

theorem out33 (c : Dev nD) :
    Pipeline.afterTail₀ cfgs (dats m) 0 (V0 m) [hostOps1] c main_v139 = sndM (m ((c : Thread nD τ).loc main_arg33)) (m ((c : Thread nD τ).loc main_arg45)) := by
  unfold Pipeline.afterTail₀
  rw [List.flatten_cons, List.flatten_nil, List.append_nil]
  refine (cut33 _).trans ((congrArg leaf9 ((arr_apply m c 7).trans (final7 m c))).trans ?_)
  refine Eq.trans (b := sndM (leaf9 (Pv m c)) (leaf9 (Pg m c))) rfl ?_
  unfold Pv Pg
  iterate 4 try rw [leaf9_pack]

theorem out34 (c : Dev nD) :
    Pipeline.afterTail₀ cfgs (dats m) 0 (V0 m) [hostOps1] c main_v141 = sndM (m ((c : Thread nD τ).loc main_arg34)) (m ((c : Thread nD τ).loc main_arg46)) := by
  unfold Pipeline.afterTail₀
  rw [List.flatten_cons, List.flatten_nil, List.append_nil]
  refine (cut34 _).trans ((congrArg leaf10 ((arr_apply m c 7).trans (final7 m c))).trans ?_)
  refine Eq.trans (b := sndM (leaf10 (Pv m c)) (leaf10 (Pg m c))) rfl ?_
  unfold Pv Pg
  iterate 4 try rw [leaf10_pack]

theorem out35 (c : Dev nD) :
    Pipeline.afterTail₀ cfgs (dats m) 0 (V0 m) [hostOps1] c main_v143 = sndM (m ((c : Thread nD τ).loc main_arg35)) (m ((c : Thread nD τ).loc main_arg47)) := by
  unfold Pipeline.afterTail₀
  rw [List.flatten_cons, List.flatten_nil, List.append_nil]
  refine (cut35 _).trans ((congrArg leaf11 ((arr_apply m c 7).trans (final7 m c))).trans ?_)
  refine Eq.trans (b := sndM (leaf11 (Pv m c)) (leaf11 (Pg m c))) rfl ?_
  unfold Pv Pg
  iterate 4 try rw [leaf11_pack]

end Tail

/-! ## The reference -/

section Reference
open Cert.AdamSmallRefIdeal Cert.AdamSmallRefIdeal.Gen

variable {s : Shape} (h : Cert.AdamSmallRefIdeal.S_.BroadcastsInDim s ![])

theorem ref_m (m g : FVec Ideal s .f32) :
    addf (mulf (broadcastInDim s ![] h (constant S_ .f32 0x3F666666#32)) m) (mulf (broadcastInDim s ![] h (constant S_ .f32 0x3DCCCCCD#32)) g) = fstM m g := rfl

theorem ref_v (v g : FVec Ideal s .f32) :
    addf (mulf (broadcastInDim s ![] h (constant S_ .f32 0x3F7FBE77#32)) v) (mulf (broadcastInDim s ![] h (constant S_ .f32 0x3A83126F#32)) (mulf g g)) = sndM v g := rfl

theorem ref_d (w m v g : FVec Ideal s .f32) :
    mulf (broadcastInDim s ![] h (constant S_ .f32 0xBA83126F#32)) (addf (Host.divf (Host.divf (addf (mulf (broadcastInDim s ![] h (constant S_ .f32 0x3F666666#32)) m) (mulf (broadcastInDim s ![] h (constant S_ .f32 0x3DCCCCCD#32)) g)) (broadcastInDim s ![] h (constant S_ .f32 0x3F26BD02#32))) (addf (Host.sqrt (Host.divf (addf (mulf (broadcastInDim s ![] h (constant S_ .f32 0x3F7FBE77#32)) v) (mulf (broadcastInDim s ![] h (constant S_ .f32 0x3A83126F#32)) (mulf g g))) (broadcastInDim s ![] h (constant S_ .f32 0x3C231ACC#32)))) (broadcastInDim s ![] h (constant S_ .f32 0x322BCC77#32)))) (mulf (broadcastInDim s ![] h (constant S_ .f32 0x3C23D70A#32)) w)) = delta w m v g := rfl

end Reference

theorem cong_delta {s : Shape} {w w' x x' v v' g g' : FVec Ideal s .f32} (hw : w = w') (hx : x = x') (hv : v = v') (hg : g = g') :
    delta w x v g = delta w' x' v' g' := by rw [hw, hx, hv, hg]

theorem cong_fstM {s : Shape} {x x' g g' : FVec Ideal s .f32} (hx : x = x') (hg : g = g') : fstM x g = fstM x' g' := by rw [hx, hg]

theorem cong_sndM {s : Shape} {v v' g g' : FVec Ideal s .f32} (hv : v = v') (hg : g = g') : sndM v g = sndM v' g' := by rw [hv, hg]

/-- The two programs compute the same updates and moments. -/
theorem algebraic : Cert.algebraic_AdamSmallIdeal_AdamSmallRefIdeal := by
  intro m g m' g' _ hargs
  refine ⟨fun c => delta (m ((c : Thread nD τ).loc main_arg0)) (m ((c : Thread nD τ).loc main_arg12)) (m ((c : Thread nD τ).loc main_arg24)) (m ((c : Thread nD τ).loc main_arg36)), fun c => delta (m ((c : Thread nD τ).loc main_arg1)) (m ((c : Thread nD τ).loc main_arg13)) (m ((c : Thread nD τ).loc main_arg25)) (m ((c : Thread nD τ).loc main_arg37)), fun c => delta (m ((c : Thread nD τ).loc main_arg2)) (m ((c : Thread nD τ).loc main_arg14)) (m ((c : Thread nD τ).loc main_arg26)) (m ((c : Thread nD τ).loc main_arg38)), fun c => delta (m ((c : Thread nD τ).loc main_arg3)) (m ((c : Thread nD τ).loc main_arg15)) (m ((c : Thread nD τ).loc main_arg27)) (m ((c : Thread nD τ).loc main_arg39)), fun c => delta (m ((c : Thread nD τ).loc main_arg4)) (m ((c : Thread nD τ).loc main_arg16)) (m ((c : Thread nD τ).loc main_arg28)) (m ((c : Thread nD τ).loc main_arg40)), fun c => delta (m ((c : Thread nD τ).loc main_arg5)) (m ((c : Thread nD τ).loc main_arg17)) (m ((c : Thread nD τ).loc main_arg29)) (m ((c : Thread nD τ).loc main_arg41)), fun c => delta (m ((c : Thread nD τ).loc main_arg6)) (m ((c : Thread nD τ).loc main_arg18)) (m ((c : Thread nD τ).loc main_arg30)) (m ((c : Thread nD τ).loc main_arg42)), fun c => delta (m ((c : Thread nD τ).loc main_arg7)) (m ((c : Thread nD τ).loc main_arg19)) (m ((c : Thread nD τ).loc main_arg31)) (m ((c : Thread nD τ).loc main_arg43)), fun c => delta (m ((c : Thread nD τ).loc main_arg8)) (m ((c : Thread nD τ).loc main_arg20)) (m ((c : Thread nD τ).loc main_arg32)) (m ((c : Thread nD τ).loc main_arg44)), fun c => delta (m ((c : Thread nD τ).loc main_arg9)) (m ((c : Thread nD τ).loc main_arg21)) (m ((c : Thread nD τ).loc main_arg33)) (m ((c : Thread nD τ).loc main_arg45)), fun c => delta (m ((c : Thread nD τ).loc main_arg10)) (m ((c : Thread nD τ).loc main_arg22)) (m ((c : Thread nD τ).loc main_arg34)) (m ((c : Thread nD τ).loc main_arg46)), fun c => delta (m ((c : Thread nD τ).loc main_arg11)) (m ((c : Thread nD τ).loc main_arg23)) (m ((c : Thread nD τ).loc main_arg35)) (m ((c : Thread nD τ).loc main_arg47)), fun c => fstM (m ((c : Thread nD τ).loc main_arg12)) (m ((c : Thread nD τ).loc main_arg36)), fun c => fstM (m ((c : Thread nD τ).loc main_arg13)) (m ((c : Thread nD τ).loc main_arg37)), fun c => fstM (m ((c : Thread nD τ).loc main_arg14)) (m ((c : Thread nD τ).loc main_arg38)), fun c => fstM (m ((c : Thread nD τ).loc main_arg15)) (m ((c : Thread nD τ).loc main_arg39)), fun c => fstM (m ((c : Thread nD τ).loc main_arg16)) (m ((c : Thread nD τ).loc main_arg40)), fun c => fstM (m ((c : Thread nD τ).loc main_arg17)) (m ((c : Thread nD τ).loc main_arg41)), fun c => fstM (m ((c : Thread nD τ).loc main_arg18)) (m ((c : Thread nD τ).loc main_arg42)), fun c => fstM (m ((c : Thread nD τ).loc main_arg19)) (m ((c : Thread nD τ).loc main_arg43)), fun c => fstM (m ((c : Thread nD τ).loc main_arg20)) (m ((c : Thread nD τ).loc main_arg44)), fun c => fstM (m ((c : Thread nD τ).loc main_arg21)) (m ((c : Thread nD τ).loc main_arg45)), fun c => fstM (m ((c : Thread nD τ).loc main_arg22)) (m ((c : Thread nD τ).loc main_arg46)), fun c => fstM (m ((c : Thread nD τ).loc main_arg23)) (m ((c : Thread nD τ).loc main_arg47)), fun c => sndM (m ((c : Thread nD τ).loc main_arg24)) (m ((c : Thread nD τ).loc main_arg36)), fun c => sndM (m ((c : Thread nD τ).loc main_arg25)) (m ((c : Thread nD τ).loc main_arg37)), fun c => sndM (m ((c : Thread nD τ).loc main_arg26)) (m ((c : Thread nD τ).loc main_arg38)), fun c => sndM (m ((c : Thread nD τ).loc main_arg27)) (m ((c : Thread nD τ).loc main_arg39)), fun c => sndM (m ((c : Thread nD τ).loc main_arg28)) (m ((c : Thread nD τ).loc main_arg40)), fun c => sndM (m ((c : Thread nD τ).loc main_arg29)) (m ((c : Thread nD τ).loc main_arg41)), fun c => sndM (m ((c : Thread nD τ).loc main_arg30)) (m ((c : Thread nD τ).loc main_arg42)), fun c => sndM (m ((c : Thread nD τ).loc main_arg31)) (m ((c : Thread nD τ).loc main_arg43)), fun c => sndM (m ((c : Thread nD τ).loc main_arg32)) (m ((c : Thread nD τ).loc main_arg44)), fun c => sndM (m ((c : Thread nD τ).loc main_arg33)) (m ((c : Thread nD τ).loc main_arg45)), fun c => sndM (m ((c : Thread nD τ).loc main_arg34)) (m ((c : Thread nD τ).loc main_arg46)), fun c => sndM (m ((c : Thread nD τ).loc main_arg35)) (m ((c : Thread nD τ).loc main_arg47)),
    (θ_run defs _ _).mono (fun r h c => ?_) (run_main m g),
    (θ_run Cert.AdamSmallRefIdeal.defs _ _).mono (fun r h c => ?_) (Cert.AdamSmallRefIdeal.Value.run (F := Ideal) m' g')⟩
  · exact ⟨((h c).2 main_v69 (Pipeline.mem_restRefs_of main_v69 (by decide) (by decide))).trans (out0 m c),
      ((h c).2 main_v71 (Pipeline.mem_restRefs_of main_v71 (by decide) (by decide))).trans (out1 m c),
      ((h c).2 main_v73 (Pipeline.mem_restRefs_of main_v73 (by decide) (by decide))).trans (out2 m c),
      ((h c).2 main_v75 (Pipeline.mem_restRefs_of main_v75 (by decide) (by decide))).trans (out3 m c),
      ((h c).2 main_v77 (Pipeline.mem_restRefs_of main_v77 (by decide) (by decide))).trans (out4 m c),
      ((h c).2 main_v79 (Pipeline.mem_restRefs_of main_v79 (by decide) (by decide))).trans (out5 m c),
      ((h c).2 main_v81 (Pipeline.mem_restRefs_of main_v81 (by decide) (by decide))).trans (out6 m c),
      ((h c).2 main_v83 (Pipeline.mem_restRefs_of main_v83 (by decide) (by decide))).trans (out7 m c),
      ((h c).2 main_v85 (Pipeline.mem_restRefs_of main_v85 (by decide) (by decide))).trans (out8 m c),
      ((h c).2 main_v87 (Pipeline.mem_restRefs_of main_v87 (by decide) (by decide))).trans (out9 m c),
      ((h c).2 main_v89 (Pipeline.mem_restRefs_of main_v89 (by decide) (by decide))).trans (out10 m c),
      ((h c).2 main_v91 (Pipeline.mem_restRefs_of main_v91 (by decide) (by decide))).trans (out11 m c),
      ((h c).2 main_v95 (Pipeline.mem_restRefs_of main_v95 (by decide) (by decide))).trans (out12 m c),
      ((h c).2 main_v97 (Pipeline.mem_restRefs_of main_v97 (by decide) (by decide))).trans (out13 m c),
      ((h c).2 main_v99 (Pipeline.mem_restRefs_of main_v99 (by decide) (by decide))).trans (out14 m c),
      ((h c).2 main_v101 (Pipeline.mem_restRefs_of main_v101 (by decide) (by decide))).trans (out15 m c),
      ((h c).2 main_v103 (Pipeline.mem_restRefs_of main_v103 (by decide) (by decide))).trans (out16 m c),
      ((h c).2 main_v105 (Pipeline.mem_restRefs_of main_v105 (by decide) (by decide))).trans (out17 m c),
      ((h c).2 main_v107 (Pipeline.mem_restRefs_of main_v107 (by decide) (by decide))).trans (out18 m c),
      ((h c).2 main_v109 (Pipeline.mem_restRefs_of main_v109 (by decide) (by decide))).trans (out19 m c),
      ((h c).2 main_v111 (Pipeline.mem_restRefs_of main_v111 (by decide) (by decide))).trans (out20 m c),
      ((h c).2 main_v113 (Pipeline.mem_restRefs_of main_v113 (by decide) (by decide))).trans (out21 m c),
      ((h c).2 main_v115 (Pipeline.mem_restRefs_of main_v115 (by decide) (by decide))).trans (out22 m c),
      ((h c).2 main_v117 (Pipeline.mem_restRefs_of main_v117 (by decide) (by decide))).trans (out23 m c),
      ((h c).2 main_v121 (Pipeline.mem_restRefs_of main_v121 (by decide) (by decide))).trans (out24 m c),
      ((h c).2 main_v123 (Pipeline.mem_restRefs_of main_v123 (by decide) (by decide))).trans (out25 m c),
      ((h c).2 main_v125 (Pipeline.mem_restRefs_of main_v125 (by decide) (by decide))).trans (out26 m c),
      ((h c).2 main_v127 (Pipeline.mem_restRefs_of main_v127 (by decide) (by decide))).trans (out27 m c),
      ((h c).2 main_v129 (Pipeline.mem_restRefs_of main_v129 (by decide) (by decide))).trans (out28 m c),
      ((h c).2 main_v131 (Pipeline.mem_restRefs_of main_v131 (by decide) (by decide))).trans (out29 m c),
      ((h c).2 main_v133 (Pipeline.mem_restRefs_of main_v133 (by decide) (by decide))).trans (out30 m c),
      ((h c).2 main_v135 (Pipeline.mem_restRefs_of main_v135 (by decide) (by decide))).trans (out31 m c),
      ((h c).2 main_v137 (Pipeline.mem_restRefs_of main_v137 (by decide) (by decide))).trans (out32 m c),
      ((h c).2 main_v139 (Pipeline.mem_restRefs_of main_v139 (by decide) (by decide))).trans (out33 m c),
      ((h c).2 main_v141 (Pipeline.mem_restRefs_of main_v141 (by decide) (by decide))).trans (out34 m c),
      ((h c).2 main_v143 (Pipeline.mem_restRefs_of main_v143 (by decide) (by decide))).trans (out35 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c),
      ((h c).2 main_arg25 (Pipeline.mem_restRefs_of main_arg25 (by decide) (by decide))).trans (W_main_arg25 m (dats m) c),
      ((h c).2 main_arg26 (Pipeline.mem_restRefs_of main_arg26 (by decide) (by decide))).trans (W_main_arg26 m (dats m) c),
      ((h c).2 main_arg27 (Pipeline.mem_restRefs_of main_arg27 (by decide) (by decide))).trans (W_main_arg27 m (dats m) c),
      ((h c).2 main_arg28 (Pipeline.mem_restRefs_of main_arg28 (by decide) (by decide))).trans (W_main_arg28 m (dats m) c),
      ((h c).2 main_arg29 (Pipeline.mem_restRefs_of main_arg29 (by decide) (by decide))).trans (W_main_arg29 m (dats m) c),
      ((h c).2 main_arg30 (Pipeline.mem_restRefs_of main_arg30 (by decide) (by decide))).trans (W_main_arg30 m (dats m) c),
      ((h c).2 main_arg31 (Pipeline.mem_restRefs_of main_arg31 (by decide) (by decide))).trans (W_main_arg31 m (dats m) c),
      ((h c).2 main_arg32 (Pipeline.mem_restRefs_of main_arg32 (by decide) (by decide))).trans (W_main_arg32 m (dats m) c),
      ((h c).2 main_arg33 (Pipeline.mem_restRefs_of main_arg33 (by decide) (by decide))).trans (W_main_arg33 m (dats m) c),
      ((h c).2 main_arg34 (Pipeline.mem_restRefs_of main_arg34 (by decide) (by decide))).trans (W_main_arg34 m (dats m) c),
      ((h c).2 main_arg35 (Pipeline.mem_restRefs_of main_arg35 (by decide) (by decide))).trans (W_main_arg35 m (dats m) c),
      ((h c).2 main_arg36 (Pipeline.mem_restRefs_of main_arg36 (by decide) (by decide))).trans (W_main_arg36 m (dats m) c),
      ((h c).2 main_arg37 (Pipeline.mem_restRefs_of main_arg37 (by decide) (by decide))).trans (W_main_arg37 m (dats m) c),
      ((h c).2 main_arg38 (Pipeline.mem_restRefs_of main_arg38 (by decide) (by decide))).trans (W_main_arg38 m (dats m) c),
      ((h c).2 main_arg39 (Pipeline.mem_restRefs_of main_arg39 (by decide) (by decide))).trans (W_main_arg39 m (dats m) c),
      ((h c).2 main_arg40 (Pipeline.mem_restRefs_of main_arg40 (by decide) (by decide))).trans (W_main_arg40 m (dats m) c),
      ((h c).2 main_arg41 (Pipeline.mem_restRefs_of main_arg41 (by decide) (by decide))).trans (W_main_arg41 m (dats m) c),
      ((h c).2 main_arg42 (Pipeline.mem_restRefs_of main_arg42 (by decide) (by decide))).trans (W_main_arg42 m (dats m) c),
      ((h c).2 main_arg43 (Pipeline.mem_restRefs_of main_arg43 (by decide) (by decide))).trans (W_main_arg43 m (dats m) c),
      ((h c).2 main_arg44 (Pipeline.mem_restRefs_of main_arg44 (by decide) (by decide))).trans (W_main_arg44 m (dats m) c),
      ((h c).2 main_arg45 (Pipeline.mem_restRefs_of main_arg45 (by decide) (by decide))).trans (W_main_arg45 m (dats m) c),
      ((h c).2 main_arg46 (Pipeline.mem_restRefs_of main_arg46 (by decide) (by decide))).trans (W_main_arg46 m (dats m) c),
      ((h c).2 main_arg47 (Pipeline.mem_restRefs_of main_arg47 (by decide) (by decide))).trans (W_main_arg47 m (dats m) c)⟩
  obtain ⟨h0, h1, h2, h3, h4, h5, h6, h7, h8, h9, h10, h11, h12, h13, h14, h15, h16, h17, h18, h19, h20, h21, h22, h23, h24, h25, h26, h27, h28, h29, h30, h31, h32, h33, h34, h35, hr⟩ := h c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47⟩ := hargs c
  exact ⟨(h0.trans (ref_d _ _ _ _ _)).trans (cong_delta a0 a12 a24 a36),
    (h1.trans (ref_d _ _ _ _ _)).trans (cong_delta a1 a13 a25 a37),
    (h2.trans (ref_d _ _ _ _ _)).trans (cong_delta a2 a14 a26 a38),
    (h3.trans (ref_d _ _ _ _ _)).trans (cong_delta a3 a15 a27 a39),
    (h4.trans (ref_d _ _ _ _ _)).trans (cong_delta a4 a16 a28 a40),
    (h5.trans (ref_d _ _ _ _ _)).trans (cong_delta a5 a17 a29 a41),
    (h6.trans (ref_d _ _ _ _ _)).trans (cong_delta a6 a18 a30 a42),
    (h7.trans (ref_d _ _ _ _ _)).trans (cong_delta a7 a19 a31 a43),
    (h8.trans (ref_d _ _ _ _ _)).trans (cong_delta a8 a20 a32 a44),
    (h9.trans (ref_d _ _ _ _ _)).trans (cong_delta a9 a21 a33 a45),
    (h10.trans (ref_d _ _ _ _ _)).trans (cong_delta a10 a22 a34 a46),
    (h11.trans (ref_d _ _ _ _ _)).trans (cong_delta a11 a23 a35 a47),
    (h12.trans (ref_m _ _ _)).trans (cong_fstM a12 a36),
    (h13.trans (ref_m _ _ _)).trans (cong_fstM a13 a37),
    (h14.trans (ref_m _ _ _)).trans (cong_fstM a14 a38),
    (h15.trans (ref_m _ _ _)).trans (cong_fstM a15 a39),
    (h16.trans (ref_m _ _ _)).trans (cong_fstM a16 a40),
    (h17.trans (ref_m _ _ _)).trans (cong_fstM a17 a41),
    (h18.trans (ref_m _ _ _)).trans (cong_fstM a18 a42),
    (h19.trans (ref_m _ _ _)).trans (cong_fstM a19 a43),
    (h20.trans (ref_m _ _ _)).trans (cong_fstM a20 a44),
    (h21.trans (ref_m _ _ _)).trans (cong_fstM a21 a45),
    (h22.trans (ref_m _ _ _)).trans (cong_fstM a22 a46),
    (h23.trans (ref_m _ _ _)).trans (cong_fstM a23 a47),
    (h24.trans (ref_v _ _ _)).trans (cong_sndM a24 a36),
    (h25.trans (ref_v _ _ _)).trans (cong_sndM a25 a37),
    (h26.trans (ref_v _ _ _)).trans (cong_sndM a26 a38),
    (h27.trans (ref_v _ _ _)).trans (cong_sndM a27 a39),
    (h28.trans (ref_v _ _ _)).trans (cong_sndM a28 a40),
    (h29.trans (ref_v _ _ _)).trans (cong_sndM a29 a41),
    (h30.trans (ref_v _ _ _)).trans (cong_sndM a30 a42),
    (h31.trans (ref_v _ _ _)).trans (cong_sndM a31 a43),
    (h32.trans (ref_v _ _ _)).trans (cong_sndM a32 a44),
    (h33.trans (ref_v _ _ _)).trans (cong_sndM a33 a45),
    (h34.trans (ref_v _ _ _)).trans (cong_sndM a34 a46),
    (h35.trans (ref_v _ _ _)).trans (cong_sndM a35 a47), hr⟩

end Cert.AdamSmallIdeal.Value

end
-- ==== Proof.LnBack.lean ====
/-
  The backward pass of one row of a layer norm over 1024 columns. The kernel computes it in closed form from the normalised
  row and the reciprocal of the deviation; differentiating the norm line by line gives the other form below. On finite
  entries the two are the same real number, because the centred entries of a row sum to zero.
-/
module

public import Idealize.ShloMosaic.Lib.Pointwise
public import Idealize.ShloMosaic.Lib.IdealHost
public import proofs.«01_k».proof.Proof.LnRow

@[expose] public section

noncomputable section

namespace Cert.LnRow

open Idealize.ShloMosaic

/-- The closed form of the row's gradient, of the gradient `e` of its normalised entries. -/
def back (z e : Fin 1024 → EReal) (j : Fin 1024) : EReal :=
  recip z * ((e j - Ideal.div (∑ k, e k) (Ideal.ofBits .f32 0x44800000#32))
    - normed z j * Ideal.div (∑ k, e k * normed z k) (Ideal.ofBits .f32 0x44800000#32))

/-- The gradient of the row's variance, before the mean is taken. -/
def dvar (z e : Fin 1024 → EReal) : EReal :=
  (∑ k, centred z k * e k) * (Ideal.ofBits .f32 0xBF000000#32 * Ideal.div (recip z)
    (Ideal.div (∑ k, centred z k * centred z k) (Ideal.ofBits .f32 0x44800000#32) + Ideal.ofBits .f32 0x3727C5AC#32))

/-- What the variance passes back to an entry. -/
def varTerm (z e : Fin 1024 → EReal) (j : Fin 1024) : EReal :=
  Ideal.div (dvar z e) (Ideal.ofBits .f32 0x44800000#32) * (Ideal.ofBits .f32 0x40000000#32 * centred z j)

/-- The row's gradient, each line of the norm differentiated in turn. -/
def backRef (z e : Fin 1024 → EReal) (j : Fin 1024) : EReal :=
  (e j * recip z + varTerm z e j)
    + Ideal.div ((∑ k, -(e k * recip z)) + ∑ k, -(varTerm z e k)) (Ideal.ofBits .f32 0x44800000#32)

/-! ## The constants -/

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The term under the root keeps it away from zero. -/
theorem ofBits_eps : ∃ ε : ℝ, 0 < ε ∧ Ideal.ofBits .f32 0x3727C5AC#32 = (ε : EReal) :=
  ⟨10995116 / 1099511627776, by norm_num, by simp [Ideal.ofBits, Ideal.ieee, -EReal.coe_mul]; norm_num⟩

/-! ## On the reals -/

theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem div_1024 (x : ℝ) : Ideal.div (x : EReal) (Ideal.ofBits .f32 0x44800000#32) = ((x * (1 / 1024) : ℝ) : EReal) := by
  rw [ofBits_1024, Ideal.div_coe (by norm_num), ← EReal.coe_mul]

/-- The centred entry of a real row. -/
def cen (z : Fin 1024 → ℝ) (j : Fin 1024) : ℝ := z j - (∑ k, z k) * (1 / 1024)

theorem sum_cen (z : Fin 1024 → ℝ) : ∑ k, cen z k = 0 := by
  unfold cen
  rw [Finset.sum_sub_distrib, Finset.sum_const, Finset.card_univ, Fintype.card_fin, nsmul_eq_mul]
  push_cast
  ring

theorem centred_coe (z : Fin 1024 → ℝ) (j : Fin 1024) : centred (fun k => (z k : EReal)) j = (cen z j : EReal) := by
  unfold centred cen
  rw [sum_coe, div_1024, ← EReal.coe_sub]

/-- The mean of the squares and the term beside it. -/
def vareps (z : Fin 1024 → ℝ) (ε : ℝ) : ℝ := (∑ k, cen z k * cen z k) * (1 / 1024) + ε

theorem vareps_pos (z : Fin 1024 → ℝ) {ε : ℝ} (h : 0 < ε) : 0 < vareps z ε := by
  have : 0 ≤ ∑ k, cen z k * cen z k := Finset.sum_nonneg fun k _ => mul_self_nonneg _
  unfold vareps
  linarith [mul_nonneg this (by norm_num : (0 : ℝ) ≤ 1 / 1024)]

theorem vareps_coe (z : Fin 1024 → ℝ) {ε : ℝ} (h : Ideal.ofBits .f32 0x3727C5AC#32 = (ε : EReal)) :
    Ideal.div (∑ k, centred (fun k => (z k : EReal)) k * centred (fun k => (z k : EReal)) k) (Ideal.ofBits .f32 0x44800000#32)
      + Ideal.ofBits .f32 0x3727C5AC#32 = (vareps z ε : EReal) := by
  simp only [centred_coe, ← EReal.coe_mul]
  rw [sum_coe, div_1024, h, ← EReal.coe_add]
  rfl

theorem recip_coe (z : Fin 1024 → ℝ) {ε : ℝ} (hp : 0 < ε) (h : Ideal.ofBits .f32 0x3727C5AC#32 = (ε : EReal)) :
    recip (fun k => (z k : EReal)) = (((Real.sqrt (vareps z ε))⁻¹ : ℝ) : EReal) := by
  unfold recip
  rw [vareps_coe z h, Ideal.rsqrt_coe, if_neg (not_lt.mpr (vareps_pos z hp).le), if_neg (vareps_pos z hp).ne']

/-- The two forms agree on a row of real entries. -/
theorem backRef_coe (z e : Fin 1024 → ℝ) (j : Fin 1024) :
    backRef (fun k => (z k : EReal)) (fun k => (e k : EReal)) j = back (fun k => (z k : EReal)) (fun k => (e k : EReal)) j := by
  obtain ⟨ε, hp, h⟩ := ofBits_eps
  have hw := vareps_pos z hp
  have hr := recip_coe z hp h
  have hv := vareps_coe z h
  have hrr : (Real.sqrt (vareps z ε))⁻¹ * (Real.sqrt (vareps z ε))⁻¹ = 1 / vareps z ε := by
    rw [← mul_inv, Real.mul_self_sqrt hw.le, one_div]
  unfold backRef varTerm dvar back normed
  rw [hv, hr]
  generalize (Real.sqrt (vareps z ε))⁻¹ = r at hrr ⊢
  have hw' : vareps z ε ≠ 0 := hw.ne'
  simp only [centred_coe]
  rw [Ideal.div_coe hw', ofBits_neg_half, ofBits_two]
  simp only [← EReal.coe_mul, sum_coe, div_1024, ← EReal.coe_neg, ← EReal.coe_add, ← EReal.coe_sub]
  refine congrArg _ ?_
  have hc := sum_cen z
  have h1 : ∑ k, -(e k * r) = -((∑ k, e k) * r) := by rw [Finset.sum_neg_distrib, Finset.sum_mul]
  have h2 : ∀ q : ℝ, ∑ k, -(q * (2 * cen z k)) = 0 := fun q => by
    rw [Finset.sum_neg_distrib, ← Finset.mul_sum, ← Finset.mul_sum, hc]
    ring
  have h3 : ∑ k, e k * (cen z k * r) = (∑ k, cen z k * e k) * r := by
    rw [Finset.sum_mul]
    exact Finset.sum_congr rfl fun k _ => by ring
  rw [h1, h2, h3]
  generalize ∑ k, cen z k * e k = S
  generalize ∑ k, e k = E
  rw [← hrr]
  ring

/-- An extended real whose absolute value is below infinity is a real number. -/
theorem exists_coe {x : EReal} (h : x ≠ ⊥) (h' : x ≠ ⊤) : ∃ r : ℝ, x = (r : EReal) :=
  ⟨x.toReal, (EReal.coe_toReal h' h).symm⟩

theorem backRef_eq (z e : Fin 1024 → EReal) (hz : ∀ k, ∃ r : ℝ, z k = (r : EReal)) (he : ∀ k, ∃ r : ℝ, e k = (r : EReal)) (j : Fin 1024) :
    backRef z e j = back z e j := by
  choose z' hz' using hz
  choose e' he' using he
  obtain rfl : z = fun k => (z' k : EReal) := funext hz'
  obtain rfl : e = fun k => (e' k : EReal) := funext he'
  exact backRef_coe z' e' j

end Cert.LnRow

end
-- ==== Proof.LnO.lean ====
/-
  The gradient that passes back through the output projection and its layer norm: the gradient of the row before the norm, its product with
  the transposed weights, and the gradients of the norm's scale and shift. The kernel takes row tiles of 384 rows, with the
  normalised rows and the reciprocals of the deviations computed beforehand; the reference differentiates the norm and the
  product.
-/
module

public import proofs.«01_k».proof.Defs
public import proofs.«01_k».proof.Proof.Gen.LnOIdeal.Value
public import proofs.«01_k».proof.Proof.Gen.LnORefIdeal.Run
public import proofs.«01_k».proof.Proof.Gen.Pre_finite_o
public import proofs.«01_k».proof.Proof.LnBack
public import Idealize.ShloMosaic.Lib.Pointwise
public import Idealize.ShloMosaic.Lib.KernelVsHost
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.LnOIdeal.Value

open Cert.LnOIdeal Cert.LnOIdeal.Gen Idealize.ShloMosaic Idealize.ShloMosaic.TcCoe Idealize.SL.Sem
open Cert.LnRow

/-! ## One point's blocks -/

theorem pay5_apply (dx xh : Vec Ideal S384x1024 .f32) (g : Vec Ideal S1x1024 .f32) (rs : Vec Ideal S384x1 .f32) (r : Fin 384) (j : Fin 1024) :
    k0_pay5 dx xh g rs (ix2 r j) = rs (ix2 r 0) * ((dx (ix2 r j) * g (ix2 0 j) - Ideal.div (∑ k : Fin 1024, dx (ix2 r k) * g (ix2 0 k)) (Ideal.ofBits .f32 0x44800000#32))
      - xh (ix2 r j) * Ideal.div (∑ k : Fin 1024, dx (ix2 r k) * g (ix2 0 k) * xh (ix2 r k)) (Ideal.ofBits .f32 0x44800000#32)) := by
  pointwise [k0_pay5, k0_pay4]

theorem pay6_apply (dx xh : Vec Ideal S384x1024 .f32) (acc : Vec Ideal S1x1024 .f32) (i : Fin 1) (j : Fin 1024) :
    k0_pay6 dx xh acc (ix2 i j) = acc (ix2 i j) + ∑ r : Fin 384, dx (ix2 r j) * xh (ix2 r j) := by
  pointwise [k0_pay6, k0_pay4]

theorem pay1_apply (dx : Vec Ideal S384x1024 .f32) (acc : Vec Ideal S1x1024 .f32) (i : Fin 1) (j : Fin 1024) :
    k0_pay1 dx acc (ix2 i j) = acc (ix2 i j) + ∑ r : Fin 384, dx (ix2 r j) := by
  pointwise [k0_pay1]

theorem pay2_apply (v : Vec Ideal S384x1024 .f32) (w : Vec Ideal S1024x1024 .bf16) (r : Fin 384) (j : Fin 1024) :
    k0_pay2 v w (ix2 r j) = ∑ k : Fin 1024, v (ix2 r k) * w (ix2 j k) := by
  pointwise [k0_pay2]

theorem pay3_apply (j : S8x1024.Idx) : (k0_pay3 (F := Ideal)) j = 0 := by
  pointwise [k0_pay3]

/-! ## The rows before the norm -/

/-- The centred rows. -/
def kc (Z : FVec Ideal S8448x1024 .f32) : FVec Ideal S8448x1024 .f32 :=
  (subf Z (broadcastInDim S8448x1024 ![0, 1] bcast_S8448x1_S8448x1024_0_1 (Host.divf (broadcastInDim S8448x1 ![0] bcast_S8448_S8448x1_0 (Host.reduceAdd Z (constant S_ .f32 0x00000000#32) reducesTo_S8448x1024_S8448_d1 h_S_)) (broadcastInDim S8448x1 ![] bcast_S_S8448x1 (constant S_ .f32 0x44800000#32)))))

theorem kc_apply (Z : FVec Ideal S8448x1024 .f32) (i : Fin 8448) (j : Fin 1024) : kc Z (ix2 i j) = centred (fun k => Z (ix2 i k)) j := by
  unfold centred
  pointwise [kc]

/-- The variances and the term beside them. -/
def kv (C : FVec Ideal S8448x1024 .f32) : FVec Ideal S8448x1 .f32 :=
  (addf (Host.divf (broadcastInDim S8448x1 ![0] bcast_S8448_S8448x1_0 (Host.reduceAdd (mulf C C) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))

theorem kv_apply (C : FVec Ideal S8448x1024 .f32) (i : Fin 8448) :
    kv C (ix2 i 0) = Ideal.div (∑ k : Fin 1024, C (ix2 i k) * C (ix2 i k)) (Ideal.ofBits .f32 0x44800000#32) + Ideal.ofBits .f32 0x3727C5AC#32 := by
  pointwise [kv]

theorem kr_apply (Z : FVec Ideal S8448x1024 .f32) (i : Fin 8448) : Host.rsqrt (kv (kc Z)) (ix2 i 0) = recip (fun k => Z (ix2 i k)) := by
  unfold recip
  simp only [← kc_apply]
  rw [← kv_apply]
  rfl

def kn (C : FVec Ideal S8448x1024 .f32) (r : FVec Ideal S8448x1 .f32) : FVec Ideal S8448x1024 .f32 :=
  mulf C (broadcastInDim S8448x1024 ![0, 1] bcast_S8448x1_S8448x1024_0_1 r)

theorem kn_apply (Z : FVec Ideal S8448x1024 .f32) (i : Fin 8448) (j : Fin 1024) : kn (kc Z) (Host.rsqrt (kv (kc Z))) (ix2 i j) = normed (fun k => Z (ix2 i k)) j := by
  unfold normed
  rw [← kc_apply, ← kr_apply]
  generalize Host.rsqrt (kv (kc Z)) = R
  generalize kc Z = C
  pointwise [kn]

variable (m : (ℓ : Loc nD τ sig) → Buf (Elt Ideal) ℓ)

theorem row_lt (t : Fin cfg0.N) (r : Fin 384) : t.val * 384 + r.val < 8448 := by
  have := lt_of_lt_of_eq t.isLt (N_0 : cfg0.N = 22)
  omega

theorem V_xh (c : Dev nD) : V m c main_v17 = kn (kc (m ((c : Thread nD τ).loc main_arg0))) (Host.rsqrt (kv (kc (m ((c : Thread nD τ).loc main_arg0))))) := by
  show StableHlo.after hostOps0 _ _ = _
  after_results <;> rfl

theorem V_rs (c : Dev nD) : V m c main_v13 = Host.rsqrt (kv (kc (m ((c : Thread nD τ).loc main_arg0)))) := by
  show StableHlo.after hostOps0 _ _ = _
  after_results <;> rfl

/-- The weights are cast before the call, which over the reals changes nothing. -/
theorem V_w (c : Dev nD) : V m c main_v18 = m ((c : Thread nD τ).loc main_arg4) := by
  show StableHlo.after hostOps0 _ _ = _
  after_results <;> rfl

theorem V_g (c : Dev nD) (j : Fin 1024) : V m c main_v19 (ix2 0 j) = m ((c : Thread nD τ).loc main_arg1) (ix1 j) := by
  have h : V m c main_v19 = shapeCast _ (m ((c : Thread nD τ).loc main_arg1)) shapeCasts_S1024_S1x1024 := by
    show StableHlo.after hostOps0 _ _ = _
    after_results <;> rfl
  rw [h]
  generalize m ((c : Thread nD τ).loc main_arg1) = v
  pointwise

/-- Windows 0, 1, 2, 5 and 7 move down one row tile per point; the others hold their whole arrays. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

theorem iblk0_apply (c : Dev nD) (t : Fin cfg0.N) (r : Fin 384) (k : Fin 1024) :
    iblk m c 0 t (ix2 r k) = m ((c : Thread nD τ).loc main_arg5) (ix2 ⟨t.val * 384 + r.val, row_lt t r⟩ k) := by
  obtain ⟨e0, e1⟩ := idx0 t
  show V m c main_arg5 (((cfg0.win 0).blk t).view.emb (ix2 r k)) = _
  rw [V_main_arg5]
  refine congrArg _ (funext fun a => Fin.ext ?_)
  match a with
  | ⟨0, _⟩ => show win0_0.index t (0 : Fin 2) * 384 + 1 * r.val = t.val * 384 + r.val; rw [e0]; omega
  | ⟨1, _⟩ => show win0_0.index t (1 : Fin 2) * 1024 + 1 * k.val = k.val; rw [e1]; omega

theorem iblk1_apply (c : Dev nD) (t : Fin cfg0.N) (r : Fin 384) (k : Fin 1024) :
    iblk m c 1 t (ix2 r k) = normed (fun k => m ((c : Thread nD τ).loc main_arg0) (ix2 ⟨t.val * 384 + r.val, row_lt t r⟩ k)) k := by
  obtain ⟨e0, e1⟩ := idx1 t
  refine Eq.trans (b := V m c main_v17 (ix2 ⟨t.val * 384 + r.val, row_lt t r⟩ k)) ?_ ((congrFun (V_xh m c) _).trans (kn_apply _ _ _))
  show V m c main_v17 (((cfg0.win 1).blk t).view.emb (ix2 r k)) = _
  refine congrArg _ (funext fun a => Fin.ext ?_)
  match a with
  | ⟨0, _⟩ => show win0_1.index t (0 : Fin 2) * 384 + 1 * r.val = t.val * 384 + r.val; rw [e0]; omega
  | ⟨1, _⟩ => show win0_1.index t (1 : Fin 2) * 1024 + 1 * k.val = k.val; rw [e1]; omega

theorem iblk2_apply (c : Dev nD) (t : Fin cfg0.N) (r : Fin 384) :
    iblk m c 2 t (ix2 r 0) = recip (fun k => m ((c : Thread nD τ).loc main_arg0) (ix2 ⟨t.val * 384 + r.val, row_lt t r⟩ k)) := by
  obtain ⟨e0, e1⟩ := idx2 t
  refine Eq.trans (b := V m c main_v13 (ix2 ⟨t.val * 384 + r.val, row_lt t r⟩ 0)) ?_ ((congrFun (V_rs m c) _).trans (kr_apply _ _))
  show V m c main_v13 (((cfg0.win 2).blk t).view.emb (ix2 r 0)) = _
  refine congrArg _ (funext fun a => Fin.ext ?_)
  match a with
  | ⟨0, _⟩ => show win0_2.index t (0 : Fin 2) * 384 + 1 * r.val = t.val * 384 + r.val; rw [e0]; omega
  | ⟨1, _⟩ => show win0_2.index t (1 : Fin 2) * 1 + 1 * 0 = 0; rw [e1]

theorem iblk3_apply (c : Dev nD) (t : Fin cfg0.N) (k : Fin 1024) :
    iblk m c 3 t (ix2 0 k) = m ((c : Thread nD τ).loc main_arg1) (ix1 k) := by
  obtain ⟨e0, e1⟩ := idx3 t
  refine Eq.trans (b := V m c main_v19 (ix2 0 k)) ?_ (V_g m c k)
  show V m c main_v19 (((cfg0.win 3).blk t).view.emb (ix2 0 k)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 1024 + 1 * k.val = k.val; rw [e1]; omega

theorem iblk4_apply (c : Dev nD) (t : Fin cfg0.N) (j : Fin 1024) (k : Fin 1024) :
    iblk m c 4 t (ix2 j k) = m ((c : Thread nD τ).loc main_arg4) (ix2 j k) := by
  obtain ⟨e0, e1⟩ := idx4 t
  refine Eq.trans (b := V m c main_v18 (ix2 j k)) ?_ (congrFun (V_w m c) _)
  show V m c main_v18 (((cfg0.win 4).blk t).view.emb (ix2 j k)) = _
  refine congrArg _ (funext fun a => Fin.ext ?_)
  match a with
  | ⟨0, _⟩ => show win0_4.index t (0 : Fin 2) * 1024 + 1 * j.val = j.val; rw [e0]; omega
  | ⟨1, _⟩ => show win0_4.index t (1 : Fin 2) * 1024 + 1 * k.val = k.val; rw [e1]; omega

/-! ## What a point leaves -/

theorem outs5 (c : Dev nD) (t : Fin cfg0.N) : (outsAt0 m c t.val t.isLt).1 = k0_pay5 (iblk m c 0 t) (iblk m c 1 t) (iblk m c 3 t) (iblk m c 2 t) := by
  by_cases h0 : t.val % 22 = 0
  · rw [outsAt0_A m c t h0]
    dsimp only
    frame_out
  · rw [outsAt0_B m c t h0]
    dsimp only
    frame_out

theorem outs7 (c : Dev nD) (t : Fin cfg0.N) : (outsAt0 m c t.val t.isLt).2.2 = k0_pay2 (k0_pay5 (iblk m c 0 t) (iblk m c 1 t) (iblk m c 3 t) (iblk m c 2 t)) (iblk m c 4 t) := by
  by_cases h0 : t.val % 22 = 0
  · rw [outsAt0_A m c t h0]
    dsimp only
    frame_out
  · rw [outsAt0_B m c t h0]
    dsimp only
    frame_out

/-- Rows 0 and 1 stored over earlier contents. -/
theorem store_rows {κ : Kind} {sp : Space} (v : View sig κ sp S8x1024 .f32) (f : v.ty.Contents (Elt Ideal)) (w0 w1 : FVec Ideal S1x1024 .f32)
    (L : List (View.Piece (Elt Ideal) S8x1024 .f32)) (y : S8x1024.Idx) :
    v.read (Elt Ideal) (v.writes (Elt Ideal) f ((⟨Rect.unit (s := S8x1024) ![1, 0] ![1, 1024] inb_S8x1024_S1x1024_1_0, w1⟩ : View.Piece (Elt Ideal) S8x1024 .f32)
        :: ⟨Rect.unit (s := S8x1024) ![0, 0] ![1, 1024] inb_S8x1024_S1x1024_0_0, w0⟩ :: L)) y
      = if (y 0).val = 0 then w0 (ix2 0 (y 1)) else if (y 0).val = 1 then w1 (ix2 0 (y 1)) else v.read (Elt Ideal) (v.writes (Elt Ideal) f L) y := by
  split
  · next h =>
    rw [View.read_writes_cons_rows_of_not_mem (d := ![8, 1024]) v f inb_S8x1024_S1x1024_1_0 w1 _ y (o := 1) (W := 1) rfl rfl (Or.inl (by rw [h]; decide))]
    exact View.read_writes_cons_rows_of_mem (d := ![8, 1024]) v f inb_S8x1024_S1x1024_0_0 w0 _ y (ix2 0 (y 1)) (o := 0) rfl (by rw [h]; rfl) rfl
  · next h =>
    split
    · next h1 =>
      exact View.read_writes_cons_rows_of_mem (d := ![8, 1024]) v f inb_S8x1024_S1x1024_1_0 w1 _ y (ix2 0 (y 1)) (o := 1) rfl (by rw [h1]; rfl) rfl
    · next h1 =>
      rw [View.read_writes_cons_rows_of_not_mem (d := ![8, 1024]) v f inb_S8x1024_S1x1024_1_0 w1 _ y (o := 1) (W := 1) rfl rfl (Or.inr (by omega)),
        View.read_writes_cons_rows_of_not_mem (d := ![8, 1024]) v f inb_S8x1024_S1x1024_0_0 w0 _ y (o := 0) (W := 1) rfl rfl (Or.inr (by omega))]

/-- What a point adds to the two rows. -/
def part (dx xh : Vec Ideal S384x1024 .f32) (a : Fin 8) (b : Fin 1024) : EReal :=
  if a.val = 0 then ∑ r : Fin 384, dx (ix2 r b) * xh (ix2 r b) else if a.val = 1 then ∑ r : Fin 384, dx (ix2 r b) else 0

theorem ld_row0 (X : FVec Ideal S8x1024 .f32) (y : S8x1024.Idx) (h : (y 0).val = 0) :
    View.ld (Val := Elt Ideal) (e' := .f32) X (Rect.unit (s := S8x1024) ![0, 0] ![1, 1024] inb_S8x1024_S1x1024_0_0) (ix2 0 (y 1)) = X y := by
  refine congrArg X (funext fun a => Fin.ext ?_)
  match a with
  | ⟨0, _⟩ => exact h.symm
  | ⟨1, _⟩ => show 0 + 1 * (y 1).val = (y 1).val; omega

theorem ld_row1 (X : FVec Ideal S8x1024 .f32) (y : S8x1024.Idx) (h : (y 0).val = 1) :
    View.ld (Val := Elt Ideal) (e' := .f32) X (Rect.unit (s := S8x1024) ![1, 0] ![1, 1024] inb_S8x1024_S1x1024_1_0) (ix2 0 (y 1)) = X y := by
  refine congrArg X (funext fun a => Fin.ext ?_)
  match a with
  | ⟨0, _⟩ => exact h.symm
  | ⟨1, _⟩ => show 0 + 1 * (y 1).val = (y 1).val; omega

/-- Both rows over contents `X`. -/
theorem rows_eq (dx xh : Vec Ideal S384x1024 .f32) (X : FVec Ideal S8x1024 .f32) (y : S8x1024.Idx) :
    (if (y 0).val = 0 then k0_pay6 dx xh (View.ld (Val := Elt Ideal) (e' := .f32) X (Rect.unit (s := S8x1024) ![0, 0] ![1, 1024] inb_S8x1024_S1x1024_0_0)) (ix2 0 (y 1))
      else if (y 0).val = 1 then k0_pay1 dx (View.ld (Val := Elt Ideal) (e' := .f32) X (Rect.unit (s := S8x1024) ![1, 0] ![1, 1024] inb_S8x1024_S1x1024_1_0)) (ix2 0 (y 1))
      else X y) = X y + part dx xh (y 0) (y 1) := by
  unfold part
  split
  · next h => exact (pay6_apply dx xh _ 0 (y 1)).trans (congrArg (fun a : EReal => a + _) (ld_row0 X y h))
  · split
    · next h => exact (pay1_apply dx _ 0 (y 1)).trans (congrArg (fun a : EReal => a + _) (ld_row1 X y h))
    · rw [add_zero]

theorem outs6_A (c : Dev nD) (t : Fin cfg0.N) (h0 : t.val % 22 = 0) (y : S8x1024.Idx) :
    (outsAt0 m c t.val t.isLt).2.1 y = 0 + part (iblk m c 0 t) (iblk m c 1 t) (y 0) (y 1) := by
  rw [outsAt0_A m c t h0]
  dsimp only
  frame_out
  rw [View.readCov_skip _ _ _ _ _ (by decide), View.readCov_fill _ _ _ _ _ (by decide), View.readCov_fill _ _ _ _ _ (by decide),
    ← View.read_writes_junk_eq_canon (ms0_6 t).view]
  refine (store_rows _ _ _ _ _ y).trans ?_
  rw [View.read_writes_junk_eq_canon, View.canon_cons_unit_lit' _ _ _ (by decide)]
  refine (rows_eq _ _ _ y).trans ?_
  rw [pay3_apply]

theorem outs6_B (c : Dev nD) (t : Fin cfg0.N) (h0 : ¬t.val % 22 = 0) (y : S8x1024.Idx) :
    (outsAt0 m c t.val t.isLt).2.1 y = (outsAt0 m c (t.val - 1) (Nat.lt_of_le_of_lt (Nat.sub_le _ _) t.isLt)).2.1 y + part (iblk m c 0 t) (iblk m c 1 t) (y 0) (y 1) := by
  rw [outsAt0_B m c t h0]
  dsimp only
  frame_out
  generalize (outsAt0 m c (t.val - 1) (Nat.lt_of_le_of_lt (Nat.sub_le _ _) t.isLt)).2.1 = X
  refine (store_rows _ _ _ _ _ y).trans ?_
  rw [View.writes_nil, Memref.IsWhole.read_unread]
  exact rows_eq _ _ _ y

/-! ## The whole arrays -/

/-- The gradients of the normalised entries of row `i`. -/
def erow (dx : FVec Ideal S8448x1024 .f32) (g : FVec Ideal S1024 .f32) (i : Fin 8448) (k : Fin 1024) : EReal := dx (ix2 i k) * g (ix1 k)

/-- The gradient of the rows before the norm. -/
def G5 (c : Dev nD) : Buf (Elt Ideal) ((c : Thread nD τ).loc main_v20_0) := fun i =>
  back (fun k => m ((c : Thread nD τ).loc main_arg0) (ix2 (i 0) k)) (erow (m ((c : Thread nD τ).loc main_arg5)) (m ((c : Thread nD τ).loc main_arg1)) (i 0)) (i 1)

/-- The gradients of the scale, in row 0, and of the shift, in row 1. -/
def scaleShift (Z dx : FVec Ideal S8448x1024 .f32) (a : Fin 8) (b : Fin 1024) : EReal :=
  if a.val = 0 then ∑ i : Fin 8448, dx (ix2 i b) * normed (fun k => Z (ix2 i k)) b else if a.val = 1 then ∑ i : Fin 8448, dx (ix2 i b) else 0

def G6 (c : Dev nD) : Buf (Elt Ideal) ((c : Thread nD τ).loc main_v20_1) := fun y =>
  scaleShift (m ((c : Thread nD τ).loc main_arg0)) (m ((c : Thread nD τ).loc main_arg5)) (y 0) (y 1)

/-- Its product with the transposed weights. -/
def byWeights (Y : FVec Ideal S8448x1024 .f32) (w : FVec Ideal S1024x1024 .f32) (i : Fin 8448) (j : Fin 1024) : EReal :=
  ∑ k : Fin 1024, Y (ix2 i k) * w (ix2 j k)

def G7 (c : Dev nD) : Buf (Elt Ideal) ((c : Thread nD τ).loc main_v20_2) := fun i =>
  byWeights (G5 m c) (m ((c : Thread nD τ).loc main_arg4)) (i 0) (i 1)

theorem pay5_eq (c : Dev nD) (t : Fin cfg0.N) (r : Fin 384) (j : Fin 1024) :
    k0_pay5 (iblk m c 0 t) (iblk m c 1 t) (iblk m c 3 t) (iblk m c 2 t) (ix2 r j) = G5 m c (ix2 ⟨t.val * 384 + r.val, row_lt t r⟩ j) := by
  rw [pay5_apply, iblk2_apply]
  simp only [iblk0_apply, iblk1_apply, iblk3_apply]
  rfl

theorem final5 (c : Dev nD) : (dats m 0 c).arrAt 5 cfg0.N = G5 m c := by
  refine (dats m 0 c).arrAt_eq_of_covers 5 _ (by decide +kernel) (fun t hf y => ?_)
  blk_simp
  rw [after0_5, outs5]
  obtain ⟨e0, e1⟩ := idx5 t
  have hi : ((View.whole main_v20_0).slice (win0_5.rect t)).emb y = (ix2 ⟨t.val * 384 + (y 0).val, row_lt t (y 0)⟩ (y 1) : S8448x1024.Idx) := by
    refine funext fun a => Fin.ext ?_
    match a with
    | ⟨0, _⟩ => show win0_5.index t (0 : Fin 2) * 384 + 1 * (y 0).val = t.val * 384 + (y 0).val; rw [e0]; omega
    | ⟨1, _⟩ => show win0_5.index t (1 : Fin 2) * 1024 + 1 * (y 1).val = (y 1).val; rw [e1]; omega
  rw [hi]
  have hp := pay5_eq m c t (y 0) (y 1)
  generalize k0_pay5 (iblk m c 0 t) (iblk m c 1 t) (iblk m c 3 t) (iblk m c 2 t) = b at hp ⊢
  exact (congrArg b (eq_ix2 y)).trans hp

theorem pay2_eq (b : Vec Ideal S384x1024 .f32) (w : Vec Ideal S1024x1024 .bf16) (Y : FVec Ideal S8448x1024 .f32) (w' : FVec Ideal S1024x1024 .f32)
    (r : Fin 384) (i : Fin 8448) (hb : ∀ j, b (ix2 r j) = Y (ix2 i j)) (hw : ∀ j k, w (ix2 j k) = w' (ix2 j k)) (j : Fin 1024) :
    k0_pay2 b w (ix2 r j) = byWeights Y w' i j := by
  rw [pay2_apply]
  simp only [hb, hw]
  rfl

theorem final7 (c : Dev nD) : (dats m 0 c).arrAt 7 cfg0.N = G7 m c := by
  refine (dats m 0 c).arrAt_eq_of_covers 7 _ (by decide +kernel) (fun t hf y => ?_)
  blk_simp
  rw [after0_7, outs7]
  obtain ⟨e0, e1⟩ := idx7 t
  have hi : ((View.whole main_v20_2).slice (win0_7.rect t)).emb y = (ix2 ⟨t.val * 384 + (y 0).val, row_lt t (y 0)⟩ (y 1) : S8448x1024.Idx) := by
    refine funext fun a => Fin.ext ?_
    match a with
    | ⟨0, _⟩ => show win0_7.index t (0 : Fin 2) * 384 + 1 * (y 0).val = t.val * 384 + (y 0).val; rw [e0]; omega
    | ⟨1, _⟩ => show win0_7.index t (1 : Fin 2) * 1024 + 1 * (y 1).val = (y 1).val; rw [e1]; omega
  rw [hi]
  have hq := pay2_eq (k0_pay5 (iblk m c 0 t) (iblk m c 1 t) (iblk m c 3 t) (iblk m c 2 t)) (iblk m c 4 t) (G5 m c) (m ((c : Thread nD τ).loc main_arg4)) (y 0) _
    (pay5_eq m c t (y 0)) (iblk4_apply m c t) (y 1)
  generalize k0_pay2 (k0_pay5 (iblk m c 0 t) (iblk m c 1 t) (iblk m c 3 t) (iblk m c 2 t)) (iblk m c 4 t) = b at hq ⊢
  exact (congrArg b (eq_ix2 y)).trans hq

theorem sum_rows (f : Fin 8448 → EReal) : ∑ t : Fin cfg0.N, ∑ r : Fin 384, f ⟨t.val * 384 + r.val, row_lt t r⟩ = ∑ i : Fin 8448, f i :=
  (Fin.sum_univ_tiles (M := EReal) cfg0.N 384 (congrArg (fun a : Nat => a * 384) (N_0 : cfg0.N = 22)) f).symm

theorem sum_scale (Z dx : FVec Ideal S8448x1024 .f32) (b : Fin 1024) :
    ∑ t : Fin cfg0.N, ∑ r : Fin 384, dx (ix2 ⟨t.val * 384 + r.val, row_lt t r⟩ b) * normed (fun k => Z (ix2 ⟨t.val * 384 + r.val, row_lt t r⟩ k)) b
      = ∑ i : Fin 8448, dx (ix2 i b) * normed (fun k => Z (ix2 i k)) b :=
  sum_rows fun i => dx (ix2 i b) * normed (fun k => Z (ix2 i k)) b

theorem sum_shift (dx : FVec Ideal S8448x1024 .f32) (b : Fin 1024) :
    ∑ t : Fin cfg0.N, ∑ r : Fin 384, dx (ix2 ⟨t.val * 384 + r.val, row_lt t r⟩ b) = ∑ i : Fin 8448, dx (ix2 i b) :=
  sum_rows fun i => dx (ix2 i b)

theorem sum_part (c : Dev nD) (a : Fin 8) (b : Fin 1024) :
    ∑ t : Fin cfg0.N, part (iblk m c 0 t) (iblk m c 1 t) a b = scaleShift (m ((c : Thread nD τ).loc main_arg0)) (m ((c : Thread nD τ).loc main_arg5)) a b := by
  unfold scaleShift part
  split
  · simp only [iblk0_apply, iblk1_apply]
    exact sum_scale _ _ b
  · split
    · simp only [iblk0_apply]
      exact sum_shift _ b
    · exact Finset.sum_const_zero

/-- After the last point the two rows hold the sums over all rows. -/
theorem outs6_last (c : Dev nD) (t : Fin cfg0.N) (ht : t.val % 22 = 21) (y : S8x1024.Idx) : (outsAt0 m c t.val t.isLt).2.1 y = G6 m c y := by
  have hN : cfg0.N = 22 := N_0
  have ht' := t.isLt
  refine (Pipeline.eq_sum_fin_of_reset_step_apply_last (fun n h => (outsAt0 m c n h).2.1) 22 (fun _ => 0) (fun t y => part (iblk m c 0 t) (iblk m c 1 t) (y 0) (y 1))
    (outs6_A m c) (outs6_B m c) hN.le t (by omega) y).trans ?_
  rw [zero_add]
  exact sum_part m c (y 0) (y 1)

theorem final6 (c : Dev nD) : (dats m 0 c).arrAt 6 cfg0.N = G6 m c := by
  refine (dats m 0 c).arrAt_eq_of_covers 6 _ (by decide +kernel) (fun t hf y => ?_)
  blk_simp
  rw [after0_6]
  obtain ⟨e0, e1⟩ := idx6 t
  have hi : ((View.whole main_v20_1).slice (win0_6.rect t)).emb y = (y : S8x1024.Idx) := by
    refine funext fun a => Fin.ext ?_
    match a with
    | ⟨0, _⟩ => show win0_6.index t (0 : Fin 2) * 8 + 1 * (y 0).val = (y 0).val; rw [e0]; omega
    | ⟨1, _⟩ => show win0_6.index t (1 : Fin 2) * 1024 + 1 * (y 1).val = (y 1).val; rw [e1]; omega
  rw [hi]
  exact outs6_last m c t ((flush0_6 t).mp hf) y

end Cert.LnOIdeal.Value

/-! ## The reference -/

namespace Cert.LnORefIdeal.Value

open Cert.LnORefIdeal Cert.LnORefIdeal.Gen Idealize.ShloMosaic Idealize.ShloMosaic.TcCoe Idealize.SL.Sem
open Cert.LnRow
open Cert.LnOIdeal.Value (kc kv kn kc_apply kv_apply kr_apply kn_apply erow scaleShift)

/-- The gradients of the normalised entries. -/
def re (dx : FVec Ideal S8448x1024 .f32) (g : FVec Ideal S1024 .f32) : FVec Ideal S8448x1024 .f32 :=
  mulf (shapeCast _ dx shapeCasts_S8448x1024_S8448x1024) (broadcastInDim S8448x1024 ![0, 1] bcast_S1x1024_S8448x1024_0_1 (broadcastInDim S1x1024 ![1] bcast_S1024_S1x1024_1 g))

theorem re_apply (dx : FVec Ideal S8448x1024 .f32) (g : FVec Ideal S1024 .f32) (i : Fin 8448) (j : Fin 1024) : re dx g (ix2 i j) = erow dx g i j := by
  unfold erow
  pointwise [re]

/-- Them, times the reciprocals of the deviations. -/
def rx (E : FVec Ideal S8448x1024 .f32) (R : FVec Ideal S8448x1 .f32) : FVec Ideal S8448x1024 .f32 :=
  mulf E (broadcastInDim S8448x1024 ![0, 1] bcast_S8448x1_S8448x1024_0_1 R)

theorem rx_apply (E : FVec Ideal S8448x1024 .f32) (R : FVec Ideal S8448x1 .f32) (i : Fin 8448) (j : Fin 1024) : rx E R (ix2 i j) = E (ix2 i j) * R (ix2 i 0) := by
  pointwise [rx]

/-- The gradients of the sums of squares. -/
def rq (C E : FVec Ideal S8448x1024 .f32) (R v : FVec Ideal S8448x1 .f32) : FVec Ideal S8448x1 .f32 :=
  Host.divf (mulf (shapeCast _ (Host.reduceAdd (mulf C E) (constant S_ .f32 0x00000000#32) reducesTo_S8448x1024_S8448_d1 h_S_) shapeCasts_S8448_S8448x1)
    (mulf (broadcastInDim S8448x1 ![] bcast_S_S8448x1 (constant S_ .f32 0xBF000000#32)) (Host.divf R v))) (broadcastInDim S8448x1 ![] bcast_S_S8448x1 (constant S_ .f32 0x44800000#32))

theorem rq_apply (C E : FVec Ideal S8448x1024 .f32) (R v : FVec Ideal S8448x1 .f32) (i : Fin 8448) :
    rq C E R v (ix2 i 0) = Ideal.div ((∑ k : Fin 1024, C (ix2 i k) * E (ix2 i k)) * (Ideal.ofBits .f32 0xBF000000#32 * Ideal.div (R (ix2 i 0)) (v (ix2 i 0)))) (Ideal.ofBits .f32 0x44800000#32) := by
  pointwise [rq]

/-- What the variances pass back. -/
def rt (C : FVec Ideal S8448x1024 .f32) (q : FVec Ideal S8448x1 .f32) : FVec Ideal S8448x1024 .f32 :=
  mulf (broadcastInDim S8448x1024 ![0] bcast_S8448_S8448x1024_0 (Host.reduceAdd q (constant S_ .f32 0x00000000#32) reducesTo_S8448x1_S8448_d1 h_S_))
    (mulf (broadcastInDim S8448x1024 ![] bcast_S_S8448x1024 (constant S_ .f32 0x40000000#32)) C)

theorem rt_apply (C : FVec Ideal S8448x1024 .f32) (q : FVec Ideal S8448x1 .f32) (i : Fin 8448) (j : Fin 1024) :
    rt C q (ix2 i j) = q (ix2 i 0) * (Ideal.ofBits .f32 0x40000000#32 * C (ix2 i j)) := by
  pointwise [rt]
  rw [Fin.sum_univ_one]

/-- The gradient of the rows before the norm, of the two parts. -/
def rd (X T : FVec Ideal S8448x1024 .f32) : FVec Ideal S8448x1024 .f32 :=
  addf (addf X T) (broadcastInDim S8448x1024 ![0] bcast_S8448_S8448x1024_0 (Host.reduceAdd (Host.divf (addf
    (shapeCast _ (Host.reduceAdd (Host.negf X) (constant S_ .f32 0x00000000#32) reducesTo_S8448x1024_S8448_d1 h_S_) shapeCasts_S8448_S8448x1)
    (shapeCast _ (Host.reduceAdd (Host.negf T) (constant S_ .f32 0x00000000#32) reducesTo_S8448x1024_S8448_d1 h_S_) shapeCasts_S8448_S8448x1))
    (broadcastInDim S8448x1 ![] bcast_S_S8448x1 (constant S_ .f32 0x44800000#32))) (constant S_ .f32 0x00000000#32) reducesTo_S8448x1_S8448_d1 h_S_))

theorem rd_apply (X T : FVec Ideal S8448x1024 .f32) (i : Fin 8448) (j : Fin 1024) :
    rd X T (ix2 i j) = (X (ix2 i j) + T (ix2 i j)) + Ideal.div ((∑ k : Fin 1024, -(X (ix2 i k))) + ∑ k : Fin 1024, -(T (ix2 i k))) (Ideal.ofBits .f32 0x44800000#32) := by
  pointwise [rd]
  rw [Fin.sum_univ_one]

/-- The gradient of the rows before the norm, of the arguments. -/
def rz (Z dx : FVec Ideal S8448x1024 .f32) (g : FVec Ideal S1024 .f32) : FVec Ideal S8448x1024 .f32 :=
  rd (rx (re dx g) (Host.rsqrt (kv (kc Z)))) (rt (kc Z) (rq (kc Z) (re dx g) (Host.rsqrt (kv (kc Z))) (kv (kc Z))))

theorem rz_apply (Z dx : FVec Ideal S8448x1024 .f32) (g : FVec Ideal S1024 .f32) (i : Fin 8448) (j : Fin 1024) :
    rz Z dx g (ix2 i j) = backRef (fun k => Z (ix2 i k)) (erow dx g i) j := by
  unfold rz backRef varTerm dvar
  rw [rd_apply]
  simp only [rx_apply, rt_apply, rq_apply, re_apply, kr_apply, kv_apply, kc_apply]

/-- The column sums of an array, as a row. -/
def colSum (x : FVec Ideal S8448x1024 .f32) : FVec Ideal S1x1024 .f32 :=
  (broadcastInDim S1x1024 ![1] bcast_S1024_S1x1024_1 (Host.reduceAdd (shapeCast _ (Host.reduceAdd x (constant S_ .f32 0x00000000#32) reducesTo_S8448x1024_S1024_d0 h_S_) shapeCasts_S1024_S1x1024) (constant S_ .f32 0x00000000#32) reducesTo_S1x1024_S1024_d0 h_S_))

theorem colSum_apply (x : FVec Ideal S8448x1024 .f32) (i : Fin 1) (j : Fin 1024) : colSum x (ix2 i j) = ∑ r : Fin 8448, x (ix2 r j) := by
  pointwise [colSum]
  rw [Fin.sum_univ_one]

/-- The normalised entries times the incoming gradient. -/
def xd (n dx : FVec Ideal S8448x1024 .f32) : FVec Ideal S8448x1024 .f32 := mulf n (shapeCast _ dx shapeCasts_S8448x1024_S8448x1024)

theorem xd_apply (n dx : FVec Ideal S8448x1024 .f32) (i : Fin 8448) (j : Fin 1024) : xd n dx (ix2 i j) = dx (ix2 i j) * n (ix2 i j) := by
  pointwise [xd]
  exact mul_comm _ _

theorem scale_apply (Z dx : FVec Ideal S8448x1024 .f32) (i : Fin 1) (j : Fin 1024) :
    colSum (xd (kn (kc Z) (Host.rsqrt (kv (kc Z)))) dx) (ix2 i j) = ∑ i : Fin 8448, dx (ix2 i j) * normed (fun k => Z (ix2 i k)) j := by
  rw [colSum_apply]
  simp only [xd_apply, kn_apply]

/-- The reference's two rows of gradients, padded to eight. -/
def rows (Z dx : FVec Ideal S8448x1024 .f32) : FVec Ideal S8x1024 .f32 :=
  pad S8x1024 ![0, 0] ![6, 0] ![0, 0] (concatenate S2x1024 0 [⟨S1x1024, colSum (xd (kn (kc Z) (Host.rsqrt (kv (kc Z)))) dx)⟩,
    ⟨S1x1024, colSum dx⟩] concatenates_S1x1024_S1x1024_S2x1024_d0) (sitofp .f32 (constantI S_ 32 0#32)) pads_S2x1024_S8x1024_060_000 h_S_

/-- Two rows padded to eight, at an index. -/
theorem padded_apply (a b : FVec Ideal S1x1024 .f32) (y : S8x1024.Idx) :
    pad S8x1024 ![0, 0] ![6, 0] ![0, 0] (concatenate S2x1024 0 [⟨S1x1024, a⟩, ⟨S1x1024, b⟩] concatenates_S1x1024_S1x1024_S2x1024_d0) (sitofp (F := Ideal) .f32 (constantI S_ 32 0#32)) pads_S2x1024_S8x1024_060_000 h_S_ y
      = if (y 0).val = 0 then a (ix2 0 (y 1)) else if (y 0).val = 1 then b (ix2 0 (y 1)) else 0 := by
  have hin : ∀ p : Fin 2, (y 0).val = p.val → pad S8x1024 ![0, 0] ![6, 0] ![0, 0] (concatenate S2x1024 0 [⟨S1x1024, a⟩, ⟨S1x1024, b⟩] concatenates_S1x1024_S1x1024_S2x1024_d0) (sitofp (F := Ideal) .f32 (constantI S_ 32 0#32)) pads_S2x1024_S8x1024_060_000 h_S_ y
      = concatenate S2x1024 0 [⟨S1x1024, a⟩, ⟨S1x1024, b⟩] concatenates_S1x1024_S1x1024_S2x1024_d0 (ix2 p (y 1)) := fun p hp =>
    pad_apply_of_inside _ _ _ _ _ _ _ y (ix2 p (y 1)) fun ax => by
      match ax with
      | ⟨0, _⟩ => show (y 0).val = 0 + p.val * (0 + 1); omega
      | ⟨1, _⟩ => show (y 1).val = 0 + (y 1).val * (0 + 1); omega
  split
  · next h =>
    rw [hin 0 h]
    exact concatenate_apply_piece (t := S2x1024) 0 [⟨S1x1024, a⟩, ⟨S1x1024, b⟩] concatenates_S1x1024_S1x1024_S2x1024_d0 (ix2 0 (y 1)) 0 (show 0 < 2 by decide) S1x1024 a rfl rfl 0 rfl (ix2 0 (y 1))
      (fun ax hax => by match ax with | ⟨0, _⟩ => exact absurd rfl hax | ⟨1, _⟩ => rfl) rfl
  · split
    · next h =>
      rw [hin 1 h]
      exact concatenate_apply_piece (t := S2x1024) 0 [⟨S1x1024, a⟩, ⟨S1x1024, b⟩] concatenates_S1x1024_S1x1024_S2x1024_d0 (ix2 1 (y 1)) 1 (show 1 < 2 by decide) S1x1024 b rfl rfl 1 rfl (ix2 0 (y 1))
        (fun ax hax => by match ax with | ⟨0, _⟩ => exact absurd rfl hax | ⟨1, _⟩ => rfl) rfl
    · next h0 h1 =>
      refine (pad_apply_of_not_inside _ _ _ _ _ _ _ y (0 : Fin 2) fun h => ?_).trans ?_
      · have h3 : ((y 0).val - 0) / (0 + 1) < 2 := h.2.2
        omega
      · show (((0#32 : BitVec 32).toInt : ℝ) : EReal) = 0
        norm_num

theorem rows_apply (Z dx : FVec Ideal S8448x1024 .f32) (y : S8x1024.Idx) : rows Z dx y = scaleShift Z dx (y 0) (y 1) := by
  refine (padded_apply _ _ y).trans ?_
  exact congrArg₂ (fun a b : EReal => if (y 0).val = 0 then a else if (y 0).val = 1 then b else 0) (scale_apply Z dx 0 (y 1)) (colSum_apply dx 0 (y 1))

/-- The product with the transposed weights. -/
theorem ra_apply (Y : FVec Ideal S8448x1024 .f32) (w : FVec Ideal S1024x1024 .f32) (i : Fin 8448) (j : Fin 1024) :
    Host.dotGeneral dot_S8448x1024_S1024x1024_S8448x1024_1_1_0_0_n_n none Y w (ix2 i j) = ∑ k : Fin 1024, Y (ix2 i k) * w (ix2 j k) := by
  pointwise

end Cert.LnORefIdeal.Value

namespace Cert.LnOIdeal.Value

open Cert.LnOIdeal Cert.LnOIdeal.Gen Idealize.ShloMosaic Idealize.ShloMosaic.TcCoe Idealize.SL.Sem
open Cert.LnRow Cert.LnORefIdeal.Value

/-- An entry whose absolute value is below infinity is a real number. -/
theorem real_of_lt {x : EReal} (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  refine exists_coe ?_ ?_
  · rintro rfl
    simp [Ideal.cmp] at h
  · rintro rfl
    simp [Ideal.cmp] at h

/-- The two programs compute the same arrays where the rows, the scale and the incoming gradient are finite. -/
theorem algebraic : Cert.algebraic_LnOIdeal_LnORefIdeal_pre_finite_o := by
  intro m g m' g' hpre hargs
  refine ⟨fun c => G5 m c, fun c => G6 m c, fun c => G7 m c,
    (θ_run defs _ _).mono (fun r h c => ⟨(h c).1.trans (final5 m c), (h c).2.1.trans (final6 m c), (h c).2.2.1.trans (final7 m c), (h c).2.2.2⟩) (run_blocks (F := Ideal) m g),
    (θ_run Cert.LnORefIdeal.defs _ _).mono (fun r h c => ?_) (Cert.LnORefIdeal.Value.run (F := Ideal) m' g')⟩
  obtain ⟨a0, a1, a2, a3, a4, a5⟩ := hargs c
  obtain ⟨h0, h1, h2, h3⟩ := h c
  obtain ⟨p0, p1, p5⟩ := hpre c
  have q0 : ∀ i, ∃ r : ℝ, (m ((c : Thread nD τ).loc main_arg0) : FVec Ideal S8448x1024 .f32) i = (r : EReal) := fun i => real_of_lt (congrFun p0 i)
  have q1 : ∀ i, ∃ r : ℝ, (m ((c : Thread nD τ).loc main_arg1) : FVec Ideal S1024 .f32) i = (r : EReal) := fun i => real_of_lt (congrFun p1 i)
  have q5 : ∀ i, ∃ r : ℝ, (m ((c : Thread nD τ).loc main_arg5) : FVec Ideal S8448x1024 .f32) i = (r : EReal) := fun i => real_of_lt (congrFun p5 i)
  have hz : ∀ (i : Fin 8448) (j : Fin 1024), rz (m ((c : Thread nD τ).loc main_arg0)) (m ((c : Thread nD τ).loc main_arg5)) (m ((c : Thread nD τ).loc main_arg1)) (ix2 i j) = G5 m c (ix2 i j) := fun i j =>
    (rz_apply _ _ _ i j).trans (backRef_eq _ _ (fun k => q0 _) (fun k => by
      obtain ⟨x, hx⟩ := q5 (ix2 i k)
      obtain ⟨y, hy⟩ := q1 (ix1 k)
      exact ⟨x * y, (congrArg₂ (fun a b : EReal => a * b) hx hy).trans (EReal.coe_mul x y).symm⟩) j)
  unfold Cert.LnORefIdeal.Value.res_main_v62 at h0
  unfold Cert.LnORefIdeal.Value.res_main_v64 at h2
  rw [a0, a1, a5] at h0
  rw [a0, a5] at h1
  rw [a0, a1, a4, a5] at h2
  refine ⟨h0.trans (Eq.trans (b := rz _ _ _) rfl ?_), h1.trans (Eq.trans (b := rows _ _) rfl ?_),
    h2.trans (Eq.trans (b := Host.dotGeneral (F := Ideal) Cert.LnORefIdeal.dot_S8448x1024_S1024x1024_S8448x1024_1_1_0_0_n_n none (rz _ _ _) _) rfl ?_), h3⟩
  · funext j
    rw [eq_ix2 j]
    exact hz _ _
  · funext y
    exact rows_apply _ _ y
  · funext j
    rw [eq_ix2 j]
    refine (ra_apply _ _ _ _).trans ?_
    show _ = byWeights _ _ _ _
    unfold byWeights
    exact Finset.sum_congr rfl fun k _ => congrArg (fun a : EReal => a * _) (hz _ _)

end Cert.LnOIdeal.Value

end
-- ==== Proof.LnDown.lean ====
/-
  The gradient that passes back through the down projection and its layer norm: the gradient of the row before the norm, its product with
  the transposed weights, and the gradients of the norm's scale and shift. The kernel takes row tiles of 384 rows, with the
  normalised rows and the reciprocals of the deviations computed beforehand; the reference differentiates the norm and the
  product.
-/
module

public import proofs.«01_k».proof.Defs
public import proofs.«01_k».proof.Proof.Gen.LnDownIdeal.Value
public import proofs.«01_k».proof.Proof.Gen.LnDownRefIdeal.Run
public import proofs.«01_k».proof.Proof.Gen.Pre_finite_down
public import proofs.«01_k».proof.Proof.LnBack
public import Idealize.ShloMosaic.Lib.Pointwise
public import Idealize.ShloMosaic.Lib.KernelVsHost
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.LnDownIdeal.Value

open Cert.LnDownIdeal Cert.LnDownIdeal.Gen Idealize.ShloMosaic Idealize.ShloMosaic.TcCoe Idealize.SL.Sem
open Cert.LnRow

/-! ## One point's blocks -/

theorem pay5_apply (dx xh : Vec Ideal S384x1024 .f32) (g : Vec Ideal S1x1024 .f32) (rs : Vec Ideal S384x1 .f32) (r : Fin 384) (j : Fin 1024) :
    k0_pay5 dx xh g rs (ix2 r j) = rs (ix2 r 0) * ((dx (ix2 r j) * g (ix2 0 j) - Ideal.div (∑ k : Fin 1024, dx (ix2 r k) * g (ix2 0 k)) (Ideal.ofBits .f32 0x44800000#32))
      - xh (ix2 r j) * Ideal.div (∑ k : Fin 1024, dx (ix2 r k) * g (ix2 0 k) * xh (ix2 r k)) (Ideal.ofBits .f32 0x44800000#32)) := by
  pointwise [k0_pay5, k0_pay4]

theorem pay6_apply (dx xh : Vec Ideal S384x1024 .f32) (acc : Vec Ideal S1x1024 .f32) (i : Fin 1) (j : Fin 1024) :
    k0_pay6 dx xh acc (ix2 i j) = acc (ix2 i j) + ∑ r : Fin 384, dx (ix2 r j) * xh (ix2 r j) := by
  pointwise [k0_pay6, k0_pay4]

theorem pay1_apply (dx : Vec Ideal S384x1024 .f32) (acc : Vec Ideal S1x1024 .f32) (i : Fin 1) (j : Fin 1024) :
    k0_pay1 dx acc (ix2 i j) = acc (ix2 i j) + ∑ r : Fin 384, dx (ix2 r j) := by
  pointwise [k0_pay1]

theorem pay2_apply (v : Vec Ideal S384x1024 .f32) (w : Vec Ideal S2816x1024 .bf16) (r : Fin 384) (j : Fin 2816) :
    k0_pay2 v w (ix2 r j) = ∑ k : Fin 1024, v (ix2 r k) * w (ix2 j k) := by
  pointwise [k0_pay2]

theorem pay3_apply (j : S8x1024.Idx) : (k0_pay3 (F := Ideal)) j = 0 := by
  pointwise [k0_pay3]

/-! ## The rows before the norm -/

/-- The centred rows. -/
def kc (Z : FVec Ideal S8448x1024 .f32) : FVec Ideal S8448x1024 .f32 :=
  (subf Z (broadcastInDim S8448x1024 ![0, 1] bcast_S8448x1_S8448x1024_0_1 (Host.divf (broadcastInDim S8448x1 ![0] bcast_S8448_S8448x1_0 (Host.reduceAdd Z (constant S_ .f32 0x00000000#32) reducesTo_S8448x1024_S8448_d1 h_S_)) (broadcastInDim S8448x1 ![] bcast_S_S8448x1 (constant S_ .f32 0x44800000#32)))))

theorem kc_apply (Z : FVec Ideal S8448x1024 .f32) (i : Fin 8448) (j : Fin 1024) : kc Z (ix2 i j) = centred (fun k => Z (ix2 i k)) j := by
  unfold centred
  pointwise [kc]

/-- The variances and the term beside them. -/
def kv (C : FVec Ideal S8448x1024 .f32) : FVec Ideal S8448x1 .f32 :=
  (addf (Host.divf (broadcastInDim S8448x1 ![0] bcast_S8448_S8448x1_0 (Host.reduceAdd (mulf C C) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))

theorem kv_apply (C : FVec Ideal S8448x1024 .f32) (i : Fin 8448) :
    kv C (ix2 i 0) = Ideal.div (∑ k : Fin 1024, C (ix2 i k) * C (ix2 i k)) (Ideal.ofBits .f32 0x44800000#32) + Ideal.ofBits .f32 0x3727C5AC#32 := by
  pointwise [kv]

theorem kr_apply (Z : FVec Ideal S8448x1024 .f32) (i : Fin 8448) : Host.rsqrt (kv (kc Z)) (ix2 i 0) = recip (fun k => Z (ix2 i k)) := by
  unfold recip
  simp only [← kc_apply]
  rw [← kv_apply]
  rfl

def kn (C : FVec Ideal S8448x1024 .f32) (r : FVec Ideal S8448x1 .f32) : FVec Ideal S8448x1024 .f32 :=
  mulf C (broadcastInDim S8448x1024 ![0, 1] bcast_S8448x1_S8448x1024_0_1 r)

theorem kn_apply (Z : FVec Ideal S8448x1024 .f32) (i : Fin 8448) (j : Fin 1024) : kn (kc Z) (Host.rsqrt (kv (kc Z))) (ix2 i j) = normed (fun k => Z (ix2 i k)) j := by
  unfold normed
  rw [← kc_apply, ← kr_apply]
  generalize Host.rsqrt (kv (kc Z)) = R
  generalize kc Z = C
  pointwise [kn]

variable (m : (ℓ : Loc nD τ sig) → Buf (Elt Ideal) ℓ)

theorem row_lt (t : Fin cfg0.N) (r : Fin 384) : t.val * 384 + r.val < 8448 := by
  have := lt_of_lt_of_eq t.isLt (N_0 : cfg0.N = 22)
  omega

theorem V_xh (c : Dev nD) : V m c main_v17 = kn (kc (m ((c : Thread nD τ).loc main_arg0))) (Host.rsqrt (kv (kc (m ((c : Thread nD τ).loc main_arg0))))) := by
  show StableHlo.after hostOps0 _ _ = _
  after_results <;> rfl

theorem V_rs (c : Dev nD) : V m c main_v13 = Host.rsqrt (kv (kc (m ((c : Thread nD τ).loc main_arg0)))) := by
  show StableHlo.after hostOps0 _ _ = _
  after_results <;> rfl

/-- The weights are cast before the call, which over the reals changes nothing. -/
theorem V_w (c : Dev nD) : V m c main_v18 = m ((c : Thread nD τ).loc main_arg4) := by
  show StableHlo.after hostOps0 _ _ = _
  after_results <;> rfl

theorem V_g (c : Dev nD) (j : Fin 1024) : V m c main_v19 (ix2 0 j) = m ((c : Thread nD τ).loc main_arg1) (ix1 j) := by
  have h : V m c main_v19 = shapeCast _ (m ((c : Thread nD τ).loc main_arg1)) shapeCasts_S1024_S1x1024 := by
    show StableHlo.after hostOps0 _ _ = _
    after_results <;> rfl
  rw [h]
  generalize m ((c : Thread nD τ).loc main_arg1) = v
  pointwise

/-- Windows 0, 1, 2, 5 and 7 move down one row tile per point; the others hold their whole arrays. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

theorem iblk0_apply (c : Dev nD) (t : Fin cfg0.N) (r : Fin 384) (k : Fin 1024) :
    iblk m c 0 t (ix2 r k) = m ((c : Thread nD τ).loc main_arg5) (ix2 ⟨t.val * 384 + r.val, row_lt t r⟩ k) := by
  obtain ⟨e0, e1⟩ := idx0 t
  show V m c main_arg5 (((cfg0.win 0).blk t).view.emb (ix2 r k)) = _
  rw [V_main_arg5]
  refine congrArg _ (funext fun a => Fin.ext ?_)
  match a with
  | ⟨0, _⟩ => show win0_0.index t (0 : Fin 2) * 384 + 1 * r.val = t.val * 384 + r.val; rw [e0]; omega
  | ⟨1, _⟩ => show win0_0.index t (1 : Fin 2) * 1024 + 1 * k.val = k.val; rw [e1]; omega

theorem iblk1_apply (c : Dev nD) (t : Fin cfg0.N) (r : Fin 384) (k : Fin 1024) :
    iblk m c 1 t (ix2 r k) = normed (fun k => m ((c : Thread nD τ).loc main_arg0) (ix2 ⟨t.val * 384 + r.val, row_lt t r⟩ k)) k := by
  obtain ⟨e0, e1⟩ := idx1 t
  refine Eq.trans (b := V m c main_v17 (ix2 ⟨t.val * 384 + r.val, row_lt t r⟩ k)) ?_ ((congrFun (V_xh m c) _).trans (kn_apply _ _ _))
  show V m c main_v17 (((cfg0.win 1).blk t).view.emb (ix2 r k)) = _
  refine congrArg _ (funext fun a => Fin.ext ?_)
  match a with
  | ⟨0, _⟩ => show win0_1.index t (0 : Fin 2) * 384 + 1 * r.val = t.val * 384 + r.val; rw [e0]; omega
  | ⟨1, _⟩ => show win0_1.index t (1 : Fin 2) * 1024 + 1 * k.val = k.val; rw [e1]; omega

theorem iblk2_apply (c : Dev nD) (t : Fin cfg0.N) (r : Fin 384) :
    iblk m c 2 t (ix2 r 0) = recip (fun k => m ((c : Thread nD τ).loc main_arg0) (ix2 ⟨t.val * 384 + r.val, row_lt t r⟩ k)) := by
  obtain ⟨e0, e1⟩ := idx2 t
  refine Eq.trans (b := V m c main_v13 (ix2 ⟨t.val * 384 + r.val, row_lt t r⟩ 0)) ?_ ((congrFun (V_rs m c) _).trans (kr_apply _ _))
  show V m c main_v13 (((cfg0.win 2).blk t).view.emb (ix2 r 0)) = _
  refine congrArg _ (funext fun a => Fin.ext ?_)
  match a with
  | ⟨0, _⟩ => show win0_2.index t (0 : Fin 2) * 384 + 1 * r.val = t.val * 384 + r.val; rw [e0]; omega
  | ⟨1, _⟩ => show win0_2.index t (1 : Fin 2) * 1 + 1 * 0 = 0; rw [e1]

theorem iblk3_apply (c : Dev nD) (t : Fin cfg0.N) (k : Fin 1024) :
    iblk m c 3 t (ix2 0 k) = m ((c : Thread nD τ).loc main_arg1) (ix1 k) := by
  obtain ⟨e0, e1⟩ := idx3 t
  refine Eq.trans (b := V m c main_v19 (ix2 0 k)) ?_ (V_g m c k)
  show V m c main_v19 (((cfg0.win 3).blk t).view.emb (ix2 0 k)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 1024 + 1 * k.val = k.val; rw [e1]; omega

theorem iblk4_apply (c : Dev nD) (t : Fin cfg0.N) (j : Fin 2816) (k : Fin 1024) :
    iblk m c 4 t (ix2 j k) = m ((c : Thread nD τ).loc main_arg4) (ix2 j k) := by
  obtain ⟨e0, e1⟩ := idx4 t
  refine Eq.trans (b := V m c main_v18 (ix2 j k)) ?_ (congrFun (V_w m c) _)
  show V m c main_v18 (((cfg0.win 4).blk t).view.emb (ix2 j k)) = _
  refine congrArg _ (funext fun a => Fin.ext ?_)
  match a with
  | ⟨0, _⟩ => show win0_4.index t (0 : Fin 2) * 2816 + 1 * j.val = j.val; rw [e0]; omega
  | ⟨1, _⟩ => show win0_4.index t (1 : Fin 2) * 1024 + 1 * k.val = k.val; rw [e1]; omega

/-! ## What a point leaves -/

theorem outs5 (c : Dev nD) (t : Fin cfg0.N) : (outsAt0 m c t.val t.isLt).1 = k0_pay5 (iblk m c 0 t) (iblk m c 1 t) (iblk m c 3 t) (iblk m c 2 t) := by
  by_cases h0 : t.val % 22 = 0
  · rw [outsAt0_A m c t h0]
    dsimp only
    frame_out
  · rw [outsAt0_B m c t h0]
    dsimp only
    frame_out

theorem outs7 (c : Dev nD) (t : Fin cfg0.N) : (outsAt0 m c t.val t.isLt).2.2 = k0_pay2 (k0_pay5 (iblk m c 0 t) (iblk m c 1 t) (iblk m c 3 t) (iblk m c 2 t)) (iblk m c 4 t) := by
  by_cases h0 : t.val % 22 = 0
  · rw [outsAt0_A m c t h0]
    dsimp only
    frame_out
  · rw [outsAt0_B m c t h0]
    dsimp only
    frame_out

/-- Rows 0 and 1 stored over earlier contents. -/
theorem store_rows {κ : Kind} {sp : Space} (v : View sig κ sp S8x1024 .f32) (f : v.ty.Contents (Elt Ideal)) (w0 w1 : FVec Ideal S1x1024 .f32)
    (L : List (View.Piece (Elt Ideal) S8x1024 .f32)) (y : S8x1024.Idx) :
    v.read (Elt Ideal) (v.writes (Elt Ideal) f ((⟨Rect.unit (s := S8x1024) ![1, 0] ![1, 1024] inb_S8x1024_S1x1024_1_0, w1⟩ : View.Piece (Elt Ideal) S8x1024 .f32)
        :: ⟨Rect.unit (s := S8x1024) ![0, 0] ![1, 1024] inb_S8x1024_S1x1024_0_0, w0⟩ :: L)) y
      = if (y 0).val = 0 then w0 (ix2 0 (y 1)) else if (y 0).val = 1 then w1 (ix2 0 (y 1)) else v.read (Elt Ideal) (v.writes (Elt Ideal) f L) y := by
  split
  · next h =>
    rw [View.read_writes_cons_rows_of_not_mem (d := ![8, 1024]) v f inb_S8x1024_S1x1024_1_0 w1 _ y (o := 1) (W := 1) rfl rfl (Or.inl (by rw [h]; decide))]
    exact View.read_writes_cons_rows_of_mem (d := ![8, 1024]) v f inb_S8x1024_S1x1024_0_0 w0 _ y (ix2 0 (y 1)) (o := 0) rfl (by rw [h]; rfl) rfl
  · next h =>
    split
    · next h1 =>
      exact View.read_writes_cons_rows_of_mem (d := ![8, 1024]) v f inb_S8x1024_S1x1024_1_0 w1 _ y (ix2 0 (y 1)) (o := 1) rfl (by rw [h1]; rfl) rfl
    · next h1 =>
      rw [View.read_writes_cons_rows_of_not_mem (d := ![8, 1024]) v f inb_S8x1024_S1x1024_1_0 w1 _ y (o := 1) (W := 1) rfl rfl (Or.inr (by omega)),
        View.read_writes_cons_rows_of_not_mem (d := ![8, 1024]) v f inb_S8x1024_S1x1024_0_0 w0 _ y (o := 0) (W := 1) rfl rfl (Or.inr (by omega))]

/-- What a point adds to the two rows. -/
def part (dx xh : Vec Ideal S384x1024 .f32) (a : Fin 8) (b : Fin 1024) : EReal :=
  if a.val = 0 then ∑ r : Fin 384, dx (ix2 r b) * xh (ix2 r b) else if a.val = 1 then ∑ r : Fin 384, dx (ix2 r b) else 0

theorem ld_row0 (X : FVec Ideal S8x1024 .f32) (y : S8x1024.Idx) (h : (y 0).val = 0) :
    View.ld (Val := Elt Ideal) (e' := .f32) X (Rect.unit (s := S8x1024) ![0, 0] ![1, 1024] inb_S8x1024_S1x1024_0_0) (ix2 0 (y 1)) = X y := by
  refine congrArg X (funext fun a => Fin.ext ?_)
  match a with
  | ⟨0, _⟩ => exact h.symm
  | ⟨1, _⟩ => show 0 + 1 * (y 1).val = (y 1).val; omega

theorem ld_row1 (X : FVec Ideal S8x1024 .f32) (y : S8x1024.Idx) (h : (y 0).val = 1) :
    View.ld (Val := Elt Ideal) (e' := .f32) X (Rect.unit (s := S8x1024) ![1, 0] ![1, 1024] inb_S8x1024_S1x1024_1_0) (ix2 0 (y 1)) = X y := by
  refine congrArg X (funext fun a => Fin.ext ?_)
  match a with
  | ⟨0, _⟩ => exact h.symm
  | ⟨1, _⟩ => show 0 + 1 * (y 1).val = (y 1).val; omega

/-- Both rows over contents `X`. -/
theorem rows_eq (dx xh : Vec Ideal S384x1024 .f32) (X : FVec Ideal S8x1024 .f32) (y : S8x1024.Idx) :
    (if (y 0).val = 0 then k0_pay6 dx xh (View.ld (Val := Elt Ideal) (e' := .f32) X (Rect.unit (s := S8x1024) ![0, 0] ![1, 1024] inb_S8x1024_S1x1024_0_0)) (ix2 0 (y 1))
      else if (y 0).val = 1 then k0_pay1 dx (View.ld (Val := Elt Ideal) (e' := .f32) X (Rect.unit (s := S8x1024) ![1, 0] ![1, 1024] inb_S8x1024_S1x1024_1_0)) (ix2 0 (y 1))
      else X y) = X y + part dx xh (y 0) (y 1) := by
  unfold part
  split
  · next h => exact (pay6_apply dx xh _ 0 (y 1)).trans (congrArg (fun a : EReal => a + _) (ld_row0 X y h))
  · split
    · next h => exact (pay1_apply dx _ 0 (y 1)).trans (congrArg (fun a : EReal => a + _) (ld_row1 X y h))
    · rw [add_zero]

theorem outs6_A (c : Dev nD) (t : Fin cfg0.N) (h0 : t.val % 22 = 0) (y : S8x1024.Idx) :
    (outsAt0 m c t.val t.isLt).2.1 y = 0 + part (iblk m c 0 t) (iblk m c 1 t) (y 0) (y 1) := by
  rw [outsAt0_A m c t h0]
  dsimp only
  frame_out
  rw [View.readCov_skip _ _ _ _ _ (by decide), View.readCov_fill _ _ _ _ _ (by decide), View.readCov_fill _ _ _ _ _ (by decide),
    ← View.read_writes_junk_eq_canon (ms0_6 t).view]
  refine (store_rows _ _ _ _ _ y).trans ?_
  rw [View.read_writes_junk_eq_canon, View.canon_cons_unit_lit' _ _ _ (by decide)]
  refine (rows_eq _ _ _ y).trans ?_
  rw [pay3_apply]

theorem outs6_B (c : Dev nD) (t : Fin cfg0.N) (h0 : ¬t.val % 22 = 0) (y : S8x1024.Idx) :
    (outsAt0 m c t.val t.isLt).2.1 y = (outsAt0 m c (t.val - 1) (Nat.lt_of_le_of_lt (Nat.sub_le _ _) t.isLt)).2.1 y + part (iblk m c 0 t) (iblk m c 1 t) (y 0) (y 1) := by
  rw [outsAt0_B m c t h0]
  dsimp only
  frame_out
  generalize (outsAt0 m c (t.val - 1) (Nat.lt_of_le_of_lt (Nat.sub_le _ _) t.isLt)).2.1 = X
  refine (store_rows _ _ _ _ _ y).trans ?_
  rw [View.writes_nil, Memref.IsWhole.read_unread]
  exact rows_eq _ _ _ y

/-! ## The whole arrays -/

/-- The gradients of the normalised entries of row `i`. -/
def erow (dx : FVec Ideal S8448x1024 .f32) (g : FVec Ideal S1024 .f32) (i : Fin 8448) (k : Fin 1024) : EReal := dx (ix2 i k) * g (ix1 k)

/-- The gradient of the rows before the norm. -/
def G5 (c : Dev nD) : Buf (Elt Ideal) ((c : Thread nD τ).loc main_v20_0) := fun i =>
  back (fun k => m ((c : Thread nD τ).loc main_arg0) (ix2 (i 0) k)) (erow (m ((c : Thread nD τ).loc main_arg5)) (m ((c : Thread nD τ).loc main_arg1)) (i 0)) (i 1)

/-- The gradients of the scale, in row 0, and of the shift, in row 1. -/
def scaleShift (Z dx : FVec Ideal S8448x1024 .f32) (a : Fin 8) (b : Fin 1024) : EReal :=
  if a.val = 0 then ∑ i : Fin 8448, dx (ix2 i b) * normed (fun k => Z (ix2 i k)) b else if a.val = 1 then ∑ i : Fin 8448, dx (ix2 i b) else 0

def G6 (c : Dev nD) : Buf (Elt Ideal) ((c : Thread nD τ).loc main_v20_1) := fun y =>
  scaleShift (m ((c : Thread nD τ).loc main_arg0)) (m ((c : Thread nD τ).loc main_arg5)) (y 0) (y 1)

/-- Its product with the transposed weights. -/
def byWeights (Y : FVec Ideal S8448x1024 .f32) (w : FVec Ideal S2816x1024 .f32) (i : Fin 8448) (j : Fin 2816) : EReal :=
  ∑ k : Fin 1024, Y (ix2 i k) * w (ix2 j k)

def G7 (c : Dev nD) : Buf (Elt Ideal) ((c : Thread nD τ).loc main_v20_2) := fun i =>
  byWeights (G5 m c) (m ((c : Thread nD τ).loc main_arg4)) (i 0) (i 1)

theorem pay5_eq (c : Dev nD) (t : Fin cfg0.N) (r : Fin 384) (j : Fin 1024) :
    k0_pay5 (iblk m c 0 t) (iblk m c 1 t) (iblk m c 3 t) (iblk m c 2 t) (ix2 r j) = G5 m c (ix2 ⟨t.val * 384 + r.val, row_lt t r⟩ j) := by
  rw [pay5_apply, iblk2_apply]
  simp only [iblk0_apply, iblk1_apply, iblk3_apply]
  rfl

theorem final5 (c : Dev nD) : (dats m 0 c).arrAt 5 cfg0.N = G5 m c := by
  refine (dats m 0 c).arrAt_eq_of_covers 5 _ (by decide +kernel) (fun t hf y => ?_)
  blk_simp
  rw [after0_5, outs5]
  obtain ⟨e0, e1⟩ := idx5 t
  have hi : ((View.whole main_v20_0).slice (win0_5.rect t)).emb y = (ix2 ⟨t.val * 384 + (y 0).val, row_lt t (y 0)⟩ (y 1) : S8448x1024.Idx) := by
    refine funext fun a => Fin.ext ?_
    match a with
    | ⟨0, _⟩ => show win0_5.index t (0 : Fin 2) * 384 + 1 * (y 0).val = t.val * 384 + (y 0).val; rw [e0]; omega
    | ⟨1, _⟩ => show win0_5.index t (1 : Fin 2) * 1024 + 1 * (y 1).val = (y 1).val; rw [e1]; omega
  rw [hi]
  have hp := pay5_eq m c t (y 0) (y 1)
  generalize k0_pay5 (iblk m c 0 t) (iblk m c 1 t) (iblk m c 3 t) (iblk m c 2 t) = b at hp ⊢
  exact (congrArg b (eq_ix2 y)).trans hp

theorem pay2_eq (b : Vec Ideal S384x1024 .f32) (w : Vec Ideal S2816x1024 .bf16) (Y : FVec Ideal S8448x1024 .f32) (w' : FVec Ideal S2816x1024 .f32)
    (r : Fin 384) (i : Fin 8448) (hb : ∀ j, b (ix2 r j) = Y (ix2 i j)) (hw : ∀ j k, w (ix2 j k) = w' (ix2 j k)) (j : Fin 2816) :
    k0_pay2 b w (ix2 r j) = byWeights Y w' i j := by
  rw [pay2_apply]
  simp only [hb, hw]
  rfl

theorem final7 (c : Dev nD) : (dats m 0 c).arrAt 7 cfg0.N = G7 m c := by
  refine (dats m 0 c).arrAt_eq_of_covers 7 _ (by decide +kernel) (fun t hf y => ?_)
  blk_simp
  rw [after0_7, outs7]
  obtain ⟨e0, e1⟩ := idx7 t
  have hi : ((View.whole main_v20_2).slice (win0_7.rect t)).emb y = (ix2 ⟨t.val * 384 + (y 0).val, row_lt t (y 0)⟩ (y 1) : S8448x2816.Idx) := by
    refine funext fun a => Fin.ext ?_
    match a with
    | ⟨0, _⟩ => show win0_7.index t (0 : Fin 2) * 384 + 1 * (y 0).val = t.val * 384 + (y 0).val; rw [e0]; omega
    | ⟨1, _⟩ => show win0_7.index t (1 : Fin 2) * 2816 + 1 * (y 1).val = (y 1).val; rw [e1]; omega
  rw [hi]
  have hq := pay2_eq (k0_pay5 (iblk m c 0 t) (iblk m c 1 t) (iblk m c 3 t) (iblk m c 2 t)) (iblk m c 4 t) (G5 m c) (m ((c : Thread nD τ).loc main_arg4)) (y 0) _
    (pay5_eq m c t (y 0)) (iblk4_apply m c t) (y 1)
  generalize k0_pay2 (k0_pay5 (iblk m c 0 t) (iblk m c 1 t) (iblk m c 3 t) (iblk m c 2 t)) (iblk m c 4 t) = b at hq ⊢
  exact (congrArg b (eq_ix2 y)).trans hq

theorem sum_rows (f : Fin 8448 → EReal) : ∑ t : Fin cfg0.N, ∑ r : Fin 384, f ⟨t.val * 384 + r.val, row_lt t r⟩ = ∑ i : Fin 8448, f i :=
  (Fin.sum_univ_tiles (M := EReal) cfg0.N 384 (congrArg (fun a : Nat => a * 384) (N_0 : cfg0.N = 22)) f).symm

theorem sum_scale (Z dx : FVec Ideal S8448x1024 .f32) (b : Fin 1024) :
    ∑ t : Fin cfg0.N, ∑ r : Fin 384, dx (ix2 ⟨t.val * 384 + r.val, row_lt t r⟩ b) * normed (fun k => Z (ix2 ⟨t.val * 384 + r.val, row_lt t r⟩ k)) b
      = ∑ i : Fin 8448, dx (ix2 i b) * normed (fun k => Z (ix2 i k)) b :=
  sum_rows fun i => dx (ix2 i b) * normed (fun k => Z (ix2 i k)) b

theorem sum_shift (dx : FVec Ideal S8448x1024 .f32) (b : Fin 1024) :
    ∑ t : Fin cfg0.N, ∑ r : Fin 384, dx (ix2 ⟨t.val * 384 + r.val, row_lt t r⟩ b) = ∑ i : Fin 8448, dx (ix2 i b) :=
  sum_rows fun i => dx (ix2 i b)

theorem sum_part (c : Dev nD) (a : Fin 8) (b : Fin 1024) :
    ∑ t : Fin cfg0.N, part (iblk m c 0 t) (iblk m c 1 t) a b = scaleShift (m ((c : Thread nD τ).loc main_arg0)) (m ((c : Thread nD τ).loc main_arg5)) a b := by
  unfold scaleShift part
  split
  · simp only [iblk0_apply, iblk1_apply]
    exact sum_scale _ _ b
  · split
    · simp only [iblk0_apply]
      exact sum_shift _ b
    · exact Finset.sum_const_zero

/-- After the last point the two rows hold the sums over all rows. -/
theorem outs6_last (c : Dev nD) (t : Fin cfg0.N) (ht : t.val % 22 = 21) (y : S8x1024.Idx) : (outsAt0 m c t.val t.isLt).2.1 y = G6 m c y := by
  have hN : cfg0.N = 22 := N_0
  have ht' := t.isLt
  refine (Pipeline.eq_sum_fin_of_reset_step_apply_last (fun n h => (outsAt0 m c n h).2.1) 22 (fun _ => 0) (fun t y => part (iblk m c 0 t) (iblk m c 1 t) (y 0) (y 1))
    (outs6_A m c) (outs6_B m c) hN.le t (by omega) y).trans ?_
  rw [zero_add]
  exact sum_part m c (y 0) (y 1)

theorem final6 (c : Dev nD) : (dats m 0 c).arrAt 6 cfg0.N = G6 m c := by
  refine (dats m 0 c).arrAt_eq_of_covers 6 _ (by decide +kernel) (fun t hf y => ?_)
  blk_simp
  rw [after0_6]
  obtain ⟨e0, e1⟩ := idx6 t
  have hi : ((View.whole main_v20_1).slice (win0_6.rect t)).emb y = (y : S8x1024.Idx) := by
    refine funext fun a => Fin.ext ?_
    match a with
    | ⟨0, _⟩ => show win0_6.index t (0 : Fin 2) * 8 + 1 * (y 0).val = (y 0).val; rw [e0]; omega
    | ⟨1, _⟩ => show win0_6.index t (1 : Fin 2) * 1024 + 1 * (y 1).val = (y 1).val; rw [e1]; omega
  rw [hi]
  exact outs6_last m c t ((flush0_6 t).mp hf) y

end Cert.LnDownIdeal.Value

/-! ## The reference -/

namespace Cert.LnDownRefIdeal.Value

open Cert.LnDownRefIdeal Cert.LnDownRefIdeal.Gen Idealize.ShloMosaic Idealize.ShloMosaic.TcCoe Idealize.SL.Sem
open Cert.LnRow
open Cert.LnDownIdeal.Value (kc kv kn kc_apply kv_apply kr_apply kn_apply erow scaleShift)

/-- The gradients of the normalised entries. -/
def re (dx : FVec Ideal S8448x1024 .f32) (g : FVec Ideal S1024 .f32) : FVec Ideal S8448x1024 .f32 :=
  mulf (shapeCast _ dx shapeCasts_S8448x1024_S8448x1024) (broadcastInDim S8448x1024 ![0, 1] bcast_S1x1024_S8448x1024_0_1 (broadcastInDim S1x1024 ![1] bcast_S1024_S1x1024_1 g))

theorem re_apply (dx : FVec Ideal S8448x1024 .f32) (g : FVec Ideal S1024 .f32) (i : Fin 8448) (j : Fin 1024) : re dx g (ix2 i j) = erow dx g i j := by
  unfold erow
  pointwise [re]

/-- Them, times the reciprocals of the deviations. -/
def rx (E : FVec Ideal S8448x1024 .f32) (R : FVec Ideal S8448x1 .f32) : FVec Ideal S8448x1024 .f32 :=
  mulf E (broadcastInDim S8448x1024 ![0, 1] bcast_S8448x1_S8448x1024_0_1 R)

theorem rx_apply (E : FVec Ideal S8448x1024 .f32) (R : FVec Ideal S8448x1 .f32) (i : Fin 8448) (j : Fin 1024) : rx E R (ix2 i j) = E (ix2 i j) * R (ix2 i 0) := by
  pointwise [rx]

/-- The gradients of the sums of squares. -/
def rq (C E : FVec Ideal S8448x1024 .f32) (R v : FVec Ideal S8448x1 .f32) : FVec Ideal S8448x1 .f32 :=
  Host.divf (mulf (shapeCast _ (Host.reduceAdd (mulf C E) (constant S_ .f32 0x00000000#32) reducesTo_S8448x1024_S8448_d1 h_S_) shapeCasts_S8448_S8448x1)
    (mulf (broadcastInDim S8448x1 ![] bcast_S_S8448x1 (constant S_ .f32 0xBF000000#32)) (Host.divf R v))) (broadcastInDim S8448x1 ![] bcast_S_S8448x1 (constant S_ .f32 0x44800000#32))

theorem rq_apply (C E : FVec Ideal S8448x1024 .f32) (R v : FVec Ideal S8448x1 .f32) (i : Fin 8448) :
    rq C E R v (ix2 i 0) = Ideal.div ((∑ k : Fin 1024, C (ix2 i k) * E (ix2 i k)) * (Ideal.ofBits .f32 0xBF000000#32 * Ideal.div (R (ix2 i 0)) (v (ix2 i 0)))) (Ideal.ofBits .f32 0x44800000#32) := by
  pointwise [rq]

/-- What the variances pass back. -/
def rt (C : FVec Ideal S8448x1024 .f32) (q : FVec Ideal S8448x1 .f32) : FVec Ideal S8448x1024 .f32 :=
  mulf (broadcastInDim S8448x1024 ![0] bcast_S8448_S8448x1024_0 (Host.reduceAdd q (constant S_ .f32 0x00000000#32) reducesTo_S8448x1_S8448_d1 h_S_))
    (mulf (broadcastInDim S8448x1024 ![] bcast_S_S8448x1024 (constant S_ .f32 0x40000000#32)) C)

theorem rt_apply (C : FVec Ideal S8448x1024 .f32) (q : FVec Ideal S8448x1 .f32) (i : Fin 8448) (j : Fin 1024) :
    rt C q (ix2 i j) = q (ix2 i 0) * (Ideal.ofBits .f32 0x40000000#32 * C (ix2 i j)) := by
  pointwise [rt]
  rw [Fin.sum_univ_one]

/-- The gradient of the rows before the norm, of the two parts. -/
def rd (X T : FVec Ideal S8448x1024 .f32) : FVec Ideal S8448x1024 .f32 :=
  addf (addf X T) (broadcastInDim S8448x1024 ![0] bcast_S8448_S8448x1024_0 (Host.reduceAdd (Host.divf (addf
    (shapeCast _ (Host.reduceAdd (Host.negf X) (constant S_ .f32 0x00000000#32) reducesTo_S8448x1024_S8448_d1 h_S_) shapeCasts_S8448_S8448x1)
    (shapeCast _ (Host.reduceAdd (Host.negf T) (constant S_ .f32 0x00000000#32) reducesTo_S8448x1024_S8448_d1 h_S_) shapeCasts_S8448_S8448x1))
    (broadcastInDim S8448x1 ![] bcast_S_S8448x1 (constant S_ .f32 0x44800000#32))) (constant S_ .f32 0x00000000#32) reducesTo_S8448x1_S8448_d1 h_S_))

theorem rd_apply (X T : FVec Ideal S8448x1024 .f32) (i : Fin 8448) (j : Fin 1024) :
    rd X T (ix2 i j) = (X (ix2 i j) + T (ix2 i j)) + Ideal.div ((∑ k : Fin 1024, -(X (ix2 i k))) + ∑ k : Fin 1024, -(T (ix2 i k))) (Ideal.ofBits .f32 0x44800000#32) := by
  pointwise [rd]
  rw [Fin.sum_univ_one]

/-- The gradient of the rows before the norm, of the arguments. -/
def rz (Z dx : FVec Ideal S8448x1024 .f32) (g : FVec Ideal S1024 .f32) : FVec Ideal S8448x1024 .f32 :=
  rd (rx (re dx g) (Host.rsqrt (kv (kc Z)))) (rt (kc Z) (rq (kc Z) (re dx g) (Host.rsqrt (kv (kc Z))) (kv (kc Z))))

theorem rz_apply (Z dx : FVec Ideal S8448x1024 .f32) (g : FVec Ideal S1024 .f32) (i : Fin 8448) (j : Fin 1024) :
    rz Z dx g (ix2 i j) = backRef (fun k => Z (ix2 i k)) (erow dx g i) j := by
  unfold rz backRef varTerm dvar
  rw [rd_apply]
  simp only [rx_apply, rt_apply, rq_apply, re_apply, kr_apply, kv_apply, kc_apply]

/-- The column sums of an array, as a row. -/
def colSum (x : FVec Ideal S8448x1024 .f32) : FVec Ideal S1x1024 .f32 :=
  (broadcastInDim S1x1024 ![1] bcast_S1024_S1x1024_1 (Host.reduceAdd (shapeCast _ (Host.reduceAdd x (constant S_ .f32 0x00000000#32) reducesTo_S8448x1024_S1024_d0 h_S_) shapeCasts_S1024_S1x1024) (constant S_ .f32 0x00000000#32) reducesTo_S1x1024_S1024_d0 h_S_))

theorem colSum_apply (x : FVec Ideal S8448x1024 .f32) (i : Fin 1) (j : Fin 1024) : colSum x (ix2 i j) = ∑ r : Fin 8448, x (ix2 r j) := by
  pointwise [colSum]
  rw [Fin.sum_univ_one]

/-- The normalised entries times the incoming gradient. -/
def xd (n dx : FVec Ideal S8448x1024 .f32) : FVec Ideal S8448x1024 .f32 := mulf n (shapeCast _ dx shapeCasts_S8448x1024_S8448x1024)

theorem xd_apply (n dx : FVec Ideal S8448x1024 .f32) (i : Fin 8448) (j : Fin 1024) : xd n dx (ix2 i j) = dx (ix2 i j) * n (ix2 i j) := by
  pointwise [xd]
  exact mul_comm _ _

theorem scale_apply (Z dx : FVec Ideal S8448x1024 .f32) (i : Fin 1) (j : Fin 1024) :
    colSum (xd (kn (kc Z) (Host.rsqrt (kv (kc Z)))) dx) (ix2 i j) = ∑ i : Fin 8448, dx (ix2 i j) * normed (fun k => Z (ix2 i k)) j := by
  rw [colSum_apply]
  simp only [xd_apply, kn_apply]

/-- The reference's two rows of gradients, padded to eight. -/
def rows (Z dx : FVec Ideal S8448x1024 .f32) : FVec Ideal S8x1024 .f32 :=
  pad S8x1024 ![0, 0] ![6, 0] ![0, 0] (concatenate S2x1024 0 [⟨S1x1024, colSum (xd (kn (kc Z) (Host.rsqrt (kv (kc Z)))) dx)⟩,
    ⟨S1x1024, colSum dx⟩] concatenates_S1x1024_S1x1024_S2x1024_d0) (sitofp .f32 (constantI S_ 32 0#32)) pads_S2x1024_S8x1024_060_000 h_S_

/-- Two rows padded to eight, at an index. -/
theorem padded_apply (a b : FVec Ideal S1x1024 .f32) (y : S8x1024.Idx) :
    pad S8x1024 ![0, 0] ![6, 0] ![0, 0] (concatenate S2x1024 0 [⟨S1x1024, a⟩, ⟨S1x1024, b⟩] concatenates_S1x1024_S1x1024_S2x1024_d0) (sitofp (F := Ideal) .f32 (constantI S_ 32 0#32)) pads_S2x1024_S8x1024_060_000 h_S_ y
      = if (y 0).val = 0 then a (ix2 0 (y 1)) else if (y 0).val = 1 then b (ix2 0 (y 1)) else 0 := by
  have hin : ∀ p : Fin 2, (y 0).val = p.val → pad S8x1024 ![0, 0] ![6, 0] ![0, 0] (concatenate S2x1024 0 [⟨S1x1024, a⟩, ⟨S1x1024, b⟩] concatenates_S1x1024_S1x1024_S2x1024_d0) (sitofp (F := Ideal) .f32 (constantI S_ 32 0#32)) pads_S2x1024_S8x1024_060_000 h_S_ y
      = concatenate S2x1024 0 [⟨S1x1024, a⟩, ⟨S1x1024, b⟩] concatenates_S1x1024_S1x1024_S2x1024_d0 (ix2 p (y 1)) := fun p hp =>
    pad_apply_of_inside _ _ _ _ _ _ _ y (ix2 p (y 1)) fun ax => by
      match ax with
      | ⟨0, _⟩ => show (y 0).val = 0 + p.val * (0 + 1); omega
      | ⟨1, _⟩ => show (y 1).val = 0 + (y 1).val * (0 + 1); omega
  split
  · next h =>
    rw [hin 0 h]
    exact concatenate_apply_piece (t := S2x1024) 0 [⟨S1x1024, a⟩, ⟨S1x1024, b⟩] concatenates_S1x1024_S1x1024_S2x1024_d0 (ix2 0 (y 1)) 0 (show 0 < 2 by decide) S1x1024 a rfl rfl 0 rfl (ix2 0 (y 1))
      (fun ax hax => by match ax with | ⟨0, _⟩ => exact absurd rfl hax | ⟨1, _⟩ => rfl) rfl
  · split
    · next h =>
      rw [hin 1 h]
      exact concatenate_apply_piece (t := S2x1024) 0 [⟨S1x1024, a⟩, ⟨S1x1024, b⟩] concatenates_S1x1024_S1x1024_S2x1024_d0 (ix2 1 (y 1)) 1 (show 1 < 2 by decide) S1x1024 b rfl rfl 1 rfl (ix2 0 (y 1))
        (fun ax hax => by match ax with | ⟨0, _⟩ => exact absurd rfl hax | ⟨1, _⟩ => rfl) rfl
    · next h0 h1 =>
      refine (pad_apply_of_not_inside _ _ _ _ _ _ _ y (0 : Fin 2) fun h => ?_).trans ?_
      · have h3 : ((y 0).val - 0) / (0 + 1) < 2 := h.2.2
        omega
      · show (((0#32 : BitVec 32).toInt : ℝ) : EReal) = 0
        norm_num

theorem rows_apply (Z dx : FVec Ideal S8448x1024 .f32) (y : S8x1024.Idx) : rows Z dx y = scaleShift Z dx (y 0) (y 1) := by
  refine (padded_apply _ _ y).trans ?_
  exact congrArg₂ (fun a b : EReal => if (y 0).val = 0 then a else if (y 0).val = 1 then b else 0) (scale_apply Z dx 0 (y 1)) (colSum_apply dx 0 (y 1))

/-- The product with the transposed weights. -/
theorem ra_apply (Y : FVec Ideal S8448x1024 .f32) (w : FVec Ideal S2816x1024 .f32) (i : Fin 8448) (j : Fin 2816) :
    Host.dotGeneral dot_S8448x1024_S2816x1024_S8448x2816_1_1_0_0_n_n none Y w (ix2 i j) = ∑ k : Fin 1024, Y (ix2 i k) * w (ix2 j k) := by
  pointwise

end Cert.LnDownRefIdeal.Value

namespace Cert.LnDownIdeal.Value

open Cert.LnDownIdeal Cert.LnDownIdeal.Gen Idealize.ShloMosaic Idealize.ShloMosaic.TcCoe Idealize.SL.Sem
open Cert.LnRow Cert.LnDownRefIdeal.Value

/-- An entry whose absolute value is below infinity is a real number. -/
theorem real_of_lt {x : EReal} (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  refine exists_coe ?_ ?_
  · rintro rfl
    simp [Ideal.cmp] at h
  · rintro rfl
    simp [Ideal.cmp] at h

/-- The two programs compute the same arrays where the rows, the scale and the incoming gradient are finite. -/
theorem algebraic : Cert.algebraic_LnDownIdeal_LnDownRefIdeal_pre_finite_down := by
  intro m g m' g' hpre hargs
  refine ⟨fun c => G5 m c, fun c => G6 m c, fun c => G7 m c,
    (θ_run defs _ _).mono (fun r h c => ⟨(h c).1.trans (final5 m c), (h c).2.1.trans (final6 m c), (h c).2.2.1.trans (final7 m c), (h c).2.2.2⟩) (run_blocks (F := Ideal) m g),
    (θ_run Cert.LnDownRefIdeal.defs _ _).mono (fun r h c => ?_) (Cert.LnDownRefIdeal.Value.run (F := Ideal) m' g')⟩
  obtain ⟨a0, a1, a2, a3, a4, a5⟩ := hargs c
  obtain ⟨h0, h1, h2, h3⟩ := h c
  obtain ⟨p0, p1, p5⟩ := hpre c
  have q0 : ∀ i, ∃ r : ℝ, (m ((c : Thread nD τ).loc main_arg0) : FVec Ideal S8448x1024 .f32) i = (r : EReal) := fun i => real_of_lt (congrFun p0 i)
  have q1 : ∀ i, ∃ r : ℝ, (m ((c : Thread nD τ).loc main_arg1) : FVec Ideal S1024 .f32) i = (r : EReal) := fun i => real_of_lt (congrFun p1 i)
  have q5 : ∀ i, ∃ r : ℝ, (m ((c : Thread nD τ).loc main_arg5) : FVec Ideal S8448x1024 .f32) i = (r : EReal) := fun i => real_of_lt (congrFun p5 i)
  have hz : ∀ (i : Fin 8448) (j : Fin 1024), rz (m ((c : Thread nD τ).loc main_arg0)) (m ((c : Thread nD τ).loc main_arg5)) (m ((c : Thread nD τ).loc main_arg1)) (ix2 i j) = G5 m c (ix2 i j) := fun i j =>
    (rz_apply _ _ _ i j).trans (backRef_eq _ _ (fun k => q0 _) (fun k => by
      obtain ⟨x, hx⟩ := q5 (ix2 i k)
      obtain ⟨y, hy⟩ := q1 (ix1 k)
      exact ⟨x * y, (congrArg₂ (fun a b : EReal => a * b) hx hy).trans (EReal.coe_mul x y).symm⟩) j)
  unfold Cert.LnDownRefIdeal.Value.res_main_v62 at h0
  unfold Cert.LnDownRefIdeal.Value.res_main_v64 at h2
  rw [a0, a1, a5] at h0
  rw [a0, a5] at h1
  rw [a0, a1, a4, a5] at h2
  refine ⟨h0.trans (Eq.trans (b := rz _ _ _) rfl ?_), h1.trans (Eq.trans (b := rows _ _) rfl ?_),
    h2.trans (Eq.trans (b := Host.dotGeneral (F := Ideal) Cert.LnDownRefIdeal.dot_S8448x1024_S2816x1024_S8448x2816_1_1_0_0_n_n none (rz _ _ _) _) rfl ?_), h3⟩
  · funext j
    rw [eq_ix2 j]
    exact hz _ _
  · funext y
    exact rows_apply _ _ y
  · funext j
    rw [eq_ix2 j]
    refine (ra_apply _ _ _ _).trans ?_
    show _ = byWeights _ _ _ _
    unfold byWeights
    exact Finset.sum_congr rfl fun k _ => congrArg (fun a : EReal => a * _) (hz _ _)

end Cert.LnDownIdeal.Value

end
-- ==== Proof.LnLoss.lean ====
/-
  The loss and the gradient that passes back from it through the last layer norm and the down projection: the squares of the
  differences from the target, summed; the gradient of the rows before the norm, its product with the transposed weights,
  and the gradients of the norm's scale and shift. The first row tile lies ahead of the sequence and has no target.
-/
module

public import proofs.«01_k».proof.Defs
public import proofs.«01_k».proof.Proof.Gen.LnLossIdeal.Frame
public import proofs.«01_k».proof.Proof.Gen.LnLossRefIdeal.Run
public import proofs.«01_k».proof.Proof.Gen.Pre_finite_loss
public import proofs.«01_k».proof.Proof.LnBack
public import Idealize.ShloMosaic.Lib.Pointwise
public import Idealize.ShloMosaic.Lib.KernelVsHost
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.LnLossIdeal.Value

open Cert.LnLossIdeal Cert.LnLossIdeal.Gen Idealize.ShloMosaic Idealize.ShloMosaic.TcCoe Idealize.SL.Sem
open Cert.LnRow

/-! ## One point's blocks -/

theorem pay1_apply (xh e : FVec Ideal S256x1024 .f32) (p q : FVec Ideal S256x1 .f32) (rs : Vec Ideal S256x1 .f32) (r : Fin 256) (j : Fin 1024) :
    k0_pay1 xh e p q rs (ix2 r j) = rs (ix2 r 0) * ((e (ix2 r j) - p (ix2 r 0)) - xh (ix2 r j) * q (ix2 r 0)) := by
  pointwise [k0_pay1]

theorem pay2_apply (d xh : FVec Ideal S256x1024 .f32) (acc : Vec Ideal S1x1024 .f32) (i : Fin 1) (j : Fin 1024) :
    k0_pay2 d xh acc (ix2 i j) = acc (ix2 i j) + ∑ r : Fin 256, d (ix2 r j) * xh (ix2 r j) := by
  pointwise [k0_pay2]

theorem pay3_apply (d : FVec Ideal S256x1024 .f32) (acc : Vec Ideal S1x1024 .f32) (i : Fin 1) (j : Fin 1024) :
    k0_pay3 d acc (ix2 i j) = acc (ix2 i j) + ∑ r : Fin 256, d (ix2 r j) := by
  pointwise [k0_pay3]

theorem prod_apply (v : FVec Ideal S256x1024 .f32) (w : FVec Ideal S2816x1024 .bf16) (r : Fin 256) (j : Fin 2816) :
    matmul (F := Ideal) dot_S256x1024_S2816x1024_S256x2816_1_1_0_0_n_n none (truncf .bf16 v bitsLt_bf16_f32) (shapeCast S2816x1024 w shapeCasts_S2816x1024_S2816x1024) (constant S256x2816 .f32 0x00000000#32) (ix2 r j)
      = ∑ k : Fin 1024, v (ix2 r k) * w (ix2 j k) := by
  pointwise

theorem pay4_apply (xh e : FVec Ideal S256x1024 .f32) (p q : FVec Ideal S256x1 .f32) (rs : Vec Ideal S256x1 .f32) (w : Vec Ideal S2816x1024 .bf16) (r : Fin 256) (j : Fin 2816) :
    k0_pay4 xh e p q rs w (ix2 r j) = ∑ k : Fin 1024, k0_pay1 xh e p q rs (ix2 r k) * w (ix2 j k) :=
  prod_apply _ w r j

theorem pay5_apply (j : S8x1024.Idx) : (k0_pay5 (F := Ideal)) j = 0 := by
  pointwise [k0_pay5]

theorem pay6_apply (j : S8x1024.Idx) : (k0_pay6 (F := Ideal)) j = 0 := by
  pointwise [k0_pay6]

theorem sgt_zero : ∀ n : Fin 33, Scalar.cmpi .sgt (BitVec.ofNat 32 n.val) 0#32 = if n.val = 0 then 0#1 else 1#1 := by decide

/-- The differences from the target; the first tile has none. -/
theorem pay7_apply (i : grid0.Coords) (x t : Vec Ideal S256x1024 .f32) (r : Fin 256) (j : Fin 1024) :
    k0_pay7 i x t (ix2 r j) = if (i 0).val = 0 then 0 else x (ix2 r j) - t (ix2 r j) := by
  have hs := sgt_zero (i 0)
  unfold k0_pay7
  dsimp only
  rw [hs]
  split
  · pointwise
  · pointwise

theorem pay8_apply (i : grid0.Coords) (x t : Vec Ideal S256x1024 .f32) (acc : Vec Ideal S1x1024 .f32) (a : Fin 1) (j : Fin 1024) :
    k0_pay8 i x t acc (ix2 a j) = acc (ix2 a j) + ∑ r : Fin 256, k0_pay7 i x t (ix2 r j) * k0_pay7 i x t (ix2 r j) := by
  unfold k0_pay8
  generalize k0_pay7 i x t = e
  pointwise

theorem pay9_apply (i : grid0.Coords) (x t : Vec Ideal S256x1024 .f32) (r : Fin 256) (j : Fin 1024) :
    k0_pay9 i x t (ix2 r j) = Ideal.div (k0_pay7 i x t (ix2 r j)) (Ideal.ofBits .f32 0x44800000#32) := by
  unfold k0_pay9
  generalize k0_pay7 i x t = e
  pointwise

theorem pay10_apply (xh : Vec Ideal S256x1024 .f32) (r : Fin 256) (j : Fin 1024) : k0_pay10 xh (ix2 r j) = xh (ix2 r j) := by
  pointwise [k0_pay10]

theorem pay11_apply (i : grid0.Coords) (x t : Vec Ideal S256x1024 .f32) (g : Vec Ideal S1x1024 .f32) (r : Fin 256) (j : Fin 1024) :
    k0_pay11 i x t g (ix2 r j) = k0_pay9 i x t (ix2 r j) * g (ix2 0 j) := by
  unfold k0_pay11
  generalize k0_pay9 i x t = e
  pointwise

theorem pay12_apply (i : grid0.Coords) (x t : Vec Ideal S256x1024 .f32) (g : Vec Ideal S1x1024 .f32) (r : Fin 256) :
    k0_pay12 i x t g (ix2 r 0) = Ideal.div (∑ k : Fin 1024, k0_pay11 i x t g (ix2 r k)) (Ideal.ofBits .f32 0x44800000#32) := by
  unfold k0_pay12
  generalize k0_pay11 i x t g = e
  pointwise

theorem pay13_apply (i : grid0.Coords) (x t xh : Vec Ideal S256x1024 .f32) (g : Vec Ideal S1x1024 .f32) (r : Fin 256) :
    k0_pay13 i x t xh g (ix2 r 0) = Ideal.div (∑ k : Fin 1024, k0_pay11 i x t g (ix2 r k) * xh (ix2 r k)) (Ideal.ofBits .f32 0x44800000#32) := by
  simp only [← pay10_apply xh]
  unfold k0_pay13
  generalize k0_pay11 i x t g = e
  generalize k0_pay10 xh = n
  pointwise

/-! ## The rows before the norm -/

/-- The centred rows. -/
def kc (Z : FVec Ideal S8448x1024 .f32) : FVec Ideal S8448x1024 .f32 :=
  (subf Z (broadcastInDim S8448x1024 ![0, 1] bcast_S8448x1_S8448x1024_0_1 (Host.divf (broadcastInDim S8448x1 ![0] bcast_S8448_S8448x1_0 (Host.reduceAdd Z (constant S_ .f32 0x00000000#32) reducesTo_S8448x1024_S8448_d1 h_S_)) (broadcastInDim S8448x1 ![] bcast_S_S8448x1 (constant S_ .f32 0x44800000#32)))))

theorem kc_apply (Z : FVec Ideal S8448x1024 .f32) (i : Fin 8448) (j : Fin 1024) : kc Z (ix2 i j) = centred (fun k => Z (ix2 i k)) j := by
  unfold centred
  pointwise [kc]

/-- The variances and the term beside them. -/
def kv (C : FVec Ideal S8448x1024 .f32) : FVec Ideal S8448x1 .f32 :=
  (addf (Host.divf (broadcastInDim S8448x1 ![0] bcast_S8448_S8448x1_0 (Host.reduceAdd (mulf C C) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32)))

theorem kv_apply (C : FVec Ideal S8448x1024 .f32) (i : Fin 8448) :
    kv C (ix2 i 0) = Ideal.div (∑ k : Fin 1024, C (ix2 i k) * C (ix2 i k)) (Ideal.ofBits .f32 0x44800000#32) + Ideal.ofBits .f32 0x3727C5AC#32 := by
  pointwise [kv]

theorem kr_apply (Z : FVec Ideal S8448x1024 .f32) (i : Fin 8448) : Host.rsqrt (kv (kc Z)) (ix2 i 0) = recip (fun k => Z (ix2 i k)) := by
  unfold recip
  simp only [← kc_apply]
  rw [← kv_apply]
  rfl

def kn (C : FVec Ideal S8448x1024 .f32) (r : FVec Ideal S8448x1 .f32) : FVec Ideal S8448x1024 .f32 :=
  mulf C (broadcastInDim S8448x1024 ![0, 1] bcast_S8448x1_S8448x1024_0_1 r)

theorem kn_apply (Z : FVec Ideal S8448x1024 .f32) (i : Fin 8448) (j : Fin 1024) : kn (kc Z) (Host.rsqrt (kv (kc Z))) (ix2 i j) = normed (fun k => Z (ix2 i k)) j := by
  unfold normed
  rw [← kc_apply, ← kr_apply]
  generalize Host.rsqrt (kv (kc Z)) = R
  generalize kc Z = C
  pointwise [kn]

/-- The norm's rows. -/
def kx (n : FVec Ideal S8448x1024 .f32) (g b : FVec Ideal S1024 .f32) : FVec Ideal S8448x1024 .f32 :=
  addf (mulf n (broadcastInDim S8448x1024 ![0, 1] bcast_S1x1024_S8448x1024_0_1 (broadcastInDim S1x1024 ![1] bcast_S1024_S1x1024_1 g)))
    (broadcastInDim S8448x1024 ![0, 1] bcast_S1x1024_S8448x1024_0_1 (broadcastInDim S1x1024 ![1] bcast_S1024_S1x1024_1 b))

theorem kx_apply (n : FVec Ideal S8448x1024 .f32) (g b : FVec Ideal S1024 .f32) (i : Fin 8448) (j : Fin 1024) :
    kx n g b (ix2 i j) = n (ix2 i j) * g (ix1 j) + b (ix1 j) := by
  pointwise [kx]

/-- The differences from the target at row `i`: none in the first 256 rows. -/
def errv (Z : FVec Ideal S8448x1024 .f32) (g b : FVec Ideal S1024 .f32) (T : FVec Ideal S8192x1024 .f32) (i : Fin 8448) (j : Fin 1024) : EReal :=
  if h : i.val < 256 then 0 else (normed (fun k => Z (ix2 i k)) j * g (ix1 j) + b (ix1 j)) - T (ix2 ⟨i.val - 256, by have := i.isLt; omega⟩ j)

/-- The gradient of the norm's rows. -/
def dxv (Z : FVec Ideal S8448x1024 .f32) (g b : FVec Ideal S1024 .f32) (T : FVec Ideal S8192x1024 .f32) (i : Fin 8448) (j : Fin 1024) : EReal :=
  Ideal.div (errv Z g b T i j) (Ideal.ofBits .f32 0x44800000#32)

variable (m : (ℓ : Loc nD τ sig) → Buf (Elt Ideal) ℓ)

theorem row_lt (t : Fin cfg0.N) (r : Fin 256) : t.val * 256 + r.val < 8448 := by
  have := lt_of_lt_of_eq t.isLt (N_0 : cfg0.N = 33)
  omega

theorem coords0 : ∀ t : Fin cfg0.N, (grid0.coords t 0).val = t.val :=
  (by decide +kernel : ∀ t : Fin grid0.N, _)

theorem V_x (c : Dev nD) : V m c main_v23 = kx (kn (kc (m ((c : Thread nD τ).loc main_arg0))) (Host.rsqrt (kv (kc (m ((c : Thread nD τ).loc main_arg0)))))) (m ((c : Thread nD τ).loc main_arg1)) (m ((c : Thread nD τ).loc main_arg2)) := by
  show StableHlo.after hostOps0 _ _ = _
  after_results_simp <;> rfl

theorem V_t (c : Dev nD) : V m c main_arg5 = m ((c : Thread nD τ).loc main_arg5) := by
  show StableHlo.after hostOps0 _ _ = _
  after_results_simp <;> rfl

theorem V_xh (c : Dev nD) : V m c main_v17 = kn (kc (m ((c : Thread nD τ).loc main_arg0))) (Host.rsqrt (kv (kc (m ((c : Thread nD τ).loc main_arg0))))) := by
  show StableHlo.after hostOps0 _ _ = _
  after_results_simp <;> rfl

theorem V_rs (c : Dev nD) : V m c main_v13 = Host.rsqrt (kv (kc (m ((c : Thread nD τ).loc main_arg0)))) := by
  show StableHlo.after hostOps0 _ _ = _
  after_results_simp <;> rfl

/-- The weights are cast before the call, which over the reals changes nothing. -/
theorem V_w (c : Dev nD) : V m c main_v24 = m ((c : Thread nD τ).loc main_arg4) := by
  show StableHlo.after hostOps0 _ _ = _
  after_results_simp <;> rfl

theorem V_g (c : Dev nD) (j : Fin 1024) : V m c main_v25 (ix2 0 j) = m ((c : Thread nD τ).loc main_arg1) (ix1 j) := by
  have h : V m c main_v25 = shapeCast _ (m ((c : Thread nD τ).loc main_arg1)) shapeCasts_S1024_S1x1024 := by
    show StableHlo.after hostOps0 _ _ = _
    after_results_simp <;> rfl
  rw [h]
  generalize m ((c : Thread nD τ).loc main_arg1) = v
  pointwise

/-- Each window's place at a point. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val - 1 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)

theorem iblk0_apply (c : Dev nD) (t : Fin cfg0.N) (r : Fin 256) (k : Fin 1024) :
    iblk m c 0 t (ix2 r k) = normed (fun k => m ((c : Thread nD τ).loc main_arg0) (ix2 ⟨t.val * 256 + r.val, row_lt t r⟩ k)) k * m ((c : Thread nD τ).loc main_arg1) (ix1 k) + m ((c : Thread nD τ).loc main_arg2) (ix1 k) := by
  obtain ⟨e0, e1⟩ := idx0 t
  refine Eq.trans (b := V m c main_v23 (ix2 ⟨t.val * 256 + r.val, row_lt t r⟩ k)) ?_ ((congrFun (V_x m c) _).trans ((kx_apply _ _ _ _ _).trans
    (congrArg (fun a : EReal => a * _ + _) (kn_apply _ _ _))))
  show V m c main_v23 (((cfg0.win 0).blk t).view.emb (ix2 r k)) = _
  refine congrArg _ (funext fun a => Fin.ext ?_)
  match a with
  | ⟨0, _⟩ => show win0_0.index t (0 : Fin 2) * 256 + 1 * r.val = t.val * 256 + r.val; rw [e0]; omega
  | ⟨1, _⟩ => show win0_0.index t (1 : Fin 2) * 1024 + 1 * k.val = k.val; rw [e1]; omega

theorem tgt_lt (t : Fin cfg0.N) (r : Fin 256) : (t.val - 1) * 256 + r.val < 8192 := by
  have := lt_of_lt_of_eq t.isLt (N_0 : cfg0.N = 33)
  omega

theorem iblk1_apply (c : Dev nD) (t : Fin cfg0.N) (r : Fin 256) (k : Fin 1024) :
    iblk m c 1 t (ix2 r k) = m ((c : Thread nD τ).loc main_arg5) (ix2 ⟨(t.val - 1) * 256 + r.val, tgt_lt t r⟩ k) := by
  obtain ⟨e0, e1⟩ := idx1 t
  show V m c main_arg5 (((cfg0.win 1).blk t).view.emb (ix2 r k)) = _
  rw [V_t]
  refine congrArg _ (funext fun a => Fin.ext ?_)
  match a with
  | ⟨0, _⟩ => show win0_1.index t (0 : Fin 2) * 256 + 1 * r.val = (t.val - 1) * 256 + r.val; rw [e0]; omega
  | ⟨1, _⟩ => show win0_1.index t (1 : Fin 2) * 1024 + 1 * k.val = k.val; rw [e1]; omega

theorem iblk2_apply (c : Dev nD) (t : Fin cfg0.N) (r : Fin 256) (k : Fin 1024) :
    iblk m c 2 t (ix2 r k) = normed (fun k => m ((c : Thread nD τ).loc main_arg0) (ix2 ⟨t.val * 256 + r.val, row_lt t r⟩ k)) k := by
  obtain ⟨e0, e1⟩ := idx2 t
  refine Eq.trans (b := V m c main_v17 (ix2 ⟨t.val * 256 + r.val, row_lt t r⟩ k)) ?_ ((congrFun (V_xh m c) _).trans (kn_apply _ _ _))
  show V m c main_v17 (((cfg0.win 2).blk t).view.emb (ix2 r k)) = _
  refine congrArg _ (funext fun a => Fin.ext ?_)
  match a with
  | ⟨0, _⟩ => show win0_2.index t (0 : Fin 2) * 256 + 1 * r.val = t.val * 256 + r.val; rw [e0]; omega
  | ⟨1, _⟩ => show win0_2.index t (1 : Fin 2) * 1024 + 1 * k.val = k.val; rw [e1]; omega

theorem iblk3_apply (c : Dev nD) (t : Fin cfg0.N) (r : Fin 256) :
    iblk m c 3 t (ix2 r 0) = recip (fun k => m ((c : Thread nD τ).loc main_arg0) (ix2 ⟨t.val * 256 + r.val, row_lt t r⟩ k)) := by
  obtain ⟨e0, e1⟩ := idx3 t
  refine Eq.trans (b := V m c main_v13 (ix2 ⟨t.val * 256 + r.val, row_lt t r⟩ 0)) ?_ ((congrFun (V_rs m c) _).trans (kr_apply _ _))
  show V m c main_v13 (((cfg0.win 3).blk t).view.emb (ix2 r 0)) = _
  refine congrArg _ (funext fun a => Fin.ext ?_)
  match a with
  | ⟨0, _⟩ => show win0_3.index t (0 : Fin 2) * 256 + 1 * r.val = t.val * 256 + r.val; rw [e0]; omega
  | ⟨1, _⟩ => show win0_3.index t (1 : Fin 2) * 1 + 1 * 0 = 0; rw [e1]

theorem iblk4_apply (c : Dev nD) (t : Fin cfg0.N) (k : Fin 1024) :
    iblk m c 4 t (ix2 0 k) = m ((c : Thread nD τ).loc main_arg1) (ix1 k) := by
  obtain ⟨e0, e1⟩ := idx4 t
  refine Eq.trans (b := V m c main_v25 (ix2 0 k)) ?_ (V_g m c k)
  show V m c main_v25 (((cfg0.win 4).blk t).view.emb (ix2 0 k)) = _
  refine congrArg _ (funext fun a => Fin.ext ?_)
  match a with
  | ⟨0, _⟩ => show win0_4.index t (0 : Fin 2) * 1 + 1 * 0 = 0; rw [e0]
  | ⟨1, _⟩ => show win0_4.index t (1 : Fin 2) * 1024 + 1 * k.val = k.val; rw [e1]; omega

theorem iblk5_apply (c : Dev nD) (t : Fin cfg0.N) (j : Fin 2816) (k : Fin 1024) :
    iblk m c 5 t (ix2 j k) = m ((c : Thread nD τ).loc main_arg4) (ix2 j k) := by
  obtain ⟨e0, e1⟩ := idx5 t
  refine Eq.trans (b := V m c main_v24 (ix2 j k)) ?_ (congrFun (V_w m c) _)
  show V m c main_v24 (((cfg0.win 5).blk t).view.emb (ix2 j k)) = _
  refine congrArg _ (funext fun a => Fin.ext ?_)
  match a with
  | ⟨0, _⟩ => show win0_5.index t (0 : Fin 2) * 2816 + 1 * j.val = j.val; rw [e0]; omega
  | ⟨1, _⟩ => show win0_5.index t (1 : Fin 2) * 1024 + 1 * k.val = k.val; rw [e1]; omega

/-- The differences of a point's tile. -/
theorem err_eq (c : Dev nD) (t : Fin cfg0.N) (r : Fin 256) (j : Fin 1024) :
    k0_pay7 (grid0.coords t) (iblk m c 0 t) (iblk m c 1 t) (ix2 r j)
      = errv (m ((c : Thread nD τ).loc main_arg0)) (m ((c : Thread nD τ).loc main_arg1)) (m ((c : Thread nD τ).loc main_arg2)) (m ((c : Thread nD τ).loc main_arg5)) ⟨t.val * 256 + r.val, row_lt t r⟩ j := by
  rw [pay7_apply, coords0]
  unfold errv
  by_cases h : t.val = 0
  · rw [if_pos h, dif_pos (show t.val * 256 + r.val < 256 by have := r.isLt; omega)]
  · rw [if_neg h, dif_neg (show ¬t.val * 256 + r.val < 256 by omega), iblk0_apply, iblk1_apply]
    have h2 : (⟨(t.val - 1) * 256 + r.val, tgt_lt t r⟩ : Fin 8192) = ⟨t.val * 256 + r.val - 256, by have := row_lt t r; omega⟩ := Fin.ext (by show (t.val - 1) * 256 + r.val = t.val * 256 + r.val - 256; omega)
    rw [h2]

theorem dx_eq (c : Dev nD) (t : Fin cfg0.N) (r : Fin 256) (j : Fin 1024) :
    k0_pay9 (grid0.coords t) (iblk m c 0 t) (iblk m c 1 t) (ix2 r j)
      = dxv (m ((c : Thread nD τ).loc main_arg0)) (m ((c : Thread nD τ).loc main_arg1)) (m ((c : Thread nD τ).loc main_arg2)) (m ((c : Thread nD τ).loc main_arg5)) ⟨t.val * 256 + r.val, row_lt t r⟩ j := by
  rw [pay9_apply, err_eq]
  rfl

/-! ## What a point leaves -/

theorem outs6 (c : Dev nD) (t : Fin cfg0.N) : (outsAt0 m c t.val t.isLt).1 = k0_pay1 (k0_pay10 (iblk m c 2 t)) (k0_pay11 (grid0.coords t) (iblk m c 0 t) (iblk m c 1 t) (iblk m c 4 t)) (k0_pay12 (grid0.coords t) (iblk m c 0 t) (iblk m c 1 t) (iblk m c 4 t)) (k0_pay13 (grid0.coords t) (iblk m c 0 t) (iblk m c 1 t) (iblk m c 2 t) (iblk m c 4 t)) (iblk m c 3 t) := by
  by_cases h0 : t.val % 33 = 0
  · rw [outsAt0_A m c t h0]
    dsimp only
    frame_out
  · rw [outsAt0_B m c t h0]
    dsimp only
    frame_out

theorem outs8 (c : Dev nD) (t : Fin cfg0.N) : (outsAt0 m c t.val t.isLt).2.2.1 = k0_pay4 (k0_pay10 (iblk m c 2 t)) (k0_pay11 (grid0.coords t) (iblk m c 0 t) (iblk m c 1 t) (iblk m c 4 t)) (k0_pay12 (grid0.coords t) (iblk m c 0 t) (iblk m c 1 t) (iblk m c 4 t)) (k0_pay13 (grid0.coords t) (iblk m c 0 t) (iblk m c 1 t) (iblk m c 2 t) (iblk m c 4 t)) (iblk m c 3 t) (iblk m c 5 t) := by
  by_cases h0 : t.val % 33 = 0
  · rw [outsAt0_A m c t h0]
    dsimp only
    frame_out
  · rw [outsAt0_B m c t h0]
    dsimp only
    frame_out

/-- Rows 0 and 1 stored over earlier contents. -/
theorem store_rows {κ : Kind} {sp : Space} (v : View sig κ sp S8x1024 .f32) (f : v.ty.Contents (Elt Ideal)) (w0 w1 : FVec Ideal S1x1024 .f32)
    (L : List (View.Piece (Elt Ideal) S8x1024 .f32)) (y : S8x1024.Idx) :
    v.read (Elt Ideal) (v.writes (Elt Ideal) f ((⟨Rect.unit (s := S8x1024) ![1, 0] ![1, 1024] inb_S8x1024_S1x1024_1_0, w1⟩ : View.Piece (Elt Ideal) S8x1024 .f32)
        :: ⟨Rect.unit (s := S8x1024) ![0, 0] ![1, 1024] inb_S8x1024_S1x1024_0_0, w0⟩ :: L)) y
      = if (y 0).val = 0 then w0 (ix2 0 (y 1)) else if (y 0).val = 1 then w1 (ix2 0 (y 1)) else v.read (Elt Ideal) (v.writes (Elt Ideal) f L) y := by
  split
  · next h =>
    rw [View.read_writes_cons_rows_of_not_mem (d := ![8, 1024]) v f inb_S8x1024_S1x1024_1_0 w1 _ y (o := 1) (W := 1) rfl rfl (Or.inl (by rw [h]; decide))]
    exact View.read_writes_cons_rows_of_mem (d := ![8, 1024]) v f inb_S8x1024_S1x1024_0_0 w0 _ y (ix2 0 (y 1)) (o := 0) rfl (by rw [h]; rfl) rfl
  · next h =>
    split
    · next h1 =>
      exact View.read_writes_cons_rows_of_mem (d := ![8, 1024]) v f inb_S8x1024_S1x1024_1_0 w1 _ y (ix2 0 (y 1)) (o := 1) rfl (by rw [h1]; rfl) rfl
    · next h1 =>
      rw [View.read_writes_cons_rows_of_not_mem (d := ![8, 1024]) v f inb_S8x1024_S1x1024_1_0 w1 _ y (o := 1) (W := 1) rfl rfl (Or.inr (by omega)),
        View.read_writes_cons_rows_of_not_mem (d := ![8, 1024]) v f inb_S8x1024_S1x1024_0_0 w0 _ y (o := 0) (W := 1) rfl rfl (Or.inr (by omega))]

/-- Row 0 stored over earlier contents. -/
theorem store_row {κ : Kind} {sp : Space} (v : View sig κ sp S8x1024 .f32) (f : v.ty.Contents (Elt Ideal)) (w0 : FVec Ideal S1x1024 .f32)
    (L : List (View.Piece (Elt Ideal) S8x1024 .f32)) (y : S8x1024.Idx) :
    v.read (Elt Ideal) (v.writes (Elt Ideal) f ((⟨Rect.unit (s := S8x1024) ![0, 0] ![1, 1024] inb_S8x1024_S1x1024_0_0, w0⟩ : View.Piece (Elt Ideal) S8x1024 .f32) :: L)) y
      = if (y 0).val = 0 then w0 (ix2 0 (y 1)) else v.read (Elt Ideal) (v.writes (Elt Ideal) f L) y := by
  split
  · next h =>
    exact View.read_writes_cons_rows_of_mem (d := ![8, 1024]) v f inb_S8x1024_S1x1024_0_0 w0 _ y (ix2 0 (y 1)) (o := 0) rfl (by rw [h]; rfl) rfl
  · next h =>
    exact View.read_writes_cons_rows_of_not_mem (d := ![8, 1024]) v f inb_S8x1024_S1x1024_0_0 w0 _ y (o := 0) (W := 1) rfl rfl (Or.inr (by omega))

/-- What a point adds to the two rows of the scale and the shift. -/
def part (d xh : FVec Ideal S256x1024 .f32) (a : Fin 8) (b : Fin 1024) : EReal :=
  if a.val = 0 then ∑ r : Fin 256, d (ix2 r b) * xh (ix2 r b) else if a.val = 1 then ∑ r : Fin 256, d (ix2 r b) else 0

/-- What a point adds to the row of squares. -/
def sqPart (e : FVec Ideal S256x1024 .f32) (a : Fin 8) (b : Fin 1024) : EReal :=
  if a.val = 0 then ∑ r : Fin 256, e (ix2 r b) * e (ix2 r b) else 0

theorem ld_row0 (X : FVec Ideal S8x1024 .f32) (y : S8x1024.Idx) (h : (y 0).val = 0) :
    View.ld (Val := Elt Ideal) (e' := .f32) X (Rect.unit (s := S8x1024) ![0, 0] ![1, 1024] inb_S8x1024_S1x1024_0_0) (ix2 0 (y 1)) = X y := by
  refine congrArg X (funext fun a => Fin.ext ?_)
  match a with
  | ⟨0, _⟩ => exact h.symm
  | ⟨1, _⟩ => show 0 + 1 * (y 1).val = (y 1).val; omega

theorem ld_row1 (X : FVec Ideal S8x1024 .f32) (y : S8x1024.Idx) (h : (y 0).val = 1) :
    View.ld (Val := Elt Ideal) (e' := .f32) X (Rect.unit (s := S8x1024) ![1, 0] ![1, 1024] inb_S8x1024_S1x1024_1_0) (ix2 0 (y 1)) = X y := by
  refine congrArg X (funext fun a => Fin.ext ?_)
  match a with
  | ⟨0, _⟩ => exact h.symm
  | ⟨1, _⟩ => show 0 + 1 * (y 1).val = (y 1).val; omega

/-- Both rows over contents `X`. -/
theorem rows_eq (d xh : FVec Ideal S256x1024 .f32) (X : FVec Ideal S8x1024 .f32) (y : S8x1024.Idx) :
    (if (y 0).val = 0 then k0_pay2 d xh (View.ld (Val := Elt Ideal) (e' := .f32) X (Rect.unit (s := S8x1024) ![0, 0] ![1, 1024] inb_S8x1024_S1x1024_0_0)) (ix2 0 (y 1))
      else if (y 0).val = 1 then k0_pay3 d (View.ld (Val := Elt Ideal) (e' := .f32) X (Rect.unit (s := S8x1024) ![1, 0] ![1, 1024] inb_S8x1024_S1x1024_1_0)) (ix2 0 (y 1))
      else X y) = X y + part d xh (y 0) (y 1) := by
  unfold part
  split
  · next h => exact (pay2_apply d xh _ 0 (y 1)).trans (congrArg (fun a : EReal => a + _) (ld_row0 X y h))
  · split
    · next h => exact (pay3_apply d _ 0 (y 1)).trans (congrArg (fun a : EReal => a + _) (ld_row1 X y h))
    · rw [add_zero]

/-- The row of squares over contents `X`. -/
theorem row_eq (i : grid0.Coords) (x t : Vec Ideal S256x1024 .f32) (X : FVec Ideal S8x1024 .f32) (y : S8x1024.Idx) :
    (if (y 0).val = 0 then k0_pay8 i x t (View.ld (Val := Elt Ideal) (e' := .f32) X (Rect.unit (s := S8x1024) ![0, 0] ![1, 1024] inb_S8x1024_S1x1024_0_0)) (ix2 0 (y 1))
      else X y) = X y + sqPart (k0_pay7 i x t) (y 0) (y 1) := by
  unfold sqPart
  split
  · next h => exact (pay8_apply i x t _ 0 (y 1)).trans (congrArg (fun a : EReal => a + _) (ld_row0 X y h))
  · rw [add_zero]

theorem outs7_A (c : Dev nD) (t : Fin cfg0.N) (h0 : t.val % 33 = 0) (y : S8x1024.Idx) :
    (outsAt0 m c t.val t.isLt).2.1 y = 0 + part (k0_pay9 (grid0.coords t) (iblk m c 0 t) (iblk m c 1 t)) (k0_pay10 (iblk m c 2 t)) (y 0) (y 1) := by
  rw [outsAt0_A m c t h0]
  dsimp only
  frame_out
  rw [View.readCov_skip _ _ _ _ _ (by decide), View.readCov_fill _ _ _ _ _ (by decide), View.readCov_fill _ _ _ _ _ (by decide),
    ← View.read_writes_junk_eq_canon (ms0_7 t).view]
  refine (store_rows _ _ _ _ _ y).trans ?_
  rw [View.read_writes_junk_eq_canon, View.canon_cons_unit_lit' _ _ _ (by decide)]
  refine (rows_eq _ _ _ y).trans ?_
  rw [pay5_apply]

theorem outs7_B (c : Dev nD) (t : Fin cfg0.N) (h0 : ¬t.val % 33 = 0) (y : S8x1024.Idx) :
    (outsAt0 m c t.val t.isLt).2.1 y = (outsAt0 m c (t.val - 1) (Nat.lt_of_le_of_lt (Nat.sub_le _ _) t.isLt)).2.1 y + part (k0_pay9 (grid0.coords t) (iblk m c 0 t) (iblk m c 1 t)) (k0_pay10 (iblk m c 2 t)) (y 0) (y 1) := by
  rw [outsAt0_B m c t h0]
  dsimp only
  frame_out
  generalize (outsAt0 m c (t.val - 1) (Nat.lt_of_le_of_lt (Nat.sub_le _ _) t.isLt)).2.1 = X
  refine (store_rows _ _ _ _ _ y).trans ?_
  rw [View.writes_nil, Memref.IsWhole.read_unread]
  exact rows_eq _ _ _ y

theorem outs9_A (c : Dev nD) (t : Fin cfg0.N) (h0 : t.val % 33 = 0) (y : S8x1024.Idx) :
    (outsAt0 m c t.val t.isLt).2.2.2 y = 0 + sqPart (k0_pay7 (grid0.coords t) (iblk m c 0 t) (iblk m c 1 t)) (y 0) (y 1) := by
  rw [outsAt0_A m c t h0]
  dsimp only
  frame_out
  rw [View.readCov_fill _ _ _ _ _ (by decide), ← View.read_writes_junk_eq_canon (ms0_9 t).view]
  refine (store_row _ _ _ _ y).trans ?_
  rw [View.read_writes_junk_eq_canon, View.canon_cons_unit_lit' _ _ _ (by decide)]
  refine (row_eq _ _ _ _ y).trans ?_
  rw [pay6_apply]

theorem outs9_B (c : Dev nD) (t : Fin cfg0.N) (h0 : ¬t.val % 33 = 0) (y : S8x1024.Idx) :
    (outsAt0 m c t.val t.isLt).2.2.2 y = (outsAt0 m c (t.val - 1) (Nat.lt_of_le_of_lt (Nat.sub_le _ _) t.isLt)).2.2.2 y + sqPart (k0_pay7 (grid0.coords t) (iblk m c 0 t) (iblk m c 1 t)) (y 0) (y 1) := by
  rw [outsAt0_B m c t h0]
  dsimp only
  frame_out
  generalize (outsAt0 m c (t.val - 1) (Nat.lt_of_le_of_lt (Nat.sub_le _ _) t.isLt)).2.2.2 = X
  refine (store_row _ _ _ _ y).trans ?_
  rw [View.writes_nil, Memref.IsWhole.read_unread]
  exact row_eq _ _ _ _ y

/-! ## The whole arrays -/

/-- The gradients of the normalised entries of row `i`. -/
def erow (Z : FVec Ideal S8448x1024 .f32) (g b : FVec Ideal S1024 .f32) (T : FVec Ideal S8192x1024 .f32) (i : Fin 8448) (k : Fin 1024) : EReal := dxv Z g b T i k * g (ix1 k)

/-- The gradient of the rows before the norm. -/
def dzv (Z : FVec Ideal S8448x1024 .f32) (g b : FVec Ideal S1024 .f32) (T : FVec Ideal S8192x1024 .f32) (i : Fin 8448) (j : Fin 1024) : EReal :=
  back (fun k => Z (ix2 i k)) (erow Z g b T i) j

/-- The gradients of the scale, in row 0, and of the shift, in row 1. -/
def scaleShift (Z : FVec Ideal S8448x1024 .f32) (d : Fin 8448 → Fin 1024 → EReal) (a : Fin 8) (b : Fin 1024) : EReal :=
  if a.val = 0 then ∑ i : Fin 8448, d i b * normed (fun k => Z (ix2 i k)) b else if a.val = 1 then ∑ i : Fin 8448, d i b else 0

/-- The product with the transposed weights. -/
def byWeights (Y : Fin 8448 → Fin 1024 → EReal) (w : FVec Ideal S2816x1024 .f32) (i : Fin 8448) (j : Fin 2816) : EReal :=
  ∑ k : Fin 1024, Y i k * w (ix2 j k)

/-- The column sums of the squares, in row 0. -/
def squares (e : Fin 8448 → Fin 1024 → EReal) (a : Fin 8) (b : Fin 1024) : EReal :=
  if a.val = 0 then ∑ i : Fin 8448, e i b * e i b else 0

def G6 (c : Dev nD) : Buf (Elt Ideal) ((c : Thread nD τ).loc main_v26_0) := fun y =>
  dzv (m ((c : Thread nD τ).loc main_arg0)) (m ((c : Thread nD τ).loc main_arg1)) (m ((c : Thread nD τ).loc main_arg2)) (m ((c : Thread nD τ).loc main_arg5)) (y 0) (y 1)

def G7 (c : Dev nD) : Buf (Elt Ideal) ((c : Thread nD τ).loc main_v26_1) := fun y =>
  scaleShift (m ((c : Thread nD τ).loc main_arg0)) (dxv (m ((c : Thread nD τ).loc main_arg0)) (m ((c : Thread nD τ).loc main_arg1)) (m ((c : Thread nD τ).loc main_arg2)) (m ((c : Thread nD τ).loc main_arg5))) (y 0) (y 1)

def G8 (c : Dev nD) : Buf (Elt Ideal) ((c : Thread nD τ).loc main_v26_2) := fun y =>
  byWeights (dzv (m ((c : Thread nD τ).loc main_arg0)) (m ((c : Thread nD τ).loc main_arg1)) (m ((c : Thread nD τ).loc main_arg2)) (m ((c : Thread nD τ).loc main_arg5))) (m ((c : Thread nD τ).loc main_arg4)) (y 0) (y 1)

def G9 (c : Dev nD) : Buf (Elt Ideal) ((c : Thread nD τ).loc main_v26_3) := fun y =>
  squares (errv (m ((c : Thread nD τ).loc main_arg0)) (m ((c : Thread nD τ).loc main_arg1)) (m ((c : Thread nD τ).loc main_arg2)) (m ((c : Thread nD τ).loc main_arg5))) (y 0) (y 1)

theorem dz_eq (c : Dev nD) (t : Fin cfg0.N) (r : Fin 256) (j : Fin 1024) :
    k0_pay1 (k0_pay10 (iblk m c 2 t)) (k0_pay11 (grid0.coords t) (iblk m c 0 t) (iblk m c 1 t) (iblk m c 4 t)) (k0_pay12 (grid0.coords t) (iblk m c 0 t) (iblk m c 1 t) (iblk m c 4 t)) (k0_pay13 (grid0.coords t) (iblk m c 0 t) (iblk m c 1 t) (iblk m c 2 t) (iblk m c 4 t)) (iblk m c 3 t) (ix2 r j) = dzv (m ((c : Thread nD τ).loc main_arg0)) (m ((c : Thread nD τ).loc main_arg1)) (m ((c : Thread nD τ).loc main_arg2)) (m ((c : Thread nD τ).loc main_arg5)) ⟨t.val * 256 + r.val, row_lt t r⟩ j := by
  rw [pay1_apply, pay12_apply, pay13_apply]
  simp only [pay10_apply, pay11_apply, dx_eq, iblk2_apply, iblk3_apply, iblk4_apply]
  rfl

theorem final6 (c : Dev nD) : (dats m 0 c).arrAt 6 cfg0.N = G6 m c := by
  refine (dats m 0 c).arrAt_eq_of_covers 6 _ (by decide +kernel) (fun t hf y => ?_)
  blk_simp
  rw [after0_6, outs6]
  obtain ⟨e0, e1⟩ := idx6 t
  have hi : ((View.whole main_v26_0).slice (win0_6.rect t)).emb y = (ix2 ⟨t.val * 256 + (y 0).val, row_lt t (y 0)⟩ (y 1) : S8448x1024.Idx) := by
    refine funext fun a => Fin.ext ?_
    match a with
    | ⟨0, _⟩ => show win0_6.index t (0 : Fin 2) * 256 + 1 * (y 0).val = t.val * 256 + (y 0).val; rw [e0]; omega
    | ⟨1, _⟩ => show win0_6.index t (1 : Fin 2) * 1024 + 1 * (y 1).val = (y 1).val; rw [e1]; omega
  rw [hi]
  have hp := dz_eq m c t (y 0) (y 1)
  generalize k0_pay1 (k0_pay10 (iblk m c 2 t)) (k0_pay11 (grid0.coords t) (iblk m c 0 t) (iblk m c 1 t) (iblk m c 4 t)) (k0_pay12 (grid0.coords t) (iblk m c 0 t) (iblk m c 1 t) (iblk m c 4 t)) (k0_pay13 (grid0.coords t) (iblk m c 0 t) (iblk m c 1 t) (iblk m c 2 t) (iblk m c 4 t)) (iblk m c 3 t) = b at hp ⊢
  exact (congrArg b (eq_ix2 y)).trans hp

theorem pay4_eq (xh e : FVec Ideal S256x1024 .f32) (p q : FVec Ideal S256x1 .f32) (rs : Vec Ideal S256x1 .f32) (w : Vec Ideal S2816x1024 .bf16)
    (Y : Fin 8448 → Fin 1024 → EReal) (w' : FVec Ideal S2816x1024 .f32)
    (r : Fin 256) (i : Fin 8448) (hb : ∀ j, k0_pay1 xh e p q rs (ix2 r j) = Y i j) (hw : ∀ j k, w (ix2 j k) = w' (ix2 j k)) (j : Fin 2816) :
    k0_pay4 xh e p q rs w (ix2 r j) = byWeights Y w' i j := by
  rw [pay4_apply]
  simp only [hb, hw]
  rfl

theorem final8 (c : Dev nD) : (dats m 0 c).arrAt 8 cfg0.N = G8 m c := by
  refine (dats m 0 c).arrAt_eq_of_covers 8 _ (by decide +kernel) (fun t hf y => ?_)
  blk_simp
  rw [after0_8, outs8]
  obtain ⟨e0, e1⟩ := idx8 t
  have hi : ((View.whole main_v26_2).slice (win0_8.rect t)).emb y = (ix2 ⟨t.val * 256 + (y 0).val, row_lt t (y 0)⟩ (y 1) : S8448x2816.Idx) := by
    refine funext fun a => Fin.ext ?_
    match a with
    | ⟨0, _⟩ => show win0_8.index t (0 : Fin 2) * 256 + 1 * (y 0).val = t.val * 256 + (y 0).val; rw [e0]; omega
    | ⟨1, _⟩ => show win0_8.index t (1 : Fin 2) * 2816 + 1 * (y 1).val = (y 1).val; rw [e1]; omega
  rw [hi]
  have hq := pay4_eq (k0_pay10 (iblk m c 2 t)) (k0_pay11 (grid0.coords t) (iblk m c 0 t) (iblk m c 1 t) (iblk m c 4 t)) (k0_pay12 (grid0.coords t) (iblk m c 0 t) (iblk m c 1 t) (iblk m c 4 t)) (k0_pay13 (grid0.coords t) (iblk m c 0 t) (iblk m c 1 t) (iblk m c 2 t) (iblk m c 4 t)) (iblk m c 3 t) (iblk m c 5 t) (dzv (m ((c : Thread nD τ).loc main_arg0)) (m ((c : Thread nD τ).loc main_arg1)) (m ((c : Thread nD τ).loc main_arg2)) (m ((c : Thread nD τ).loc main_arg5))) (m ((c : Thread nD τ).loc main_arg4)) (y 0) _
    (dz_eq m c t (y 0)) (iblk5_apply m c t) (y 1)
  generalize k0_pay4 (k0_pay10 (iblk m c 2 t)) (k0_pay11 (grid0.coords t) (iblk m c 0 t) (iblk m c 1 t) (iblk m c 4 t)) (k0_pay12 (grid0.coords t) (iblk m c 0 t) (iblk m c 1 t) (iblk m c 4 t)) (k0_pay13 (grid0.coords t) (iblk m c 0 t) (iblk m c 1 t) (iblk m c 2 t) (iblk m c 4 t)) (iblk m c 3 t) (iblk m c 5 t) = b at hq ⊢
  exact (congrArg b (eq_ix2 y)).trans hq

theorem sum_rows (f : Fin 8448 → EReal) : ∑ t : Fin cfg0.N, ∑ r : Fin 256, f ⟨t.val * 256 + r.val, row_lt t r⟩ = ∑ i : Fin 8448, f i :=
  (Fin.sum_univ_tiles (M := EReal) cfg0.N 256 (congrArg (fun a : Nat => a * 256) (N_0 : cfg0.N = 33)) f).symm

theorem sum_scale (Z : FVec Ideal S8448x1024 .f32) (d : Fin 8448 → Fin 1024 → EReal) (b : Fin 1024) :
    ∑ t : Fin cfg0.N, ∑ r : Fin 256, d ⟨t.val * 256 + r.val, row_lt t r⟩ b * normed (fun k => Z (ix2 ⟨t.val * 256 + r.val, row_lt t r⟩ k)) b
      = ∑ i : Fin 8448, d i b * normed (fun k => Z (ix2 i k)) b :=
  sum_rows fun i => d i b * normed (fun k => Z (ix2 i k)) b

theorem sum_shift (d : Fin 8448 → Fin 1024 → EReal) (b : Fin 1024) :
    ∑ t : Fin cfg0.N, ∑ r : Fin 256, d ⟨t.val * 256 + r.val, row_lt t r⟩ b = ∑ i : Fin 8448, d i b :=
  sum_rows fun i => d i b

theorem sum_squares (d : Fin 8448 → Fin 1024 → EReal) (b : Fin 1024) :
    ∑ t : Fin cfg0.N, ∑ r : Fin 256, d ⟨t.val * 256 + r.val, row_lt t r⟩ b * d ⟨t.val * 256 + r.val, row_lt t r⟩ b = ∑ i : Fin 8448, d i b * d i b :=
  sum_rows fun i => d i b * d i b

theorem sum_part (c : Dev nD) (a : Fin 8) (b : Fin 1024) :
    ∑ t : Fin cfg0.N, part (k0_pay9 (grid0.coords t) (iblk m c 0 t) (iblk m c 1 t)) (k0_pay10 (iblk m c 2 t)) a b = scaleShift (m ((c : Thread nD τ).loc main_arg0)) (dxv (m ((c : Thread nD τ).loc main_arg0)) (m ((c : Thread nD τ).loc main_arg1)) (m ((c : Thread nD τ).loc main_arg2)) (m ((c : Thread nD τ).loc main_arg5))) a b := by
  unfold scaleShift part
  split
  · simp only [dx_eq, pay10_apply, iblk2_apply]
    exact sum_scale _ _ b
  · split
    · simp only [dx_eq]
      exact sum_shift _ b
    · exact Finset.sum_const_zero

theorem sum_sqPart (c : Dev nD) (a : Fin 8) (b : Fin 1024) :
    ∑ t : Fin cfg0.N, sqPart (k0_pay7 (grid0.coords t) (iblk m c 0 t) (iblk m c 1 t)) a b = squares (errv (m ((c : Thread nD τ).loc main_arg0)) (m ((c : Thread nD τ).loc main_arg1)) (m ((c : Thread nD τ).loc main_arg2)) (m ((c : Thread nD τ).loc main_arg5))) a b := by
  unfold squares sqPart
  split
  · simp only [err_eq]
    exact sum_squares _ b
  · exact Finset.sum_const_zero

/-- After the last point the rows hold the sums over all rows. -/
theorem outs7_last (c : Dev nD) (t : Fin cfg0.N) (ht : t.val % 33 = 32) (y : S8x1024.Idx) : (outsAt0 m c t.val t.isLt).2.1 y = G7 m c y := by
  have hN : cfg0.N = 33 := N_0
  have ht' := t.isLt
  refine (Pipeline.eq_sum_fin_of_reset_step_apply_last (fun n h => (outsAt0 m c n h).2.1) 33 (fun _ => 0) (fun t y => part (k0_pay9 (grid0.coords t) (iblk m c 0 t) (iblk m c 1 t)) (k0_pay10 (iblk m c 2 t)) (y 0) (y 1))
    (outs7_A m c) (outs7_B m c) hN.le t (by omega) y).trans ?_
  rw [zero_add]
  exact sum_part m c (y 0) (y 1)

theorem outs9_last (c : Dev nD) (t : Fin cfg0.N) (ht : t.val % 33 = 32) (y : S8x1024.Idx) : (outsAt0 m c t.val t.isLt).2.2.2 y = G9 m c y := by
  have hN : cfg0.N = 33 := N_0
  have ht' := t.isLt
  refine (Pipeline.eq_sum_fin_of_reset_step_apply_last (fun n h => (outsAt0 m c n h).2.2.2) 33 (fun _ => 0) (fun t y => sqPart (k0_pay7 (grid0.coords t) (iblk m c 0 t) (iblk m c 1 t)) (y 0) (y 1))
    (outs9_A m c) (outs9_B m c) hN.le t (by omega) y).trans ?_
  rw [zero_add]
  exact sum_sqPart m c (y 0) (y 1)

theorem final7 (c : Dev nD) : (dats m 0 c).arrAt 7 cfg0.N = G7 m c := by
  refine (dats m 0 c).arrAt_eq_of_covers 7 _ (by decide +kernel) (fun t hf y => ?_)
  blk_simp
  rw [after0_7]
  obtain ⟨e0, e1⟩ := idx7 t
  have hi : ((View.whole main_v26_1).slice (win0_7.rect t)).emb y = (y : S8x1024.Idx) := by
    refine funext fun a => Fin.ext ?_
    match a with
    | ⟨0, _⟩ => show win0_7.index t (0 : Fin 2) * 8 + 1 * (y 0).val = (y 0).val; rw [e0]; omega
    | ⟨1, _⟩ => show win0_7.index t (1 : Fin 2) * 1024 + 1 * (y 1).val = (y 1).val; rw [e1]; omega
  rw [hi]
  exact outs7_last m c t ((flush0_7 t).mp hf) y

theorem final9 (c : Dev nD) : (dats m 0 c).arrAt 9 cfg0.N = G9 m c := by
  refine (dats m 0 c).arrAt_eq_of_covers 9 _ (by decide +kernel) (fun t hf y => ?_)
  blk_simp
  rw [after0_9]
  obtain ⟨e0, e1⟩ := idx9 t
  have hi : ((View.whole main_v26_3).slice (win0_9.rect t)).emb y = (y : S8x1024.Idx) := by
    refine funext fun a => Fin.ext ?_
    match a with
    | ⟨0, _⟩ => show win0_9.index t (0 : Fin 2) * 8 + 1 * (y 0).val = (y 0).val; rw [e0]; omega
    | ⟨1, _⟩ => show win0_9.index t (1 : Fin 2) * 1024 + 1 * (y 1).val = (y 1).val; rw [e1]; omega
  rw [hi]
  exact outs9_last m c t ((flush0_9 t).mp hf) y

/-! ## The loss after the call -/

/-- Half the sum of row 0, over the width. -/
def lossOf (S : FVec Ideal S8x1024 .f32) : FVec Ideal S_ .f32 :=
  Host.divf (mulf (constant S_ .f32 0x3F000000#32) (Host.reduceAdd (shapeCast S1024 (extractStridedSlice S1x1024 ![0, 0] S slices_S8x1024_S1x1024_0_0) shapeCasts_S1x1024_S1024) (constant S_ .f32 0x00000000#32) reducesTo_S1024_S_d0 h_S_)) (constant S_ .f32 0x44800000#32)

theorem lossOf_apply (S : FVec Ideal S8x1024 .f32) :
    lossOf S ix0 = Ideal.div (Ideal.ofBits .f32 0x3F000000#32 * ∑ j : Fin 1024, S (ix2 0 j)) (Ideal.ofBits .f32 0x44800000#32) := by
  pointwise [lossOf]

theorem loss_after (U : Valuation τ sig (Elt Ideal)) :
    StableHlo.after hostOps1 U (Proc.devRef .tc main_v31) = lossOf (U (Proc.devRef .tc main_v26_3)) := by
  after_results_simp <;> rfl

/-- What the call leaves in its arrays is what the operations after it find there. -/
theorem arr_apply (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 (by decide +kernel) c (V0 m c) _ w

theorem loss_eq (c : Dev nD) :
    Pipeline.afterTail₀ cfgs (dats m) 0 (V0 m) [hostOps1] c main_v31 = lossOf (G9 m c) := by
  unfold Pipeline.afterTail₀
  rw [List.flatten_cons, List.flatten_nil, List.append_nil]
  exact (loss_after _).trans (congrArg lossOf ((arr_apply m c 9).trans (final9 m c)))

end Cert.LnLossIdeal.Value

namespace Cert.LnLossRefIdeal.Value

open Cert.LnLossRefIdeal Cert.LnLossRefIdeal.Gen Idealize.ShloMosaic Idealize.ShloMosaic.TcCoe Idealize.SL.Sem
open Cert.LnRow
open Cert.LnLossIdeal.Value (kc kv kn kx kc_apply kv_apply kr_apply kn_apply kx_apply erow scaleShift errv dxv)

/-- The differences from the target, on the rows that have one. -/
def ry (Z : FVec Ideal S8448x1024 .f32) (g b : FVec Ideal S1024 .f32) (T : FVec Ideal S8192x1024 .f32) : FVec Ideal S8192x1024 .f32 :=
  subf (extractStridedSlice S8192x1024 ![256, 0] (kx (kn (kc Z) (Host.rsqrt (kv (kc Z)))) g b) slices_S8448x1024_S8192x1024_256_0) T

theorem cut_apply (x : FVec Ideal S8448x1024 .f32) (T : FVec Ideal S8192x1024 .f32) (r : Fin 8192) (j : Fin 1024) :
    subf (extractStridedSlice S8192x1024 ![256, 0] x slices_S8448x1024_S8192x1024_256_0) T (ix2 r j) = x (ix2 ⟨256 + r.val, by have := r.isLt; omega⟩ j) - T (ix2 r j) := by
  pointwise

theorem ry_apply (Z : FVec Ideal S8448x1024 .f32) (g b : FVec Ideal S1024 .f32) (T : FVec Ideal S8192x1024 .f32) (r : Fin 8192) (j : Fin 1024) :
    ry Z g b T (ix2 r j) = errv Z g b T ⟨256 + r.val, by have := r.isLt; omega⟩ j := by
  unfold ry errv
  refine (cut_apply _ T r j).trans ?_
  rw [dif_neg (show ¬256 + r.val < 256 by omega), kx_apply, kn_apply]
  have h : (⟨256 + r.val - 256, by have := r.isLt; omega⟩ : Fin 8192) = r := Fin.ext (by show 256 + r.val - 256 = r.val; omega)
  rw [h]

/-- The gradients of the differences. -/
def rg (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) e)

theorem rg_apply (e : FVec Ideal S8192x1024 .f32) (r : Fin 8192) (j : Fin 1024) :
    rg e (ix2 r j) = Ideal.div (Ideal.ofBits .f32 0x3F000000#32 * Ideal.ofBits .f32 0x3F800000#32) (Ideal.ofBits .f32 0x44800000#32) * (Ideal.ofBits .f32 0x40000000#32 * e (ix2 r j)) := by
  pointwise [rg]

/-- The gradients of the norm's rows: zero ahead of the sequence. -/
def rdx (Z : FVec Ideal S8448x1024 .f32) (g b : FVec Ideal S1024 .f32) (T : FVec Ideal S8192x1024 .f32) : FVec Ideal S8448x1024 .f32 :=
  pad S8448x1024 ![256, 0] ![0, 0] ![0, 0] (rg (ry Z g b T)) (constant S_ .f32 0x00000000#32) pads_S8192x1024_S8448x1024_25600_000 h_S_

theorem pad_head (e : FVec Ideal S8192x1024 .f32) (i : Fin 8448) (j : Fin 1024) :
    pad S8448x1024 ![256, 0] ![0, 0] ![0, 0] e (constant (F := Ideal) S_ .f32 0x00000000#32) pads_S8192x1024_S8448x1024_25600_000 h_S_ (ix2 i j)
      = if h : i.val < 256 then 0 else e (ix2 ⟨i.val - 256, by have := i.isLt; omega⟩ j) := by
  split
  · next h =>
    refine (pad_apply_of_not_inside _ _ _ _ _ _ _ (ix2 i j) (0 : Fin 2) fun h' => ?_).trans ?_
    · have h3 : 256 ≤ i.val := h'.1
      omega
    · show Ideal.ofBits .f32 0x00000000#32 = 0
      simp [Ideal.ofBits, Ideal.ieee]
  · next h =>
    exact pad_apply_of_inside _ _ _ _ _ _ _ (ix2 i j) (ix2 ⟨i.val - 256, by have := i.isLt; omega⟩ j) fun ax => by
      match ax with
      | ⟨0, _⟩ => show i.val = 256 + (i.val - 256) * (0 + 1); omega
      | ⟨1, _⟩ => show j.val = 0 + j.val * (0 + 1); omega

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

/-- The chain rule's factor is the reciprocal of the width. -/
theorem factor (x : ℝ) :
    Ideal.div (Ideal.ofBits .f32 0x3F000000#32 * Ideal.ofBits .f32 0x3F800000#32) (Ideal.ofBits .f32 0x44800000#32) * (Ideal.ofBits .f32 0x40000000#32 * (x : EReal))
      = Ideal.div (x : EReal) (Ideal.ofBits .f32 0x44800000#32) := by
  rw [ofBits_half, ofBits_one, ofBits_two, ← EReal.coe_mul, div_1024, div_1024, ← EReal.coe_mul, ← EReal.coe_mul]
  congr 1
  ring

/-- The normalised entries of a finite row are finite. -/
theorem normed_real (z : Fin 1024 → EReal) (hz : ∀ k, ∃ r : ℝ, z k = (r : EReal)) (j : Fin 1024) : ∃ r : ℝ, normed z j = (r : EReal) := by
  choose z' hz' using hz
  obtain ⟨ε, hp, hε⟩ := ofBits_eps
  obtain rfl : z = fun k => (z' k : EReal) := funext hz'
  unfold normed
  rw [centred_coe, recip_coe z' hp hε, ← EReal.coe_mul]
  exact ⟨_, rfl⟩

section Finite

variable (Z : FVec Ideal S8448x1024 .f32) (g b : FVec Ideal S1024 .f32) (T : FVec Ideal S8192x1024 .f32)
  (hZ : ∀ i, ∃ r : ℝ, Z i = (r : EReal)) (hg : ∀ i, ∃ r : ℝ, g i = (r : EReal)) (hb : ∀ i, ∃ r : ℝ, b i = (r : EReal)) (hT : ∀ i, ∃ r : ℝ, T i = (r : EReal))

include hZ hg hb hT

theorem errv_real (i : Fin 8448) (j : Fin 1024) : ∃ r : ℝ, errv Z g b T i j = (r : EReal) := by
  unfold errv
  split
  · exact ⟨0, rfl⟩
  · obtain ⟨x, hx⟩ := normed_real (fun k => Z (ix2 i k)) (fun k => hZ _) j
    obtain ⟨y, hy⟩ := hg (ix1 j)
    obtain ⟨u, hu⟩ := hb (ix1 j)
    obtain ⟨v, hv⟩ := hT (ix2 ⟨i.val - 256, by have := i.isLt; omega⟩ j)
    rw [hx, hy, hu, hv, ← EReal.coe_mul, ← EReal.coe_add, ← EReal.coe_sub]
    exact ⟨_, rfl⟩

theorem dxv_real (i : Fin 8448) (j : Fin 1024) : ∃ r : ℝ, dxv Z g b T i j = (r : EReal) := by
  obtain ⟨x, hx⟩ := errv_real Z g b T hZ hg hb hT i j
  unfold dxv
  rw [hx, div_1024]
  exact ⟨_, rfl⟩

theorem rdx_apply (i : Fin 8448) (j : Fin 1024) : rdx Z g b T (ix2 i j) = dxv Z g b T i j := by
  unfold rdx
  refine (pad_head _ i j).trans ?_
  split
  · next h =>
    have he : errv Z g b T i j = ((0 : ℝ) : EReal) := by
      unfold errv
      rw [dif_pos h]
      rfl
    unfold dxv
    rw [he, div_1024, zero_mul]
    rfl
  · next h =>
    have hi : (⟨256 + (i.val - 256), by have := i.isLt; omega⟩ : Fin 8448) = i := Fin.ext (by show 256 + (i.val - 256) = i.val; omega)
    rw [rg_apply, ry_apply]
    dsimp only
    rw [hi]
    obtain ⟨x, hx⟩ := errv_real Z g b T hZ hg hb hT i j
    unfold dxv
    rw [hx, factor]

end Finite

/-- The gradients of the normalised entries. -/
def re (dx : FVec Ideal S8448x1024 .f32) (g : FVec Ideal S1024 .f32) : FVec Ideal S8448x1024 .f32 :=
  mulf dx (broadcastInDim S8448x1024 ![0, 1] bcast_S1x1024_S8448x1024_0_1 (broadcastInDim S1x1024 ![1] bcast_S1024_S1x1024_1 g))

theorem re_apply (dx : FVec Ideal S8448x1024 .f32) (g : FVec Ideal S1024 .f32) (i : Fin 8448) (j : Fin 1024) : re dx g (ix2 i j) = dx (ix2 i j) * g (ix1 j) := by
  pointwise [re]

/-- Them, times the reciprocals of the deviations. -/
def rx (E : FVec Ideal S8448x1024 .f32) (R : FVec Ideal S8448x1 .f32) : FVec Ideal S8448x1024 .f32 :=
  mulf E (broadcastInDim S8448x1024 ![0, 1] bcast_S8448x1_S8448x1024_0_1 R)

theorem rx_apply (E : FVec Ideal S8448x1024 .f32) (R : FVec Ideal S8448x1 .f32) (i : Fin 8448) (j : Fin 1024) : rx E R (ix2 i j) = E (ix2 i j) * R (ix2 i 0) := by
  pointwise [rx]

/-- The gradients of the sums of squares. -/
def rq (C E : FVec Ideal S8448x1024 .f32) (R v : FVec Ideal S8448x1 .f32) : FVec Ideal S8448x1 .f32 :=
  Host.divf (mulf (shapeCast _ (Host.reduceAdd (mulf C E) (constant S_ .f32 0x00000000#32) reducesTo_S8448x1024_S8448_d1 h_S_) shapeCasts_S8448_S8448x1)
    (mulf (broadcastInDim S8448x1 ![] bcast_S_S8448x1 (constant S_ .f32 0xBF000000#32)) (Host.divf R v))) (broadcastInDim S8448x1 ![] bcast_S_S8448x1 (constant S_ .f32 0x44800000#32))

theorem rq_apply (C E : FVec Ideal S8448x1024 .f32) (R v : FVec Ideal S8448x1 .f32) (i : Fin 8448) :
    rq C E R v (ix2 i 0) = Ideal.div ((∑ k : Fin 1024, C (ix2 i k) * E (ix2 i k)) * (Ideal.ofBits .f32 0xBF000000#32 * Ideal.div (R (ix2 i 0)) (v (ix2 i 0)))) (Ideal.ofBits .f32 0x44800000#32) := by
  pointwise [rq]

/-- What the variances pass back. -/
def rt (C : FVec Ideal S8448x1024 .f32) (q : FVec Ideal S8448x1 .f32) : FVec Ideal S8448x1024 .f32 :=
  mulf (broadcastInDim S8448x1024 ![0] bcast_S8448_S8448x1024_0 (Host.reduceAdd q (constant S_ .f32 0x00000000#32) reducesTo_S8448x1_S8448_d1 h_S_))
    (mulf (broadcastInDim S8448x1024 ![] bcast_S_S8448x1024 (constant S_ .f32 0x40000000#32)) C)

theorem rt_apply (C : FVec Ideal S8448x1024 .f32) (q : FVec Ideal S8448x1 .f32) (i : Fin 8448) (j : Fin 1024) :
    rt C q (ix2 i j) = q (ix2 i 0) * (Ideal.ofBits .f32 0x40000000#32 * C (ix2 i j)) := by
  pointwise [rt]
  rw [Fin.sum_univ_one]

/-- The gradient of the rows before the norm, of the two parts. -/
def rd (X T : FVec Ideal S8448x1024 .f32) : FVec Ideal S8448x1024 .f32 :=
  addf (addf X T) (broadcastInDim S8448x1024 ![0] bcast_S8448_S8448x1024_0 (Host.reduceAdd (Host.divf (addf
    (shapeCast _ (Host.reduceAdd (Host.negf X) (constant S_ .f32 0x00000000#32) reducesTo_S8448x1024_S8448_d1 h_S_) shapeCasts_S8448_S8448x1)
    (shapeCast _ (Host.reduceAdd (Host.negf T) (constant S_ .f32 0x00000000#32) reducesTo_S8448x1024_S8448_d1 h_S_) shapeCasts_S8448_S8448x1))
    (broadcastInDim S8448x1 ![] bcast_S_S8448x1 (constant S_ .f32 0x44800000#32))) (constant S_ .f32 0x00000000#32) reducesTo_S8448x1_S8448_d1 h_S_))

theorem rd_apply (X T : FVec Ideal S8448x1024 .f32) (i : Fin 8448) (j : Fin 1024) :
    rd X T (ix2 i j) = (X (ix2 i j) + T (ix2 i j)) + Ideal.div ((∑ k : Fin 1024, -(X (ix2 i k))) + ∑ k : Fin 1024, -(T (ix2 i k))) (Ideal.ofBits .f32 0x44800000#32) := by
  pointwise [rd]
  rw [Fin.sum_univ_one]

/-- The gradient of the rows before the norm, of the arguments. -/
def rz (Z dx : FVec Ideal S8448x1024 .f32) (g : FVec Ideal S1024 .f32) : FVec Ideal S8448x1024 .f32 :=
  rd (rx (re dx g) (Host.rsqrt (kv (kc Z)))) (rt (kc Z) (rq (kc Z) (re dx g) (Host.rsqrt (kv (kc Z))) (kv (kc Z))))

theorem rz_apply (Z dx : FVec Ideal S8448x1024 .f32) (g : FVec Ideal S1024 .f32) (i : Fin 8448) (j : Fin 1024) :
    rz Z dx g (ix2 i j) = backRef (fun k => Z (ix2 i k)) (fun k => dx (ix2 i k) * g (ix1 k)) j := by
  unfold rz backRef varTerm dvar
  rw [rd_apply]
  simp only [rx_apply, rt_apply, rq_apply, re_apply, kr_apply, kv_apply, kc_apply]

/-- The column sums of an array, as a row. -/
def colSum (x : FVec Ideal S8448x1024 .f32) : FVec Ideal S1x1024 .f32 :=
  (broadcastInDim S1x1024 ![1] bcast_S1024_S1x1024_1 (Host.reduceAdd (shapeCast _ (Host.reduceAdd x (constant S_ .f32 0x00000000#32) reducesTo_S8448x1024_S1024_d0 h_S_) shapeCasts_S1024_S1x1024) (constant S_ .f32 0x00000000#32) reducesTo_S1x1024_S1024_d0 h_S_))

theorem colSum_apply (x : FVec Ideal S8448x1024 .f32) (i : Fin 1) (j : Fin 1024) : colSum x (ix2 i j) = ∑ r : Fin 8448, x (ix2 r j) := by
  pointwise [colSum]
  rw [Fin.sum_univ_one]

/-- The normalised entries times the incoming gradient. -/
def xd (n dx : FVec Ideal S8448x1024 .f32) : FVec Ideal S8448x1024 .f32 := mulf n dx

theorem xd_apply (n dx : FVec Ideal S8448x1024 .f32) (i : Fin 8448) (j : Fin 1024) : xd n dx (ix2 i j) = dx (ix2 i j) * n (ix2 i j) := by
  pointwise [xd]
  exact mul_comm _ _

theorem scale_apply (Z dx : FVec Ideal S8448x1024 .f32) (i : Fin 1) (j : Fin 1024) :
    colSum (xd (kn (kc Z) (Host.rsqrt (kv (kc Z)))) dx) (ix2 i j) = ∑ i : Fin 8448, dx (ix2 i j) * normed (fun k => Z (ix2 i k)) j := by
  rw [colSum_apply]
  simp only [xd_apply, kn_apply]

/-- The reference's two rows of gradients, padded to eight. -/
def rows (Z dx : FVec Ideal S8448x1024 .f32) : FVec Ideal S8x1024 .f32 :=
  pad S8x1024 ![0, 0] ![6, 0] ![0, 0] (concatenate S2x1024 0 [⟨S1x1024, colSum (xd (kn (kc Z) (Host.rsqrt (kv (kc Z)))) dx)⟩,
    ⟨S1x1024, colSum dx⟩] concatenates_S1x1024_S1x1024_S2x1024_d0) (sitofp .f32 (constantI S_ 32 0#32)) pads_S2x1024_S8x1024_060_000 h_S_

/-- Two rows padded to eight, at an index. -/
theorem padded_apply (a b : FVec Ideal S1x1024 .f32) (y : S8x1024.Idx) :
    pad S8x1024 ![0, 0] ![6, 0] ![0, 0] (concatenate S2x1024 0 [⟨S1x1024, a⟩, ⟨S1x1024, b⟩] concatenates_S1x1024_S1x1024_S2x1024_d0) (sitofp (F := Ideal) .f32 (constantI S_ 32 0#32)) pads_S2x1024_S8x1024_060_000 h_S_ y
      = if (y 0).val = 0 then a (ix2 0 (y 1)) else if (y 0).val = 1 then b (ix2 0 (y 1)) else 0 := by
  have hin : ∀ p : Fin 2, (y 0).val = p.val → pad S8x1024 ![0, 0] ![6, 0] ![0, 0] (concatenate S2x1024 0 [⟨S1x1024, a⟩, ⟨S1x1024, b⟩] concatenates_S1x1024_S1x1024_S2x1024_d0) (sitofp (F := Ideal) .f32 (constantI S_ 32 0#32)) pads_S2x1024_S8x1024_060_000 h_S_ y
      = concatenate S2x1024 0 [⟨S1x1024, a⟩, ⟨S1x1024, b⟩] concatenates_S1x1024_S1x1024_S2x1024_d0 (ix2 p (y 1)) := fun p hp =>
    pad_apply_of_inside _ _ _ _ _ _ _ y (ix2 p (y 1)) fun ax => by
      match ax with
      | ⟨0, _⟩ => show (y 0).val = 0 + p.val * (0 + 1); omega
      | ⟨1, _⟩ => show (y 1).val = 0 + (y 1).val * (0 + 1); omega
  split
  · next h =>
    rw [hin 0 h]
    exact concatenate_apply_piece (t := S2x1024) 0 [⟨S1x1024, a⟩, ⟨S1x1024, b⟩] concatenates_S1x1024_S1x1024_S2x1024_d0 (ix2 0 (y 1)) 0 (show 0 < 2 by decide) S1x1024 a rfl rfl 0 rfl (ix2 0 (y 1))
      (fun ax hax => by match ax with | ⟨0, _⟩ => exact absurd rfl hax | ⟨1, _⟩ => rfl) rfl
  · split
    · next h =>
      rw [hin 1 h]
      exact concatenate_apply_piece (t := S2x1024) 0 [⟨S1x1024, a⟩, ⟨S1x1024, b⟩] concatenates_S1x1024_S1x1024_S2x1024_d0 (ix2 1 (y 1)) 1 (show 1 < 2 by decide) S1x1024 b rfl rfl 1 rfl (ix2 0 (y 1))
        (fun ax hax => by match ax with | ⟨0, _⟩ => exact absurd rfl hax | ⟨1, _⟩ => rfl) rfl
    · next h0 h1 =>
      refine (pad_apply_of_not_inside _ _ _ _ _ _ _ y (0 : Fin 2) fun h => ?_).trans ?_
      · have h3 : ((y 0).val - 0) / (0 + 1) < 2 := h.2.2
        omega
      · show (((0#32 : BitVec 32).toInt : ℝ) : EReal) = 0
        norm_num

theorem rows_apply (Z dx : FVec Ideal S8448x1024 .f32) (d : Fin 8448 → Fin 1024 → EReal) (hd : ∀ i j, dx (ix2 i j) = d i j) (y : S8x1024.Idx) :
    rows Z dx y = scaleShift Z d (y 0) (y 1) := by
  refine (padded_apply _ _ y).trans ?_
  refine congrArg₂ (fun a b : EReal => if (y 0).val = 0 then a else if (y 0).val = 1 then b else 0) ((scale_apply Z dx 0 (y 1)).trans ?_) ((colSum_apply dx 0 (y 1)).trans ?_)
  · exact Finset.sum_congr rfl fun i _ => congrArg (fun a : EReal => a * _) (hd i _)
  · exact Finset.sum_congr rfl fun i _ => hd i _

/-- The product with the transposed weights. -/
def ra (Y : FVec Ideal S8448x1024 .f32) (w : FVec Ideal S2816x1024 .f32) : FVec Ideal S8448x2816 .f32 :=
  Host.dotGeneral dot_S8448x1024_S2816x1024_S8448x2816_1_1_0_0_n_n none Y w

theorem ra_apply (Y : FVec Ideal S8448x1024 .f32) (w : FVec Ideal S2816x1024 .f32) (i : Fin 8448) (j : Fin 2816) :
    ra Y w (ix2 i j) = ∑ k : Fin 1024, Y (ix2 i k) * w (ix2 j k) := by
  pointwise [ra]

/-- The reference's loss, of the differences. -/
def rl (e : FVec Ideal S8192x1024 .f32) : FVec Ideal S_ .f32 :=
  mulf (constant S_ .f32 0x3F000000#32) (Host.reduceAdd (Host.divf (Host.reduceAdd (mulf e e) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)

theorem rl_apply (e : FVec Ideal S8192x1024 .f32) :
    rl e ix0 = Ideal.ofBits .f32 0x3F000000#32 * ∑ r : Fin 8192, Ideal.div (∑ j : Fin 1024, e (ix2 r j) * e (ix2 r j)) (Ideal.ofBits .f32 0x44800000#32) := by
  pointwise [rl]

/-- Half the sum of the rows' means is half the sum of the column sums, over the width; rows of zeros add nothing. -/
theorem loss_sum (E : Fin 8448 → Fin 1024 → ℝ) (h0 : ∀ i : Fin 8448, i.val < 256 → ∀ j, E i j = 0) :
    Ideal.ofBits .f32 0x3F000000#32 * ∑ r : Fin 8192, Ideal.div (∑ j : Fin 1024, (E ⟨256 + r.val, by have := r.isLt; omega⟩ j : EReal) * (E ⟨256 + r.val, by have := r.isLt; omega⟩ j : EReal)) (Ideal.ofBits .f32 0x44800000#32)
      = Ideal.div (Ideal.ofBits .f32 0x3F000000#32 * ∑ j : Fin 1024, ∑ i : Fin 8448, (E i j : EReal) * (E i j : EReal)) (Ideal.ofBits .f32 0x44800000#32) := by
  have hs : ∑ i : Fin 8448, ∑ j : Fin 1024, E i j * E i j = ∑ r : Fin 8192, ∑ j : Fin 1024, E ⟨256 + r.val, by have := r.isLt; omega⟩ j * E ⟨256 + r.val, by have := r.isLt; omega⟩ j := by
    refine (Fin.sum_univ_add (a := 256) (b := 8192) fun i : Fin (256 + 8192) => ∑ j : Fin 1024, E i j * E i j).trans ?_
    rw [Finset.sum_eq_zero (fun i _ => Finset.sum_eq_zero fun j _ => ?_), zero_add]
    · rfl
    · rw [h0 (Fin.castAdd 8192 i) i.isLt, zero_mul]
  simp only [← EReal.coe_mul, sum_coe, div_1024, ofBits_half]
  congr 1
  rw [Finset.sum_comm (s := (Finset.univ : Finset (Fin 1024))), hs, ← Finset.sum_mul]
  ring

theorem res38 (m : (ℓ : Loc nD τ sig) → Buf (Elt Ideal) ℓ) (c : Dev nD) : res_main_v38 m c = rl (ry (m ((c.tc : Thread nD τ).loc main_arg0)) (m ((c.tc : Thread nD τ).loc main_arg1)) (m ((c.tc : Thread nD τ).loc main_arg2)) (m ((c.tc : Thread nD τ).loc main_arg5))) := by
  unfold res_main_v38
  rfl

theorem res78 (m : (ℓ : Loc nD τ sig) → Buf (Elt Ideal) ℓ) (c : Dev nD) : res_main_v78 m c = rz (m ((c.tc : Thread nD τ).loc main_arg0)) (rdx (m ((c.tc : Thread nD τ).loc main_arg0)) (m ((c.tc : Thread nD τ).loc main_arg1)) (m ((c.tc : Thread nD τ).loc main_arg2)) (m ((c.tc : Thread nD τ).loc main_arg5))) (m ((c.tc : Thread nD τ).loc main_arg1)) := by
  unfold res_main_v78
  rfl

theorem res84 (m : (ℓ : Loc nD τ sig) → Buf (Elt Ideal) ℓ) (c : Dev nD) : res_main_v84 m c = rows (m ((c.tc : Thread nD τ).loc main_arg0)) (rdx (m ((c.tc : Thread nD τ).loc main_arg0)) (m ((c.tc : Thread nD τ).loc main_arg1)) (m ((c.tc : Thread nD τ).loc main_arg2)) (m ((c.tc : Thread nD τ).loc main_arg5))) := by
  unfold res_main_v84
  rfl

theorem res80 (m : (ℓ : Loc nD τ sig) → Buf (Elt Ideal) ℓ) (c : Dev nD) : res_main_v80 m c = ra (rz (m ((c.tc : Thread nD τ).loc main_arg0)) (rdx (m ((c.tc : Thread nD τ).loc main_arg0)) (m ((c.tc : Thread nD τ).loc main_arg1)) (m ((c.tc : Thread nD τ).loc main_arg2)) (m ((c.tc : Thread nD τ).loc main_arg5))) (m ((c.tc : Thread nD τ).loc main_arg1))) (m ((c.tc : Thread nD τ).loc main_arg4)) := by
  unfold res_main_v80
  rfl

end Cert.LnLossRefIdeal.Value

namespace Cert.LnLossIdeal.Value

open Cert.LnLossIdeal Cert.LnLossIdeal.Gen Idealize.ShloMosaic Idealize.ShloMosaic.TcCoe Idealize.SL.Sem
open Cert.LnRow Cert.LnLossRefIdeal.Value

/-- An entry whose absolute value is below infinity is a real number. -/
theorem real_of_lt {x : EReal} (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  refine exists_coe ?_ ?_
  · rintro rfl
    simp [Ideal.cmp] at h
  · rintro rfl
    simp [Ideal.cmp] at h

/-- The two losses, where the entries are finite. -/
theorem losses (Z : FVec Ideal S8448x1024 .f32) (g b : FVec Ideal S1024 .f32) (T : FVec Ideal S8192x1024 .f32)
    (hZ : ∀ i, ∃ r : ℝ, Z i = (r : EReal)) (hg : ∀ i, ∃ r : ℝ, g i = (r : EReal)) (hb : ∀ i, ∃ r : ℝ, b i = (r : EReal)) (hT : ∀ i, ∃ r : ℝ, T i = (r : EReal))
    (S : FVec Ideal S8x1024 .f32) (hS : ∀ j, S (ix2 0 j) = squares (errv Z g b T) 0 j) : rl (ry Z g b T) ix0 = lossOf S ix0 := by
  have hr := errv_real Z g b T hZ hg hb hT
  choose E hE using hr
  have h0 : ∀ i : Fin 8448, i.val < 256 → ∀ j, E i j = 0 := fun i hi j => by
    have h := hE i j
    unfold errv at h
    rw [dif_pos hi] at h
    exact (EReal.coe_eq_zero.mp h.symm)
  rw [rl_apply, lossOf_apply]
  simp only [ry_apply, hS]
  unfold squares
  simp only [hE]
  exact loss_sum E h0

/-- The two programs compute the same loss and the same arrays where the rows, the scale, the shift and the target are finite. -/
theorem algebraic : Cert.algebraic_LnLossIdeal_LnLossRefIdeal_pre_finite_loss := by
  intro m g m' g' hpre hargs
  refine ⟨fun c => lossOf (G9 m c), fun c => G6 m c, fun c => G7 m c, fun c => G8 m c,
    (θ_run defs _ _).mono (fun r h c => ?_) (run_main m g),
    (θ_run Cert.LnLossRefIdeal.defs _ _).mono (fun r h c => ?_) (Cert.LnLossRefIdeal.Value.run (F := Ideal) m' g')⟩
  · exact ⟨((h c).2 main_v31 (Pipeline.mem_restRefs_of main_v31 (by decide) (by decide))).trans (loss_eq m c),
      ((h c).1 6).trans (final6 m c), ((h c).1 7).trans (final7 m c), ((h c).1 8).trans (final8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 1).trans (((dats m 0 c).arrAt_in 1 rfl _).trans ((A_eq m c 1).trans (V_main_arg5 m c)))⟩
  obtain ⟨a0, a1, a2, a3, a4, a5⟩ := hargs c
  obtain ⟨h0, h1, h2, h3, h4⟩ := h c
  obtain ⟨p0, p1, p2, p5⟩ := hpre c
  have q0 : ∀ i, ∃ r : ℝ, (m ((c : Thread nD τ).loc main_arg0) : FVec Ideal S8448x1024 .f32) i = (r : EReal) := fun i => real_of_lt (congrFun p0 i)
  have q1 : ∀ i, ∃ r : ℝ, (m ((c : Thread nD τ).loc main_arg1) : FVec Ideal S1024 .f32) i = (r : EReal) := fun i => real_of_lt (congrFun p1 i)
  have q2 : ∀ i, ∃ r : ℝ, (m ((c : Thread nD τ).loc main_arg2) : FVec Ideal S1024 .f32) i = (r : EReal) := fun i => real_of_lt (congrFun p2 i)
  have q5 : ∀ i, ∃ r : ℝ, (m ((c : Thread nD τ).loc main_arg5) : FVec Ideal S8192x1024 .f32) i = (r : EReal) := fun i => real_of_lt (congrFun p5 i)
  have hd := rdx_apply _ _ _ _ q0 q1 q2 q5
  have hdr := dxv_real _ _ _ _ q0 q1 q2 q5
  have hl := losses _ _ _ _ q0 q1 q2 q5 (G9 m c) (fun j => rfl)
  have hz : ∀ (i : Fin 8448) (j : Fin 1024), rz (m ((c : Thread nD τ).loc main_arg0)) (rdx (m ((c : Thread nD τ).loc main_arg0)) (m ((c : Thread nD τ).loc main_arg1)) (m ((c : Thread nD τ).loc main_arg2)) (m ((c : Thread nD τ).loc main_arg5))) (m ((c : Thread nD τ).loc main_arg1)) (ix2 i j) = G6 m c (ix2 i j) := fun i j =>
    (rz_apply _ _ _ i j).trans ((congrArg (fun e => backRef _ e j) (funext fun k => congrArg (fun a : EReal => a * _) (hd i k))).trans
      (backRef_eq _ _ (fun k => q0 _) (fun k => by
        obtain ⟨x, hx⟩ := hdr i k
        obtain ⟨y, hy⟩ := q1 (ix1 k)
        exact ⟨x * y, (congrArg₂ (fun a b : EReal => a * b) hx hy).trans (EReal.coe_mul x y).symm⟩) j))
  rw [res38, a0, a1, a2, a5] at h0
  rw [res78, a0, a1, a2, a5] at h1
  rw [res84, a0, a1, a2, a5] at h2
  rw [res80, a0, a1, a2, a4, a5] at h3
  refine ⟨h0.trans ?_, h1.trans ?_, h2.trans ?_, h3.trans ?_, h4⟩
  · funext j
    obtain rfl : j = ix0 := funext fun a => a.elim0
    exact hl
  · funext j
    rw [eq_ix2 j]
    exact hz _ _
  · funext y
    exact rows_apply _ _ _ hd y
  · funext j
    rw [eq_ix2 j]
    refine (ra_apply _ _ _ _).trans ?_
    show _ = byWeights _ _ _ _
    unfold byWeights
    exact Finset.sum_congr rfl fun k _ => congrArg (fun a : EReal => a * _) (hz _ _)

end Cert.LnLossIdeal.Value

end
-- ==== Proof.SumSmall.lean ====
/-
  The sum of the small leaves' gradients over the eight devices: each device's gradients are laid end to end in one row of
  832 rows of 128, one call adds the eight rows, and the leaves' sums are cut out of its output.
-/
module

public import proofs.«01_k».proof.Defs
public import proofs.«01_k».proof.Proof.Gen.SumSmallIdeal.Frame
public import proofs.«01_k».proof.Proof.Gen.SumSmallRefIdeal.Run
public import Idealize.ShloMosaic.Lib.Pointwise
public import Idealize.ShloMosaic.Lib.Pipeline.ValueKit
public import Idealize.ShloMosaic.Lib.Pipeline.ReadBack
public import Idealize.ShloMosaic.Lib.KernelVsHost
public import Idealize.ShloMosaic.Lib.StableHlo.RunClose

@[expose] public section

set_option maxRecDepth 16384

noncomputable section

namespace Cert.SumSmallIdeal.Value

open Cert.SumSmallIdeal Cert.SumSmallIdeal.Gen Idealize.ShloMosaic Idealize.ShloMosaic.TcCoe Idealize.SL.Sem

/-! ## Laying the leaves end to end, adding the devices, and cutting the leaves out again -/

/-- The sum over the eight devices, in their order. -/
def sum8 (f : Fin 8 → EReal) : EReal := f 0 + f 1 + f 2 + f 3 + f 4 + f 5 + f 6 + f 7

theorem sum8_eq (f : Fin 8 → EReal) : ∑ d : Fin 8, f d = sum8 f := Fin.sum_univ_eight f

section Leaves

variable (a0 : FVec Ideal S8x16x1024 .f32) (a1 : FVec Ideal S8x2x512 .f32) (a2 : FVec Ideal S8x2x256x3 .f32) (a3 : FVec Ideal S8x2x4x64x64 .f32) (a4 : FVec Ideal S8x2x256 .f32) (a5 : FVec Ideal S8x2x128 .f32) (a6 : FVec Ideal S8x2x1024 .f32) (a7 : FVec Ideal S8x2x1024 .f32) (a8 : FVec Ideal S8x2x5632x3 .f32) (a9 : FVec Ideal S8x2x5632 .f32) (a10 : FVec Ideal S8x2x1024 .f32) (a11 : FVec Ideal S8x2x1024 .f32)

/-- The leaves, each device's as one row of entries. -/
def parts :
    List ((s : Shape) × (s.Idx → Ideal .f32)) :=
  [⟨S8x16384, shapeCast S8x16384 a0 shapeCasts_S8x16x1024_S8x16384⟩, ⟨S8x1024, shapeCast S8x1024 a1 shapeCasts_S8x2x512_S8x1024⟩, ⟨S8x1536, shapeCast S8x1536 a2 shapeCasts_S8x2x256x3_S8x1536⟩, ⟨S8x32768, shapeCast S8x32768 a3 shapeCasts_S8x2x4x64x64_S8x32768⟩, ⟨S8x512, shapeCast S8x512 a4 shapeCasts_S8x2x256_S8x512⟩, ⟨S8x256, shapeCast S8x256 a5 shapeCasts_S8x2x128_S8x256⟩, ⟨S8x2048, shapeCast S8x2048 a6 shapeCasts_S8x2x1024_S8x2048⟩, ⟨S8x2048, shapeCast S8x2048 a7 shapeCasts_S8x2x1024_S8x2048⟩, ⟨S8x33792, shapeCast S8x33792 a8 shapeCasts_S8x2x5632x3_S8x33792⟩, ⟨S8x11264, shapeCast S8x11264 a9 shapeCasts_S8x2x5632_S8x11264⟩, ⟨S8x2048, shapeCast S8x2048 a10 shapeCasts_S8x2x1024_S8x2048⟩, ⟨S8x2048, shapeCast S8x2048 a11 shapeCasts_S8x2x1024_S8x2048⟩]

/-- The leaves end to end. -/
def flat :
    FVec Ideal S8x105728 .f32 :=
  concatenate S8x105728 1 (parts a0 a1 a2 a3 a4 a5 a6 a7 a8 a9 a10 a11) concatenates_S8x16384_S8x1024_S8x1536_S8x32768_S8x512_S8x256_S8x2048_S8x2048_S8x33792_S8x11264_S8x2048_S8x2048_S8x105728_d1

/-- The leaves end to end, padded to 106496 entries. -/
def padded (x : FVec Ideal S8x105728 .f32) : FVec Ideal S8x106496 .f32 :=
  pad S8x106496 ![0, 0] ![0, 768] ![0, 0] x (sitofp .f32 (constantI S_ 32 0#32)) pads_S8x105728_S8x106496_000_07680 h_S_

/-- The array the call works on: of each device 832 rows of 128. -/
def rows (x : FVec Ideal S8x106496 .f32) : FVec Ideal S8x1x832x128 .f32 :=
  broadcastInDim S8x1x832x128 ![0, 2, 3] bcast_S8x832x128_S8x1x832x128_0_2_3 (shapeCast S8x832x128 x shapeCasts_S8x106496_S8x832x128)

/-- The leaves packed. -/
def pack :
    FVec Ideal S8x1x832x128 .f32 :=
  rows (padded (flat a0 a1 a2 a3 a4 a5 a6 a7 a8 a9 a10 a11))

/-- The sum of a packed array over the devices. -/
def tot (y : FVec Ideal S8x1x832x128 .f32) : FVec Ideal S1x832x128 .f32 := fun i => sum8 fun d => y (ix4 d 0 (i 1) (i 2))

/-- The rows of the call's output end to end. -/
def unrow (y : FVec Ideal S1x832x128 .f32) : FVec Ideal S106496 .f32 :=
  shapeCast S106496 (shapeCast S832x128 y shapeCasts_S1x832x128_S832x128) shapeCasts_S832x128_S106496

theorem bcast_apply (x : FVec Ideal S8x832x128 .f32) (d : Fin 8) (r : Fin 832) (k : Fin 128) :
    broadcastInDim S8x1x832x128 ![0, 2, 3] bcast_S8x832x128_S8x1x832x128_0_2_3 x (ix4 d 0 r k) = x (ix3 d r k) := by
  pointwise

theorem rows_apply (x : FVec Ideal S8x106496 .f32) (d : Fin 8) (r : Fin 832) (k : Fin 128) (n : Fin 106496) (h : n.val = r.val * 128 + k.val) :
    rows x (ix4 d 0 r k) = x (ix2 d n) := by
  unfold rows
  rw [bcast_apply]
  refine shapeCast_apply _ _ _ (ix2 d n) ?_
  rw [Shape.rowMajor_val_two, Shape.rowMajor_val_three]
  show d.val * 106496 + n.val = (d.val * 832 + r.val) * 128 + k.val
  omega

theorem unrow_apply (y : FVec Ideal S1x832x128 .f32) (n : Fin 106496) (r : Fin 832) (k : Fin 128) (h : n.val = r.val * 128 + k.val) :
    unrow y (ix1 n) = y (ix3 0 r k) := by
  unfold unrow
  refine (shapeCast_apply _ _ (ix1 n) (ix2 r k) ?_).trans (shapeCast_apply _ _ (ix2 r k) (ix3 0 r k) ?_)
  · rw [Shape.rowMajor_val_one, Shape.rowMajor_val_two]
    exact h.symm
  · rw [Shape.rowMajor_val_two, Shape.rowMajor_val_three]
    show (0 * 832 + r.val) * 128 + k.val = r.val * 128 + k.val
    omega

/-- Entry `n` of the summed rows is the sum of the devices' entries `n`. -/
theorem unrow_tot (x : FVec Ideal S8x106496 .f32) (n : Fin 106496) : unrow (tot (rows x)) (ix1 n) = sum8 fun d => x (ix2 d n) := by
  have hn := n.isLt
  have h : n.val = (n.val / 128) * 128 + n.val % 128 := by omega
  rw [unrow_apply _ n ⟨n.val / 128, by omega⟩ ⟨n.val % 128, by omega⟩ h]
  exact congrArg sum8 (funext fun d => rows_apply x d _ _ n h)

/-- Inside the leaves, the padded array is the leaves. -/
theorem padded_apply (x : FVec Ideal S8x105728 .f32) (d : Fin 8) (n : Fin 106496) (k : Fin 105728) (h : n.val = k.val) :
    padded x (ix2 d n) = x (ix2 d k) := by
  refine pad_apply_of_inside _ _ _ x _ _ _ (ix2 d n) (ix2 d k) fun a => ?_
  match a with
  | ⟨0, _⟩ => show d.val = 0 + d.val * (0 + 1); omega
  | ⟨1, _⟩ => show n.val = 0 + k.val * (0 + 1); omega

/-- Leaf 0 cut out of the call's output. -/
def leaf0 (y : FVec Ideal S1x832x128 .f32) : FVec Ideal S16x1024 .f32 :=
  shapeCast S16x1024 (extractStridedSlice S16384 ![0] (unrow y) slices_S106496_S16384_0) shapeCasts_S16384_S16x1024

theorem before0 : (([S8x16384, S8x1024, S8x1536, S8x32768, S8x512, S8x256, S8x2048, S8x2048, S8x33792, S8x11264, S8x2048, S8x2048].take 0).map fun s : Shape => if h : s.rank = S8x105728.rank then s.size ((1 : Fin S8x105728.rank).cast h.symm) else 0).sum = 0 := by
  decide +kernel

/-- The leaf within the leaves end to end. -/
theorem flat0 (d : Fin 8) (e : Fin 16384) (n : Fin 105728) (h : n.val = 0 + e.val) :
    flat a0 a1 a2 a3 a4 a5 a6 a7 a8 a9 a10 a11 (ix2 d n) = shapeCast S8x16384 a0 shapeCasts_S8x16x1024_S8x16384 (ix2 d e) := by
  unfold flat
  exact concatenate_apply_piece (t := S8x105728) 1 (parts a0 a1 a2 a3 a4 a5 a6 a7 a8 a9 a10 a11) concatenates_S8x16384_S8x1024_S8x1536_S8x32768_S8x512_S8x256_S8x2048_S8x2048_S8x33792_S8x11264_S8x2048_S8x2048_S8x105728_d1 (ix2 d n) 0 (show 0 < 12 by decide) S8x16384 _ rfl rfl 0 before0 (ix2 d e)
    (fun b hb => by match b with | ⟨0, _⟩ => rfl | ⟨1, _⟩ => exact absurd rfl hb) h.symm

/-- The leaf of the summed rows is the sum of the devices' leaves. -/
theorem leaf0_tot (i0 : Fin 16) (i1 : Fin 1024) :
    leaf0 (tot (pack a0 a1 a2 a3 a4 a5 a6 a7 a8 a9 a10 a11)) (ix2 i0 i1) = sum8 fun d => a0 (ix3 d i0 i1) := by
  have hi0 := i0.isLt
  have hi1 := i1.isLt
  unfold leaf0 pack
  rw [shapeCast_apply _ _ (ix2 i0 i1) (ix1 (⟨i0.val * 1024 + i1.val, by omega⟩ : Fin 16384)) (by rw [Shape.rowMajor_val_one, Shape.rowMajor_val_two]; rfl),
    extractStridedSlice_apply (s := S106496) (t := S16384) ![0] _ slices_S106496_S16384_0 _ (ix1 ⟨0 + (i0.val * 1024 + i1.val), by omega⟩)
      (fun a => by match a with | ⟨0, _⟩ => rfl),
    unrow_tot]
  refine congrArg sum8 (funext fun d => ?_)
  have hd := d.isLt
  rw [padded_apply _ d _ ⟨0 + (i0.val * 1024 + i1.val), by omega⟩ rfl, flat0 a0 a1 a2 a3 a4 a5 a6 a7 a8 a9 a10 a11 d ⟨i0.val * 1024 + i1.val, by omega⟩ _ rfl]
  refine shapeCast_apply _ _ _ (ix3 d i0 i1) ?_
  rw [Shape.rowMajor_val_two, Shape.rowMajor_val_three]
  show (d.val * 16 + i0.val) * 1024 + i1.val = d.val * 16384 + (i0.val * 1024 + i1.val)
  omega

/-- Leaf 1 cut out of the call's output. -/
def leaf1 (y : FVec Ideal S1x832x128 .f32) : FVec Ideal S2x512 .f32 :=
  shapeCast S2x512 (extractStridedSlice S1024 ![16384] (unrow y) slices_S106496_S1024_16384) shapeCasts_S1024_S2x512

theorem before1 : (([S8x16384, S8x1024, S8x1536, S8x32768, S8x512, S8x256, S8x2048, S8x2048, S8x33792, S8x11264, S8x2048, S8x2048].take 1).map fun s : Shape => if h : s.rank = S8x105728.rank then s.size ((1 : Fin S8x105728.rank).cast h.symm) else 0).sum = 16384 := by
  decide +kernel

/-- The leaf within the leaves end to end. -/
theorem flat1 (d : Fin 8) (e : Fin 1024) (n : Fin 105728) (h : n.val = 16384 + e.val) :
    flat a0 a1 a2 a3 a4 a5 a6 a7 a8 a9 a10 a11 (ix2 d n) = shapeCast S8x1024 a1 shapeCasts_S8x2x512_S8x1024 (ix2 d e) := by
  unfold flat
  exact concatenate_apply_piece (t := S8x105728) 1 (parts a0 a1 a2 a3 a4 a5 a6 a7 a8 a9 a10 a11) concatenates_S8x16384_S8x1024_S8x1536_S8x32768_S8x512_S8x256_S8x2048_S8x2048_S8x33792_S8x11264_S8x2048_S8x2048_S8x105728_d1 (ix2 d n) 1 (show 1 < 12 by decide) S8x1024 _ rfl rfl 16384 before1 (ix2 d e)
    (fun b hb => by match b with | ⟨0, _⟩ => rfl | ⟨1, _⟩ => exact absurd rfl hb) h.symm

/-- The leaf of the summed rows is the sum of the devices' leaves. -/
theorem leaf1_tot (i0 : Fin 2) (i1 : Fin 512) :
    leaf1 (tot (pack a0 a1 a2 a3 a4 a5 a6 a7 a8 a9 a10 a11)) (ix2 i0 i1) = sum8 fun d => a1 (ix3 d i0 i1) := by
  have hi0 := i0.isLt
  have hi1 := i1.isLt
  unfold leaf1 pack
  rw [shapeCast_apply _ _ (ix2 i0 i1) (ix1 (⟨i0.val * 512 + i1.val, by omega⟩ : Fin 1024)) (by rw [Shape.rowMajor_val_one, Shape.rowMajor_val_two]; rfl),
    extractStridedSlice_apply (s := S106496) (t := S1024) ![16384] _ slices_S106496_S1024_16384 _ (ix1 ⟨16384 + (i0.val * 512 + i1.val), by omega⟩)
      (fun a => by match a with | ⟨0, _⟩ => rfl),
    unrow_tot]
  refine congrArg sum8 (funext fun d => ?_)
  have hd := d.isLt
  rw [padded_apply _ d _ ⟨16384 + (i0.val * 512 + i1.val), by omega⟩ rfl, flat1 a0 a1 a2 a3 a4 a5 a6 a7 a8 a9 a10 a11 d ⟨i0.val * 512 + i1.val, by omega⟩ _ rfl]
  refine shapeCast_apply _ _ _ (ix3 d i0 i1) ?_
  rw [Shape.rowMajor_val_two, Shape.rowMajor_val_three]
  show (d.val * 2 + i0.val) * 512 + i1.val = d.val * 1024 + (i0.val * 512 + i1.val)
  omega

/-- Leaf 2 cut out of the call's output. -/
def leaf2 (y : FVec Ideal S1x832x128 .f32) : FVec Ideal S2x256x3 .f32 :=
  shapeCast S2x256x3 (extractStridedSlice S1536 ![17408] (unrow y) slices_S106496_S1536_17408) shapeCasts_S1536_S2x256x3

theorem before2 : (([S8x16384, S8x1024, S8x1536, S8x32768, S8x512, S8x256, S8x2048, S8x2048, S8x33792, S8x11264, S8x2048, S8x2048].take 2).map fun s : Shape => if h : s.rank = S8x105728.rank then s.size ((1 : Fin S8x105728.rank).cast h.symm) else 0).sum = 17408 := by
  decide +kernel

/-- The leaf within the leaves end to end. -/
theorem flat2 (d : Fin 8) (e : Fin 1536) (n : Fin 105728) (h : n.val = 17408 + e.val) :
    flat a0 a1 a2 a3 a4 a5 a6 a7 a8 a9 a10 a11 (ix2 d n) = shapeCast S8x1536 a2 shapeCasts_S8x2x256x3_S8x1536 (ix2 d e) := by
  unfold flat
  exact concatenate_apply_piece (t := S8x105728) 1 (parts a0 a1 a2 a3 a4 a5 a6 a7 a8 a9 a10 a11) concatenates_S8x16384_S8x1024_S8x1536_S8x32768_S8x512_S8x256_S8x2048_S8x2048_S8x33792_S8x11264_S8x2048_S8x2048_S8x105728_d1 (ix2 d n) 2 (show 2 < 12 by decide) S8x1536 _ rfl rfl 17408 before2 (ix2 d e)
    (fun b hb => by match b with | ⟨0, _⟩ => rfl | ⟨1, _⟩ => exact absurd rfl hb) h.symm

/-- The leaf of the summed rows is the sum of the devices' leaves. -/
theorem leaf2_tot (i0 : Fin 2) (i1 : Fin 256) (i2 : Fin 3) :
    leaf2 (tot (pack a0 a1 a2 a3 a4 a5 a6 a7 a8 a9 a10 a11)) (ix3 i0 i1 i2) = sum8 fun d => a2 (ix4 d i0 i1 i2) := by
  have hi0 := i0.isLt
  have hi1 := i1.isLt
  have hi2 := i2.isLt
  unfold leaf2 pack
  rw [shapeCast_apply _ _ (ix3 i0 i1 i2) (ix1 (⟨(i0.val * 256 + i1.val) * 3 + i2.val, by omega⟩ : Fin 1536)) (by rw [Shape.rowMajor_val_one, Shape.rowMajor_val_three]; rfl),
    extractStridedSlice_apply (s := S106496) (t := S1536) ![17408] _ slices_S106496_S1536_17408 _ (ix1 ⟨17408 + ((i0.val * 256 + i1.val) * 3 + i2.val), by omega⟩)
      (fun a => by match a with | ⟨0, _⟩ => rfl),
    unrow_tot]
  refine congrArg sum8 (funext fun d => ?_)
  have hd := d.isLt
  rw [padded_apply _ d _ ⟨17408 + ((i0.val * 256 + i1.val) * 3 + i2.val), by omega⟩ rfl, flat2 a0 a1 a2 a3 a4 a5 a6 a7 a8 a9 a10 a11 d ⟨(i0.val * 256 + i1.val) * 3 + i2.val, by omega⟩ _ rfl]
  refine shapeCast_apply _ _ _ (ix4 d i0 i1 i2) ?_
  rw [Shape.rowMajor_val_two, Shape.rowMajor_val_four]
  show ((d.val * 2 + i0.val) * 256 + i1.val) * 3 + i2.val = d.val * 1536 + ((i0.val * 256 + i1.val) * 3 + i2.val)
  omega

/-- Leaf 3 cut out of the call's output. -/
def leaf3 (y : FVec Ideal S1x832x128 .f32) : FVec Ideal S2x4x64x64 .f32 :=
  shapeCast S2x4x64x64 (extractStridedSlice S32768 ![18944] (unrow y) slices_S106496_S32768_18944) shapeCasts_S32768_S2x4x64x64

theorem before3 : (([S8x16384, S8x1024, S8x1536, S8x32768, S8x512, S8x256, S8x2048, S8x2048, S8x33792, S8x11264, S8x2048, S8x2048].take 3).map fun s : Shape => if h : s.rank = S8x105728.rank then s.size ((1 : Fin S8x105728.rank).cast h.symm) else 0).sum = 18944 := by
  decide +kernel

/-- The leaf within the leaves end to end. -/
theorem flat3 (d : Fin 8) (e : Fin 32768) (n : Fin 105728) (h : n.val = 18944 + e.val) :
    flat a0 a1 a2 a3 a4 a5 a6 a7 a8 a9 a10 a11 (ix2 d n) = shapeCast S8x32768 a3 shapeCasts_S8x2x4x64x64_S8x32768 (ix2 d e) := by
  unfold flat
  exact concatenate_apply_piece (t := S8x105728) 1 (parts a0 a1 a2 a3 a4 a5 a6 a7 a8 a9 a10 a11) concatenates_S8x16384_S8x1024_S8x1536_S8x32768_S8x512_S8x256_S8x2048_S8x2048_S8x33792_S8x11264_S8x2048_S8x2048_S8x105728_d1 (ix2 d n) 3 (show 3 < 12 by decide) S8x32768 _ rfl rfl 18944 before3 (ix2 d e)
    (fun b hb => by match b with | ⟨0, _⟩ => rfl | ⟨1, _⟩ => exact absurd rfl hb) h.symm

/-- The leaf of the summed rows is the sum of the devices' leaves. -/
theorem leaf3_tot (i0 : Fin 2) (i1 : Fin 4) (i2 : Fin 64) (i3 : Fin 64) :
    leaf3 (tot (pack a0 a1 a2 a3 a4 a5 a6 a7 a8 a9 a10 a11)) (ix4 i0 i1 i2 i3) = sum8 fun d => a3 (ix5 d i0 i1 i2 i3) := by
  have hi0 := i0.isLt
  have hi1 := i1.isLt
  have hi2 := i2.isLt
  have hi3 := i3.isLt
  unfold leaf3 pack
  rw [shapeCast_apply _ _ (ix4 i0 i1 i2 i3) (ix1 (⟨((i0.val * 4 + i1.val) * 64 + i2.val) * 64 + i3.val, by omega⟩ : Fin 32768)) (by rw [Shape.rowMajor_val_one, Shape.rowMajor_val_four]; rfl),
    extractStridedSlice_apply (s := S106496) (t := S32768) ![18944] _ slices_S106496_S32768_18944 _ (ix1 ⟨18944 + (((i0.val * 4 + i1.val) * 64 + i2.val) * 64 + i3.val), by omega⟩)
      (fun a => by match a with | ⟨0, _⟩ => rfl),
    unrow_tot]
  refine congrArg sum8 (funext fun d => ?_)
  have hd := d.isLt
  rw [padded_apply _ d _ ⟨18944 + (((i0.val * 4 + i1.val) * 64 + i2.val) * 64 + i3.val), by omega⟩ rfl, flat3 a0 a1 a2 a3 a4 a5 a6 a7 a8 a9 a10 a11 d ⟨((i0.val * 4 + i1.val) * 64 + i2.val) * 64 + i3.val, by omega⟩ _ rfl]
  refine shapeCast_apply _ _ _ (ix5 d i0 i1 i2 i3) ?_
  rw [Shape.rowMajor_val_two, Shape.rowMajor_val_five]
  show (((d.val * 2 + i0.val) * 4 + i1.val) * 64 + i2.val) * 64 + i3.val = d.val * 32768 + (((i0.val * 4 + i1.val) * 64 + i2.val) * 64 + i3.val)
  omega

/-- Leaf 4 cut out of the call's output. -/
def leaf4 (y : FVec Ideal S1x832x128 .f32) : FVec Ideal S2x256 .f32 :=
  shapeCast S2x256 (extractStridedSlice S512 ![51712] (unrow y) slices_S106496_S512_51712) shapeCasts_S512_S2x256

theorem before4 : (([S8x16384, S8x1024, S8x1536, S8x32768, S8x512, S8x256, S8x2048, S8x2048, S8x33792, S8x11264, S8x2048, S8x2048].take 4).map fun s : Shape => if h : s.rank = S8x105728.rank then s.size ((1 : Fin S8x105728.rank).cast h.symm) else 0).sum = 51712 := by
  decide +kernel

/-- The leaf within the leaves end to end. -/
theorem flat4 (d : Fin 8) (e : Fin 512) (n : Fin 105728) (h : n.val = 51712 + e.val) :
    flat a0 a1 a2 a3 a4 a5 a6 a7 a8 a9 a10 a11 (ix2 d n) = shapeCast S8x512 a4 shapeCasts_S8x2x256_S8x512 (ix2 d e) := by
  unfold flat
  exact concatenate_apply_piece (t := S8x105728) 1 (parts a0 a1 a2 a3 a4 a5 a6 a7 a8 a9 a10 a11) concatenates_S8x16384_S8x1024_S8x1536_S8x32768_S8x512_S8x256_S8x2048_S8x2048_S8x33792_S8x11264_S8x2048_S8x2048_S8x105728_d1 (ix2 d n) 4 (show 4 < 12 by decide) S8x512 _ rfl rfl 51712 before4 (ix2 d e)
    (fun b hb => by match b with | ⟨0, _⟩ => rfl | ⟨1, _⟩ => exact absurd rfl hb) h.symm

/-- The leaf of the summed rows is the sum of the devices' leaves. -/
theorem leaf4_tot (i0 : Fin 2) (i1 : Fin 256) :
    leaf4 (tot (pack a0 a1 a2 a3 a4 a5 a6 a7 a8 a9 a10 a11)) (ix2 i0 i1) = sum8 fun d => a4 (ix3 d i0 i1) := by
  have hi0 := i0.isLt
  have hi1 := i1.isLt
  unfold leaf4 pack
  rw [shapeCast_apply _ _ (ix2 i0 i1) (ix1 (⟨i0.val * 256 + i1.val, by omega⟩ : Fin 512)) (by rw [Shape.rowMajor_val_one, Shape.rowMajor_val_two]; rfl),
    extractStridedSlice_apply (s := S106496) (t := S512) ![51712] _ slices_S106496_S512_51712 _ (ix1 ⟨51712 + (i0.val * 256 + i1.val), by omega⟩)
      (fun a => by match a with | ⟨0, _⟩ => rfl),
    unrow_tot]
  refine congrArg sum8 (funext fun d => ?_)
  have hd := d.isLt
  rw [padded_apply _ d _ ⟨51712 + (i0.val * 256 + i1.val), by omega⟩ rfl, flat4 a0 a1 a2 a3 a4 a5 a6 a7 a8 a9 a10 a11 d ⟨i0.val * 256 + i1.val, by omega⟩ _ rfl]
  refine shapeCast_apply _ _ _ (ix3 d i0 i1) ?_
  rw [Shape.rowMajor_val_two, Shape.rowMajor_val_three]
  show (d.val * 2 + i0.val) * 256 + i1.val = d.val * 512 + (i0.val * 256 + i1.val)
  omega

/-- Leaf 5 cut out of the call's output. -/
def leaf5 (y : FVec Ideal S1x832x128 .f32) : FVec Ideal S2x128 .f32 :=
  shapeCast S2x128 (extractStridedSlice S256 ![52224] (unrow y) slices_S106496_S256_52224) shapeCasts_S256_S2x128

theorem before5 : (([S8x16384, S8x1024, S8x1536, S8x32768, S8x512, S8x256, S8x2048, S8x2048, S8x33792, S8x11264, S8x2048, S8x2048].take 5).map fun s : Shape => if h : s.rank = S8x105728.rank then s.size ((1 : Fin S8x105728.rank).cast h.symm) else 0).sum = 52224 := by
  decide +kernel

/-- The leaf within the leaves end to end. -/
theorem flat5 (d : Fin 8) (e : Fin 256) (n : Fin 105728) (h : n.val = 52224 + e.val) :
    flat a0 a1 a2 a3 a4 a5 a6 a7 a8 a9 a10 a11 (ix2 d n) = shapeCast S8x256 a5 shapeCasts_S8x2x128_S8x256 (ix2 d e) := by
  unfold flat
  exact concatenate_apply_piece (t := S8x105728) 1 (parts a0 a1 a2 a3 a4 a5 a6 a7 a8 a9 a10 a11) concatenates_S8x16384_S8x1024_S8x1536_S8x32768_S8x512_S8x256_S8x2048_S8x2048_S8x33792_S8x11264_S8x2048_S8x2048_S8x105728_d1 (ix2 d n) 5 (show 5 < 12 by decide) S8x256 _ rfl rfl 52224 before5 (ix2 d e)
    (fun b hb => by match b with | ⟨0, _⟩ => rfl | ⟨1, _⟩ => exact absurd rfl hb) h.symm

/-- The leaf of the summed rows is the sum of the devices' leaves. -/
theorem leaf5_tot (i0 : Fin 2) (i1 : Fin 128) :
    leaf5 (tot (pack a0 a1 a2 a3 a4 a5 a6 a7 a8 a9 a10 a11)) (ix2 i0 i1) = sum8 fun d => a5 (ix3 d i0 i1) := by
  have hi0 := i0.isLt
  have hi1 := i1.isLt
  unfold leaf5 pack
  rw [shapeCast_apply _ _ (ix2 i0 i1) (ix1 (⟨i0.val * 128 + i1.val, by omega⟩ : Fin 256)) (by rw [Shape.rowMajor_val_one, Shape.rowMajor_val_two]; rfl),
    extractStridedSlice_apply (s := S106496) (t := S256) ![52224] _ slices_S106496_S256_52224 _ (ix1 ⟨52224 + (i0.val * 128 + i1.val), by omega⟩)
      (fun a => by match a with | ⟨0, _⟩ => rfl),
    unrow_tot]
  refine congrArg sum8 (funext fun d => ?_)
  have hd := d.isLt
  rw [padded_apply _ d _ ⟨52224 + (i0.val * 128 + i1.val), by omega⟩ rfl, flat5 a0 a1 a2 a3 a4 a5 a6 a7 a8 a9 a10 a11 d ⟨i0.val * 128 + i1.val, by omega⟩ _ rfl]
  refine shapeCast_apply _ _ _ (ix3 d i0 i1) ?_
  rw [Shape.rowMajor_val_two, Shape.rowMajor_val_three]
  show (d.val * 2 + i0.val) * 128 + i1.val = d.val * 256 + (i0.val * 128 + i1.val)
  omega

/-- Leaf 6 cut out of the call's output. -/
def leaf6 (y : FVec Ideal S1x832x128 .f32) : FVec Ideal S2x1024 .f32 :=
  shapeCast S2x1024 (extractStridedSlice S2048 ![52480] (unrow y) slices_S106496_S2048_52480) shapeCasts_S2048_S2x1024

theorem before6 : (([S8x16384, S8x1024, S8x1536, S8x32768, S8x512, S8x256, S8x2048, S8x2048, S8x33792, S8x11264, S8x2048, S8x2048].take 6).map fun s : Shape => if h : s.rank = S8x105728.rank then s.size ((1 : Fin S8x105728.rank).cast h.symm) else 0).sum = 52480 := by
  decide +kernel

/-- The leaf within the leaves end to end. -/
theorem flat6 (d : Fin 8) (e : Fin 2048) (n : Fin 105728) (h : n.val = 52480 + e.val) :
    flat a0 a1 a2 a3 a4 a5 a6 a7 a8 a9 a10 a11 (ix2 d n) = shapeCast S8x2048 a6 shapeCasts_S8x2x1024_S8x2048 (ix2 d e) := by
  unfold flat
  exact concatenate_apply_piece (t := S8x105728) 1 (parts a0 a1 a2 a3 a4 a5 a6 a7 a8 a9 a10 a11) concatenates_S8x16384_S8x1024_S8x1536_S8x32768_S8x512_S8x256_S8x2048_S8x2048_S8x33792_S8x11264_S8x2048_S8x2048_S8x105728_d1 (ix2 d n) 6 (show 6 < 12 by decide) S8x2048 _ rfl rfl 52480 before6 (ix2 d e)
    (fun b hb => by match b with | ⟨0, _⟩ => rfl | ⟨1, _⟩ => exact absurd rfl hb) h.symm

/-- The leaf of the summed rows is the sum of the devices' leaves. -/
theorem leaf6_tot (i0 : Fin 2) (i1 : Fin 1024) :
    leaf6 (tot (pack a0 a1 a2 a3 a4 a5 a6 a7 a8 a9 a10 a11)) (ix2 i0 i1) = sum8 fun d => a6 (ix3 d i0 i1) := by
  have hi0 := i0.isLt
  have hi1 := i1.isLt
  unfold leaf6 pack
  rw [shapeCast_apply _ _ (ix2 i0 i1) (ix1 (⟨i0.val * 1024 + i1.val, by omega⟩ : Fin 2048)) (by rw [Shape.rowMajor_val_one, Shape.rowMajor_val_two]; rfl),
    extractStridedSlice_apply (s := S106496) (t := S2048) ![52480] _ slices_S106496_S2048_52480 _ (ix1 ⟨52480 + (i0.val * 1024 + i1.val), by omega⟩)
      (fun a => by match a with | ⟨0, _⟩ => rfl),
    unrow_tot]
  refine congrArg sum8 (funext fun d => ?_)
  have hd := d.isLt
  rw [padded_apply _ d _ ⟨52480 + (i0.val * 1024 + i1.val), by omega⟩ rfl, flat6 a0 a1 a2 a3 a4 a5 a6 a7 a8 a9 a10 a11 d ⟨i0.val * 1024 + i1.val, by omega⟩ _ rfl]
  refine shapeCast_apply _ _ _ (ix3 d i0 i1) ?_
  rw [Shape.rowMajor_val_two, Shape.rowMajor_val_three]
  show (d.val * 2 + i0.val) * 1024 + i1.val = d.val * 2048 + (i0.val * 1024 + i1.val)
  omega

/-- Leaf 7 cut out of the call's output. -/
def leaf7 (y : FVec Ideal S1x832x128 .f32) : FVec Ideal S2x1024 .f32 :=
  shapeCast S2x1024 (extractStridedSlice S2048 ![54528] (unrow y) slices_S106496_S2048_54528) shapeCasts_S2048_S2x1024

theorem before7 : (([S8x16384, S8x1024, S8x1536, S8x32768, S8x512, S8x256, S8x2048, S8x2048, S8x33792, S8x11264, S8x2048, S8x2048].take 7).map fun s : Shape => if h : s.rank = S8x105728.rank then s.size ((1 : Fin S8x105728.rank).cast h.symm) else 0).sum = 54528 := by
  decide +kernel

/-- The leaf within the leaves end to end. -/
theorem flat7 (d : Fin 8) (e : Fin 2048) (n : Fin 105728) (h : n.val = 54528 + e.val) :
    flat a0 a1 a2 a3 a4 a5 a6 a7 a8 a9 a10 a11 (ix2 d n) = shapeCast S8x2048 a7 shapeCasts_S8x2x1024_S8x2048 (ix2 d e) := by
  unfold flat
  exact concatenate_apply_piece (t := S8x105728) 1 (parts a0 a1 a2 a3 a4 a5 a6 a7 a8 a9 a10 a11) concatenates_S8x16384_S8x1024_S8x1536_S8x32768_S8x512_S8x256_S8x2048_S8x2048_S8x33792_S8x11264_S8x2048_S8x2048_S8x105728_d1 (ix2 d n) 7 (show 7 < 12 by decide) S8x2048 _ rfl rfl 54528 before7 (ix2 d e)
    (fun b hb => by match b with | ⟨0, _⟩ => rfl | ⟨1, _⟩ => exact absurd rfl hb) h.symm

/-- The leaf of the summed rows is the sum of the devices' leaves. -/
theorem leaf7_tot (i0 : Fin 2) (i1 : Fin 1024) :
    leaf7 (tot (pack a0 a1 a2 a3 a4 a5 a6 a7 a8 a9 a10 a11)) (ix2 i0 i1) = sum8 fun d => a7 (ix3 d i0 i1) := by
  have hi0 := i0.isLt
  have hi1 := i1.isLt
  unfold leaf7 pack
  rw [shapeCast_apply _ _ (ix2 i0 i1) (ix1 (⟨i0.val * 1024 + i1.val, by omega⟩ : Fin 2048)) (by rw [Shape.rowMajor_val_one, Shape.rowMajor_val_two]; rfl),
    extractStridedSlice_apply (s := S106496) (t := S2048) ![54528] _ slices_S106496_S2048_54528 _ (ix1 ⟨54528 + (i0.val * 1024 + i1.val), by omega⟩)
      (fun a => by match a with | ⟨0, _⟩ => rfl),
    unrow_tot]
  refine congrArg sum8 (funext fun d => ?_)
  have hd := d.isLt
  rw [padded_apply _ d _ ⟨54528 + (i0.val * 1024 + i1.val), by omega⟩ rfl, flat7 a0 a1 a2 a3 a4 a5 a6 a7 a8 a9 a10 a11 d ⟨i0.val * 1024 + i1.val, by omega⟩ _ rfl]
  refine shapeCast_apply _ _ _ (ix3 d i0 i1) ?_
  rw [Shape.rowMajor_val_two, Shape.rowMajor_val_three]
  show (d.val * 2 + i0.val) * 1024 + i1.val = d.val * 2048 + (i0.val * 1024 + i1.val)
  omega

/-- Leaf 8 cut out of the call's output. -/
def leaf8 (y : FVec Ideal S1x832x128 .f32) : FVec Ideal S2x5632x3 .f32 :=
  shapeCast S2x5632x3 (extractStridedSlice S33792 ![56576] (unrow y) slices_S106496_S33792_56576) shapeCasts_S33792_S2x5632x3

theorem before8 : (([S8x16384, S8x1024, S8x1536, S8x32768, S8x512, S8x256, S8x2048, S8x2048, S8x33792, S8x11264, S8x2048, S8x2048].take 8).map fun s : Shape => if h : s.rank = S8x105728.rank then s.size ((1 : Fin S8x105728.rank).cast h.symm) else 0).sum = 56576 := by
  decide +kernel

/-- The leaf within the leaves end to end. -/
theorem flat8 (d : Fin 8) (e : Fin 33792) (n : Fin 105728) (h : n.val = 56576 + e.val) :
    flat a0 a1 a2 a3 a4 a5 a6 a7 a8 a9 a10 a11 (ix2 d n) = shapeCast S8x33792 a8 shapeCasts_S8x2x5632x3_S8x33792 (ix2 d e) := by
  unfold flat
  exact concatenate_apply_piece (t := S8x105728) 1 (parts a0 a1 a2 a3 a4 a5 a6 a7 a8 a9 a10 a11) concatenates_S8x16384_S8x1024_S8x1536_S8x32768_S8x512_S8x256_S8x2048_S8x2048_S8x33792_S8x11264_S8x2048_S8x2048_S8x105728_d1 (ix2 d n) 8 (show 8 < 12 by decide) S8x33792 _ rfl rfl 56576 before8 (ix2 d e)
    (fun b hb => by match b with | ⟨0, _⟩ => rfl | ⟨1, _⟩ => exact absurd rfl hb) h.symm

/-- The leaf of the summed rows is the sum of the devices' leaves. -/
theorem leaf8_tot (i0 : Fin 2) (i1 : Fin 5632) (i2 : Fin 3) :
    leaf8 (tot (pack a0 a1 a2 a3 a4 a5 a6 a7 a8 a9 a10 a11)) (ix3 i0 i1 i2) = sum8 fun d => a8 (ix4 d i0 i1 i2) := by
  have hi0 := i0.isLt
  have hi1 := i1.isLt
  have hi2 := i2.isLt
  unfold leaf8 pack
  rw [shapeCast_apply _ _ (ix3 i0 i1 i2) (ix1 (⟨(i0.val * 5632 + i1.val) * 3 + i2.val, by omega⟩ : Fin 33792)) (by rw [Shape.rowMajor_val_one, Shape.rowMajor_val_three]; rfl),
    extractStridedSlice_apply (s := S106496) (t := S33792) ![56576] _ slices_S106496_S33792_56576 _ (ix1 ⟨56576 + ((i0.val * 5632 + i1.val) * 3 + i2.val), by omega⟩)
      (fun a => by match a with | ⟨0, _⟩ => rfl),
    unrow_tot]
  refine congrArg sum8 (funext fun d => ?_)
  have hd := d.isLt
  rw [padded_apply _ d _ ⟨56576 + ((i0.val * 5632 + i1.val) * 3 + i2.val), by omega⟩ rfl, flat8 a0 a1 a2 a3 a4 a5 a6 a7 a8 a9 a10 a11 d ⟨(i0.val * 5632 + i1.val) * 3 + i2.val, by omega⟩ _ rfl]
  refine shapeCast_apply _ _ _ (ix4 d i0 i1 i2) ?_
  rw [Shape.rowMajor_val_two, Shape.rowMajor_val_four]
  show ((d.val * 2 + i0.val) * 5632 + i1.val) * 3 + i2.val = d.val * 33792 + ((i0.val * 5632 + i1.val) * 3 + i2.val)
  omega

/-- Leaf 9 cut out of the call's output. -/
def leaf9 (y : FVec Ideal S1x832x128 .f32) : FVec Ideal S2x5632 .f32 :=
  shapeCast S2x5632 (extractStridedSlice S11264 ![90368] (unrow y) slices_S106496_S11264_90368) shapeCasts_S11264_S2x5632

theorem before9 : (([S8x16384, S8x1024, S8x1536, S8x32768, S8x512, S8x256, S8x2048, S8x2048, S8x33792, S8x11264, S8x2048, S8x2048].take 9).map fun s : Shape => if h : s.rank = S8x105728.rank then s.size ((1 : Fin S8x105728.rank).cast h.symm) else 0).sum = 90368 := by
  decide +kernel

/-- The leaf within the leaves end to end. -/
theorem flat9 (d : Fin 8) (e : Fin 11264) (n : Fin 105728) (h : n.val = 90368 + e.val) :
    flat a0 a1 a2 a3 a4 a5 a6 a7 a8 a9 a10 a11 (ix2 d n) = shapeCast S8x11264 a9 shapeCasts_S8x2x5632_S8x11264 (ix2 d e) := by
  unfold flat
  exact concatenate_apply_piece (t := S8x105728) 1 (parts a0 a1 a2 a3 a4 a5 a6 a7 a8 a9 a10 a11) concatenates_S8x16384_S8x1024_S8x1536_S8x32768_S8x512_S8x256_S8x2048_S8x2048_S8x33792_S8x11264_S8x2048_S8x2048_S8x105728_d1 (ix2 d n) 9 (show 9 < 12 by decide) S8x11264 _ rfl rfl 90368 before9 (ix2 d e)
    (fun b hb => by match b with | ⟨0, _⟩ => rfl | ⟨1, _⟩ => exact absurd rfl hb) h.symm

/-- The leaf of the summed rows is the sum of the devices' leaves. -/
theorem leaf9_tot (i0 : Fin 2) (i1 : Fin 5632) :
    leaf9 (tot (pack a0 a1 a2 a3 a4 a5 a6 a7 a8 a9 a10 a11)) (ix2 i0 i1) = sum8 fun d => a9 (ix3 d i0 i1) := by
  have hi0 := i0.isLt
  have hi1 := i1.isLt
  unfold leaf9 pack
  rw [shapeCast_apply _ _ (ix2 i0 i1) (ix1 (⟨i0.val * 5632 + i1.val, by omega⟩ : Fin 11264)) (by rw [Shape.rowMajor_val_one, Shape.rowMajor_val_two]; rfl),
    extractStridedSlice_apply (s := S106496) (t := S11264) ![90368] _ slices_S106496_S11264_90368 _ (ix1 ⟨90368 + (i0.val * 5632 + i1.val), by omega⟩)
      (fun a => by match a with | ⟨0, _⟩ => rfl),
    unrow_tot]
  refine congrArg sum8 (funext fun d => ?_)
  have hd := d.isLt
  rw [padded_apply _ d _ ⟨90368 + (i0.val * 5632 + i1.val), by omega⟩ rfl, flat9 a0 a1 a2 a3 a4 a5 a6 a7 a8 a9 a10 a11 d ⟨i0.val * 5632 + i1.val, by omega⟩ _ rfl]
  refine shapeCast_apply _ _ _ (ix3 d i0 i1) ?_
  rw [Shape.rowMajor_val_two, Shape.rowMajor_val_three]
  show (d.val * 2 + i0.val) * 5632 + i1.val = d.val * 11264 + (i0.val * 5632 + i1.val)
  omega

/-- Leaf 10 cut out of the call's output. -/
def leaf10 (y : FVec Ideal S1x832x128 .f32) : FVec Ideal S2x1024 .f32 :=
  shapeCast S2x1024 (extractStridedSlice S2048 ![101632] (unrow y) slices_S106496_S2048_101632) shapeCasts_S2048_S2x1024

theorem before10 : (([S8x16384, S8x1024, S8x1536, S8x32768, S8x512, S8x256, S8x2048, S8x2048, S8x33792, S8x11264, S8x2048, S8x2048].take 10).map fun s : Shape => if h : s.rank = S8x105728.rank then s.size ((1 : Fin S8x105728.rank).cast h.symm) else 0).sum = 101632 := by
  decide +kernel

/-- The leaf within the leaves end to end. -/
theorem flat10 (d : Fin 8) (e : Fin 2048) (n : Fin 105728) (h : n.val = 101632 + e.val) :
    flat a0 a1 a2 a3 a4 a5 a6 a7 a8 a9 a10 a11 (ix2 d n) = shapeCast S8x2048 a10 shapeCasts_S8x2x1024_S8x2048 (ix2 d e) := by
  unfold flat
  exact concatenate_apply_piece (t := S8x105728) 1 (parts a0 a1 a2 a3 a4 a5 a6 a7 a8 a9 a10 a11) concatenates_S8x16384_S8x1024_S8x1536_S8x32768_S8x512_S8x256_S8x2048_S8x2048_S8x33792_S8x11264_S8x2048_S8x2048_S8x105728_d1 (ix2 d n) 10 (show 10 < 12 by decide) S8x2048 _ rfl rfl 101632 before10 (ix2 d e)
    (fun b hb => by match b with | ⟨0, _⟩ => rfl | ⟨1, _⟩ => exact absurd rfl hb) h.symm

/-- The leaf of the summed rows is the sum of the devices' leaves. -/
theorem leaf10_tot (i0 : Fin 2) (i1 : Fin 1024) :
    leaf10 (tot (pack a0 a1 a2 a3 a4 a5 a6 a7 a8 a9 a10 a11)) (ix2 i0 i1) = sum8 fun d => a10 (ix3 d i0 i1) := by
  have hi0 := i0.isLt
  have hi1 := i1.isLt
  unfold leaf10 pack
  rw [shapeCast_apply _ _ (ix2 i0 i1) (ix1 (⟨i0.val * 1024 + i1.val, by omega⟩ : Fin 2048)) (by rw [Shape.rowMajor_val_one, Shape.rowMajor_val_two]; rfl),
    extractStridedSlice_apply (s := S106496) (t := S2048) ![101632] _ slices_S106496_S2048_101632 _ (ix1 ⟨101632 + (i0.val * 1024 + i1.val), by omega⟩)
      (fun a => by match a with | ⟨0, _⟩ => rfl),
    unrow_tot]
  refine congrArg sum8 (funext fun d => ?_)
  have hd := d.isLt
  rw [padded_apply _ d _ ⟨101632 + (i0.val * 1024 + i1.val), by omega⟩ rfl, flat10 a0 a1 a2 a3 a4 a5 a6 a7 a8 a9 a10 a11 d ⟨i0.val * 1024 + i1.val, by omega⟩ _ rfl]
  refine shapeCast_apply _ _ _ (ix3 d i0 i1) ?_
  rw [Shape.rowMajor_val_two, Shape.rowMajor_val_three]
  show (d.val * 2 + i0.val) * 1024 + i1.val = d.val * 2048 + (i0.val * 1024 + i1.val)
  omega

/-- Leaf 11 cut out of the call's output. -/
def leaf11 (y : FVec Ideal S1x832x128 .f32) : FVec Ideal S2x1024 .f32 :=
  shapeCast S2x1024 (extractStridedSlice S2048 ![103680] (unrow y) slices_S106496_S2048_103680) shapeCasts_S2048_S2x1024

theorem before11 : (([S8x16384, S8x1024, S8x1536, S8x32768, S8x512, S8x256, S8x2048, S8x2048, S8x33792, S8x11264, S8x2048, S8x2048].take 11).map fun s : Shape => if h : s.rank = S8x105728.rank then s.size ((1 : Fin S8x105728.rank).cast h.symm) else 0).sum = 103680 := by
  decide +kernel

/-- The leaf within the leaves end to end. -/
theorem flat11 (d : Fin 8) (e : Fin 2048) (n : Fin 105728) (h : n.val = 103680 + e.val) :
    flat a0 a1 a2 a3 a4 a5 a6 a7 a8 a9 a10 a11 (ix2 d n) = shapeCast S8x2048 a11 shapeCasts_S8x2x1024_S8x2048 (ix2 d e) := by
  unfold flat
  exact concatenate_apply_piece (t := S8x105728) 1 (parts a0 a1 a2 a3 a4 a5 a6 a7 a8 a9 a10 a11) concatenates_S8x16384_S8x1024_S8x1536_S8x32768_S8x512_S8x256_S8x2048_S8x2048_S8x33792_S8x11264_S8x2048_S8x2048_S8x105728_d1 (ix2 d n) 11 (show 11 < 12 by decide) S8x2048 _ rfl rfl 103680 before11 (ix2 d e)
    (fun b hb => by match b with | ⟨0, _⟩ => rfl | ⟨1, _⟩ => exact absurd rfl hb) h.symm

/-- The leaf of the summed rows is the sum of the devices' leaves. -/
theorem leaf11_tot (i0 : Fin 2) (i1 : Fin 1024) :
    leaf11 (tot (pack a0 a1 a2 a3 a4 a5 a6 a7 a8 a9 a10 a11)) (ix2 i0 i1) = sum8 fun d => a11 (ix3 d i0 i1) := by
  have hi0 := i0.isLt
  have hi1 := i1.isLt
  unfold leaf11 pack
  rw [shapeCast_apply _ _ (ix2 i0 i1) (ix1 (⟨i0.val * 1024 + i1.val, by omega⟩ : Fin 2048)) (by rw [Shape.rowMajor_val_one, Shape.rowMajor_val_two]; rfl),
    extractStridedSlice_apply (s := S106496) (t := S2048) ![103680] _ slices_S106496_S2048_103680 _ (ix1 ⟨103680 + (i0.val * 1024 + i1.val), by omega⟩)
      (fun a => by match a with | ⟨0, _⟩ => rfl),
    unrow_tot]
  refine congrArg sum8 (funext fun d => ?_)
  have hd := d.isLt
  rw [padded_apply _ d _ ⟨103680 + (i0.val * 1024 + i1.val), by omega⟩ rfl, flat11 a0 a1 a2 a3 a4 a5 a6 a7 a8 a9 a10 a11 d ⟨i0.val * 1024 + i1.val, by omega⟩ _ rfl]
  refine shapeCast_apply _ _ _ (ix3 d i0 i1) ?_
  rw [Shape.rowMajor_val_two, Shape.rowMajor_val_three]
  show (d.val * 2 + i0.val) * 1024 + i1.val = d.val * 2048 + (i0.val * 1024 + i1.val)
  omega

end Leaves

/-! ## The reference's sums -/

/-- The reference's sum of an array over the devices. -/
def red0 (a : FVec Ideal S8x16x1024 .f32) : FVec Ideal S16x1024 .f32 :=
  Host.reduceAdd a (constant S_ .f32 0x00000000#32) Cert.SumSmallRefIdeal.Gen.reducesTo_S8x16x1024_S16x1024_d0 h_S_

theorem red0_apply (a : FVec Ideal S8x16x1024 .f32) (i0 : Fin 16) (i1 : Fin 1024) :
    red0 a (ix2 i0 i1) = sum8 fun d => a (ix3 d i0 i1) := by
  rw [← sum8_eq]
  pointwise [red0]

/-- The reference's sum of an array over the devices. -/
def red1 (a : FVec Ideal S8x2x512 .f32) : FVec Ideal S2x512 .f32 :=
  Host.reduceAdd a (constant S_ .f32 0x00000000#32) Cert.SumSmallRefIdeal.Gen.reducesTo_S8x2x512_S2x512_d0 h_S_

theorem red1_apply (a : FVec Ideal S8x2x512 .f32) (i0 : Fin 2) (i1 : Fin 512) :
    red1 a (ix2 i0 i1) = sum8 fun d => a (ix3 d i0 i1) := by
  rw [← sum8_eq]
  pointwise [red1]

/-- The reference's sum of an array over the devices. -/
def red2 (a : FVec Ideal S8x2x256x3 .f32) : FVec Ideal S2x256x3 .f32 :=
  Host.reduceAdd a (constant S_ .f32 0x00000000#32) Cert.SumSmallRefIdeal.Gen.reducesTo_S8x2x256x3_S2x256x3_d0 h_S_

theorem red2_apply (a : FVec Ideal S8x2x256x3 .f32) (i0 : Fin 2) (i1 : Fin 256) (i2 : Fin 3) :
    red2 a (ix3 i0 i1 i2) = sum8 fun d => a (ix4 d i0 i1 i2) := by
  rw [← sum8_eq]
  pointwise [red2]

/-- The reference's sum of an array over the devices. -/
def red3 (a : FVec Ideal S8x2x4x64x64 .f32) : FVec Ideal S2x4x64x64 .f32 :=
  Host.reduceAdd a (constant S_ .f32 0x00000000#32) Cert.SumSmallRefIdeal.Gen.reducesTo_S8x2x4x64x64_S2x4x64x64_d0 h_S_

theorem red3_apply (a : FVec Ideal S8x2x4x64x64 .f32) (i0 : Fin 2) (i1 : Fin 4) (i2 : Fin 64) (i3 : Fin 64) :
    red3 a (ix4 i0 i1 i2 i3) = sum8 fun d => a (ix5 d i0 i1 i2 i3) := by
  rw [← sum8_eq]
  pointwise [red3]

/-- The reference's sum of an array over the devices. -/
def red4 (a : FVec Ideal S8x2x256 .f32) : FVec Ideal S2x256 .f32 :=
  Host.reduceAdd a (constant S_ .f32 0x00000000#32) Cert.SumSmallRefIdeal.Gen.reducesTo_S8x2x256_S2x256_d0 h_S_

theorem red4_apply (a : FVec Ideal S8x2x256 .f32) (i0 : Fin 2) (i1 : Fin 256) :
    red4 a (ix2 i0 i1) = sum8 fun d => a (ix3 d i0 i1) := by
  rw [← sum8_eq]
  pointwise [red4]

/-- The reference's sum of an array over the devices. -/
def red5 (a : FVec Ideal S8x2x128 .f32) : FVec Ideal S2x128 .f32 :=
  Host.reduceAdd a (constant S_ .f32 0x00000000#32) Cert.SumSmallRefIdeal.Gen.reducesTo_S8x2x128_S2x128_d0 h_S_

theorem red5_apply (a : FVec Ideal S8x2x128 .f32) (i0 : Fin 2) (i1 : Fin 128) :
    red5 a (ix2 i0 i1) = sum8 fun d => a (ix3 d i0 i1) := by
  rw [← sum8_eq]
  pointwise [red5]

/-- The reference's sum of an array over the devices. -/
def red6 (a : FVec Ideal S8x2x1024 .f32) : FVec Ideal S2x1024 .f32 :=
  Host.reduceAdd a (constant S_ .f32 0x00000000#32) Cert.SumSmallRefIdeal.Gen.reducesTo_S8x2x1024_S2x1024_d0 h_S_

theorem red6_apply (a : FVec Ideal S8x2x1024 .f32) (i0 : Fin 2) (i1 : Fin 1024) :
    red6 a (ix2 i0 i1) = sum8 fun d => a (ix3 d i0 i1) := by
  rw [← sum8_eq]
  pointwise [red6]

/-- The reference's sum of an array over the devices. -/
def red8 (a : FVec Ideal S8x2x5632x3 .f32) : FVec Ideal S2x5632x3 .f32 :=
  Host.reduceAdd a (constant S_ .f32 0x00000000#32) Cert.SumSmallRefIdeal.Gen.reducesTo_S8x2x5632x3_S2x5632x3_d0 h_S_

theorem red8_apply (a : FVec Ideal S8x2x5632x3 .f32) (i0 : Fin 2) (i1 : Fin 5632) (i2 : Fin 3) :
    red8 a (ix3 i0 i1 i2) = sum8 fun d => a (ix4 d i0 i1 i2) := by
  rw [← sum8_eq]
  pointwise [red8]

/-- The reference's sum of an array over the devices. -/
def red9 (a : FVec Ideal S8x2x5632 .f32) : FVec Ideal S2x5632 .f32 :=
  Host.reduceAdd a (constant S_ .f32 0x00000000#32) Cert.SumSmallRefIdeal.Gen.reducesTo_S8x2x5632_S2x5632_d0 h_S_

theorem red9_apply (a : FVec Ideal S8x2x5632 .f32) (i0 : Fin 2) (i1 : Fin 5632) :
    red9 a (ix2 i0 i1) = sum8 fun d => a (ix3 d i0 i1) := by
  rw [← sum8_eq]
  pointwise [red9]

section Red

variable (a0 : FVec Ideal S8x16x1024 .f32) (a1 : FVec Ideal S8x2x512 .f32) (a2 : FVec Ideal S8x2x256x3 .f32) (a3 : FVec Ideal S8x2x4x64x64 .f32) (a4 : FVec Ideal S8x2x256 .f32) (a5 : FVec Ideal S8x2x128 .f32) (a6 : FVec Ideal S8x2x1024 .f32) (a7 : FVec Ideal S8x2x1024 .f32) (a8 : FVec Ideal S8x2x5632x3 .f32) (a9 : FVec Ideal S8x2x5632 .f32) (a10 : FVec Ideal S8x2x1024 .f32) (a11 : FVec Ideal S8x2x1024 .f32)

theorem leaf0_red : leaf0 (tot (pack a0 a1 a2 a3 a4 a5 a6 a7 a8 a9 a10 a11)) = red0 a0 := by
  funext i
  obtain ⟨i0, i1, rfl⟩ : ∃ (i0 : Fin 16) (i1 : Fin 1024), i = ix2 i0 i1 := ⟨i 0, i 1, eq_ix2 i⟩
  rw [leaf0_tot, red0_apply]

theorem leaf1_red : leaf1 (tot (pack a0 a1 a2 a3 a4 a5 a6 a7 a8 a9 a10 a11)) = red1 a1 := by
  funext i
  obtain ⟨i0, i1, rfl⟩ : ∃ (i0 : Fin 2) (i1 : Fin 512), i = ix2 i0 i1 := ⟨i 0, i 1, eq_ix2 i⟩
  rw [leaf1_tot, red1_apply]

theorem leaf2_red : leaf2 (tot (pack a0 a1 a2 a3 a4 a5 a6 a7 a8 a9 a10 a11)) = red2 a2 := by
  funext i
  obtain ⟨i0, i1, i2, rfl⟩ : ∃ (i0 : Fin 2) (i1 : Fin 256) (i2 : Fin 3), i = ix3 i0 i1 i2 := ⟨i 0, i 1, i 2, eq_ix3 i⟩
  rw [leaf2_tot, red2_apply]

theorem leaf3_red : leaf3 (tot (pack a0 a1 a2 a3 a4 a5 a6 a7 a8 a9 a10 a11)) = red3 a3 := by
  funext i
  obtain ⟨i0, i1, i2, i3, rfl⟩ : ∃ (i0 : Fin 2) (i1 : Fin 4) (i2 : Fin 64) (i3 : Fin 64), i = ix4 i0 i1 i2 i3 := ⟨i 0, i 1, i 2, i 3, eq_ix4 i⟩
  rw [leaf3_tot, red3_apply]

theorem leaf4_red : leaf4 (tot (pack a0 a1 a2 a3 a4 a5 a6 a7 a8 a9 a10 a11)) = red4 a4 := by
  funext i
  obtain ⟨i0, i1, rfl⟩ : ∃ (i0 : Fin 2) (i1 : Fin 256), i = ix2 i0 i1 := ⟨i 0, i 1, eq_ix2 i⟩
  rw [leaf4_tot, red4_apply]

theorem leaf5_red : leaf5 (tot (pack a0 a1 a2 a3 a4 a5 a6 a7 a8 a9 a10 a11)) = red5 a5 := by
  funext i
  obtain ⟨i0, i1, rfl⟩ : ∃ (i0 : Fin 2) (i1 : Fin 128), i = ix2 i0 i1 := ⟨i 0, i 1, eq_ix2 i⟩
  rw [leaf5_tot, red5_apply]

theorem leaf6_red : leaf6 (tot (pack a0 a1 a2 a3 a4 a5 a6 a7 a8 a9 a10 a11)) = red6 a6 := by
  funext i
  obtain ⟨i0, i1, rfl⟩ : ∃ (i0 : Fin 2) (i1 : Fin 1024), i = ix2 i0 i1 := ⟨i 0, i 1, eq_ix2 i⟩
  rw [leaf6_tot, red6_apply]

theorem leaf7_red : leaf7 (tot (pack a0 a1 a2 a3 a4 a5 a6 a7 a8 a9 a10 a11)) = red6 a7 := by
  funext i
  obtain ⟨i0, i1, rfl⟩ : ∃ (i0 : Fin 2) (i1 : Fin 1024), i = ix2 i0 i1 := ⟨i 0, i 1, eq_ix2 i⟩
  rw [leaf7_tot, red6_apply]

theorem leaf8_red : leaf8 (tot (pack a0 a1 a2 a3 a4 a5 a6 a7 a8 a9 a10 a11)) = red8 a8 := by
  funext i
  obtain ⟨i0, i1, i2, rfl⟩ : ∃ (i0 : Fin 2) (i1 : Fin 5632) (i2 : Fin 3), i = ix3 i0 i1 i2 := ⟨i 0, i 1, i 2, eq_ix3 i⟩
  rw [leaf8_tot, red8_apply]

theorem leaf9_red : leaf9 (tot (pack a0 a1 a2 a3 a4 a5 a6 a7 a8 a9 a10 a11)) = red9 a9 := by
  funext i
  obtain ⟨i0, i1, rfl⟩ : ∃ (i0 : Fin 2) (i1 : Fin 5632), i = ix2 i0 i1 := ⟨i 0, i 1, eq_ix2 i⟩
  rw [leaf9_tot, red9_apply]

theorem leaf10_red : leaf10 (tot (pack a0 a1 a2 a3 a4 a5 a6 a7 a8 a9 a10 a11)) = red6 a10 := by
  funext i
  obtain ⟨i0, i1, rfl⟩ : ∃ (i0 : Fin 2) (i1 : Fin 1024), i = ix2 i0 i1 := ⟨i 0, i 1, eq_ix2 i⟩
  rw [leaf10_tot, red6_apply]

theorem leaf11_red : leaf11 (tot (pack a0 a1 a2 a3 a4 a5 a6 a7 a8 a9 a10 a11)) = red6 a11 := by
  funext i
  obtain ⟨i0, i1, rfl⟩ : ∃ (i0 : Fin 2) (i1 : Fin 1024), i = ix2 i0 i1 := ⟨i 0, i 1, eq_ix2 i⟩
  rw [leaf11_tot, red6_apply]

end Red

/-- The part of the sum that belongs to a chip. -/
def part0 (chip : (⟨S_, .i32⟩ : BufTy).Contents (Elt Ideal)) (x : FVec Ideal S16x1024 .f32) : FVec Ideal S16x256 .f32 :=
  Host.dynamicSlice S16x256 x (fun k => (((![constantI S_ 32 0#32, select (cmpi .slt (muli chip (constantI S_ 32 256#32)) (constantI S_ 32 0#32)) (addi (muli chip (constantI S_ 32 256#32)) (constantI S_ 32 1024#32)) (muli chip (constantI S_ 32 256#32))] : Fin 2 → (⟨S_, .i32⟩ : BufTy).Contents (Elt Ideal))) k (Shape.Idx.first h_S_)).toInt) sliceFits_S16x1024_S16x256

/-- The part of the sum that belongs to a chip. -/
def part2 (chip : (⟨S_, .i32⟩ : BufTy).Contents (Elt Ideal)) (x : FVec Ideal S2x256x3 .f32) : FVec Ideal S2x64x3 .f32 :=
  Host.dynamicSlice S2x64x3 x (fun k => (((![constantI S_ 32 0#32, select (cmpi .slt (muli chip (constantI S_ 32 64#32)) (constantI S_ 32 0#32)) (addi (muli chip (constantI S_ 32 64#32)) (constantI S_ 32 256#32)) (muli chip (constantI S_ 32 64#32)), constantI S_ 32 0#32] : Fin 3 → (⟨S_, .i32⟩ : BufTy).Contents (Elt Ideal))) k (Shape.Idx.first h_S_)).toInt) sliceFits_S2x256x3_S2x64x3

/-- The part of the sum that belongs to a chip. -/
def part8 (chip : (⟨S_, .i32⟩ : BufTy).Contents (Elt Ideal)) (x : FVec Ideal S2x5632x3 .f32) : FVec Ideal S2x1408x3 .f32 :=
  Host.dynamicSlice S2x1408x3 x (fun k => (((![constantI S_ 32 0#32, select (cmpi .slt (muli chip (constantI S_ 32 1408#32)) (constantI S_ 32 0#32)) (addi (muli chip (constantI S_ 32 1408#32)) (constantI S_ 32 5632#32)) (muli chip (constantI S_ 32 1408#32)), constantI S_ 32 0#32] : Fin 3 → (⟨S_, .i32⟩ : BufTy).Contents (Elt Ideal))) k (Shape.Idx.first h_S_)).toInt) sliceFits_S2x5632x3_S2x1408x3

/-! ## What the call computes -/

theorem pay_apply (v0 v1 v2 v3 v4 v5 v6 v7 : Vec Ideal S1x1x832x128 .f32) (z : Fin 1) (r : Fin 832) (k : Fin 128) :
    k0_pay1 (k0_pay2 v0 v1 v2 v3 v4 v5 v6 v7) (ix3 z r k)
      = v0 (ix4 0 0 r k) + v1 (ix4 0 0 r k) + v2 (ix4 0 0 r k) + v3 (ix4 0 0 r k) + v4 (ix4 0 0 r k) + v5 (ix4 0 0 r k) + v6 (ix4 0 0 r k) + v7 (ix4 0 0 r k) := by
  obtain rfl : z = 0 := Subsingleton.elim _ _
  pointwise [k0_pay1, k0_pay2]

theorem ld0 (X : FVec Ideal S8x1x832x128 .f32) (r : Fin 832) (k : Fin 128) :
    View.ld (Val := Elt Ideal) (e' := .f32) X r0_0 (ix4 0 0 r k) = X (ix4 0 0 r k) := by
  refine congrArg X (funext fun a => Fin.ext ?_)
  match a with
  | ⟨0, _⟩ => rfl
  | ⟨1, _⟩ => rfl
  | ⟨2, _⟩ => show 0 + 1 * r.val = r.val; omega
  | ⟨3, _⟩ => show 0 + 1 * k.val = k.val; omega

theorem ld1 (X : FVec Ideal S8x1x832x128 .f32) (r : Fin 832) (k : Fin 128) :
    View.ld (Val := Elt Ideal) (e' := .f32) X r0_1 (ix4 0 0 r k) = X (ix4 1 0 r k) := by
  refine congrArg X (funext fun a => Fin.ext ?_)
  match a with
  | ⟨0, _⟩ => rfl
  | ⟨1, _⟩ => rfl
  | ⟨2, _⟩ => show 0 + 1 * r.val = r.val; omega
  | ⟨3, _⟩ => show 0 + 1 * k.val = k.val; omega

theorem ld2 (X : FVec Ideal S8x1x832x128 .f32) (r : Fin 832) (k : Fin 128) :
    View.ld (Val := Elt Ideal) (e' := .f32) X r0_2 (ix4 0 0 r k) = X (ix4 2 0 r k) := by
  refine congrArg X (funext fun a => Fin.ext ?_)
  match a with
  | ⟨0, _⟩ => rfl
  | ⟨1, _⟩ => rfl
  | ⟨2, _⟩ => show 0 + 1 * r.val = r.val; omega
  | ⟨3, _⟩ => show 0 + 1 * k.val = k.val; omega

theorem ld3 (X : FVec Ideal S8x1x832x128 .f32) (r : Fin 832) (k : Fin 128) :
    View.ld (Val := Elt Ideal) (e' := .f32) X r0_3 (ix4 0 0 r k) = X (ix4 3 0 r k) := by
  refine congrArg X (funext fun a => Fin.ext ?_)
  match a with
  | ⟨0, _⟩ => rfl
  | ⟨1, _⟩ => rfl
  | ⟨2, _⟩ => show 0 + 1 * r.val = r.val; omega
  | ⟨3, _⟩ => show 0 + 1 * k.val = k.val; omega

theorem ld4 (X : FVec Ideal S8x1x832x128 .f32) (r : Fin 832) (k : Fin 128) :
    View.ld (Val := Elt Ideal) (e' := .f32) X r0_4 (ix4 0 0 r k) = X (ix4 4 0 r k) := by
  refine congrArg X (funext fun a => Fin.ext ?_)
  match a with
  | ⟨0, _⟩ => rfl
  | ⟨1, _⟩ => rfl
  | ⟨2, _⟩ => show 0 + 1 * r.val = r.val; omega
  | ⟨3, _⟩ => show 0 + 1 * k.val = k.val; omega

theorem ld5 (X : FVec Ideal S8x1x832x128 .f32) (r : Fin 832) (k : Fin 128) :
    View.ld (Val := Elt Ideal) (e' := .f32) X r0_5 (ix4 0 0 r k) = X (ix4 5 0 r k) := by
  refine congrArg X (funext fun a => Fin.ext ?_)
  match a with
  | ⟨0, _⟩ => rfl
  | ⟨1, _⟩ => rfl
  | ⟨2, _⟩ => show 0 + 1 * r.val = r.val; omega
  | ⟨3, _⟩ => show 0 + 1 * k.val = k.val; omega

theorem ld6 (X : FVec Ideal S8x1x832x128 .f32) (r : Fin 832) (k : Fin 128) :
    View.ld (Val := Elt Ideal) (e' := .f32) X r0_6 (ix4 0 0 r k) = X (ix4 6 0 r k) := by
  refine congrArg X (funext fun a => Fin.ext ?_)
  match a with
  | ⟨0, _⟩ => rfl
  | ⟨1, _⟩ => rfl
  | ⟨2, _⟩ => show 0 + 1 * r.val = r.val; omega
  | ⟨3, _⟩ => show 0 + 1 * k.val = k.val; omega

theorem ld7 (X : FVec Ideal S8x1x832x128 .f32) (r : Fin 832) (k : Fin 128) :
    View.ld (Val := Elt Ideal) (e' := .f32) X r0_7 (ix4 0 0 r k) = X (ix4 7 0 r k) := by
  refine congrArg X (funext fun a => Fin.ext ?_)
  match a with
  | ⟨0, _⟩ => rfl
  | ⟨1, _⟩ => rfl
  | ⟨2, _⟩ => show 0 + 1 * r.val = r.val; omega
  | ⟨3, _⟩ => show 0 + 1 * k.val = k.val; omega

section Call

variable (m : (ℓ : Loc nD τ sig) → Buf (Elt Ideal) ℓ)

/-- The packed gradients. -/
def Pg (c : Dev nD) : FVec Ideal S8x1x832x128 .f32 :=
  pack (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem V_g (c : Dev nD) : V m c main_v15 = Pg m c := by
  show StableHlo.after (List.flatten [hostOps0, hostOps0_1, hostOps0_2]) _ _ = _
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results_simp <;> rfl

theorem idx0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

theorem blk0 (c : Dev nD) (t : Fin cfg0.N) (d : Fin 8) (r : Fin 832) (k : Fin 128) :
    iblk m c 0 t (ix4 d 0 r k) = Pg m c (ix4 d 0 r k) := by
  obtain ⟨e0, e1, e2, e3⟩ := idx0 t
  refine Eq.trans (b := V m c main_v15 (ix4 d 0 r k)) ?_ (congrFun (V_g m c) _)
  show V m c main_v15 (((cfg0.win 0).blk t).view.emb (ix4 d 0 r k)) = _
  refine congrArg _ (funext fun a => Fin.ext ?_)
  match a with
  | ⟨0, _⟩ => show win0_0.index t (0 : Fin 4) * 8 + 1 * d.val = d.val; rw [e0]; omega
  | ⟨1, _⟩ => show win0_0.index t (1 : Fin 4) * 1 + 1 * 0 = 0; rw [e1]
  | ⟨2, _⟩ => show win0_0.index t (2 : Fin 4) * 832 + 1 * r.val = r.val; rw [e2]; omega
  | ⟨3, _⟩ => show win0_0.index t (3 : Fin 4) * 128 + 1 * k.val = k.val; rw [e3]; omega

theorem point1 (c : Dev nD) (t : Fin cfg0.N) (z : Fin 1) (r : Fin 832) (k : Fin 128) :
    k0_pay1 (k0_pay2 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (ix3 z r k) = tot (Pg m c) (ix3 z r k) := by
  rw [pay_apply]
  show _ = sum8 fun d => Pg m c (ix4 d 0 r k)
  unfold sum8
  refine congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) ?_ ?_) ?_) ?_) ?_) ?_) ?_) ?_
  · exact (ld0 _ r k).trans (blk0 m c t 0 r k)
  · exact (ld1 _ r k).trans (blk0 m c t 1 r k)
  · exact (ld2 _ r k).trans (blk0 m c t 2 r k)
  · exact (ld3 _ r k).trans (blk0 m c t 3 r k)
  · exact (ld4 _ r k).trans (blk0 m c t 4 r k)
  · exact (ld5 _ r k).trans (blk0 m c t 5 r k)
  · exact (ld6 _ r k).trans (blk0 m c t 6 r k)
  · exact (ld7 _ r k).trans (blk0 m c t 7 r k)

theorem final1 (c : Dev nD) : (dats m 0 c).arrAt 1 cfg0.N = tot (Pg m c) := by
  have h : (dats m 0 c).arrAt 1 cfg0.N = fun i => if (i 0).val / 1 = 0 then (tot (Pg m c)) i else (dats m 0 c).A 1 i := by
    refine (dats m 0 c).arrAt_eq_of_coversWhere 1 _ (fun β => β (0 : Fin 3) = 0) (by decide +kernel) (fun t hf y => ?_) (fun j => Iff.rfl)
    blk_simp
    rw [after0_1]
    frame_out
    obtain ⟨e0, e1, e2⟩ := idx1 t
    have hi : ((View.whole main_v16).slice (win0_1.rect t)).emb y = (ix3 (y 0) (y 1) (y 2) : S1x832x128.Idx) := by
      refine funext fun a => Fin.ext ?_
      match a with
      | ⟨0, _⟩ => show win0_1.index t (0 : Fin 3) * 1 + 1 * (y 0).val = (y 0).val; rw [e0]; omega
      | ⟨1, _⟩ => show win0_1.index t (1 : Fin 3) * 832 + 1 * (y 1).val = (y 1).val; rw [e1]; omega
      | ⟨2, _⟩ => show win0_1.index t (2 : Fin 3) * 128 + 1 * (y 2).val = (y 2).val; rw [e2]; omega
    rw [hi]
    have hp := point1 m c t (y 0) (y 1) (y 2)
    generalize k0_pay1 (k0_pay2 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) = b at hp ⊢
    exact (congrArg b (eq_ix3 y)).trans hp
  rw [h]
  funext i
  exact if_pos (by have : (i 0).val < 1 := (i 0).isLt; omega)

end Call

/-! ## The results -/

theorem cut0 (U : Valuation τ sig (Elt Ideal)) :
    StableHlo.after hostOps1 U (Proc.devRef .tc main_v47) = part0 (U (Proc.devRef .tc main_arg0)) (leaf0 (U (Proc.devRef .tc main_v16))) := by
  after_results_entrywise []

theorem cut1 (U : Valuation τ sig (Elt Ideal)) :
    StableHlo.after hostOps1 U (Proc.devRef .tc main_v22) = leaf1 (U (Proc.devRef .tc main_v16)) := by
  after_results_simp <;> rfl

theorem cut2 (U : Valuation τ sig (Elt Ideal)) :
    StableHlo.after hostOps1 U (Proc.devRef .tc main_v52) = part2 (U (Proc.devRef .tc main_arg0)) (leaf2 (U (Proc.devRef .tc main_v16))) := by
  after_results_entrywise []

theorem cut3 (U : Valuation τ sig (Elt Ideal)) :
    StableHlo.after hostOps1 U (Proc.devRef .tc main_v26) = leaf3 (U (Proc.devRef .tc main_v16)) := by
  after_results_simp <;> rfl

theorem cut4 (U : Valuation τ sig (Elt Ideal)) :
    StableHlo.after hostOps1 U (Proc.devRef .tc main_v28) = leaf4 (U (Proc.devRef .tc main_v16)) := by
  after_results_simp <;> rfl

theorem cut5 (U : Valuation τ sig (Elt Ideal)) :
    StableHlo.after hostOps1 U (Proc.devRef .tc main_v30) = leaf5 (U (Proc.devRef .tc main_v16)) := by
  after_results_simp <;> rfl

theorem cut6 (U : Valuation τ sig (Elt Ideal)) :
    StableHlo.after hostOps1 U (Proc.devRef .tc main_v32) = leaf6 (U (Proc.devRef .tc main_v16)) := by
  after_results_simp <;> rfl

theorem cut7 (U : Valuation τ sig (Elt Ideal)) :
    StableHlo.after hostOps1 U (Proc.devRef .tc main_v34) = leaf7 (U (Proc.devRef .tc main_v16)) := by
  after_results_simp <;> rfl

theorem cut8 (U : Valuation τ sig (Elt Ideal)) :
    StableHlo.after hostOps1 U (Proc.devRef .tc main_v57) = part8 (U (Proc.devRef .tc main_arg0)) (leaf8 (U (Proc.devRef .tc main_v16))) := by
  after_results_entrywise []

theorem cut9 (U : Valuation τ sig (Elt Ideal)) :
    StableHlo.after hostOps1 U (Proc.devRef .tc main_v38) = leaf9 (U (Proc.devRef .tc main_v16)) := by
  after_results_simp <;> rfl

theorem cut10 (U : Valuation τ sig (Elt Ideal)) :
    StableHlo.after hostOps1 U (Proc.devRef .tc main_v40) = leaf10 (U (Proc.devRef .tc main_v16)) := by
  after_results_simp <;> rfl

theorem cut11 (U : Valuation τ sig (Elt Ideal)) :
    StableHlo.after hostOps1 U (Proc.devRef .tc main_v42) = leaf11 (U (Proc.devRef .tc main_v16)) := by
  after_results_simp <;> rfl

section Tail

variable (m : (ℓ : Loc nD τ sig) → Buf (Elt Ideal) ℓ)

/-- What the call leaves in its arrays is what the operations after it find there. -/
theorem arr_apply (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 (by decide +kernel) c (V0 m c) _ w

/-- The chip's index is not an array of the call. -/
theorem chip_apply (c : Dev nD) :
    Pipeline.withArrays spec0 c (V0 m c) (fun w => (dats m 0 c).arrAt w cfg0.N) (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)

theorem out0 (c : Dev nD) :
    Pipeline.afterTail₀ cfgs (dats m) 0 (V0 m) [hostOps1] c main_v47 = part0 (m ((c : Thread nD τ).loc main_arg0)) (red0 (m ((c : Thread nD τ).loc main_arg1))) := by
  unfold Pipeline.afterTail₀
  rw [List.flatten_cons, List.flatten_nil, List.append_nil]
  refine (cut0 _).trans ?_
  refine (congrArg₂ part0 (chip_apply m c) (congrArg leaf0 ((arr_apply m c 1).trans (final1 m c)))).trans ?_
  unfold Pg
  rw [leaf0_red]

theorem out1 (c : Dev nD) :
    Pipeline.afterTail₀ cfgs (dats m) 0 (V0 m) [hostOps1] c main_v22 = red1 (m ((c : Thread nD τ).loc main_arg2)) := by
  unfold Pipeline.afterTail₀
  rw [List.flatten_cons, List.flatten_nil, List.append_nil]
  refine (cut1 _).trans ?_
  refine (congrArg leaf1 ((arr_apply m c 1).trans (final1 m c))).trans ?_
  unfold Pg
  rw [leaf1_red]

theorem out2 (c : Dev nD) :
    Pipeline.afterTail₀ cfgs (dats m) 0 (V0 m) [hostOps1] c main_v52 = part2 (m ((c : Thread nD τ).loc main_arg0)) (red2 (m ((c : Thread nD τ).loc main_arg3))) := by
  unfold Pipeline.afterTail₀
  rw [List.flatten_cons, List.flatten_nil, List.append_nil]
  refine (cut2 _).trans ?_
  refine (congrArg₂ part2 (chip_apply m c) (congrArg leaf2 ((arr_apply m c 1).trans (final1 m c)))).trans ?_
  unfold Pg
  rw [leaf2_red]

theorem out3 (c : Dev nD) :
    Pipeline.afterTail₀ cfgs (dats m) 0 (V0 m) [hostOps1] c main_v26 = red3 (m ((c : Thread nD τ).loc main_arg4)) := by
  unfold Pipeline.afterTail₀
  rw [List.flatten_cons, List.flatten_nil, List.append_nil]
  refine (cut3 _).trans ?_
  refine (congrArg leaf3 ((arr_apply m c 1).trans (final1 m c))).trans ?_
  unfold Pg
  rw [leaf3_red]

theorem out4 (c : Dev nD) :
    Pipeline.afterTail₀ cfgs (dats m) 0 (V0 m) [hostOps1] c main_v28 = red4 (m ((c : Thread nD τ).loc main_arg5)) := by
  unfold Pipeline.afterTail₀
  rw [List.flatten_cons, List.flatten_nil, List.append_nil]
  refine (cut4 _).trans ?_
  refine (congrArg leaf4 ((arr_apply m c 1).trans (final1 m c))).trans ?_
  unfold Pg
  rw [leaf4_red]

theorem out5 (c : Dev nD) :
    Pipeline.afterTail₀ cfgs (dats m) 0 (V0 m) [hostOps1] c main_v30 = red5 (m ((c : Thread nD τ).loc main_arg6)) := by
  unfold Pipeline.afterTail₀
  rw [List.flatten_cons, List.flatten_nil, List.append_nil]
  refine (cut5 _).trans ?_
  refine (congrArg leaf5 ((arr_apply m c 1).trans (final1 m c))).trans ?_
  unfold Pg
  rw [leaf5_red]

theorem out6 (c : Dev nD) :
    Pipeline.afterTail₀ cfgs (dats m) 0 (V0 m) [hostOps1] c main_v32 = red6 (m ((c : Thread nD τ).loc main_arg7)) := by
  unfold Pipeline.afterTail₀
  rw [List.flatten_cons, List.flatten_nil, List.append_nil]
  refine (cut6 _).trans ?_
  refine (congrArg leaf6 ((arr_apply m c 1).trans (final1 m c))).trans ?_
  unfold Pg
  rw [leaf6_red]

theorem out7 (c : Dev nD) :
    Pipeline.afterTail₀ cfgs (dats m) 0 (V0 m) [hostOps1] c main_v34 = red6 (m ((c : Thread nD τ).loc main_arg8)) := by
  unfold Pipeline.afterTail₀
  rw [List.flatten_cons, List.flatten_nil, List.append_nil]
  refine (cut7 _).trans ?_
  refine (congrArg leaf7 ((arr_apply m c 1).trans (final1 m c))).trans ?_
  unfold Pg
  rw [leaf7_red]

theorem out8 (c : Dev nD) :
    Pipeline.afterTail₀ cfgs (dats m) 0 (V0 m) [hostOps1] c main_v57 = part8 (m ((c : Thread nD τ).loc main_arg0)) (red8 (m ((c : Thread nD τ).loc main_arg9))) := by
  unfold Pipeline.afterTail₀
  rw [List.flatten_cons, List.flatten_nil, List.append_nil]
  refine (cut8 _).trans ?_
  refine (congrArg₂ part8 (chip_apply m c) (congrArg leaf8 ((arr_apply m c 1).trans (final1 m c)))).trans ?_
  unfold Pg
  rw [leaf8_red]

theorem out9 (c : Dev nD) :
    Pipeline.afterTail₀ cfgs (dats m) 0 (V0 m) [hostOps1] c main_v38 = red9 (m ((c : Thread nD τ).loc main_arg10)) := by
  unfold Pipeline.afterTail₀
  rw [List.flatten_cons, List.flatten_nil, List.append_nil]
  refine (cut9 _).trans ?_
  refine (congrArg leaf9 ((arr_apply m c 1).trans (final1 m c))).trans ?_
  unfold Pg
  rw [leaf9_red]

theorem out10 (c : Dev nD) :
    Pipeline.afterTail₀ cfgs (dats m) 0 (V0 m) [hostOps1] c main_v40 = red6 (m ((c : Thread nD τ).loc main_arg11)) := by
  unfold Pipeline.afterTail₀
  rw [List.flatten_cons, List.flatten_nil, List.append_nil]
  refine (cut10 _).trans ?_
  refine (congrArg leaf10 ((arr_apply m c 1).trans (final1 m c))).trans ?_
  unfold Pg
  rw [leaf10_red]

theorem out11 (c : Dev nD) :
    Pipeline.afterTail₀ cfgs (dats m) 0 (V0 m) [hostOps1] c main_v42 = red6 (m ((c : Thread nD τ).loc main_arg12)) := by
  unfold Pipeline.afterTail₀
  rw [List.flatten_cons, List.flatten_nil, List.append_nil]
  refine (cut11 _).trans ?_
  refine (congrArg leaf11 ((arr_apply m c 1).trans (final1 m c))).trans ?_
  unfold Pg
  rw [leaf11_red]

end Tail

theorem algebraic : Cert.algebraic_SumSmallIdeal_SumSmallRefIdeal := by
  intro m g m' g' _ hargs
  refine ⟨fun c => part0 (m ((c : Thread nD τ).loc main_arg0)) (red0 (m ((c : Thread nD τ).loc main_arg1))), fun c => red1 (m ((c : Thread nD τ).loc main_arg2)), fun c => part2 (m ((c : Thread nD τ).loc main_arg0)) (red2 (m ((c : Thread nD τ).loc main_arg3))), fun c => red3 (m ((c : Thread nD τ).loc main_arg4)), fun c => red4 (m ((c : Thread nD τ).loc main_arg5)), fun c => red5 (m ((c : Thread nD τ).loc main_arg6)), fun c => red6 (m ((c : Thread nD τ).loc main_arg7)), fun c => red6 (m ((c : Thread nD τ).loc main_arg8)), fun c => part8 (m ((c : Thread nD τ).loc main_arg0)) (red8 (m ((c : Thread nD τ).loc main_arg9))), fun c => red9 (m ((c : Thread nD τ).loc main_arg10)), fun c => red6 (m ((c : Thread nD τ).loc main_arg11)), fun c => red6 (m ((c : Thread nD τ).loc main_arg12)),
    (θ_run defs _ _).mono (fun r h c => ?_) (run_main m g),
    (θ_run Cert.SumSmallRefIdeal.defs _ _).mono (fun r h c => ?_) (Cert.SumSmallRefIdeal.Value.run (F := Ideal) m' g')⟩
  · exact ⟨((h c).2 main_v47 (Pipeline.mem_restRefs_of main_v47 (by decide) (by decide))).trans (out0 m c),
      ((h c).2 main_v22 (Pipeline.mem_restRefs_of main_v22 (by decide) (by decide))).trans (out1 m c),
      ((h c).2 main_v52 (Pipeline.mem_restRefs_of main_v52 (by decide) (by decide))).trans (out2 m c),
      ((h c).2 main_v26 (Pipeline.mem_restRefs_of main_v26 (by decide) (by decide))).trans (out3 m c),
      ((h c).2 main_v28 (Pipeline.mem_restRefs_of main_v28 (by decide) (by decide))).trans (out4 m c),
      ((h c).2 main_v30 (Pipeline.mem_restRefs_of main_v30 (by decide) (by decide))).trans (out5 m c),
      ((h c).2 main_v32 (Pipeline.mem_restRefs_of main_v32 (by decide) (by decide))).trans (out6 m c),
      ((h c).2 main_v34 (Pipeline.mem_restRefs_of main_v34 (by decide) (by decide))).trans (out7 m c),
      ((h c).2 main_v57 (Pipeline.mem_restRefs_of main_v57 (by decide) (by decide))).trans (out8 m c),
      ((h c).2 main_v38 (Pipeline.mem_restRefs_of main_v38 (by decide) (by decide))).trans (out9 m c),
      ((h c).2 main_v40 (Pipeline.mem_restRefs_of main_v40 (by decide) (by decide))).trans (out10 m c),
      ((h c).2 main_v42 (Pipeline.mem_restRefs_of main_v42 (by decide) (by decide))).trans (out11 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩
  obtain ⟨h0, h1, h2, h3, h4, h5, h6, h7, h8, h9, h10, h11, hr⟩ := h c
  obtain ⟨a0, a1, a2, a3, a4, a5, a6, a7, a8, a9, a10, a11, a12⟩ := hargs c
  exact ⟨h0.trans (congrArg₂ part0 a0 (congrArg red0 a1)),
    h1.trans (congrArg red1 a2),
    h2.trans (congrArg₂ part2 a0 (congrArg red2 a3)),
    h3.trans (congrArg red3 a4),
    h4.trans (congrArg red4 a5),
    h5.trans (congrArg red5 a6),
    h6.trans (congrArg red6 a7),
    h7.trans (congrArg red6 a8),
    h8.trans (congrArg₂ part8 a0 (congrArg red8 a9)),
    h9.trans (congrArg red9 a10),
    h10.trans (congrArg red6 a11),
    h11.trans (congrArg red6 a12), hr⟩

end Cert.SumSmallIdeal.Value

end
-- ==== Proof.lean ====
/-
  The proof of `Cert.Claim`: the frames are the generated runs', every reference's frame its host run's, and each value
  claim the module's of that call (`Proof/<call>.lean`).
-/
module

public import proofs.«01_k».proof.Defs
public import proofs.«01_k».proof.Proof.Gen.WgradUp
public import proofs.«01_k».proof.Proof.Gen.WgradUp.Skeleton
public import proofs.«01_k».proof.Proof.Gen.WgradUp.Launch
public import proofs.«01_k».proof.Proof.Gen.WgradUp.Points
public import proofs.«01_k».proof.Proof.Gen.WgradUp.Frame
public import proofs.«01_k».proof.Proof.Gen.WgradUpIdeal
public import proofs.«01_k».proof.Proof.Gen.WgradUpIdeal.Skeleton
public import proofs.«01_k».proof.Proof.Gen.WgradUpIdeal.Launch
public import proofs.«01_k».proof.Proof.Gen.WgradUpIdeal.Points
public import proofs.«01_k».proof.Proof.Gen.WgradUpIdeal.Frame
public import proofs.«01_k».proof.Proof.Gen.WgradUpIdeal.Value
public import proofs.«01_k».proof.Proof.Gen.WgradUpRefIdeal
public import proofs.«01_k».proof.Proof.Gen.WgradUpRefIdeal.Run
public import proofs.«01_k».proof.Proof.Gen.WgradIn
public import proofs.«01_k».proof.Proof.Gen.WgradIn.Skeleton
public import proofs.«01_k».proof.Proof.Gen.WgradIn.Launch
public import proofs.«01_k».proof.Proof.Gen.WgradIn.Points
public import proofs.«01_k».proof.Proof.Gen.WgradIn.Frame
public import proofs.«01_k».proof.Proof.Gen.WgradInIdeal
public import proofs.«01_k».proof.Proof.Gen.WgradInIdeal.Skeleton
public import proofs.«01_k».proof.Proof.Gen.WgradInIdeal.Launch
public import proofs.«01_k».proof.Proof.Gen.WgradInIdeal.Points
public import proofs.«01_k».proof.Proof.Gen.WgradInIdeal.Frame
public import proofs.«01_k».proof.Proof.Gen.WgradInIdeal.Value
public import proofs.«01_k».proof.Proof.Gen.WgradInRefIdeal
public import proofs.«01_k».proof.Proof.Gen.WgradInRefIdeal.Run
public import proofs.«01_k».proof.Proof.Gen.WgradDown
public import proofs.«01_k».proof.Proof.Gen.WgradDown.Skeleton
public import proofs.«01_k».proof.Proof.Gen.WgradDown.Launch
public import proofs.«01_k».proof.Proof.Gen.WgradDown.Points
public import proofs.«01_k».proof.Proof.Gen.WgradDown.Frame
public import proofs.«01_k».proof.Proof.Gen.WgradDownIdeal
public import proofs.«01_k».proof.Proof.Gen.WgradDownIdeal.Skeleton
public import proofs.«01_k».proof.Proof.Gen.WgradDownIdeal.Launch
public import proofs.«01_k».proof.Proof.Gen.WgradDownIdeal.Points
public import proofs.«01_k».proof.Proof.Gen.WgradDownIdeal.Frame
public import proofs.«01_k».proof.Proof.Gen.WgradDownIdeal.Value
public import proofs.«01_k».proof.Proof.Gen.WgradDownRefIdeal
public import proofs.«01_k».proof.Proof.Gen.WgradDownRefIdeal.Run
public import proofs.«01_k».proof.Proof.Gen.WgradO
public import proofs.«01_k».proof.Proof.Gen.WgradO.Skeleton
public import proofs.«01_k».proof.Proof.Gen.WgradO.Launch
public import proofs.«01_k».proof.Proof.Gen.WgradO.Points
public import proofs.«01_k».proof.Proof.Gen.WgradO.Frame
public import proofs.«01_k».proof.Proof.Gen.WgradOIdeal
public import proofs.«01_k».proof.Proof.Gen.WgradOIdeal.Skeleton
public import proofs.«01_k».proof.Proof.Gen.WgradOIdeal.Launch
public import proofs.«01_k».proof.Proof.Gen.WgradOIdeal.Points
public import proofs.«01_k».proof.Proof.Gen.WgradOIdeal.Frame
public import proofs.«01_k».proof.Proof.Gen.WgradOIdeal.Value
public import proofs.«01_k».proof.Proof.Gen.WgradORefIdeal
public import proofs.«01_k».proof.Proof.Gen.WgradORefIdeal.Run
public import proofs.«01_k».proof.Proof.Gen.DxUp
public import proofs.«01_k».proof.Proof.Gen.DxUp.Skeleton
public import proofs.«01_k».proof.Proof.Gen.DxUp.Launch
public import proofs.«01_k».proof.Proof.Gen.DxUp.Points
public import proofs.«01_k».proof.Proof.Gen.DxUp.Frame
public import proofs.«01_k».proof.Proof.Gen.DxUpIdeal
public import proofs.«01_k».proof.Proof.Gen.DxUpIdeal.Skeleton
public import proofs.«01_k».proof.Proof.Gen.DxUpIdeal.Launch
public import proofs.«01_k».proof.Proof.Gen.DxUpIdeal.Points
public import proofs.«01_k».proof.Proof.Gen.DxUpIdeal.Frame
public import proofs.«01_k».proof.Proof.Gen.DxUpIdeal.Value
public import proofs.«01_k».proof.Proof.Gen.DxUpRefIdeal
public import proofs.«01_k».proof.Proof.Gen.DxUpRefIdeal.Run
public import proofs.«01_k».proof.Proof.Gen.DxIn
public import proofs.«01_k».proof.Proof.Gen.DxIn.Skeleton
public import proofs.«01_k».proof.Proof.Gen.DxIn.Launch
public import proofs.«01_k».proof.Proof.Gen.DxIn.Points
public import proofs.«01_k».proof.Proof.Gen.DxIn.Frame
public import proofs.«01_k».proof.Proof.Gen.DxInIdeal
public import proofs.«01_k».proof.Proof.Gen.DxInIdeal.Skeleton
public import proofs.«01_k».proof.Proof.Gen.DxInIdeal.Launch
public import proofs.«01_k».proof.Proof.Gen.DxInIdeal.Points
public import proofs.«01_k».proof.Proof.Gen.DxInIdeal.Frame
public import proofs.«01_k».proof.Proof.Gen.DxInIdeal.Value
public import proofs.«01_k».proof.Proof.Gen.DxInRefIdeal
public import proofs.«01_k».proof.Proof.Gen.DxInRefIdeal.Run
public import proofs.«01_k».proof.Proof.Gen.MmIn
public import proofs.«01_k».proof.Proof.Gen.MmIn.Skeleton
public import proofs.«01_k».proof.Proof.Gen.MmIn.Launch
public import proofs.«01_k».proof.Proof.Gen.MmIn.Points
public import proofs.«01_k».proof.Proof.Gen.MmIn.Frame
public import proofs.«01_k».proof.Proof.Gen.MmInIdeal
public import proofs.«01_k».proof.Proof.Gen.MmInIdeal.Skeleton
public import proofs.«01_k».proof.Proof.Gen.MmInIdeal.Launch
public import proofs.«01_k».proof.Proof.Gen.MmInIdeal.Points
public import proofs.«01_k».proof.Proof.Gen.MmInIdeal.Frame
public import proofs.«01_k».proof.Proof.Gen.MmInIdeal.Value
public import proofs.«01_k».proof.Proof.Gen.MmInRefIdeal
public import proofs.«01_k».proof.Proof.Gen.MmInRefIdeal.Run
public import proofs.«01_k».proof.Proof.Gen.MmUp
public import proofs.«01_k».proof.Proof.Gen.MmUp.Skeleton
public import proofs.«01_k».proof.Proof.Gen.MmUp.Launch
public import proofs.«01_k».proof.Proof.Gen.MmUp.Points
public import proofs.«01_k».proof.Proof.Gen.MmUp.Frame
public import proofs.«01_k».proof.Proof.Gen.MmUpIdeal
public import proofs.«01_k».proof.Proof.Gen.MmUpIdeal.Skeleton
public import proofs.«01_k».proof.Proof.Gen.MmUpIdeal.Launch
public import proofs.«01_k».proof.Proof.Gen.MmUpIdeal.Points
public import proofs.«01_k».proof.Proof.Gen.MmUpIdeal.Frame
public import proofs.«01_k».proof.Proof.Gen.MmUpIdeal.Value
public import proofs.«01_k».proof.Proof.Gen.MmUpRefIdeal
public import proofs.«01_k».proof.Proof.Gen.MmUpRefIdeal.Run
public import proofs.«01_k».proof.Proof.Gen.MmO
public import proofs.«01_k».proof.Proof.Gen.MmO.Skeleton
public import proofs.«01_k».proof.Proof.Gen.MmO.Launch
public import proofs.«01_k».proof.Proof.Gen.MmO.Points
public import proofs.«01_k».proof.Proof.Gen.MmO.Frame
public import proofs.«01_k».proof.Proof.Gen.MmOIdeal
public import proofs.«01_k».proof.Proof.Gen.MmOIdeal.Skeleton
public import proofs.«01_k».proof.Proof.Gen.MmOIdeal.Launch
public import proofs.«01_k».proof.Proof.Gen.MmOIdeal.Points
public import proofs.«01_k».proof.Proof.Gen.MmOIdeal.Frame
public import proofs.«01_k».proof.Proof.Gen.MmOIdeal.Value
public import proofs.«01_k».proof.Proof.Gen.MmORefIdeal
public import proofs.«01_k».proof.Proof.Gen.MmORefIdeal.Run
public import proofs.«01_k».proof.Proof.Gen.MmDown
public import proofs.«01_k».proof.Proof.Gen.MmDown.Skeleton
public import proofs.«01_k».proof.Proof.Gen.MmDown.Launch
public import proofs.«01_k».proof.Proof.Gen.MmDown.Points
public import proofs.«01_k».proof.Proof.Gen.MmDown.Frame
public import proofs.«01_k».proof.Proof.Gen.MmDownIdeal
public import proofs.«01_k».proof.Proof.Gen.MmDownIdeal.Skeleton
public import proofs.«01_k».proof.Proof.Gen.MmDownIdeal.Launch
public import proofs.«01_k».proof.Proof.Gen.MmDownIdeal.Points
public import proofs.«01_k».proof.Proof.Gen.MmDownIdeal.Frame
public import proofs.«01_k».proof.Proof.Gen.MmDownIdeal.Value
public import proofs.«01_k».proof.Proof.Gen.MmDownRefIdeal
public import proofs.«01_k».proof.Proof.Gen.MmDownRefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamO
public import proofs.«01_k».proof.Proof.Gen.AdamO.Skeleton
public import proofs.«01_k».proof.Proof.Gen.AdamO.Launch
public import proofs.«01_k».proof.Proof.Gen.AdamO.Points
public import proofs.«01_k».proof.Proof.Gen.AdamO.Frame
public import proofs.«01_k».proof.Proof.Gen.AdamOIdeal
public import proofs.«01_k».proof.Proof.Gen.AdamOIdeal.Skeleton
public import proofs.«01_k».proof.Proof.Gen.AdamOIdeal.Launch
public import proofs.«01_k».proof.Proof.Gen.AdamOIdeal.Points
public import proofs.«01_k».proof.Proof.Gen.AdamOIdeal.Frame
public import proofs.«01_k».proof.Proof.Gen.AdamORefIdeal
public import proofs.«01_k».proof.Proof.Gen.AdamORefIdeal.Run
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamUpRefIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamDownRefIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.AdamSmallRefIdeal.Run
public import proofs.«01_k».proof.Proof.Gen.LnO
public import proofs.«01_k».proof.Proof.Gen.LnO.Skeleton
public import proofs.«01_k».proof.Proof.Gen.LnO.Launch
public import proofs.«01_k».proof.Proof.Gen.LnO.Points
public import proofs.«01_k».proof.Proof.Gen.LnO.Frame
public import proofs.«01_k».proof.Proof.Gen.LnOIdeal
public import proofs.«01_k».proof.Proof.Gen.LnOIdeal.Skeleton
public import proofs.«01_k».proof.Proof.Gen.LnOIdeal.Launch
public import proofs.«01_k».proof.Proof.Gen.LnOIdeal.Points
public import proofs.«01_k».proof.Proof.Gen.LnOIdeal.Frame
public import proofs.«01_k».proof.Proof.Gen.LnOIdeal.Value
public import proofs.«01_k».proof.Proof.Gen.LnORefIdeal
public import proofs.«01_k».proof.Proof.Gen.LnORefIdeal.Run
public import proofs.«01_k».proof.Proof.Gen.LnDown
public import proofs.«01_k».proof.Proof.Gen.LnDown.Skeleton
public import proofs.«01_k».proof.Proof.Gen.LnDown.Launch
public import proofs.«01_k».proof.Proof.Gen.LnDown.Points
public import proofs.«01_k».proof.Proof.Gen.LnDown.Frame
public import proofs.«01_k».proof.Proof.Gen.LnDownIdeal
public import proofs.«01_k».proof.Proof.Gen.LnDownIdeal.Skeleton
public import proofs.«01_k».proof.Proof.Gen.LnDownIdeal.Launch
public import proofs.«01_k».proof.Proof.Gen.LnDownIdeal.Points
public import proofs.«01_k».proof.Proof.Gen.LnDownIdeal.Frame
public import proofs.«01_k».proof.Proof.Gen.LnDownIdeal.Value
public import proofs.«01_k».proof.Proof.Gen.LnDownRefIdeal
public import proofs.«01_k».proof.Proof.Gen.LnDownRefIdeal.Run
public import proofs.«01_k».proof.Proof.Gen.LnLoss
public import proofs.«01_k».proof.Proof.Gen.LnLoss.Skeleton
public import proofs.«01_k».proof.Proof.Gen.LnLoss.Launch
public import proofs.«01_k».proof.Proof.Gen.LnLoss.Points
public import proofs.«01_k».proof.Proof.Gen.LnLoss.Frame
public import proofs.«01_k».proof.Proof.Gen.LnLossIdeal
public import proofs.«01_k».proof.Proof.Gen.LnLossIdeal.Skeleton
public import proofs.«01_k».proof.Proof.Gen.LnLossIdeal.Launch
public import proofs.«01_k».proof.Proof.Gen.LnLossIdeal.Points
public import proofs.«01_k».proof.Proof.Gen.LnLossIdeal.Frame
public import proofs.«01_k».proof.Proof.Gen.LnLossRefIdeal
public import proofs.«01_k».proof.Proof.Gen.LnLossRefIdeal.Run
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.SumSmallRefIdeal.Run
public import proofs.«01_k».proof.Proof.Gen.Pre_finite_o
public import proofs.«01_k».proof.Proof.Gen.Pre_finite_down
public import proofs.«01_k».proof.Proof.Gen.Pre_finite_loss
public import proofs.«01_k».proof.Proof.Gen.On_ffn_up_positions
public import Idealize.ShloMosaic.Adequacy
public import Idealize.ShloMosaic.Init
public import proofs.«01_k».proof.Proof.WgradUp
public import proofs.«01_k».proof.Proof.WgradIn
public import proofs.«01_k».proof.Proof.WgradDown
public import proofs.«01_k».proof.Proof.WgradO
public import proofs.«01_k».proof.Proof.DxUp
public import proofs.«01_k».proof.Proof.DxIn
public import proofs.«01_k».proof.Proof.MmIn
public import proofs.«01_k».proof.Proof.MmUp
public import proofs.«01_k».proof.Proof.MmO
public import proofs.«01_k».proof.Proof.MmDown
public import proofs.«01_k».proof.Proof.AdamIn
public import proofs.«01_k».proof.Proof.AdamO
public import proofs.«01_k».proof.Proof.AdamUp
public import proofs.«01_k».proof.Proof.AdamDown
public import proofs.«01_k».proof.Proof.AdamSmall
public import proofs.«01_k».proof.Proof.LnBack
public import proofs.«01_k».proof.Proof.LnO
public import proofs.«01_k».proof.Proof.LnDown
public import proofs.«01_k».proof.Proof.LnLoss
public import proofs.«01_k».proof.Proof.SumSmall
public import Idealize.ShloMosaic.Lib.Quiescent

@[expose] public section

noncomputable section

namespace Cert.Proof

open Idealize.ShloMosaic Idealize.ShloMosaic.TcCoe Idealize.SL.Sem

/-- The reference `WgradUpRefIdeal` ends and leaves its arguments alone. -/
theorem frame_WgradUpRefIdeal : Cert.quiescent_WgradUpRefIdeal := fun m ρ _ =>
  (θ_run Cert.WgradUpRefIdeal.defs _ _).mono (fun r h => ⟨fun c => (h c).2, sem_eq_zero_of_no_sems rfl _⟩)
    (Cert.WgradUpRefIdeal.Value.run (F := Ideal) m ρ)

/-- The reference `WgradInRefIdeal` ends and leaves its arguments alone. -/
theorem frame_WgradInRefIdeal : Cert.quiescent_WgradInRefIdeal := fun m ρ _ =>
  (θ_run Cert.WgradInRefIdeal.defs _ _).mono (fun r h => ⟨fun c => (h c).2, sem_eq_zero_of_no_sems rfl _⟩)
    (Cert.WgradInRefIdeal.Value.run (F := Ideal) m ρ)

/-- The reference `WgradDownRefIdeal` ends and leaves its arguments alone. -/
theorem frame_WgradDownRefIdeal : Cert.quiescent_WgradDownRefIdeal := fun m ρ _ =>
  (θ_run Cert.WgradDownRefIdeal.defs _ _).mono (fun r h => ⟨fun c => (h c).2, sem_eq_zero_of_no_sems rfl _⟩)
    (Cert.WgradDownRefIdeal.Value.run (F := Ideal) m ρ)

/-- The reference `WgradORefIdeal` ends and leaves its arguments alone. -/
theorem frame_WgradORefIdeal : Cert.quiescent_WgradORefIdeal := fun m ρ _ =>
  (θ_run Cert.WgradORefIdeal.defs _ _).mono (fun r h => ⟨fun c => (h c).2, sem_eq_zero_of_no_sems rfl _⟩)
    (Cert.WgradORefIdeal.Value.run (F := Ideal) m ρ)

/-- The reference `DxUpRefIdeal` ends and leaves its arguments alone. -/
theorem frame_DxUpRefIdeal : Cert.quiescent_DxUpRefIdeal := fun m ρ _ =>
  (θ_run Cert.DxUpRefIdeal.defs _ _).mono (fun r h => ⟨fun c => (h c).2, sem_eq_zero_of_no_sems rfl _⟩)
    (Cert.DxUpRefIdeal.Value.run (F := Ideal) m ρ)

/-- The reference `DxInRefIdeal` ends and leaves its arguments alone. -/
theorem frame_DxInRefIdeal : Cert.quiescent_DxInRefIdeal := fun m ρ _ =>
  (θ_run Cert.DxInRefIdeal.defs _ _).mono (fun r h => ⟨fun c => (h c).2, sem_eq_zero_of_no_sems rfl _⟩)
    (Cert.DxInRefIdeal.Value.run (F := Ideal) m ρ)

/-- The reference `MmInRefIdeal` ends and leaves its arguments alone. -/
theorem frame_MmInRefIdeal : Cert.quiescent_MmInRefIdeal := fun m ρ _ =>
  (θ_run Cert.MmInRefIdeal.defs _ _).mono (fun r h => ⟨fun c => (h c).2, sem_eq_zero_of_no_sems rfl _⟩)
    (Cert.MmInRefIdeal.Value.run (F := Ideal) m ρ)

/-- The reference `MmUpRefIdeal` ends and leaves its arguments alone. -/
theorem frame_MmUpRefIdeal : Cert.quiescent_MmUpRefIdeal := fun m ρ _ =>
  (θ_run Cert.MmUpRefIdeal.defs _ _).mono (fun r h => ⟨fun c => (h c).2.2.2, sem_eq_zero_of_no_sems rfl _⟩)
    (Cert.MmUpRefIdeal.Value.run (F := Ideal) m ρ)

/-- The reference `MmORefIdeal` ends and leaves its arguments alone. -/
theorem frame_MmORefIdeal : Cert.quiescent_MmORefIdeal := fun m ρ _ =>
  (θ_run Cert.MmORefIdeal.defs _ _).mono (fun r h => ⟨fun c => (h c).2.2.2, sem_eq_zero_of_no_sems rfl _⟩)
    (Cert.MmORefIdeal.Value.run (F := Ideal) m ρ)

/-- The reference `MmDownRefIdeal` ends and leaves its arguments alone. -/
theorem frame_MmDownRefIdeal : Cert.quiescent_MmDownRefIdeal := fun m ρ _ =>
  (θ_run Cert.MmDownRefIdeal.defs _ _).mono (fun r h => ⟨fun c => (h c).2.2.2, sem_eq_zero_of_no_sems rfl _⟩)
    (Cert.MmDownRefIdeal.Value.run (F := Ideal) m ρ)

/-- The reference `AdamInRefIdeal` ends and leaves its arguments alone. -/
theorem frame_AdamInRefIdeal : Cert.quiescent_AdamInRefIdeal := fun m ρ _ =>
  (θ_run Cert.AdamInRefIdeal.defs _ _).mono (fun r h => ⟨fun c => (h c).2.2.2.2, sem_eq_zero_of_no_sems rfl _⟩)
    (Cert.AdamInRefIdeal.Value.run (F := Ideal) m ρ)

/-- The reference `AdamORefIdeal` ends and leaves its arguments alone. -/
theorem frame_AdamORefIdeal : Cert.quiescent_AdamORefIdeal := fun m ρ _ =>
  (θ_run Cert.AdamORefIdeal.defs _ _).mono (fun r h => ⟨fun c => (h c).2.2.2.2, sem_eq_zero_of_no_sems rfl _⟩)
    (Cert.AdamORefIdeal.Value.run (F := Ideal) m ρ)

/-- The reference `AdamUpRefIdeal` ends and leaves its arguments alone. -/
theorem frame_AdamUpRefIdeal : Cert.quiescent_AdamUpRefIdeal := fun m ρ _ =>
  (θ_run Cert.AdamUpRefIdeal.defs _ _).mono (fun r h => ⟨fun c => (h c).2.2.2.2, sem_eq_zero_of_no_sems rfl _⟩)
    (Cert.AdamUpRefIdeal.Value.run (F := Ideal) m ρ)

/-- The reference `AdamDownRefIdeal` ends and leaves its arguments alone. -/
theorem frame_AdamDownRefIdeal : Cert.quiescent_AdamDownRefIdeal := fun m ρ _ =>
  (θ_run Cert.AdamDownRefIdeal.defs _ _).mono (fun r h => ⟨fun c => (h c).2.2.2.2, sem_eq_zero_of_no_sems rfl _⟩)
    (Cert.AdamDownRefIdeal.Value.run (F := Ideal) m ρ)

/-- The reference `AdamSmallRefIdeal` ends and leaves its arguments alone. -/
theorem frame_AdamSmallRefIdeal : Cert.quiescent_AdamSmallRefIdeal := fun m ρ _ =>
  (θ_run Cert.AdamSmallRefIdeal.defs _ _).mono (fun r h => ⟨fun c => (h c).2.2.2.2.2.2.2.2.2.2.2.2.2.2.2.2.2.2.2.2.2.2.2.2.2.2.2.2.2.2.2.2.2.2.2.2, sem_eq_zero_of_no_sems rfl _⟩)
    (Cert.AdamSmallRefIdeal.Value.run (F := Ideal) m ρ)

/-- The reference `LnORefIdeal` ends and leaves its arguments alone. -/
theorem frame_LnORefIdeal : Cert.quiescent_LnORefIdeal := fun m ρ _ =>
  (θ_run Cert.LnORefIdeal.defs _ _).mono (fun r h => ⟨fun c => (h c).2.2.2, sem_eq_zero_of_no_sems rfl _⟩)
    (Cert.LnORefIdeal.Value.run (F := Ideal) m ρ)

/-- The reference `LnORefIdeal_pre_finite_o` ends and leaves its arguments alone. -/
theorem frame_LnORefIdeal_pre_finite_o : Cert.quiescent_LnORefIdeal_pre_finite_o := fun m ρ _ =>
  (θ_run Cert.LnORefIdeal.defs _ _).mono (fun r h => ⟨fun c => (h c).2.2.2, sem_eq_zero_of_no_sems rfl _⟩)
    (Cert.LnORefIdeal.Value.run (F := Ideal) m ρ)

/-- The reference `LnDownRefIdeal` ends and leaves its arguments alone. -/
theorem frame_LnDownRefIdeal : Cert.quiescent_LnDownRefIdeal := fun m ρ _ =>
  (θ_run Cert.LnDownRefIdeal.defs _ _).mono (fun r h => ⟨fun c => (h c).2.2.2, sem_eq_zero_of_no_sems rfl _⟩)
    (Cert.LnDownRefIdeal.Value.run (F := Ideal) m ρ)

/-- The reference `LnDownRefIdeal_pre_finite_down` ends and leaves its arguments alone. -/
theorem frame_LnDownRefIdeal_pre_finite_down : Cert.quiescent_LnDownRefIdeal_pre_finite_down := fun m ρ _ =>
  (θ_run Cert.LnDownRefIdeal.defs _ _).mono (fun r h => ⟨fun c => (h c).2.2.2, sem_eq_zero_of_no_sems rfl _⟩)
    (Cert.LnDownRefIdeal.Value.run (F := Ideal) m ρ)

/-- The reference `LnLossRefIdeal` ends and leaves its arguments alone. -/
theorem frame_LnLossRefIdeal : Cert.quiescent_LnLossRefIdeal := fun m ρ _ =>
  (θ_run Cert.LnLossRefIdeal.defs _ _).mono (fun r h => ⟨fun c => (h c).2.2.2.2, sem_eq_zero_of_no_sems rfl _⟩)
    (Cert.LnLossRefIdeal.Value.run (F := Ideal) m ρ)

/-- The reference `LnLossRefIdeal_pre_finite_loss` ends and leaves its arguments alone. -/
theorem frame_LnLossRefIdeal_pre_finite_loss : Cert.quiescent_LnLossRefIdeal_pre_finite_loss := fun m ρ _ =>
  (θ_run Cert.LnLossRefIdeal.defs _ _).mono (fun r h => ⟨fun c => (h c).2.2.2.2, sem_eq_zero_of_no_sems rfl _⟩)
    (Cert.LnLossRefIdeal.Value.run (F := Ideal) m ρ)

/-- The reference `SumSmallRefIdeal` ends and leaves its arguments alone. -/
theorem frame_SumSmallRefIdeal : Cert.quiescent_SumSmallRefIdeal := fun m ρ _ =>
  (θ_run Cert.SumSmallRefIdeal.defs _ _).mono (fun r h => ⟨fun c => (h c).2.2.2.2.2.2.2.2.2.2.2.2, sem_eq_zero_of_no_sems rfl _⟩)
    (Cert.SumSmallRefIdeal.Value.run (F := Ideal) m ρ)

theorem claim : Cert.Claim := ⟨Cert.WgradUp.Gen.facts,
  Cert.WgradUpIdeal.Gen.facts,
  Cert.WgradUpRefIdeal.Gen.facts,
  Cert.WgradIn.Gen.facts,
  Cert.WgradInIdeal.Gen.facts,
  Cert.WgradInRefIdeal.Gen.facts,
  Cert.WgradDown.Gen.facts,
  Cert.WgradDownIdeal.Gen.facts,
  Cert.WgradDownRefIdeal.Gen.facts,
  Cert.WgradO.Gen.facts,
  Cert.WgradOIdeal.Gen.facts,
  Cert.WgradORefIdeal.Gen.facts,
  Cert.DxUp.Gen.facts,
  Cert.DxUpIdeal.Gen.facts,
  Cert.DxUpRefIdeal.Gen.facts,
  Cert.DxIn.Gen.facts,
  Cert.DxInIdeal.Gen.facts,
  Cert.DxInRefIdeal.Gen.facts,
  Cert.MmIn.Gen.facts,
  Cert.MmInIdeal.Gen.facts,
  Cert.MmInRefIdeal.Gen.facts,
  Cert.MmUp.Gen.facts,
  Cert.MmUpIdeal.Gen.facts,
  Cert.MmUpRefIdeal.Gen.facts,
  Cert.MmO.Gen.facts,
  Cert.MmOIdeal.Gen.facts,
  Cert.MmORefIdeal.Gen.facts,
  Cert.MmDown.Gen.facts,
  Cert.MmDownIdeal.Gen.facts,
  Cert.MmDownRefIdeal.Gen.facts,
  Cert.AdamIn.Gen.facts,
  Cert.AdamInIdeal.Gen.facts,
  Cert.AdamInRefIdeal.Gen.facts,
  Cert.AdamO.Gen.facts,
  Cert.AdamOIdeal.Gen.facts,
  Cert.AdamORefIdeal.Gen.facts,
  Cert.AdamUp.Gen.facts,
  Cert.AdamUpIdeal.Gen.facts,
  Cert.AdamUpRefIdeal.Gen.facts,
  Cert.AdamDown.Gen.facts,
  Cert.AdamDownIdeal.Gen.facts,
  Cert.AdamDownRefIdeal.Gen.facts,
  Cert.AdamSmall.Gen.facts,
  Cert.AdamSmallIdeal.Gen.facts,
  Cert.AdamSmallRefIdeal.Gen.facts,
  Cert.LnO.Gen.facts,
  Cert.LnOIdeal.Gen.facts,
  Cert.LnORefIdeal.Gen.facts,
  Cert.LnDown.Gen.facts,
  Cert.LnDownIdeal.Gen.facts,
  Cert.LnDownRefIdeal.Gen.facts,
  Cert.LnLoss.Gen.facts,
  Cert.LnLossIdeal.Gen.facts,
  Cert.LnLossRefIdeal.Gen.facts,
  Cert.SumSmall.Gen.facts,
  Cert.SumSmallIdeal.Gen.facts,
  Cert.SumSmallRefIdeal.Gen.facts,
  Cert.Pre_finite_o.Gen.facts,
  Cert.Pre_finite_down.Gen.facts,
  Cert.Pre_finite_loss.Gen.facts,
  Cert.On_ffn_up_positions.Gen.facts,
  fun m ρ _ => Cert.WgradUp.Gen.frame m ρ,
  fun m ρ _ => Cert.WgradUpIdeal.Gen.frame m ρ,
  frame_WgradUpRefIdeal,
  fun m ρ _ => Cert.WgradIn.Gen.frame m ρ,
  fun m ρ _ => Cert.WgradInIdeal.Gen.frame m ρ,
  frame_WgradInRefIdeal,
  fun m ρ _ => Cert.WgradDown.Gen.frame m ρ,
  fun m ρ _ => Cert.WgradDownIdeal.Gen.frame m ρ,
  frame_WgradDownRefIdeal,
  fun m ρ _ => Cert.WgradO.Gen.frame m ρ,
  fun m ρ _ => Cert.WgradOIdeal.Gen.frame m ρ,
  frame_WgradORefIdeal,
  fun m ρ _ => Cert.DxUp.Gen.frame m ρ,
  fun m ρ _ => Cert.DxUpIdeal.Gen.frame m ρ,
  frame_DxUpRefIdeal,
  fun m ρ _ => Cert.DxIn.Gen.frame m ρ,
  fun m ρ _ => Cert.DxInIdeal.Gen.frame m ρ,
  frame_DxInRefIdeal,
  fun m ρ _ => Cert.MmIn.Gen.frame m ρ,
  fun m ρ _ => Cert.MmInIdeal.Gen.frame m ρ,
  frame_MmInRefIdeal,
  fun m ρ _ => Cert.MmUp.Gen.frame m ρ,
  fun m ρ _ => Cert.MmUpIdeal.Gen.frame m ρ,
  frame_MmUpRefIdeal,
  fun m ρ _ => Cert.MmO.Gen.frame m ρ,
  fun m ρ _ => Cert.MmOIdeal.Gen.frame m ρ,
  frame_MmORefIdeal,
  fun m ρ _ => Cert.MmDown.Gen.frame m ρ,
  fun m ρ _ => Cert.MmDownIdeal.Gen.frame m ρ,
  frame_MmDownRefIdeal,
  fun m ρ _ => Cert.AdamIn.Gen.frame m ρ,
  fun m ρ _ => Cert.AdamInIdeal.Gen.frame m ρ,
  frame_AdamInRefIdeal,
  fun m ρ _ => Cert.AdamO.Gen.frame m ρ,
  fun m ρ _ => Cert.AdamOIdeal.Gen.frame m ρ,
  frame_AdamORefIdeal,
  fun m ρ _ => Cert.AdamUp.Gen.frame m ρ,
  fun m ρ _ => Cert.AdamUpIdeal.Gen.frame m ρ,
  frame_AdamUpRefIdeal,
  fun m ρ _ => Cert.AdamDown.Gen.frame m ρ,
  fun m ρ _ => Cert.AdamDownIdeal.Gen.frame m ρ,
  frame_AdamDownRefIdeal,
  fun m ρ _ => Cert.AdamSmall.Gen.frame m ρ,
  fun m ρ _ => Cert.AdamSmallIdeal.Gen.frame m ρ,
  frame_AdamSmallRefIdeal,
  fun m ρ _ => Cert.LnO.Gen.frame m ρ,
  fun m ρ _ => Cert.LnOIdeal.Gen.frame m ρ,
  fun m ρ _ => Cert.LnOIdeal.Gen.frame m ρ,
  frame_LnORefIdeal,
  frame_LnORefIdeal_pre_finite_o,
  fun m ρ _ => Cert.LnDown.Gen.frame m ρ,
  fun m ρ _ => Cert.LnDownIdeal.Gen.frame m ρ,
  fun m ρ _ => Cert.LnDownIdeal.Gen.frame m ρ,
  frame_LnDownRefIdeal,
  frame_LnDownRefIdeal_pre_finite_down,
  fun m ρ _ => Cert.LnLoss.Gen.frame m ρ,
  fun m ρ _ => Cert.LnLossIdeal.Gen.frame m ρ,
  fun m ρ _ => Cert.LnLossIdeal.Gen.frame m ρ,
  frame_LnLossRefIdeal,
  frame_LnLossRefIdeal_pre_finite_loss,
  fun m ρ _ => Cert.SumSmall.Gen.frame m ρ,
  fun m ρ _ => Cert.SumSmallIdeal.Gen.frame m ρ,
  frame_SumSmallRefIdeal,
  trivial,
  Cert.WgradUpIdeal.Value.algebraic,
  trivial,
  Cert.WgradInIdeal.Value.algebraic,
  trivial,
  Cert.WgradDownIdeal.Value.algebraic,
  trivial,
  Cert.WgradOIdeal.Value.algebraic,
  trivial,
  Cert.DxUpIdeal.Value.algebraic,
  trivial,
  Cert.DxInIdeal.Value.algebraic,
  trivial,
  Cert.MmInIdeal.Value.algebraic,
  trivial,
  Cert.MmUpIdeal.Value.algebraic,
  trivial,
  Cert.MmOIdeal.Value.algebraic,
  trivial,
  Cert.MmDownIdeal.Value.algebraic,
  trivial,
  Cert.AdamInIdeal.Value.algebraic,
  trivial,
  Cert.AdamOIdeal.Value.algebraic,
  trivial,
  Cert.AdamUpIdeal.Value.algebraic,
  trivial,
  Cert.AdamDownIdeal.Value.algebraic,
  trivial,
  Cert.AdamSmallIdeal.Value.algebraic,
  trivial,
  Cert.LnOIdeal.Value.algebraic,
  trivial,
  Cert.LnDownIdeal.Value.algebraic,
  trivial,
  Cert.LnLossIdeal.Value.algebraic,
  trivial,
  Cert.SumSmallIdeal.Value.algebraic⟩

end Cert.Proof

end
